-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsIdeal_finite_router [hPre_finite_router : Cert.Pre_finite_router.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_finite_router.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_finite_router [hPre_finite_router : Cert.Pre_finite_router.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_finite_router.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_CacheLayout (m : (ℓ : Loc Cert.CacheLayout.nD Cert.CacheLayout.τ Cert.CacheLayout.sig) → Buf (Elt Bits) ℓ) : Prop :=
  True

def Pre_CacheLayoutIdeal (m : (ℓ : Loc Cert.CacheLayoutIdeal.nD Cert.CacheLayoutIdeal.τ Cert.CacheLayoutIdeal.sig) → Buf (Elt Ideal) ℓ) : Prop :=
  True

def Pre_CacheLayoutReferenceIdeal (m : (ℓ : Loc Cert.CacheLayoutReferenceIdeal.nD Cert.CacheLayoutReferenceIdeal.τ Cert.CacheLayoutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsIdeal_pre_finite_router [hExpertsIdeal : Cert.ExpertsIdeal.Facts] [hPre_finite_router : Cert.Pre_finite_router.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_finite_router m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_finite_router [hExpertsReferenceIdeal : Cert.ExpertsReferenceIdeal.Facts] [hPre_finite_router : Cert.Pre_finite_router.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_finite_router m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2)
      ∧ r.2.mem ((c.tc : Thread Cert.ModulationReferenceIdeal.nD Cert.ModulationReferenceIdeal.τ).loc Cert.ModulationReferenceIdeal.main_arg3) = m ((c.tc : Thread Cert.ModulationReferenceIdeal.nD Cert.ModulationReferenceIdeal.τ).loc Cert.ModulationReferenceIdeal.main_arg3))
      ∧ r.2.sem = fun _ => 0)

def quiescent_CacheLayout [hCacheLayout : Cert.CacheLayout.Facts] : Prop :=
  ∀ (m : (ℓ : Loc Cert.CacheLayout.nD Cert.CacheLayout.τ Cert.CacheLayout.sig) → Buf (Elt Bits) ℓ) (g : Dev Cert.CacheLayout.nD → PrngReg), Pre_CacheLayout m →
    θ_run (Cert.CacheLayout.defs (F := Bits)) (onTc (τ := Cert.CacheLayout.τ) (Cert.CacheLayout.main (F := Bits))) ⟨m, fun _ => 0, g⟩ (fun r => (∀ c : Dev Cert.CacheLayout.nD,
      r.2.mem ((c.tc : Thread Cert.CacheLayout.nD Cert.CacheLayout.τ).loc Cert.CacheLayout.main_arg0) = m ((c.tc : Thread Cert.CacheLayout.nD Cert.CacheLayout.τ).loc Cert.CacheLayout.main_arg0)
      ∧ r.2.mem ((c.tc : Thread Cert.CacheLayout.nD Cert.CacheLayout.τ).loc Cert.CacheLayout.main_arg1) = m ((c.tc : Thread Cert.CacheLayout.nD Cert.CacheLayout.τ).loc Cert.CacheLayout.main_arg1))
      ∧ r.2.sem = fun _ => 0)

def quiescent_CacheLayoutIdeal [hCacheLayoutIdeal : Cert.CacheLayoutIdeal.Facts] : Prop :=
  ∀ (m : (ℓ : Loc Cert.CacheLayoutIdeal.nD Cert.CacheLayoutIdeal.τ Cert.CacheLayoutIdeal.sig) → Buf (Elt Ideal) ℓ) (g : Dev Cert.CacheLayoutIdeal.nD → PrngReg), Pre_CacheLayoutIdeal m →
    θ_run (Cert.CacheLayoutIdeal.defs (F := Ideal)) (onTc (τ := Cert.CacheLayoutIdeal.τ) (Cert.CacheLayoutIdeal.main (F := Ideal))) ⟨m, fun _ => 0, g⟩ (fun r => (∀ c : Dev Cert.CacheLayoutIdeal.nD,
      r.2.mem ((c.tc : Thread Cert.CacheLayoutIdeal.nD Cert.CacheLayoutIdeal.τ).loc Cert.CacheLayoutIdeal.main_arg0) = m ((c.tc : Thread Cert.CacheLayoutIdeal.nD Cert.CacheLayoutIdeal.τ).loc Cert.CacheLayoutIdeal.main_arg0)
      ∧ r.2.mem ((c.tc : Thread Cert.CacheLayoutIdeal.nD Cert.CacheLayoutIdeal.τ).loc Cert.CacheLayoutIdeal.main_arg1) = m ((c.tc : Thread Cert.CacheLayoutIdeal.nD Cert.CacheLayoutIdeal.τ).loc Cert.CacheLayoutIdeal.main_arg1))
      ∧ r.2.sem = fun _ => 0)

def quiescent_CacheLayoutReferenceIdeal [hCacheLayoutReferenceIdeal : Cert.CacheLayoutReferenceIdeal.Facts] : Prop :=
  ∀ (m : (ℓ : Loc Cert.CacheLayoutReferenceIdeal.nD Cert.CacheLayoutReferenceIdeal.τ Cert.CacheLayoutReferenceIdeal.sig) → Buf (Elt Ideal) ℓ) (g : Dev Cert.CacheLayoutReferenceIdeal.nD → PrngReg), Pre_CacheLayoutReferenceIdeal m →
    θ_run (Cert.CacheLayoutReferenceIdeal.defs (F := Ideal)) (onTc (τ := Cert.CacheLayoutReferenceIdeal.τ) (Cert.CacheLayoutReferenceIdeal.main (F := Ideal))) ⟨m, fun _ => 0, g⟩ (fun r => (∀ c : Dev Cert.CacheLayoutReferenceIdeal.nD,
      r.2.mem ((c.tc : Thread Cert.CacheLayoutReferenceIdeal.nD Cert.CacheLayoutReferenceIdeal.τ).loc Cert.CacheLayoutReferenceIdeal.main_arg0) = m ((c.tc : Thread Cert.CacheLayoutReferenceIdeal.nD Cert.CacheLayoutReferenceIdeal.τ).loc Cert.CacheLayoutReferenceIdeal.main_arg0)
      ∧ r.2.mem ((c.tc : Thread Cert.CacheLayoutReferenceIdeal.nD Cert.CacheLayoutReferenceIdeal.τ).loc Cert.CacheLayoutReferenceIdeal.main_arg1) = m ((c.tc : Thread Cert.CacheLayoutReferenceIdeal.nD Cert.CacheLayoutReferenceIdeal.τ).loc Cert.CacheLayoutReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal_pre_finite_router [hExpertsIdeal : Cert.ExpertsIdeal.Facts] [hExpertsReferenceIdeal : Cert.ExpertsReferenceIdeal.Facts] [hPre_finite_router : Cert.Pre_finite_router.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal_finite_router m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v19)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v19) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v87) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)
      ∧ m' ((c.tc : Thread Cert.ProjectionsReferenceIdeal.nD Cert.ProjectionsReferenceIdeal.τ).loc Cert.ProjectionsReferenceIdeal.main_arg7) = m ((c.tc : Thread Cert.ProjectionsIdeal.nD Cert.ProjectionsIdeal.τ).loc Cert.ProjectionsIdeal.main_arg7)) →
    ∃ (v0 : (c : Dev Cert.ProjectionsIdeal.nD) → Buf (Elt Ideal) ((c.tc : Thread Cert.ProjectionsIdeal.nD Cert.ProjectionsIdeal.τ).loc Cert.ProjectionsIdeal.main_v17_0)) (v1 : (c : Dev Cert.ProjectionsIdeal.nD) → Buf (Elt Ideal) ((c.tc : Thread Cert.ProjectionsIdeal.nD Cert.ProjectionsIdeal.τ).loc Cert.ProjectionsIdeal.main_v17_1)) (v2 : (c : Dev Cert.ProjectionsIdeal.nD) → Buf (Elt Ideal) ((c.tc : Thread Cert.ProjectionsIdeal.nD Cert.ProjectionsIdeal.τ).loc Cert.ProjectionsIdeal.main_v17_2)) (v3 : (c : Dev Cert.ProjectionsIdeal.nD) → Buf (Elt Ideal) ((c.tc : Thread Cert.ProjectionsIdeal.nD Cert.ProjectionsIdeal.τ).loc Cert.ProjectionsIdeal.main_v17_3)) (v4 : (c : Dev Cert.ProjectionsIdeal.nD) → Buf (Elt Ideal) ((c.tc : Thread Cert.ProjectionsIdeal.nD Cert.ProjectionsIdeal.τ).loc Cert.ProjectionsIdeal.main_v17_4)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v17_0) = v0 c
          ∧ r.2.mem ((c.tc : Thread Cert.ProjectionsIdeal.nD Cert.ProjectionsIdeal.τ).loc Cert.ProjectionsIdeal.main_v17_1) = v1 c
          ∧ r.2.mem ((c.tc : Thread Cert.ProjectionsIdeal.nD Cert.ProjectionsIdeal.τ).loc Cert.ProjectionsIdeal.main_v17_2) = v2 c
          ∧ r.2.mem ((c.tc : Thread Cert.ProjectionsIdeal.nD Cert.ProjectionsIdeal.τ).loc Cert.ProjectionsIdeal.main_v17_3) = v3 c
          ∧ r.2.mem ((c.tc : Thread Cert.ProjectionsIdeal.nD Cert.ProjectionsIdeal.τ).loc Cert.ProjectionsIdeal.main_v17_4) = v4 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v112) = v0 c
          ∧ r.2.mem ((c.tc : Thread Cert.ProjectionsReferenceIdeal.nD Cert.ProjectionsReferenceIdeal.τ).loc Cert.ProjectionsReferenceIdeal.main_v114) = v1 c
          ∧ r.2.mem ((c.tc : Thread Cert.ProjectionsReferenceIdeal.nD Cert.ProjectionsReferenceIdeal.τ).loc Cert.ProjectionsReferenceIdeal.main_v115) = v2 c
          ∧ r.2.mem ((c.tc : Thread Cert.ProjectionsReferenceIdeal.nD Cert.ProjectionsReferenceIdeal.τ).loc Cert.ProjectionsReferenceIdeal.main_v116) = v3 c
          ∧ r.2.mem ((c.tc : Thread Cert.ProjectionsReferenceIdeal.nD Cert.ProjectionsReferenceIdeal.τ).loc Cert.ProjectionsReferenceIdeal.main_v118) = v4 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6)
          ∧ r.2.mem ((c.tc : Thread Cert.ProjectionsReferenceIdeal.nD Cert.ProjectionsReferenceIdeal.τ).loc Cert.ProjectionsReferenceIdeal.main_arg7) = m' ((c.tc : Thread Cert.ProjectionsReferenceIdeal.nD Cert.ProjectionsReferenceIdeal.τ).loc Cert.ProjectionsReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v265) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)
      ∧ m' ((c.tc : Thread Cert.ModulationReferenceIdeal.nD Cert.ModulationReferenceIdeal.τ).loc Cert.ModulationReferenceIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v8)) (v1 : (c : Dev Cert.ModulationIdeal.nD) → Buf (Elt Ideal) ((c.tc : Thread Cert.ModulationIdeal.nD Cert.ModulationIdeal.τ).loc Cert.ModulationIdeal.main_v10)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v8) = v0 c
          ∧ r.2.mem ((c.tc : Thread Cert.ModulationIdeal.nD Cert.ModulationIdeal.τ).loc Cert.ModulationIdeal.main_v10) = v1 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v40) = v0 c
          ∧ r.2.mem ((c.tc : Thread Cert.ModulationReferenceIdeal.nD Cert.ModulationReferenceIdeal.τ).loc Cert.ModulationReferenceIdeal.main_v85) = v1 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2)
          ∧ r.2.mem ((c.tc : Thread Cert.ModulationReferenceIdeal.nD Cert.ModulationReferenceIdeal.τ).loc Cert.ModulationReferenceIdeal.main_arg3) = m' ((c.tc : Thread Cert.ModulationReferenceIdeal.nD Cert.ModulationReferenceIdeal.τ).loc Cert.ModulationReferenceIdeal.main_arg3))

def preserves_CacheLayout_CacheLayoutIdeal : Prop :=
  True

def algebraic_CacheLayoutIdeal_CacheLayoutReferenceIdeal [hCacheLayoutIdeal : Cert.CacheLayoutIdeal.Facts] [hCacheLayoutReferenceIdeal : Cert.CacheLayoutReferenceIdeal.Facts] : Prop :=
  ∀ (m : (ℓ : Loc Cert.CacheLayoutIdeal.nD Cert.CacheLayoutIdeal.τ Cert.CacheLayoutIdeal.sig) → Buf (Elt Ideal) ℓ) (g : Dev Cert.CacheLayoutIdeal.nD → PrngReg)
    (m' : (ℓ : Loc Cert.CacheLayoutReferenceIdeal.nD Cert.CacheLayoutReferenceIdeal.τ Cert.CacheLayoutReferenceIdeal.sig) → Buf (Elt Ideal) ℓ) (g' : Dev Cert.CacheLayoutReferenceIdeal.nD → PrngReg), Pre_CacheLayoutIdeal m →
    (∀ c : Dev Cert.CacheLayoutIdeal.nD,
      m' ((c.tc : Thread Cert.CacheLayoutReferenceIdeal.nD Cert.CacheLayoutReferenceIdeal.τ).loc Cert.CacheLayoutReferenceIdeal.main_arg0) = m ((c.tc : Thread Cert.CacheLayoutIdeal.nD Cert.CacheLayoutIdeal.τ).loc Cert.CacheLayoutIdeal.main_arg0)
      ∧ m' ((c.tc : Thread Cert.CacheLayoutReferenceIdeal.nD Cert.CacheLayoutReferenceIdeal.τ).loc Cert.CacheLayoutReferenceIdeal.main_arg1) = m ((c.tc : Thread Cert.CacheLayoutIdeal.nD Cert.CacheLayoutIdeal.τ).loc Cert.CacheLayoutIdeal.main_arg1)) →
    ∃ (v0 : (c : Dev Cert.CacheLayoutIdeal.nD) → Buf (Elt Ideal) ((c.tc : Thread Cert.CacheLayoutIdeal.nD Cert.CacheLayoutIdeal.τ).loc Cert.CacheLayoutIdeal.main_v2_0)) (v1 : (c : Dev Cert.CacheLayoutIdeal.nD) → Buf (Elt Ideal) ((c.tc : Thread Cert.CacheLayoutIdeal.nD Cert.CacheLayoutIdeal.τ).loc Cert.CacheLayoutIdeal.main_v2_1)),
      θ_run (Cert.CacheLayoutIdeal.defs (F := Ideal)) (onTc (τ := Cert.CacheLayoutIdeal.τ) (Cert.CacheLayoutIdeal.main (F := Ideal))) ⟨m, fun _ => 0, g⟩ (fun r => ∀ c : Dev Cert.CacheLayoutIdeal.nD,
          r.2.mem ((c.tc : Thread Cert.CacheLayoutIdeal.nD Cert.CacheLayoutIdeal.τ).loc Cert.CacheLayoutIdeal.main_v2_0) = v0 c
          ∧ r.2.mem ((c.tc : Thread Cert.CacheLayoutIdeal.nD Cert.CacheLayoutIdeal.τ).loc Cert.CacheLayoutIdeal.main_v2_1) = v1 c
          ∧ r.2.mem ((c.tc : Thread Cert.CacheLayoutIdeal.nD Cert.CacheLayoutIdeal.τ).loc Cert.CacheLayoutIdeal.main_arg0) = m ((c.tc : Thread Cert.CacheLayoutIdeal.nD Cert.CacheLayoutIdeal.τ).loc Cert.CacheLayoutIdeal.main_arg0)
          ∧ r.2.mem ((c.tc : Thread Cert.CacheLayoutIdeal.nD Cert.CacheLayoutIdeal.τ).loc Cert.CacheLayoutIdeal.main_arg1) = m ((c.tc : Thread Cert.CacheLayoutIdeal.nD Cert.CacheLayoutIdeal.τ).loc Cert.CacheLayoutIdeal.main_arg1))
      ∧ θ_run (Cert.CacheLayoutReferenceIdeal.defs (F := Ideal)) (onTc (τ := Cert.CacheLayoutReferenceIdeal.τ) (Cert.CacheLayoutReferenceIdeal.main (F := Ideal))) ⟨m', fun _ => 0, g'⟩ (fun r => ∀ c : Dev Cert.CacheLayoutReferenceIdeal.nD,
          r.2.mem ((c.tc : Thread Cert.CacheLayoutReferenceIdeal.nD Cert.CacheLayoutReferenceIdeal.τ).loc Cert.CacheLayoutReferenceIdeal.main_v5) = v0 c
          ∧ r.2.mem ((c.tc : Thread Cert.CacheLayoutReferenceIdeal.nD Cert.CacheLayoutReferenceIdeal.τ).loc Cert.CacheLayoutReferenceIdeal.main_v6) = v1 c
          ∧ r.2.mem ((c.tc : Thread Cert.CacheLayoutReferenceIdeal.nD Cert.CacheLayoutReferenceIdeal.τ).loc Cert.CacheLayoutReferenceIdeal.main_arg0) = m' ((c.tc : Thread Cert.CacheLayoutReferenceIdeal.nD Cert.CacheLayoutReferenceIdeal.τ).loc Cert.CacheLayoutReferenceIdeal.main_arg0)
          ∧ r.2.mem ((c.tc : Thread Cert.CacheLayoutReferenceIdeal.nD Cert.CacheLayoutReferenceIdeal.τ).loc Cert.CacheLayoutReferenceIdeal.main_arg1) = m' ((c.tc : Thread Cert.CacheLayoutReferenceIdeal.nD Cert.CacheLayoutReferenceIdeal.τ).loc Cert.CacheLayoutReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProjections : Cert.Projections.Facts) (hProjectionsIdeal : Cert.ProjectionsIdeal.Facts) (hProjectionsReferenceIdeal : Cert.ProjectionsReferenceIdeal.Facts) (hMerge : Cert.Merge.Facts) (hMergeIdeal : Cert.MergeIdeal.Facts) (hMergeReferenceIdeal : Cert.MergeReferenceIdeal.Facts) (hModulation : Cert.Modulation.Facts) (hModulationIdeal : Cert.ModulationIdeal.Facts) (hModulationReferenceIdeal : Cert.ModulationReferenceIdeal.Facts) (hCacheLayout : Cert.CacheLayout.Facts) (hCacheLayoutIdeal : Cert.CacheLayoutIdeal.Facts) (hCacheLayoutReferenceIdeal : Cert.CacheLayoutReferenceIdeal.Facts) (hPre_finite : Cert.Pre_finite.Facts) (hPre_finite_router : Cert.Pre_finite_router.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsIdeal_pre_finite_router (hExpertsIdeal := hExpertsIdeal) (hPre_finite_router := hPre_finite_router)
    ∧ quiescent_ExpertsReferenceIdeal (hExpertsReferenceIdeal := hExpertsReferenceIdeal)
    ∧ quiescent_ExpertsReferenceIdeal_pre_finite_router (hExpertsReferenceIdeal := hExpertsReferenceIdeal) (hPre_finite_router := hPre_finite_router)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_CacheLayout (hCacheLayout := hCacheLayout)
    ∧ quiescent_CacheLayoutIdeal (hCacheLayoutIdeal := hCacheLayoutIdeal)
    ∧ quiescent_CacheLayoutReferenceIdeal (hCacheLayoutReferenceIdeal := hCacheLayoutReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal_pre_finite_router (hExpertsIdeal := hExpertsIdeal) (hExpertsReferenceIdeal := hExpertsReferenceIdeal) (hPre_finite_router := hPre_finite_router)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Merge_MergeIdeal
    ∧ algebraic_MergeIdeal_MergeReferenceIdeal (hMergeIdeal := hMergeIdeal) (hMergeReferenceIdeal := hMergeReferenceIdeal)
    ∧ preserves_Modulation_ModulationIdeal
    ∧ algebraic_ModulationIdeal_ModulationReferenceIdeal (hModulationIdeal := hModulationIdeal) (hModulationReferenceIdeal := hModulationReferenceIdeal)
    ∧ preserves_CacheLayout_CacheLayoutIdeal
    ∧ algebraic_CacheLayoutIdeal_CacheLayoutReferenceIdeal (hCacheLayoutIdeal := hCacheLayoutIdeal) (hCacheLayoutReferenceIdeal := hCacheLayoutReferenceIdeal)
-- ==== Pre_finite.lean ====
abbrev S4x4096x16x64 : Shape := ⟨4, ![4, 4096, 16, 64]⟩
abbrev S4x4096x4x64 : Shape := ⟨4, ![4, 4096, 4, 64]⟩
abbrev S4x512x4x64 : Shape := ⟨4, ![4, 512, 4, 64]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  bcast_S_S4x512x4x64 : S_.BroadcastsInDim S4x512x4x64 (![] : Fin 0 → Fin S4x512x4x64.rank)
  reducesTo_S4x512x4x64_S_d0_1_2_3 : S4x512x4x64.ReducesTo [0, 1, 2, 3] S_

variable [Facts]

def fn {F : FTy → Type} [FloatOps F] (main_arg0 : FVec F S4x4096x16x64 .f32) (main_arg1 : FVec F S4x4096x4x64 .f32) (main_arg2 : FVec F S4x4096x4x64 .f32) (main_arg3 : FVec F S4x512x4x64 .f32) (main_arg4 : FVec F S4x512x4x64 .f32) : IVec S_ 1 :=
  let main_v0 : FVec F S4x4096x16x64 .f32 := Host.absf main_arg0
  let main_cst : FVec F S_ .f32 := constant S_ .f32 0x7F800000#32
  let main_v1 : FVec F S4x4096x16x64 .f32 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x4x64 .f32 := Host.absf main_arg1
  let main_cst_0 : FVec F S_ .f32 := constant S_ .f32 0x7F800000#32
  let main_v5 : FVec F S4x4096x4x64 .f32 := broadcastInDim S4x4096x4x64 ![] bcast_S_S4x4096x4x64 main_cst_0
  let main_v6 : IVec S4x4096x4x64 1 := cmpf .olt main_v4 main_v5
  let main_c_1 : IVec S_ 1 := constantI S_ 1 1#1
  let main_v7 : IVec S_ 1 := (fun x v => Host.reduce IntOp.andi x v reducesTo_S4x4096x4x64_S_d0_1_2_3 h_S_) main_v6 main_c_1
  let main_v8 : IVec S_ 1 := andi main_v3 main_v7
  let main_v9 : FVec F S4x512x4x64 .f32 := Host.absf main_arg3
  let main_cst_2 : FVec F S_ .f32 := constant S_ .f32 0x7F800000#32
  let main_v10 : FVec F S4x512x4x64 .f32 := broadcastInDim S4x512x4x64 ![] bcast_S_S4x512x4x64 main_cst_2
  let main_v11 : IVec S4x512x4x64 1 := cmpf .olt main_v9 main_v10
  let main_c_3 : IVec S_ 1 := constantI S_ 1 1#1
  let main_v12 : IVec S_ 1 := (fun x v => Host.reduce IntOp.andi x v reducesTo_S4x512x4x64_S_d0_1_2_3 h_S_) main_v11 main_c_3
  let main_v13 : IVec S_ 1 := andi main_v8 main_v12
  main_v13
-- ==== Pre_finite_router.lean ====
abbrev S4x4096x1024 : Shape := ⟨3, ![4, 4096, 1024]⟩
abbrev S4x1x6144 : Shape := ⟨3, ![4, 1, 6144]⟩
abbrev S1024 : Shape := ⟨1, ![1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S4x1x2048 : Shape := ⟨3, ![4, 1, 2048]⟩
abbrev S_ : Shape := ⟨0, ![]⟩

class Facts : Prop where
  slices_S4x1x6144_S4x1x2048_0_0_3072 : S4x1x6144.Slices ![0, 0, 3072] S4x1x2048
  bcast_S_S4x1x2048 : S_.BroadcastsInDim S4x1x2048 (![] : Fin 0 → Fin S4x1x2048.rank)
  reducesTo_S4x1x2048_S_d0_1_2 : S4x1x2048.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S4x4096x1024 .f32) (main_arg1 : FVec F S4x1x6144 .f32) (main_arg2 : FVec F S1024 .f32) (main_arg3 : FVec F S1024x16 .f32) (main_arg4 : FVec F S16 .f32) (main_arg5 : FVec F S16x1024x256 .f32) (main_arg6 : FVec F S16x1024x256 .f32) (main_arg7 : FVec F S16x256x1024 .f32) (main_arg8 : FVec F S1024 .f32) : IVec S_ 1 :=
  let main_v0 : FVec F S4x1x2048 .f32 := (extractStridedSlice S4x1x2048 ![0, 0, 3072] · slices_S4x1x6144_S4x1x2048_0_0_3072) main_arg1
  let main_v1 : FVec F S4x1x2048 .f32 := Host.absf main_v0
  let main_cst : FVec F S_ .f32 := constant S_ .f32 0x7F800000#32
  let main_v2 : FVec F S4x1x2048 .f32 := broadcastInDim S4x1x2048 ![] bcast_S_S4x1x2048 main_cst
  let main_v3 : IVec S4x1x2048 1 := cmpf .olt main_v1 main_v2
  let main_c : IVec S_ 1 := constantI S_ 1 1#1
  let main_v4 : IVec S_ 1 := (fun x v => Host.reduce IntOp.andi x v reducesTo_S4x1x2048_S_d0_1_2 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S1024x16 .f32 := Host.absf main_arg3
  let main_cst_2 : FVec F S_ .f32 := constant S_ .f32 0x7F800000#32
  let main_v11 : FVec F S1024x16 .f32 := broadcastInDim S1024x16 ![] bcast_S_S1024x16 main_cst_2
  let main_v12 : IVec S1024x16 1 := cmpf .olt main_v10 main_v11
  let main_c_3 : IVec S_ 1 := constantI S_ 1 1#1
  let main_v13 : IVec S_ 1 := (fun x v => Host.reduce IntOp.andi x v reducesTo_S1024x16_S_d0_1 h_S_) main_v12 main_c_3
  let main_v14 : IVec S_ 1 := andi main_v9 main_v13
  main_v14
-- ==== Kernel.lean ====
abbrev S4x4096x16x64 : Shape := ⟨4, ![4, 4096, 16, 64]⟩
abbrev S4x4096x4x64 : Shape := ⟨4, ![4, 4096, 4, 64]⟩
abbrev S4x512x4x64 : Shape := ⟨4, ![4, 512, 4, 64]⟩
abbrev S_ : Shape := ⟨0, ![]⟩
abbrev S4x16x64x4096 : Shape := ⟨4, ![4, 16, 64, 4096]⟩
abbrev S4x4x512x64 : Shape := ⟨4, ![4, 4, 512, 64]⟩
abbrev S4x2x256x4x64 : Shape := ⟨5, ![4, 2, 256, 4, 64]⟩
abbrev S4x4x2x64x256 : Shape := ⟨5, ![4, 4, 2, 64, 256]⟩
abbrev S4x4x2x16x256 : Shape := ⟨5, ![4, 4, 2, 16, 256]⟩
abbrev S4x4x2x80x256 : Shape := ⟨5, ![4, 4, 2, 80, 256]⟩
abbrev S4x4x4096x64 : Shape := ⟨4, ![4, 4, 4096, 64]⟩
abbrev S4x16x256x4x64 : Shape := ⟨5, ![4, 16, 256, 4, 64]⟩
abbrev S4x4x16x64x256 : Shape := ⟨5, ![4, 4, 16, 64, 256]⟩
abbrev S4x4x16x16x256 : Shape := ⟨5, ![4, 4, 16, 16, 256]⟩
abbrev S4x4x16x80x256 : Shape := ⟨5, ![4, 4, 16, 80, 256]⟩
abbrev S1x4x64x1024 : Shape := ⟨4, ![1, 4, 64, 1024]⟩
abbrev S1x1x512x64 : Shape := ⟨4, ![1, 1, 512, 64]⟩
abbrev S1x1x2x80x256 : Shape := ⟨5, ![1, 1, 2, 80, 256]⟩
abbrev S1x1x4096x64 : Shape := ⟨4, ![1, 1, 4096, 64]⟩
abbrev S1x1x16x80x256 : Shape := ⟨5, ![1, 1, 16, 80, 256]⟩
abbrev S1x1x64x1024 : Shape := ⟨4, ![1, 1, 64, 1024]⟩
abbrev S64x1024 : Shape := ⟨2, ![64, 1024]⟩
abbrev S64x4096 : Shape := ⟨2, ![64, 4096]⟩
abbrev S1x1x256x64 : Shape := ⟨4, ![1, 1, 256, 64]⟩
abbrev S256x64 : Shape := ⟨2, ![256, 64]⟩
abbrev S1x1x1x80x256 : Shape := ⟨5, ![1, 1, 1, 80, 256]⟩
abbrev S80x256 : Shape := ⟨2, ![80, 256]⟩
abbrev S256x4096 : Shape := ⟨2, ![256, 4096]⟩
abbrev S4096 : Shape := ⟨1, ![4096]⟩
abbrev S1x4096 : Shape := ⟨2, ![1, 4096]⟩
abbrev S80x4096 : Shape := ⟨2, ![80, 4096]⟩

abbrev nBuf : Space → Nat
  | .hbm => 30
  | .vmem => 12
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x4x64, .f32⟩
  | .hbm, ⟨2, _⟩ => ⟨S4x4096x4x64, .f32⟩
  | .hbm, ⟨3, _⟩ => ⟨S4x512x4x64, .f32⟩
  | .hbm, ⟨4, _⟩ => ⟨S4x512x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x16x64, .f32⟩
  | .hbm, ⟨10, _⟩ => ⟨S4x4096x16x64, .f32⟩
  | .hbm, ⟨11, _⟩ => ⟨S4x16x64x4096, .f32⟩
  | .hbm, ⟨12, _⟩ => ⟨S4x16x64x4096, .bf16⟩
  | .hbm, ⟨13, _⟩ => ⟨S4x4x512x64, .f32⟩
  | .hbm, ⟨14, _⟩ => ⟨S4x4x512x64, .bf16⟩
  | .hbm, ⟨15, _⟩ => ⟨S4x2x256x4x64, .f32⟩
  | .hbm, ⟨16, _⟩ => ⟨S4x4x2x64x256, .f32⟩
  | .hbm, ⟨17, _⟩ => ⟨S4x4x2x64x256, .bf16⟩
  | .hbm, ⟨18, _⟩ => ⟨S_, .bf16⟩
  | .hbm, ⟨19, _⟩ => ⟨S4x4x2x16x256, .bf16⟩
  | .hbm, ⟨20, _⟩ => ⟨S4x4x2x80x256, .bf16⟩
  | .hbm, ⟨21, _⟩ => ⟨S4x4x4096x64, .f32⟩
  | .hbm, ⟨22, _⟩ => ⟨S4x4x4096x64, .bf16⟩
  | .hbm, ⟨23, _⟩ => ⟨S4x16x256x4x64, .f32⟩
  | .hbm, ⟨24, _⟩ => ⟨S4x4x16x64x256, .f32⟩
  | .hbm, ⟨25, _⟩ => ⟨S4x4x16x64x256, .bf16⟩
  | .hbm, ⟨26, _⟩ => ⟨S_, .bf16⟩
  | .hbm, ⟨27, _⟩ => ⟨S4x4x16x16x256, .bf16⟩
  | .hbm, ⟨28, _⟩ => ⟨S4x4x16x80x256, .bf16⟩
  | .hbm, ⟨29, _⟩ => ⟨S4x16x64x4096, .bf16⟩
  | .local _ .vmem, ⟨0, _⟩ => ⟨S1x4x64x1024, .bf16⟩
  | .local _ .vmem, ⟨1, _⟩ => ⟨S1x4x64x1024, .bf16⟩
  | .local _ .vmem, ⟨2, _⟩ => ⟨S1x1x512x64, .bf16⟩
  | .local _ .vmem, ⟨3, _⟩ => ⟨S1x1x512x64, .bf16⟩
  | .local _ .vmem, ⟨4, _⟩ => ⟨S1x1x2x80x256, .bf16⟩
  | .local _ .vmem, ⟨5, _⟩ => ⟨S1x1x2x80x256, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x16x80x256, .bf16⟩
  | .local _ .vmem, ⟨9, _⟩ => ⟨S1x1x16x80x256, .bf16⟩
  | .local _ .vmem, ⟨10, _⟩ => ⟨S1x4x64x1024, .bf16⟩
  | .local _ .vmem, ⟨11, _⟩ => ⟨S1x4x64x1024, .bf16⟩
  | _, _ => ⟨S4x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x16x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x16x64 : Shape := ⟨4, ![4, 4096, 16, 64]⟩
abbrev S4x4096x4x64 : Shape := ⟨4, ![4, 4096, 4, 64]⟩
abbrev S4x512x4x64 : Shape := ⟨4, ![4, 512, 4, 64]⟩
abbrev S4x4608x4x64 : Shape := ⟨4, ![4, 4608, 4, 64]⟩
abbrev S4x4096x4x4x64 : Shape := ⟨5, ![4, 4096, 4, 4, 64]⟩
abbrev S4x4x4608x4096x4 : Shape := ⟨5, ![4, 4, 4608, 4096, 4]⟩
abbrev S4x4x4x4096x4608 : Shape := ⟨5, ![4, 4, 4, 4096, 4608]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S4x16x64x4096 : Shape := ⟨4, ![4, 16, 64, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x16x64, .f32⟩
  | .hbm, ⟨1, _⟩ => ⟨S4x4096x4x64, .f32⟩
  | .hbm, ⟨2, _⟩ => ⟨S4x4096x4x64, .f32⟩
  | .hbm, ⟨3, _⟩ => ⟨S4x512x4x64, .f32⟩
  | .hbm, ⟨4, _⟩ => ⟨S4x512x4x64, .f32⟩
  | .hbm, ⟨5, _⟩ => ⟨S4x4608x4x64, .f32⟩
  | .hbm, ⟨6, _⟩ => ⟨S4x4608x4x64, .f32⟩
  | .hbm, ⟨7, _⟩ => ⟨S4x4096x4x4x64, .f32⟩
  | .hbm, ⟨8, _⟩ => ⟨S4x4x4608x4096x4, .f32⟩
  | .hbm, ⟨9, _⟩ => ⟨S4x4x4x4096x4608, .f32⟩
  | .hbm, ⟨10, _⟩ => ⟨S_, .f32⟩
  | .hbm, ⟨11, _⟩ => ⟨S4x4x4x4096x4608, .f32⟩
  | .hbm, ⟨12, _⟩ => ⟨S4x4x4x4096x4608, .f32⟩
  | .hbm, ⟨13, _⟩ => ⟨S_, .f32⟩
  | .hbm, ⟨14, _⟩ => ⟨S4x4x4x4096, .f32⟩
  | .hbm, ⟨15, _⟩ => ⟨S_, .f32⟩
  | .hbm, ⟨16, _⟩ => ⟨S4x4x4x4096, .f32⟩
  | .hbm, ⟨17, _⟩ => ⟨S4x4x4x4096, .f32⟩
  | .hbm, ⟨18, _⟩ => ⟨S4x4x4x4096x1, .f32⟩
  | .hbm, ⟨19, _⟩ => ⟨S4x4x4x4096x4608, .f32⟩
  | .hbm, ⟨20, _⟩ => ⟨S4x4x4x4096x4608, .f32⟩
  | .hbm, ⟨21, _⟩ => ⟨S4x4x4x4096x4608, .f32⟩
  | .hbm, ⟨22, _⟩ => ⟨S_, .f32⟩
  | .hbm, ⟨23, _⟩ => ⟨S4x4x4x4096, .f32⟩
  | .hbm, ⟨24, _⟩ => ⟨S4x4x4x4096x1, .f32⟩
  | .hbm, ⟨25, _⟩ => ⟨S4x4x4x4096x4608, .f32⟩
  | .hbm, ⟨26, _⟩ => ⟨S4x4x4x4096x4608, .f32⟩
  | .hbm, ⟨27, _⟩ => ⟨S4x4x64x4x4096, .f32⟩
  | .hbm, ⟨28, _⟩ => ⟨S4x4096x4x4x64, .f32⟩
  | .hbm, ⟨29, _⟩ => ⟨S4x4096x16x64, .f32⟩
  | .hbm, ⟨30, _⟩ => ⟨S4x16x64x4096, .f32⟩
  | .hbm, ⟨31, _⟩ => ⟨S4x16x64x4096, .bf16⟩
  | _, _ => ⟨S4x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Experts.lean ====
abbrev S4x4096x1024 : Shape := ⟨3, ![4, 4096, 1024]⟩
abbrev S4x1x6144 : Shape := ⟨3, ![4, 1, 6144]⟩
abbrev S1024 : Shape := ⟨1, ![1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S16x1024 : Shape := ⟨2, ![16, 1024]⟩
abbrev S16x1 : Shape := ⟨2, ![16, 1]⟩
abbrev S16x512 : Shape := ⟨2, ![16, 512]⟩
abbrev S1x1024 : Shape := ⟨2, ![1, 1024]⟩
abbrev S4096x1024 : Shape := ⟨2, ![4096, 1024]⟩
abbrev S1024x16x256 : Shape := ⟨3, ![1024, 16, 256]⟩
abbrev S1024x4096 : Shape := ⟨2, ![1024, 4096]⟩
abbrev S16384x1024 : Shape := ⟨2, ![16384, 1024]⟩
abbrev S512x1024 : Shape := ⟨2, ![512, 1024]⟩
abbrev S1x1x6144 : Shape := ⟨3, ![1, 1, 6144]⟩
abbrev S4096x512 : Shape := ⟨2, ![4096, 512]⟩
abbrev S1x6144 : Shape := ⟨2, ![1, 6144]⟩
abbrev S512 : Shape := ⟨1, ![512]⟩
abbrev S512x1 : Shape := ⟨2, ![512, 1]⟩
abbrev S1x512 : Shape := ⟨2, ![1, 512]⟩
abbrev S1024x1024 : Shape := ⟨2, ![1024, 1024]⟩
abbrev S1024x512 : Shape := ⟨2, ![1024, 512]⟩
abbrev S4x256x512 : Shape := ⟨3, ![4, 256, 512]⟩
abbrev S4x512 : Shape := ⟨2, ![4, 512]⟩
abbrev S4x1x512 : Shape := ⟨3, ![4, 1, 512]⟩

abbrev nBuf : Space → Nat
  | .hbm => 29
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x16, .f32⟩
  | .hbm, ⟨4, _⟩ => ⟨S16, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S1024, .f32⟩
  | .hbm, ⟨9, _⟩ => ⟨S16x1024, .f32⟩
  | .hbm, ⟨10, _⟩ => ⟨S16x1024, .bf16⟩
  | .hbm, ⟨11, _⟩ => ⟨S16x1024, .f32⟩
  | .hbm, ⟨12, _⟩ => ⟨S16x1024, .f32⟩
  | .hbm, ⟨13, _⟩ => ⟨S16x1024, .bf16⟩
  | .hbm, ⟨14, _⟩ => ⟨S16x1, .f32⟩
  | .hbm, ⟨15, _⟩ => ⟨S16x512, .f32⟩
  | .hbm, ⟨16, _⟩ => ⟨S1x1024, .f32⟩
  | .hbm, ⟨17, _⟩ => ⟨S1x1024, .f32⟩
  | .hbm, ⟨18, _⟩ => ⟨S16x256x1024, .f32⟩
  | .hbm, ⟨19, _⟩ => ⟨S4096x1024, .f32⟩
  | .hbm, ⟨20, _⟩ => ⟨S4096x1024, .bf16⟩
  | .hbm, ⟨21, _⟩ => ⟨S16x256x1024, .f32⟩
  | .hbm, ⟨22, _⟩ => ⟨S4096x1024, .f32⟩
  | .hbm, ⟨23, _⟩ => ⟨S4096x1024, .bf16⟩
  | .hbm, ⟨24, _⟩ => ⟨S1024x16x256, .f32⟩
  | .hbm, ⟨25, _⟩ => ⟨S1024x4096, .f32⟩
  | .hbm, ⟨26, _⟩ => ⟨S1024x4096, .bf16⟩
  | .hbm, ⟨27, _⟩ => ⟨S16384x1024, .f32⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S16x1024, .bf16⟩
  | .local _ .vmem, ⟨6, _⟩ => ⟨S16x1024, .bf16⟩
  | .local _ .vmem, ⟨7, _⟩ => ⟨S16x512, .f32⟩
  | .local _ .vmem, ⟨8, _⟩ => ⟨S4096x1024, .bf16⟩
  | .local _ .vmem, ⟨9, _⟩ => ⟨S4096x1024, .bf16⟩
  | .local _ .vmem, ⟨10, _⟩ => ⟨S1024x4096, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S4096x512, .bf16⟩
  | .local _ .vmem, ⟨15, _⟩ => ⟨S16x512, .f32⟩
  | .local _ .vmem, ⟨16, _⟩ => ⟨S16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ExpertsReferenceIdeal.lean ====
abbrev S4x4096x1024 : Shape := ⟨3, ![4, 4096, 1024]⟩
abbrev S4x1x6144 : Shape := ⟨3, ![4, 1, 6144]⟩
abbrev S1024 : Shape := ⟨1, ![1024]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x16 : Shape := ⟨2, ![16384, 16]⟩
abbrev S16384 : Shape := ⟨1, ![16384]⟩
abbrev S16384x1 : Shape := ⟨2, ![16384, 1]⟩
abbrev S1x16 : Shape := ⟨2, ![1, 16]⟩
abbrev S16384x4x4 : Shape := ⟨3, ![16384, 4, 4]⟩
abbrev S16384x4x2 : Shape := ⟨3, ![16384, 4, 2]⟩
abbrev S16384x4 : Shape := ⟨2, ![16384, 4]⟩
abbrev S16384x2 : Shape := ⟨2, ![16384, 2]⟩
abbrev S16384x2x1 : Shape := ⟨3, ![16384, 2, 1]⟩
abbrev S1 : Shape := ⟨1, ![1]⟩
abbrev S1x1x1 : Shape := ⟨3, ![1, 1, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩

abbrev nBuf : Space → Nat
  | .hbm => 170
  | .vmem => 0
  | .smem => 0
  | _ => 0

abbrev hbmTy0_0 (i : Nat) : BufTy := match i % 128 with
  | 0 => ⟨S4x4096x1024, .f32⟩
  | 1 => ⟨S4x1x6144, .f32⟩
  | 2 => ⟨S1024, .f32⟩
  | 3 => ⟨S1024x16, .f32⟩
  | 4 => ⟨S16, .f32⟩
  | 5 => ⟨S16x1024x256, .f32⟩
  | 6 => ⟨S16x1024x256, .f32⟩
  | 7 => ⟨S16x256x1024, .f32⟩
  | 8 => ⟨S1024, .f32⟩
  | 9 => ⟨S4x1x1024, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S4x4096x1024, .f32⟩
  | 16 => ⟨S_, .f32⟩
  | 17 => ⟨S4x4096, .f32⟩
  | 18 => ⟨S4x4096x1, .f32⟩
  | 19 => ⟨S_, .f32⟩
  | 20 => ⟨S4x4096x1, .f32⟩
  | 21 => ⟨S4x4096x1, .f32⟩
  | 22 => ⟨S_, .f32⟩
  | 23 => ⟨S4x4096x1, .f32⟩
  | 24 => ⟨S4x4096x1, .f32⟩
  | 25 => ⟨S4x4096x1, .f32⟩
  | 26 => ⟨S4x4096x1024, .f32⟩
  | 27 => ⟨S4x4096x1024, .f32⟩
  | 28 => ⟨S1x1x1024, .f32⟩
  | 29 => ⟨S4x4096x1024, .f32⟩
  | 30 => ⟨S4x4096x1024, .f32⟩
  | 31 => ⟨S_, .f32⟩
  | 32 => ⟨S4x1x1024, .f32⟩
  | 33 => ⟨S4x1x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S16384x1024, .f32⟩
  | 39 => ⟨S16384x16, .f32⟩
  | 40 => ⟨S_, .f32⟩
  | 41 => ⟨S16384, .f32⟩
  | 42 => ⟨S_, .f32⟩
  | 43 => ⟨S16384, .f32⟩
  | 44 => ⟨S16384, .f32⟩
  | 45 => ⟨S16384x1, .f32⟩
  | 46 => ⟨S16384x16, .f32⟩
  | 47 => ⟨S16384x16, .f32⟩
  | 48 => ⟨S16384x16, .f32⟩
  | 49 => ⟨S_, .f32⟩
  | 50 => ⟨S16384, .f32⟩
  | 51 => ⟨S16384x1, .f32⟩
  | 52 => ⟨S16384x16, .f32⟩
  | 53 => ⟨S16384x16, .f32⟩
  | 54 => ⟨S1x16, .f32⟩
  | 55 => ⟨S16384x16, .f32⟩
  | 56 => ⟨S16384x16, .f32⟩
  | 57 => ⟨S16384x4x4, .f32⟩
  | 58 => ⟨S16384x4x2, .f32⟩
  | 59 => ⟨S16384x4x2, .i32⟩
  | 60 => ⟨S_, .f32⟩
  | 61 => ⟨S16384x4, .f32⟩
  | 62 => ⟨S16384x1, .f32⟩
  | 63 => ⟨S16384x1, .i32⟩
  | 64 => ⟨S16384, .i32⟩
  | 65 => ⟨S16, .i32⟩
  | 66 => ⟨S_, .i32⟩
  | 67 => ⟨S_, .i32⟩
  | 68 => ⟨S16, .i32⟩
  | 69 => ⟨S16, .i32⟩
  | 70 => ⟨S16, .i32⟩
  | 71 => ⟨S_, .i32⟩
  | 72 => ⟨S16, .i32⟩
  | 73 => ⟨S16, .i1⟩
  | 74 => ⟨S16, .i32⟩
  | 75 => ⟨S16, .i32⟩
  | 76 => ⟨S_, .i32⟩
  | 77 => ⟨S16, .i32⟩
  | 78 => ⟨S16, .i1⟩
  | 79 => ⟨S16, .i1⟩
  | 80 => ⟨S_, .i32⟩
  | 81 => ⟨S16, .i32⟩
  | 82 => ⟨S16, .i32⟩
  | 83 => ⟨S16, .i32⟩
  | 84 => ⟨S1x16, .i32⟩
  | 85 => ⟨S16384x1, .i32⟩
  | 86 => ⟨S16384x16, .i32⟩
  | 87 => ⟨S16384x16, .i32⟩
  | 88 => ⟨S16384x16, .i1⟩
  | 89 => ⟨S_, .f32⟩
  | 90 => ⟨S_, .f32⟩
  | 91 => ⟨S16384x16, .f32⟩
  | 92 => ⟨S16384x16, .f32⟩
  | 93 => ⟨S16384x2, .f32⟩
  | 94 => ⟨S16384x2, .i32⟩
  | 95 => ⟨S_, .i32⟩
  | 96 => ⟨S16384x2, .i32⟩
  | 97 => ⟨S16384x2, .i1⟩
  | 98 => ⟨S_, .i32⟩
  | 99 => ⟨S16384x2, .i32⟩
  | 100 => ⟨S16384x2, .i32⟩
  | 101 => ⟨S16384x2, .i32⟩
  | 102 => ⟨S16384x2x1, .i32⟩
  | 103 => ⟨S1, .i32⟩
  | 104 => ⟨S_, .i32⟩
  | 105 => ⟨S16384x2x1, .i32⟩
  | 106 => ⟨S16384x2x1, .i1⟩
  | 107 => ⟨S1x1x1, .i32⟩
  | 108 => ⟨S16384x2x1, .i32⟩
  | 109 => ⟨S16384x2x1, .i1⟩
  | 110 => ⟨S16384x2x1, .i1⟩
  | 111 => ⟨S_, .i1⟩
  | 112 => ⟨S16384x2, .i1⟩
  | 113 => ⟨S16384x2, .f32⟩
  | 114 => ⟨S_, .f32⟩
  | 115 => ⟨S16384x2, .f32⟩
  | 116 => ⟨S16384x2, .f32⟩
  | 117 => ⟨S_, .f32⟩
  | 118 => ⟨S16384, .f32⟩
  | 119 => ⟨S16384x1, .f32⟩
  | 120 => ⟨S16384x2, .f32⟩
  | 121 => ⟨S16384x2, .f32⟩
  | 122 => ⟨S16384x2x1, .i32⟩
  | 123 => ⟨S1x1x16, .i32⟩
  | 124 => ⟨S16384x2x16, .i32⟩
  | 125 => ⟨S16384x2x16, .i32⟩
  | 126 => ⟨S16384x2x16, .i1⟩
  | 127 => ⟨S16384x2x16, .f32⟩
  | _ => ⟨S4x4096x1024, .f32⟩

abbrev hbmTy0_1 (i : Nat) : BufTy := match i % 128 with
  | 0 => ⟨S16384x2x1, .f32⟩
  | 1 => ⟨S16384x2x16, .f32⟩
  | 2 => ⟨S16384x2x16, .f32⟩
  | 3 => ⟨S_, .f32⟩
  | 4 => ⟨S16384x16, .f32⟩
  | 5 => ⟨S16384x16x256, .f32⟩
  | 6 => ⟨S16384x16x256, .f32⟩
  | 7 => ⟨S16384x16x256, .f32⟩
  | 8 => ⟨S16384x16x256, .f32⟩
  | 9 => ⟨S_, .f32⟩
  | 10 => ⟨S16384x16x256, .f32⟩
  | 11 => ⟨S16384x16x256, .f32⟩
  | 12 => ⟨S_, .f32⟩
  | 13 => ⟨S16384x16x256, .f32⟩
  | 14 => ⟨S16384x16x256, .f32⟩
  | 15 => ⟨S16384x16x256, .f32⟩
  | 16 => ⟨S16384x16x256, .f32⟩
  | 17 => ⟨S16384x16x1, .f32⟩
  | 18 => ⟨S16384x16x256, .f32⟩
  | 19 => ⟨S16384x16x256, .f32⟩
  | 20 => ⟨S16384x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S_, .f32⟩
  | 27 => ⟨S4x4096, .f32⟩
  | 28 => ⟨S4x4096x1, .f32⟩
  | 29 => ⟨S_, .f32⟩
  | 30 => ⟨S4x4096x1, .f32⟩
  | 31 => ⟨S4x4096x1, .f32⟩
  | 32 => ⟨S_, .f32⟩
  | 33 => ⟨S4x4096x1, .f32⟩
  | 34 => ⟨S4x4096x1, .f32⟩
  | 35 => ⟨S4x4096x1, .f32⟩
  | 36 => ⟨S4x4096x1024, .f32⟩
  | 37 => ⟨S4x4096x1024, .f32⟩
  | 38 => ⟨S1x1x1024, .f32⟩
  | 39 => ⟨S4x4096x1024, .f32⟩
  | 40 => ⟨S4x4096x1024, .f32⟩
  | 41 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_values : Ref sig .tc := ⟨.hbm, 58, rfl⟩
abbrev main_indices : Ref sig .tc := ⟨.hbm, 59, rfl⟩
abbrev main_cst_6 : Ref sig .tc := ⟨.hbm, 60, rfl⟩
abbrev main_v42 : Ref sig .tc := ⟨.hbm, 61, rfl⟩
abbrev main_values_7 : Ref sig .tc := ⟨.hbm, 62, rfl⟩
abbrev main_indices_8 : Ref sig .tc := ⟨.hbm, 63, rfl⟩
abbrev main_v43 : Ref sig .tc := ⟨.hbm, 64, rfl⟩
abbrev main_v44 : Ref sig .tc := ⟨.hbm, 65, rfl⟩
abbrev main_c : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_9 : Ref sig .tc := ⟨.hbm, 89, rfl⟩
abbrev main_call1_v0 : Ref sig .tc := ⟨.hbm, 90, rfl⟩
abbrev main_call1_v1 : Ref sig .tc := ⟨.hbm, 91, rfl⟩
abbrev main_v51 : Ref sig .tc := ⟨.hbm, 92, rfl⟩
abbrev main_values_10 : Ref sig .tc := ⟨.hbm, 93, rfl⟩
abbrev main_indices_11 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_cst : Ref sig .tc := ⟨.hbm, 114, rfl⟩
abbrev main_call2_v14 : Ref sig .tc := ⟨.hbm, 115, rfl⟩
abbrev main_v52 : Ref sig .tc := ⟨.hbm, 116, rfl⟩
abbrev main_cst_12 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_13 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_call4_v5 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_cst_14 : Ref sig .tc := ⟨.hbm, 154, rfl⟩
abbrev main_v75 : Ref sig .tc := ⟨.hbm, 155, rfl⟩
abbrev main_v76 : Ref sig .tc := ⟨.hbm, 156, rfl⟩
abbrev main_cst_15 : Ref sig .tc := ⟨.hbm, 157, rfl⟩
abbrev main_v77 : Ref sig .tc := ⟨.hbm, 158, rfl⟩
abbrev main_v78 : Ref sig .tc := ⟨.hbm, 159, rfl⟩
abbrev main_cst_16 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩

abbrev nD : Nat := 1
abbrev τ : Topo := Topo.v7x

variable {F : FTy → Type} [FloatOps F]
-- ==== Projections.lean ====
abbrev S4x4096x1024 : Shape := ⟨3, ![4, 4096, 1024]⟩
abbrev S4x1x6144 : Shape := ⟨3, ![4, 1, 6144]⟩
abbrev S1024 : Shape := ⟨1, ![1024]⟩
abbrev S1024x4608 : Shape := ⟨2, ![1024, 4608]⟩
abbrev S64 : Shape := ⟨1, ![64]⟩
abbrev S4096x64 : Shape := ⟨2, ![4096, 64]⟩
abbrev S_ : Shape := ⟨0, ![]⟩
abbrev S1x1024 : Shape := ⟨2, ![1, 1024]⟩
abbrev S1024x1536 : Shape := ⟨2, ![1024, 1536]⟩
abbrev S1536x1024 : Shape := ⟨2, ![1536, 1024]⟩
abbrev S1024x3072 : Shape := ⟨2, ![1024, 3072]⟩
abbrev S64x1 : Shape := ⟨2, ![64, 1]⟩
abbrev S64x256 : Shape := ⟨2, ![64, 256]⟩
abbrev S16384x1024 : Shape := ⟨2, ![16384, 1024]⟩
abbrev S64x4096 : Shape := ⟨2, ![64, 4096]⟩
abbrev S4x16x64x4096 : Shape := ⟨4, ![4, 16, 64, 4096]⟩
abbrev S4x4x4096x64 : Shape := ⟨4, ![4, 4, 4096, 64]⟩
abbrev S4x4x16x80x256 : Shape := ⟨5, ![4, 4, 16, 80, 256]⟩
abbrev S4x4096x512 : Shape := ⟨3, ![4, 4096, 512]⟩
abbrev S16384x2048 : Shape := ⟨2, ![16384, 2048]⟩
abbrev S256x1024 : Shape := ⟨2, ![256, 1024]⟩
abbrev S1x1x6144 : Shape := ⟨3, ![1, 1, 6144]⟩
abbrev S1x16x64x256 : Shape := ⟨4, ![1, 16, 64, 256]⟩
abbrev S1x4x256x64 : Shape := ⟨4, ![1, 4, 256, 64]⟩
abbrev S1x4x1x80x256 : Shape := ⟨5, ![1, 4, 1, 80, 256]⟩
abbrev S1x256x512 : Shape := ⟨3, ![1, 256, 512]⟩
abbrev S256x2048 : Shape := ⟨2, ![256, 2048]⟩
abbrev S1x6144 : Shape := ⟨2, ![1, 6144]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S16x64x256 : Shape := ⟨3, ![16, 64, 256]⟩
abbrev S16x256 : Shape := ⟨2, ![16, 256]⟩
abbrev S16x1x256 : Shape := ⟨3, ![16, 1, 256]⟩
abbrev S1x64x256 : Shape := ⟨3, ![1, 64, 256]⟩
abbrev S16x16x256 : Shape := ⟨3, ![16, 16, 256]⟩
abbrev S256x256 : Shape := ⟨2, ![256, 256]⟩
abbrev S4x64x256 : Shape := ⟨3, ![4, 64, 256]⟩
abbrev S4x256 : Shape := ⟨2, ![4, 256]⟩
abbrev S4x1x256 : Shape := ⟨3, ![4, 1, 256]⟩
abbrev S4x16x256 : Shape := ⟨3, ![4, 16, 256]⟩
abbrev S256x64 : Shape := ⟨2, ![256, 64]⟩
abbrev S1x1x256x64 : Shape := ⟨4, ![1, 1, 256, 64]⟩
abbrev S1x4x1x64x256 : Shape := ⟨5, ![1, 4, 1, 64, 256]⟩
abbrev S1x4x1x16x256 : Shape := ⟨5, ![1, 4, 1, 16, 256]⟩
abbrev S256x512 : Shape := ⟨2, ![256, 512]⟩
abbrev S1024x2048 : Shape := ⟨2, ![1024, 2048]⟩

abbrev nBuf : Space → Nat
  | .hbm => 32
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x1x6144, .f32⟩
  | .hbm, ⟨2, _⟩ => ⟨S1024, .f32⟩
  | .hbm, ⟨3, _⟩ => ⟨S1024x4608, .f32⟩
  | .hbm, ⟨4, _⟩ => ⟨S64, .f32⟩
  | .hbm, ⟨5, _⟩ => ⟨S64, .f32⟩
  | .hbm, ⟨6, _⟩ => ⟨S4096x64, .f32⟩
  | .hbm, ⟨7, _⟩ => ⟨S4096x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1024, .f32⟩
  | .hbm, ⟨13, _⟩ => ⟨S1024x1536, .f32⟩
  | .hbm, ⟨14, _⟩ => ⟨S1536x1024, .f32⟩
  | .hbm, ⟨15, _⟩ => ⟨S1536x1024, .bf16⟩
  | .hbm, ⟨16, _⟩ => ⟨S1024x3072, .f32⟩
  | .hbm, ⟨17, _⟩ => ⟨S1024x3072, .bf16⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S64x256, .f32⟩
  | .hbm, ⟨22, _⟩ => ⟨S64x1, .f32⟩
  | .hbm, ⟨23, _⟩ => ⟨S64x256, .f32⟩
  | .hbm, ⟨24, _⟩ => ⟨S16384x1024, .f32⟩
  | .hbm, ⟨25, _⟩ => ⟨S64x4096, .f32⟩
  | .hbm, ⟨26, _⟩ => ⟨S64x4096, .f32⟩
  | .hbm, ⟨27, _⟩ => ⟨S4x16x64x4096, .bf16⟩
  | .hbm, ⟨28, _⟩ => ⟨S4x4x4096x64, .bf16⟩
  | .hbm, ⟨29, _⟩ => ⟨S4x4x16x80x256, .bf16⟩
  | .hbm, ⟨30, _⟩ => ⟨S4x4096x512, .bf16⟩
  | .hbm, ⟨31, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1536x1024, .bf16⟩
  | .local _ .vmem, ⟨6, _⟩ => ⟨S1024x3072, .bf16⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S1x16x64x256, .bf16⟩
  | .local _ .vmem, ⟨14, _⟩ => ⟨S1x16x64x256, .bf16⟩
  | .local _ .vmem, ⟨15, _⟩ => ⟨S1x4x256x64, .bf16⟩
  | .local _ .vmem, ⟨16, _⟩ => ⟨S1x4x256x64, .bf16⟩
  | .local _ .vmem, ⟨17, _⟩ => ⟨S1x4x1x80x256, .bf16⟩
  | .local _ .vmem, ⟨18, _⟩ => ⟨S1x4x1x80x256, .bf16⟩
  | .local _ .vmem, ⟨19, _⟩ => ⟨S1x256x512, .bf16⟩
  | .local _ .vmem, ⟨20, _⟩ => ⟨S1x256x512, .bf16⟩
  | .local _ .vmem, ⟨21, _⟩ => ⟨S256x2048, .bf16⟩
  | .local _ .vmem, ⟨22, _⟩ => ⟨S256x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x16x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x1x80x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectionsReferenceIdeal.lean ====
abbrev S4x4096x1024 : Shape := ⟨3, ![4, 4096, 1024]⟩
abbrev S4x1x6144 : Shape := ⟨3, ![4, 1, 6144]⟩
abbrev S1024 : Shape := ⟨1, ![1024]⟩
abbrev S1024x4608 : Shape := ⟨2, ![1024, 4608]⟩
abbrev S64 : Shape := ⟨1, ![64]⟩
abbrev S4096x64 : Shape := ⟨2, ![4096, 64]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4608 : Shape := ⟨3, ![4, 4096, 4608]⟩
abbrev S4x4096x256 : Shape := ⟨3, ![4, 4096, 256]⟩
abbrev S4x4096x2048 : Shape := ⟨3, ![4, 4096, 2048]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S4x4096x16x16 : Shape := ⟨4, ![4, 4096, 16, 16]⟩
abbrev S1x4096x1x64 : Shape := ⟨4, ![1, 4096, 1, 64]⟩
abbrev S4x4096x4x16 : Shape := ⟨4, ![4, 4096, 4, 16]⟩
abbrev S4x4096x512 : Shape := ⟨3, ![4, 4096, 512]⟩
abbrev S4x16x256x4x64 : Shape := ⟨5, ![4, 16, 256, 4, 64]⟩
abbrev S4x4x16x64x256 : Shape := ⟨5, ![4, 4, 16, 64, 256]⟩
abbrev S4x4x16x16x256 : Shape := ⟨5, ![4, 4, 16, 16, 256]⟩
abbrev S4x4x16x80x256 : Shape := ⟨5, ![4, 4, 16, 80, 256]⟩
abbrev S4x16x64x4096 : Shape := ⟨4, ![4, 16, 64, 4096]⟩
abbrev S4x4x4096x64 : Shape := ⟨4, ![4, 4, 4096, 64]⟩
abbrev S16384x2048 : Shape := ⟨2, ![16384, 2048]⟩

abbrev nBuf : Space → Nat
  | .hbm => 144
  | .vmem => 0
  | .smem => 0
  | _ => 0

abbrev hbmTy0_0 (i : Nat) : BufTy := match i % 128 with
  | 0 => ⟨S4x4096x1024, .f32⟩
  | 1 => ⟨S4x1x6144, .f32⟩
  | 2 => ⟨S1024, .f32⟩
  | 3 => ⟨S1024x4608, .f32⟩
  | 4 => ⟨S64, .f32⟩
  | 5 => ⟨S64, .f32⟩
  | 6 => ⟨S4096x64, .f32⟩
  | 7 => ⟨S4096x64, .f32⟩
  | 8 => ⟨S4x1x1024, .f32⟩
  | 9 => ⟨S4x1x1024, .f32⟩
  | 10 => ⟨S4x1x1024, .f32⟩
  | 11 => ⟨S4x1x1024, .f32⟩
  | 12 => ⟨S4x1x1024, .f32⟩
  | 13 => ⟨S4x1x1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S_, .f32⟩
  | 31 => ⟨S4x1x1024, .f32⟩
  | 32 => ⟨S4x1x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S4x4096x4608, .f32⟩
  | 38 => ⟨S4x4096x1024, .f32⟩
  | 39 => ⟨S4x4096x256, .f32⟩
  | 40 => ⟨S4x4096x256, .f32⟩
  | 41 => ⟨S4x4096x1024, .f32⟩
  | 42 => ⟨S4x4096x2048, .f32⟩
  | 43 => ⟨S4x4096x16x64, .f32⟩
  | 44 => ⟨S4x4096x16x64, .f32⟩
  | 45 => ⟨S_, .f32⟩
  | 46 => ⟨S4x4096x16, .f32⟩
  | 47 => ⟨S4x4096x16x1, .f32⟩
  | 48 => ⟨S_, .f32⟩
  | 49 => ⟨S4x4096x16x1, .f32⟩
  | 50 => ⟨S4x4096x16x1, .f32⟩
  | 51 => ⟨S_, .f32⟩
  | 52 => ⟨S4x4096x16x1, .f32⟩
  | 53 => ⟨S4x4096x16x1, .f32⟩
  | 54 => ⟨S4x4096x16x1, .f32⟩
  | 55 => ⟨S4x4096x16x64, .f32⟩
  | 56 => ⟨S4x4096x16x64, .f32⟩
  | 57 => ⟨S1x1x1x64, .f32⟩
  | 58 => ⟨S4x4096x16x64, .f32⟩
  | 59 => ⟨S4x4096x16x64, .f32⟩
  | 60 => ⟨S4x4096x4x64, .f32⟩
  | 61 => ⟨S4x4096x4x64, .f32⟩
  | 62 => ⟨S_, .f32⟩
  | 63 => ⟨S4x4096x4, .f32⟩
  | 64 => ⟨S4x4096x4x1, .f32⟩
  | 65 => ⟨S_, .f32⟩
  | 66 => ⟨S4x4096x4x1, .f32⟩
  | 67 => ⟨S4x4096x4x1, .f32⟩
  | 68 => ⟨S_, .f32⟩
  | 69 => ⟨S4x4096x4x1, .f32⟩
  | 70 => ⟨S4x4096x4x1, .f32⟩
  | 71 => ⟨S4x4096x4x1, .f32⟩
  | 72 => ⟨S4x4096x4x64, .f32⟩
  | 73 => ⟨S4x4096x4x64, .f32⟩
  | 74 => ⟨S1x1x1x64, .f32⟩
  | 75 => ⟨S4x4096x4x64, .f32⟩
  | 76 => ⟨S4x4096x4x64, .f32⟩
  | 77 => ⟨S4x4096x4x64, .f32⟩
  | 78 => ⟨S4x4096x16x16, .f32⟩
  | 79 => ⟨S4x4096x16x16, .f32⟩
  | 80 => ⟨S4x4096x16x16, .f32⟩
  | 81 => ⟨S4x4096x16x16, .f32⟩
  | 82 => ⟨S4x4096x16x16, .f32⟩
  | 83 => ⟨S4x4096x16x16, .f32⟩
  | 84 => ⟨S4x4096x16x64, .f32⟩
  | 85 => ⟨S1x4096x1x64, .f32⟩
  | 86 => ⟨S4x4096x16x64, .f32⟩
  | 87 => ⟨S4x4096x16x64, .f32⟩
  | 88 => ⟨S1x4096x1x64, .f32⟩
  | 89 => ⟨S4x4096x16x64, .f32⟩
  | 90 => ⟨S4x4096x16x64, .f32⟩
  | 91 => ⟨S4x4096x16x64, .f32⟩
  | 92 => ⟨S4x4096x4x16, .f32⟩
  | 93 => ⟨S4x4096x4x16, .f32⟩
  | 94 => ⟨S4x4096x4x16, .f32⟩
  | 95 => ⟨S4x4096x4x16, .f32⟩
  | 96 => ⟨S4x4096x4x16, .f32⟩
  | 97 => ⟨S4x4096x4x16, .f32⟩
  | 98 => ⟨S4x4096x4x64, .f32⟩
  | 99 => ⟨S1x4096x1x64, .f32⟩
  | 100 => ⟨S4x4096x4x64, .f32⟩
  | 101 => ⟨S4x4096x4x64, .f32⟩
  | 102 => ⟨S1x4096x1x64, .f32⟩
  | 103 => ⟨S4x4096x4x64, .f32⟩
  | 104 => ⟨S4x4096x4x64, .f32⟩
  | 105 => ⟨S4x4096x4x64, .f32⟩
  | 106 => ⟨S4x4096x512, .f32⟩
  | 107 => ⟨S4x4096x512, .f32⟩
  | 108 => ⟨S4x4096x512, .f32⟩
  | 109 => ⟨S4x4096x512, .f32⟩
  | 110 => ⟨S_, .f32⟩
  | 111 => ⟨S4x4096x512, .f32⟩
  | 112 => ⟨S4x4096x512, .f32⟩
  | 113 => ⟨S_, .f32⟩
  | 114 => ⟨S4x4096x512, .f32⟩
  | 115 => ⟨S4x4096x512, .f32⟩
  | 116 => ⟨S4x4096x512, .f32⟩
  | 117 => ⟨S4x4096x2048, .f32⟩
  | 118 => ⟨S4x4096x2048, .f32⟩
  | 119 => ⟨S_, .f32⟩
  | 120 => ⟨S4x4096x2048, .f32⟩
  | 121 => ⟨S4x4096x2048, .f32⟩
  | 122 => ⟨S_, .f32⟩
  | 123 => ⟨S4x4096x2048, .f32⟩
  | 124 => ⟨S4x4096x2048, .f32⟩
  | 125 => ⟨S_, .f32⟩
  | 126 => ⟨S_, .f32⟩
  | 127 => ⟨S_, .f32⟩
  | _ => ⟨S4x4096x1024, .f32⟩

abbrev hbmTy0_1 (i : Nat) : BufTy := match i % 128 with
  | 0 => ⟨S_, .f32⟩
  | 1 => ⟨S4x4096x16x64, .f32⟩
  | 2 => ⟨S4x4096x16x64, .f32⟩
  | 3 => ⟨S4x16x256x4x64, .f32⟩
  | 4 => ⟨S4x4x16x64x256, .f32⟩
  | 5 => ⟨S_, .f32⟩
  | 6 => ⟨S4x4x16x16x256, .f32⟩
  | 7 => ⟨S4x4x16x80x256, .f32⟩
  | 8 => ⟨S4x16x64x4096, .f32⟩
  | 9 => ⟨S4x16x64x4096, .bf16⟩
  | 10 => ⟨S4x4x4096x64, .f32⟩
  | 11 => ⟨S4x4x4096x64, .bf16⟩
  | 12 => ⟨S4x4x16x80x256, .bf16⟩
  | 13 => ⟨S4x4096x512, .bf16⟩
  | 14 => ⟨S16384x2048, .f32⟩
  | 15 => ⟨S16384x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_v93 : Ref sig .tc := ⟨.hbm, 112, rfl⟩
abbrev main_cst_10 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_11 : Ref sig .tc := ⟨.hbm, 119, rfl⟩
abbrev main_v99 : Ref sig .tc := ⟨.hbm, 120, rfl⟩
abbrev main_v100 : Ref sig .tc := ⟨.hbm, 121, rfl⟩
abbrev main_cst_12 : Ref sig .tc := ⟨.hbm, 122, rfl⟩
abbrev main_v101 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_cst_14 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_15 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩

abbrev nD : Nat := 1
abbrev τ : Topo := Topo.v7x

variable {F : FTy → Type} [FloatOps F]
-- ==== Merge.lean ====
abbrev S4x4096x1024 : Shape := ⟨3, ![4, 4096, 1024]⟩
abbrev S4x4096x16x64 : Shape := ⟨4, ![4, 4096, 16, 64]⟩
abbrev S4x4096x512 : Shape := ⟨3, ![4, 4096, 512]⟩
abbrev S4x4096x2048 : Shape := ⟨3, ![4, 4096, 2048]⟩
abbrev S4x1x6144 : Shape := ⟨3, ![4, 1, 6144]⟩
abbrev S1024x1024 : Shape := ⟨2, ![1024, 1024]⟩
abbrev S31x512 : Shape := ⟨2, ![31, 512]⟩
abbrev S512 : Shape := ⟨1, ![512]⟩
abbrev S512x1024 : Shape := ⟨2, ![512, 1024]⟩
abbrev S1x512 : Shape := ⟨2, ![1, 512]⟩
abbrev S16384x1024 : Shape := ⟨2, ![16384, 1024]⟩
abbrev S4x16x64x4096 : Shape := ⟨4, ![4, 16, 64, 4096]⟩
abbrev S16384x2048 : Shape := ⟨2, ![16384, 2048]⟩
abbrev S1x16x64x512 : Shape := ⟨4, ![1, 16, 64, 512]⟩
abbrev S1x512x512 : Shape := ⟨3, ![1, 512, 512]⟩
abbrev S1x16x512 : Shape := ⟨3, ![1, 16, 512]⟩
abbrev S512x2048 : Shape := ⟨2, ![512, 2048]⟩
abbrev S1x1x6144 : Shape := ⟨3, ![1, 1, 6144]⟩
abbrev S4x544x128 : Shape := ⟨3, ![4, 544, 128]⟩
abbrev S1x6144 : Shape := ⟨2, ![1, 6144]⟩
abbrev S1x1024 : Shape := ⟨2, ![1, 1024]⟩
abbrev S16x64x512 : Shape := ⟨3, ![16, 64, 512]⟩
abbrev S1024x512 : Shape := ⟨2, ![1024, 512]⟩
abbrev S16x512 : Shape := ⟨2, ![16, 512]⟩
abbrev S512x512 : Shape := ⟨2, ![512, 512]⟩
abbrev S16x128 : Shape := ⟨2, ![16, 128]⟩
abbrev S1x16x128 : Shape := ⟨3, ![1, 16, 128]⟩
abbrev S512x128 : Shape := ⟨2, ![512, 128]⟩
abbrev S1x512x128 : Shape := ⟨3, ![1, 512, 128]⟩
abbrev S1x128 : Shape := ⟨2, ![1, 128]⟩
abbrev S512x1 : Shape := ⟨2, ![512, 1]⟩

abbrev nBuf : Space → Nat
  | .hbm => 25
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .f32⟩
  | .hbm, ⟨2, _⟩ => ⟨S4x4096x512, .f32⟩
  | .hbm, ⟨3, _⟩ => ⟨S4x4096x2048, .f32⟩
  | .hbm, ⟨4, _⟩ => ⟨S4x1x6144, .f32⟩
  | .hbm, ⟨5, _⟩ => ⟨S1024x1024, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S1024x1024, .f32⟩
  | .hbm, ⟨12, _⟩ => ⟨S1024x1024, .bf16⟩
  | .hbm, ⟨13, _⟩ => ⟨S512x1024, .bf16⟩
  | .hbm, ⟨14, _⟩ => ⟨S1024x1024, .bf16⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S16384x1024, .f32⟩
  | .hbm, ⟨19, _⟩ => ⟨S4x16x64x4096, .f32⟩
  | .hbm, ⟨20, _⟩ => ⟨S4x16x64x4096, .bf16⟩
  | .hbm, ⟨21, _⟩ => ⟨S16384x2048, .f32⟩
  | .hbm, ⟨22, _⟩ => ⟨S16384x2048, .bf16⟩
  | .hbm, ⟨23, _⟩ => ⟨S4x4096x512, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x16x64x512, .bf16⟩
  | .local _ .vmem, ⟨3, _⟩ => ⟨S1x16x64x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x16x512, .bf16⟩
  | .local _ .vmem, ⟨9, _⟩ => ⟨S1x16x512, .bf16⟩
  | .local _ .vmem, ⟨10, _⟩ => ⟨S512x2048, .bf16⟩
  | .local _ .vmem, ⟨11, _⟩ => ⟨S512x2048, .bf16⟩
  | .local _ .vmem, ⟨12, _⟩ => ⟨S1x1x6144, .f32⟩
  | .local _ .vmem, ⟨13, _⟩ => ⟨S1x1x6144, .f32⟩
  | .local _ .vmem, ⟨14, _⟩ => ⟨S1024x1024, .bf16⟩
  | .local _ .vmem, ⟨15, _⟩ => ⟨S512x1024, .bf16⟩
  | .local _ .vmem, ⟨16, _⟩ => ⟨S1024x1024, .bf16⟩
  | .local _ .vmem, ⟨17, _⟩ => ⟨S31x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x1024, .f32⟩
  | .local _ .vmem, ⟨22, _⟩ => ⟨S512x1024, .f32⟩
  | .local _ .vmem, ⟨23, _⟩ => ⟨S4x544x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeReferenceIdeal.lean ====
abbrev S4x4096x1024 : Shape := ⟨3, ![4, 4096, 1024]⟩
abbrev S4x4096x16x64 : Shape := ⟨4, ![4, 4096, 16, 64]⟩
abbrev S4x4096x512 : Shape := ⟨3, ![4, 4096, 512]⟩
abbrev S4x4096x2048 : Shape := ⟨3, ![4, 4096, 2048]⟩
abbrev S4x1x6144 : Shape := ⟨3, ![4, 1, 6144]⟩
abbrev S1024x1024 : Shape := ⟨2, ![1024, 1024]⟩
abbrev S31x512 : Shape := ⟨2, ![31, 512]⟩
abbrev S512 : Shape := ⟨1, ![512]⟩
abbrev S512x1024 : Shape := ⟨2, ![512, 1024]⟩
abbrev S4x1x1024 : Shape := ⟨3, ![4, 1, 1024]⟩
abbrev S_ : Shape := ⟨0, ![]⟩
abbrev S4x4126x512 : Shape := ⟨3, ![4, 4126, 512]⟩
abbrev S1x512 : Shape := ⟨2, ![1, 512]⟩
abbrev S1x1x512 : Shape := ⟨3, ![1, 1, 512]⟩
abbrev S4x4096 : Shape := ⟨2, ![4, 4096]⟩
abbrev S4x4096x1 : Shape := ⟨3, ![4, 4096, 1]⟩
abbrev S16384x1024 : Shape := ⟨2, ![16384, 1024]⟩

abbrev nBuf : Space → Nat
  | .hbm => 294
  | .vmem => 0
  | .smem => 0
  | _ => 0

abbrev hbmTy0_0 (i : Nat) : BufTy := match i % 128 with
  | 0 => ⟨S4x4096x1024, .f32⟩
  | 1 => ⟨S4x4096x16x64, .f32⟩
  | 2 => ⟨S4x4096x512, .f32⟩
  | 3 => ⟨S4x4096x2048, .f32⟩
  | 4 => ⟨S4x1x6144, .f32⟩
  | 5 => ⟨S1024x1024, .f32⟩
  | 6 => ⟨S31x512, .f32⟩
  | 7 => ⟨S512, .f32⟩
  | 8 => ⟨S512, .f32⟩
  | 9 => ⟨S512, .f32⟩
  | 10 => ⟨S512x1024, .f32⟩
  | 11 => ⟨S1024x1024, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S4x1x1024, .f32⟩
  | 18 => ⟨S4x4096x1024, .f32⟩
  | 19 => ⟨S4x4096x1024, .f32⟩
  | 20 => ⟨S_, .i32⟩
  | 21 => ⟨S_, .f32⟩
  | 22 => ⟨S4x4126x512, .f32⟩
  | 23 => ⟨S4x4096x512, .f32⟩
  | 24 => ⟨S1x512, .f32⟩
  | 25 => ⟨S512, .f32⟩
  | 26 => ⟨S1x1x512, .f32⟩
  | 27 => ⟨S4x4096x512, .f32⟩
  | 28 => ⟨S4x4096x512, .f32⟩
  | 29 => ⟨S_, .f32⟩
  | 30 => ⟨S4x4096x512, .f32⟩
  | 31 => ⟨S4x4096x512, .f32⟩
  | 32 => ⟨S4x4096x512, .f32⟩
  | 33 => ⟨S1x512, .f32⟩
  | 34 => ⟨S512, .f32⟩
  | 35 => ⟨S1x1x512, .f32⟩
  | 36 => ⟨S4x4096x512, .f32⟩
  | 37 => ⟨S4x4096x512, .f32⟩
  | 38 => ⟨S4x4096x512, .f32⟩
  | 39 => ⟨S4x4096x512, .f32⟩
  | 40 => ⟨S1x512, .f32⟩
  | 41 => ⟨S512, .f32⟩
  | 42 => ⟨S1x1x512, .f32⟩
  | 43 => ⟨S4x4096x512, .f32⟩
  | 44 => ⟨S4x4096x512, .f32⟩
  | 45 => ⟨S4x4096x512, .f32⟩
  | 46 => ⟨S4x4096x512, .f32⟩
  | 47 => ⟨S1x512, .f32⟩
  | 48 => ⟨S512, .f32⟩
  | 49 => ⟨S1x1x512, .f32⟩
  | 50 => ⟨S4x4096x512, .f32⟩
  | 51 => ⟨S4x4096x512, .f32⟩
  | 52 => ⟨S4x4096x512, .f32⟩
  | 53 => ⟨S4x4096x512, .f32⟩
  | 54 => ⟨S1x512, .f32⟩
  | 55 => ⟨S512, .f32⟩
  | 56 => ⟨S1x1x512, .f32⟩
  | 57 => ⟨S4x4096x512, .f32⟩
  | 58 => ⟨S4x4096x512, .f32⟩
  | 59 => ⟨S4x4096x512, .f32⟩
  | 60 => ⟨S4x4096x512, .f32⟩
  | 61 => ⟨S1x512, .f32⟩
  | 62 => ⟨S512, .f32⟩
  | 63 => ⟨S1x1x512, .f32⟩
  | 64 => ⟨S4x4096x512, .f32⟩
  | 65 => ⟨S4x4096x512, .f32⟩
  | 66 => ⟨S4x4096x512, .f32⟩
  | 67 => ⟨S4x4096x512, .f32⟩
  | 68 => ⟨S1x512, .f32⟩
  | 69 => ⟨S512, .f32⟩
  | 70 => ⟨S1x1x512, .f32⟩
  | 71 => ⟨S4x4096x512, .f32⟩
  | 72 => ⟨S4x4096x512, .f32⟩
  | 73 => ⟨S4x4096x512, .f32⟩
  | 74 => ⟨S4x4096x512, .f32⟩
  | 75 => ⟨S1x512, .f32⟩
  | 76 => ⟨S512, .f32⟩
  | 77 => ⟨S1x1x512, .f32⟩
  | 78 => ⟨S4x4096x512, .f32⟩
  | 79 => ⟨S4x4096x512, .f32⟩
  | 80 => ⟨S4x4096x512, .f32⟩
  | 81 => ⟨S4x4096x512, .f32⟩
  | 82 => ⟨S1x512, .f32⟩
  | 83 => ⟨S512, .f32⟩
  | 84 => ⟨S1x1x512, .f32⟩
  | 85 => ⟨S4x4096x512, .f32⟩
  | 86 => ⟨S4x4096x512, .f32⟩
  | 87 => ⟨S4x4096x512, .f32⟩
  | 88 => ⟨S4x4096x512, .f32⟩
  | 89 => ⟨S1x512, .f32⟩
  | 90 => ⟨S512, .f32⟩
  | 91 => ⟨S1x1x512, .f32⟩
  | 92 => ⟨S4x4096x512, .f32⟩
  | 93 => ⟨S4x4096x512, .f32⟩
  | 94 => ⟨S4x4096x512, .f32⟩
  | 95 => ⟨S4x4096x512, .f32⟩
  | 96 => ⟨S1x512, .f32⟩
  | 97 => ⟨S512, .f32⟩
  | 98 => ⟨S1x1x512, .f32⟩
  | 99 => ⟨S4x4096x512, .f32⟩
  | 100 => ⟨S4x4096x512, .f32⟩
  | 101 => ⟨S4x4096x512, .f32⟩
  | 102 => ⟨S4x4096x512, .f32⟩
  | 103 => ⟨S1x512, .f32⟩
  | 104 => ⟨S512, .f32⟩
  | 105 => ⟨S1x1x512, .f32⟩
  | 106 => ⟨S4x4096x512, .f32⟩
  | 107 => ⟨S4x4096x512, .f32⟩
  | 108 => ⟨S4x4096x512, .f32⟩
  | 109 => ⟨S4x4096x512, .f32⟩
  | 110 => ⟨S1x512, .f32⟩
  | 111 => ⟨S512, .f32⟩
  | 112 => ⟨S1x1x512, .f32⟩
  | 113 => ⟨S4x4096x512, .f32⟩
  | 114 => ⟨S4x4096x512, .f32⟩
  | 115 => ⟨S4x4096x512, .f32⟩
  | 116 => ⟨S4x4096x512, .f32⟩
  | 117 => ⟨S1x512, .f32⟩
  | 118 => ⟨S512, .f32⟩
  | 119 => ⟨S1x1x512, .f32⟩
  | 120 => ⟨S4x4096x512, .f32⟩
  | 121 => ⟨S4x4096x512, .f32⟩
  | 122 => ⟨S4x4096x512, .f32⟩
  | 123 => ⟨S4x4096x512, .f32⟩
  | 124 => ⟨S1x512, .f32⟩
  | 125 => ⟨S512, .f32⟩
  | 126 => ⟨S1x1x512, .f32⟩
  | 127 => ⟨S4x4096x512, .f32⟩
  | _ => ⟨S4x4096x1024, .f32⟩

abbrev hbmTy0_1 (i : Nat) : BufTy := match i % 128 with
  | 0 => ⟨S4x4096x512, .f32⟩
  | 1 => ⟨S4x4096x512, .f32⟩
  | 2 => ⟨S4x4096x512, .f32⟩
  | 3 => ⟨S1x512, .f32⟩
  | 4 => ⟨S512, .f32⟩
  | 5 => ⟨S1x1x512, .f32⟩
  | 6 => ⟨S4x4096x512, .f32⟩
  | 7 => ⟨S4x4096x512, .f32⟩
  | 8 => ⟨S4x4096x512, .f32⟩
  | 9 => ⟨S4x4096x512, .f32⟩
  | 10 => ⟨S1x512, .f32⟩
  | 11 => ⟨S512, .f32⟩
  | 12 => ⟨S1x1x512, .f32⟩
  | 13 => ⟨S4x4096x512, .f32⟩
  | 14 => ⟨S4x4096x512, .f32⟩
  | 15 => ⟨S4x4096x512, .f32⟩
  | 16 => ⟨S4x4096x512, .f32⟩
  | 17 => ⟨S1x512, .f32⟩
  | 18 => ⟨S512, .f32⟩
  | 19 => ⟨S1x1x512, .f32⟩
  | 20 => ⟨S4x4096x512, .f32⟩
  | 21 => ⟨S4x4096x512, .f32⟩
  | 22 => ⟨S4x4096x512, .f32⟩
  | 23 => ⟨S4x4096x512, .f32⟩
  | 24 => ⟨S1x512, .f32⟩
  | 25 => ⟨S512, .f32⟩
  | 26 => ⟨S1x1x512, .f32⟩
  | 27 => ⟨S4x4096x512, .f32⟩
  | 28 => ⟨S4x4096x512, .f32⟩
  | 29 => ⟨S4x4096x512, .f32⟩
  | 30 => ⟨S4x4096x512, .f32⟩
  | 31 => ⟨S1x512, .f32⟩
  | 32 => ⟨S512, .f32⟩
  | 33 => ⟨S1x1x512, .f32⟩
  | 34 => ⟨S4x4096x512, .f32⟩
  | 35 => ⟨S4x4096x512, .f32⟩
  | 36 => ⟨S4x4096x512, .f32⟩
  | 37 => ⟨S4x4096x512, .f32⟩
  | 38 => ⟨S1x512, .f32⟩
  | 39 => ⟨S512, .f32⟩
  | 40 => ⟨S1x1x512, .f32⟩
  | 41 => ⟨S4x4096x512, .f32⟩
  | 42 => ⟨S4x4096x512, .f32⟩
  | 43 => ⟨S4x4096x512, .f32⟩
  | 44 => ⟨S4x4096x512, .f32⟩
  | 45 => ⟨S1x512, .f32⟩
  | 46 => ⟨S512, .f32⟩
  | 47 => ⟨S1x1x512, .f32⟩
  | 48 => ⟨S4x4096x512, .f32⟩
  | 49 => ⟨S4x4096x512, .f32⟩
  | 50 => ⟨S4x4096x512, .f32⟩
  | 51 => ⟨S4x4096x512, .f32⟩
  | 52 => ⟨S1x512, .f32⟩
  | 53 => ⟨S512, .f32⟩
  | 54 => ⟨S1x1x512, .f32⟩
  | 55 => ⟨S4x4096x512, .f32⟩
  | 56 => ⟨S4x4096x512, .f32⟩
  | 57 => ⟨S4x4096x512, .f32⟩
  | 58 => ⟨S4x4096x512, .f32⟩
  | 59 => ⟨S1x512, .f32⟩
  | 60 => ⟨S512, .f32⟩
  | 61 => ⟨S1x1x512, .f32⟩
  | 62 => ⟨S4x4096x512, .f32⟩
  | 63 => ⟨S4x4096x512, .f32⟩
  | 64 => ⟨S4x4096x512, .f32⟩
  | 65 => ⟨S4x4096x512, .f32⟩
  | 66 => ⟨S1x512, .f32⟩
  | 67 => ⟨S512, .f32⟩
  | 68 => ⟨S1x1x512, .f32⟩
  | 69 => ⟨S4x4096x512, .f32⟩
  | 70 => ⟨S4x4096x512, .f32⟩
  | 71 => ⟨S4x4096x512, .f32⟩
  | 72 => ⟨S4x4096x512, .f32⟩
  | 73 => ⟨S1x512, .f32⟩
  | 74 => ⟨S512, .f32⟩
  | 75 => ⟨S1x1x512, .f32⟩
  | 76 => ⟨S4x4096x512, .f32⟩
  | 77 => ⟨S4x4096x512, .f32⟩
  | 78 => ⟨S4x4096x512, .f32⟩
  | 79 => ⟨S4x4096x512, .f32⟩
  | 80 => ⟨S1x512, .f32⟩
  | 81 => ⟨S512, .f32⟩
  | 82 => ⟨S1x1x512, .f32⟩
  | 83 => ⟨S4x4096x512, .f32⟩
  | 84 => ⟨S4x4096x512, .f32⟩
  | 85 => ⟨S4x4096x512, .f32⟩
  | 86 => ⟨S4x4096x512, .f32⟩
  | 87 => ⟨S1x512, .f32⟩
  | 88 => ⟨S512, .f32⟩
  | 89 => ⟨S1x1x512, .f32⟩
  | 90 => ⟨S4x4096x512, .f32⟩
  | 91 => ⟨S4x4096x512, .f32⟩
  | 92 => ⟨S4x4096x512, .f32⟩
  | 93 => ⟨S4x4096x512, .f32⟩
  | 94 => ⟨S1x512, .f32⟩
  | 95 => ⟨S512, .f32⟩
  | 96 => ⟨S1x1x512, .f32⟩
  | 97 => ⟨S4x4096x512, .f32⟩
  | 98 => ⟨S4x4096x512, .f32⟩
  | 99 => ⟨S4x4096x512, .f32⟩
  | 100 => ⟨S4x4096x512, .f32⟩
  | 101 => ⟨S1x512, .f32⟩
  | 102 => ⟨S512, .f32⟩
  | 103 => ⟨S1x1x512, .f32⟩
  | 104 => ⟨S4x4096x512, .f32⟩
  | 105 => ⟨S4x4096x512, .f32⟩
  | 106 => ⟨S4x4096x512, .f32⟩
  | 107 => ⟨S4x4096x512, .f32⟩
  | 108 => ⟨S1x512, .f32⟩
  | 109 => ⟨S512, .f32⟩
  | 110 => ⟨S1x1x512, .f32⟩
  | 111 => ⟨S4x4096x512, .f32⟩
  | 112 => ⟨S4x4096x512, .f32⟩
  | 113 => ⟨S4x4096x512, .f32⟩
  | 114 => ⟨S1x1x512, .f32⟩
  | 115 => ⟨S4x4096x512, .f32⟩
  | 116 => ⟨S4x4096x512, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S4x4096x512, .f32⟩
  | 124 => ⟨S4x4096x512, .f32⟩
  | 125 => ⟨S4x4096x512, .f32⟩
  | 126 => ⟨S_, .f32⟩
  | 127 => ⟨S4x4096, .f32⟩
  | _ => ⟨S4x4096x1024, .f32⟩

abbrev hbmTy0_2 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S4x4096x512, .f32⟩
  | 5 => ⟨S4x4096x512, .f32⟩
  | 6 => ⟨S_, .f32⟩
  | 7 => ⟨S4x4096x1, .f32⟩
  | 8 => ⟨S4x4096x1, .f32⟩
  | 9 => ⟨S4x4096x1, .f32⟩
  | 10 => ⟨S4x4096x512, .f32⟩
  | 11 => ⟨S4x4096x512, .f32⟩
  | 12 => ⟨S1x1x512, .f32⟩
  | 13 => ⟨S4x4096x512, .f32⟩
  | 14 => ⟨S4x4096x512, .f32⟩
  | 15 => ⟨S1x1x512, .f32⟩
  | 16 => ⟨S4x4096x512, .f32⟩
  | 17 => ⟨S4x4096x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S_, .f32⟩
  | 24 => ⟨S4x4096x512, .f32⟩
  | 25 => ⟨S4x4096x512, .f32⟩
  | 26 => ⟨S4x4096x512, .f32⟩
  | 27 => ⟨S4x4096x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S4x4096x1024, .f32⟩
  | 37 => ⟨S16384x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_cst_0 : Ref sig .tc := ⟨.hbm, 245, rfl⟩
abbrev main_v230 : Ref sig .tc := ⟨.hbm, 246, rfl⟩
abbrev main_v231 : Ref sig .tc := ⟨.hbm, 247, rfl⟩
abbrev main_cst_1 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_cst_2 : Ref sig .tc := ⟨.hbm, 254, rfl⟩
abbrev main_v237 : Ref sig .tc := ⟨.hbm, 255, rfl⟩
abbrev main_v238 : Ref sig .tc := ⟨.hbm, 256, rfl⟩
abbrev main_cst_3 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_cst_4 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_call1_v0 : Ref sig .tc := ⟨.hbm, 274, rfl⟩
abbrev main_call1_v1 : Ref sig .tc := ⟨.hbm, 275, rfl⟩
abbrev main_call1_cst : Ref sig .tc := ⟨.hbm, 276, rfl⟩
abbrev main_call1_v2 : Ref sig .tc := ⟨.hbm, 277, rfl⟩
abbrev main_call1_v3 : Ref sig .tc := ⟨.hbm, 278, rfl⟩
abbrev main_call1_cst_0 : Ref sig .tc := ⟨.hbm, 279, rfl⟩
abbrev main_call1_v4 : Ref sig .tc := ⟨.hbm, 280, rfl⟩
abbrev main_call1_v5 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩

abbrev nD : Nat := 1
abbrev τ : Topo := Topo.v7x

variable {F : FTy → Type} [FloatOps F]
-- ==== Modulation.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S4x1x1x6144 : Shape := ⟨4, ![4, 1, 1, 6144]⟩
abbrev S4x4x6144 : Shape := ⟨3, ![4, 4, 6144]⟩
abbrev S4x4x1x6144 : Shape := ⟨4, ![4, 4, 1, 6144]⟩

abbrev nBuf : Space → Nat
  | .hbm => 18
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x6144, .f32⟩
  | .hbm, ⟨13, _⟩ => ⟨S4x8x6144, .f32⟩
  | .hbm, ⟨14, _⟩ => ⟨S4x1x6144, .f32⟩
  | .hbm, ⟨15, _⟩ => ⟨S4x1x1x6144, .f32⟩
  | .hbm, ⟨16, _⟩ => ⟨S4x4x6144, .f32⟩
  | .hbm, ⟨17, _⟩ => ⟨S4x4x1x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1x1024 : Shape := ⟨3, ![1, 1, 1024]⟩
abbrev S_ : Shape := ⟨0, ![]⟩
abbrev S1x1024x6144 : Shape := ⟨3, ![1, 1024, 6144]⟩
abbrev S1024x6144 : Shape := ⟨2, ![1024, 6144]⟩
abbrev S1x1x6144 : Shape := ⟨3, ![1, 1, 6144]⟩
abbrev S1x6144 : Shape := ⟨2, ![1, 6144]⟩
abbrev S6144 : Shape := ⟨1, ![6144]⟩
abbrev S1x1x1x6144 : Shape := ⟨4, ![1, 1, 1, 6144]⟩
abbrev S4x1x1x6144 : Shape := ⟨4, ![4, 1, 1, 6144]⟩
abbrev S4x1x1024 : Shape := ⟨3, ![4, 1, 1024]⟩
abbrev S4x1x6144 : Shape := ⟨3, ![4, 1, 6144]⟩
abbrev S1x4x1x6144 : Shape := ⟨4, ![1, 4, 1, 6144]⟩
abbrev S4x4x1x6144 : Shape := ⟨4, ![4, 4, 1, 6144]⟩

abbrev nBuf : Space → Nat
  | .hbm => 154
  | .vmem => 0
  | .smem => 0
  | _ => 0

abbrev hbmTy0_0 (i : Nat) : BufTy := match i % 128 with
  | 0 => ⟨S4x1024, .f32⟩
  | 1 => ⟨S1024, .f32⟩
  | 2 => ⟨S4x1024x6144, .f32⟩
  | 3 => ⟨S4x6144, .f32⟩
  | 4 => ⟨S1x1x1024, .f32⟩
  | 5 => ⟨S1x1x1024, .f32⟩
  | 6 => ⟨S1x1x1024, .f32⟩
  | 7 => ⟨S_, .f32⟩
  | 8 => ⟨S1x1x1024, .f32⟩
  | 9 => ⟨S1x1x1024, .f32⟩
  | 10 => ⟨S_, .f32⟩
  | 11 => ⟨S1x1x1024, .f32⟩
  | 12 => ⟨S1x1x1024, .f32⟩
  | 13 => ⟨S1x1x1024, .f32⟩
  | 14 => ⟨S1x1024x6144, .f32⟩
  | 15 => ⟨S1024x6144, .f32⟩
  | 16 => ⟨S1x1x6144, .f32⟩
  | 17 => ⟨S1x6144, .f32⟩
  | 18 => ⟨S6144, .f32⟩
  | 19 => ⟨S1x1x6144, .f32⟩
  | 20 => ⟨S1x1x6144, .f32⟩
  | 21 => ⟨S1x1x1024, .f32⟩
  | 22 => ⟨S1x1x1024, .f32⟩
  | 23 => ⟨S1x1x1024, .f32⟩
  | 24 => ⟨S_, .f32⟩
  | 25 => ⟨S1x1x1024, .f32⟩
  | 26 => ⟨S1x1x1024, .f32⟩
  | 27 => ⟨S_, .f32⟩
  | 28 => ⟨S1x1x1024, .f32⟩
  | 29 => ⟨S1x1x1024, .f32⟩
  | 30 => ⟨S1x1x1024, .f32⟩
  | 31 => ⟨S1x1024x6144, .f32⟩
  | 32 => ⟨S1024x6144, .f32⟩
  | 33 => ⟨S1x1x6144, .f32⟩
  | 34 => ⟨S1x6144, .f32⟩
  | 35 => ⟨S6144, .f32⟩
  | 36 => ⟨S1x1x6144, .f32⟩
  | 37 => ⟨S1x1x6144, .f32⟩
  | 38 => ⟨S1x1x1024, .f32⟩
  | 39 => ⟨S1x1x1024, .f32⟩
  | 40 => ⟨S1x1x1024, .f32⟩
  | 41 => ⟨S_, .f32⟩
  | 42 => ⟨S1x1x1024, .f32⟩
  | 43 => ⟨S1x1x1024, .f32⟩
  | 44 => ⟨S_, .f32⟩
  | 45 => ⟨S1x1x1024, .f32⟩
  | 46 => ⟨S1x1x1024, .f32⟩
  | 47 => ⟨S1x1x1024, .f32⟩
  | 48 => ⟨S1x1024x6144, .f32⟩
  | 49 => ⟨S1024x6144, .f32⟩
  | 50 => ⟨S1x1x6144, .f32⟩
  | 51 => ⟨S1x6144, .f32⟩
  | 52 => ⟨S6144, .f32⟩
  | 53 => ⟨S1x1x6144, .f32⟩
  | 54 => ⟨S1x1x6144, .f32⟩
  | 55 => ⟨S1x1x1024, .f32⟩
  | 56 => ⟨S1x1x1024, .f32⟩
  | 57 => ⟨S1x1x1024, .f32⟩
  | 58 => ⟨S_, .f32⟩
  | 59 => ⟨S1x1x1024, .f32⟩
  | 60 => ⟨S1x1x1024, .f32⟩
  | 61 => ⟨S_, .f32⟩
  | 62 => ⟨S1x1x1024, .f32⟩
  | 63 => ⟨S1x1x1024, .f32⟩
  | 64 => ⟨S1x1x1024, .f32⟩
  | 65 => ⟨S1x1024x6144, .f32⟩
  | 66 => ⟨S1024x6144, .f32⟩
  | 67 => ⟨S1x1x6144, .f32⟩
  | 68 => ⟨S1x6144, .f32⟩
  | 69 => ⟨S6144, .f32⟩
  | 70 => ⟨S1x1x6144, .f32⟩
  | 71 => ⟨S1x1x6144, .f32⟩
  | 72 => ⟨S1x1x1x6144, .f32⟩
  | 73 => ⟨S1x1x1x6144, .f32⟩
  | 74 => ⟨S1x1x1x6144, .f32⟩
  | 75 => ⟨S1x1x1x6144, .f32⟩
  | 76 => ⟨S4x1x1x6144, .f32⟩
  | 77 => ⟨S4x1x1024, .f32⟩
  | 78 => ⟨S4x1x1024, .f32⟩
  | 79 => ⟨S4x1x1024, .f32⟩
  | 80 => ⟨S_, .f32⟩
  | 81 => ⟨S4x1x1024, .f32⟩
  | 82 => ⟨S4x1x1024, .f32⟩
  | 83 => ⟨S_, .f32⟩
  | 84 => ⟨S4x1x1024, .f32⟩
  | 85 => ⟨S4x1x1024, .f32⟩
  | 86 => ⟨S4x1x1024, .f32⟩
  | 87 => ⟨S1x1024x6144, .f32⟩
  | 88 => ⟨S1024x6144, .f32⟩
  | 89 => ⟨S4x1x6144, .f32⟩
  | 90 => ⟨S1x6144, .f32⟩
  | 91 => ⟨S6144, .f32⟩
  | 92 => ⟨S1x1x6144, .f32⟩
  | 93 => ⟨S4x1x6144, .f32⟩
  | 94 => ⟨S4x1x6144, .f32⟩
  | 95 => ⟨S4x1x1024, .f32⟩
  | 96 => ⟨S4x1x1024, .f32⟩
  | 97 => ⟨S4x1x1024, .f32⟩
  | 98 => ⟨S_, .f32⟩
  | 99 => ⟨S4x1x1024, .f32⟩
  | 100 => ⟨S4x1x1024, .f32⟩
  | 101 => ⟨S_, .f32⟩
  | 102 => ⟨S4x1x1024, .f32⟩
  | 103 => ⟨S4x1x1024, .f32⟩
  | 104 => ⟨S4x1x1024, .f32⟩
  | 105 => ⟨S1x1024x6144, .f32⟩
  | 106 => ⟨S1024x6144, .f32⟩
  | 107 => ⟨S4x1x6144, .f32⟩
  | 108 => ⟨S1x6144, .f32⟩
  | 109 => ⟨S6144, .f32⟩
  | 110 => ⟨S1x1x6144, .f32⟩
  | 111 => ⟨S4x1x6144, .f32⟩
  | 112 => ⟨S4x1x6144, .f32⟩
  | 113 => ⟨S4x1x1024, .f32⟩
  | 114 => ⟨S4x1x1024, .f32⟩
  | 115 => ⟨S4x1x1024, .f32⟩
  | 116 => ⟨S_, .f32⟩
  | 117 => ⟨S4x1x1024, .f32⟩
  | 118 => ⟨S4x1x1024, .f32⟩
  | 119 => ⟨S_, .f32⟩
  | 120 => ⟨S4x1x1024, .f32⟩
  | 121 => ⟨S4x1x1024, .f32⟩
  | 122 => ⟨S4x1x1024, .f32⟩
  | 123 => ⟨S1x1024x6144, .f32⟩
  | 124 => ⟨S1024x6144, .f32⟩
  | 125 => ⟨S4x1x6144, .f32⟩
  | 126 => ⟨S1x6144, .f32⟩
  | 127 => ⟨S6144, .f32⟩
  | _ => ⟨S4x1024, .f32⟩

abbrev hbmTy0_1 (i : Nat) : BufTy := match i % 128 with
  | 0 => ⟨S1x1x6144, .f32⟩
  | 1 => ⟨S4x1x6144, .f32⟩
  | 2 => ⟨S4x1x6144, .f32⟩
  | 3 => ⟨S4x1x1024, .f32⟩
  | 4 => ⟨S4x1x1024, .f32⟩
  | 5 => ⟨S4x1x1024, .f32⟩
  | 6 => ⟨S_, .f32⟩
  | 7 => ⟨S4x1x1024, .f32⟩
  | 8 => ⟨S4x1x1024, .f32⟩
  | 9 => ⟨S_, .f32⟩
  | 10 => ⟨S4x1x1024, .f32⟩
  | 11 => ⟨S4x1x1024, .f32⟩
  | 12 => ⟨S4x1x1024, .f32⟩
  | 13 => ⟨S1x1024x6144, .f32⟩
  | 14 => ⟨S1024x6144, .f32⟩
  | 15 => ⟨S4x1x6144, .f32⟩
  | 16 => ⟨S1x6144, .f32⟩
  | 17 => ⟨S6144, .f32⟩
  | 18 => ⟨S1x1x6144, .f32⟩
  | 19 => ⟨S4x1x6144, .f32⟩
  | 20 => ⟨S4x1x6144, .f32⟩
  | 21 => ⟨S1x4x1x6144, .f32⟩
  | 22 => ⟨S1x4x1x6144, .f32⟩
  | 23 => ⟨S1x4x1x6144, .f32⟩
  | 24 => ⟨S1x4x1x6144, .f32⟩
  | 25 => ⟨S4x4x1x6144, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_v1 : Ref sig .tc := ⟨.hbm, 57, rfl⟩
abbrev main_call3_cst : Ref sig .tc := ⟨.hbm, 58, rfl⟩
abbrev main_call3_v2 : Ref sig .tc := ⟨.hbm, 59, rfl⟩
abbrev main_call3_v3 : Ref sig .tc := ⟨.hbm, 60, rfl⟩
abbrev main_call3_cst_0 : Ref sig .tc := ⟨.hbm, 61, rfl⟩
abbrev main_call3_v4 : Ref sig .tc := ⟨.hbm, 62, rfl⟩
abbrev main_call3_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_call5_v0 : Ref sig .tc := ⟨.hbm, 96, rfl⟩
abbrev main_call5_v1 : Ref sig .tc := ⟨.hbm, 97, rfl⟩
abbrev main_call5_cst : Ref sig .tc := ⟨.hbm, 98, rfl⟩
abbrev main_call5_v2 : Ref sig .tc := ⟨.hbm, 99, rfl⟩
abbrev main_call5_v3 : Ref sig .tc := ⟨.hbm, 100, rfl⟩
abbrev main_call5_cst_0 : Ref sig .tc := ⟨.hbm, 101, rfl⟩
abbrev main_call5_v4 : Ref sig .tc := ⟨.hbm, 102, rfl⟩
abbrev main_call5_v5 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_call6_v0 : Ref sig .tc := ⟨.hbm, 114, rfl⟩
abbrev main_call6_v1 : Ref sig .tc := ⟨.hbm, 115, rfl⟩
abbrev main_call6_cst : Ref sig .tc := ⟨.hbm, 116, rfl⟩
abbrev main_call6_v2 : Ref sig .tc := ⟨.hbm, 117, rfl⟩
abbrev main_call6_v3 : Ref sig .tc := ⟨.hbm, 118, rfl⟩
abbrev main_call6_cst_0 : Ref sig .tc := ⟨.hbm, 119, rfl⟩
abbrev main_call6_v4 : Ref sig .tc := ⟨.hbm, 120, rfl⟩
abbrev main_call6_v5 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call7_v0 : Ref sig .tc := ⟨.hbm, 132, rfl⟩
abbrev main_call7_v1 : Ref sig .tc := ⟨.hbm, 133, rfl⟩
abbrev main_call7_cst : Ref sig .tc := ⟨.hbm, 134, rfl⟩
abbrev main_call7_v2 : Ref sig .tc := ⟨.hbm, 135, rfl⟩
abbrev main_call7_v3 : Ref sig .tc := ⟨.hbm, 136, rfl⟩
abbrev main_call7_cst_0 : Ref sig .tc := ⟨.hbm, 137, rfl⟩
abbrev main_call7_v4 : Ref sig .tc := ⟨.hbm, 138, rfl⟩
abbrev main_call7_v5 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩

abbrev nD : Nat := 1
abbrev τ : Topo := Topo.v7x

variable {F : FTy → Type} [FloatOps F]
-- ==== CacheLayout.lean ====
abbrev S4x4x512x4x64 : Shape := ⟨5, ![4, 4, 512, 4, 64]⟩
abbrev S4x4x512x256 : Shape := ⟨4, ![4, 4, 512, 256]⟩
abbrev S4x4x4x512x64 : Shape := ⟨5, ![4, 4, 4, 512, 64]⟩
abbrev S4x4x4x2x80x256 : Shape := ⟨6, ![4, 4, 4, 2, 80, 256]⟩
abbrev S1x1x512x256 : Shape := ⟨4, ![1, 1, 512, 256]⟩
abbrev S1x1x4x512x64 : Shape := ⟨5, ![1, 1, 4, 512, 64]⟩
abbrev S1x1x4x2x80x256 : Shape := ⟨6, ![1, 1, 4, 2, 80, 256]⟩
abbrev S512x256 : Shape := ⟨2, ![512, 256]⟩
abbrev S256x512 : Shape := ⟨2, ![256, 512]⟩
abbrev S16x256 : Shape := ⟨2, ![16, 256]⟩
abbrev S512x64 : Shape := ⟨2, ![512, 64]⟩
abbrev S1x1x1x512x64 : Shape := ⟨5, ![1, 1, 1, 512, 64]⟩
abbrev S64x256 : Shape := ⟨2, ![64, 256]⟩
abbrev S1x1x1x1x64x256 : Shape := ⟨6, ![1, 1, 1, 1, 64, 256]⟩
abbrev S1x1x1x1x16x256 : Shape := ⟨6, ![1, 1, 1, 1, 16, 256]⟩

abbrev nBuf : Space → Nat
  | .hbm => 6
  | .vmem => 8
  | .smem => 0
  | _ => 0

abbrev bufTy : (tb : Table) → Fin (tcTables nBuf tb) → BufTy
  | .hbm, ⟨0, _⟩ => ⟨S4x4x512x4x64, .f32⟩
  | .hbm, ⟨1, _⟩ => ⟨S4x4x512x4x64, .f32⟩
  | .hbm, ⟨2, _⟩ => ⟨S4x4x512x256, .f32⟩
  | .hbm, ⟨3, _⟩ => ⟨S4x4x512x256, .f32⟩
  | .hbm, ⟨4, _⟩ => ⟨S4x4x4x512x64, .bf16⟩
  | .hbm, ⟨5, _⟩ => ⟨S4x4x4x2x80x256, .bf16⟩
  | .local _ .vmem, ⟨0, _⟩ => ⟨S1x1x512x256, .f32⟩
  | .local _ .vmem, ⟨1, _⟩ => ⟨S1x1x512x256, .f32⟩
  | .local _ .vmem, ⟨2, _⟩ => ⟨S1x1x512x256, .f32⟩
  | .local _ .vmem, ⟨3, _⟩ => ⟨S1x1x512x256, .f32⟩
  | .local _ .vmem, ⟨4, _⟩ => ⟨S1x1x4x512x64, .bf16⟩
  | .local _ .vmem, ⟨5, _⟩ => ⟨S1x1x4x512x64, .bf16⟩
  | .local _ .vmem, ⟨6, _⟩ => ⟨S1x1x4x2x80x256, .bf16⟩
  | .local _ .vmem, ⟨7, _⟩ => ⟨S1x1x4x2x80x256, .bf16⟩
  | _, _ => ⟨S4x4x512x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x2x80x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CacheLayoutReferenceIdeal.lean ====
abbrev S4x4x512x4x64 : Shape := ⟨5, ![4, 4, 512, 4, 64]⟩
abbrev S4x4x2x256x4x64 : Shape := ⟨6, ![4, 4, 2, 256, 4, 64]⟩
abbrev S4x4x4x2x64x256 : Shape := ⟨6, ![4, 4, 4, 2, 64, 256]⟩
abbrev S_ : Shape := ⟨0, ![]⟩
abbrev S4x4x4x2x16x256 : Shape := ⟨6, ![4, 4, 4, 2, 16, 256]⟩
abbrev S4x4x4x2x80x256 : Shape := ⟨6, ![4, 4, 4, 2, 80, 256]⟩
abbrev S4x4x4x512x64 : Shape := ⟨5, ![4, 4, 4, 512, 64]⟩

abbrev nBuf : Space → Nat
  | .hbm => 10
  | .vmem => 0
  | .smem => 0
  | _ => 0

abbrev bufTy : (tb : Table) → Fin (tcTables nBuf tb) → BufTy
  | .hbm, ⟨0, _⟩ => ⟨S4x4x512x4x64, .f32⟩
  | .hbm, ⟨1, _⟩ => ⟨S4x4x512x4x64, .f32⟩
  | .hbm, ⟨2, _⟩ => ⟨S4x4x2x256x4x64, .f32⟩
  | .hbm, ⟨3, _⟩ => ⟨S4x4x4x2x64x256, .f32⟩
  | .hbm, ⟨4, _⟩ => ⟨S_, .f32⟩
  | .hbm, ⟨5, _⟩ => ⟨S4x4x4x2x16x256, .f32⟩
  | .hbm, ⟨6, _⟩ => ⟨S4x4x4x2x80x256, .f32⟩
  | .hbm, ⟨7, _⟩ => ⟨S4x4x4x512x64, .f32⟩
  | .hbm, ⟨8, _⟩ => ⟨S4x4x4x512x64, .bf16⟩
  | .hbm, ⟨9, _⟩ => ⟨S4x4x4x2x80x256, .bf16⟩
  | _, _ => ⟨S4x4x512x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Soft.lean ====
/-
  Softmax attention over the extended reals, one output element at a time: real scores, values that may be infinite.
  The weights of one row are positive reals whatever the values are, so a value's weighted sum may be rescaled freely.
-/
module

public import Idealize.ShloMosaic.PureOps.Ideal
public import Idealize.ShloMosaic.PureOps.Ideal.Laws

@[expose] public section

noncomputable section

namespace Cert.Soft

open Idealize.ShloMosaic

/-- A nonnegative real distributes over a finite sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A maximum of real scores, taken from `-∞`, is real. -/
theorem fold_max_real {ι : Type*} (s : Finset ι) (hs : s.Nonempty) (f : ι → EReal) (hf : ∀ i ∈ s, ∃ r : ℝ, f i = r) :
    ∃ r : ℝ, s.fold max ⊥ f = r := by
  classical
  induction hs using Finset.Nonempty.cons_induction with
  | singleton a =>
    obtain ⟨r, h⟩ := hf a (Finset.mem_singleton_self a)
    exact ⟨r, by rw [Finset.fold_singleton, h]; exact max_bot_right _⟩
  | cons a s ha hs ih =>
    obtain ⟨r, h⟩ := hf a (Finset.mem_cons_self a s)
    obtain ⟨r', h'⟩ := ih fun i hi => hf i (Finset.mem_cons_of_mem hi)
    refine ⟨max r r', ?_⟩
    rw [Finset.fold_cons, h, h']
    exact (EReal.coe_strictMono.monotone.map_max (a := r) (b := r')).symm

/-- What the running sum of one output row holds once `n` keys are seen, the scores shifted down by `r`. -/
def part (s : ℕ → ℝ) (v : ℕ → EReal) (n : ℕ) (r : ℝ) : EReal :=
  ∑ k ∈ Finset.range n, v k * ((Real.rpow 2 (s k - r) : ℝ) : EReal)

theorem two_rpow_pos (x : ℝ) : 0 < Real.rpow 2 x := Real.rpow_pos_of_pos (by norm_num) x

/-- Moving the shift from `r` to `r'` multiplies the running sum by `2 ^ (r - r')`. -/
theorem part_shift (s : ℕ → ℝ) (v : ℕ → EReal) (n : ℕ) (r r' : ℝ) :
    ((Real.rpow 2 (r - r') : ℝ) : EReal) * part s v n r = part s v n r' := by
  unfold part
  rw [coe_mul_sum _ _ (two_rpow_pos _).le]
  refine Finset.sum_congr rfl fun k _ => ?_
  rw [mul_left_comm, ← EReal.coe_mul]
  congr 2
  have h := Real.rpow_add (show (0:ℝ) < 2 by norm_num) (r - r') (s k - r)
  rw [show r - r' + (s k - r) = s k - r' by ring] at h
  exact h.symm

/-- One block of `B` keys added to the running sum. -/
theorem part_step (s : ℕ → ℝ) (v : ℕ → EReal) (n B : ℕ) (r r' : ℝ) :
    ((Real.rpow 2 (r - r') : ℝ) : EReal) * part s v n r
      + ∑ k : Fin B, v (n + k) * ((Real.rpow 2 (s (n + k) - r') : ℝ) : EReal) = part s v (n + B) r' := by
  rw [part_shift]
  unfold part
  rw [Finset.sum_range_add, Finset.sum_range (fun x => v (n + x) * ((Real.rpow 2 (s (n + x) - r') : ℝ) : EReal))]

/-- One row of softmax attention: the values weighted by the softmax of the scores `t`. -/
def soft (t : ℕ → ℝ) (v : ℕ → EReal) (n : ℕ) : EReal :=
  ∑ k ∈ Finset.range n, v k * ((Real.exp (t k) / ∑ j ∈ Finset.range n, Real.exp (t j) : ℝ) : EReal)

theorem sum_exp_pos (t : ℕ → ℝ) (n : ℕ) (hn : 0 < n) : 0 < ∑ j ∈ Finset.range n, Real.exp (t j) :=
  Finset.sum_pos (fun _ _ => Real.exp_pos _) ⟨0, Finset.mem_range.mpr hn⟩

theorem two_rpow_eq (x r : ℝ) (t : ℝ) (h : x * Real.log 2 = t) : Real.rpow 2 (x - r) = Real.exp t * Real.exp (-(r * Real.log 2)) := by
  have : Real.rpow 2 (x - r) = Real.exp (Real.log 2 * (x - r)) := Real.rpow_def_of_pos (by norm_num) _
  rw [this, ← Real.exp_add, ← h]; congr 1; ring

/-- The running sum of weighted values over that of the bare weights is the softmax row, whatever the shift:
    the scores `s` are the reference's scores `t` in base two. -/
theorem part_div (s t : ℕ → ℝ) (hst : ∀ k, s k * Real.log 2 = t k) (v : ℕ → EReal) (n : ℕ) (hn : 0 < n) (r : ℝ) :
    Ideal.div (part s v n r) (part s (fun _ => 1) n r) = soft t v n := by
  have hS := sum_exp_pos t n hn
  have hL : part s (fun _ => 1) n r = (((∑ j ∈ Finset.range n, Real.exp (t j)) * Real.exp (-(r * Real.log 2)) : ℝ) : EReal) := by
    unfold part
    rw [Finset.sum_mul, ← sum_coe]
    refine Finset.sum_congr rfl fun k _ => ?_
    rw [one_mul, two_rpow_eq _ _ _ (hst k)]
  have hpos : 0 < (∑ j ∈ Finset.range n, Real.exp (t j)) * Real.exp (-(r * Real.log 2)) := mul_pos hS (Real.exp_pos _)
  rw [hL]
  unfold Ideal.div
  rw [if_neg (by exact_mod_cast hpos.ne'), ← EReal.coe_inv, mul_comm, part, coe_mul_sum _ _ (inv_nonneg.mpr hpos.le), soft]
  refine Finset.sum_congr rfl fun k _ => ?_
  rw [mul_left_comm, ← EReal.coe_mul, two_rpow_eq _ _ _ (hst k)]
  congr 2
  have := (Real.exp_pos (-(r * Real.log 2))).ne'
  field_simp

/-- The reference's row: weights `e ^ (t k - T)` over their sum, from the row's maximum `T`. -/
theorem soft_of_shift (t : ℕ → ℝ) (v : ℕ → EReal) (n : ℕ) (hn : 0 < n) (T : ℝ) :
    ∑ k ∈ Finset.range n, v k * Ideal.div ((Real.exp (t k - T) : ℝ) : EReal) ((∑ j ∈ Finset.range n, Real.exp (t j - T) : ℝ) : EReal)
      = soft t v n := by
  unfold soft
  have hS := sum_exp_pos (fun j => t j - T) n hn
  refine Finset.sum_congr rfl fun k _ => ?_
  congr 1
  unfold Ideal.div
  rw [if_neg (by exact_mod_cast hS.ne'), ← EReal.coe_inv, ← EReal.coe_mul]
  congr 1
  have hE := sum_exp_pos t n hn
  have e : ∀ j, Real.exp (t j - T) = Real.exp (t j) * Real.exp (-T) := fun j => by rw [← Real.exp_add]; rfl
  simp only [e, ← Finset.sum_mul]
  have := (Real.exp_pos (-T)).ne'
  field_simp

end Cert.Soft

end
-- ==== Proof.Spec.lean ====
/-
  What both attention programs compute at an element: the softmax of the scaled products of a query with the 512 earlier
  keys and the 4096 keys of its key head, taken of the values in the same order.
-/
module

public import proofs.«01_k».proof.Proof.Soft

@[expose] public section

noncomputable section

namespace Cert.Soft

/-- Row `κ` of the earlier array followed by the later one. -/
def joined {α : Type} [Zero α] (x : Fin 4 → Fin 4096 → Fin 4 → Fin 64 → α) (cx : Fin 4 → Fin 512 → Fin 4 → Fin 64 → α) (b g : Fin 4) (κ : ℕ) (e : Fin 64) : α :=
  if h : κ < 512 then cx b ⟨κ, h⟩ g e else if h' : κ - 512 < 4096 then x b ⟨κ - 512, h'⟩ g e else 0

theorem joined_ctx {α : Type} [Zero α] (x : Fin 4 → Fin 4096 → Fin 4 → Fin 64 → α) (cx : Fin 4 → Fin 512 → Fin 4 → Fin 64 → α) (b g : Fin 4) (κ : Fin 512) (e : Fin 64) :
    joined x cx b g κ.val e = cx b κ g e := dif_pos κ.isLt

theorem joined_self {α : Type} [Zero α] (x : Fin 4 → Fin 4096 → Fin 4 → Fin 64 → α) (cx : Fin 4 → Fin 512 → Fin 4 → Fin 64 → α) (b g : Fin 4) (κ : ℕ) (hκ : κ < 4096) (e : Fin 64) :
    joined x cx b g (512 + κ) e = x b ⟨κ, hκ⟩ g e := by
  unfold joined
  rw [dif_neg (by omega), dif_pos (by omega)]
  exact congrArg (fun i => x b i g e) (Fin.ext (by show 512 + κ - 512 = κ; omega))

/-- A query's scores. -/
def scores (qr : Fin 4 → Fin 4096 → Fin 16 → Fin 64 → ℝ) (kr : Fin 4 → Fin 4096 → Fin 4 → Fin 64 → ℝ) (ckr : Fin 4 → Fin 512 → Fin 4 → Fin 64 → ℝ)
    (b : Fin 4) (h : Fin 16) (n : Fin 4096) (κ : ℕ) : ℝ :=
  (∑ e, joined kr ckr b ⟨h.val / 4, by omega⟩ κ e * qr b n h e) / 8

/-- The attention's result at batch `b`, head `h`, feature `d`, query `n`. -/
def attn (qr : Fin 4 → Fin 4096 → Fin 16 → Fin 64 → ℝ) (kr : Fin 4 → Fin 4096 → Fin 4 → Fin 64 → ℝ) (ckr : Fin 4 → Fin 512 → Fin 4 → Fin 64 → ℝ)
    (v : Fin 4 → Fin 4096 → Fin 4 → Fin 64 → EReal) (cv : Fin 4 → Fin 512 → Fin 4 → Fin 64 → EReal)
    (b : Fin 4) (h : Fin 16) (d : Fin 64) (n : Fin 4096) : EReal :=
  soft (scores qr kr ckr b h n) (fun κ => joined v cv b ⟨h.val / 4, by omega⟩ κ d) 4608

end Cert.Soft

end
-- ==== Proof.Block.lean ====
/-
  One grid point of the attention kernel: what its body leaves in the result's block, at an element.
  The body visits the 18 blocks of 256 keys in turn. `Seen S V j m a` says what the running maximum `m` and the running
  sums `a` are after `j` blocks; one step lemma takes it from `j` to `j + 1`, and the printed body is 18 such steps.
-/
module

public import proofs.«01_k».proof.Proof.Soft
public import proofs.«01_k».proof.Proof.Gen.KernelIdeal.Frame
public import Idealize.ShloMosaic.Lib.Pipeline.Value
public import Idealize.ShloMosaic.Lib.Pointwise

@[expose] public section

noncomputable section

namespace Cert.KernelIdeal.Attn

open Cert.KernelIdeal Cert.KernelIdeal.Gen Idealize.ShloMosaic Cert.Soft

section Printed
variable {F : FTy → Type} [FloatOps F]

/-- The running sums after one more block of keys. -/
def nextA (q : FVec F S64x4096 .bf16) (m : FVec F S1x4096 .f32) (a : FVec F S80x4096 .f32) (kb : FVec F S256x64 .bf16)
    (vb : Vec F S1x1x1x80x256 .bf16) : FVec F S80x4096 .f32 :=
  addf (mulf (broadcastTo S80x4096 (exp2 (subf m (k0_pay8 q m kb))) broadcasts_S1x4096_S80x4096) a)
    (matmul dot_S80x256_S256x4096_S80x4096_1_0_0_1_n_n none (shapeCast S80x256 vb shapeCasts_S1x1x1x80x256_S80x256)
      (truncf .bf16 (exp2 (subf (k0_pay7 q kb) (broadcastTo S256x4096 (k0_pay8 q m kb) broadcasts_S1x4096_S256x4096))) bitsLt_bf16_f32)
      (constant S80x4096 .f32 0x00000000#32))

theorem pay10_eq (q : FVec F S64x4096 .bf16) (m : FVec F S1x4096 .f32) (kb : FVec F S256x64 .bf16) (kb' : Vec F S1x1x256x64 .bf16) :
    k0_pay10 q m kb kb' = k0_pay8 q (k0_pay8 q m kb) (shapeCast S256x64 kb' shapeCasts_S1x1x256x64_S256x64) := rfl

theorem pay11_eq (q : FVec F S64x4096 .bf16) (m : FVec F S1x4096 .f32) (a : FVec F S80x4096 .f32) (kb : FVec F S256x64 .bf16)
    (vb : Vec F S1x1x1x80x256 .bf16) (kb' : Vec F S1x1x256x64 .bf16) (vb' : Vec F S1x1x1x80x256 .bf16) :
    k0_pay11 q m a kb vb kb' vb'
      = nextA q (k0_pay8 q m kb) (nextA q m a kb vb) (shapeCast S256x64 kb' shapeCasts_S1x1x256x64_S256x64) vb' := rfl

theorem pay55_eq (q : FVec F S64x4096 .bf16) (m : FVec F S1x4096 .f32) (a : FVec F S80x4096 .f32) (kb : FVec F S256x64 .bf16)
    (vb : Vec F S1x1x1x80x256 .bf16) :
    k0_pay55 q m a kb vb = divf (extractStridedSlice S64x4096 ![0, 0] (nextA q m a kb vb) slices_S80x4096_o0_0_S64x4096)
      (broadcastTo S64x4096 (extractStridedSlice S1x4096 ![64, 0] (nextA q m a kb vb) slices_S80x4096_o64_0_S1x4096) broadcasts_S1x4096_S64x4096) := rfl

end Printed

/-! ## The operations at an element -/

theorem score_apply (q : FVec Ideal S64x4096 .bf16) (kb : FVec Ideal S256x64 .bf16) (k : Fin 256) (n : Fin 4096) :
    k0_pay7 q kb (ix2 k n) = ∑ e : Fin 64, kb (ix2 k e) * q (ix2 e n) := by
  pointwise [k0_pay7]

theorem ofBits_neg_inf : Ideal.ofBits .f32 0xFF800000#32 = ⊥ := by simp [Ideal.ofBits, Ideal.ieee]

theorem max_apply (q : FVec Ideal S64x4096 .bf16) (m : FVec Ideal S1x4096 .f32) (kb : FVec Ideal S256x64 .bf16) (n : Fin 4096) :
    k0_pay8 q m kb (ix2 0 n) = max (m (ix2 0 n)) (Finset.univ.fold max ⊥ fun k : Fin 256 => k0_pay7 q kb (ix2 k n)) := by
  generalize h : k0_pay7 q kb = s
  pointwise [k0_pay8, h]
  rw [ofBits_neg_inf]

theorem nextA_apply (q : FVec Ideal S64x4096 .bf16) (m : FVec Ideal S1x4096 .f32) (a : FVec Ideal S80x4096 .f32) (kb : FVec Ideal S256x64 .bf16)
    (vb : Vec Ideal S1x1x1x80x256 .bf16) (d : Fin 80) (n : Fin 4096) :
    nextA q m a kb vb (ix2 d n) = Ideal.exp2 (m (ix2 0 n) - k0_pay8 q m kb (ix2 0 n)) * a (ix2 d n)
      + ∑ k : Fin 256, vb (ix5 0 0 0 d k) * Ideal.exp2 (k0_pay7 q kb (ix2 k n) - k0_pay8 q m kb (ix2 0 n)) := by
  unfold nextA
  generalize k0_pay8 q m kb = m'
  generalize k0_pay7 q kb = s
  pointwise
  rfl

theorem pay4_apply (v0 v2 v4 v6 : Vec Ideal S1x1x64x1024 .bf16) (kb : Vec Ideal S1x1x256x64 .bf16) (n : Fin 4096) :
    k0_pay4 v0 v2 v4 v6 kb (ix2 0 n)
      = Finset.univ.fold max ⊥ fun k : Fin 256 => k0_pay7 (k0_pay2 v0 v2 v4 v6) (k0_pay6 kb) (ix2 k n) := by
  have e : k0_pay7 (k0_pay2 v0 v2 v4 v6) (k0_pay6 kb) = k0_pay3 v0 v2 v4 v6 kb := rfl
  rw [e]
  generalize h : k0_pay3 v0 v2 v4 v6 kb = s
  pointwise [k0_pay4, h]
  rw [ofBits_neg_inf]

theorem pay5_apply (v0 v2 v4 v6 : Vec Ideal S1x1x64x1024 .bf16) (kb : Vec Ideal S1x1x256x64 .bf16) (vb : Vec Ideal S1x1x1x80x256 .bf16)
    (d : Fin 80) (n : Fin 4096) :
    k0_pay5 v0 v2 v4 v6 kb vb (ix2 d n)
      = ∑ k : Fin 256, vb (ix5 0 0 0 d k) * Ideal.exp2 (k0_pay7 (k0_pay2 v0 v2 v4 v6) (k0_pay6 kb) (ix2 k n) - k0_pay4 v0 v2 v4 v6 kb (ix2 0 n)) := by
  have e : k0_pay7 (k0_pay2 v0 v2 v4 v6) (k0_pay6 kb) = k0_pay3 v0 v2 v4 v6 kb := rfl
  rw [e]
  generalize h : k0_pay3 v0 v2 v4 v6 kb = s
  generalize h' : k0_pay4 v0 v2 v4 v6 kb = m
  pointwise [k0_pay5, h, h']
  rfl

theorem pay55_apply (q : FVec Ideal S64x4096 .bf16) (m : FVec Ideal S1x4096 .f32) (a : FVec Ideal S80x4096 .f32) (kb : FVec Ideal S256x64 .bf16)
    (vb : Vec Ideal S1x1x1x80x256 .bf16) (d : Fin 64) (n : Fin 4096) :
    k0_pay55 q m a kb vb (ix2 d n)
      = Ideal.div (nextA q m a kb vb (ix2 ⟨d.val, by omega⟩ n)) (nextA q m a kb vb (ix2 64 n)) := by
  rw [pay55_eq]
  generalize nextA q m a kb vb = A
  pointwise

theorem pay2_apply (v0 v2 v4 v6 : Vec Ideal S1x1x64x1024 .bf16) (e : Fin 64) (h : Fin 4) (i : Fin 1024) :
    k0_pay2 v0 v2 v4 v6 (ix2 e ⟨h.val * 1024 + i.val, by omega⟩) = ![v0, v2, v4, v6] h (ix4 0 0 e i) := by
  pointwise [k0_pay2]
  match h with
  | ⟨0, _⟩ => rw [dif_pos (by show 0 * 1024 + i.val < 1024; omega)]; exact congrArg (fun i => v0 (ix4 0 0 e i)) (Fin.ext (by show 0 * 1024 + i.val = _; omega))
  | ⟨1, _⟩ =>
    rw [dif_neg (by show ¬ 1 * 1024 + i.val < 1024; omega), dif_pos (by show 1 * 1024 + i.val - 1024 < 1024; omega)]
    exact congrArg (fun i => v2 (ix4 0 0 e i)) (Fin.ext (by show 1 * 1024 + i.val - 1024 = _; omega))
  | ⟨2, _⟩ =>
    rw [dif_neg (by show ¬ 2 * 1024 + i.val < 1024; omega), dif_neg (by show ¬ 2 * 1024 + i.val - 1024 < 1024; omega),
      dif_pos (by show 2 * 1024 + i.val - 1024 - 1024 < 1024; omega)]
    exact congrArg (fun i => v4 (ix4 0 0 e i)) (Fin.ext (by show 2 * 1024 + i.val - 1024 - 1024 = _; omega))
  | ⟨3, _⟩ =>
    rw [dif_neg (by show ¬ 3 * 1024 + i.val < 1024; omega), dif_neg (by show ¬ 3 * 1024 + i.val - 1024 < 1024; omega),
      dif_neg (by show ¬ 3 * 1024 + i.val - 1024 - 1024 < 1024; omega)]
    exact congrArg (fun i => v6 (ix4 0 0 e i)) (Fin.ext (by show 3 * 1024 + i.val - 1024 - 1024 - 1024 = _; omega))

theorem cast_key (y : Vec Ideal S1x1x256x64 .bf16) (k : Fin 256) (e : Fin 64) :
    shapeCast S256x64 y shapeCasts_S1x1x256x64_S256x64 (ix2 k e) = y (ix4 0 0 k e) := by
  pointwise

/-! ## Loads -/

theorem key_ld {s1 : ℕ} (x : Vec Ideal ⟨4, ![1, 1, s1, 64]⟩ .bf16) (o : ℕ) (inb) (k : Fin 256) (e : Fin 64) (h : o + k.val < s1) :
    View.ld x (Rect.unit (s := ⟨4, ![1, 1, s1, 64]⟩) ![0, 0, o, 0] S1x1x256x64.size inb) (ix4 0 0 k e) = x (ix4 0 0 ⟨o + k, h⟩ e) := by
  rw [View.ld_unit]
  refine congrArg x (funext fun a => Fin.ext ?_)
  match a with
  | ⟨0, _⟩ => rfl
  | ⟨1, _⟩ => rfl
  | ⟨2, _⟩ => rfl
  | ⟨3, _⟩ => exact Nat.zero_add _

theorem val_ld {s1 : ℕ} (x : Vec Ideal ⟨5, ![1, 1, s1, 80, 256]⟩ .bf16) (o : ℕ) (inb) (ho : o < s1) (d : Fin 80) (k : Fin 256) :
    View.ld x (Rect.unit (s := ⟨5, ![1, 1, s1, 80, 256]⟩) ![0, 0, o, 0, 0] S1x1x1x80x256.size inb) (ix5 0 0 0 d k)
      = x (ix5 0 0 ⟨o, ho⟩ d k) := by
  rw [View.ld_unit]
  refine congrArg x (funext fun a => Fin.ext ?_)
  match a with
  | ⟨0, _⟩ => rfl
  | ⟨1, _⟩ => rfl
  | ⟨2, _⟩ => rfl
  | ⟨3, _⟩ => exact Nat.zero_add _
  | ⟨4, _⟩ => exact Nat.zero_add _

theorem query_ld (x : Vec Ideal S1x4x64x1024 .bf16) (h : ℕ) (inb) (hh : h < 4) (e : Fin 64) (i : Fin 1024) :
    View.ld x (Rect.unit (s := S1x4x64x1024) ![0, h, 0, 0] S1x1x64x1024.size inb) (ix4 0 0 e i)
      = x (ix4 0 ⟨h, hh⟩ e i) := by
  rw [View.ld_unit]
  refine congrArg x (funext fun a => Fin.ext ?_)
  match a with
  | ⟨0, _⟩ => rfl
  | ⟨1, _⟩ => rfl
  | ⟨2, _⟩ => exact Nat.zero_add _
  | ⟨3, _⟩ => exact Nat.zero_add _

/-! ## One step -/

/-- After `n` keys the maximum of every query column is real, and each running sum is the values' weighted sum, the
    scores shifted by that maximum. -/
def Seen (S : Fin 4096 → ℕ → ℝ) (V : Fin 80 → ℕ → EReal) (n : ℕ) (m : FVec Ideal S1x4096 .f32) (a : FVec Ideal S80x4096 .f32) : Prop :=
  ∀ c : Fin 4096, ∃ r : ℝ, m (ix2 0 c) = r ∧ ∀ d : Fin 80, a (ix2 d c) = part (S c) (V d) n r

/-- A block of keys whose scores are `S` from key `n` on. -/
def KeyBlock (S : Fin 4096 → ℕ → ℝ) (q : FVec Ideal S64x4096 .bf16) (n : ℕ) (kb : FVec Ideal S256x64 .bf16) : Prop :=
  ∀ (k : Fin 256) (c : Fin 4096), k0_pay7 q kb (ix2 k c) = (S c (n + k) : EReal)

/-- A block of values, `V` from key `n` on. -/
def ValBlock (V : Fin 80 → ℕ → EReal) (n : ℕ) (vb : Vec Ideal S1x1x1x80x256 .bf16) : Prop :=
  ∀ (d : Fin 80) (k : Fin 256), vb (ix5 0 0 0 d k) = V d (n + k)

section Steps
variable {S : Fin 4096 → ℕ → ℝ} {V : Fin 80 → ℕ → EReal} {q : FVec Ideal S64x4096 .bf16}

theorem block_max {n : ℕ} {kb : FVec Ideal S256x64 .bf16} (hk : KeyBlock S q n kb) (c : Fin 4096) :
    ∃ r : ℝ, (Finset.univ.fold max ⊥ fun k : Fin 256 => k0_pay7 q kb (ix2 k c)) = r :=
  fold_max_real _ ⟨0, Finset.mem_univ _⟩ _ fun k _ => ⟨_, hk k c⟩

theorem exp2_sub_coe (x r : ℝ) : Ideal.exp2 ((x : EReal) - (r : EReal)) = ((Real.rpow 2 (x - r) : ℝ) : EReal) := by
  rw [← EReal.coe_sub]; rfl

theorem seen_step {n : ℕ} {m : FVec Ideal S1x4096 .f32} {a : FVec Ideal S80x4096 .f32} {kb : FVec Ideal S256x64 .bf16}
    {vb : Vec Ideal S1x1x1x80x256 .bf16} (h : Seen S V n m a) (hk : KeyBlock S q n kb) (hv : ValBlock V n vb) :
    Seen S V (n + 256) (k0_pay8 q m kb) (nextA q m a kb vb) := by
  intro c
  obtain ⟨r, hr, ha⟩ := h c
  obtain ⟨r₁, hr₁⟩ := block_max hk c
  have hm : k0_pay8 q m kb (ix2 0 c) = ((max r r₁ : ℝ) : EReal) := by
    rw [max_apply, hr, hr₁]; exact (EReal.coe_strictMono.monotone.map_max (a := r) (b := r₁)).symm
  refine ⟨max r r₁, hm, fun d => ?_⟩
  rw [nextA_apply, hm, hr, ha d, exp2_sub_coe, ← part_step]
  refine congrArg _ (Finset.sum_congr rfl fun k _ => ?_)
  rw [hv d k, hk k c, exp2_sub_coe]

theorem seen_first {v0 v2 v4 v6 : Vec Ideal S1x1x64x1024 .bf16} {kb : Vec Ideal S1x1x256x64 .bf16} {vb : Vec Ideal S1x1x1x80x256 .bf16}
    (hk : KeyBlock S (k0_pay2 v0 v2 v4 v6) 0 (k0_pay6 kb)) (hv : ValBlock V 0 vb) :
    Seen S V 256 (k0_pay4 v0 v2 v4 v6 kb) (k0_pay5 v0 v2 v4 v6 kb vb) := by
  intro c
  obtain ⟨r₁, hr₁⟩ := block_max hk c
  have hm : k0_pay4 v0 v2 v4 v6 kb (ix2 0 c) = (r₁ : EReal) := by rw [pay4_apply, hr₁]
  refine ⟨r₁, hm, fun d => ?_⟩
  have h0 := part_step (S c) (V d) 0 256 r₁ r₁
  rw [show part (S c) (V d) 0 r₁ = 0 from Finset.sum_range_zero _, mul_zero, zero_add] at h0
  rw [pay5_apply, hm, ← h0]
  refine Finset.sum_congr rfl fun k _ => ?_
  rw [hv d k, hk k c, exp2_sub_coe]

/-- Two steps, as the printed body takes them. -/
theorem seen_two {n : ℕ} {m : FVec Ideal S1x4096 .f32} {a : FVec Ideal S80x4096 .f32} {kb : FVec Ideal S256x64 .bf16}
    {vb : Vec Ideal S1x1x1x80x256 .bf16} {kb' : Vec Ideal S1x1x256x64 .bf16} {vb' : Vec Ideal S1x1x1x80x256 .bf16}
    (h : Seen S V n m a) (hk : KeyBlock S q n kb) (hv : ValBlock V n vb)
    (hk' : KeyBlock S q (n + 256) (k0_pay6 kb')) (hv' : ValBlock V (n + 256) vb') :
    Seen S V (n + 512) (k0_pay10 q m kb kb') (k0_pay11 q m a kb vb kb' vb') := by
  rw [pay10_eq, pay11_eq]
  exact seen_step (seen_step h hk hv) hk' hv'

end Steps

/-! ## The point's block -/

section Point
variable {x0 : Vec Ideal S1x4x64x1024 .bf16} {x1 : Vec Ideal S1x1x512x64 .bf16} {x2 : Vec Ideal S1x1x2x80x256 .bf16}
  {x3 : Vec Ideal S1x1x4096x64 .bf16} {x4 : Vec Ideal S1x1x16x80x256 .bf16}
  {S : Fin 4096 → ℕ → ℝ} {V : Fin 80 → ℕ → EReal}

/-- The blocks a point is given: `S` the scores of its four heads' queries (head `h`'s query `i` is column `h * 1024 + i`)
    with the 512 earlier keys and then the 4096 keys, `V` the values of those keys in the same order. -/
structure Given (x0 : Vec Ideal S1x4x64x1024 .bf16) (x1 : Vec Ideal S1x1x512x64 .bf16) (x2 : Vec Ideal S1x1x2x80x256 .bf16)
    (x3 : Vec Ideal S1x1x4096x64 .bf16) (x4 : Vec Ideal S1x1x16x80x256 .bf16) (S : Fin 4096 → ℕ → ℝ) (V : Fin 80 → ℕ → EReal) : Prop where
  ctxScore : ∀ (h : Fin 4) (i : Fin 1024) (k : Fin 512),
    ∑ e : Fin 64, x1 (ix4 0 0 k e) * x0 (ix4 0 h e i) = (S ⟨h.val * 1024 + i.val, by omega⟩ k.val : EReal)
  score : ∀ (h : Fin 4) (i : Fin 1024) (k : Fin 4096),
    ∑ e : Fin 64, x3 (ix4 0 0 k e) * x0 (ix4 0 h e i) = (S ⟨h.val * 1024 + i.val, by omega⟩ (512 + k.val) : EReal)
  ctxVal : ∀ (j : Fin 2) (d : Fin 80) (k : Fin 256), x2 (ix5 0 0 j d k) = V d (256 * j.val + k.val)
  val : ∀ (j : Fin 16) (d : Fin 80) (k : Fin 256), x4 (ix5 0 0 j d k) = V d (512 + 256 * j.val + k.val)

theorem pay60_apply (e : Fin 64) (h : Fin 4) (i : Fin 1024) :
    k0_pay60 x0 x1 x2 x3 x4 (ix2 e ⟨h.val * 1024 + i.val, by omega⟩) = x0 (ix4 0 h e i) := by
  unfold k0_pay60
  rw [pay2_apply]
  match h with
  | ⟨0, hh⟩ => exact query_ld x0 0 _ hh e i
  | ⟨1, hh⟩ => exact query_ld x0 1 _ hh e i
  | ⟨2, hh⟩ => exact query_ld x0 2 _ hh e i
  | ⟨3, hh⟩ => exact query_ld x0 3 _ hh e i

theorem col_eq (c : Fin 4096) : ∃ (h : Fin 4) (i : Fin 1024), c = ⟨h.val * 1024 + i.val, by omega⟩ :=
  ⟨⟨c.val / 1024, by omega⟩, ⟨c.val % 1024, by omega⟩, Fin.ext (by show c.val = c.val / 1024 * 1024 + c.val % 1024; omega)⟩

theorem ctxKey (H : Given x0 x1 x2 x3 x4 S V) (o : ℕ) (inb) (ho : o + 256 ≤ 512) :
    KeyBlock S (k0_pay60 x0 x1 x2 x3 x4) o
      (k0_pay6 (View.ld x1 (Rect.unit (s := S1x1x512x64) ![0, 0, o, 0] S1x1x256x64.size inb))) := by
  intro k c
  obtain ⟨h, i, rfl⟩ := col_eq c
  rw [score_apply, ← H.ctxScore h i ⟨o + k.val, by omega⟩]
  refine Finset.sum_congr rfl fun e _ => ?_
  rw [pay60_apply]
  exact congrArg (· * _) ((cast_key _ k e).trans (key_ld x1 o inb k e (by omega)))

theorem selfKey (H : Given x0 x1 x2 x3 x4 S V) (o n : ℕ) (inb) (ho : o + 256 ≤ 4096) (hn : n = 512 + o) :
    KeyBlock S (k0_pay60 x0 x1 x2 x3 x4) n
      (k0_pay6 (View.ld x3 (Rect.unit (s := S1x1x4096x64) ![0, 0, o, 0] S1x1x256x64.size inb))) := by
  subst hn
  intro k c
  obtain ⟨h, i, rfl⟩ := col_eq c
  rw [score_apply, show 512 + o + k.val = 512 + (o + k.val) by omega, ← H.score h i ⟨o + k.val, by omega⟩]
  refine Finset.sum_congr rfl fun e _ => ?_
  rw [pay60_apply]
  exact congrArg (· * _) ((cast_key _ k e).trans (key_ld x3 o inb k e (by omega)))

theorem ctxValue (H : Given x0 x1 x2 x3 x4 S V) (j n : ℕ) (inb) (hj : j < 2) (hn : n = 256 * j) :
    ValBlock V n (View.ld x2 (Rect.unit (s := S1x1x2x80x256) ![0, 0, j, 0, 0] S1x1x1x80x256.size inb)) := by
  subst hn
  exact fun d k => (val_ld x2 j inb hj d k).trans (H.ctxVal ⟨j, hj⟩ d k)

theorem selfValue (H : Given x0 x1 x2 x3 x4 S V) (j n : ℕ) (inb) (hj : j < 16) (hn : n = 512 + 256 * j) :
    ValBlock V n (View.ld x4 (Rect.unit (s := S1x1x16x80x256) ![0, 0, j, 0, 0] S1x1x1x80x256.size inb)) := by
  subst hn
  exact fun d k => (val_ld x4 j inb hj d k).trans (H.val ⟨j, hj⟩ d k)

/-- After 17 blocks. -/
theorem seen_17 (H : Given x0 x1 x2 x3 x4 S V) : Seen S V 4352 (k0_pay77 x0 x1 x2 x3 x4) (k0_pay78 x0 x1 x2 x3 x4) := by
  have h1 : Seen S V 256 (k0_pay61 x0 x1 x2 x3 x4) _ :=
    seen_first (ctxKey H 0 _ (by norm_num)) (ctxValue H 0 0 inb_S1x1x2x80x256_S1x1x1x80x256_0_0_0_0_0 (by norm_num) rfl)
  have h3 : Seen S V 768 (k0_pay63 x0 x1 x2 x3 x4) _ := seen_two h1
    (ctxKey H 256 _ (by norm_num)) (ctxValue H 1 256 inb_S1x1x2x80x256_S1x1x1x80x256_0_0_1_0_0 (by norm_num) rfl)
    (selfKey H 0 512 _ (by norm_num) rfl) (selfValue H 0 512 inb_S1x1x16x80x256_S1x1x1x80x256_0_0_0_0_0 (by norm_num) rfl)
  have h5 : Seen S V 1280 (k0_pay65 x0 x1 x2 x3 x4) _ := seen_two h3
    (selfKey H 256 768 _ (by norm_num) rfl) (selfValue H 1 768 inb_S1x1x16x80x256_S1x1x1x80x256_0_0_1_0_0 (by norm_num) rfl)
    (selfKey H 512 1024 _ (by norm_num) rfl) (selfValue H 2 1024 inb_S1x1x16x80x256_S1x1x1x80x256_0_0_2_0_0 (by norm_num) rfl)
  have h7 : Seen S V 1792 (k0_pay67 x0 x1 x2 x3 x4) _ := seen_two h5
    (selfKey H 768 1280 _ (by norm_num) rfl) (selfValue H 3 1280 inb_S1x1x16x80x256_S1x1x1x80x256_0_0_3_0_0 (by norm_num) rfl)
    (selfKey H 1024 1536 _ (by norm_num) rfl) (selfValue H 4 1536 inb_S1x1x16x80x256_S1x1x1x80x256_0_0_4_0_0 (by norm_num) rfl)
  have h9 : Seen S V 2304 (k0_pay69 x0 x1 x2 x3 x4) _ := seen_two h7
    (selfKey H 1280 1792 _ (by norm_num) rfl) (selfValue H 5 1792 inb_S1x1x16x80x256_S1x1x1x80x256_0_0_5_0_0 (by norm_num) rfl)
    (selfKey H 1536 2048 _ (by norm_num) rfl) (selfValue H 6 2048 inb_S1x1x16x80x256_S1x1x1x80x256_0_0_6_0_0 (by norm_num) rfl)
  have h11 : Seen S V 2816 (k0_pay71 x0 x1 x2 x3 x4) _ := seen_two h9
    (selfKey H 1792 2304 _ (by norm_num) rfl) (selfValue H 7 2304 inb_S1x1x16x80x256_S1x1x1x80x256_0_0_7_0_0 (by norm_num) rfl)
    (selfKey H 2048 2560 _ (by norm_num) rfl) (selfValue H 8 2560 inb_S1x1x16x80x256_S1x1x1x80x256_0_0_8_0_0 (by norm_num) rfl)
  have h13 : Seen S V 3328 (k0_pay73 x0 x1 x2 x3 x4) _ := seen_two h11
    (selfKey H 2304 2816 _ (by norm_num) rfl) (selfValue H 9 2816 inb_S1x1x16x80x256_S1x1x1x80x256_0_0_9_0_0 (by norm_num) rfl)
    (selfKey H 2560 3072 _ (by norm_num) rfl) (selfValue H 10 3072 inb_S1x1x16x80x256_S1x1x1x80x256_0_0_10_0_0 (by norm_num) rfl)
  have h15 : Seen S V 3840 (k0_pay75 x0 x1 x2 x3 x4) _ := seen_two h13
    (selfKey H 2816 3328 _ (by norm_num) rfl) (selfValue H 11 3328 inb_S1x1x16x80x256_S1x1x1x80x256_0_0_11_0_0 (by norm_num) rfl)
    (selfKey H 3072 3584 _ (by norm_num) rfl) (selfValue H 12 3584 inb_S1x1x16x80x256_S1x1x1x80x256_0_0_12_0_0 (by norm_num) rfl)
  exact seen_two h15
    (selfKey H 3328 3840 _ (by norm_num) rfl) (selfValue H 13 3840 inb_S1x1x16x80x256_S1x1x1x80x256_0_0_13_0_0 (by norm_num) rfl)
    (selfKey H 3584 4096 _ (by norm_num) rfl) (selfValue H 14 4096 inb_S1x1x16x80x256_S1x1x1x80x256_0_0_14_0_0 (by norm_num) rfl)

/-- The quotient the body stores, at head `h`, row `d`, query `i`. -/
theorem quot_apply (H : Given x0 x1 x2 x3 x4 S V) (t : Fin 4096 → ℕ → ℝ) (ht : ∀ c k, S c k * Real.log 2 = t c k) (h1 : V 64 = fun _ => 1)
    (d : Fin 64) (c : Fin 4096) :
    k0_pay55 (k0_pay60 x0 x1 x2 x3 x4) (k0_pay77 x0 x1 x2 x3 x4) (k0_pay78 x0 x1 x2 x3 x4) (k0_pay79 x0 x1 x2 x3 x4) (View.ld x4 r0_39)
      (ix2 d c) = soft (t c) (V ⟨d.val, by omega⟩) 4608 := by
  have h18 : Seen S V 4608 _ (nextA (k0_pay60 x0 x1 x2 x3 x4) (k0_pay77 x0 x1 x2 x3 x4) (k0_pay78 x0 x1 x2 x3 x4) (k0_pay79 x0 x1 x2 x3 x4) (View.ld x4 r0_39)) :=
    seen_step (seen_17 H) (selfKey H 3840 4352 _ (by norm_num) rfl)
      (selfValue H 15 4352 inb_S1x1x16x80x256_S1x1x1x80x256_0_0_15_0_0 (by norm_num) rfl)
  rw [pay55_apply]
  generalize nextA (k0_pay60 x0 x1 x2 x3 x4) (k0_pay77 x0 x1 x2 x3 x4) (k0_pay78 x0 x1 x2 x3 x4) (k0_pay79 x0 x1 x2 x3 x4) (View.ld x4 r0_39) = A at h18 ⊢
  obtain ⟨r, -, ha⟩ := h18 c
  rw [ha, ha, h1]
  exact part_div _ _ (ht c) _ _ (by norm_num) r

/-- The block `A` holds, its columns split into heads and queries. -/
def heads (A : FVec Ideal S64x4096 .f32) (y : S1x4x64x1024.Idx) : EReal :=
  A (ix2 (⟨(y 2).val, (y 2).isLt⟩ : Fin 64) (⟨(y 1).val * 1024 + (y 3).val, by
    have h1 : (y 1).val < 4 := (y 1).isLt
    have h3 : (y 3).val < 1024 := (y 3).isLt
    omega⟩ : Fin 4096))

theorem piece_apply (A : FVec Ideal S64x4096 .f32) (h : ℕ) (hh : h < 4) (inb) (p : Vec Ideal S1x1x64x1024 .bf16)
    (hp : ∀ (d : Fin 64) (i : Fin 1024), p (ix4 0 0 d i) = A (ix2 d ⟨h * 1024 + i.val, by omega⟩))
    (x : S1x1x64x1024.Idx) :
    p x = heads A ((Rect.unit (s := S1x4x64x1024) ![0, h, 0, 0] S1x1x64x1024.size inb).emb x) := by
  have hx : x = ix4 0 0 (⟨(x 2).val, (x 2).isLt⟩ : Fin 64) (⟨(x 3).val, (x 3).isLt⟩ : Fin 1024) := by
    refine funext fun a => Fin.ext ?_
    match a with
    | ⟨0, _⟩ => exact Nat.lt_one_iff.mp (x 0).isLt
    | ⟨1, _⟩ => exact Nat.lt_one_iff.mp (x 1).isLt
    | ⟨2, _⟩ => rfl
    | ⟨3, _⟩ => rfl
  have h1 : (x 1).val = 0 := Nat.lt_one_iff.mp (x 1).isLt
  rw [hx, hp, ← hx]
  unfold heads
  refine congrArg A (congrArg₂ ix2 (Fin.ext ?_) (Fin.ext ?_))
  · show (x 2).val = 0 + 1 * (x 2).val
    omega
  · show h * 1024 + (x 3).val = (h + 1 * (x 1).val) * 1024 + (0 + 1 * (x 3).val)
    omega

section Pieces
variable (q : FVec Ideal S64x4096 .bf16) (m : FVec Ideal S1x4096 .f32) (a : FVec Ideal S80x4096 .f32) (kb : FVec Ideal S256x64 .bf16)
  (vb : Vec Ideal S1x1x1x80x256 .bf16) (d : Fin 64) (i : Fin 1024)

theorem pay56_apply : k0_pay56 q m a kb vb (ix4 0 0 d i) = k0_pay55 q m a kb vb (ix2 d ⟨0 * 1024 + i.val, by omega⟩) := by
  generalize h : k0_pay55 q m a kb vb = A
  pointwise [k0_pay56, h]
theorem pay57_apply : k0_pay57 q m a kb vb (ix4 0 0 d i) = k0_pay55 q m a kb vb (ix2 d ⟨1 * 1024 + i.val, by omega⟩) := by
  generalize h : k0_pay55 q m a kb vb = A
  pointwise [k0_pay57, h]
theorem pay58_apply : k0_pay58 q m a kb vb (ix4 0 0 d i) = k0_pay55 q m a kb vb (ix2 d ⟨2 * 1024 + i.val, by omega⟩) := by
  generalize h : k0_pay55 q m a kb vb = A
  pointwise [k0_pay58, h]
theorem pay59_apply : k0_pay1 (k0_pay59 q m a kb vb) (ix4 0 0 d i) = k0_pay55 q m a kb vb (ix2 d ⟨3 * 1024 + i.val, by omega⟩) := by
  generalize h : k0_pay55 q m a kb vb = A
  pointwise [k0_pay59, k0_pay1, h]
end Pieces

/-- What the point leaves in the result's block. -/
theorem block_apply (H : Given x0 x1 x2 x3 x4 S V) (t : Fin 4096 → ℕ → ℝ) (ht : ∀ c k, S c k * Real.log 2 = t c k) (h1 : V 64 = fun _ => 1)
    (h : Fin 4) (d : Fin 64) (i : Fin 1024) :
    out0_5 x0 x1 x2 x3 x4 (ix4 0 h d i) = soft (t ⟨h.val * 1024 + i.val, by omega⟩) (V ⟨d.val, by omega⟩) 4608 := by
  rw [← quot_apply H t ht h1]
  unfold out0_5
  generalize k0_pay60 x0 x1 x2 x3 x4 = q
  generalize k0_pay77 x0 x1 x2 x3 x4 = m
  generalize k0_pay78 x0 x1 x2 x3 x4 = a
  generalize k0_pay79 x0 x1 x2 x3 x4 = kb
  generalize View.ld x4 r0_39 = vb
  refine View.canon_apply_of_pieces (Val := Elt Ideal) (e := .bf16) (heads (k0_pay55 q m a kb vb)) _ ?_ (ix4 0 h d i) (cover0_5 _ _ _ _ _)
  intro p hp
  simp only [List.mem_cons, List.not_mem_nil, or_false] at hp
  rcases hp with rfl | rfl | rfl | rfl
  · exact piece_apply _ 3 (by norm_num) inb_S1x4x64x1024_S1x1x64x1024_0_3_0_0 _ (pay59_apply q m a kb vb)
  · exact piece_apply _ 2 (by norm_num) inb_S1x4x64x1024_S1x1x64x1024_0_2_0_0 _ (pay58_apply q m a kb vb)
  · exact piece_apply _ 1 (by norm_num) inb_S1x4x64x1024_S1x1x64x1024_0_1_0_0 _ (pay57_apply q m a kb vb)
  · exact piece_apply _ 0 (by norm_num) inb_S1x4x64x1024_S1x1x64x1024_0_0_0_0 _ (pay56_apply q m a kb vb)

end Point

end Cert.KernelIdeal.Attn

end
-- ==== Proof.Entry.lean ====
/-
  The arrays the attention kernel's windows read, at an element, in terms of the arguments: the host's scaling,
  transpositions, reshapes and the rows of ones appended to the values.
-/
module

public import proofs.«01_k».proof.Proof.Gen.KernelIdeal.Frame
public import Idealize.ShloMosaic.Lib.Pipeline.Value
public import Idealize.ShloMosaic.Lib.Pointwise
public import Idealize.ShloMosaic.Lib.StableHlo.ReadAt

@[expose] public section

noncomputable section

namespace Cert.KernelIdeal.Attn

open Cert.KernelIdeal Cert.KernelIdeal.Gen Idealize.ShloMosaic Idealize.ShloMosaic.TcCoe

variable (m : (ℓ : Loc nD τ sig) → Buf (Elt Ideal) ℓ) (c : Dev nD)

/-- The arguments. -/
abbrev argQ : Vec Ideal ⟨4, ![4, 4096, 16, 64]⟩ .f32 := m ((c : Thread nD τ).loc main_arg0)
abbrev argK : Vec Ideal ⟨4, ![4, 4096, 4, 64]⟩ .f32 := m ((c : Thread nD τ).loc main_arg1)
abbrev argV : Vec Ideal ⟨4, ![4, 4096, 4, 64]⟩ .f32 := m ((c : Thread nD τ).loc main_arg2)
abbrev argCK : Vec Ideal ⟨4, ![4, 512, 4, 64]⟩ .f32 := m ((c : Thread nD τ).loc main_arg3)
abbrev argCV : Vec Ideal ⟨4, ![4, 512, 4, 64]⟩ .f32 := m ((c : Thread nD τ).loc main_arg4)

abbrev arrQ : Vec Ideal ⟨4, ![4, 16, 64, 4096]⟩ .bf16 := V m c main_v5
abbrev arrCK : Vec Ideal ⟨4, ![4, 4, 512, 64]⟩ .bf16 := V m c main_v7
abbrev arrCV : Vec Ideal ⟨5, ![4, 4, 2, 80, 256]⟩ .bf16 := V m c main_v12
abbrev arrK : Vec Ideal ⟨4, ![4, 4, 4096, 64]⟩ .bf16 := V m c main_v14
abbrev arrV : Vec Ideal ⟨5, ![4, 4, 16, 80, 256]⟩ .bf16 := V m c main_v19

theorem arrQ_apply (b : Fin 4) (h : Fin 16) (e : Fin 64) (n : Fin 4096) :
    arrQ m c (ix4 b h e n) = argQ m c (ix4 b n h e)
      * Ideal.div (Ideal.ofBits .f32 0x3E000000#32) (Ideal.log (Ideal.ofBits .f32 0x40000000#32)) := by
  unfold arrQ V
  after_reads_at

theorem arrCK_apply (b : Fin 4) (g : Fin 4) (n : Fin 512) (e : Fin 64) : arrCK m c (ix4 b g n e) = argCK m c (ix4 b n g e) := by
  unfold arrCK V
  after_reads_at

theorem arrK_apply (b : Fin 4) (g : Fin 4) (n : Fin 4096) (e : Fin 64) : arrK m c (ix4 b g n e) = argK m c (ix4 b n g e) := by
  unfold arrK V
  after_reads_at

theorem arrCV_apply (b : Fin 4) (g : Fin 4) (j : Fin 2) (d : Fin 80) (k : Fin 256) :
    arrCV m c (ix5 b g j d k) = if h : d.val < 64 then argCV m c (ix4 b ⟨j.val * 256 + k.val, by omega⟩ g ⟨d.val, h⟩) else 1 := by
  unfold arrCV V
  after_reads_at

theorem arrV_apply (b : Fin 4) (g : Fin 4) (j : Fin 16) (d : Fin 80) (k : Fin 256) :
    arrV m c (ix5 b g j d k) = if h : d.val < 64 then argV m c (ix4 b ⟨j.val * 256 + k.val, by omega⟩ g ⟨d.val, h⟩) else 1 := by
  unfold arrV V
  after_reads_at

/-! ## The windows' blocks: point `t` is batch `t / 16`, key head `t / 4 % 4`, query tile `t % 4` -/

theorem lt64 (t : Fin cfg0.N) : t.val < 64 := lt_of_lt_of_eq t.isLt N_0

abbrev batch (t : Fin cfg0.N) : Fin 4 := ⟨t.val / 16, by have := lt64 t; omega⟩
abbrev group (t : Fin cfg0.N) : Fin 4 := ⟨t.val / 4 % 4, by omega⟩
abbrev head (t : Fin cfg0.N) (h : Fin 4) : Fin 16 := ⟨t.val / 4 % 4 * 4 + h.val, by omega⟩
abbrev query (t : Fin cfg0.N) (i : Fin 1024) : Fin 4096 := ⟨t.val % 4 * 1024 + i.val, by omega⟩

theorem index0 : ∀ t : Fin cfg0.N, win0_0.index t = ![t.val / 16, t.val / 4 % 4, 0, t.val % 4] :=
  (by decide +kernel : ∀ t : Fin grid0.N, win0_0.index t = ![t.val / 16, t.val / 4 % 4, 0, t.val % 4])
theorem index1 : ∀ t : Fin cfg0.N, win0_1.index t = ![t.val / 16, t.val / 4 % 4, 0, 0] :=
  (by decide +kernel : ∀ t : Fin grid0.N, win0_1.index t = ![t.val / 16, t.val / 4 % 4, 0, 0])
theorem index2 : ∀ t : Fin cfg0.N, win0_2.index t = ![t.val / 16, t.val / 4 % 4, 0, 0, 0] :=
  (by decide +kernel : ∀ t : Fin grid0.N, win0_2.index t = ![t.val / 16, t.val / 4 % 4, 0, 0, 0])
theorem index3 : ∀ t : Fin cfg0.N, win0_3.index t = ![t.val / 16, t.val / 4 % 4, 0, 0] :=
  (by decide +kernel : ∀ t : Fin grid0.N, win0_3.index t = ![t.val / 16, t.val / 4 % 4, 0, 0])
theorem index4 : ∀ t : Fin cfg0.N, win0_4.index t = ![t.val / 16, t.val / 4 % 4, 0, 0, 0] :=
  (by decide +kernel : ∀ t : Fin grid0.N, win0_4.index t = ![t.val / 16, t.val / 4 % 4, 0, 0, 0])
theorem index5 : ∀ t : Fin cfg0.N, win0_5.index t = ![t.val / 16, t.val / 4 % 4, 0, t.val % 4] :=
  (by decide +kernel : ∀ t : Fin grid0.N, win0_5.index t = ![t.val / 16, t.val / 4 % 4, 0, t.val % 4])

theorem blkQ_apply (t : Fin cfg0.N) (h : Fin 4) (e : Fin 64) (i : Fin 1024) :
    (iblk m c 0 t : Vec Ideal S1x4x64x1024 .bf16) (ix4 0 h e i) = arrQ m c (ix4 (batch t) (head t h) e (query t i)) := by
  refine congrArg (V m c main_v5) (funext fun a => Fin.ext ((win0_0.rect_emb_val t _ a).trans ?_))
  rw [index0]
  match a with
  | ⟨0, _⟩ => show t.val / 16 * 1 + 0 = t.val / 16; omega
  | ⟨1, _⟩ => rfl
  | ⟨2, _⟩ => show 0 * 64 + e.val = e.val; omega
  | ⟨3, _⟩ => rfl

theorem blkCK_apply (t : Fin cfg0.N) (k : Fin 512) (e : Fin 64) :
    (iblk m c 1 t : Vec Ideal S1x1x512x64 .bf16) (ix4 0 0 k e) = arrCK m c (ix4 (batch t) (group t) k e) := by
  refine congrArg (V m c main_v7) (funext fun a => Fin.ext ((win0_1.rect_emb_val t _ a).trans ?_))
  rw [index1]
  match a with
  | ⟨0, _⟩ => show t.val / 16 * 1 + 0 = t.val / 16; omega
  | ⟨1, _⟩ => show t.val / 4 % 4 * 1 + 0 = t.val / 4 % 4; omega
  | ⟨2, _⟩ => show 0 * 512 + k.val = k.val; omega
  | ⟨3, _⟩ => show 0 * 64 + e.val = e.val; omega

theorem blkCV_apply (t : Fin cfg0.N) (j : Fin 2) (d : Fin 80) (k : Fin 256) :
    (iblk m c 2 t : Vec Ideal S1x1x2x80x256 .bf16) (ix5 0 0 j d k) = arrCV m c (ix5 (batch t) (group t) j d k) := by
  refine congrArg (V m c main_v12) (funext fun a => Fin.ext ((win0_2.rect_emb_val t _ a).trans ?_))
  rw [index2]
  match a with
  | ⟨0, _⟩ => show t.val / 16 * 1 + 0 = t.val / 16; omega
  | ⟨1, _⟩ => show t.val / 4 % 4 * 1 + 0 = t.val / 4 % 4; omega
  | ⟨2, _⟩ => show 0 * 2 + j.val = j.val; omega
  | ⟨3, _⟩ => show 0 * 80 + d.val = d.val; omega
  | ⟨4, _⟩ => show 0 * 256 + k.val = k.val; omega

theorem blkK_apply (t : Fin cfg0.N) (k : Fin 4096) (e : Fin 64) :
    (iblk m c 3 t : Vec Ideal S1x1x4096x64 .bf16) (ix4 0 0 k e) = arrK m c (ix4 (batch t) (group t) k e) := by
  refine congrArg (V m c main_v14) (funext fun a => Fin.ext ((win0_3.rect_emb_val t _ a).trans ?_))
  rw [index3]
  match a with
  | ⟨0, _⟩ => show t.val / 16 * 1 + 0 = t.val / 16; omega
  | ⟨1, _⟩ => show t.val / 4 % 4 * 1 + 0 = t.val / 4 % 4; omega
  | ⟨2, _⟩ => show 0 * 4096 + k.val = k.val; omega
  | ⟨3, _⟩ => show 0 * 64 + e.val = e.val; omega

theorem blkV_apply (t : Fin cfg0.N) (j : Fin 16) (d : Fin 80) (k : Fin 256) :
    (iblk m c 4 t : Vec Ideal S1x1x16x80x256 .bf16) (ix5 0 0 j d k) = arrV m c (ix5 (batch t) (group t) j d k) := by
  refine congrArg (V m c main_v19) (funext fun a => Fin.ext ((win0_4.rect_emb_val t _ a).trans ?_))
  rw [index4]
  match a with
  | ⟨0, _⟩ => show t.val / 16 * 1 + 0 = t.val / 16; omega
  | ⟨1, _⟩ => show t.val / 4 % 4 * 1 + 0 = t.val / 4 % 4; omega
  | ⟨2, _⟩ => show 0 * 16 + j.val = j.val; omega
  | ⟨3, _⟩ => show 0 * 80 + d.val = d.val; omega
  | ⟨4, _⟩ => show 0 * 256 + k.val = k.val; omega

/-- Where element `(0, h, d, i)` of the result's block at point `t` sits in the result. -/
theorem emb5 (t : Fin cfg0.N) (h : Fin 4) (d : Fin 64) (i : Fin 1024) :
    ((cfg0.win 5).blk t).view.emb (ix4 0 h d i : S1x4x64x1024.Idx) = (ix4 (batch t) (head t h) d (query t i) : S4x16x64x4096.Idx) := by
  refine funext fun a => Fin.ext ((win0_5.rect_emb_val t _ a).trans ?_)
  rw [index5]
  match a with
  | ⟨0, _⟩ => show t.val / 16 * 1 + 0 = t.val / 16; omega
  | ⟨1, _⟩ => rfl
  | ⟨2, _⟩ => show 0 * 64 + d.val = d.val; omega
  | ⟨3, _⟩ => rfl

end Cert.KernelIdeal.Attn

end
-- ==== Proof.Attn.lean ====
/-
  The attention kernel's result array, at an element, and its run.
-/
module

public import proofs.«01_k».proof.Proof.Spec
public import proofs.«01_k».proof.Proof.Block
public import proofs.«01_k».proof.Proof.Entry

@[expose] public section

noncomputable section

namespace Cert.KernelIdeal.Attn

open Cert.KernelIdeal Cert.KernelIdeal.Gen Idealize.ShloMosaic Idealize.ShloMosaic.TcCoe Idealize.SL.Sem Cert.Soft

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num

/-- The factor the host multiplies the queries by. -/
theorem factor : Ideal.div (Ideal.ofBits .f32 0x3E000000#32) (Ideal.log (Ideal.ofBits .f32 0x40000000#32))
    = ((1 / (8 * Real.log 2) : ℝ) : EReal) := by
  have hl : Ideal.log ((2 : ℝ) : EReal) = ((Real.log 2 : ℝ) : EReal) := by
    rw [Ideal.log_coe, if_neg (by norm_num)]
  have hp : (0 : ℝ) < Real.log 2 := Real.log_pos one_lt_two
  rw [ofBits_two, ofBits_eighth, hl, Ideal.div_coe hp.ne', ← EReal.coe_mul]
  congr 1
  field_simp

variable (m : (ℓ : Loc nD τ sig) → Buf (Elt Ideal) ℓ) (ρ : Dev nD → PrngReg) (c : Dev nD)

/-- The arguments the scores are made of are real. -/
structure Real' (qr : Fin 4 → Fin 4096 → Fin 16 → Fin 64 → ℝ) (kr : Fin 4 → Fin 4096 → Fin 4 → Fin 64 → ℝ) (ckr : Fin 4 → Fin 512 → Fin 4 → Fin 64 → ℝ) : Prop where
  q : ∀ b n h e, argQ m c (ix4 b n h e) = (qr b n h e : EReal)
  k : ∀ b n g e, argK m c (ix4 b n g e) = (kr b n g e : EReal)
  ck : ∀ b n g e, argCK m c (ix4 b n g e) = (ckr b n g e : EReal)

variable {m c} {qr : Fin 4 → Fin 4096 → Fin 16 → Fin 64 → ℝ} {kr : Fin 4 → Fin 4096 → Fin 4 → Fin 64 → ℝ} {ckr : Fin 4 → Fin 512 → Fin 4 → Fin 64 → ℝ}

/-- The values' rows, those from 64 on being ones. -/
def rows (v : Fin 4 → Fin 4096 → Fin 4 → Fin 64 → EReal) (cv : Fin 4 → Fin 512 → Fin 4 → Fin 64 → EReal) (b g : Fin 4) (d : Fin 80) (κ : ℕ) : EReal :=
  if h : d.val < 64 then joined v cv b g κ ⟨d.val, h⟩ else 1

theorem score_sum (x y : Fin 64 → EReal) (xr yr : Fin 64 → ℝ) (r : ℝ) (hx : ∀ e, x e = xr e) (hy : ∀ e, y e = (yr e : EReal) * (r : EReal)) :
    ∑ e, x e * y e = ((((∑ e, xr e * yr e) / 8) * (8 * r) : ℝ) : EReal) := by
  have : ∀ e, x e * y e = ((xr e * yr e * r : ℝ) : EReal) := fun e => by
    rw [hx, hy, ← EReal.coe_mul, ← EReal.coe_mul, mul_assoc]
  rw [Finset.sum_congr rfl fun e _ => this e, sum_coe, ← Finset.sum_mul]
  congr 1
  ring

theorem given (H : Real' m c qr kr ckr) (t : Fin cfg0.N) :
    Given (iblk m c 0 t) (iblk m c 1 t) (iblk m c 2 t) (iblk m c 3 t) (iblk m c 4 t)
      (fun col κ => scores qr kr ckr (batch t) (head t ⟨col.val / 1024, by omega⟩) (query t ⟨col.val % 1024, by omega⟩) κ * (8 * (1 / (8 * Real.log 2))))
      (rows (fun b n g e => argV m c (ix4 b n g e)) (fun b n g e => argCV m c (ix4 b n g e)) (batch t) (group t)) := by
  have hcol : ∀ (h : Fin 4) (i : Fin 1024) κ, scores qr kr ckr (batch t) (head t ⟨(h.val * 1024 + i.val) / 1024, by omega⟩) (query t ⟨(h.val * 1024 + i.val) % 1024, by omega⟩) κ
      = (∑ e, joined kr ckr (batch t) (group t) κ e * qr (batch t) (query t i) (head t h) e) / 8 := by
    intro h i κ
    have e1 : (⟨(h.val * 1024 + i.val) / 1024, by omega⟩ : Fin 4) = h := Fin.ext (by show (h.val * 1024 + i.val) / 1024 = _; omega)
    have e2 : (⟨(h.val * 1024 + i.val) % 1024, by omega⟩ : Fin 1024) = i := Fin.ext (by show (h.val * 1024 + i.val) % 1024 = _; omega)
    have e3 : (⟨(head t h).val / 4, by omega⟩ : Fin 4) = group t := Fin.ext (by show (t.val / 4 % 4 * 4 + h.val) / 4 = t.val / 4 % 4; omega)
    rw [e1, e2]; unfold scores; rw [e3]
  have hq : ∀ (h : Fin 4) (i : Fin 1024) (e : Fin 64), (iblk m c 0 t : Vec Ideal S1x4x64x1024 .bf16) (ix4 0 h e i)
      = (qr (batch t) (query t i) (head t h) e : EReal) * ((1 / (8 * Real.log 2) : ℝ) : EReal) := fun h i e => by
    rw [blkQ_apply, arrQ_apply, factor, H.q]
  refine ⟨fun h i k => ?_, fun h i k => ?_, fun j d k => ?_, fun j d k => ?_⟩
  · refine (score_sum _ _ (joined kr ckr (batch t) (group t) k.val) _ _ (fun e => ?_) (hq h i)).trans (congrArg (fun x : ℝ => ((x * _ : ℝ) : EReal)) (hcol h i k.val).symm)
    rw [blkCK_apply, arrCK_apply, H.ck, joined_ctx]
  · refine (score_sum _ _ (joined kr ckr (batch t) (group t) (512 + k.val)) _ _ (fun e => ?_) (hq h i)).trans (congrArg (fun x : ℝ => ((x * _ : ℝ) : EReal)) (hcol h i (512 + k.val)).symm)
    rw [blkK_apply, arrK_apply, H.k, joined_self _ _ _ _ _ k.isLt]
  · rw [blkCV_apply, arrCV_apply]
    unfold rows
    split
    · rw [show 256 * j.val + k.val = (⟨j.val * 256 + k.val, by omega⟩ : Fin 512).val from by show _ = j.val * 256 + k.val; omega, joined_ctx]
    · rfl
  · rw [blkV_apply, arrV_apply]
    unfold rows
    split
    · rw [show 512 + 256 * j.val + k.val = 512 + (j.val * 256 + k.val) by omega, joined_self _ _ _ _ _ (by omega)]
    · rfl

/-- The result array. -/
def result (m : (ℓ : Loc nD τ sig) → Buf (Elt Ideal) ℓ) (c : Dev nD) (qr : Fin 4 → Fin 4096 → Fin 16 → Fin 64 → ℝ) (kr : Fin 4 → Fin 4096 → Fin 4 → Fin 64 → ℝ)
    (ckr : Fin 4 → Fin 512 → Fin 4 → Fin 64 → ℝ) : Vec Ideal S4x16x64x4096 .bf16 := fun y =>
  attn qr kr ckr (fun b n g e => argV m c (ix4 b n g e)) (fun b n g e => argCV m c (ix4 b n g e)) (y 0) (y 1) (y 2) (y 3)

theorem block_eq (H : Real' m c qr kr ckr) (t : Fin cfg0.N) (h : Fin 4) (d : Fin 64) (i : Fin 1024) :
    out0_5 (iblk m c 0 t) (iblk m c 1 t) (iblk m c 2 t) (iblk m c 3 t) (iblk m c 4 t) (ix4 0 h d i)
      = result m c qr kr ckr (ix4 (batch t) (head t h) d (query t i)) := by
  have hl : Real.log 2 ≠ 0 := (Real.log_pos (by norm_num)).ne'
  rw [block_apply (given H t) _ (fun col κ => rfl) (funext fun κ => dif_neg (by decide))]
  have e1 : (⟨(h.val * 1024 + i.val) / 1024, by omega⟩ : Fin 4) = h := Fin.ext (by show (h.val * 1024 + i.val) / 1024 = _; omega)
  have e2 : (⟨(h.val * 1024 + i.val) % 1024, by omega⟩ : Fin 1024) = i := Fin.ext (by show (h.val * 1024 + i.val) % 1024 = _; omega)
  have e3 : (⟨(head t h).val / 4, by omega⟩ : Fin 4) = group t := Fin.ext (by show (t.val / 4 % 4 * 4 + h.val) / 4 = t.val / 4 % 4; omega)
  refine (congrArg₂ (fun x y => soft x y 4608) (funext fun κ => ?_) (funext fun κ => ?_) :
    _ = soft (scores qr kr ckr (batch t) (head t h) (query t i)) (fun κ => joined (fun b n g e => argV m c (ix4 b n g e)) (fun b n g e => argCV m c (ix4 b n g e)) (batch t) ⟨(head t h).val / 4, by omega⟩ κ d) 4608)
  · show scores qr kr ckr (batch t) (head t ⟨(h.val * 1024 + i.val) / 1024, _⟩) (query t ⟨(h.val * 1024 + i.val) % 1024, _⟩) κ * _ * _ = _
    rw [e1, e2, mul_assoc, show 8 * (1 / (8 * Real.log 2)) * Real.log 2 = 1 by field_simp, mul_one]
  · show rows _ _ _ _ _ _ = joined _ _ _ ⟨(head t h).val / 4, _⟩ _ _
    rw [e3]
    exact dif_pos d.isLt

theorem flushed_eq (H : Real' m c qr kr ckr) (t : Fin cfg0.N) :
    (dats m 0 c).flushed 5 t = (win0_5.blk t).view.read (Elt Ideal) (result m c qr kr ckr) := by
  show (cfg0.win 5).cut (grid0.coords t) ((dats m 0 c).after 5 t) = _
  rw [after0_5]
  refine funext fun x => ?_
  have hx : (x : S1x4x64x1024.Idx) = ix4 0 (⟨(x 1).val, (x 1).isLt⟩ : Fin 4) (⟨(x 2).val, (x 2).isLt⟩ : Fin 64) (⟨(x 3).val, (x 3).isLt⟩ : Fin 1024) := by
    refine funext fun a => Fin.ext ?_
    match a with
    | ⟨0, _⟩ => exact Nat.lt_one_iff.mp (x 0).isLt
    | ⟨1, _⟩ => rfl
    | ⟨2, _⟩ => rfl
    | ⟨3, _⟩ => rfl
  refine (congrArg (out0_5 (iblk m c 0 t) (iblk m c 1 t) (iblk m c 2 t) (iblk m c 3 t) (iblk m c 4 t)) hx).trans ((block_eq H t _ _ _).trans ?_)
  exact congrArg (result m c qr kr ckr) ((emb5 t _ _ _).symm.trans (congrArg ((cfg0.win 5).blk t).view.emb hx.symm))

theorem cover (y : S4x16x64x4096.Idx) : ∃ t : Fin cfg0.N, (cfg0.win 5).flush t = true ∧ y ∈ ((cfg0.win 5).blk t).view.set := by
  have h0 : (y 0).val < 4 := (y 0).isLt
  have h1 : (y 1).val < 16 := (y 1).isLt
  have h2 : (y 2).val < 64 := (y 2).isLt
  have h3 : (y 3).val < 4096 := (y 3).isLt
  have ht : (y 0).val * 16 + (y 1).val / 4 * 4 + (y 3).val / 1024 < cfg0.N := lt_of_lt_of_eq (by omega) N_0.symm
  have e := emb5 ⟨(y 0).val * 16 + (y 1).val / 4 * 4 + (y 3).val / 1024, ht⟩ ⟨(y 1).val % 4, by omega⟩ ⟨(y 2).val, h2⟩ ⟨(y 3).val % 1024, by omega⟩
  refine ⟨⟨(y 0).val * 16 + (y 1).val / 4 * 4 + (y 3).val / 1024, ht⟩, flush0_5 _, ?_⟩
  have hy : ((cfg0.win 5).blk ⟨(y 0).val * 16 + (y 1).val / 4 * 4 + (y 3).val / 1024, ht⟩).view.emb
      (ix4 0 ⟨(y 1).val % 4, by omega⟩ ⟨(y 2).val, h2⟩ ⟨(y 3).val % 1024, by omega⟩ : S1x4x64x1024.Idx) = y := by
    refine e.trans (funext fun a => Fin.ext ?_)
    match a with
    | ⟨0, _⟩ => show ((y 0).val * 16 + (y 1).val / 4 * 4 + (y 3).val / 1024) / 16 = (y 0).val; omega
    | ⟨1, _⟩ => show ((y 0).val * 16 + (y 1).val / 4 * 4 + (y 3).val / 1024) / 4 % 4 * 4 + (y 1).val % 4 = (y 1).val; omega
    | ⟨2, _⟩ => rfl
    | ⟨3, _⟩ => show ((y 0).val * 16 + (y 1).val / 4 * 4 + (y 3).val / 1024) % 4 * 1024 + (y 3).val % 1024 = (y 3).val; omega
  have hm := View.emb_mem_set ((cfg0.win 5).blk ⟨(y 0).val * 16 + (y 1).val / 4 * 4 + (y 3).val / 1024, ht⟩).view
    (ix4 0 ⟨(y 1).val % 4, by omega⟩ ⟨(y 2).val, h2⟩ ⟨(y 3).val % 1024, by omega⟩ : S1x4x64x1024.Idx)
  rw [hy] at hm
  exact hm

theorem final (H : Real' m c qr kr ckr) : (dats m 0 c).arrAt 5 cfg0.N = result m c qr kr ckr :=
  (dats m 0 c).arrAt_eq_of_cover 5 (result m c qr kr ckr) (fun t _ => flushed_eq H t) cover

/-- The run: the result array at `result`, the arguments unchanged. -/
theorem run (m : (ℓ : Loc nD τ sig) → Buf (Elt Ideal) ℓ) (ρ : Dev nD → PrngReg) (qr : Dev nD → Fin 4 → Fin 4096 → Fin 16 → Fin 64 → ℝ)
    (kr : Dev nD → Fin 4 → Fin 4096 → Fin 4 → Fin 64 → ℝ) (ckr : Dev nD → Fin 4 → Fin 512 → Fin 4 → Fin 64 → ℝ)
    (H : ∀ c, Real' m c (qr c) (kr c) (ckr c)) :
    θ_run defs (onTc (τ := τ) (main (F := Ideal))) ⟨m, fun _ => 0, ρ⟩ fun r => ∀ c : Dev nD,
      r.2.mem ((c : Thread nD τ).loc main_v20) = result m c (qr c) (kr c) (ckr c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (final (H c)), h.2 c⟩)
    (θ_run_and (run_main m ρ) (unchanged m ρ))

end Cert.KernelIdeal.Attn

end
-- ==== Proof.Ref.lean ====
/-
  The attention reference's result, at an element.
-/
module

public import proofs.«01_k».proof.Proof.Spec
public import proofs.«01_k».proof.Proof.Gen.ReferenceIdeal.Read
public import proofs.«01_k».proof.Proof.Gen.ReferenceIdeal.Run
public import Idealize.ShloMosaic.Lib.Pointwise

@[expose] public section

noncomputable section

namespace Cert.ReferenceIdeal.Attn

open Cert.ReferenceIdeal Cert.ReferenceIdeal.Gen Cert.ReferenceIdeal.Read Idealize.ShloMosaic Cert.Soft

variable (q : Vec Ideal S4x4096x16x64 .f32) (k v : Vec Ideal S4x4096x4x64 .f32) (ck cv : Vec Ideal S4x512x4x64 .f32)

theorem v0_apply (b : Fin 4) (κ : Fin 4608) (g : Fin 4) (e : Fin 64) :
    val_main_v0 (F := Ideal) k ck (ix4 b κ g e) = joined (fun b n g e => k (ix4 b n g e)) (fun b n g e => ck (ix4 b n g e)) b g κ.val e := by
  pointwise [val_main_v0]
  unfold joined
  split
  · rfl
  · rw [dif_pos (by omega)]

theorem v4_apply (b g r : Fin 4) (n : Fin 4096) (κ : Fin 4608) :
    val_main_v4 (F := Ideal) q k ck (ix5 b g r n κ) = ∑ e : Fin 64, val_main_v0 (F := Ideal) k ck (ix4 b κ g e) * q (ix4 b n ⟨g.val * 4 + r.val, by omega⟩ e) := by
  generalize h : val_main_v0 (F := Ideal) k ck = K
  pointwise [val_main_v4, val_main_v3, val_main_v2, h]

theorem v6_apply (b g r : Fin 4) (n : Fin 4096) (κ : Fin 4608) :
    val_main_v6 (F := Ideal) q k ck (ix5 b g r n κ) = val_main_v4 (F := Ideal) q k ck (ix5 b g r n κ) * Ideal.ofBits .f32 0x3E000000#32 := by
  generalize h : val_main_v4 (F := Ideal) q k ck = K
  pointwise [val_main_v6, val_main_v5, val_main_cst, h]

theorem ofBits_neg_inf : Ideal.ofBits .f32 0xFF800000#32 = ⊥ := by simp [Ideal.ofBits, Ideal.ieee]

/-- The rows' maxima are real where the scores are. -/
theorem v9_real (j : S4x4x4x4096.Idx) (H : ∀ i, ∃ r : ℝ, val_main_v6 (F := Ideal) q k ck i = r) :
    ∃ r : ℝ, val_main_v9 (F := Ideal) q k ck j = r := by
  obtain ⟨r, hr⟩ : ∃ r : ℝ, val_main_v7 (F := Ideal) q k ck j = r := by
    unfold val_main_v7
    generalize val_main_v6 (F := Ideal) q k ck = y0 at *
    rw [Host.reduce_eq_fold (FloatOps.maximumf (F := Ideal) (φ := .f32)), show val_main_cst_0 (F := Ideal) _ = (⊥ : EReal) from ofBits_neg_inf]
    refine fold_max_real _ ?_ y0 fun i _ => H i
    refine ⟨ix5 (j 0) (j 1) (j 2) (j 3) 0, ?_⟩
    rw [Finset.mem_filter]
    refine ⟨Finset.mem_univ _, funext fun a => Fin.ext ?_⟩
    match a with
    | ⟨0, _⟩ => exact Shape.ReducesTo.drop_apply_val_of_eq reducesTo_S4x4x4x4096x4608_S4x4x4x4096_d4 (ix5 (j 0) (j 1) (j 2) (j 3) 0) 0 0 (by decide) (by decide)
    | ⟨1, _⟩ => exact Shape.ReducesTo.drop_apply_val_of_eq reducesTo_S4x4x4x4096x4608_S4x4x4x4096_d4 (ix5 (j 0) (j 1) (j 2) (j 3) 0) 1 1 (by decide) (by decide)
    | ⟨2, _⟩ => exact Shape.ReducesTo.drop_apply_val_of_eq reducesTo_S4x4x4x4096x4608_S4x4x4x4096_d4 (ix5 (j 0) (j 1) (j 2) (j 3) 0) 2 2 (by decide) (by decide)
    | ⟨3, _⟩ => exact Shape.ReducesTo.drop_apply_val_of_eq reducesTo_S4x4x4x4096x4608_S4x4x4x4096_d4 (ix5 (j 0) (j 1) (j 2) (j 3) 0) 3 3 (by decide) (by decide)
  refine ⟨r, ?_⟩
  rw [val_main_v9_apply, hr, val_main_v8_apply, val_main_cst_1_apply]
  show max (Ideal.ofBits .f32 0xFF800000#32) (r : EReal) = r
  rw [ofBits_neg_inf]
  exact max_eq_right bot_le

theorem v13_apply (b g r : Fin 4) (n : Fin 4096) (κ : Fin 4608) :
    val_main_v13 (F := Ideal) q k ck (ix5 b g r n κ) = Ideal.exp (val_main_v6 (F := Ideal) q k ck (ix5 b g r n κ) - val_main_v9 (F := Ideal) q k ck (ix4 b g r n)) := by
  generalize h : val_main_v6 (F := Ideal) q k ck = K
  generalize h' : val_main_v9 (F := Ideal) q k ck = M
  pointwise [val_main_v13, val_main_v12, val_main_v11, val_main_v10, h, h']

theorem v17_apply (b g r : Fin 4) (n : Fin 4096) (κ : Fin 4608) :
    val_main_v17 (F := Ideal) q k ck (ix5 b g r n κ) = Ideal.div (val_main_v13 (F := Ideal) q k ck (ix5 b g r n κ)) (∑ j : Fin 4608, val_main_v13 (F := Ideal) q k ck (ix5 b g r n j)) := by
  generalize h : val_main_v13 (F := Ideal) q k ck = K
  pointwise [val_main_v17, val_main_v16, val_main_v15, val_main_v14, val_main_cst_2, h]

theorem v22_apply (b : Fin 4) (h : Fin 16) (d : Fin 64) (n : Fin 4096) :
    val_main_v22 (F := Ideal) q k v ck cv (ix4 b h d n) = ∑ κ : Fin 4608, val_main_v1 (F := Ideal) v cv (ix4 b κ ⟨h.val / 4, by omega⟩ d)
      * val_main_v17 (F := Ideal) q k ck (ix5 b ⟨h.val / 4, by omega⟩ ⟨h.val % 4, by omega⟩ n κ) := by
  generalize h0 : val_main_v17 (F := Ideal) q k ck = P
  generalize h1 : val_main_v1 (F := Ideal) v cv = W
  pointwise [val_main_v22, val_main_v21, val_main_v20, val_main_v19, val_main_v18, h0, h1]

theorem v1_apply (b : Fin 4) (κ : Fin 4608) (g : Fin 4) (e : Fin 64) :
    val_main_v1 (F := Ideal) v cv (ix4 b κ g e) = joined (fun b n g e => v (ix4 b n g e)) (fun b n g e => cv (ix4 b n g e)) b g κ.val e :=
  v0_apply v cv b κ g e

theorem ofBits_eighth : Ideal.ofBits .f32 0x3E000000#32 = ((1 / 8 : ℝ) : EReal) := by
  simp [Ideal.ofBits, Ideal.ieee, -EReal.coe_mul]; norm_num

section
variable {q k ck} {qr : Fin 4 → Fin 4096 → Fin 16 → Fin 64 → ℝ} {kr : Fin 4 → Fin 4096 → Fin 4 → Fin 64 → ℝ} {ckr : Fin 4 → Fin 512 → Fin 4 → Fin 64 → ℝ}
  (hq : ∀ b n h e, q (ix4 b n h e) = (qr b n h e : EReal)) (hk : ∀ b n g e, k (ix4 b n g e) = (kr b n g e : EReal))
  (hck : ∀ b n g e, ck (ix4 b n g e) = (ckr b n g e : EReal))
include hq hk hck

theorem score_real (b g r : Fin 4) (n : Fin 4096) (κ : Fin 4608) :
    val_main_v6 (F := Ideal) q k ck (ix5 b g r n κ) = (scores qr kr ckr b ⟨g.val * 4 + r.val, by omega⟩ n κ.val : EReal) := by
  have hj : ∀ e, joined (fun b n g e => k (ix4 b n g e)) (fun b n g e => ck (ix4 b n g e)) b g κ.val e = ((joined kr ckr b g κ.val e : ℝ) : EReal) := fun e => by
    unfold joined
    split
    · exact hck _ _ _ _
    · split
      · exact hk _ _ _ _
      · rfl
  rw [v6_apply, v4_apply, ofBits_eighth]
  simp only [v0_apply, hj, hq, ← EReal.coe_mul, sum_coe]
  unfold scores
  have e3 : (⟨(⟨g.val * 4 + r.val, by omega⟩ : Fin 16).val / 4, by omega⟩ : Fin 4) = g := Fin.ext (by show (g.val * 4 + r.val) / 4 = g.val; omega)
  rw [e3]
  congr 1
  ring

/-- The reference's result. -/
theorem result_apply (b : Fin 4) (h : Fin 16) (d : Fin 64) (n : Fin 4096) :
    val_main_v22 (F := Ideal) q k v ck cv (ix4 b h d n)
      = attn qr kr ckr (fun b n g e => v (ix4 b n g e)) (fun b n g e => cv (ix4 b n g e)) b h d n := by
  obtain ⟨T, hT⟩ := v9_real q k ck (ix4 b ⟨h.val / 4, by omega⟩ ⟨h.val % 4, by omega⟩ n) fun i => by
    have hi : i = ix5 (i 0) (i 1) (i 2) (i 3) (i 4) := by
      refine funext fun a => ?_
      match a with
      | ⟨0, _⟩ => rfl
      | ⟨1, _⟩ => rfl
      | ⟨2, _⟩ => rfl
      | ⟨3, _⟩ => rfl
      | ⟨4, _⟩ => rfl
    rw [hi]
    exact ⟨_, score_real hq hk hck _ _ _ _ _⟩
  have eh : (⟨(⟨h.val / 4, by omega⟩ : Fin 4).val * 4 + (⟨h.val % 4, by omega⟩ : Fin 4).val, by show h.val / 4 * 4 + h.val % 4 < 16; omega⟩ : Fin 16) = h :=
    Fin.ext (by show h.val / 4 * 4 + h.val % 4 = h.val; omega)
  have hp : ∀ κ : Fin 4608, val_main_v13 (F := Ideal) q k ck (ix5 b ⟨h.val / 4, by omega⟩ ⟨h.val % 4, by omega⟩ n κ)
      = ((Real.exp (scores qr kr ckr b h n κ.val - T) : ℝ) : EReal) := fun κ => by
    rw [v13_apply, hT, score_real hq hk hck, eh, ← EReal.coe_sub]
    rfl
  rw [v22_apply]
  simp only [v17_apply, hp, v1_apply, sum_coe]
  unfold attn
  rw [← soft_of_shift _ _ _ (by norm_num) T, ← Fin.sum_univ_eq_sum_range (fun κ => joined _ _ _ _ κ d * Ideal.div ((Real.exp (scores qr kr ckr b h n κ - T) : ℝ) : EReal) _) 4608]
  rw [← Fin.sum_univ_eq_sum_range (fun j => Real.exp (scores qr kr ckr b h n j - T)) 4608]

end

end Cert.ReferenceIdeal.Attn

end
-- ==== Proof.Finite.lean ====
/-
  What the printed precondition says: every element of an array is a real number.
-/
module

public import Idealize.ShloMosaic.Lib.ReduceAll
public import Idealize.ShloMosaic.Lib.Affine
public import Idealize.ShloMosaic.PureOps.Ideal
public import Idealize.ShloMosaic.PureOps.IdealRules

@[expose] public section

noncomputable section

namespace Cert.Finite

open Idealize.ShloMosaic

theorem ofBits_inf : Ideal.ofBits .f32 0x7F800000#32 = ⊤ := by simp [Ideal.ofBits, Ideal.ieee]

/-- A number of absolute value below infinity is real. -/
theorem real_of_abs_lt (x : EReal) (h : max x (-x) < ⊤) : ∃ r : ℝ, x = r := by
  induction x with
  | bot => exact absurd h (by simp)
  | top => exact absurd h (by simp)
  | coe r => exact ⟨r, rfl⟩

/-- An element is real where its test is true. -/
theorem real_of_test (x : EReal) (h : Ideal.cmp .olt (max x (-x)) (Ideal.ofBits .f32 0x7F800000#32) = 1#1) : ∃ r : ℝ, x = r := by
  refine real_of_abs_lt x ?_
  rw [ofBits_inf] at h
  by_contra hn
  simp [Ideal.cmp, hn] at h

/-- All the elements of an array are real where the conjunction of their tests is true. -/
theorem real_of_all {s t u : Shape} {axes : List (Fin s.rank)} [Subsingleton t.Idx] (x : FVec Ideal s .f32) (y : FVec Ideal s .f32) (init : u.Idx → BitVec 1)
    (hy : ∀ i, y i = Ideal.ofBits .f32 0x7F800000#32) (h : s.ReducesTo axes t) (hu : 0 < u.numel) (j : t.Idx)
    (e : Host.reduce IntOp.andi (cmpf .olt (Host.absf x) y) init h hu j = 1#1) (i : s.Idx) : ∃ r : ℝ, x i = r := by
  have := Host.reduce_andi_all _ _ _ _ j e i
  refine real_of_test (x i) ?_
  rw [← hy i]
  exact this

end Cert.Finite
-- ==== Proof.AttnClaim.lean ====
/-
  The attention's claims.
-/
module

public import proofs.«01_k».proof.Defs
public import proofs.«01_k».proof.Proof.Attn
public import proofs.«01_k».proof.Proof.Ref
public import proofs.«01_k».proof.Proof.Finite
public import proofs.«01_k».proof.Proof.Gen.Pre_finite
public import proofs.«01_k».proof.Proof.Gen.Kernel.Frame
public import Idealize.ShloMosaic.Lib.Claim

@[expose] public section

noncomputable section

namespace Cert.AttnClaim

open Idealize.ShloMosaic Idealize.ShloMosaic.TcCoe Idealize.SL.Sem
open Cert.KernelIdeal.Attn (argQ argK argCK Real')

/-- The precondition gives the real numbers the scores are made of. -/
theorem real (m : (ℓ : Loc Cert.KernelIdeal.nD Cert.KernelIdeal.τ Cert.KernelIdeal.sig) → Buf (Elt Ideal) ℓ)
    (hm : Cert.Pre_KernelIdeal_finite m) (c : Dev Cert.KernelIdeal.nD) : ∃ qr kr ckr, Real' m c qr kr ckr := by
  have h := congrFun (hm c) (fun a => a.elim0)
  dsimp only [Cert.Pre_finite.fn] at h
  obtain ⟨h2, hck⟩ := IntOp.andi_eq_one.1 h
  obtain ⟨hq, hk⟩ := IntOp.andi_eq_one.1 h2
  have rq := Cert.Finite.real_of_all _ _ _ (fun _ => rfl) _ _ _ hq
  have rk := Cert.Finite.real_of_all _ _ _ (fun _ => rfl) _ _ _ hk
  have rck := Cert.Finite.real_of_all _ _ _ (fun _ => rfl) _ _ _ hck
  choose fq hfq using rq
  choose fk hfk using rk
  choose fck hfck using rck
  exact ⟨fun b n h e => fq (ix4 b n h e), fun b n h e => fk (ix4 b n h e), fun b n h e => fck (ix4 b n h e),
    fun _ _ _ _ => hfq _, fun _ _ _ _ => hfk _, fun _ _ _ _ => hfck _⟩

theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

theorem algebraic : Cert.algebraic_KernelIdeal_ReferenceIdeal_pre_finite := by
  intro m g m' g' hpre hagree
  choose qr kr ckr H using real m hpre
  refine ⟨fun c => Cert.KernelIdeal.Attn.result m c (qr c) (kr c) (ckr c), Cert.KernelIdeal.Attn.run m g qr kr ckr H, ?_⟩
  refine (θ_run _ _ _).mono (fun r h c => ⟨(h c).1.trans ?_, (h c).2⟩) (Cert.ReferenceIdeal.Value.run (F := Ideal) m' g')
  rw [Cert.ReferenceIdeal.Read.val_main_v22_eq]
  obtain ⟨ha0, ha1, ha2, ha3, ha4⟩ := hagree c
  rw [ha0, ha1, ha2, ha3, ha4]
  refine funext fun y => ?_
  have hy : y = ix4 (y 0) (y 1) (y 2) (y 3) := by
    refine funext fun a => ?_
    match a with
    | ⟨0, _⟩ => rfl
    | ⟨1, _⟩ => rfl
    | ⟨2, _⟩ => rfl
    | ⟨3, _⟩ => rfl
  refine (congrArg _ hy).trans ?_
  exact Cert.ReferenceIdeal.Attn.result_apply _ _ (H c).q (H c).k (H c).ck (y 0) (y 1) (y 2) (y 3)

end Cert.AttnClaim
-- ==== Proof.Route.lean ====
/-
  The router's choice: the group of four whose two best sum highest, its two best members, and how a
  stable sort and how a count of better members each find them.
-/
module

public import Idealize.ShloMosaic.Lib.SortFacts
public import Idealize.ShloMosaic.Lib.Pointwise

@[expose] public section

noncomputable section

namespace Cert.Route

open Idealize.ShloMosaic

/-- `i` comes before `j`: it is greater, or equal and earlier. -/
def Before {n : ℕ} (x : Fin n → EReal) (i j : Fin n) : Prop := x j < x i ∨ (x i = x j ∧ i < j)

theorem Before.le {n : ℕ} {x : Fin n → EReal} {i j : Fin n} (h : Before x i j) : x j ≤ x i := by
  rcases h with h | ⟨h, -⟩
  · exact h.le
  · exact h.ge

theorem Before.asymm {n : ℕ} {x : Fin n → EReal} {i j : Fin n} (h : Before x i j) : ¬ Before x j i := by
  rintro (h' | ⟨e, h'⟩) <;> rcases h with h | ⟨e', h⟩
  · exact lt_asymm h h'
  · exact h'.ne e'
  · exact h.ne e
  · exact lt_asymm h h'

theorem Before.trans {n : ℕ} {x : Fin n → EReal} {i j k : Fin n} (h : Before x i j) (h' : Before x j k) : Before x i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Putting an earlier position into a sorted list keeps it sorted. -/
theorem pairwise_insert {n : ℕ} (x : Fin n → EReal) (before : Fin n → Fin n → Bool)
    (hb : ∀ i j, before i j = true ↔ x j < x i) (a : Fin n) (l : List (Fin n)) (ha : ∀ b ∈ l, a < b)
    (hl : l.Pairwise (Before x)) : (insertBefore before a l).Pairwise (Before x) := by
  induction l with
  | nil => exact List.pairwise_singleton _ _
  | cons b l ih =>
    have hl' := List.pairwise_cons.1 hl
    unfold insertBefore
    split
    · rename_i h
      refine List.pairwise_cons.2 ⟨fun c hc => ?_, ih (fun c hc => ha c (List.mem_cons_of_mem _ hc)) hl'.2⟩
      rcases List.mem_cons.1 ((perm_insertBefore before a l).mem_iff.1 hc) with rfl | hc
      · exact .inl ((hb _ _).1 h)
      · exact hl'.1 c hc
    · rename_i h
      have hab : Before x a b := by
        have h' : ¬ x a < x b := fun h' => h ((hb _ _).2 h')
        rcases (not_lt.1 h').lt_or_eq with h'' | h''
        · exact .inl h''
        · exact .inr ⟨h''.symm, ha b (List.mem_cons_self ..)⟩
      refine List.pairwise_cons.2 ⟨fun c hc => ?_, hl⟩
      rcases List.mem_cons.1 hc with rfl | hc
      · exact hab
      · exact hab.trans (hl'.1 c hc)

theorem pairwise_sort {n : ℕ} (x : Fin n → EReal) (before : Fin n → Fin n → Bool)
    (hb : ∀ i j, before i j = true ↔ x j < x i) (l : List (Fin n)) (hl : l.Pairwise (· < ·)) :
    (stableSort before l).Pairwise (Before x) := by
  induction l with
  | nil => exact List.Pairwise.nil
  | cons a l ih =>
    have hl' := List.pairwise_cons.1 hl
    exact pairwise_insert x before hb a _ (fun b hb' => hl'.1 b ((perm_stableSort before l).mem_iff.1 hb')) (ih hl'.2)

/-- What a stable sort, greater first, puts earlier comes before. -/
theorem sorted_before {n : ℕ} (x : Fin n → EReal) (before : Fin n → Fin n → Bool)
    (hb : ∀ i j, before i j = true ↔ x j < x i) (p q : Fin n) (h : p < q) :
    Before x (sortedFrom before p) (sortedFrom before q) := by
  have hp := pairwise_sort x before hb (List.finRange n) (List.pairwise_lt_finRange n)
  exact List.pairwise_iff_get.1 hp _ _ h

/-- and so the first comes before every other, -/
theorem sorted_first {n : ℕ} (x : Fin n → EReal) (before : Fin n → Fin n → Bool)
    (hb : ∀ i j, before i j = true ↔ x j < x i) (p : Fin n) (hp : p.val = 0) (j : Fin n) (hj : j ≠ sortedFrom before p) :
    Before x (sortedFrom before p) j := by
  obtain ⟨q, rfl⟩ := sortedFrom_surjective before j
  refine sorted_before x before hb p q (Fin.lt_def.2 ?_)
  have : q ≠ p := fun h => hj (h ▸ rfl)
  have := Fin.val_ne_of_ne this
  omega

/-- and the second before every other but the first. -/
theorem sorted_second {n : ℕ} (x : Fin n → EReal) (before : Fin n → Fin n → Bool)
    (hb : ∀ i j, before i j = true ↔ x j < x i) (p q : Fin n) (hp : p.val = 0) (hq : q.val = 1)
    (j : Fin n) (hj : j ≠ sortedFrom before p) (hj' : j ≠ sortedFrom before q) :
    Before x (sortedFrom before q) j := by
  obtain ⟨r, rfl⟩ := sortedFrom_surjective before j
  refine sorted_before x before hb q r (Fin.lt_def.2 ?_)
  have h1 := Fin.val_ne_of_ne (show r ≠ p from fun h => hj (h ▸ rfl))
  have h2 := Fin.val_ne_of_ne (show r ≠ q from fun h => hj' (h ▸ rfl))
  omega

/-- The highest sum of two of four. -/
def best (y : Fin 4 → EReal) : EReal :=
  max (max (max (max (max (y 0 + y 1) (y 0 + y 2)) (y 0 + y 3)) (y 1 + y 2)) (y 1 + y 3)) (y 2 + y 3)

theorem le_best (y : Fin 4 → EReal) (i j : Fin 4) (h : i ≠ j) : y i + y j ≤ best y := by
  unfold best
  fin_cases i <;> fin_cases j <;> first | exact absurd rfl h | (simp; done) | (rw [add_comm]; simp; done)

theorem best_le (y : Fin 4 → EReal) (z : EReal) (h : ∀ i j : Fin 4, i ≠ j → y i + y j ≤ z) : best y ≤ z := by
  unfold best
  simp only [max_le_iff]
  exact ⟨⟨⟨⟨⟨h 0 1 (by decide), h 0 2 (by decide)⟩, h 0 3 (by decide)⟩, h 1 2 (by decide)⟩, h 1 3 (by decide)⟩, h 2 3 (by decide)⟩

/-- The two first in order have the highest sum. -/
theorem best_eq (y : Fin 4 → EReal) (a b : Fin 4) (hab : a ≠ b) (ha : ∀ j, j ≠ a → Before y a j)
    (hb : ∀ j, j ≠ a → j ≠ b → Before y b j) : best y = y a + y b := by
  refine le_antisymm (best_le y _ fun i j hij => ?_) (le_best y a b hab)
  have le_a : ∀ j, y j ≤ y a := fun j => by
    by_cases h : j = a
    · rw [h]
    · exact (ha j h).le
  have le_b : ∀ j, j ≠ a → y j ≤ y b := fun j h => by
    by_cases h' : j = b
    · rw [h']
    · exact (hb j h h').le
  by_cases h : j = a
  · rw [add_comm]
    exact add_le_add (le_a j) (le_b i (fun h' => hij (h'.trans h.symm)))
  · exact add_le_add (le_a i) (le_b j h)

/-- Group `g` is the first whose two best sum highest, and `a` then `b` are its two best members. -/
structure Picks (t : Fin 4 → Fin 4 → EReal) (g a b : Fin 4) : Prop where
  group : ∀ k, k ≠ g → Before (fun k => best (t k)) g k
  first : ∀ j, j ≠ a → Before (t g) a j
  second : ∀ j, j ≠ a → j ≠ b → Before (t g) b j
  ne : a ≠ b

/-- The group and the place in it of one of sixteen. -/
def hi (e : Fin 16) : Fin 4 := ⟨e.val / 4, by omega⟩
def lo (e : Fin 16) : Fin 4 := ⟨e.val % 4, by omega⟩
def at16 (k i : Fin 4) : Fin 16 := ⟨4 * k.val + i.val, by omega⟩

theorem hi_at16 (k i : Fin 4) : hi (at16 k i) = k := Fin.ext (by simp only [hi, at16]; omega)
theorem lo_at16 (k i : Fin 4) : lo (at16 k i) = i := Fin.ext (by simp only [lo, at16]; omega)
theorem at16_hi_lo (e : Fin 16) : at16 (hi e) (lo e) = e := Fin.ext (by simp only [hi, lo, at16]; omega)

/-- The sixteen with all but one group's at the bottom. -/
def masked (t : Fin 4 → Fin 4 → EReal) (g : Fin 4) (e : Fin 16) : EReal := if hi e = g then t (hi e) (lo e) else ⊥

theorem masked_at (t : Fin 4 → Fin 4 → EReal) (g i : Fin 4) : masked t g (at16 g i) = t g i := by
  unfold masked; rw [if_pos (hi_at16 g i), hi_at16, lo_at16]

/-- The first two of the sixteen masked to the chosen group are that group's two best. -/
theorem picks_of_masked (t : Fin 4 → Fin 4 → EReal) (g : Fin 4) (hg : ∀ k, k ≠ g → Before (fun k => best (t k)) g k)
    (A B : Fin 16) (hAB : A ≠ B) (hA : ∀ j, j ≠ A → Before (masked t g) A j)
    (hB : ∀ j, j ≠ A → j ≠ B → Before (masked t g) B j) :
    ∃ a b, Picks t g a b ∧ A = at16 g a ∧ B = at16 g b := by
  -- one outside the group that comes before three of the group's leaves the group's sum at the bottom
  have out : ∀ (E : Fin 16) (c : Fin 4), (hi E ≠ g → ∀ i, i ≠ c → Before (masked t g) E (at16 g i)) → hi E = g := by
    intro E c hE
    by_contra hne
    have hbot : masked t g E = ⊥ := if_neg hne
    have hall : ∀ i, i ≠ c → t g i = ⊥ ∧ E < at16 g i := by
      intro i hi'
      rcases hE hne i hi' with h | ⟨h, h'⟩
      · rw [hbot] at h; exact absurd h not_lt_bot
      · rw [hbot, masked_at] at h; exact ⟨h.symm, h'⟩
    have hbest : best (t g) = ⊥ := by
      refine le_bot_iff.1 (best_le _ _ fun i j hij => ?_)
      by_cases h : i = c
      · rw [(hall j (fun h' => hij (h.trans h'.symm))).1, EReal.add_bot]
      · rw [(hall i h).1, EReal.bot_add]
    rcases hg (hi E) hne with h | ⟨-, h⟩
    · simp only [hbest] at h; exact absurd h not_lt_bot
    · obtain ⟨i, hi'⟩ : ∃ i, i ≠ c := exists_ne c
      have h1 : E.val < 4 * g.val + i.val := (hall i hi').2
      have h2 : g.val < E.val / 4 := h
      have := i.isLt
      omega
  have hAg : hi A = g := by
    refine out A (lo A) fun _ i hi' => hA _ fun h => hi' ?_
    rw [← h, lo_at16]
  have hBg : hi B = g := by
    refine out B (lo A) fun hne i hi' => hB _ (fun h => hi' (by rw [← h, lo_at16])) fun h => hne (by rw [← h, hi_at16])
  have eA : A = at16 g (lo A) := by rw [← hAg, at16_hi_lo]
  have eB : B = at16 g (lo B) := by rw [← hBg, at16_hi_lo]
  have inj : ∀ i j, at16 g i = at16 g j → i = j := fun i j h => by rw [← lo_at16 g i, h, lo_at16]
  have low : ∀ i j, Before (masked t g) (at16 g i) (at16 g j) → Before (t g) i j := by
    intro i j h
    unfold Before at h
    rw [masked_at, masked_at] at h
    exact h.imp_right fun h => ⟨h.1, by have h2 : 4 * g.val + i.val < 4 * g.val + j.val := h.2; exact Fin.lt_def.2 (by omega)⟩
  refine ⟨lo A, lo B, ⟨hg, fun j hj => ?_, fun j hj hj' => ?_, fun h => hAB (by rw [eA, eB, h])⟩, eA, eB⟩
  · refine low _ _ ?_
    rw [← eA]
    exact hA _ fun h => hj (inj _ _ (h.trans eA))
  · refine low _ _ ?_
    rw [← eB]
    exact hB _ (fun h => hj (inj _ _ (h.trans eA))) fun h => hj' (inj _ _ (h.trans eB))

/-- The highest of the four groups' sums. -/
def top (G : Fin 4 → EReal) : EReal := max (max (max (G 0) (G 1)) (G 2)) (G 3)

theorem top_eq (G : Fin 4 → EReal) (g : Fin 4) (hg : ∀ k, k ≠ g → Before G g k) : top G = G g := by
  refine le_antisymm ?_ (by unfold top; fin_cases g <;> simp)
  have : ∀ k, G k ≤ G g := fun k => by
    by_cases h : k = g
    · rw [h]
    · exact (hg k h).le
  unfold top
  simp only [max_le_iff]
  exact ⟨⟨⟨this 0, this 1⟩, this 2⟩, this 3⟩

/-- The first group at the highest sum, taken one after the other. -/
def hit0 (G : Fin 4 → EReal) : EReal := if G 0 = top G then 1 else 0
def hit1 (G : Fin 4 → EReal) : EReal := if G 1 = top G then 1 - hit0 G else 0
def hit2 (G : Fin 4 → EReal) : EReal := if G 2 = top G then 1 - hit0 G - hit1 G else 0
def hit3 (G : Fin 4 → EReal) : EReal := if G 3 = top G then 1 - hit0 G - hit1 G - hit2 G else 0

theorem one_sub_one : (1 : EReal) - 1 = 0 := by
  rw [← EReal.coe_one, ← EReal.coe_sub, sub_self, EReal.coe_zero]

theorem hit_eq (G : Fin 4 → EReal) (g : Fin 4) (hg : ∀ k, k ≠ g → Before G g k) :
    hit0 G = (if g = 0 then 1 else 0) ∧ hit1 G = (if g = 1 then 1 else 0)
      ∧ hit2 G = (if g = 2 then 1 else 0) ∧ hit3 G = (if g = 3 then 1 else 0) := by
  have ht := top_eq G g hg
  have hlt : ∀ k, k < g → G k ≠ G g := by
    intro k hk h
    rcases hg k hk.ne with h' | ⟨-, h'⟩
    · exact h'.ne h
    · exact lt_asymm h' hk
  unfold hit3 hit2 hit1 hit0
  rw [ht]
  fin_cases g
  · simp [one_sub_one]
  · have h0 := hlt 0 (by decide)
    simp only [Fin.mk_one] at h0 ⊢
    simp [h0, one_sub_one]
  · have h0 := hlt 0 (by decide)
    have h1 := hlt 1 (by decide)
    simp only [Fin.reduceFinMk] at h0 h1 ⊢
    simp [h0, h1, one_sub_one]
  · have h0 := hlt 0 (by decide)
    have h1 := hlt 1 (by decide)
    have h2 := hlt 2 (by decide)
    simp only [Fin.reduceFinMk] at h0 h1 h2 ⊢
    simp [h0, h1, h2]

/-- The chosen group's value, picked group by group. -/
def pick (h0 h1 h2 h3 v0 v1 v2 v3 : EReal) : EReal :=
  if 0 < h3 then v3 else if 0 < h2 then v2 else if 0 < h1 then v1 else if 0 < h0 then v0 else 0

theorem pick_eq (g : Fin 4) (v : Fin 4 → EReal) :
    pick (if g = 0 then 1 else 0) (if g = 1 then 1 else 0) (if g = 2 then 1 else 0) (if g = 3 then 1 else 0)
      (v 0) (v 1) (v 2) (v 3) = v g := by
  unfold pick
  fin_cases g <;> simp

theorem count_lt (p q r : Prop) [Decidable p] [Decidable q] [Decidable r] :
    ((0 : EReal) + (if p then 1 else 0) + (if q then 1 else 0) + (if r then 1 else 0) < 2)
      ↔ ¬ (p ∧ q) ∧ ¬ (p ∧ r) ∧ ¬ (q ∧ r) := by
  have h11 : (1 : EReal) + 1 = 2 := by
    rw [← EReal.coe_one, ← EReal.coe_add, one_add_one_eq_two]; rfl
  have h12 : (1 : EReal) < 2 := by
    rw [← h11, ← EReal.coe_one, ← EReal.coe_add]; exact EReal.coe_lt_coe_iff.2 (by norm_num)
  have h02 : (0 : EReal) < 2 := lt_trans zero_lt_one h12
  have h3 : ¬ ((2 : EReal) + 1 < 2) := by
    rw [← h11, ← EReal.coe_one, ← EReal.coe_add, ← EReal.coe_add]
    exact fun h => absurd (EReal.coe_lt_coe_iff.1 h) (by norm_num)
  split_ifs <;> simp [*]

/-- The members of a group chosen by counting those that come before. -/
def chosen0 (y s : Fin 4 → EReal) : EReal :=
  if (0 : EReal) + (if y 0 < y 1 then 1 else 0) + (if y 0 < y 2 then 1 else 0) + (if y 0 < y 3 then 1 else 0) < 2 then s 0 else 0
def chosen1 (y s : Fin 4 → EReal) : EReal :=
  if (0 : EReal) + (if y 1 ≤ y 0 then 1 else 0) + (if y 1 < y 2 then 1 else 0) + (if y 1 < y 3 then 1 else 0) < 2 then s 1 else 0
def chosen2 (y s : Fin 4 → EReal) : EReal :=
  if (0 : EReal) + (if y 2 ≤ y 0 then 1 else 0) + (if y 2 ≤ y 1 then 1 else 0) + (if y 2 < y 3 then 1 else 0) < 2 then s 2 else 0
def chosen3 (y s : Fin 4 → EReal) : EReal :=
  if (0 : EReal) + (if y 3 ≤ y 0 then 1 else 0) + (if y 3 ≤ y 1 then 1 else 0) + (if y 3 ≤ y 2 then 1 else 0) < 2 then s 3 else 0

theorem before_lt {n : ℕ} {y : Fin n → EReal} {i j : Fin n} (h : i < j) : y i < y j ↔ Before y j i :=
  ⟨.inl, fun h' => h'.elim id fun h' => absurd h'.2 (lt_asymm h)⟩

theorem before_le {n : ℕ} {y : Fin n → EReal} {i j : Fin n} (h : j < i) : y i ≤ y j ↔ Before y j i :=
  ⟨fun h' => h'.lt_or_eq.imp id fun h' => ⟨h'.symm, h⟩, Before.le⟩

theorem others : ∀ i j k l : Fin 4, j ≠ i → k ≠ i → l ≠ i → j ≠ k → j ≠ l → k ≠ l → ∀ c, c ≠ i → c = j ∨ c = k ∨ c = l := by
  decide

theorem chosen_eq (y s : Fin 4 → EReal) (a b : Fin 4) (hab : a ≠ b) (ha : ∀ j, j ≠ a → Before y a j)
    (hb : ∀ j, j ≠ a → j ≠ b → Before y b j) :
    chosen0 y s = (if 0 = a ∨ 0 = b then s 0 else 0) ∧ chosen1 y s = (if 1 = a ∨ 1 = b then s 1 else 0)
      ∧ chosen2 y s = (if 2 = a ∨ 2 = b then s 2 else 0) ∧ chosen3 y s = (if 3 = a ∨ 3 = b then s 3 else 0) := by
  have key : ∀ i j k l : Fin 4, j ≠ i → k ≠ i → l ≠ i → j ≠ k → j ≠ l → k ≠ l →
      ((¬ (Before y j i ∧ Before y k i) ∧ ¬ (Before y j i ∧ Before y l i) ∧ ¬ (Before y k i ∧ Before y l i)) ↔ (i = a ∨ i = b)) := by
    intro i j k l hj hk hl hjk hjl hkl
    constructor
    · rintro ⟨h1, h2, h3⟩
      by_contra hne
      rw [not_or] at hne
      have h4 := ha i hne.1
      have h5 := hb i hne.1 hne.2
      have cov := others i j k l hj hk hl hjk hjl hkl
      rcases cov a (Ne.symm hne.1) with rfl | rfl | rfl <;> rcases cov b (Ne.symm hne.2) with rfl | rfl | rfl <;>
        first | exact hab rfl | exact h1 ⟨h4, h5⟩ | exact h1 ⟨h5, h4⟩ | exact h2 ⟨h4, h5⟩ | exact h2 ⟨h5, h4⟩ | exact h3 ⟨h4, h5⟩ | exact h3 ⟨h5, h4⟩
    · have two : ∀ c d : Fin 4, c ≠ i → d ≠ i → c ≠ d → (i = a ∨ i = b) → ¬ (Before y c i ∧ Before y d i) := by
        rintro c d hc hd hcd (rfl | rfl) ⟨h1, h2⟩
        · exact (ha c hc).asymm h1
        · by_cases h : c = a
          · exact (hb d (fun h' => hcd (h.trans h'.symm)) hd).asymm h2
          · exact (hb c h hc).asymm h1
      exact fun h => ⟨two _ _ hj hk hjk h, two _ _ hj hl hjl h, two _ _ hk hl hkl h⟩
  unfold chosen0 chosen1 chosen2 chosen3
  have lt : ∀ i j : Fin 4, i < j → (y i < y j) = Before y j i := fun i j h => propext (before_lt h)
  have le : ∀ i j : Fin 4, j < i → (y i ≤ y j) = Before y j i := fun i j h => propext (before_le h)
  refine ⟨if_congr ((count_lt _ _ _).trans ?_) rfl rfl, if_congr ((count_lt _ _ _).trans ?_) rfl rfl,
    if_congr ((count_lt _ _ _).trans ?_) rfl rfl, if_congr ((count_lt _ _ _).trans ?_) rfl rfl⟩
  · rw [lt 0 1 (by decide), lt 0 2 (by decide), lt 0 3 (by decide)]
    exact key 0 1 2 3 (by decide) (by decide) (by decide) (by decide) (by decide) (by decide)
  · rw [le 1 0 (by decide), lt 1 2 (by decide), lt 1 3 (by decide)]
    exact key 1 0 2 3 (by decide) (by decide) (by decide) (by decide) (by decide) (by decide)
  · rw [le 2 0 (by decide), le 2 1 (by decide), lt 2 3 (by decide)]
    exact key 2 0 1 3 (by decide) (by decide) (by decide) (by decide) (by decide) (by decide)
  · rw [le 3 0 (by decide), le 3 1 (by decide), le 3 2 (by decide)]
    exact key 3 0 1 2 (by decide) (by decide) (by decide) (by decide) (by decide) (by decide)

/-- A token's weight on one of sixteen experts: its score over the two chosen scores' sum, or nothing. -/
def weight (s : Fin 16 → ℝ) (g a b : Fin 4) (e : Fin 16) : ℝ :=
  if e = at16 g a ∨ e = at16 g b then s e * (1 / (s (at16 g a) + s (at16 g b))) else 0

end Cert.Route

end
-- ==== Proof.Lane.lean ====
/-
  The router of the experts' kernel, read at one token.
-/
module

public import proofs.«01_k».proof.Proof.Route
public import proofs.«01_k».proof.Proof.Gen.ExpertsIdeal.Skeleton
public import Idealize.ShloMosaic.Lib.Pipeline.Value
public import Idealize.ShloMosaic.Lib.Pointwise

@[expose] public section

noncomputable section

namespace Cert.ExpertsIdeal.Moe

open Cert.ExpertsIdeal Cert.ExpertsIdeal.Gen Idealize.ShloMosaic Cert.Route

theorem ob_zero : Ideal.ofBits .f32 0x00000000#32 = 0 := by simp [Ideal.ofBits, Ideal.ieee]
theorem ob_one : Ideal.ofBits .f32 0x3F800000#32 = 1 := by
  rw [← EReal.coe_one]; simp [Ideal.ofBits, Ideal.ieee, -EReal.coe_mul, -EReal.coe_one]; try norm_num
theorem ob_two : Ideal.ofBits .f32 0x40000000#32 = 2 := by
  rw [show (2 : EReal) = ((2 : ℝ) : EReal) from rfl]; simp [Ideal.ofBits, Ideal.ieee, -EReal.coe_mul]; norm_num

theorem pay11_apply (a b : Vec Ideal S1x512 .f32) (n : Fin 512) : k0_pay11 a b (ix2 0 n) = a (ix2 0 n) + b (ix2 0 n) := by pointwise [k0_pay11]
theorem pay12_apply (a b : Vec Ideal S1x512 .f32) (n : Fin 512) : k0_pay12 a b (ix2 0 n) = a (ix2 0 n) + b (ix2 0 n) := by pointwise [k0_pay12]
theorem pay13_apply (a b : Vec Ideal S1x512 .f32) (n : Fin 512) : k0_pay13 a b (ix2 0 n) = a (ix2 0 n) + b (ix2 0 n) := by pointwise [k0_pay13]
theorem pay14_apply (a b : Vec Ideal S1x512 .f32) (n : Fin 512) : k0_pay14 a b (ix2 0 n) = a (ix2 0 n) + b (ix2 0 n) := by pointwise [k0_pay14]
theorem pay15_apply (a b : Vec Ideal S1x512 .f32) (n : Fin 512) : k0_pay15 a b (ix2 0 n) = a (ix2 0 n) + b (ix2 0 n) := by pointwise [k0_pay15]
theorem pay16_apply (a b : Vec Ideal S1x512 .f32) (n : Fin 512) : k0_pay16 a b (ix2 0 n) = a (ix2 0 n) + b (ix2 0 n) := by pointwise [k0_pay16]
theorem pay17_apply (a b : Vec Ideal S1x512 .f32) (n : Fin 512) : k0_pay17 a b (ix2 0 n) = a (ix2 0 n) + b (ix2 0 n) := by pointwise [k0_pay17]
theorem pay18_apply (a b : Vec Ideal S1x512 .f32) (n : Fin 512) : k0_pay18 a b (ix2 0 n) = a (ix2 0 n) + b (ix2 0 n) := by pointwise [k0_pay18]
theorem pay19_apply (a b : Vec Ideal S1x512 .f32) (n : Fin 512) : k0_pay19 a b (ix2 0 n) = a (ix2 0 n) + b (ix2 0 n) := by pointwise [k0_pay19]
theorem pay20_apply (a b : Vec Ideal S1x512 .f32) (n : Fin 512) : k0_pay20 a b (ix2 0 n) = a (ix2 0 n) + b (ix2 0 n) := by pointwise [k0_pay20]
theorem pay21_apply (a b : Vec Ideal S1x512 .f32) (n : Fin 512) : k0_pay21 a b (ix2 0 n) = a (ix2 0 n) + b (ix2 0 n) := by pointwise [k0_pay21]
theorem pay22_apply (a b : Vec Ideal S1x512 .f32) (n : Fin 512) : k0_pay22 a b (ix2 0 n) = a (ix2 0 n) + b (ix2 0 n) := by pointwise [k0_pay22]
theorem pay23_apply (a b : Vec Ideal S1x512 .f32) (n : Fin 512) : k0_pay23 a b (ix2 0 n) = a (ix2 0 n) + b (ix2 0 n) := by pointwise [k0_pay23]
theorem pay24_apply (a b : Vec Ideal S1x512 .f32) (n : Fin 512) : k0_pay24 a b (ix2 0 n) = a (ix2 0 n) + b (ix2 0 n) := by pointwise [k0_pay24]
theorem pay25_apply (a b : Vec Ideal S1x512 .f32) (n : Fin 512) : k0_pay25 a b (ix2 0 n) = a (ix2 0 n) + b (ix2 0 n) := by pointwise [k0_pay25]
theorem pay26_apply (a b : Vec Ideal S1x512 .f32) (n : Fin 512) : k0_pay26 a b (ix2 0 n) = a (ix2 0 n) + b (ix2 0 n) := by pointwise [k0_pay26]
theorem pay27_apply (a b c d : FVec Ideal S1x512 .f32) (n : Fin 512) :
    k0_pay27 a b c d (ix2 0 n) = best ![a (ix2 0 n), b (ix2 0 n), c (ix2 0 n), d (ix2 0 n)] := rfl
theorem pay28_apply (a b c d : FVec Ideal S1x512 .f32) (n : Fin 512) :
    k0_pay28 a b c d (ix2 0 n) = best ![a (ix2 0 n), b (ix2 0 n), c (ix2 0 n), d (ix2 0 n)] := rfl
theorem pay31_apply (a b c d : FVec Ideal S1x512 .f32) (n : Fin 512) :
    k0_pay31 a b c d (ix2 0 n) = best ![a (ix2 0 n), b (ix2 0 n), c (ix2 0 n), d (ix2 0 n)] := rfl
theorem pay29_apply (a b p q : Vec Ideal S1x512 .f32) (n : Fin 512) :
    k0_pay29 a b p q (ix2 0 n) = k0_pay19 a p (ix2 0 n) + k0_pay20 b q (ix2 0 n) := rfl
theorem pay30_apply (a b c d p : FVec Ideal S1x512 .f32) (n : Fin 512) (h : p (ix2 0 n) = a (ix2 0 n) + b (ix2 0 n)) :
    k0_pay30 a b c d p (ix2 0 n) = best ![a (ix2 0 n), b (ix2 0 n), c (ix2 0 n), d (ix2 0 n)] := by
  show max (max (max (max (max (p (ix2 0 n)) _) _) _) _) _ = _
  rw [h]; rfl

/-! The four groups' best sums. -/
section Groups
variable (a0 a1 a2 a3 b0 b1 b2 b3 u v p : FVec Ideal S1x512 .f32) (n : Fin 512) (G : Fin 4 → EReal)
  (h0 : u (ix2 0 n) = G 0) (h1 : v (ix2 0 n) = G 1) (h2 : k0_pay30 a0 a1 a2 a3 p (ix2 0 n) = G 2) (h3 : k0_pay31 b0 b1 b2 b3 (ix2 0 n) = G 3)
include h0 h1 h2 h3

theorem pay32_apply : k0_pay32 a0 a1 a2 a3 b0 b1 b2 b3 u v p (ix2 0 n) = top G := by
  show max (max (max (u (ix2 0 n)) (v (ix2 0 n))) (k0_pay30 a0 a1 a2 a3 p (ix2 0 n))) (k0_pay31 b0 b1 b2 b3 (ix2 0 n)) = _
  rw [h0, h1, h2, h3]; rfl
theorem pay34_apply : k0_pay34 a0 a1 a2 a3 b0 b1 b2 b3 u v p (ix2 0 n) = hit0 G := by
  have ht := pay32_apply a0 a1 a2 a3 b0 b1 b2 b3 u v p n G h0 h1 h2 h3
  unfold k0_pay34
  generalize k0_pay32 a0 a1 a2 a3 b0 b1 b2 b3 u v p = t at ht ⊢
  pointwise [k0_pay33]
  rw [h0, ht]; rfl
theorem pay35_apply : k0_pay35 a0 a1 a2 a3 b0 b1 b2 b3 u v p (ix2 0 n) = 1 - hit0 G := by
  have ht := pay34_apply a0 a1 a2 a3 b0 b1 b2 b3 u v p n G h0 h1 h2 h3
  unfold k0_pay35
  generalize k0_pay34 a0 a1 a2 a3 b0 b1 b2 b3 u v p = t at ht ⊢
  pointwise [k0_pay33]
  rw [ht]
theorem pay36_apply : k0_pay36 a0 a1 a2 a3 b0 b1 b2 b3 u v p (ix2 0 n) = hit1 G := by
  have ht := pay32_apply a0 a1 a2 a3 b0 b1 b2 b3 u v p n G h0 h1 h2 h3
  have hf := pay35_apply a0 a1 a2 a3 b0 b1 b2 b3 u v p n G h0 h1 h2 h3
  unfold k0_pay36
  generalize k0_pay32 a0 a1 a2 a3 b0 b1 b2 b3 u v p = t at ht ⊢
  generalize k0_pay35 a0 a1 a2 a3 b0 b1 b2 b3 u v p = f at hf ⊢
  pointwise
  rw [h1, ht, hf]; rfl
theorem pay37_apply : k0_pay37 a0 a1 a2 a3 b0 b1 b2 b3 u v p (ix2 0 n) = 1 - hit0 G - hit1 G := by
  have ht := pay35_apply a0 a1 a2 a3 b0 b1 b2 b3 u v p n G h0 h1 h2 h3
  have hf := pay36_apply a0 a1 a2 a3 b0 b1 b2 b3 u v p n G h0 h1 h2 h3
  show k0_pay35 a0 a1 a2 a3 b0 b1 b2 b3 u v p (ix2 0 n) - k0_pay36 a0 a1 a2 a3 b0 b1 b2 b3 u v p (ix2 0 n) = _
  rw [ht, hf]
theorem pay38_apply : k0_pay38 a0 a1 a2 a3 b0 b1 b2 b3 u v p (ix2 0 n) = hit2 G := by
  have ht := pay32_apply a0 a1 a2 a3 b0 b1 b2 b3 u v p n G h0 h1 h2 h3
  have hf := pay37_apply a0 a1 a2 a3 b0 b1 b2 b3 u v p n G h0 h1 h2 h3
  unfold k0_pay38
  generalize k0_pay32 a0 a1 a2 a3 b0 b1 b2 b3 u v p = t at ht ⊢
  generalize k0_pay37 a0 a1 a2 a3 b0 b1 b2 b3 u v p = f at hf ⊢
  generalize k0_pay30 a0 a1 a2 a3 p = g at h2 ⊢
  pointwise
  rw [h2, ht, hf]; rfl
theorem pay39_apply : k0_pay39 a0 a1 a2 a3 b0 b1 b2 b3 u v p (ix2 0 n) = hit3 G := by
  have ht := pay32_apply a0 a1 a2 a3 b0 b1 b2 b3 u v p n G h0 h1 h2 h3
  have hf := pay37_apply a0 a1 a2 a3 b0 b1 b2 b3 u v p n G h0 h1 h2 h3
  have hk := pay38_apply a0 a1 a2 a3 b0 b1 b2 b3 u v p n G h0 h1 h2 h3
  unfold k0_pay39
  generalize k0_pay32 a0 a1 a2 a3 b0 b1 b2 b3 u v p = t at ht ⊢
  generalize k0_pay37 a0 a1 a2 a3 b0 b1 b2 b3 u v p = f at hf ⊢
  generalize k0_pay38 a0 a1 a2 a3 b0 b1 b2 b3 u v p = k at hk ⊢
  generalize k0_pay31 b0 b1 b2 b3 = g at h3 ⊢
  pointwise
  rw [h3, ht, hf, hk]; rfl
end Groups

theorem pay42_apply (a b c d h0 h1 h2 h3 : FVec Ideal S1x512 .f32) (n : Fin 512) :
    k0_pay42 a b c d h0 h1 h2 h3 (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay42]
  rfl
theorem pay43_apply (a b c d h0 h1 h2 h3 : FVec Ideal S1x512 .f32) (n : Fin 512) :
    k0_pay43 a b c d h0 h1 h2 h3 (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay43]
  rfl
theorem pay44_apply (a b c d h0 h1 h2 h3 : FVec Ideal S1x512 .f32) (n : Fin 512) :
    k0_pay44 a b c d h0 h1 h2 h3 (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay44]
  rfl
theorem pay47_apply (a b c d h0 h1 h2 h3 : FVec Ideal S1x512 .f32) (n : Fin 512) :
    k0_pay47 a b c d h0 h1 h2 h3 (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay47]
  rfl
theorem pay48_apply (a b c d h0 h1 h2 h3 : FVec Ideal S1x512 .f32) (n : Fin 512) :
    k0_pay48 a b c d h0 h1 h2 h3 (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay48]
  rfl
theorem pay46_apply (a b c d h0 h1 h2 h3 : FVec Ideal S1x512 .f32) (n : Fin 512) :
    k0_pay46 a b c d h0 h1 h2 h3 (k0_pay45 (F := Ideal)) (FloatOps.ofBits FTy.f32 0#32) (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay46, k0_pay45]
  rfl
theorem pay41_apply (a b d h3 : FVec Ideal S1x512 .f32) (a0 a1 a2 a3 b0 b1 b2 b3 u v p : FVec Ideal S1x512 .f32) (n : Fin 512) :
    k0_pay41 d h3 (k0_pay40 a b a0 a1 a2 a3 b0 b1 b2 b3 u v p) (FloatOps.ofBits FTy.f32 0#32) (ix2 0 n)
      = pick (k0_pay34 a0 a1 a2 a3 b0 b1 b2 b3 u v p (ix2 0 n)) (k0_pay36 a0 a1 a2 a3 b0 b1 b2 b3 u v p (ix2 0 n)) (k0_pay38 a0 a1 a2 a3 b0 b1 b2 b3 u v p (ix2 0 n)) (h3 (ix2 0 n)) (a (ix2 0 n)) (b (ix2 0 n)) (a0 (ix2 0 n)) (d (ix2 0 n)) := by
  unfold k0_pay40
  generalize k0_pay34 a0 a1 a2 a3 b0 b1 b2 b3 u v p = x
  generalize k0_pay36 a0 a1 a2 a3 b0 b1 b2 b3 u v p = y
  generalize k0_pay38 a0 a1 a2 a3 b0 b1 b2 b3 u v p = z
  pointwise [k0_pay41]
  rfl
theorem pay51_apply (a b c d h0 h1 h2 h3 : FVec Ideal S1x512 .f32) (n : Fin 512) :
    k0_pay51 b c d h2 h3 (k0_pay49 a h0) (k0_pay50 h1) (ix2 0 n) = pick (h0 (ix2 0 n)) (h1 (ix2 0 n)) (h2 (ix2 0 n)) (h3 (ix2 0 n)) (a (ix2 0 n)) (b (ix2 0 n)) (c (ix2 0 n)) (d (ix2 0 n)) := by
  pointwise [k0_pay51, k0_pay49, k0_pay50]
  rfl
theorem pay52_apply (y0 y1 y2 y3 s : FVec Ideal S1x512 .f32) (n : Fin 512) :
    k0_pay52 y0 y1 y2 y3 s (ix2 0 n) = chosen0 ![y0 (ix2 0 n), y1 (ix2 0 n), y2 (ix2 0 n), y3 (ix2 0 n)] (fun _ => s (ix2 0 n)) := by
  pointwise [k0_pay52, ob_two]
  simp [chosen0]
  congr
theorem pay55_apply (y0 y1 y2 y3 s : FVec Ideal S1x512 .f32) (n : Fin 512) :
    k0_pay55 s (k0_pay53 y0 y1 y2) (k0_pay54 y1 y3) (ix2 0 n) = chosen1 ![y0 (ix2 0 n), y1 (ix2 0 n), y2 (ix2 0 n), y3 (ix2 0 n)] (fun _ => s (ix2 0 n)) := by
  pointwise [k0_pay55, k0_pay53, k0_pay54, ob_two]
  simp [chosen1]
  congr
theorem pay56_apply (y0 y1 y2 y3 s : FVec Ideal S1x512 .f32) (n : Fin 512) :
    k0_pay56 y0 y1 y2 y3 s (ix2 0 n) = chosen2 ![y0 (ix2 0 n), y1 (ix2 0 n), y2 (ix2 0 n), y3 (ix2 0 n)] (fun _ => s (ix2 0 n)) := by
  pointwise [k0_pay56, ob_two]
  simp [chosen2]
  congr
theorem pay58_apply (y0 y1 y2 y3 s : FVec Ideal S1x512 .f32) (n : Fin 512) :
    k0_pay58 s (k0_pay57 y0 y1 y2 y3) (FloatOps.ofBits FTy.f32 1073741824#32) (ix2 0 n) = chosen3 ![y0 (ix2 0 n), y1 (ix2 0 n), y2 (ix2 0 n), y3 (ix2 0 n)] (fun _ => s (ix2 0 n)) := by
  pointwise [k0_pay58, k0_pay57, ob_two]
  simp [chosen3]
  congr

section Weights
variable (s3 c0 c1 c2 r3 h : FVec Ideal S1x512 .f32) (z : Ideal .f32) (n : Fin 512)
/-- The chosen scores' sum, turned over. -/
def over : EReal := Ideal.div 1 (c0 (ix2 0 n) + c1 (ix2 0 n) + c2 (ix2 0 n) + k0_pay58 s3 r3 z (ix2 0 n))
theorem pay59_apply : k0_pay59 s3 c0 c1 c2 r3 z (ix2 0 n) = over s3 c0 c1 c2 r3 z n := by
  unfold over k0_pay59
  generalize k0_pay58 s3 r3 z = w
  pointwise
theorem pay60_apply : k0_pay60 s3 c0 c1 c2 r3 z (ix2 0 n) = c0 (ix2 0 n) * over s3 c0 c1 c2 r3 z n := by
  rw [← pay59_apply]; rfl
theorem pay61_apply : k0_pay61 s3 c0 c1 c2 r3 z (ix2 0 n) = c1 (ix2 0 n) * over s3 c0 c1 c2 r3 z n := by
  rw [← pay59_apply]; rfl
theorem pay62_apply : k0_pay62 s3 c0 c1 c2 r3 z (ix2 0 n) = c2 (ix2 0 n) * over s3 c0 c1 c2 r3 z n := by
  rw [← pay59_apply]; rfl
theorem pay63_apply : k0_pay63 s3 c0 c1 c2 r3 z (ix2 0 n) = k0_pay58 s3 r3 z (ix2 0 n) * over s3 c0 c1 c2 r3 z n := by
  rw [← pay59_apply]; rfl
theorem pay64_apply : k0_pay64 h s3 c0 c1 c2 r3 z (ix2 0 n) = h (ix2 0 n) * k0_pay60 s3 c0 c1 c2 r3 z (ix2 0 n) := by
  unfold k0_pay64; generalize k0_pay60 s3 c0 c1 c2 r3 z = w; pointwise
theorem pay65_apply : k0_pay65 h s3 c0 c1 c2 r3 z (ix2 0 n) = h (ix2 0 n) * k0_pay61 s3 c0 c1 c2 r3 z (ix2 0 n) := by
  unfold k0_pay65; generalize k0_pay61 s3 c0 c1 c2 r3 z = w; pointwise
theorem pay66_apply : k0_pay66 h s3 c0 c1 c2 r3 z (ix2 0 n) = h (ix2 0 n) * k0_pay62 s3 c0 c1 c2 r3 z (ix2 0 n) := by
  unfold k0_pay66; generalize k0_pay62 s3 c0 c1 c2 r3 z = w; pointwise
theorem pay67_apply : k0_pay67 h s3 c0 c1 c2 r3 z (ix2 0 n) = h (ix2 0 n) * k0_pay63 s3 c0 c1 c2 r3 z (ix2 0 n) := by
  unfold k0_pay67; generalize k0_pay63 s3 c0 c1 c2 r3 z = w; pointwise
theorem pay68_apply : k0_pay68 h s3 c0 c1 c2 r3 z (ix2 0 n) = h (ix2 0 n) * k0_pay60 s3 c0 c1 c2 r3 z (ix2 0 n) := by
  unfold k0_pay68; generalize k0_pay60 s3 c0 c1 c2 r3 z = w; pointwise
theorem pay69_apply : k0_pay69 h s3 c0 c1 c2 r3 z (ix2 0 n) = h (ix2 0 n) * k0_pay61 s3 c0 c1 c2 r3 z (ix2 0 n) := by
  unfold k0_pay69; generalize k0_pay61 s3 c0 c1 c2 r3 z = w; pointwise
theorem pay71_apply : k0_pay71 (k0_pay70 h s3 c0 c1 c2 r3 z) (ix2 0 n) = h (ix2 0 n) * k0_pay62 s3 c0 c1 c2 r3 z (ix2 0 n) := by
  unfold k0_pay70; generalize k0_pay62 s3 c0 c1 c2 r3 z = w; pointwise [k0_pay71]
theorem pay72_apply : k0_pay72 h c0 (ix2 0 n) = h (ix2 0 n) * c0 (ix2 0 n) := by pointwise [k0_pay72]
theorem pay73_apply : k0_pay73 h c0 (ix2 0 n) = h (ix2 0 n) * c0 (ix2 0 n) := by pointwise [k0_pay73]
theorem pay74_apply : k0_pay74 h c0 (ix2 0 n) = h (ix2 0 n) * c0 (ix2 0 n) := by pointwise [k0_pay74]
theorem pay75_apply : k0_pay75 h c0 (ix2 0 n) = h (ix2 0 n) * c0 (ix2 0 n) := by pointwise [k0_pay75]
theorem pay76_apply : k0_pay76 h c0 (ix2 0 n) = h (ix2 0 n) * c0 (ix2 0 n) := by pointwise [k0_pay76]
theorem pay77_apply : k0_pay77 h c0 (ix2 0 n) = h (ix2 0 n) * c0 (ix2 0 n) := by pointwise [k0_pay77]
theorem pay78_apply : k0_pay78 h c0 (ix2 0 n) = h (ix2 0 n) * c0 (ix2 0 n) := by pointwise [k0_pay78]
theorem pay79_apply : k0_pay79 h c0 (ix2 0 n) = h (ix2 0 n) * c0 (ix2 0 n) := by pointwise [k0_pay79]
theorem pay80_apply : k0_pay80 h c0 (ix2 0 n) = h (ix2 0 n) * c0 (ix2 0 n) := by pointwise [k0_pay80]
end Weights

end Cert.ExpertsIdeal.Moe

end
-- ==== Proof.Router.lean ====
/-
  The router of the experts' kernel from the scores and the biases: what each row of the weights holds at one token.
-/
module

public import proofs.«01_k».proof.Proof.Lane

@[expose] public section

noncomputable section

namespace Cert.ExpertsIdeal.Moe

open Cert.ExpertsIdeal Cert.ExpertsIdeal.Gen Idealize.ShloMosaic Cert.Route

variable (S B : Vec Ideal S16x512 .f32)

/-- One expert's row. -/
def row (X : Vec Ideal S16x512 .f32) (e : Fin 16) : Vec Ideal S1x512 .f32 := fun i => X (ix2 e (⟨(i 1).val, (i 1).isLt⟩ : Fin 512))

theorem row_apply (X : Vec Ideal S16x512 .f32) (e : Fin 16) (n : Fin 512) : row X e (ix2 0 n) = X (ix2 e n) := rfl

/-- The score with its bias, by group and place. -/
def sel (n : Fin 512) (k i : Fin 4) : EReal := S (ix2 (at16 k i) n) + B (ix2 (at16 k i) n)
/-- The scores of one place, by group. -/
def scr (n : Fin 512) (i k : Fin 4) : EReal := S (ix2 (at16 k i) n)
/-- The groups' best sums. -/
def sums (n : Fin 512) (k : Fin 4) : EReal := best (sel S B n k)

theorem best_sel (n : Fin 512) (k : Fin 4) : best ![sel S B n k 0, sel S B n k 1, sel S B n k 2, sel S B n k 3] = sums S B n k := rfl

def R5 (S B : Vec Ideal S16x512 .f32) : FVec Ideal S1x512 .f32 := k0_pay11 (row S 0) (row B 0)
theorem R5_apply (n : Fin 512) : R5 S B (ix2 0 n) = sel S B n 0 0 := by
  unfold R5; rw [pay11_apply]; rfl
def R6 (S B : Vec Ideal S16x512 .f32) : FVec Ideal S1x512 .f32 := k0_pay12 (row S 1) (row B 1)
theorem R6_apply (n : Fin 512) : R6 S B (ix2 0 n) = sel S B n 0 1 := by
  unfold R6; rw [pay12_apply]; rfl
def R7 (S B : Vec Ideal S16x512 .f32) : FVec Ideal S1x512 .f32 := k0_pay13 (row S 2) (row B 2)
theorem R7_apply (n : Fin 512) : R7 S B (ix2 0 n) = sel S B n 0 2 := by
  unfold R7; rw [pay13_apply]; rfl
def R8 (S B : Vec Ideal S16x512 .f32) : FVec Ideal S1x512 .f32 := k0_pay14 (row S 3) (row B 3)
theorem R8_apply (n : Fin 512) : R8 S B (ix2 0 n) = sel S B n 0 3 := by
  unfold R8; rw [pay14_apply]; rfl
def R9 (S B : Vec Ideal S16x512 .f32) : FVec Ideal S1x512 .f32 := k0_pay15 (row S 4) (row B 4)
theorem R9_apply (n : Fin 512) : R9 S B (ix2 0 n) = sel S B n 1 0 := by
  unfold R9; rw [pay15_apply]; rfl
def R10 (S B : Vec Ideal S16x512 .f32) : FVec Ideal S1x512 .f32 := k0_pay16 (row S 5) (row B 5)
theorem R10_apply (n : Fin 512) : R10 S B (ix2 0 n) = sel S B n 1 1 := by
  unfold R10; rw [pay16_apply]; rfl
def R11 (S B : Vec Ideal S16x512 .f32) : FVec Ideal S1x512 .f32 := k0_pay17 (row S 6) (row B 6)
theorem R11_apply (n : Fin 512) : R11 S B (ix2 0 n) = sel S B n 1 2 := by
  unfold R11; rw [pay17_apply]; rfl
def R12 (S B : Vec Ideal S16x512 .f32) : FVec Ideal S1x512 .f32 := k0_pay18 (row S 7) (row B 7)
theorem R12_apply (n : Fin 512) : R12 S B (ix2 0 n) = sel S B n 1 3 := by
  unfold R12; rw [pay18_apply]; rfl
def R14 (S B : Vec Ideal S16x512 .f32) : FVec Ideal S1x512 .f32 := k0_pay19 (row S 8) (row B 8)
theorem R14_apply (n : Fin 512) : R14 S B (ix2 0 n) = sel S B n 2 0 := by
  unfold R14; rw [pay19_apply]; rfl
def R15 (S B : Vec Ideal S16x512 .f32) : FVec Ideal S1x512 .f32 := k0_pay20 (row S 9) (row B 9)
theorem R15_apply (n : Fin 512) : R15 S B (ix2 0 n) = sel S B n 2 1 := by
  unfold R15; rw [pay20_apply]; rfl
def R16 (S B : Vec Ideal S16x512 .f32) : FVec Ideal S1x512 .f32 := k0_pay21 (row S 10) (row B 10)
theorem R16_apply (n : Fin 512) : R16 S B (ix2 0 n) = sel S B n 2 2 := by
  unfold R16; rw [pay21_apply]; rfl
def R17 (S B : Vec Ideal S16x512 .f32) : FVec Ideal S1x512 .f32 := k0_pay22 (row S 11) (row B 11)
theorem R17_apply (n : Fin 512) : R17 S B (ix2 0 n) = sel S B n 2 3 := by
  unfold R17; rw [pay22_apply]; rfl
def R18 (S B : Vec Ideal S16x512 .f32) : FVec Ideal S1x512 .f32 := k0_pay23 (row S 12) (row B 12)
theorem R18_apply (n : Fin 512) : R18 S B (ix2 0 n) = sel S B n 3 0 := by
  unfold R18; rw [pay23_apply]; rfl
def R19 (S B : Vec Ideal S16x512 .f32) : FVec Ideal S1x512 .f32 := k0_pay24 (row S 13) (row B 13)
theorem R19_apply (n : Fin 512) : R19 S B (ix2 0 n) = sel S B n 3 1 := by
  unfold R19; rw [pay24_apply]; rfl
def R20 (S B : Vec Ideal S16x512 .f32) : FVec Ideal S1x512 .f32 := k0_pay25 (row S 14) (row B 14)
theorem R20_apply (n : Fin 512) : R20 S B (ix2 0 n) = sel S B n 3 2 := by
  unfold R20; rw [pay25_apply]; rfl
def R21 (S B : Vec Ideal S16x512 .f32) : FVec Ideal S1x512 .f32 := k0_pay26 (row S 15) (row B 15)
theorem R21_apply (n : Fin 512) : R21 S B (ix2 0 n) = sel S B n 3 3 := by
  unfold R21; rw [pay26_apply]; rfl
def R22 (S B : Vec Ideal S16x512 .f32) : FVec Ideal S1x512 .f32 := k0_pay27 (R5 S B) (R6 S B) (R7 S B) (R8 S B)
theorem R22_apply (n : Fin 512) : R22 S B (ix2 0 n) = sums S B n 0 := by
  unfold R22; rw [pay27_apply, R5_apply, R6_apply, R7_apply, R8_apply]; rfl
def R23 (S B : Vec Ideal S16x512 .f32) : FVec Ideal S1x512 .f32 := k0_pay28 (R9 S B) (R10 S B) (R11 S B) (R12 S B)
theorem R23_apply (n : Fin 512) : R23 S B (ix2 0 n) = sums S B n 1 := by
  unfold R23; rw [pay28_apply, R9_apply, R10_apply, R11_apply, R12_apply]; rfl
def R24 (S B : Vec Ideal S16x512 .f32) : FVec Ideal S1x512 .f32 := k0_pay29 (row S 8) (row S 9) (row B 8) (row B 9)
theorem R24_apply (n : Fin 512) : R24 S B (ix2 0 n) = sel S B n 2 0 + sel S B n 2 1 := by
  exact congrArg₂ (· + ·) (R14_apply S B n) (R15_apply S B n)
theorem third_apply (n : Fin 512) : k0_pay30 (R14 S B) (R15 S B) (R16 S B) (R17 S B) (R24 S B) (ix2 0 n) = sums S B n 2 := by
  rw [pay30_apply _ _ _ _ _ _ (by rw [R24_apply, R14_apply, R15_apply]), R14_apply, R15_apply, R16_apply, R17_apply]; rfl
theorem fourth_apply (n : Fin 512) : k0_pay31 (R18 S B) (R19 S B) (R20 S B) (R21 S B) (ix2 0 n) = sums S B n 3 := by
  rw [pay31_apply, R18_apply, R19_apply, R20_apply, R21_apply]; rfl
def R25 (S B : Vec Ideal S16x512 .f32) : FVec Ideal S1x512 .f32 := k0_pay34 (R14 S B) (R15 S B) (R16 S B) (R17 S B) (R18 S B) (R19 S B) (R20 S B) (R21 S B) (R22 S B) (R23 S B) (R24 S B)
theorem R25_apply (n : Fin 512) : R25 S B (ix2 0 n) = hit0 (sums S B n) := by
  exact pay34_apply _ _ _ _ _ _ _ _ _ _ _ n (sums S B n) (R22_apply S B n) (R23_apply S B n) (third_apply S B n) (fourth_apply S B n)
def R26 (S B : Vec Ideal S16x512 .f32) : FVec Ideal S1x512 .f32 := k0_pay36 (R14 S B) (R15 S B) (R16 S B) (R17 S B) (R18 S B) (R19 S B) (R20 S B) (R21 S B) (R22 S B) (R23 S B) (R24 S B)
theorem R26_apply (n : Fin 512) : R26 S B (ix2 0 n) = hit1 (sums S B n) := by
  exact pay36_apply _ _ _ _ _ _ _ _ _ _ _ n (sums S B n) (R22_apply S B n) (R23_apply S B n) (third_apply S B n) (fourth_apply S B n)
def R27 (S B : Vec Ideal S16x512 .f32) : FVec Ideal S1x512 .f32 := k0_pay38 (R14 S B) (R15 S B) (R16 S B) (R17 S B) (R18 S B) (R19 S B) (R20 S B) (R21 S B) (R22 S B) (R23 S B) (R24 S B)
theorem R27_apply (n : Fin 512) : R27 S B (ix2 0 n) = hit2 (sums S B n) := by
  exact pay38_apply _ _ _ _ _ _ _ _ _ _ _ n (sums S B n) (R22_apply S B n) (R23_apply S B n) (third_apply S B n) (fourth_apply S B n)
def R28 (S B : Vec Ideal S16x512 .f32) : FVec Ideal S1x512 .f32 := k0_pay39 (R14 S B) (R15 S B) (R16 S B) (R17 S B) (R18 S B) (R19 S B) (R20 S B) (R21 S B) (R22 S B) (R23 S B) (R24 S B)
theorem R28_apply (n : Fin 512) : R28 S B (ix2 0 n) = hit3 (sums S B n) := by
  exact pay39_apply _ _ _ _ _ _ _ _ _ _ _ n (sums S B n) (R22_apply S B n) (R23_apply S B n) (third_apply S B n) (fourth_apply S B n)
def R29 (S B : Vec Ideal S16x512 .f32) : FVec Ideal S1x512 .f32 := k0_pay40 (R5 S B) (R9 S B) (R14 S B) (R15 S B) (R16 S B) (R17 S B) (R18 S B) (R19 S B) (R20 S B) (R21 S B) (R22 S B) (R23 S B) (R24 S B)
def R30 (S B : Vec Ideal S16x512 .f32) : FVec Ideal S1x512 .f32 := k0_pay41 (R18 S B) (R28 S B) (R29 S B) (FloatOps.ofBits FTy.f32 0#32)
/-- What is picked of four, the groups' values. -/
def picked (n : Fin 512) (v : Fin 4 → EReal) : EReal :=
  pick (hit0 (sums S B n)) (hit1 (sums S B n)) (hit2 (sums S B n)) (hit3 (sums S B n)) (v 0) (v 1) (v 2) (v 3)
theorem R30_apply (n : Fin 512) : R30 S B (ix2 0 n) = picked S B n (fun k => sel S B n k 0) := by
  unfold R30 R29; rw [pay41_apply, R5_apply, R9_apply, R14_apply, R18_apply, R28_apply]
  rw [pay34_apply _ _ _ _ _ _ _ _ _ _ _ n (sums S B n) (R22_apply S B n) (R23_apply S B n) (third_apply S B n) (fourth_apply S B n), pay36_apply _ _ _ _ _ _ _ _ _ _ _ n (sums S B n) (R22_apply S B n) (R23_apply S B n) (third_apply S B n) (fourth_apply S B n), pay38_apply _ _ _ _ _ _ _ _ _ _ _ n (sums S B n) (R22_apply S B n) (R23_apply S B n) (third_apply S B n) (fourth_apply S B n)]; rfl
def R31 (S B : Vec Ideal S16x512 .f32) : FVec Ideal S1x512 .f32 := k0_pay42 (R6 S B) (R10 S B) (R15 S B) (R19 S B) (R25 S B) (R26 S B) (R27 S B) (R28 S B)
theorem R31_apply (n : Fin 512) : R31 S B (ix2 0 n) = picked S B n (fun k => sel S B n k 1) := by
  unfold R31; rw [pay42_apply, R6_apply, R10_apply, R15_apply, R19_apply, R25_apply, R26_apply, R27_apply, R28_apply]; rfl
def R32 (S B : Vec Ideal S16x512 .f32) : FVec Ideal S1x512 .f32 := k0_pay43 (R7 S B) (R11 S B) (R16 S B) (R20 S B) (R25 S B) (R26 S B) (R27 S B) (R28 S B)
theorem R32_apply (n : Fin 512) : R32 S B (ix2 0 n) = picked S B n (fun k => sel S B n k 2) := by
  unfold R32; rw [pay43_apply, R7_apply, R11_apply, R16_apply, R20_apply, R25_apply, R26_apply, R27_apply, R28_apply]; rfl
def R33 (S B : Vec Ideal S16x512 .f32) : FVec Ideal S1x512 .f32 := k0_pay44 (R8 S B) (R12 S B) (R17 S B) (R21 S B) (R25 S B) (R26 S B) (R27 S B) (R28 S B)
theorem R33_apply (n : Fin 512) : R33 S B (ix2 0 n) = picked S B n (fun k => sel S B n k 3) := by
  unfold R33; rw [pay44_apply, R8_apply, R12_apply, R17_apply, R21_apply, R25_apply, R26_apply, R27_apply, R28_apply]; rfl
def R34 (S B : Vec Ideal S16x512 .f32) : FVec Ideal S1x512 .f32 := k0_pay46 (row S 0) (row S 4) (row S 8) (row S 12) (R25 S B) (R26 S B) (R27 S B) (R28 S B) (k0_pay45 (F := Ideal)) (FloatOps.ofBits FTy.f32 0#32)
theorem R34_apply (n : Fin 512) : R34 S B (ix2 0 n) = picked S B n (scr S n 0) := by
  unfold R34; rw [pay46_apply, R25_apply, R26_apply, R27_apply, R28_apply]; rfl
def R35 (S B : Vec Ideal S16x512 .f32) : FVec Ideal S1x512 .f32 := k0_pay47 (row S 1) (row S 5) (row S 9) (row S 13) (R25 S B) (R26 S B) (R27 S B) (R28 S B)
theorem R35_apply (n : Fin 512) : R35 S B (ix2 0 n) = picked S B n (scr S n 1) := by
  unfold R35; rw [pay47_apply, R25_apply, R26_apply, R27_apply, R28_apply]; rfl
def R36 (S B : Vec Ideal S16x512 .f32) : FVec Ideal S1x512 .f32 := k0_pay48 (row S 2) (row S 6) (row S 10) (row S 14) (R25 S B) (R26 S B) (R27 S B) (R28 S B)
theorem R36_apply (n : Fin 512) : R36 S B (ix2 0 n) = picked S B n (scr S n 2) := by
  unfold R36; rw [pay48_apply, R25_apply, R26_apply, R27_apply, R28_apply]; rfl
def R37 (S B : Vec Ideal S16x512 .f32) : FVec Ideal S1x512 .f32 := k0_pay49 (row S 3) (R25 S B)
def R38 (S B : Vec Ideal S16x512 .f32) : IVec S1x512 1 := k0_pay50 (R26 S B)
def R39 (S B : Vec Ideal S16x512 .f32) : FVec Ideal S1x512 .f32 := k0_pay51 (row S 7) (row S 11) (row S 15) (R27 S B) (R28 S B) (R37 S B) (R38 S B)
theorem R39_apply (n : Fin 512) : R39 S B (ix2 0 n) = picked S B n (scr S n 3) := by
  unfold R39 R37 R38; rw [pay51_apply, R25_apply, R26_apply, R27_apply, R28_apply]; rfl
/-- The picked group's scores with their biases, and without. -/
def selp (n : Fin 512) (i : Fin 4) : EReal := picked S B n (fun k => sel S B n k i)
def scrp (n : Fin 512) (i : Fin 4) : EReal := picked S B n (scr S n i)

def R40 (S B : Vec Ideal S16x512 .f32) : FVec Ideal S1x512 .f32 := k0_pay52 (R30 S B) (R31 S B) (R32 S B) (R33 S B) (R34 S B)
def R41 (S B : Vec Ideal S16x512 .f32) : FVec Ideal S1x512 .f32 := k0_pay53 (R30 S B) (R31 S B) (R32 S B)
def R42 (S B : Vec Ideal S16x512 .f32) : FVec Ideal S1x512 .f32 := k0_pay54 (R31 S B) (R33 S B)
def R43 (S B : Vec Ideal S16x512 .f32) : FVec Ideal S1x512 .f32 := k0_pay55 (R35 S B) (R41 S B) (R42 S B)
def R44 (S B : Vec Ideal S16x512 .f32) : FVec Ideal S1x512 .f32 := k0_pay56 (R30 S B) (R31 S B) (R32 S B) (R33 S B) (R36 S B)
def R45 (S B : Vec Ideal S16x512 .f32) : FVec Ideal S1x512 .f32 := k0_pay57 (R30 S B) (R31 S B) (R32 S B) (R33 S B)
theorem R40_apply (n : Fin 512) : R40 S B (ix2 0 n) = chosen0 (selp S B n) (scrp S B n) := by
  unfold R40; rw [pay52_apply, R30_apply, R31_apply, R32_apply, R33_apply, R34_apply]; rfl
theorem R43_apply (n : Fin 512) : R43 S B (ix2 0 n) = chosen1 (selp S B n) (scrp S B n) := by
  unfold R43 R41 R42; rw [pay55_apply, R30_apply, R31_apply, R32_apply, R33_apply, R35_apply]; rfl
theorem R44_apply (n : Fin 512) : R44 S B (ix2 0 n) = chosen2 (selp S B n) (scrp S B n) := by
  unfold R44; rw [pay56_apply, R30_apply, R31_apply, R32_apply, R33_apply, R36_apply]; rfl
theorem last_apply (n : Fin 512) : k0_pay58 (R39 S B) (R45 S B) (FloatOps.ofBits FTy.f32 1073741824#32) (ix2 0 n) = chosen3 (selp S B n) (scrp S B n) := by
  unfold R45; rw [pay58_apply, R30_apply, R31_apply, R32_apply, R33_apply, R39_apply]; rfl
/-- The chosen scores' sum, turned over. -/
def inv (n : Fin 512) : EReal := Ideal.div 1 (chosen0 (selp S B n) (scrp S B n) + chosen1 (selp S B n) (scrp S B n)
  + chosen2 (selp S B n) (scrp S B n) + chosen3 (selp S B n) (scrp S B n))
theorem over_eq (n : Fin 512) : over (R39 S B) (R40 S B) (R43 S B) (R44 S B) (R45 S B) (FloatOps.ofBits FTy.f32 1073741824#32) n = inv S B n := by
  unfold over inv; rw [last_apply, R40_apply, R43_apply, R44_apply]
def R46 (S B : Vec Ideal S16x512 .f32) : FVec Ideal S1x512 .f32 := k0_pay60 (R39 S B) (R40 S B) (R43 S B) (R44 S B) (R45 S B) (FloatOps.ofBits FTy.f32 1073741824#32)
theorem R46_apply (n : Fin 512) : R46 S B (ix2 0 n) = chosen0 (selp S B n) (scrp S B n) * inv S B n := by
  unfold R46; rw [pay60_apply, over_eq, R40_apply]
def R47 (S B : Vec Ideal S16x512 .f32) : FVec Ideal S1x512 .f32 := k0_pay61 (R39 S B) (R40 S B) (R43 S B) (R44 S B) (R45 S B) (FloatOps.ofBits FTy.f32 1073741824#32)
theorem R47_apply (n : Fin 512) : R47 S B (ix2 0 n) = chosen1 (selp S B n) (scrp S B n) * inv S B n := by
  unfold R47; rw [pay61_apply, over_eq, R43_apply]
def R48 (S B : Vec Ideal S16x512 .f32) : FVec Ideal S1x512 .f32 := k0_pay62 (R39 S B) (R40 S B) (R43 S B) (R44 S B) (R45 S B) (FloatOps.ofBits FTy.f32 1073741824#32)
theorem R48_apply (n : Fin 512) : R48 S B (ix2 0 n) = chosen2 (selp S B n) (scrp S B n) * inv S B n := by
  unfold R48; rw [pay62_apply, over_eq, R44_apply]
def R49 (S B : Vec Ideal S16x512 .f32) : FVec Ideal S1x512 .f32 := k0_pay63 (R39 S B) (R40 S B) (R43 S B) (R44 S B) (R45 S B) (FloatOps.ofBits FTy.f32 1073741824#32)
theorem R49_apply (n : Fin 512) : R49 S B (ix2 0 n) = chosen3 (selp S B n) (scrp S B n) * inv S B n := by
  unfold R49; rw [pay63_apply, over_eq, last_apply]
def R50 (S B : Vec Ideal S16x512 .f32) : FVec Ideal S1x512 .f32 := k0_pay70 (R26 S B) (R39 S B) (R40 S B) (R43 S B) (R44 S B) (R45 S B) (FloatOps.ofBits FTy.f32 1073741824#32)
/-- The sixteen rows of the weights, as the kernel makes them. -/
def W0 (S B : Vec Ideal S16x512 .f32) : FVec Ideal S1x512 .f32 := k0_pay64 (R25 S B) (R39 S B) (R40 S B) (R43 S B) (R44 S B) (R45 S B) (FloatOps.ofBits FTy.f32 1073741824#32)
def W1 (S B : Vec Ideal S16x512 .f32) : FVec Ideal S1x512 .f32 := k0_pay65 (R25 S B) (R39 S B) (R40 S B) (R43 S B) (R44 S B) (R45 S B) (FloatOps.ofBits FTy.f32 1073741824#32)
def W2 (S B : Vec Ideal S16x512 .f32) : FVec Ideal S1x512 .f32 := k0_pay66 (R25 S B) (R39 S B) (R40 S B) (R43 S B) (R44 S B) (R45 S B) (FloatOps.ofBits FTy.f32 1073741824#32)
def W3 (S B : Vec Ideal S16x512 .f32) : FVec Ideal S1x512 .f32 := k0_pay67 (R25 S B) (R39 S B) (R40 S B) (R43 S B) (R44 S B) (R45 S B) (FloatOps.ofBits FTy.f32 1073741824#32)
def W4 (S B : Vec Ideal S16x512 .f32) : FVec Ideal S1x512 .f32 := k0_pay68 (R26 S B) (R39 S B) (R40 S B) (R43 S B) (R44 S B) (R45 S B) (FloatOps.ofBits FTy.f32 1073741824#32)
def W5 (S B : Vec Ideal S16x512 .f32) : FVec Ideal S1x512 .f32 := k0_pay69 (R26 S B) (R39 S B) (R40 S B) (R43 S B) (R44 S B) (R45 S B) (FloatOps.ofBits FTy.f32 1073741824#32)
def W6 (S B : Vec Ideal S16x512 .f32) : FVec Ideal S1x512 .f32 := k0_pay71 (R50 S B)
def W7 (S B : Vec Ideal S16x512 .f32) : FVec Ideal S1x512 .f32 := k0_pay72 (R26 S B) (R49 S B)
def W8 (S B : Vec Ideal S16x512 .f32) : FVec Ideal S1x512 .f32 := k0_pay73 (R27 S B) (R46 S B)
def W9 (S B : Vec Ideal S16x512 .f32) : FVec Ideal S1x512 .f32 := k0_pay74 (R27 S B) (R47 S B)
def W10 (S B : Vec Ideal S16x512 .f32) : FVec Ideal S1x512 .f32 := k0_pay75 (R27 S B) (R48 S B)
def W11 (S B : Vec Ideal S16x512 .f32) : FVec Ideal S1x512 .f32 := k0_pay76 (R27 S B) (R49 S B)
def W12 (S B : Vec Ideal S16x512 .f32) : FVec Ideal S1x512 .f32 := k0_pay77 (R28 S B) (R46 S B)
def W13 (S B : Vec Ideal S16x512 .f32) : FVec Ideal S1x512 .f32 := k0_pay78 (R28 S B) (R47 S B)
def W14 (S B : Vec Ideal S16x512 .f32) : FVec Ideal S1x512 .f32 := k0_pay79 (R28 S B) (R48 S B)
def W15 (S B : Vec Ideal S16x512 .f32) : FVec Ideal S1x512 .f32 := k0_pay80 (R28 S B) (R49 S B)
theorem W0_apply (n : Fin 512) : W0 S B (ix2 0 n) = hit0 (sums S B n) * (chosen0 (selp S B n) (scrp S B n) * inv S B n) := by
  unfold W0; rw [pay64_apply, R25_apply]
  exact congrArg _ (R46_apply S B n)
theorem W1_apply (n : Fin 512) : W1 S B (ix2 0 n) = hit0 (sums S B n) * (chosen1 (selp S B n) (scrp S B n) * inv S B n) := by
  unfold W1; rw [pay65_apply, R25_apply]
  exact congrArg _ (R47_apply S B n)
theorem W2_apply (n : Fin 512) : W2 S B (ix2 0 n) = hit0 (sums S B n) * (chosen2 (selp S B n) (scrp S B n) * inv S B n) := by
  unfold W2; rw [pay66_apply, R25_apply]
  exact congrArg _ (R48_apply S B n)
theorem W3_apply (n : Fin 512) : W3 S B (ix2 0 n) = hit0 (sums S B n) * (chosen3 (selp S B n) (scrp S B n) * inv S B n) := by
  unfold W3; rw [pay67_apply, R25_apply]
  exact congrArg _ (R49_apply S B n)
theorem W4_apply (n : Fin 512) : W4 S B (ix2 0 n) = hit1 (sums S B n) * (chosen0 (selp S B n) (scrp S B n) * inv S B n) := by
  unfold W4; rw [pay68_apply, R26_apply]
  exact congrArg _ (R46_apply S B n)
theorem W5_apply (n : Fin 512) : W5 S B (ix2 0 n) = hit1 (sums S B n) * (chosen1 (selp S B n) (scrp S B n) * inv S B n) := by
  unfold W5; rw [pay69_apply, R26_apply]
  exact congrArg _ (R47_apply S B n)
theorem W6_apply (n : Fin 512) : W6 S B (ix2 0 n) = hit1 (sums S B n) * (chosen2 (selp S B n) (scrp S B n) * inv S B n) := by
  unfold W6 R50; rw [pay71_apply, R26_apply]
  exact congrArg _ (R48_apply S B n)
theorem W7_apply (n : Fin 512) : W7 S B (ix2 0 n) = hit1 (sums S B n) * (chosen3 (selp S B n) (scrp S B n) * inv S B n) := by
  unfold W7; rw [pay72_apply, R26_apply, R49_apply]
theorem W8_apply (n : Fin 512) : W8 S B (ix2 0 n) = hit2 (sums S B n) * (chosen0 (selp S B n) (scrp S B n) * inv S B n) := by
  unfold W8; rw [pay73_apply, R27_apply, R46_apply]
theorem W9_apply (n : Fin 512) : W9 S B (ix2 0 n) = hit2 (sums S B n) * (chosen1 (selp S B n) (scrp S B n) * inv S B n) := by
  unfold W9; rw [pay74_apply, R27_apply, R47_apply]
theorem W10_apply (n : Fin 512) : W10 S B (ix2 0 n) = hit2 (sums S B n) * (chosen2 (selp S B n) (scrp S B n) * inv S B n) := by
  unfold W10; rw [pay75_apply, R27_apply, R48_apply]
theorem W11_apply (n : Fin 512) : W11 S B (ix2 0 n) = hit2 (sums S B n) * (chosen3 (selp S B n) (scrp S B n) * inv S B n) := by
  unfold W11; rw [pay76_apply, R27_apply, R49_apply]
theorem W12_apply (n : Fin 512) : W12 S B (ix2 0 n) = hit3 (sums S B n) * (chosen0 (selp S B n) (scrp S B n) * inv S B n) := by
  unfold W12; rw [pay77_apply, R28_apply, R46_apply]
theorem W13_apply (n : Fin 512) : W13 S B (ix2 0 n) = hit3 (sums S B n) * (chosen1 (selp S B n) (scrp S B n) * inv S B n) := by
  unfold W13; rw [pay78_apply, R28_apply, R47_apply]
theorem W14_apply (n : Fin 512) : W14 S B (ix2 0 n) = hit3 (sums S B n) * (chosen2 (selp S B n) (scrp S B n) * inv S B n) := by
  unfold W14; rw [pay79_apply, R28_apply, R48_apply]
theorem W15_apply (n : Fin 512) : W15 S B (ix2 0 n) = hit3 (sums S B n) * (chosen3 (selp S B n) (scrp S B n) * inv S B n) := by
  unfold W15; rw [pay80_apply, R28_apply, R49_apply]
/-- The weights, one row an expert. -/
def rowsW : Fin 16 → Vec Ideal S1x512 .f32 := ![W0 S B, W1 S B, W2 S B, W3 S B, W4 S B, W5 S B, W6 S B, W7 S B, W8 S B, W9 S B, W10 S B, W11 S B, W12 S B, W13 S B, W14 S B, W15 S B]
def Wts : Vec Ideal S16x512 .f32 := fun i => rowsW S B ⟨(i 0).val, (i 0).isLt⟩ (ix2 0 (⟨(i 1).val, (i 1).isLt⟩ : Fin 512))

theorem Wts_apply (e : Fin 16) (n : Fin 512) : Wts S B (ix2 e n)
    = ![hit0 (sums S B n), hit1 (sums S B n), hit2 (sums S B n), hit3 (sums S B n)] (hi e)
      * (![chosen0 (selp S B n) (scrp S B n), chosen1 (selp S B n) (scrp S B n), chosen2 (selp S B n) (scrp S B n), chosen3 (selp S B n) (scrp S B n)] (lo e) * inv S B n) := by
  match e with
  | ⟨0, _⟩ =>
    rw [show hi ⟨0, by decide⟩ = 0 from by decide, show lo ⟨0, by decide⟩ = 0 from by decide]
    exact W0_apply S B n
  | ⟨1, _⟩ =>
    rw [show hi ⟨1, by decide⟩ = 0 from by decide, show lo ⟨1, by decide⟩ = 1 from by decide]
    exact W1_apply S B n
  | ⟨2, _⟩ =>
    rw [show hi ⟨2, by decide⟩ = 0 from by decide, show lo ⟨2, by decide⟩ = 2 from by decide]
    exact W2_apply S B n
  | ⟨3, _⟩ =>
    rw [show hi ⟨3, by decide⟩ = 0 from by decide, show lo ⟨3, by decide⟩ = 3 from by decide]
    exact W3_apply S B n
  | ⟨4, _⟩ =>
    rw [show hi ⟨4, by decide⟩ = 1 from by decide, show lo ⟨4, by decide⟩ = 0 from by decide]
    exact W4_apply S B n
  | ⟨5, _⟩ =>
    rw [show hi ⟨5, by decide⟩ = 1 from by decide, show lo ⟨5, by decide⟩ = 1 from by decide]
    exact W5_apply S B n
  | ⟨6, _⟩ =>
    rw [show hi ⟨6, by decide⟩ = 1 from by decide, show lo ⟨6, by decide⟩ = 2 from by decide]
    exact W6_apply S B n
  | ⟨7, _⟩ =>
    rw [show hi ⟨7, by decide⟩ = 1 from by decide, show lo ⟨7, by decide⟩ = 3 from by decide]
    exact W7_apply S B n
  | ⟨8, _⟩ =>
    rw [show hi ⟨8, by decide⟩ = 2 from by decide, show lo ⟨8, by decide⟩ = 0 from by decide]
    exact W8_apply S B n
  | ⟨9, _⟩ =>
    rw [show hi ⟨9, by decide⟩ = 2 from by decide, show lo ⟨9, by decide⟩ = 1 from by decide]
    exact W9_apply S B n
  | ⟨10, _⟩ =>
    rw [show hi ⟨10, by decide⟩ = 2 from by decide, show lo ⟨10, by decide⟩ = 2 from by decide]
    exact W10_apply S B n
  | ⟨11, _⟩ =>
    rw [show hi ⟨11, by decide⟩ = 2 from by decide, show lo ⟨11, by decide⟩ = 3 from by decide]
    exact W11_apply S B n
  | ⟨12, _⟩ =>
    rw [show hi ⟨12, by decide⟩ = 3 from by decide, show lo ⟨12, by decide⟩ = 0 from by decide]
    exact W12_apply S B n
  | ⟨13, _⟩ =>
    rw [show hi ⟨13, by decide⟩ = 3 from by decide, show lo ⟨13, by decide⟩ = 1 from by decide]
    exact W13_apply S B n
  | ⟨14, _⟩ =>
    rw [show hi ⟨14, by decide⟩ = 3 from by decide, show lo ⟨14, by decide⟩ = 2 from by decide]
    exact W14_apply S B n
  | ⟨15, _⟩ =>
    rw [show hi ⟨15, by decide⟩ = 3 from by decide, show lo ⟨15, by decide⟩ = 3 from by decide]
    exact W15_apply S B n
  | ⟨e + 16, h⟩ => exact absurd h (by omega)

/-- With the scores real and positive and the choice known, the weights are the chosen scores over their sum. -/
theorem Wts_eq (n : Fin 512) (s : Fin 16 → ℝ) (hs : ∀ e, S (ix2 e n) = (s e : EReal)) (pos : ∀ e, 0 < s e) (g a b : Fin 4)
    (P : Picks (sel S B n) g a b) (e : Fin 16) : Wts S B (ix2 e n) = ((weight s g a b e : ℝ) : EReal) := by
  have hh := hit_eq (sums S B n) g P.group
  have hp : ∀ v, picked S B n v = v g := fun v => by
    unfold picked
    rw [hh.1, hh.2.1, hh.2.2.1, hh.2.2.2]
    exact pick_eq g v
  have e1 : selp S B n = sel S B n g := funext fun i => hp _
  have e2 : scrp S B n = fun i => (s (at16 g i) : EReal) := funext fun i => (hp _).trans (hs _)
  have hc := chosen_eq (sel S B n g) (fun i => (s (at16 g i) : EReal)) a b P.ne P.first P.second
  have hsum : chosen0 (selp S B n) (scrp S B n) + chosen1 (selp S B n) (scrp S B n)
      + chosen2 (selp S B n) (scrp S B n) + chosen3 (selp S B n) (scrp S B n) = ((s (at16 g a) + s (at16 g b) : ℝ) : EReal) := by
    rw [e1, e2, hc.1, hc.2.1, hc.2.2.1, hc.2.2.2, EReal.coe_add]
    have hne := P.ne
    clear hc e1 e2 hp hh P
    fin_cases a <;> fin_cases b <;> first | exact absurd rfl hne | (simp; done) | (simp; exact add_comm _ _)
  have hinv : inv S B n = ((1 / (s (at16 g a) + s (at16 g b)) : ℝ) : EReal) := by
    unfold inv
    rw [hsum, Ideal.div_coe (by have := pos (at16 g a); have := pos (at16 g b); positivity), one_mul]
  rw [Wts_apply, hinv, e1, e2]
  have hl : ∀ i : Fin 4, ![chosen0 (sel S B n g) (fun i => (s (at16 g i) : EReal)), chosen1 (sel S B n g) (fun i => (s (at16 g i) : EReal)),
      chosen2 (sel S B n g) (fun i => (s (at16 g i) : EReal)), chosen3 (sel S B n g) (fun i => (s (at16 g i) : EReal))] i
      = if i = a ∨ i = b then (s (at16 g i) : EReal) else 0 := by
    intro i
    match i with
    | ⟨0, _⟩ => exact hc.1
    | ⟨1, _⟩ => exact hc.2.1
    | ⟨2, _⟩ => exact hc.2.2.1
    | ⟨3, _⟩ => exact hc.2.2.2
  have hk : ∀ k : Fin 4, ![hit0 (sums S B n), hit1 (sums S B n), hit2 (sums S B n), hit3 (sums S B n)] k = if g = k then 1 else 0 := by
    intro k
    match k with
    | ⟨0, _⟩ => exact hh.1
    | ⟨1, _⟩ => exact hh.2.1
    | ⟨2, _⟩ => exact hh.2.2.1
    | ⟨3, _⟩ => exact hh.2.2.2
  rw [hl, hk]
  unfold weight
  by_cases h : g = hi e
  · have he : ∀ i, e = at16 g i ↔ lo e = i := fun i => ⟨fun h' => by rw [h', lo_at16], fun h' => by rw [h, ← h', at16_hi_lo]⟩
    have he' : at16 g (lo e) = e := ((he _).2 rfl).symm
    rw [if_pos h, one_mul, he', if_congr (or_congr (he a) (he b)) rfl rfl]
    split
    · rw [EReal.coe_mul]
    · rw [zero_mul, EReal.coe_zero]
  · rw [if_neg h, zero_mul, if_neg (by rintro (h' | h') <;> exact h (by rw [h', hi_at16])), EReal.coe_zero]

end Cert.ExpertsIdeal.Moe

end
-- ==== Proof.Whole.lean ====
/-
  What the experts' kernel's body leaves at one grid point, from the blocks it reads.
-/
module

public import proofs.«01_k».proof.Proof.Router
public import proofs.«01_k».proof.Proof.Gen.ExpertsIdeal.Frame
public import Idealize.ShloMosaic.Lib.Pipeline.Value
public import Idealize.ShloMosaic.Lib.Pipeline.ReadBack
public import Idealize.ShloMosaic.Lib.VecWindow

@[expose] public section

noncomputable section

namespace Cert.ExpertsIdeal.Moe

open Cert.ExpertsIdeal Cert.ExpertsIdeal.Gen Idealize.ShloMosaic Cert.Route

theorem load_whole {s : Shape} {e : EltTy} (M : Memref sig .tc .vmem s e) (h : M.IsWhole) (x : Vec Ideal s e) {off : Fin s.rank → ℕ} (inb) :
    View.readAt (Elt Ideal) M.view (Rect.unit off s.size inb).toLoadRect (h.unread x) = x := by
  rw [View.readAt_full]; exact h.read_unread x

theorem load_part {s : Shape} {e : EltTy} (M : Memref sig .tc .vmem s e) (h : M.IsWhole) (x : Vec Ideal s e) (r : Rect s) :
    View.readAt (Elt Ideal) M.view r.toLoadRect (h.unread x) = View.ld x r := by
  rw [View.readAt_eq_ld]; exact congrArg (fun x => View.ld x r) (h.read_unread x)

theorem ld_row (X : Vec Ideal S16x512 .f32) (e : ℕ) (he : e < 16) (inb) :
    View.ld X (Rect.unit (s := S16x512) ![e, 0] S1x512.size inb) = row X ⟨e, he⟩ := by
  rw [View.ld_unit]
  refine funext fun i => congrArg X (funext fun a => Fin.ext ?_)
  match a with
  | ⟨0, _⟩ => show e + (i 0).val = e; have : (i 0).val < 1 := (i 0).isLt; omega
  | ⟨1, _⟩ => exact Nat.zero_add _

/-- Four rows of sixteen. -/
def four (X : Vec Ideal S16x512 .f32) (j : Fin 4) : Vec Ideal S4x512 .f32 :=
  fun i => X (ix2 (at16 j (⟨(i 0).val, (i 0).isLt⟩ : Fin 4)) (⟨(i 1).val, (i 1).isLt⟩ : Fin 512))

theorem ld_four (X : Vec Ideal S16x512 .f32) (o : ℕ) (j : Fin 4) (ho : o = 4 * j.val) (inb) :
    View.ld X (Rect.unit (s := S16x512) ![o, 0] S4x512.size inb) = four X j := by
  subst ho
  rw [View.ld_unit]
  refine funext fun i => congrArg X (funext fun a => Fin.ext ?_)
  match a with
  | ⟨0, _⟩ => rfl
  | ⟨1, _⟩ => exact Nat.zero_add _

/-- A quarter of an array's rows. -/
def quarter {n : ℕ} {e : EltTy} (X : Vec Ideal ⟨2, ![4096, n]⟩ e) (j : Fin 4) : Vec Ideal ⟨2, ![1024, n]⟩ e :=
  fun i => X (ix2 (⟨1024 * j.val + (i 0).val, by have : (i 0).val < 1024 := (i 0).isLt; omega⟩ : Fin 4096) (⟨(i 1).val, (i 1).isLt⟩ : Fin n))

theorem ld_quarter {e : EltTy} (X : Vec Ideal S4096x1024 e) (o : ℕ) (j : Fin 4) (ho : o = 1024 * j.val) (inb) :
    View.ld X (Rect.unit (s := S4096x1024) ![o, 0] S1024x1024.size inb) = quarter (n := 1024) X j := by
  subst ho
  rw [View.ld_unit]
  refine funext fun i => congrArg X (funext fun a => Fin.ext ?_)
  match a with
  | ⟨0, _⟩ => rfl
  | ⟨1, _⟩ => exact Nat.zero_add _

section Pure
variable (x0 : Vec Ideal S512x1024 .f32) (x1 : Vec Ideal S1x1x6144 .f32) (x2 : Vec Ideal S1x1024 .f32) (x3 : Vec Ideal S16x1024 .bf16) (x4 : Vec Ideal S16x1024 .bf16) (x5 : Vec Ideal S16x512 .f32) (x6 : Vec Ideal S4096x1024 .bf16) (x7 : Vec Ideal S4096x1024 .bf16) (x8 : Vec Ideal S1024x4096 .bf16) (x9 : Vec Ideal S1x1024 .f32)

/-- The normalised tokens, -/
def Un : FVec Ideal S512x1024 .bf16 := k0_pay6 x0 x1 x2
/-- the router's logits, -/
def Lg : FVec Ideal S16x512 .f32 := k0_pay9 (Un x0 x1 x2) (k0_pay7 x0 x1 x2 x3 x3) (k0_pay8 x4)
/-- and its scores. -/
def Sc : FVec Ideal S16x512 .f32 := k0_pay10 (Lg x0 x1 x2 x3 x4)
/-- The four groups' weighted activations, -/
def Md0 : FVec Ideal S1024x512 .bf16 := k0_pay81 (Un x0 x1 x2) (quarter (n := 1024) x6 0) (quarter (n := 1024) x7 0) (four (Wts (Sc x0 x1 x2 x3 x4) x5) 0)
def Md1 : FVec Ideal S1024x512 .bf16 := k0_pay83 (k0_pay82 (Un x0 x1 x2) (quarter (n := 1024) x6 1) (quarter (n := 1024) x7 1) (four (Wts (Sc x0 x1 x2 x3 x4) x5) 1))
def Md2 : FVec Ideal S1024x512 .bf16 := k0_pay84 (Un x0 x1 x2) (quarter (n := 1024) x6 2) (quarter (n := 1024) x7 2) (four (Wts (Sc x0 x1 x2 x3 x4) x5) 2)
def Md3 : FVec Ideal S1024x512 .bf16 := k0_pay1 (k0_pay85 (Un x0 x1 x2) (quarter (n := 1024) x6 3) (quarter (n := 1024) x7 3) (four (Wts (Sc x0 x1 x2 x3 x4) x5) 3))
/-- one over the other. -/
def Md : Vec Ideal S4096x512 .bf16 := fun i =>
  (![Md0 x0 x1 x2 x3 x4 x5 x6 x7, Md1 x0 x1 x2 x3 x4 x5 x6 x7, Md2 x0 x1 x2 x3 x4 x5 x6 x7, Md3 x0 x1 x2 x3 x4 x5 x6 x7] : Fin 4 → FVec Ideal S1024x512 .bf16)
    ⟨(i 0).val / 1024, by have : (i 0).val < 4096 := (i 0).isLt; omega⟩
    (ix2 (⟨(i 0).val % 1024, by omega⟩ : Fin 1024) (⟨(i 1).val, (i 1).isLt⟩ : Fin 512))
/-- The block the body leaves. -/
def Ot : FVec Ideal S512x1024 .f32 := k0_pay2 (k0_pay3 x0) (k0_pay4 x1) x8 (Md x0 x1 x2 x3 x4 x5 x6 x7) x9
end Pure

section Run
variable (c : Dev nD) (i : grid0.Coords) (arg2 : Memref sig .tc .vmem S512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S16x512 .f32) (harg7 : arg7.IsWhole) (arg8 : Memref sig .tc .vmem S4096x1024 .bf16) (harg8 : arg8.IsWhole) (arg9 : Memref sig .tc .vmem S4096x1024 .bf16) (harg9 : arg9.IsWhole) (arg10 : Memref sig .tc .vmem S1024x4096 .bf16) (harg10 : arg10.IsWhole) (arg11 : Memref sig .tc .vmem S1x1024 .f32) (harg11 : arg11.IsWhole) (arg12 : Memref sig .tc .vmem S512x1024 .f32) (harg12 : arg12.IsWhole) (arg13 : Memref sig .tc .vmem S4096x512 .bf16) (harg13 : arg13.IsWhole) (arg14 : Memref sig .tc .vmem S16x512 .f32) (harg14 : arg14.IsWhole) (arg15 : Memref sig .tc .vmem S16x512 .f32) (harg15 : arg15.IsWhole)
  (x0 : Vec Ideal S512x1024 .f32) (x1 : Vec Ideal S1x1x6144 .f32) (x2 : Vec Ideal S1x1024 .f32) (x3 : Vec Ideal S16x1024 .bf16) (x4 : Vec Ideal S16x1024 .bf16) (x5 : Vec Ideal S16x512 .f32) (x6 : Vec Ideal S4096x1024 .bf16) (x7 : Vec Ideal S4096x1024 .bf16) (x8 : Vec Ideal S1024x4096 .bf16) (x9 : Vec Ideal S1x1024 .f32)

theorem r_eq : (kernelRun0_A.sl.r c arg2 harg2 x0) = k0_pay3 x0 := by
  unfold kernelRun0_A.sl.r; rw [load_whole]
theorem r_1_eq : (kernelRun0_A.sl.r_1 c arg3 harg3 x1) = k0_pay4 x1 := by
  unfold kernelRun0_A.sl.r_1; rw [load_whole]
theorem r_2_eq : (kernelRun0_A.sl.r_2 c arg2 harg2 arg3 harg3 arg4 harg4 x0 x1 x2) = Un x0 x1 x2 := by
  unfold kernelRun0_A.sl.r_2 Un; rw [load_whole, load_whole, load_whole]
theorem r_3_eq : (kernelRun0_A.sl.r_3 c arg2 harg2 arg3 harg3 arg4 harg4 arg5 harg5 x0 x1 x2 x3) = k0_pay7 x0 x1 x2 x3 x3 := by
  unfold kernelRun0_A.sl.r_3; rw [load_whole, load_whole, load_whole, load_whole]
theorem r_4_eq : (kernelRun0_A.sl.r_4 c arg6 harg6 x4) = k0_pay8 x4 := by
  unfold kernelRun0_A.sl.r_4; rw [load_whole]
theorem v44_eq : (kernelRun0_A.sl.v44 c arg2 harg2 arg3 harg3 arg4 harg4 arg5 harg5 arg6 harg6 arg14 x0 x1 x2 x3 x4) = Lg x0 x1 x2 x3 x4 := by
  unfold kernelRun0_A.sl.v44 kernelRun0_A.sl.HS1_1; rw [View.readCov_full, r_2_eq, r_3_eq, r_4_eq]; rfl
theorem v57_eq : (kernelRun0_A.sl.v57 c arg2 harg2 arg3 harg3 arg4 harg4 arg5 harg5 arg6 harg6 arg14 x0 x1 x2 x3 x4) = row (Sc x0 x1 x2 x3 x4) 0 := by
  unfold kernelRun0_A.sl.v57 kernelRun0_A.sl.HS1_2
  rw [v44_eq, View.readCov_fill _ _ _ _ _ (by decide)]; exact ld_row _ 0 (by decide) _
theorem v58_eq : (kernelRun0_A.sl.v58 c arg2 harg2 arg3 harg3 arg4 harg4 arg5 harg5 arg6 harg6 arg14 x0 x1 x2 x3 x4) = row (Sc x0 x1 x2 x3 x4) 1 := by
  unfold kernelRun0_A.sl.v58 kernelRun0_A.sl.HS1_2
  rw [v44_eq, View.readCov_fill _ _ _ _ _ (by decide)]; exact ld_row _ 1 (by decide) _
theorem v59_eq : (kernelRun0_A.sl.v59 c arg2 harg2 arg3 harg3 arg4 harg4 arg5 harg5 arg6 harg6 arg14 x0 x1 x2 x3 x4) = row (Sc x0 x1 x2 x3 x4) 2 := by
  unfold kernelRun0_A.sl.v59 kernelRun0_A.sl.HS1_2
  rw [v44_eq, View.readCov_fill _ _ _ _ _ (by decide)]; exact ld_row _ 2 (by decide) _
theorem v60_eq : (kernelRun0_A.sl.v60 c arg2 harg2 arg3 harg3 arg4 harg4 arg5 harg5 arg6 harg6 arg14 x0 x1 x2 x3 x4) = row (Sc x0 x1 x2 x3 x4) 3 := by
  unfold kernelRun0_A.sl.v60 kernelRun0_A.sl.HS1_2
  rw [v44_eq, View.readCov_fill _ _ _ _ _ (by decide)]; exact ld_row _ 3 (by decide) _
theorem v61_eq : (kernelRun0_A.sl.v61 c arg2 harg2 arg3 harg3 arg4 harg4 arg5 harg5 arg6 harg6 arg14 x0 x1 x2 x3 x4) = row (Sc x0 x1 x2 x3 x4) 4 := by
  unfold kernelRun0_A.sl.v61 kernelRun0_A.sl.HS1_2
  rw [v44_eq, View.readCov_fill _ _ _ _ _ (by decide)]; exact ld_row _ 4 (by decide) _
theorem v62_eq : (kernelRun0_A.sl.v62 c arg2 harg2 arg3 harg3 arg4 harg4 arg5 harg5 arg6 harg6 arg14 x0 x1 x2 x3 x4) = row (Sc x0 x1 x2 x3 x4) 5 := by
  unfold kernelRun0_A.sl.v62 kernelRun0_A.sl.HS1_2
  rw [v44_eq, View.readCov_fill _ _ _ _ _ (by decide)]; exact ld_row _ 5 (by decide) _
theorem v63_eq : (kernelRun0_A.sl.v63 c arg2 harg2 arg3 harg3 arg4 harg4 arg5 harg5 arg6 harg6 arg14 x0 x1 x2 x3 x4) = row (Sc x0 x1 x2 x3 x4) 6 := by
  unfold kernelRun0_A.sl.v63 kernelRun0_A.sl.HS1_2
  rw [v44_eq, View.readCov_fill _ _ _ _ _ (by decide)]; exact ld_row _ 6 (by decide) _
theorem v64_eq : (kernelRun0_A.sl.v64 c arg2 harg2 arg3 harg3 arg4 harg4 arg5 harg5 arg6 harg6 arg14 x0 x1 x2 x3 x4) = row (Sc x0 x1 x2 x3 x4) 7 := by
  unfold kernelRun0_A.sl.v64 kernelRun0_A.sl.HS1_2
  rw [v44_eq, View.readCov_fill _ _ _ _ _ (by decide)]; exact ld_row _ 7 (by decide) _
theorem v65_eq : (kernelRun0_A.sl.v65 c arg2 harg2 arg3 harg3 arg4 harg4 arg5 harg5 arg6 harg6 arg14 x0 x1 x2 x3 x4) = row (Sc x0 x1 x2 x3 x4) 8 := by
  unfold kernelRun0_A.sl.v65 kernelRun0_A.sl.HS1_2
  rw [v44_eq, View.readCov_fill _ _ _ _ _ (by decide)]; exact ld_row _ 8 (by decide) _
theorem v66_eq : (kernelRun0_A.sl.v66 c arg2 harg2 arg3 harg3 arg4 harg4 arg5 harg5 arg6 harg6 arg14 x0 x1 x2 x3 x4) = row (Sc x0 x1 x2 x3 x4) 9 := by
  unfold kernelRun0_A.sl.v66 kernelRun0_A.sl.HS1_2
  rw [v44_eq, View.readCov_fill _ _ _ _ _ (by decide)]; exact ld_row _ 9 (by decide) _
theorem v67_eq : (kernelRun0_A.sl.v67 c arg2 harg2 arg3 harg3 arg4 harg4 arg5 harg5 arg6 harg6 arg14 x0 x1 x2 x3 x4) = row (Sc x0 x1 x2 x3 x4) 10 := by
  unfold kernelRun0_A.sl.v67 kernelRun0_A.sl.HS1_2
  rw [v44_eq, View.readCov_fill _ _ _ _ _ (by decide)]; exact ld_row _ 10 (by decide) _
theorem v68_eq : (kernelRun0_A.sl.v68 c arg2 harg2 arg3 harg3 arg4 harg4 arg5 harg5 arg6 harg6 arg14 x0 x1 x2 x3 x4) = row (Sc x0 x1 x2 x3 x4) 11 := by
  unfold kernelRun0_A.sl.v68 kernelRun0_A.sl.HS1_2
  rw [v44_eq, View.readCov_fill _ _ _ _ _ (by decide)]; exact ld_row _ 11 (by decide) _
theorem v69_eq : (kernelRun0_A.sl.v69 c arg2 harg2 arg3 harg3 arg4 harg4 arg5 harg5 arg6 harg6 arg14 x0 x1 x2 x3 x4) = row (Sc x0 x1 x2 x3 x4) 12 := by
  unfold kernelRun0_A.sl.v69 kernelRun0_A.sl.HS1_2
  rw [v44_eq, View.readCov_fill _ _ _ _ _ (by decide)]; exact ld_row _ 12 (by decide) _
theorem v70_eq : (kernelRun0_A.sl.v70 c arg2 harg2 arg3 harg3 arg4 harg4 arg5 harg5 arg6 harg6 arg14 x0 x1 x2 x3 x4) = row (Sc x0 x1 x2 x3 x4) 13 := by
  unfold kernelRun0_A.sl.v70 kernelRun0_A.sl.HS1_2
  rw [v44_eq, View.readCov_fill _ _ _ _ _ (by decide)]; exact ld_row _ 13 (by decide) _
theorem v71_eq : (kernelRun0_A.sl.v71 c arg2 harg2 arg3 harg3 arg4 harg4 arg5 harg5 arg6 harg6 arg14 x0 x1 x2 x3 x4) = row (Sc x0 x1 x2 x3 x4) 14 := by
  unfold kernelRun0_A.sl.v71 kernelRun0_A.sl.HS1_2
  rw [v44_eq, View.readCov_fill _ _ _ _ _ (by decide)]; exact ld_row _ 14 (by decide) _
theorem v72_eq : (kernelRun0_A.sl.v72 c arg2 harg2 arg3 harg3 arg4 harg4 arg5 harg5 arg6 harg6 arg14 x0 x1 x2 x3 x4) = row (Sc x0 x1 x2 x3 x4) 15 := by
  unfold kernelRun0_A.sl.v72 kernelRun0_A.sl.HS1_2
  rw [v44_eq, View.readCov_fill _ _ _ _ _ (by decide)]; exact ld_row _ 15 (by decide) _
theorem r_5_eq : (kernelRun0_A.sl.r_5 c arg2 harg2 arg3 harg3 arg4 harg4 arg5 harg5 arg6 harg6 arg7 harg7 arg14 x0 x1 x2 x3 x4 x5) = R5 (Sc x0 x1 x2 x3 x4) x5 := by
  unfold kernelRun0_A.sl.r_5 R5; rw [v57_eq, load_part, ld_row x5 0 (by decide)]; rfl
theorem r_6_eq : (kernelRun0_A.sl.r_6 c arg2 harg2 arg3 harg3 arg4 harg4 arg5 harg5 arg6 harg6 arg7 harg7 arg14 x0 x1 x2 x3 x4 x5) = R6 (Sc x0 x1 x2 x3 x4) x5 := by
  unfold kernelRun0_A.sl.r_6 R6; rw [v58_eq, load_part, ld_row x5 1 (by decide)]; rfl
theorem r_7_eq : (kernelRun0_A.sl.r_7 c arg2 harg2 arg3 harg3 arg4 harg4 arg5 harg5 arg6 harg6 arg7 harg7 arg14 x0 x1 x2 x3 x4 x5) = R7 (Sc x0 x1 x2 x3 x4) x5 := by
  unfold kernelRun0_A.sl.r_7 R7; rw [v59_eq, load_part, ld_row x5 2 (by decide)]; rfl
theorem r_8_eq : (kernelRun0_A.sl.r_8 c arg2 harg2 arg3 harg3 arg4 harg4 arg5 harg5 arg6 harg6 arg7 harg7 arg14 x0 x1 x2 x3 x4 x5) = R8 (Sc x0 x1 x2 x3 x4) x5 := by
  unfold kernelRun0_A.sl.r_8 R8; rw [v60_eq, load_part, ld_row x5 3 (by decide)]; rfl
theorem r_9_eq : (kernelRun0_A.sl.r_9 c arg2 harg2 arg3 harg3 arg4 harg4 arg5 harg5 arg6 harg6 arg7 harg7 arg14 x0 x1 x2 x3 x4 x5) = R9 (Sc x0 x1 x2 x3 x4) x5 := by
  unfold kernelRun0_A.sl.r_9 R9; rw [v61_eq, load_part, ld_row x5 4 (by decide)]; rfl
theorem r_10_eq : (kernelRun0_A.sl.r_10 c arg2 harg2 arg3 harg3 arg4 harg4 arg5 harg5 arg6 harg6 arg7 harg7 arg14 x0 x1 x2 x3 x4 x5) = R10 (Sc x0 x1 x2 x3 x4) x5 := by
  unfold kernelRun0_A.sl.r_10 R10; rw [v62_eq, load_part, ld_row x5 5 (by decide)]; rfl
theorem r_11_eq : (kernelRun0_A.sl.r_11 c arg2 harg2 arg3 harg3 arg4 harg4 arg5 harg5 arg6 harg6 arg7 harg7 arg14 x0 x1 x2 x3 x4 x5) = R11 (Sc x0 x1 x2 x3 x4) x5 := by
  unfold kernelRun0_A.sl.r_11 R11; rw [v63_eq, load_part, ld_row x5 6 (by decide)]; rfl
theorem r_12_eq : (kernelRun0_A.sl.r_12 c arg2 harg2 arg3 harg3 arg4 harg4 arg5 harg5 arg6 harg6 arg7 harg7 arg14 x0 x1 x2 x3 x4 x5) = R12 (Sc x0 x1 x2 x3 x4) x5 := by
  unfold kernelRun0_A.sl.r_12 R12; rw [v64_eq, load_part, ld_row x5 7 (by decide)]; rfl
theorem r_13_eq : (kernelRun0_A.sl.r_13 c arg7 harg7 x5) = row x5 8 := by
  unfold kernelRun0_A.sl.r_13; rw [load_part]; exact ld_row _ 8 (by decide) _
theorem r_14_eq : (kernelRun0_A.sl.r_14 c arg2 harg2 arg3 harg3 arg4 harg4 arg5 harg5 arg6 harg6 arg7 harg7 arg14 x0 x1 x2 x3 x4 x5) = R14 (Sc x0 x1 x2 x3 x4) x5 := by
  unfold kernelRun0_A.sl.r_14 R14; rw [v65_eq, r_13_eq]
theorem r_15_eq : (kernelRun0_A.sl.r_15 c arg2 harg2 arg3 harg3 arg4 harg4 arg5 harg5 arg6 harg6 arg7 harg7 arg14 x0 x1 x2 x3 x4 x5) = R15 (Sc x0 x1 x2 x3 x4) x5 := by
  unfold kernelRun0_A.sl.r_15 R15; rw [v66_eq, load_part, ld_row x5 9 (by decide)]; rfl
theorem r_16_eq : (kernelRun0_A.sl.r_16 c arg2 harg2 arg3 harg3 arg4 harg4 arg5 harg5 arg6 harg6 arg7 harg7 arg14 x0 x1 x2 x3 x4 x5) = R16 (Sc x0 x1 x2 x3 x4) x5 := by
  unfold kernelRun0_A.sl.r_16 R16; rw [v67_eq, load_part, ld_row x5 10 (by decide)]; rfl
theorem r_17_eq : (kernelRun0_A.sl.r_17 c arg2 harg2 arg3 harg3 arg4 harg4 arg5 harg5 arg6 harg6 arg7 harg7 arg14 x0 x1 x2 x3 x4 x5) = R17 (Sc x0 x1 x2 x3 x4) x5 := by
  unfold kernelRun0_A.sl.r_17 R17; rw [v68_eq, load_part, ld_row x5 11 (by decide)]; rfl
theorem r_18_eq : (kernelRun0_A.sl.r_18 c arg2 harg2 arg3 harg3 arg4 harg4 arg5 harg5 arg6 harg6 arg7 harg7 arg14 x0 x1 x2 x3 x4 x5) = R18 (Sc x0 x1 x2 x3 x4) x5 := by
  unfold kernelRun0_A.sl.r_18 R18; rw [v69_eq, load_part, ld_row x5 12 (by decide)]; rfl
theorem r_19_eq : (kernelRun0_A.sl.r_19 c arg2 harg2 arg3 harg3 arg4 harg4 arg5 harg5 arg6 harg6 arg7 harg7 arg14 x0 x1 x2 x3 x4 x5) = R19 (Sc x0 x1 x2 x3 x4) x5 := by
  unfold kernelRun0_A.sl.r_19 R19; rw [v70_eq, load_part, ld_row x5 13 (by decide)]; rfl
theorem r_20_eq : (kernelRun0_A.sl.r_20 c arg2 harg2 arg3 harg3 arg4 harg4 arg5 harg5 arg6 harg6 arg7 harg7 arg14 x0 x1 x2 x3 x4 x5) = R20 (Sc x0 x1 x2 x3 x4) x5 := by
  unfold kernelRun0_A.sl.r_20 R20; rw [v71_eq, load_part, ld_row x5 14 (by decide)]; rfl
theorem r_21_eq : (kernelRun0_A.sl.r_21 c arg2 harg2 arg3 harg3 arg4 harg4 arg5 harg5 arg6 harg6 arg7 harg7 arg14 x0 x1 x2 x3 x4 x5) = R21 (Sc x0 x1 x2 x3 x4) x5 := by
  unfold kernelRun0_A.sl.r_21 R21; rw [v72_eq, load_part, ld_row x5 15 (by decide)]; rfl
theorem r_24_eq : (kernelRun0_A.sl.r_24 c arg2 harg2 arg3 harg3 arg4 harg4 arg5 harg5 arg6 harg6 arg7 harg7 arg14 x0 x1 x2 x3 x4 x5) = R24 (Sc x0 x1 x2 x3 x4) x5 := by
  unfold kernelRun0_A.sl.r_24 R24; rw [v65_eq, v66_eq, r_13_eq, load_part, ld_row x5 9 (by decide)]; rfl
theorem r_22_eq : (kernelRun0_A.sl.r_22 c arg2 harg2 arg3 harg3 arg4 harg4 arg5 harg5 arg6 harg6 arg7 harg7 arg14 x0 x1 x2 x3 x4 x5) = R22 (Sc x0 x1 x2 x3 x4) x5 := by
  unfold kernelRun0_A.sl.r_22 R22; rw [r_5_eq, r_6_eq, r_7_eq, r_8_eq]; try rfl
theorem r_23_eq : (kernelRun0_A.sl.r_23 c arg2 harg2 arg3 harg3 arg4 harg4 arg5 harg5 arg6 harg6 arg7 harg7 arg14 x0 x1 x2 x3 x4 x5) = R23 (Sc x0 x1 x2 x3 x4) x5 := by
  unfold kernelRun0_A.sl.r_23 R23; rw [r_9_eq, r_10_eq, r_11_eq, r_12_eq]; try rfl
theorem r_25_eq : (kernelRun0_A.sl.r_25 c arg2 harg2 arg3 harg3 arg4 harg4 arg5 harg5 arg6 harg6 arg7 harg7 arg14 x0 x1 x2 x3 x4 x5) = R25 (Sc x0 x1 x2 x3 x4) x5 := by
  unfold kernelRun0_A.sl.r_25 R25; rw [r_14_eq, r_15_eq, r_16_eq, r_17_eq, r_18_eq, r_19_eq, r_20_eq, r_21_eq, r_22_eq, r_23_eq, r_24_eq]; try rfl
theorem r_26_eq : (kernelRun0_A.sl.r_26 c arg2 harg2 arg3 harg3 arg4 harg4 arg5 harg5 arg6 harg6 arg7 harg7 arg14 x0 x1 x2 x3 x4 x5) = R26 (Sc x0 x1 x2 x3 x4) x5 := by
  unfold kernelRun0_A.sl.r_26 R26; rw [r_14_eq, r_15_eq, r_16_eq, r_17_eq, r_18_eq, r_19_eq, r_20_eq, r_21_eq, r_22_eq, r_23_eq, r_24_eq]; try rfl
theorem r_27_eq : (kernelRun0_A.sl.r_27 c arg2 harg2 arg3 harg3 arg4 harg4 arg5 harg5 arg6 harg6 arg7 harg7 arg14 x0 x1 x2 x3 x4 x5) = R27 (Sc x0 x1 x2 x3 x4) x5 := by
  unfold kernelRun0_A.sl.r_27 R27; rw [r_14_eq, r_15_eq, r_16_eq, r_17_eq, r_18_eq, r_19_eq, r_20_eq, r_21_eq, r_22_eq, r_23_eq, r_24_eq]; try rfl
theorem r_28_eq : (kernelRun0_A.sl.r_28 c arg2 harg2 arg3 harg3 arg4 harg4 arg5 harg5 arg6 harg6 arg7 harg7 arg14 x0 x1 x2 x3 x4 x5) = R28 (Sc x0 x1 x2 x3 x4) x5 := by
  unfold kernelRun0_A.sl.r_28 R28; rw [r_14_eq, r_15_eq, r_16_eq, r_17_eq, r_18_eq, r_19_eq, r_20_eq, r_21_eq, r_22_eq, r_23_eq, r_24_eq]; try rfl
theorem r_29_eq : (kernelRun0_A.sl.r_29 c arg2 harg2 arg3 harg3 arg4 harg4 arg5 harg5 arg6 harg6 arg7 harg7 arg14 x0 x1 x2 x3 x4 x5) = R29 (Sc x0 x1 x2 x3 x4) x5 := by
  unfold kernelRun0_A.sl.r_29 R29; rw [r_5_eq, r_9_eq, r_14_eq, r_15_eq, r_16_eq, r_17_eq, r_18_eq, r_19_eq, r_20_eq, r_21_eq, r_22_eq, r_23_eq, r_24_eq]; try rfl
theorem r_30_eq : (kernelRun0_A.sl.r_30 c arg2 harg2 arg3 harg3 arg4 harg4 arg5 harg5 arg6 harg6 arg7 harg7 arg14 x0 x1 x2 x3 x4 x5) = R30 (Sc x0 x1 x2 x3 x4) x5 := by
  unfold kernelRun0_A.sl.r_30 R30; rw [r_18_eq, r_28_eq, r_29_eq]; try rfl
theorem r_31_eq : (kernelRun0_A.sl.r_31 c arg2 harg2 arg3 harg3 arg4 harg4 arg5 harg5 arg6 harg6 arg7 harg7 arg14 x0 x1 x2 x3 x4 x5) = R31 (Sc x0 x1 x2 x3 x4) x5 := by
  unfold kernelRun0_A.sl.r_31 R31; rw [r_6_eq, r_10_eq, r_15_eq, r_19_eq, r_25_eq, r_26_eq, r_27_eq, r_28_eq]; try rfl
theorem r_32_eq : (kernelRun0_A.sl.r_32 c arg2 harg2 arg3 harg3 arg4 harg4 arg5 harg5 arg6 harg6 arg7 harg7 arg14 x0 x1 x2 x3 x4 x5) = R32 (Sc x0 x1 x2 x3 x4) x5 := by
  unfold kernelRun0_A.sl.r_32 R32; rw [r_7_eq, r_11_eq, r_16_eq, r_20_eq, r_25_eq, r_26_eq, r_27_eq, r_28_eq]; try rfl
theorem r_33_eq : (kernelRun0_A.sl.r_33 c arg2 harg2 arg3 harg3 arg4 harg4 arg5 harg5 arg6 harg6 arg7 harg7 arg14 x0 x1 x2 x3 x4 x5) = R33 (Sc x0 x1 x2 x3 x4) x5 := by
  unfold kernelRun0_A.sl.r_33 R33; rw [r_8_eq, r_12_eq, r_17_eq, r_21_eq, r_25_eq, r_26_eq, r_27_eq, r_28_eq]; try rfl
theorem r_34_eq : (kernelRun0_A.sl.r_34 c arg2 harg2 arg3 harg3 arg4 harg4 arg5 harg5 arg6 harg6 arg7 harg7 arg14 x0 x1 x2 x3 x4 x5) = R34 (Sc x0 x1 x2 x3 x4) x5 := by
  unfold kernelRun0_A.sl.r_34 R34; rw [v57_eq, v61_eq, v65_eq, v69_eq, r_25_eq, r_26_eq, r_27_eq, r_28_eq]; try rfl
theorem r_35_eq : (kernelRun0_A.sl.r_35 c arg2 harg2 arg3 harg3 arg4 harg4 arg5 harg5 arg6 harg6 arg7 harg7 arg14 x0 x1 x2 x3 x4 x5) = R35 (Sc x0 x1 x2 x3 x4) x5 := by
  unfold kernelRun0_A.sl.r_35 R35; rw [v58_eq, v62_eq, v66_eq, v70_eq, r_25_eq, r_26_eq, r_27_eq, r_28_eq]; try rfl
theorem r_36_eq : (kernelRun0_A.sl.r_36 c arg2 harg2 arg3 harg3 arg4 harg4 arg5 harg5 arg6 harg6 arg7 harg7 arg14 x0 x1 x2 x3 x4 x5) = R36 (Sc x0 x1 x2 x3 x4) x5 := by
  unfold kernelRun0_A.sl.r_36 R36; rw [v59_eq, v63_eq, v67_eq, v71_eq, r_25_eq, r_26_eq, r_27_eq, r_28_eq]; try rfl
theorem r_37_eq : (kernelRun0_A.sl.r_37 c arg2 harg2 arg3 harg3 arg4 harg4 arg5 harg5 arg6 harg6 arg7 harg7 arg14 x0 x1 x2 x3 x4 x5) = R37 (Sc x0 x1 x2 x3 x4) x5 := by
  unfold kernelRun0_A.sl.r_37 R37; rw [v60_eq, r_25_eq]; try rfl
theorem r_38_eq : (kernelRun0_A.sl.r_38 c arg2 harg2 arg3 harg3 arg4 harg4 arg5 harg5 arg6 harg6 arg7 harg7 arg14 x0 x1 x2 x3 x4 x5) = R38 (Sc x0 x1 x2 x3 x4) x5 := by
  unfold kernelRun0_A.sl.r_38 R38; rw [r_26_eq]; try rfl
theorem r_39_eq : (kernelRun0_A.sl.r_39 c arg2 harg2 arg3 harg3 arg4 harg4 arg5 harg5 arg6 harg6 arg7 harg7 arg14 x0 x1 x2 x3 x4 x5) = R39 (Sc x0 x1 x2 x3 x4) x5 := by
  unfold kernelRun0_A.sl.r_39 R39; rw [v64_eq, v68_eq, v72_eq, r_27_eq, r_28_eq, r_37_eq, r_38_eq]; try rfl
theorem r_40_eq : (kernelRun0_A.sl.r_40 c arg2 harg2 arg3 harg3 arg4 harg4 arg5 harg5 arg6 harg6 arg7 harg7 arg14 x0 x1 x2 x3 x4 x5) = R40 (Sc x0 x1 x2 x3 x4) x5 := by
  unfold kernelRun0_A.sl.r_40 R40; rw [r_30_eq, r_31_eq, r_32_eq, r_33_eq, r_34_eq]; try rfl
theorem r_41_eq : (kernelRun0_A.sl.r_41 c arg2 harg2 arg3 harg3 arg4 harg4 arg5 harg5 arg6 harg6 arg7 harg7 arg14 x0 x1 x2 x3 x4 x5) = R41 (Sc x0 x1 x2 x3 x4) x5 := by
  unfold kernelRun0_A.sl.r_41 R41; rw [r_30_eq, r_31_eq, r_32_eq]; try rfl
theorem r_42_eq : (kernelRun0_A.sl.r_42 c arg2 harg2 arg3 harg3 arg4 harg4 arg5 harg5 arg6 harg6 arg7 harg7 arg14 x0 x1 x2 x3 x4 x5) = R42 (Sc x0 x1 x2 x3 x4) x5 := by
  unfold kernelRun0_A.sl.r_42 R42; rw [r_31_eq, r_33_eq]; try rfl
theorem r_43_eq : (kernelRun0_A.sl.r_43 c arg2 harg2 arg3 harg3 arg4 harg4 arg5 harg5 arg6 harg6 arg7 harg7 arg14 x0 x1 x2 x3 x4 x5) = R43 (Sc x0 x1 x2 x3 x4) x5 := by
  unfold kernelRun0_A.sl.r_43 R43; rw [r_35_eq, r_41_eq, r_42_eq]; try rfl
theorem r_44_eq : (kernelRun0_A.sl.r_44 c arg2 harg2 arg3 harg3 arg4 harg4 arg5 harg5 arg6 harg6 arg7 harg7 arg14 x0 x1 x2 x3 x4 x5) = R44 (Sc x0 x1 x2 x3 x4) x5 := by
  unfold kernelRun0_A.sl.r_44 R44; rw [r_30_eq, r_31_eq, r_32_eq, r_33_eq, r_36_eq]; try rfl
theorem r_45_eq : (kernelRun0_A.sl.r_45 c arg2 harg2 arg3 harg3 arg4 harg4 arg5 harg5 arg6 harg6 arg7 harg7 arg14 x0 x1 x2 x3 x4 x5) = R45 (Sc x0 x1 x2 x3 x4) x5 := by
  unfold kernelRun0_A.sl.r_45 R45; rw [r_30_eq, r_31_eq, r_32_eq, r_33_eq]; try rfl
theorem r_46_eq : (kernelRun0_A.sl.r_46 c arg2 harg2 arg3 harg3 arg4 harg4 arg5 harg5 arg6 harg6 arg7 harg7 arg14 x0 x1 x2 x3 x4 x5) = R46 (Sc x0 x1 x2 x3 x4) x5 := by
  unfold kernelRun0_A.sl.r_46 R46; rw [r_39_eq, r_40_eq, r_43_eq, r_44_eq, r_45_eq]; try rfl
theorem r_47_eq : (kernelRun0_A.sl.r_47 c arg2 harg2 arg3 harg3 arg4 harg4 arg5 harg5 arg6 harg6 arg7 harg7 arg14 x0 x1 x2 x3 x4 x5) = R47 (Sc x0 x1 x2 x3 x4) x5 := by
  unfold kernelRun0_A.sl.r_47 R47; rw [r_39_eq, r_40_eq, r_43_eq, r_44_eq, r_45_eq]; try rfl
theorem r_48_eq : (kernelRun0_A.sl.r_48 c arg2 harg2 arg3 harg3 arg4 harg4 arg5 harg5 arg6 harg6 arg7 harg7 arg14 x0 x1 x2 x3 x4 x5) = R48 (Sc x0 x1 x2 x3 x4) x5 := by
  unfold kernelRun0_A.sl.r_48 R48; rw [r_39_eq, r_40_eq, r_43_eq, r_44_eq, r_45_eq]; try rfl
theorem r_49_eq : (kernelRun0_A.sl.r_49 c arg2 harg2 arg3 harg3 arg4 harg4 arg5 harg5 arg6 harg6 arg7 harg7 arg14 x0 x1 x2 x3 x4 x5) = R49 (Sc x0 x1 x2 x3 x4) x5 := by
  unfold kernelRun0_A.sl.r_49 R49; rw [r_39_eq, r_40_eq, r_43_eq, r_44_eq, r_45_eq]; try rfl
theorem r_50_eq : (kernelRun0_A.sl.r_50 c arg2 harg2 arg3 harg3 arg4 harg4 arg5 harg5 arg6 harg6 arg7 harg7 arg14 x0 x1 x2 x3 x4 x5) = R50 (Sc x0 x1 x2 x3 x4) x5 := by
  unfold kernelRun0_A.sl.r_50 R50; rw [r_26_eq, r_39_eq, r_40_eq, r_43_eq, r_44_eq, r_45_eq]; try rfl

theorem weights_piece (W : FVec Ideal S1x512 .f32) (e : ℕ) (he : e < 16) (inb) (S B : Vec Ideal S16x512 .f32) (hW : rowsW S B ⟨e, he⟩ = W)
    (z : (Rect.unit (s := S16x512) ![e, 0] S1x512.size inb).shape.Idx) :
    W z = Wts S B ((Rect.unit (s := S16x512) ![e, 0] S1x512.size inb).emb z) := by
  subst hW
  have hz : (z : S1x512.Idx) = ix2 0 (⟨(z 1).val, (z 1).isLt⟩ : Fin 512) := by
    refine funext fun a => Fin.ext ?_
    match a with
    | ⟨0, _⟩ => exact Nat.lt_one_iff.mp (z 0).isLt
    | ⟨1, _⟩ => rfl
  have h0 : (z 0).val = 0 := Nat.lt_one_iff.mp (z 0).isLt
  refine (congrArg (rowsW S B ⟨e, he⟩) hz).trans ?_
  exact congrArg₂ (fun k q => rowsW S B k (ix2 0 q)) (Fin.ext (by show e = e + 1 * (z 0).val; omega) : (⟨e, he⟩ : Fin 16) = ⟨e + 1 * (z 0).val, by omega⟩)
    (Fin.ext (by show (z 1).val = 0 + 1 * (z 1).val; omega) : (⟨(z 1).val, (z 1).isLt⟩ : Fin 512) = ⟨0 + 1 * (z 1).val, by have : (z 1).val < 512 := (z 1).isLt; omega⟩)

theorem weights_eq (y : S16x512.Idx) : View.canon (kernelRun0_A.sl.HS2_16 c arg2 harg2 arg3 harg3 arg4 harg4 arg5 harg5 arg6 harg6 arg7 harg7 arg14 x0 x1 x2 x3 x4 x5) y = Wts (Sc x0 x1 x2 x3 x4) x5 y := by
  refine View.canon_apply_of_pieces (Val := Elt Ideal) (e := .f32) (Wts (Sc x0 x1 x2 x3 x4) x5) _ ?_ y (View.cover_of_tiledL (s := S16x512) _ ![1, 512] (by sl_kernel_rfl) y)
  intro p hp
  unfold kernelRun0_A.sl.HS2_16 at hp
  simp only [List.mem_cons, List.not_mem_nil, or_false] at hp
  rcases hp with rfl | rfl | rfl | rfl | rfl | rfl | rfl | rfl | rfl | rfl | rfl | rfl | rfl | rfl | rfl | rfl
  · exact weights_piece _ 15 (by decide) inb_S16x512_S1x512_15_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 14 (by decide) inb_S16x512_S1x512_14_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 13 (by decide) inb_S16x512_S1x512_13_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 12 (by decide) inb_S16x512_S1x512_12_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 11 (by decide) inb_S16x512_S1x512_11_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 10 (by decide) inb_S16x512_S1x512_10_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 9 (by decide) inb_S16x512_S1x512_9_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 8 (by decide) inb_S16x512_S1x512_8_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 7 (by decide) inb_S16x512_S1x512_7_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 6 (by decide) inb_S16x512_S1x512_6_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 5 (by decide) inb_S16x512_S1x512_5_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 4 (by decide) inb_S16x512_S1x512_4_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 3 (by decide) inb_S16x512_S1x512_3_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 2 (by decide) inb_S16x512_S1x512_2_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 1 (by decide) inb_S16x512_S1x512_1_0 _ _ (by simp only [r_25_eq, r_26_eq, r_27_eq, r_28_eq, r_39_eq, r_40_eq, r_43_eq, r_44_eq, r_45_eq, r_46_eq, r_47_eq, r_48_eq, r_49_eq, r_50_eq]; rfl)
  · exact weights_piece _ 0 (by decide) inb_S16x512_S1x512_0_0 _ _ (by simp only [r_25_eq, r_26_eq, r_27_eq, r_28_eq, r_39_eq, r_40_eq, r_43_eq, r_44_eq, r_45_eq, r_46_eq, r_47_eq, r_48_eq, r_49_eq, r_50_eq]; rfl)
theorem v451_eq : (kernelRun0_A.sl.v451 c arg2 harg2 arg3 harg3 arg4 harg4 arg5 harg5 arg6 harg6 arg7 harg7 arg14 arg15 x0 x1 x2 x3 x4 x5) = four (Wts (Sc x0 x1 x2 x3 x4) x5) 0 := by
  unfold kernelRun0_A.sl.v451
  rw [View.readCov_eq_canon']
  refine Eq.trans (funext fun z => weights_eq c arg2 harg2 arg3 harg3 arg4 harg4 arg5 harg5 arg6 harg6 arg7 harg7 arg14 x0 x1 x2 x3 x4 x5 _) ?_
  exact ld_four (Wts (Sc x0 x1 x2 x3 x4) x5) 0 0 rfl _
theorem v470_eq : (kernelRun0_A.sl.v470 c arg2 harg2 arg3 harg3 arg4 harg4 arg5 harg5 arg6 harg6 arg7 harg7 arg14 arg15 x0 x1 x2 x3 x4 x5) = four (Wts (Sc x0 x1 x2 x3 x4) x5) 1 := by
  unfold kernelRun0_A.sl.v470
  rw [View.readCov_eq_canon']
  refine Eq.trans (funext fun z => weights_eq c arg2 harg2 arg3 harg3 arg4 harg4 arg5 harg5 arg6 harg6 arg7 harg7 arg14 x0 x1 x2 x3 x4 x5 _) ?_
  exact ld_four (Wts (Sc x0 x1 x2 x3 x4) x5) 4 1 rfl _
theorem v489_eq : (kernelRun0_A.sl.v489 c arg2 harg2 arg3 harg3 arg4 harg4 arg5 harg5 arg6 harg6 arg7 harg7 arg14 arg15 x0 x1 x2 x3 x4 x5) = four (Wts (Sc x0 x1 x2 x3 x4) x5) 2 := by
  unfold kernelRun0_A.sl.v489
  rw [View.readCov_eq_canon']
  refine Eq.trans (funext fun z => weights_eq c arg2 harg2 arg3 harg3 arg4 harg4 arg5 harg5 arg6 harg6 arg7 harg7 arg14 x0 x1 x2 x3 x4 x5 _) ?_
  exact ld_four (Wts (Sc x0 x1 x2 x3 x4) x5) 8 2 rfl _
theorem v508_eq : (kernelRun0_A.sl.v508 c arg2 harg2 arg3 harg3 arg4 harg4 arg5 harg5 arg6 harg6 arg7 harg7 arg14 arg15 x0 x1 x2 x3 x4 x5) = four (Wts (Sc x0 x1 x2 x3 x4) x5) 3 := by
  unfold kernelRun0_A.sl.v508
  rw [View.readCov_eq_canon']
  refine Eq.trans (funext fun z => weights_eq c arg2 harg2 arg3 harg3 arg4 harg4 arg5 harg5 arg6 harg6 arg7 harg7 arg14 x0 x1 x2 x3 x4 x5 _) ?_
  exact ld_four (Wts (Sc x0 x1 x2 x3 x4) x5) 12 3 rfl _
theorem r_51_eq : (kernelRun0_A.sl.r_51 c arg2 harg2 arg3 harg3 arg4 harg4 arg5 harg5 arg6 harg6 arg7 harg7 arg8 harg8 arg9 harg9 arg14 arg15 x0 x1 x2 x3 x4 x5 x6 x7) = k0_pay82 (Un x0 x1 x2) (quarter (n := 1024) x6 1) (quarter (n := 1024) x7 1) (four (Wts (Sc x0 x1 x2 x3 x4) x5) 1) := by
  unfold kernelRun0_A.sl.r_51; rw [r_2_eq, v470_eq, load_part, load_part, ld_quarter x6 1024 1 rfl, ld_quarter x7 1024 1 rfl]
theorem r_52_eq : (kernelRun0_A.sl.r_52 c arg2 harg2 arg3 harg3 arg4 harg4 arg5 harg5 arg6 harg6 arg7 harg7 arg8 harg8 arg9 harg9 arg14 arg15 x0 x1 x2 x3 x4 x5 x6 x7) = k0_pay85 (Un x0 x1 x2) (quarter (n := 1024) x6 3) (quarter (n := 1024) x7 3) (four (Wts (Sc x0 x1 x2 x3 x4) x5) 3) := by
  unfold kernelRun0_A.sl.r_52; rw [r_2_eq, v508_eq, load_part, load_part, ld_quarter x6 3072 3 rfl, ld_quarter x7 3072 3 rfl]

theorem mid_piece (W : FVec Ideal S1024x512 .bf16) (o : ℕ) (j : Fin 4) (ho : o = 1024 * j.val) (inb)
    (hW : W = (![Md0 x0 x1 x2 x3 x4 x5 x6 x7, Md1 x0 x1 x2 x3 x4 x5 x6 x7, Md2 x0 x1 x2 x3 x4 x5 x6 x7, Md3 x0 x1 x2 x3 x4 x5 x6 x7] : Fin 4 → FVec Ideal S1024x512 .bf16) j)
    (z : (Rect.unit (s := S4096x512) ![o, 0] S1024x512.size inb).shape.Idx) :
    W z = Md x0 x1 x2 x3 x4 x5 x6 x7 ((Rect.unit (s := S4096x512) ![o, 0] S1024x512.size inb).emb z) := by
  subst hW; subst ho
  have hz : (z : S1024x512.Idx) = ix2 (⟨(z 0).val, (z 0).isLt⟩ : Fin 1024) (⟨(z 1).val, (z 1).isLt⟩ : Fin 512) := by
    refine funext fun a => Fin.ext ?_
    match a with
    | ⟨0, _⟩ => rfl
    | ⟨1, _⟩ => rfl
  have h0 : (z 0).val < 1024 := (z 0).isLt
  refine (congrArg _ hz).trans ?_
  exact congr (congrArg (![Md0 x0 x1 x2 x3 x4 x5 x6 x7, Md1 x0 x1 x2 x3 x4 x5 x6 x7, Md2 x0 x1 x2 x3 x4 x5 x6 x7, Md3 x0 x1 x2 x3 x4 x5 x6 x7] : Fin 4 → FVec Ideal S1024x512 .bf16)
      (Fin.ext (by show j.val = (1024 * j.val + 1 * (z 0).val) / 1024; omega) : j = ⟨(1024 * j.val + 1 * (z 0).val) / 1024, by omega⟩))
    (congrArg₂ ix2 (Fin.ext (by show (z 0).val = (1024 * j.val + 1 * (z 0).val) % 1024; omega) : (⟨(z 0).val, (z 0).isLt⟩ : Fin 1024) = ⟨(1024 * j.val + 1 * (z 0).val) % 1024, by omega⟩)
      (Fin.ext (by show (z 1).val = 0 + 1 * (z 1).val; omega) : (⟨(z 1).val, (z 1).isLt⟩ : Fin 512) = ⟨0 + 1 * (z 1).val, by have : (z 1).val < 512 := (z 1).isLt; omega⟩))

theorem mid_eq (y : S4096x512.Idx) : View.canon (kernelRun0_A.sl.HS0_4 c arg2 harg2 arg3 harg3 arg4 harg4 arg5 harg5 arg6 harg6 arg7 harg7 arg8 harg8 arg9 harg9 arg14 arg15 x0 x1 x2 x3 x4 x5 x6 x7) y = Md x0 x1 x2 x3 x4 x5 x6 x7 y := by
  refine View.canon_apply_of_pieces (Val := Elt Ideal) (e := .bf16) (Md x0 x1 x2 x3 x4 x5 x6 x7) _ ?_ y (View.cover_of_tiledL (s := S4096x512) _ ![1024, 512] (by sl_kernel_rfl) y)
  intro p hp
  unfold kernelRun0_A.sl.HS0_4 at hp
  simp only [List.mem_cons, List.not_mem_nil, or_false] at hp
  rcases hp with rfl | rfl | rfl | rfl
  · exact mid_piece x0 x1 x2 x3 x4 x5 x6 x7 _ 3072 3 rfl inb_S4096x512_S1024x512_3072_0 (by rw [r_52_eq]; rfl)
  · exact mid_piece x0 x1 x2 x3 x4 x5 x6 x7 _ 2048 2 rfl inb_S4096x512_S1024x512_2048_0 (by rw [r_2_eq, v489_eq, load_part, load_part, ld_quarter x6 2048 2 rfl, ld_quarter x7 2048 2 rfl]; rfl)
  · exact mid_piece x0 x1 x2 x3 x4 x5 x6 x7 _ 1024 1 rfl inb_S4096x512_S1024x512_1024_0 (by rw [r_51_eq]; rfl)
  · exact mid_piece x0 x1 x2 x3 x4 x5 x6 x7 _ 0 0 rfl inb_S4096x512_S1024x512_0_0 (by rw [r_2_eq, v451_eq, load_part, load_part, ld_quarter x6 0 0 rfl, ld_quarter x7 0 0 rfl]; rfl)

theorem v519_eq : (kernelRun0_A.sl.v519 c arg2 harg2 arg3 harg3 arg4 harg4 arg5 harg5 arg6 harg6 arg7 harg7 arg8 harg8 arg9 harg9 arg13 arg14 arg15 x0 x1 x2 x3 x4 x5 x6 x7) = Md x0 x1 x2 x3 x4 x5 x6 x7 := by
  unfold kernelRun0_A.sl.v519
  rw [View.readCov_eq_canon']
  refine Eq.trans (funext fun z => mid_eq c arg2 harg2 arg3 harg3 arg4 harg4 arg5 harg5 arg6 harg6 arg7 harg7 arg8 harg8 arg9 harg9 arg14 arg15 x0 x1 x2 x3 x4 x5 x6 x7 _) ?_
  exact View.ld_unit_zero (by decide) _ (Md x0 x1 x2 x3 x4 x5 x6 x7)

theorem out_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9
    = Ot x0 x1 x2 x3 x4 x5 x6 x7 x8 x9 := by
  unfold out0_A_10 kernelRun0_A
  dsimp only
  rw [View.read_writes_full, r_eq, r_1_eq, v519_eq, load_whole, load_whole]
  rfl
end Run

theorem outsAt_eq (m : (ℓ : Loc nD τ sig) → Buf (Elt Ideal) ℓ) (c : Dev nD) (t : Fin cfg0.N) :
    outsAt0 m c t = Ot (iblk m c 0 t) (iblk m c 1 t) (iblk m c 2 t) (iblk m c 3 t) (iblk m c 4 t) (iblk m c 5 t) (iblk m c 6 t) (iblk m c 7 t) (iblk m c 8 t) (iblk m c 9 t) := by
  unfold outsAt0
  exact out_eq ..

end Cert.ExpertsIdeal.Moe

end
-- ==== Proof.MoeSpec.lean ====
/-
  One token through the experts, over the extended reals: the shifted norm, the router's scores, the experts weighted by
  whatever weights are given, and the gated sum normed once more.
-/
module

public import proofs.«01_k».proof.Proof.Soft
public import proofs.«01_k».proof.Proof.Route
public import Idealize.ShloMosaic.Lib.Pointwise

@[expose] public section

noncomputable section

namespace Cert.Moe

open Idealize.ShloMosaic

/-- The number of entries of a row, and the small number added to their mean square. -/
def count : EReal := Ideal.ofBits .f32 1149239296#32
def small : EReal := Ideal.ofBits .f32 897988541#32

theorem count_eq : count = ((1024 : ℝ) : EReal) := by
  unfold count; simp [Ideal.ofBits, Ideal.ieee, -EReal.coe_mul]; norm_num

theorem small_eq : ∃ r : ℝ, 0 < r ∧ small = (r : EReal) := by
  unfold small; simp [Ideal.ofBits, Ideal.ieee, -EReal.coe_mul]

/-- A row over the root of its mean square. -/
def norm (x : Fin 1024 → EReal) (d : Fin 1024) : EReal :=
  x d * Ideal.rsqrt (Ideal.div (∑ i, x i * x i) count + small)

/-- The row with a gain, a scale and a shift. -/
def shifted (x g sc sh : Fin 1024 → EReal) (d : Fin 1024) : EReal := norm x d * g d * (1 + sc d) + sh d

def logit (u : Fin 1024 → EReal) (w : Fin 1024 → Fin 16 → EReal) (e : Fin 16) : EReal := ∑ d, u d * w d e

def score (l : Fin 16 → EReal) (e : Fin 16) : EReal :=
  Ideal.div (Ideal.exp (l e - Finset.univ.fold max ⊥ l)) (∑ i, Ideal.exp (l i - Finset.univ.fold max ⊥ l))

/-- One expert's activation. -/
def hidden (u : Fin 1024 → EReal) (wg wu : Fin 1024 → Fin 256 → EReal) (f : Fin 256) : EReal :=
  ((∑ d, u d * wg d f) * Ideal.logistic (∑ d, u d * wg d f)) * ∑ d, u d * wu d f

/-- The experts' outputs, weighted by `w`. -/
def mixed (u : Fin 1024 → EReal) (wg wu : Fin 16 → Fin 1024 → Fin 256 → EReal) (wd : Fin 16 → Fin 256 → Fin 1024 → EReal)
    (w : Fin 16 → EReal) (d : Fin 1024) : EReal :=
  ∑ e, ∑ f, hidden u (wg e) (wu e) f * w e * wd e f d

/-- The gated sum, normed, with the last gain. -/
def last (x g y fg : Fin 1024 → EReal) (d : Fin 1024) : EReal := norm (fun i => x i + g i * y i) d * fg d

theorem sq_nonneg (x : EReal) : 0 ≤ x * x := by
  rcases le_total 0 x with h | h
  · exact EReal.mul_nonneg h h
  · have : 0 ≤ -x := by simpa using EReal.neg_le_neg_iff.2 h
    have := EReal.mul_nonneg this this
    simpa using this

/-- A row over the root of its mean square is real, whatever the row. -/
theorem norm_real (x : Fin 1024 → EReal) (d : Fin 1024) : ∃ r : ℝ, norm x d = (r : EReal) := by
  obtain ⟨ε, hε, hs⟩ := small_eq
  unfold norm
  rw [count_eq, Ideal.div_coe (by norm_num), hs]
  by_cases h : ∃ y : Fin 1024 → ℝ, ∀ i, x i = (y i : EReal)
  · obtain ⟨y, hy⟩ := h
    have e : (∑ i, x i * x i) = ((∑ i, y i * y i : ℝ) : EReal) := by
      rw [← Cert.Soft.sum_coe]; exact Finset.sum_congr rfl fun i _ => by rw [hy, EReal.coe_mul]
    have pos : 0 < (∑ i, y i * y i) * (1 / 1024) + ε := by
      have : 0 ≤ ∑ i, y i * y i := Finset.sum_nonneg fun i _ => mul_self_nonneg _
      positivity
    rw [e, hy, ← EReal.coe_mul, ← EReal.coe_add, Ideal.rsqrt_coe, if_neg (not_lt.2 pos.le), if_neg pos.ne', ← EReal.coe_mul]
    exact ⟨_, rfl⟩
  · have : ∃ i, x i = ⊤ ∨ x i = ⊥ := by
      by_contra hn
      push Not at hn
      exact h ⟨fun i => (x i).toReal, fun i => (EReal.coe_toReal (hn i).1 (hn i).2).symm⟩
    obtain ⟨i, hi⟩ := this
    have top : (∑ i, x i * x i) = ⊤ := by
      refine top_le_iff.1 (le_trans ?_ (Finset.single_le_sum (fun j _ => sq_nonneg (x j)) (Finset.mem_univ i)))
      rcases hi with hi | hi <;> rw [hi] <;> simp
    rw [top, EReal.top_mul_coe_of_pos (by norm_num), EReal.top_add_coe]
    exact ⟨0, by rw [show Ideal.rsqrt ⊤ = 0 from rfl, mul_zero]; rfl⟩

theorem shifted_real (x g sc sh : Fin 1024 → EReal) (hg : ∀ d, ∃ r : ℝ, g d = r) (hc : ∀ d, ∃ r : ℝ, sc d = r)
    (hs : ∀ d, ∃ r : ℝ, sh d = r) (d : Fin 1024) : ∃ r : ℝ, shifted x g sc sh d = (r : EReal) := by
  obtain ⟨a, ha⟩ := norm_real x d
  obtain ⟨b, hb⟩ := hg d
  obtain ⟨c, hc⟩ := hc d
  obtain ⟨s, hs⟩ := hs d
  exact ⟨a * b * (1 + c) + s, by unfold shifted; rw [ha, hb, hc, hs]; norm_cast⟩

theorem logit_real (u : Fin 1024 → EReal) (w : Fin 1024 → Fin 16 → EReal) (hu : ∀ d, ∃ r : ℝ, u d = r)
    (hw : ∀ d e, ∃ r : ℝ, w d e = r) (e : Fin 16) : ∃ r : ℝ, logit u w e = (r : EReal) := by
  choose a ha using hu
  choose b hb using hw
  refine ⟨∑ d, a d * b d e, ?_⟩
  unfold logit
  rw [← Cert.Soft.sum_coe]
  exact Finset.sum_congr rfl fun d _ => by rw [ha, hb, EReal.coe_mul]

/-- The scores are positive reals. -/
theorem score_real (l : Fin 16 → EReal) (hl : ∀ e, ∃ r : ℝ, l e = r) : ∃ s : Fin 16 → ℝ, (∀ e, score l e = (s e : EReal)) ∧ ∀ e, 0 < s e := by
  obtain ⟨M, hM⟩ := Cert.Soft.fold_max_real Finset.univ ⟨0, Finset.mem_univ _⟩ l (fun i _ => hl i)
  choose t ht using hl
  have pos : 0 < ∑ i, Real.exp (t i - M) := Finset.sum_pos (fun i _ => Real.exp_pos _) ⟨0, Finset.mem_univ _⟩
  refine ⟨fun e => Real.exp (t e - M) * (1 / ∑ i, Real.exp (t i - M)), fun e => ?_, fun e => by positivity⟩
  have ee : ∀ i, Ideal.exp (l i - (M : EReal)) = ((Real.exp (t i - M) : ℝ) : EReal) := fun i => by
    rw [ht, ← EReal.coe_sub]; rfl
  unfold score
  rw [hM]
  simp only [ee]
  rw [Cert.Soft.sum_coe, Ideal.div_coe pos.ne', ← EReal.coe_mul]

/-! ## The call's arrays -/

section Arrays
variable (h : Vec Ideal ⟨3, ![4, 4096, 1024]⟩ .f32) (md : Vec Ideal ⟨3, ![4, 1, 6144]⟩ .f32) (g : Vec Ideal ⟨1, ![1024]⟩ .f32)
  (wr : Vec Ideal ⟨2, ![1024, 16]⟩ .f32) (rb : Vec Ideal ⟨1, ![16]⟩ .f32) (wg wu : Vec Ideal ⟨3, ![16, 1024, 256]⟩ .f32)
  (wd : Vec Ideal ⟨3, ![16, 256, 1024]⟩ .f32) (fg : Vec Ideal ⟨1, ![1024]⟩ .f32)

/-- Token `r`'s batch and place. -/
def batch (r : Fin 16384) : Fin 4 := ⟨r.val / 4096, by omega⟩
def place (r : Fin 16384) : Fin 4096 := ⟨r.val % 4096, by omega⟩

/-- Token `r`'s row, -/
def row (r : Fin 16384) (d : Fin 1024) : EReal := h (ix3 (batch r) (place r) d)
/-- one of the six parts of its batch's modulation, -/
def part (k : Fin 6) (r : Fin 16384) (d : Fin 1024) : EReal := md (ix3 (batch r) (0 : Fin 1) (⟨1024 * k.val + d.val, by omega⟩ : Fin 6144))
/-- its shifted norm, -/
def inner (r : Fin 16384) (d : Fin 1024) : EReal := shifted (row h r) (fun d => g (ix1 d)) (part md 4 r) (part md 3 r) d
/-- its logits, -/
def logits (r : Fin 16384) (e : Fin 16) : EReal := logit (inner h md g r) (fun d e => wr (ix2 d e)) e
/-- its scores, and those with the bias, by group. -/
def scores (r : Fin 16384) (e : Fin 16) : EReal := score (logits h md g wr r) e
def biased (r : Fin 16384) (k i : Fin 4) : EReal := scores h md g wr r (Cert.Route.at16 k i) + rb (ix1 (Cert.Route.at16 k i))
/-- The token's result, with the weights `w`. -/
def token (r : Fin 16384) (w : Fin 16 → EReal) (d : Fin 1024) : EReal :=
  last (row h r) (part md 5 r)
    (mixed (inner h md g r) (fun e d f => wg (ix3 e d f)) (fun e d f => wu (ix3 e d f)) (fun e f d => wd (ix3 e f d)) w)
    (fun d => fg (ix1 d)) d

/-- `w` are the weights of each token's two experts: the two of the best group that stand highest in it, by their scores. -/
def Chosen (w : Fin 16384 → Fin 16 → EReal) : Prop :=
  ∀ r, ∃ (s : Fin 16 → ℝ) (k a b : Fin 4), (∀ e, scores h md g wr r e = (s e : EReal)) ∧ (∀ e, 0 < s e)
    ∧ Cert.Route.Picks (biased h md g wr rb r) k a b ∧ ∀ e, w r e = ((Cert.Route.weight s k a b e : ℝ) : EReal)

/-- What is asked of the arguments: the router and its input's scale and shift are real. -/
structure Given : Prop where
  md : ∀ b (d : Fin 6144), 3072 ≤ d.val → d.val < 5120 → ∃ r : ℝ, md (ix3 b (0 : Fin 1) d) = (r : EReal)
  g : ∀ d, ∃ r : ℝ, g (ix1 d) = (r : EReal)
  wr : ∀ d e, ∃ r : ℝ, wr (ix2 d e) = (r : EReal)

variable {md g wr} (H : Given md g wr)
include H

theorem inner_real (r : Fin 16384) (d : Fin 1024) : ∃ a : ℝ, inner h md g r d = (a : EReal) :=
  shifted_real _ _ _ _ (fun d => H.g d)
    (fun d => H.md _ _ (by show 3072 ≤ 1024 * 4 + d.val; omega) (by show 1024 * 4 + d.val < 5120; omega))
    (fun d => H.md _ _ (by show 3072 ≤ 1024 * 3 + d.val; omega) (by show 1024 * 3 + d.val < 5120; omega)) d

theorem scores_real (r : Fin 16384) : ∃ s : Fin 16 → ℝ, (∀ e, scores h md g wr r e = (s e : EReal)) ∧ ∀ e, 0 < s e :=
  score_real _ fun e => logit_real _ _ (inner_real h H r) (fun d e => H.wr d e) e

end Arrays

end Cert.Moe

end
-- ==== Proof.Tok.lean ====
/-
  The experts' kernel's body at an element: one token's router, its experts and its second norm.
-/
module

public import proofs.«01_k».proof.Proof.Whole
public import proofs.«01_k».proof.Proof.MoeSpec

@[expose] public section

noncomputable section

namespace Cert.ExpertsIdeal.Moe

open Cert.ExpertsIdeal Cert.ExpertsIdeal.Gen Idealize.ShloMosaic Cert.Route

theorem ob_ninf : Ideal.ofBits .f32 4286578688#32 = ⊥ := by simp [Ideal.ofBits, Ideal.ieee]

/-- The token's normed row, shifted by the block's modulation. -/
theorem Un_apply (x0 : Vec Ideal S512x1024 .f32) (x1 : Vec Ideal S1x1x6144 .f32) (x2 : Vec Ideal S1x1024 .f32) (n : Fin 512) (d : Fin 1024) :
    Un x0 x1 x2 (ix2 n d) = Cert.Moe.shifted (fun i => x0 (ix2 n i)) (fun i => x2 (ix2 (0 : Fin 1) i))
      (fun i => x1 (ix3 (0 : Fin 1) (0 : Fin 1) (⟨4096 + i.val, by omega⟩ : Fin 6144)))
      (fun i => x1 (ix3 (0 : Fin 1) (0 : Fin 1) (⟨3072 + i.val, by omega⟩ : Fin 6144))) d := by
  unfold Un
  pointwise [k0_pay6, k0_pay5, k0_pay4, k0_pay3]
  rfl

theorem pay7_apply (x0 : Vec Ideal S512x1024 .f32) (x1 : Vec Ideal S1x1x6144 .f32) (x2 : Vec Ideal S1x1024 .f32) (x3 : Vec Ideal S16x1024 .bf16) (e : Fin 16) (n : Fin 512) :
    k0_pay7 x0 x1 x2 x3 x3 (ix2 e n) = ∑ x, x3 (ix2 e x) * Un x0 x1 x2 (ix2 n x)
      + ∑ x, x3 (ix2 e x) * (Un x0 x1 x2 (ix2 n x) - Un x0 x1 x2 (ix2 n x)) := by
  unfold k0_pay7
  have h : k0_pay6 x0 x1 x2 = k0_pay5 x0 x1 x2 := rfl
  have h' : Un x0 x1 x2 = k0_pay5 x0 x1 x2 := rfl
  rw [h, h']
  generalize k0_pay5 x0 x1 x2 = u
  pointwise

theorem pay9_apply (u : FVec Ideal S512x1024 .bf16) (a : FVec Ideal S16x512 .f32) (w : Vec Ideal S16x1024 .bf16) (e : Fin 16) (n : Fin 512) :
    k0_pay9 u a (k0_pay8 w) (ix2 e n) = a (ix2 e n) + ∑ x, w (ix2 e x) * u (ix2 n x) := by
  pointwise [k0_pay9, k0_pay8]

/-- The two-part router's logits are the plain ones, where the router and the row are real. -/
theorem Lg_apply (x0 : Vec Ideal S512x1024 .f32) (x1 : Vec Ideal S1x1x6144 .f32) (x2 : Vec Ideal S1x1024 .f32) (x3 x4 : Vec Ideal S16x1024 .bf16)
    (e : Fin 16) (n : Fin 512) (hu : ∀ d, ∃ r : ℝ, Un x0 x1 x2 (ix2 n d) = (r : EReal)) (hw : ∀ d, ∃ r : ℝ, x3 (ix2 e d) = (r : EReal))
    (hl : ∀ d, x4 (ix2 e d) = x3 (ix2 e d) - x3 (ix2 e d)) :
    Lg x0 x1 x2 x3 x4 (ix2 e n) = ∑ d, Un x0 x1 x2 (ix2 n d) * x3 (ix2 e d) := by
  have z : ∀ y : EReal, (∃ r : ℝ, y = r) → y - y = 0 := by
    rintro _ ⟨r, rfl⟩; rw [← EReal.coe_sub, sub_self]; rfl
  unfold Lg
  rw [pay9_apply, pay7_apply]
  simp only [hl, fun d => z _ (hu d), fun d => z _ (hw d), mul_zero, zero_mul, Finset.sum_const_zero, add_zero]
  exact Finset.sum_congr rfl fun d _ => mul_comm _ _

theorem pay10_apply (l : FVec Ideal S16x512 .f32) (e : Fin 16) (n : Fin 512) :
    (k0_pay10 l : FVec Ideal S16x512 .f32) (ix2 e n) = Cert.Moe.score (fun i => l (ix2 i n)) e := by
  pointwise [k0_pay10]
  rw [ob_ninf]
  rfl

/-- One group of experts' activations, weighted. -/
def act (u : FVec Ideal S512x1024 .bf16) (a b : Vec Ideal S1024x1024 .bf16) (w : Vec Ideal S4x512 .f32) (k : Fin 1024) (n : Fin 512) : EReal :=
  ((∑ x, a (ix2 k x) * u (ix2 n x)) * Ideal.logistic (∑ x, a (ix2 k x) * u (ix2 n x)) * ∑ x, b (ix2 k x) * u (ix2 n x))
    * w (ix2 (⟨k.val / 256, by omega⟩ : Fin 4) n)

section Act
variable (u : FVec Ideal S512x1024 .bf16) (a b : Vec Ideal S1024x1024 .bf16) (w : Vec Ideal S4x512 .f32) (k : Fin 1024) (n : Fin 512)
theorem pay81_apply : k0_pay81 u a b w (ix2 k n) = act u a b w k n := by
  pointwise [k0_pay81]; rfl
theorem pay83_apply : k0_pay83 (k0_pay82 u a b w) (ix2 k n) = act u a b w k n := by
  pointwise [k0_pay83, k0_pay82]; rfl
theorem pay84_apply : k0_pay84 u a b w (ix2 k n) = act u a b w k n := by
  pointwise [k0_pay84]; rfl
theorem pay1_apply : k0_pay1 (k0_pay85 u a b w) (ix2 k n) = act u a b w k n := by
  pointwise [k0_pay1, k0_pay85]; rfl
end Act

theorem pay2_apply (h : FVec Ideal S512x1024 .f32) (md : FVec Ideal S1x6144 .f32) (w : Vec Ideal S1024x4096 .bf16) (a : Vec Ideal S4096x512 .bf16) (fg : Vec Ideal S1x1024 .f32) (n : Fin 512) (d : Fin 1024) :
    k0_pay2 h md w a fg (ix2 n d) = Cert.Moe.last (fun i => h (ix2 n i)) (fun i => md (ix2 (0 : Fin 1) (⟨5120 + i.val, by omega⟩ : Fin 6144)))
      (fun i => ∑ x, w (ix2 i x) * a (ix2 x n)) (fun i => fg (ix2 (0 : Fin 1) i)) d := by
  pointwise [k0_pay2]
  rfl

/-- The row of one expert's one activation among all of them. -/
def at4096 (e : Fin 16) (f : Fin 256) : Fin 4096 := ⟨256 * e.val + f.val, by omega⟩

section Pure
variable (x0 : Vec Ideal S512x1024 .f32) (x1 : Vec Ideal S1x1x6144 .f32) (x2 : Vec Ideal S1x1024 .f32) (x3 x4 : Vec Ideal S16x1024 .bf16) (x5 : Vec Ideal S16x512 .f32) (x6 x7 : Vec Ideal S4096x1024 .bf16) (x8 : Vec Ideal S1024x4096 .bf16) (x9 : Vec Ideal S1x1024 .f32)

theorem Md_apply (e : Fin 16) (f : Fin 256) (n : Fin 512) :
    Md x0 x1 x2 x3 x4 x5 x6 x7 (ix2 (at4096 e f) n)
      = Cert.Moe.hidden (fun d => Un x0 x1 x2 (ix2 n d)) (fun d f => x6 (ix2 (at4096 e f) d)) (fun d f => x7 (ix2 (at4096 e f) d)) f
        * Wts (Sc x0 x1 x2 x3 x4) x5 (ix2 e n) := by
  have key : ∀ (j : Fin 4) (hj : j.val = e.val / 4), act (Un x0 x1 x2) (quarter (n := 1024) x6 j) (quarter (n := 1024) x7 j) (four (Wts (Sc x0 x1 x2 x3 x4) x5) j)
      ⟨(at4096 e f).val % 1024, by omega⟩ n
      = Cert.Moe.hidden (fun d => Un x0 x1 x2 (ix2 n d)) (fun d f => x6 (ix2 (at4096 e f) d)) (fun d f => x7 (ix2 (at4096 e f) d)) f
        * Wts (Sc x0 x1 x2 x3 x4) x5 (ix2 e n) := by
    intro j hj
    have q : ∀ (X : Vec Ideal S4096x1024 .bf16) (d : Fin 1024),
        quarter (n := 1024) X j (ix2 (⟨(at4096 e f).val % 1024, by omega⟩ : Fin 1024) d) = X (ix2 (at4096 e f) d) := fun X d => by
      show X (ix2 _ _) = _
      exact congrArg (fun k : Fin 4096 => X (ix2 k d)) (Fin.ext (by
        show 1024 * j.val + (256 * e.val + f.val) % 1024 = 256 * e.val + f.val
        omega))
    have w : four (Wts (Sc x0 x1 x2 x3 x4) x5) j (ix2 (⟨(at4096 e f).val % 1024 / 256, by omega⟩ : Fin 4) n)
        = Wts (Sc x0 x1 x2 x3 x4) x5 (ix2 e n) := by
      show Wts (Sc x0 x1 x2 x3 x4) x5 (ix2 _ _) = _
      exact congrArg (fun k : Fin 16 => Wts (Sc x0 x1 x2 x3 x4) x5 (ix2 k n)) (Fin.ext (by
        show 4 * j.val + (256 * e.val + f.val) % 1024 / 256 = e.val
        omega))
    unfold act Cert.Moe.hidden
    simp only [q, w]
    simp only [mul_comm (x6 _), mul_comm (x7 _)]
  have hq : (at4096 e f).val / 1024 = e.val / 4 := by show (256 * e.val + f.val) / 1024 = e.val / 4; omega
  have lt : (at4096 e f).val / 1024 < 4 := by omega
  have sel : ∀ (j : Fin 4), j.val = e.val / 4 →
      (![Md0 x0 x1 x2 x3 x4 x5 x6 x7, Md1 x0 x1 x2 x3 x4 x5 x6 x7, Md2 x0 x1 x2 x3 x4 x5 x6 x7, Md3 x0 x1 x2 x3 x4 x5 x6 x7] : Fin 4 → FVec Ideal S1024x512 .bf16) j
        (ix2 (⟨(at4096 e f).val % 1024, by omega⟩ : Fin 1024) n)
      = act (Un x0 x1 x2) (quarter (n := 1024) x6 j) (quarter (n := 1024) x7 j) (four (Wts (Sc x0 x1 x2 x3 x4) x5) j)
      ⟨(at4096 e f).val % 1024, by omega⟩ n := by
    intro j _
    match j with
    | ⟨0, _⟩ => exact pay81_apply _ _ _ _ _ _
    | ⟨1, _⟩ => exact pay83_apply _ _ _ _ _ _
    | ⟨2, _⟩ => exact pay84_apply _ _ _ _ _ _
    | ⟨3, _⟩ => exact pay1_apply _ _ _ _ _ _
  exact (sel ⟨(at4096 e f).val / 1024, lt⟩ hq).trans (key ⟨(at4096 e f).val / 1024, lt⟩ hq)

theorem sum_4096 (F : Fin 4096 → EReal) : ∑ k, F k = ∑ e : Fin 16, ∑ f : Fin 256, F (at4096 e f) := by
  rw [← Finset.sum_product', Finset.univ_product_univ]
  refine (Fintype.sum_equiv (finProdFinEquiv (m := 16) (n := 256)) _ F fun p => congrArg F (Fin.ext ?_)).symm
  show 256 * p.1.val + p.2.val = p.2.val + 256 * p.1.val
  omega

/-- What the body leaves of one token: the experts in plain order, with the weights it made. -/
theorem Ot_apply (n : Fin 512) (d : Fin 1024) :
    Ot x0 x1 x2 x3 x4 x5 x6 x7 x8 x9 (ix2 n d)
      = Cert.Moe.last (fun i => x0 (ix2 n i)) (fun i => x1 (ix3 (0 : Fin 1) (0 : Fin 1) (⟨5120 + i.val, by omega⟩ : Fin 6144)))
          (Cert.Moe.mixed (fun d => Un x0 x1 x2 (ix2 n d)) (fun e d f => x6 (ix2 (at4096 e f) d)) (fun e d f => x7 (ix2 (at4096 e f) d))
            (fun e f d => x8 (ix2 d (at4096 e f))) (fun e => Wts (Sc x0 x1 x2 x3 x4) x5 (ix2 e n)))
          (fun i => x9 (ix2 (0 : Fin 1) i)) d := by
  unfold Ot
  rw [pay2_apply]
  have h0 : ∀ i, k0_pay3 x0 (ix2 n i) = x0 (ix2 n i) := fun i => by pointwise [k0_pay3]
  have h1 : ∀ i : Fin 6144, k0_pay4 x1 (ix2 (0 : Fin 1) i) = x1 (ix3 (0 : Fin 1) (0 : Fin 1) i) := fun i => by pointwise [k0_pay4]
  simp only [h0, h1]
  refine congrArg (fun y => Cert.Moe.last _ _ y _ d) (funext fun i => ?_)
  rw [sum_4096]
  unfold Cert.Moe.mixed
  refine Finset.sum_congr rfl fun e _ => Finset.sum_congr rfl fun f _ => ?_
  rw [Md_apply, mul_comm]

end Pure

end Cert.ExpertsIdeal.Moe

end
-- ==== Proof.MoeEntry.lean ====
/-
  The experts' kernel's arrays at an element in terms of the arguments, its blocks, and its result.
-/
module

public import proofs.«01_k».proof.Proof.Tok
public import Idealize.ShloMosaic.Lib.Pipeline.Value
public import Idealize.ShloMosaic.Lib.StableHlo.ReadAt

@[expose] public section

noncomputable section

namespace Cert.ExpertsIdeal.Moe

open Cert.ExpertsIdeal Cert.ExpertsIdeal.Gen Idealize.ShloMosaic Idealize.ShloMosaic.TcCoe Idealize.SL.Sem Cert.Route

variable (m : (ℓ : Loc nD τ sig) → Buf (Elt Ideal) ℓ) (c : Dev nD)

/-- The arguments. -/
abbrev argH : Vec Ideal ⟨3, ![4, 4096, 1024]⟩ .f32 := m ((c : Thread nD τ).loc main_arg0)
abbrev argM : Vec Ideal ⟨3, ![4, 1, 6144]⟩ .f32 := m ((c : Thread nD τ).loc main_arg1)
abbrev argG : Vec Ideal ⟨1, ![1024]⟩ .f32 := m ((c : Thread nD τ).loc main_arg2)
abbrev argW : Vec Ideal ⟨2, ![1024, 16]⟩ .f32 := m ((c : Thread nD τ).loc main_arg3)
abbrev argB : Vec Ideal ⟨1, ![16]⟩ .f32 := m ((c : Thread nD τ).loc main_arg4)
abbrev argWg : Vec Ideal ⟨3, ![16, 1024, 256]⟩ .f32 := m ((c : Thread nD τ).loc main_arg5)
abbrev argWu : Vec Ideal ⟨3, ![16, 1024, 256]⟩ .f32 := m ((c : Thread nD τ).loc main_arg6)
abbrev argWd : Vec Ideal ⟨3, ![16, 256, 1024]⟩ .f32 := m ((c : Thread nD τ).loc main_arg7)
abbrev argF : Vec Ideal ⟨1, ![1024]⟩ .f32 := m ((c : Thread nD τ).loc main_arg8)

theorem arr0 (r : Fin 16384) (d : Fin 1024) : (V m c main_v18 : Vec Ideal S16384x1024 .f32) (ix2 r d) = Cert.Moe.row (argH m c) r d := by
  unfold V Cert.Moe.row
  after_reads_at
  rfl
theorem arr1 (b : Fin 4) (d : Fin 6144) : (V m c main_arg1 : Vec Ideal S4x1x6144 .f32) (ix3 b (0 : Fin 1) d) = argM m c (ix3 b (0 : Fin 1) d) := by
  unfold V
  after_reads_at
theorem arr2 (d : Fin 1024) : (V m c main_v8 : Vec Ideal S1x1024 .f32) (ix2 (0 : Fin 1) d) = argG m c (ix1 d) := by
  unfold V
  after_reads_at
theorem arr3 (e : Fin 16) (d : Fin 1024) : (V m c main_v1 : Vec Ideal S16x1024 .bf16) (ix2 e d) = argW m c (ix2 d e) := by
  unfold V
  after_reads_at
theorem arr4 (e : Fin 16) (d : Fin 1024) : (V m c main_v4 : Vec Ideal S16x1024 .bf16) (ix2 e d) = (argW m c (ix2 d e) : EReal) - (argW m c (ix2 d e) : EReal) := by
  unfold V
  after_reads_at
theorem arr5 (e : Fin 16) (n : Fin 512) : (V m c main_v6 : Vec Ideal S16x512 .f32) (ix2 e n) = argB m c (ix1 e) := by
  unfold V
  after_reads_at
theorem arr6 (k : Fin 4096) (d : Fin 1024) : (V m c main_v11 : Vec Ideal S4096x1024 .bf16) (ix2 k d) = argWg m c (ix3 (⟨k.val / 256, by omega⟩ : Fin 16) d (⟨k.val % 256, by omega⟩ : Fin 256)) := by
  unfold V
  after_reads_at
theorem arr7 (k : Fin 4096) (d : Fin 1024) : (V m c main_v14 : Vec Ideal S4096x1024 .bf16) (ix2 k d) = argWu m c (ix3 (⟨k.val / 256, by omega⟩ : Fin 16) d (⟨k.val % 256, by omega⟩ : Fin 256)) := by
  unfold V
  after_reads_at
theorem arr8 (d : Fin 1024) (k : Fin 4096) : (V m c main_v17 : Vec Ideal S1024x4096 .bf16) (ix2 d k) = argWd m c (ix3 (⟨k.val / 256, by omega⟩ : Fin 16) (⟨k.val % 256, by omega⟩ : Fin 256) d) := by
  unfold V
  after_reads_at
theorem arr9 (d : Fin 1024) : (V m c main_v7 : Vec Ideal S1x1024 .f32) (ix2 (0 : Fin 1) d) = argF m c (ix1 d) := by
  unfold V
  after_reads_at

/-! ## The windows' blocks: point `t` is the tokens from `512 t`, of batch `t / 8` -/

theorem lt32 (t : Fin cfg0.N) : t.val < 32 := lt_of_lt_of_eq t.isLt N_0

abbrev tok (t : Fin cfg0.N) (n : Fin 512) : Fin 16384 := ⟨t.val * 512 + n.val, by have := lt32 t; omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val / 8, 0, 0] :=
  (by decide +kernel : ∀ t : Fin grid0.N, win0_1.index t = ![t.val / 8, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![t.val, 0] :=
  (by decide +kernel : ∀ t : Fin grid0.N, win0_10.index t = ![t.val, 0])

theorem blk0 (t : Fin cfg0.N) (n : Fin 512) (d : Fin 1024) :
    (iblk m c 0 t : Vec Ideal S512x1024 .f32) (ix2 n d) = (V m c main_v18 : Vec Ideal S16384x1024 .f32) (ix2 (tok t n) d) := by
  refine congrArg (V m c main_v18) (funext fun a => Fin.ext ((win0_0.rect_emb_val t _ a).trans ?_))
  rw [index0]
  match a with
  | ⟨0, _⟩ => rfl
  | ⟨1, _⟩ => show 0 * 1024 + d.val = d.val; omega
theorem blk1 (t : Fin cfg0.N) (d : Fin 6144) :
    (iblk m c 1 t : Vec Ideal S1x1x6144 .f32) (ix3 (0 : Fin 1) (0 : Fin 1) d)
      = (V m c main_arg1 : Vec Ideal S4x1x6144 .f32) (ix3 (⟨t.val / 8, by have := lt32 t; omega⟩ : Fin 4) (0 : Fin 1) d) := by
  refine congrArg (V m c main_arg1) (funext fun a => Fin.ext ((win0_1.rect_emb_val t _ a).trans ?_))
  rw [index1]
  match a with
  | ⟨0, _⟩ => show t.val / 8 * 1 + 0 = t.val / 8; omega
  | ⟨1, _⟩ => rfl
  | ⟨2, _⟩ => show 0 * 6144 + d.val = d.val; omega
theorem blk2 (t : Fin cfg0.N) (i : Fin 1) (j : Fin 1024) :
    (iblk m c 2 t : Vec Ideal S1x1024 .f32) (ix2 i j) = (V m c main_v8 : Vec Ideal S1x1024 .f32) (ix2 i j) := by
  refine congrArg (V m c main_v8) (funext fun a => Fin.ext ((win0_2.rect_emb_val t _ a).trans ?_))
  rw [index2]
  match a with
  | ⟨0, _⟩ => show 0 * 1 + i.val = i.val; omega
  | ⟨1, _⟩ => show 0 * 1024 + j.val = j.val; omega
theorem blk3 (t : Fin cfg0.N) (i : Fin 16) (j : Fin 1024) :
    (iblk m c 3 t : Vec Ideal S16x1024 .bf16) (ix2 i j) = (V m c main_v1 : Vec Ideal S16x1024 .bf16) (ix2 i j) := by
  refine congrArg (V m c main_v1) (funext fun a => Fin.ext ((win0_3.rect_emb_val t _ a).trans ?_))
  rw [index3]
  match a with
  | ⟨0, _⟩ => show 0 * 16 + i.val = i.val; omega
  | ⟨1, _⟩ => show 0 * 1024 + j.val = j.val; omega
theorem blk4 (t : Fin cfg0.N) (i : Fin 16) (j : Fin 1024) :
    (iblk m c 4 t : Vec Ideal S16x1024 .bf16) (ix2 i j) = (V m c main_v4 : Vec Ideal S16x1024 .bf16) (ix2 i j) := by
  refine congrArg (V m c main_v4) (funext fun a => Fin.ext ((win0_4.rect_emb_val t _ a).trans ?_))
  rw [index4]
  match a with
  | ⟨0, _⟩ => show 0 * 16 + i.val = i.val; omega
  | ⟨1, _⟩ => show 0 * 1024 + j.val = j.val; omega
theorem blk5 (t : Fin cfg0.N) (i : Fin 16) (j : Fin 512) :
    (iblk m c 5 t : Vec Ideal S16x512 .f32) (ix2 i j) = (V m c main_v6 : Vec Ideal S16x512 .f32) (ix2 i j) := by
  refine congrArg (V m c main_v6) (funext fun a => Fin.ext ((win0_5.rect_emb_val t _ a).trans ?_))
  rw [index5]
  match a with
  | ⟨0, _⟩ => show 0 * 16 + i.val = i.val; omega
  | ⟨1, _⟩ => show 0 * 512 + j.val = j.val; omega
theorem blk6 (t : Fin cfg0.N) (i : Fin 4096) (j : Fin 1024) :
    (iblk m c 6 t : Vec Ideal S4096x1024 .bf16) (ix2 i j) = (V m c main_v11 : Vec Ideal S4096x1024 .bf16) (ix2 i j) := by
  refine congrArg (V m c main_v11) (funext fun a => Fin.ext ((win0_6.rect_emb_val t _ a).trans ?_))
  rw [index6]
  match a with
  | ⟨0, _⟩ => show 0 * 4096 + i.val = i.val; omega
  | ⟨1, _⟩ => show 0 * 1024 + j.val = j.val; omega
theorem blk7 (t : Fin cfg0.N) (i : Fin 4096) (j : Fin 1024) :
    (iblk m c 7 t : Vec Ideal S4096x1024 .bf16) (ix2 i j) = (V m c main_v14 : Vec Ideal S4096x1024 .bf16) (ix2 i j) := by
  refine congrArg (V m c main_v14) (funext fun a => Fin.ext ((win0_7.rect_emb_val t _ a).trans ?_))
  rw [index7]
  match a with
  | ⟨0, _⟩ => show 0 * 4096 + i.val = i.val; omega
  | ⟨1, _⟩ => show 0 * 1024 + j.val = j.val; omega
theorem blk8 (t : Fin cfg0.N) (i : Fin 1024) (j : Fin 4096) :
    (iblk m c 8 t : Vec Ideal S1024x4096 .bf16) (ix2 i j) = (V m c main_v17 : Vec Ideal S1024x4096 .bf16) (ix2 i j) := by
  refine congrArg (V m c main_v17) (funext fun a => Fin.ext ((win0_8.rect_emb_val t _ a).trans ?_))
  rw [index8]
  match a with
  | ⟨0, _⟩ => show 0 * 1024 + i.val = i.val; omega
  | ⟨1, _⟩ => show 0 * 4096 + j.val = j.val; omega
theorem blk9 (t : Fin cfg0.N) (i : Fin 1) (j : Fin 1024) :
    (iblk m c 9 t : Vec Ideal S1x1024 .f32) (ix2 i j) = (V m c main_v7 : Vec Ideal S1x1024 .f32) (ix2 i j) := by
  refine congrArg (V m c main_v7) (funext fun a => Fin.ext ((win0_9.rect_emb_val t _ a).trans ?_))
  rw [index9]
  match a with
  | ⟨0, _⟩ => show 0 * 1 + i.val = i.val; omega
  | ⟨1, _⟩ => show 0 * 1024 + j.val = j.val; omega

/-- Where element `(n, d)` of the result's block at point `t` sits in the result. -/
theorem emb10 (t : Fin cfg0.N) (n : Fin 512) (d : Fin 1024) :
    ((cfg0.win 10).blk t).view.emb (ix2 n d : S512x1024.Idx) = (ix2 (tok t n) d : S16384x1024.Idx) := by
  refine funext fun a => Fin.ext ((win0_10.rect_emb_val t _ a).trans ?_)
  rw [index10]
  match a with
  | ⟨0, _⟩ => rfl
  | ⟨1, _⟩ => show 0 * 1024 + d.val = d.val; omega

end Cert.ExpertsIdeal.Moe

end
-- ==== Proof.MoeRun.lean ====
/-
  The experts' kernel's result: every token's, with the weights of its two experts.
-/
module

public import proofs.«01_k».proof.Proof.MoeEntry

@[expose] public section

noncomputable section

namespace Cert.ExpertsIdeal.Moe

open Cert.ExpertsIdeal Cert.ExpertsIdeal.Gen Idealize.ShloMosaic Idealize.ShloMosaic.TcCoe Idealize.SL.Sem Cert.Route

variable {m : (ℓ : Loc nD τ sig) → Buf (Elt Ideal) ℓ} {c : Dev nD}

theorem batch_tok (t : Fin cfg0.N) (n : Fin 512) : (⟨t.val / 8, by have := lt32 t; omega⟩ : Fin 4) = Cert.Moe.batch (tok t n) :=
  Fin.ext (by show t.val / 8 = (t.val * 512 + n.val) / 4096; omega)

theorem mod_eq (t : Fin cfg0.N) (n : Fin 512) (k : Fin 6) (o : ℕ) (ho : o = 1024 * k.val) (hlt : ∀ d : Fin 1024, o + d.val < 6144) :
    (fun d : Fin 1024 => (iblk m c 1 t : Vec Ideal S1x1x6144 .f32) (ix3 (0 : Fin 1) (0 : Fin 1) (⟨o + d.val, hlt d⟩ : Fin 6144)))
      = Cert.Moe.part (argM m c) k (tok t n) := by
  subst ho
  refine funext fun d => ?_
  rw [blk1, arr1, batch_tok t n]
  rfl

theorem row_eq (t : Fin cfg0.N) (n : Fin 512) :
    (fun d : Fin 1024 => (iblk m c 0 t : Vec Ideal S512x1024 .f32) (ix2 n d)) = Cert.Moe.row (argH m c) (tok t n) :=
  funext fun d => (blk0 m c t n d).trans (arr0 m c _ d)

theorem Un_eq (t : Fin cfg0.N) (n : Fin 512) :
    (fun d => Un (iblk m c 0 t) (iblk m c 1 t) (iblk m c 2 t) (ix2 n d)) = Cert.Moe.inner (argH m c) (argM m c) (argG m c) (tok t n) := by
  refine funext fun d => ?_
  rw [Un_apply]
  unfold Cert.Moe.inner
  have hg : (fun i : Fin 1024 => (iblk m c 2 t : Vec Ideal S1x1024 .f32) (ix2 (0 : Fin 1) i)) = fun d => argG m c (ix1 d) :=
    funext fun d => (blk2 m c t 0 d).trans (arr2 m c d)
  rw [row_eq, hg, mod_eq t n 4 4096 rfl, mod_eq t n 3 3072 rfl]

variable (H : Cert.Moe.Given (argM m c) (argG m c) (argW m c))
include H

theorem Lg_eq (t : Fin cfg0.N) (n : Fin 512) (e : Fin 16) :
    Lg (iblk m c 0 t) (iblk m c 1 t) (iblk m c 2 t) (iblk m c 3 t) (iblk m c 4 t) (ix2 e n)
      = Cert.Moe.logits (argH m c) (argM m c) (argG m c) (argW m c) (tok t n) e := by
  have hu := fun d => congrFun (Un_eq (m := m) (c := c) t n) d
  have h3 : ∀ d, (iblk m c 3 t : Vec Ideal S16x1024 .bf16) (ix2 e d) = argW m c (ix2 d e) := fun d => (blk3 m c t e d).trans (arr3 m c e d)
  rw [Lg_apply _ _ _ _ _ _ _ (fun d => ?_) (fun d => ?_) (fun d => ?_)]
  · unfold Cert.Moe.logits Cert.Moe.logit
    exact Finset.sum_congr rfl fun d _ => by rw [h3 d]; exact congrArg (· * _) (hu d)
  · exact (Cert.Moe.inner_real (argH m c) H (tok t n) d).imp fun r hr => (hu d).trans hr
  · exact (H.wr d e).imp fun r hr => (h3 d).trans hr
  · refine ((blk4 m c t e d).trans (arr4 m c e d)).trans ?_
    rw [h3 d]

theorem Sc_eq (t : Fin cfg0.N) (n : Fin 512) (e : Fin 16) :
    Sc (iblk m c 0 t) (iblk m c 1 t) (iblk m c 2 t) (iblk m c 3 t) (iblk m c 4 t) (ix2 e n)
      = Cert.Moe.scores (argH m c) (argM m c) (argG m c) (argW m c) (tok t n) e := by
  unfold Sc
  rw [pay10_apply]
  unfold Cert.Moe.scores
  exact congrArg (fun l => Cert.Moe.score l e) (funext fun i => Lg_eq H t n i)

variable {w : Fin 16384 → Fin 16 → EReal} (C : Cert.Moe.Chosen (argH m c) (argM m c) (argG m c) (argW m c) (argB m c) w)
include C

theorem Wts_tok (t : Fin cfg0.N) (n : Fin 512) (e : Fin 16) :
    Wts (Sc (iblk m c 0 t) (iblk m c 1 t) (iblk m c 2 t) (iblk m c 3 t) (iblk m c 4 t)) (iblk m c 5 t) (ix2 e n) = w (tok t n) e := by
  obtain ⟨s, k, a, b, hs, pos, P, hw⟩ := C (tok t n)
  rw [hw]
  refine Wts_eq _ _ n s (fun e => (Sc_eq H t n e).trans (hs e)) pos k a b ?_ e
  have : sel (Sc (iblk m c 0 t) (iblk m c 1 t) (iblk m c 2 t) (iblk m c 3 t) (iblk m c 4 t)) (iblk m c 5 t) n
      = Cert.Moe.biased (argH m c) (argM m c) (argG m c) (argW m c) (argB m c) (tok t n) := by
    refine funext fun k => funext fun i => ?_
    unfold sel Cert.Moe.biased
    exact congrArg₂ (fun x y : EReal => x + y) (Sc_eq H t n _) ((blk5 m c t _ n).trans (arr5 m c _ n))
  rw [this]
  exact P

/-- The result array, with the weights `w`. -/
def result (m : (ℓ : Loc nD τ sig) → Buf (Elt Ideal) ℓ) (c : Dev nD) (w : Fin 16384 → Fin 16 → EReal) : Vec Ideal S16384x1024 .f32 := fun y =>
  Cert.Moe.token (argH m c) (argM m c) (argG m c) (argWg m c) (argWu m c) (argWd m c) (argF m c) (y 0) (w (y 0)) (y 1)

theorem block_eq (t : Fin cfg0.N) (n : Fin 512) (d : Fin 1024) :
    Ot (iblk m c 0 t) (iblk m c 1 t) (iblk m c 2 t) (iblk m c 3 t) (iblk m c 4 t) (iblk m c 5 t) (iblk m c 6 t) (iblk m c 7 t) (iblk m c 8 t) (iblk m c 9 t) (ix2 n d)
      = result m c w (ix2 (tok t n) d) := by
  have div4096 : ∀ (e : Fin 16) (f : Fin 256), (⟨(at4096 e f).val / 256, by omega⟩ : Fin 16) = e := fun e f => Fin.ext (by show (256 * e.val + f.val) / 256 = e.val; omega)
  have mod4096 : ∀ (e : Fin 16) (f : Fin 256), (⟨(at4096 e f).val % 256, by omega⟩ : Fin 256) = f := fun e f => Fin.ext (by show (256 * e.val + f.val) % 256 = f.val; omega)
  have h6 : (fun (e : Fin 16) (d : Fin 1024) (f : Fin 256) => (iblk m c 6 t : Vec Ideal S4096x1024 .bf16) (ix2 (at4096 e f) d)) = fun e d f => argWg m c (ix3 e d f) :=
    funext fun e => funext fun d => funext fun f => ((blk6 m c t _ d).trans (arr6 m c _ d)).trans (by rw [div4096, mod4096])
  have h7 : (fun (e : Fin 16) (d : Fin 1024) (f : Fin 256) => (iblk m c 7 t : Vec Ideal S4096x1024 .bf16) (ix2 (at4096 e f) d)) = fun e d f => argWu m c (ix3 e d f) :=
    funext fun e => funext fun d => funext fun f => ((blk7 m c t _ d).trans (arr7 m c _ d)).trans (by rw [div4096, mod4096])
  have h8 : (fun (e : Fin 16) (f : Fin 256) (d : Fin 1024) => (iblk m c 8 t : Vec Ideal S1024x4096 .bf16) (ix2 d (at4096 e f))) = fun e f d => argWd m c (ix3 e f d) :=
    funext fun e => funext fun f => funext fun d => ((blk8 m c t d _).trans (arr8 m c d _)).trans (by rw [div4096, mod4096])
  have h9 : (fun (d : Fin 1024) => (iblk m c 9 t : Vec Ideal S1x1024 .f32) (ix2 (0 : Fin 1) d)) = fun d => argF m c (ix1 d) :=
    funext fun d => (blk9 m c t 0 d).trans (arr9 m c d)
  have hw : (fun e => Wts (Sc (iblk m c 0 t) (iblk m c 1 t) (iblk m c 2 t) (iblk m c 3 t) (iblk m c 4 t)) (iblk m c 5 t) (ix2 e n)) = w (tok t n) :=
    funext fun e => Wts_tok H C t n e
  rw [Ot_apply, row_eq, mod_eq t n 5 5120 rfl, Un_eq, h6, h7, h8, h9, hw]
  rfl

theorem flushed_eq (t : Fin cfg0.N) :
    (dats m 0 c).flushed 10 t = (win0_10.blk t).view.read (Elt Ideal) (result m c w) := by
  show (cfg0.win 10).cut (grid0.coords t) ((dats m 0 c).after 10 t) = _
  rw [after0_10, outsAt_eq]
  refine funext fun x => ?_
  have hx : (x : S512x1024.Idx) = ix2 (⟨(x 0).val, (x 0).isLt⟩ : Fin 512) (⟨(x 1).val, (x 1).isLt⟩ : Fin 1024) := by
    refine funext fun a => Fin.ext ?_
    match a with
    | ⟨0, _⟩ => rfl
    | ⟨1, _⟩ => rfl
  refine (congrArg (Ot (iblk m c 0 t) (iblk m c 1 t) (iblk m c 2 t) (iblk m c 3 t) (iblk m c 4 t) (iblk m c 5 t) (iblk m c 6 t) (iblk m c 7 t) (iblk m c 8 t) (iblk m c 9 t)) hx).trans ((block_eq H C t _ _).trans ?_)
  exact congrArg (result m c w) ((emb10 t _ _).symm.trans (congrArg ((cfg0.win 10).blk t).view.emb hx.symm))

omit H C in
theorem cover (y : S16384x1024.Idx) : ∃ t : Fin cfg0.N, (cfg0.win 10).flush t = true ∧ y ∈ ((cfg0.win 10).blk t).view.set := by
  have h0 : (y 0).val < 16384 := (y 0).isLt
  have h1 : (y 1).val < 1024 := (y 1).isLt
  have ht : (y 0).val / 512 < cfg0.N := lt_of_lt_of_eq (by omega) N_0.symm
  have e := emb10 ⟨(y 0).val / 512, ht⟩ ⟨(y 0).val % 512, by omega⟩ ⟨(y 1).val, h1⟩
  refine ⟨⟨(y 0).val / 512, ht⟩, flush0_10 _, ?_⟩
  have hy : ((cfg0.win 10).blk ⟨(y 0).val / 512, ht⟩).view.emb (ix2 ⟨(y 0).val % 512, by omega⟩ ⟨(y 1).val, h1⟩ : S512x1024.Idx) = y := by
    refine e.trans (funext fun a => Fin.ext ?_)
    match a with
    | ⟨0, _⟩ => show (y 0).val / 512 * 512 + (y 0).val % 512 = (y 0).val; omega
    | ⟨1, _⟩ => rfl
  have hm := View.emb_mem_set ((cfg0.win 10).blk ⟨(y 0).val / 512, ht⟩).view (ix2 ⟨(y 0).val % 512, by omega⟩ ⟨(y 1).val, h1⟩ : S512x1024.Idx)
  rw [hy] at hm
  exact hm

theorem final : (dats m 0 c).arrAt 10 cfg0.N = result m c w :=
  (dats m 0 c).arrAt_eq_of_cover 10 (result m c w) (fun t _ => flushed_eq H C t) cover

omit H C in
/-- The run: the result array at `result`, the arguments unchanged. -/
theorem run (m : (ℓ : Loc nD τ sig) → Buf (Elt Ideal) ℓ) (ρ : Dev nD → PrngReg) (w : Dev nD → Fin 16384 → Fin 16 → EReal)
    (H : ∀ c, Cert.Moe.Given (argM m c) (argG m c) (argW m c))
    (C : ∀ c, Cert.Moe.Chosen (argH m c) (argM m c) (argG m c) (argW m c) (argB m c) (w c)) :
    θ_run defs (onTc (τ := τ) (main (F := Ideal))) ⟨m, fun _ => 0, ρ⟩ fun r => ∀ c : Dev nD,
      r.2.mem ((c : Thread nD τ).loc main_v19) = result m c (w c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.1 c).1 10).trans (final (H c) (C c)), h.2 c⟩)
    (θ_run_and (run_main m ρ) (unchanged m ρ))

end Cert.ExpertsIdeal.Moe

end
-- ==== Proof.TopK.lean ====
/-
  The greatest entries of each row, taken in order with their places: the host's stable sort by the greater.
-/
module

public import proofs.«01_k».proof.Proof.Route
public import Idealize.ShloMosaic.Lib.Pointwise

@[expose] public section

noncomputable section

namespace Cert.Route

open Idealize.ShloMosaic

/-- The place of the `k`-th greatest entry. -/
def order {n : ℕ} (y : Fin n → EReal) (k : Fin n) : Fin n := sortedFrom (fun a b => decide (y b < y a)) k

theorem order_first {n : ℕ} (y : Fin n → EReal) (p : Fin n) (hp : p.val = 0) (j : Fin n) (hj : j ≠ order y p) :
    Before y (order y p) j :=
  sorted_first y _ (fun i j => by simp) p hp j hj

theorem order_second {n : ℕ} (y : Fin n → EReal) (p q : Fin n) (hp : p.val = 0) (hq : q.val = 1)
    (j : Fin n) (hj : j ≠ order y p) (hj' : j ≠ order y q) : Before y (order y q) j :=
  sorted_second y _ (fun i j => by simp) p q hp hq j hj hj'

theorem order_ne {n : ℕ} (y : Fin n → EReal) (p q : Fin n) (h : p < q) : order y p ≠ order y q := fun e => by
  have := sorted_before y (fun a b => decide (y b < y a)) (fun i j => by simp) p q h
  have e' : sortedFrom (fun a b => decide (y b < y a)) p = sortedFrom (fun a b => decide (y b < y a)) q := e
  rw [e'] at this
  exact this.asymm this

theorem gt_eq (a b : EReal) : (FloatOps.cmpfTotal (F := Ideal) (φ := .f32) .gt a b == 1#1) = decide (b < a) := by
  show (Ideal.cmpTotal .gt a b == 1#1) = _
  by_cases h : b < a <;> simp [Ideal.cmpTotal, Ideal.cmp, CmpDirection.ordered, h]

section Two
variable {R n k : ℕ} (x : (⟨2, ![R, n]⟩ : Shape).Idx → EReal) (r : Fin R) (p : Fin n)

theorem along2 (i : (⟨2, ![R, n]⟩ : Shape).Idx) (hi : (i 0).val = r.val) (q : Fin n) : i.along (1 : Fin 2) q = ix2 r q := by
  refine funext fun a => Fin.ext ?_
  match a with
  | ⟨0, _⟩ => exact hi
  | ⟨1, _⟩ => rfl

theorem sorted2 (i : (⟨2, ![R, n]⟩ : Shape).Idx) (hi : i = ix2 r p) :
    i.along (1 : Fin 2) (sortedFrom (fun q q' => FloatOps.cmpfTotal (F := Ideal) (φ := .f32) .gt (x (i.along (1 : Fin 2) q)) (x (i.along (1 : Fin 2) q')) == 1#1) (i 1) : Fin n)
      = ix2 r (order (fun q => x (ix2 r q)) p) := by
  subst hi
  have : (fun q q' : Fin n => FloatOps.cmpfTotal (F := Ideal) (φ := .f32) .gt (x ((ix2 r p).along (1 : Fin 2) q)) (x ((ix2 r p).along (1 : Fin 2) q')) == 1#1)
      = fun a b => decide (x (ix2 r b) < x (ix2 r a)) :=
    funext fun q => funext fun q' => by rw [along2 r (ix2 r p) rfl, along2 r (ix2 r p) rfl, gt_eq]
  rw [along2 r (ix2 r p) rfl]
  exact congrArg (fun q : Fin n => ix2 r q) (congrFun (congrArg sortedFrom this) p)

variable (h : (⟨2, ![R, n]⟩ : Shape).Slices (fun _ => 0) ⟨2, ![R, k]⟩) (j : Fin k)

theorem topK2_val (hp : p.val = j.val) :
    (Host.topK ⟨2, ![R, k]⟩ 1 (FloatOps.cmpfTotal (F := Ideal) (φ := .f32) .gt) x h).1 (ix2 r j) = x (ix2 r (order (fun q => x (ix2 r q)) p)) :=
  congrArg x (sorted2 x r p _ (funext fun a => Fin.ext (match a with
    | ⟨0, _⟩ => Nat.zero_add r.val
    | ⟨1, _⟩ => (Nat.zero_add j.val).trans hp.symm)))

theorem topK2_idx (hp : p.val = j.val) :
    (Host.topK ⟨2, ![R, k]⟩ 1 (FloatOps.cmpfTotal (F := Ideal) (φ := .f32) .gt) x h).2 (ix2 r j) = BitVec.ofNat 32 (order (fun q => x (ix2 r q)) p).val :=
  congrArg (fun i : (⟨2, ![R, n]⟩ : Shape).Idx => BitVec.ofNat 32 (i 1).val) (sorted2 x r p _ (funext fun a => Fin.ext (match a with
    | ⟨0, _⟩ => Nat.zero_add r.val
    | ⟨1, _⟩ => (Nat.zero_add j.val).trans hp.symm)))
end Two

section Three
variable {R S n k : ℕ} (x : (⟨3, ![R, S, n]⟩ : Shape).Idx → EReal) (r : Fin R) (s : Fin S) (p : Fin n)

theorem along3 (i : (⟨3, ![R, S, n]⟩ : Shape).Idx) (hi : (i 0).val = r.val) (hs : (i 1).val = s.val) (q : Fin n) : i.along (2 : Fin 3) q = ix3 r s q := by
  refine funext fun a => Fin.ext ?_
  match a with
  | ⟨0, _⟩ => exact hi
  | ⟨1, _⟩ => exact hs
  | ⟨2, _⟩ => rfl

theorem sorted3 (i : (⟨3, ![R, S, n]⟩ : Shape).Idx) (hi : i = ix3 r s p) :
    i.along (2 : Fin 3) (sortedFrom (fun q q' => FloatOps.cmpfTotal (F := Ideal) (φ := .f32) .gt (x (i.along (2 : Fin 3) q)) (x (i.along (2 : Fin 3) q')) == 1#1) (i 2) : Fin n)
      = ix3 r s (order (fun q => x (ix3 r s q)) p) := by
  subst hi
  have : (fun q q' : Fin n => FloatOps.cmpfTotal (F := Ideal) (φ := .f32) .gt (x ((ix3 r s p).along (2 : Fin 3) q)) (x ((ix3 r s p).along (2 : Fin 3) q')) == 1#1)
      = fun a b => decide (x (ix3 r s b) < x (ix3 r s a)) :=
    funext fun q => funext fun q' => by rw [along3 r s (ix3 r s p) rfl rfl, along3 r s (ix3 r s p) rfl rfl, gt_eq]
  rw [along3 r s (ix3 r s p) rfl rfl]
  exact congrArg (fun q : Fin n => ix3 r s q) (congrFun (congrArg sortedFrom this) p)

variable (h : (⟨3, ![R, S, n]⟩ : Shape).Slices (fun _ => 0) ⟨3, ![R, S, k]⟩) (j : Fin k)

theorem topK3_val (hp : p.val = j.val) :
    (Host.topK ⟨3, ![R, S, k]⟩ 2 (FloatOps.cmpfTotal (F := Ideal) (φ := .f32) .gt) x h).1 (ix3 r s j) = x (ix3 r s (order (fun q => x (ix3 r s q)) p)) :=
  congrArg x (sorted3 x r s p _ (funext fun a => Fin.ext (match a with
    | ⟨0, _⟩ => Nat.zero_add r.val
    | ⟨1, _⟩ => Nat.zero_add s.val
    | ⟨2, _⟩ => (Nat.zero_add j.val).trans hp.symm)))
end Three

end Cert.Route

end
-- ==== Proof.MoeRefA.lean ====
/-
  The experts' reference: a token's scores.
-/
module

public import proofs.«01_k».proof.Proof.MoeSpec
public import proofs.«01_k».proof.Proof.TopK
public import proofs.«01_k».proof.Proof.Gen.ExpertsReferenceIdeal.Read
public import Idealize.ShloMosaic.Lib.Pointwise

@[expose] public section

noncomputable section

namespace Cert.ExpertsReferenceIdeal.Moe

open Cert.ExpertsReferenceIdeal Cert.ExpertsReferenceIdeal.Gen Cert.ExpertsReferenceIdeal.Read Idealize.ShloMosaic Cert.Soft Cert.Route Cert.Moe

variable (x0 : Vec Ideal S4x4096x1024 .f32) (x1 : Vec Ideal S4x1x6144 .f32) (x2 : Vec Ideal S1024 .f32)
  (x3 : Vec Ideal S1024x16 .f32) (x4 : Vec Ideal S16 .f32)

theorem ofBits_one : Ideal.ofBits .f32 1065353216#32 = (1 : EReal) := by
  simp [Ideal.ofBits, Ideal.ieee, -EReal.coe_mul]; norm_num

theorem ofBits_ninf : Ideal.ofBits .f32 4286578688#32 = (⊥ : EReal) := by
  simp [Ideal.ofBits, Ideal.ieee]

theorem v15_apply (b : Fin 4) (p : Fin 4096) (d : Fin 1024) :
    val_main_v15 (F := Ideal) x0 (ix3 b p d) = norm (fun i => x0 (ix3 b p i)) d := by
  pointwise [val_main_v15, val_main_v14, val_main_v13, val_main_v12, val_main_v11, val_main_v10, val_main_v9, val_main_v8, val_main_v7, val_main_v6, val_main_cst, val_main_cst_0, val_main_cst_1]
  rfl

theorem v24_apply (b : Fin 4) (p : Fin 4096) (d : Fin 1024) :
    val_main_v24 (F := Ideal) x0 x1 x2 (ix3 b p d) = shifted (fun i => x0 (ix3 b p i)) (fun d => x2 (ix1 d))
      (fun d => x1 (ix3 b 0 ⟨4096 + d.val, by omega⟩)) (fun d => x1 (ix3 b 0 ⟨3072 + d.val, by omega⟩)) d := by
  unfold shifted
  rw [← v15_apply]
  generalize h : val_main_v15 (F := Ideal) x0 = N
  pointwise [val_main_v24, val_main_v23, val_main_v22, val_main_v21, val_main_v20, val_main_v19, val_main_v18, val_main_v17, val_main_v16, val_main_v4, val_main_v3, val_main_cst_2, h]

theorem v25_apply (r : Fin 16384) (d : Fin 1024) :
    val_main_v25 (F := Ideal) x0 x1 x2 (ix2 r d) = Cert.Moe.inner x0 x1 x2 r d := by
  unfold Cert.Moe.inner
  refine Eq.trans ?_ (v24_apply x0 x1 x2 (batch r) (place r) d)
  generalize h : val_main_v24 (F := Ideal) x0 x1 x2 = N
  pointwise [val_main_v25, h]
  rfl

theorem v26_apply (r : Fin 16384) (e : Fin 16) :
    val_main_v26 (F := Ideal) x0 x1 x2 x3 (ix2 r e) = logits x0 x1 x2 x3 r e := by
  unfold logits logit
  simp only [← v25_apply]
  generalize h : val_main_v25 (F := Ideal) x0 x1 x2 = N
  pointwise [val_main_v26, h]

theorem v29_apply (r : Fin 16384) :
    val_main_v29 (F := Ideal) x0 x1 x2 x3 (ix1 r) = Finset.univ.fold max ⊥ (logits x0 x1 x2 x3 r) := by
  have hl : logits x0 x1 x2 x3 r = fun e => val_main_v26 (F := Ideal) x0 x1 x2 x3 (ix2 r e) := funext fun e => (v26_apply x0 x1 x2 x3 r e).symm
  rw [hl]
  generalize h : val_main_v26 (F := Ideal) x0 x1 x2 x3 = N
  pointwise [val_main_v29, val_main_v28, val_main_v27, val_main_cst_3, val_main_cst_4, h]
  rw [ofBits_ninf]
  simp

theorem v37_apply (r : Fin 16384) (e : Fin 16) :
    val_main_v37 (F := Ideal) x0 x1 x2 x3 (ix2 r e) = scores x0 x1 x2 x3 r e := by
  unfold scores score
  rw [← v29_apply]
  simp only [← v26_apply]
  generalize h : val_main_v26 (F := Ideal) x0 x1 x2 x3 = N
  generalize h' : val_main_v29 (F := Ideal) x0 x1 x2 x3 = M
  pointwise [val_main_v37, val_main_v36, val_main_v35, val_main_v34, val_main_v33, val_main_v32, val_main_v31, val_main_v30, val_main_cst_5, h, h']

theorem v40_apply (r : Fin 16384) (e : Fin 16) :
    val_main_v40 (F := Ideal) x0 x1 x2 x3 x4 (ix2 r e) = biased x0 x1 x2 x3 x4 r (hi e) (lo e) := by
  unfold biased
  rw [at16_hi_lo, ← v37_apply]
  generalize h : val_main_v37 (F := Ideal) x0 x1 x2 x3 = N
  pointwise [val_main_v40, val_main_v39, val_main_v38, h]

theorem v41_apply (r : Fin 16384) (k i : Fin 4) :
    val_main_v41 (F := Ideal) x0 x1 x2 x3 x4 (ix3 r k i) = biased x0 x1 x2 x3 x4 r k i := by
  refine Eq.trans ?_ ((v40_apply x0 x1 x2 x3 x4 r (at16 k i)).trans (by rw [hi_at16, lo_at16]))
  generalize h : val_main_v40 (F := Ideal) x0 x1 x2 x3 x4 = N
  pointwise [val_main_v41, h]
  refine congrArg N (funext fun a => Fin.ext ?_)
  match a with
  | ⟨0, _⟩ => show _ = r.val; simp [ix2]
  | ⟨1, _⟩ => show _ = 4 * k.val + i.val; simp [ix2]; omega

end Cert.ExpertsReferenceIdeal.Moe

end
-- ==== Proof.MoeRefB.lean ====
/-
  The experts' reference: the choice of each token's experts, and their weights.
-/
module

public import proofs.«01_k».proof.Proof.MoeRefA
public import Idealize.ShloMosaic.Lib.Routing.BitFacts

@[expose] public section

noncomputable section

namespace Cert.ExpertsReferenceIdeal.Moe

open Cert.ExpertsReferenceIdeal Cert.ExpertsReferenceIdeal.Gen Cert.ExpertsReferenceIdeal.Read Idealize.ShloMosaic Cert.Soft Cert.Route Cert.Moe

variable (x0 : Vec Ideal S4x4096x1024 .f32) (x1 : Vec Ideal S4x1x6144 .f32) (x2 : Vec Ideal S1024 .f32)
  (x3 : Vec Ideal S1024x16 .f32) (x4 : Vec Ideal S16 .f32)

theorem values_apply (r : Fin 16384) (k : Fin 4) (j : Fin 2) (p : Fin 4) (hp : p.val = j.val) :
    val_main_values (F := Ideal) x0 x1 x2 x3 x4 (ix3 r k j) = biased x0 x1 x2 x3 x4 r k (order (biased x0 x1 x2 x3 x4 r k) p) := by
  have hl : biased x0 x1 x2 x3 x4 r k = fun i => val_main_v41 (F := Ideal) x0 x1 x2 x3 x4 (ix3 r k i) := funext fun i => (v41_apply x0 x1 x2 x3 x4 r k i).symm
  rw [hl]
  unfold val_main_values
  exact topK3_val _ r k p _ j hp

theorem v42_apply (r : Fin 16384) (k : Fin 4) :
    val_main_v42 (F := Ideal) x0 x1 x2 x3 x4 (ix2 r k) = best (biased x0 x1 x2 x3 x4 r k) := by
  have e : val_main_v42 (F := Ideal) x0 x1 x2 x3 x4 (ix2 r k) = ∑ j : Fin 2, val_main_values (F := Ideal) x0 x1 x2 x3 x4 (ix3 r k j) := by
    generalize h : val_main_values (F := Ideal) x0 x1 x2 x3 x4 = N
    pointwise [val_main_v42, val_main_cst_6, h]
  rw [e, Fin.sum_univ_two, values_apply x0 x1 x2 x3 x4 r k 0 0 rfl, values_apply x0 x1 x2 x3 x4 r k 1 1 rfl]
  exact (best_eq _ _ _ (order_ne _ 0 1 (by decide)) (order_first _ 0 rfl) (order_second _ 0 1 rfl rfl)).symm

/-- The group taken for a token. -/
def group (r : Fin 16384) : Fin 4 := order (fun k => best (biased x0 x1 x2 x3 x4 r k)) 0

theorem group_apply (r : Fin 16384) :
    val_main_indices_8 (F := Ideal) x0 x1 x2 x3 x4 (ix2 r 0) = BitVec.ofNat 32 (group x0 x1 x2 x3 x4 r).val := by
  have hl : (fun k => best (biased x0 x1 x2 x3 x4 r k)) = fun k => val_main_v42 (F := Ideal) x0 x1 x2 x3 x4 (ix2 r k) := funext fun k => (v42_apply x0 x1 x2 x3 x4 r k).symm
  unfold group
  rw [hl]
  unfold val_main_indices_8
  exact topK2_idx _ r 0 _ 0 rfl

theorem v45_apply (e : Fin 16) : val_main_v45 (F := Ideal) (ix1 e) = BitVec.ofNat 32 (hi e).val := by
  pointwise [val_main_v45, val_main_v44, val_main_c, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0]
  revert e
  decide

theorem v50_apply (r : Fin 16384) (e : Fin 16) :
    val_main_v50 (F := Ideal) x0 x1 x2 x3 x4 (ix2 r e) = IntOp.cmpi .eq (BitVec.ofNat 32 (hi e).val) (BitVec.ofNat 32 (group x0 x1 x2 x3 x4 r).val) := by
  rw [← group_apply, ← v45_apply]
  generalize h : val_main_indices_8 (F := Ideal) x0 x1 x2 x3 x4 = N
  generalize h' : val_main_v45 (F := Ideal) = M
  pointwise [val_main_v50, val_main_v49, val_main_v48, val_main_v47, val_main_v46, val_main_v43, h, h']

theorem cmpi_eq4 : ∀ a b : Fin 4, IntOp.cmpi .eq (BitVec.ofNat 32 a.val) (BitVec.ofNat 32 b.val) = if a = b then 1#1 else 0#1 := by decide
theorem cmpi_eq16 : ∀ a b : Fin 16, IntOp.cmpi .eq (BitVec.ofNat 32 a.val) (BitVec.ofNat 32 b.val) = if a = b then 1#1 else 0#1 := by decide

theorem v51_apply (r : Fin 16384) (e : Fin 16) :
    val_main_v51 (F := Ideal) x0 x1 x2 x3 x4 (ix2 r e) = masked (biased x0 x1 x2 x3 x4 r) (group x0 x1 x2 x3 x4 r) e := by
  unfold masked
  rw [val_main_v51_apply, v50_apply, cmpi_eq4, v40_apply]
  split
  · rfl
  · exact ofBits_ninf

/-- A token's two experts, in order. -/
def expert (r : Fin 16384) (p : Fin 16) : Fin 16 := order (masked (biased x0 x1 x2 x3 x4 r) (group x0 x1 x2 x3 x4 r)) p

theorem expert_apply (r : Fin 16384) (j : Fin 2) :
    val_main_indices_11 (F := Ideal) x0 x1 x2 x3 x4 (ix2 r j) = BitVec.ofNat 32 (expert x0 x1 x2 x3 x4 r ⟨j.val, by omega⟩).val := by
  have hl : masked (biased x0 x1 x2 x3 x4 r) (group x0 x1 x2 x3 x4 r) = fun e => val_main_v51 (F := Ideal) x0 x1 x2 x3 x4 (ix2 r e) := funext fun e => (v51_apply x0 x1 x2 x3 x4 r e).symm
  unfold expert
  rw [hl]
  unfold val_main_indices_11
  exact topK2_idx _ r _ _ j rfl

theorem clamp16 : ∀ p : Fin 16, min (BitVec.ofNat 32 p.val).toInt.toNat 15 + 0 + 0 = p.val := by decide

abbrev D : GatherDims S16384x16 S16384x2x1 S16384x2 := gather_S16384x16_S16384x2x1_S16384x2_n_1_0_0_1_2_11

/-- Entry `p` of the row, at the start index `p`. -/
theorem gather_at (x : Vec Ideal S16384x16 .f32) (idx : IVec S16384x2x1 32) (r : Fin 16384) (j : Fin 2) (p : Fin 16)
    (h : idx (ix3 r j 0) = BitVec.ofNat 32 p.val) :
    Host.gather D x idx (ix2 r j) = x (ix2 r p) := by
  unfold Host.gather
  refine congrArg x (funext fun a => Fin.ext ?_)
  match a with
  | ⟨0, _⟩ =>
    show D.start (ix2 r j) idx (0 : Fin 2) + D.batchCoord (ix2 r j) (0 : Fin 2) + D.offCoord (ix2 r j) (0 : Fin 2) = r.val
    rw [GatherDims.start_batching _ _ _ _ (by decide), GatherDims.offCoord_eq_zero _ _ _ (by decide)]
    unfold GatherDims.batchCoord
    rw [dif_pos (by decide)]
    show 0 + _ + 0 = _
    rw [Nat.zero_add, Nat.add_zero]
    rfl
  | ⟨1, _⟩ =>
    show D.start (ix2 r j) idx (1 : Fin 2) + D.batchCoord (ix2 r j) (1 : Fin 2) + D.offCoord (ix2 r j) (1 : Fin 2) = p.val
    rw [GatherDims.batchCoord_eq_zero _ _ _ (by decide), GatherDims.offCoord_eq_zero _ _ _ (by decide)]
    unfold GatherDims.start
    rw [dif_pos (by decide)]
    have hi : D.siIdx (ix2 r j) ⟨D.startIndexMap.idxOf (1 : Fin 2), List.idxOf_lt_length_iff.2 (by decide)⟩ = ix3 r j 0 := by
      refine funext fun b => Fin.ext ?_
      match b with
      | ⟨0, _⟩ => rfl
      | ⟨1, _⟩ => rfl
      | ⟨2, _⟩ => rfl
    rw [hi, h]
    show min (BitVec.ofNat 32 p.val).toInt.toNat 15 + 0 + 0 = p.val
    exact clamp16 p

theorem signed16 : ∀ p : Fin 16, Scalar.select (IntOp.cmpi .slt (BitVec.ofNat 32 p.val) 0#32) (IntOp.addi (BitVec.ofNat 32 p.val) 16#32) (BitVec.ofNat 32 p.val) = BitVec.ofNat 32 p.val := by decide
theorem inside16 : ∀ p : Fin 16, IntOp.andi (IntOp.cmpi .sge (BitVec.ofNat 32 p.val) 0#32) (IntOp.cmpi .sle (BitVec.ofNat 32 p.val) 15#32) = 1#1 := by decide

theorem start_apply (r : Fin 16384) (j : Fin 2) :
    val_main_call2_v5 (F := Ideal) x0 x1 x2 x3 x4 (ix3 r j 0) = BitVec.ofNat 32 (expert x0 x1 x2 x3 x4 r ⟨j.val, by omega⟩).val := by
  refine Eq.trans ?_ (signed16 _)
  rw [← expert_apply]
  generalize h : val_main_indices_11 (F := Ideal) x0 x1 x2 x3 x4 = N
  pointwise [val_main_call2_v5, val_main_call2_v4, val_main_call2_v3, val_main_call2_v2, val_main_call2_v1, val_main_call2_v0, val_main_call2_c, val_main_call2_c_0, h]

theorem inside_apply (r : Fin 16384) (j : Fin 2) :
    val_main_call2_v12 (F := Ideal) x0 x1 x2 x3 x4 (ix2 r j) = 1#1 := by
  have e := start_apply x0 x1 x2 x3 x4 r j
  generalize h : val_main_call2_v5 (F := Ideal) x0 x1 x2 x3 x4 = N at e
  pointwise [val_main_call2_v12, val_main_call2_v11, val_main_call2_v10, val_main_call2_v9, val_main_call2_v8, val_main_call2_v7, val_main_call2_v6, val_main_call2_c_1, val_main_call2_c_2, val_main_call2_c_3, h]
  rw [show (Finset.univ : Finset (Fin 1)) = {0} from rfl, Finset.fold_singleton, e, inside16]
  rfl

theorem v52_apply (r : Fin 16384) (j : Fin 2) :
    val_main_v52 (F := Ideal) x0 x1 x2 x3 x4 (ix2 r j) = scores x0 x1 x2 x3 r (expert x0 x1 x2 x3 x4 r ⟨j.val, by omega⟩) := by
  rw [val_main_v52_apply, inside_apply]
  show val_main_call2_v13 (F := Ideal) x0 x1 x2 x3 x4 (ix2 r j) = _
  unfold val_main_call2_v13
  rw [gather_at _ _ r j _ (start_apply x0 x1 x2 x3 x4 r j), v37_apply]

theorem v61_apply (r : Fin 16384) (e : Fin 16) :
    val_main_v61 (F := Ideal) x0 x1 x2 x3 x4 (ix2 r e)
      = (FloatOps.uitofp (F := Ideal) .f32 (IntOp.cmpi .eq (val_main_indices_11 (F := Ideal) x0 x1 x2 x3 x4 (ix2 r 0)) (BitVec.ofNat 32 e.val)) : EReal)
          * Ideal.div (val_main_v52 (F := Ideal) x0 x1 x2 x3 x4 (ix2 r 0)) (val_main_v52 (F := Ideal) x0 x1 x2 x3 x4 (ix2 r 0) + val_main_v52 (F := Ideal) x0 x1 x2 x3 x4 (ix2 r 1))
        + (FloatOps.uitofp (F := Ideal) .f32 (IntOp.cmpi .eq (val_main_indices_11 (F := Ideal) x0 x1 x2 x3 x4 (ix2 r 1)) (BitVec.ofNat 32 e.val)) : EReal)
          * Ideal.div (val_main_v52 (F := Ideal) x0 x1 x2 x3 x4 (ix2 r 1)) (val_main_v52 (F := Ideal) x0 x1 x2 x3 x4 (ix2 r 0) + val_main_v52 (F := Ideal) x0 x1 x2 x3 x4 (ix2 r 1)) := by
  generalize h : val_main_indices_11 (F := Ideal) x0 x1 x2 x3 x4 = N
  generalize h' : val_main_v52 (F := Ideal) x0 x1 x2 x3 x4 = M
  pointwise [val_main_v61, val_main_v60, val_main_v59, val_main_v58, val_main_v57, val_main_v56, val_main_v55, val_main_v54, val_main_v53, val_main_cst_12, val_main_cst_13, val_main_call3_v0, val_main_call3_v1, val_main_call3_v2, val_main_call3_v3, val_main_call3_v4, h, h']
  simp only [Fin.sum_univ_two]

theorem flag (a b : Fin 16) : (FloatOps.uitofp (F := Ideal) .f32 (IntOp.cmpi .eq (BitVec.ofNat 32 a.val) (BitVec.ofNat 32 b.val)) : EReal) = if a = b then 1 else 0 := by
  rw [cmpi_eq16]
  split
  · show (((1#1 : BitVec 1).toNat : ℝ) : EReal) = 1
    simp
  · show (((0#1 : BitVec 1).toNat : ℝ) : EReal) = 0
    simp

/-- The weights the reference gives the experts are those of the chosen two. -/
theorem chosen (H : Given x1 x2 x3) : Chosen x0 x1 x2 x3 x4 (fun r e => val_main_v61 (F := Ideal) x0 x1 x2 x3 x4 (ix2 r e)) := by
  intro r
  obtain ⟨s, hs, pos⟩ := scores_real x0 H r
  obtain ⟨a, b, P, hA, hB⟩ := picks_of_masked (biased x0 x1 x2 x3 x4 r) (group x0 x1 x2 x3 x4 r)
    (order_first _ 0 rfl) (expert x0 x1 x2 x3 x4 r 0) (expert x0 x1 x2 x3 x4 r 1) (order_ne _ 0 1 (by decide)) (order_first _ 0 rfl) (order_second _ 0 1 rfl rfl)
  refine ⟨s, group x0 x1 x2 x3 x4 r, a, b, hs, pos, P, fun e => ?_⟩
  have h0 : expert x0 x1 x2 x3 x4 r ⟨(0 : Fin 2).val, by decide⟩ = at16 (group x0 x1 x2 x3 x4 r) a := hA
  have h1 : expert x0 x1 x2 x3 x4 r ⟨(1 : Fin 2).val, by decide⟩ = at16 (group x0 x1 x2 x3 x4 r) b := hB
  have hne : at16 (group x0 x1 x2 x3 x4 r) a ≠ at16 (group x0 x1 x2 x3 x4 r) b := by
    rw [← hA, ← hB]; exact order_ne _ 0 1 (by decide)
  have hz : s (at16 (group x0 x1 x2 x3 x4 r) a) + s (at16 (group x0 x1 x2 x3 x4 r) b) ≠ 0 := (add_pos (pos _) (pos _)).ne'
  show val_main_v61 (F := Ideal) x0 x1 x2 x3 x4 (ix2 r e) = _
  rw [v61_apply]
  simp only [expert_apply, v52_apply, h0, h1, hs, flag, ← EReal.coe_add, Ideal.div_coe hz, ← EReal.coe_mul]
  unfold weight
  by_cases ea : e = at16 (group x0 x1 x2 x3 x4 r) a
  · subst ea
    rw [if_pos rfl, if_neg hne.symm, if_pos (.inl rfl), one_mul, zero_mul, add_zero]
  · by_cases eb : e = at16 (group x0 x1 x2 x3 x4 r) b
    · subst eb
      rw [if_pos rfl, if_neg hne, if_pos (.inr rfl), one_mul, zero_mul, zero_add]
    · rw [if_neg (Ne.symm ea), if_neg (Ne.symm eb), if_neg (by rintro (h | h); exacts [ea h, eb h]), zero_mul, zero_mul, add_zero]
      rfl

end Cert.ExpertsReferenceIdeal.Moe

end
-- ==== Proof.MoeRefC.lean ====
/-
  The experts' reference: the experts' outputs, weighted, and the last norm.
-/
module

public import proofs.«01_k».proof.Proof.MoeRefA
public import Idealize.ShloMosaic.Lib.TwoAxisContraction

@[expose] public section

noncomputable section

namespace Cert.ExpertsReferenceIdeal.Moe

open Cert.ExpertsReferenceIdeal Cert.ExpertsReferenceIdeal.Gen Cert.ExpertsReferenceIdeal.Read Idealize.ShloMosaic Cert.Soft Cert.Route Cert.Moe

variable (x0 : Vec Ideal S4x4096x1024 .f32) (x1 : Vec Ideal S4x1x6144 .f32) (x2 : Vec Ideal S1024 .f32)
  (x3 : Vec Ideal S1024x16 .f32) (x4 : Vec Ideal S16 .f32) (x5 x6 : Vec Ideal S16x1024x256 .f32) (x7 : Vec Ideal S16x256x1024 .f32) (x8 : Vec Ideal S1024 .f32)

theorem v65_apply (r : Fin 16384) (e : Fin 16) (f : Fin 256) :
    val_main_v65 (F := Ideal) x0 x1 x2 x5 x6 (ix3 r e f)
      = Cert.Moe.hidden (Cert.Moe.inner x0 x1 x2 r) (fun d f => x5 (ix3 e d f)) (fun d f => x6 (ix3 e d f)) f := by
  have hl : Cert.Moe.inner x0 x1 x2 r = fun e => val_main_v25 (F := Ideal) x0 x1 x2 (ix2 r e) := funext fun e => (v25_apply x0 x1 x2 r e).symm
  rw [hl]
  unfold Cert.Moe.hidden
  generalize h : val_main_v25 (F := Ideal) x0 x1 x2 = N
  pointwise [val_main_v65, val_main_v64, val_main_v63, val_main_v62, val_main_call4_v0, val_main_call4_v1, val_main_call4_v2, val_main_call4_v3, val_main_call4_v4, val_main_call4_v5, val_main_call4_cst, val_main_call4_cst_0, h]
  rfl

theorem v68_apply (r : Fin 16384) (e : Fin 16) (f : Fin 256) :
    val_main_v68 (F := Ideal) x0 x1 x2 x3 x4 x5 x6 (ix3 r e f)
      = val_main_v65 (F := Ideal) x0 x1 x2 x5 x6 (ix3 r e f) * val_main_v61 (F := Ideal) x0 x1 x2 x3 x4 (ix2 r e) := by
  generalize h : val_main_v65 (F := Ideal) x0 x1 x2 x5 x6 = N
  generalize h' : val_main_v61 (F := Ideal) x0 x1 x2 x3 x4 = M
  pointwise [val_main_v68, val_main_v67, val_main_v66, h, h']

theorem v69_apply (r : Fin 16384) (d : Fin 1024) :
    val_main_v69 (F := Ideal) x0 x1 x2 x3 x4 x5 x6 x7 (ix2 r d)
      = ∑ e : Fin 16, ∑ f : Fin 256, val_main_v68 (F := Ideal) x0 x1 x2 x3 x4 x5 x6 (ix3 r e f) * x7 (ix3 e f d) := by
  generalize h : val_main_v68 (F := Ideal) x0 x1 x2 x3 x4 x5 x6 = N
  pointwise [val_main_v69, h]

theorem v73_apply (r : Fin 16384) (d : Fin 1024) :
    val_main_v73 (F := Ideal) x0 x1 x2 x3 x4 x5 x6 x7 (ix3 (batch r) (place r) d)
      = row x0 r d + Cert.Moe.part x1 5 r d * val_main_v69 (F := Ideal) x0 x1 x2 x3 x4 x5 x6 x7 (ix2 r d) := by
  generalize h : val_main_v69 (F := Ideal) x0 x1 x2 x3 x4 x5 x6 x7 = N
  pointwise [val_main_v73, val_main_v72, val_main_v71, val_main_v70, val_main_v5, h]
  unfold row Cert.Moe.part
  have hr : (⟨(batch r).val * 4096 + (place r).val, by have := (batch r).isLt; have := (place r).isLt; omega⟩ : Fin 16384) = r :=
    Fin.ext (by show r.val / 4096 * 4096 + r.val % 4096 = r.val; omega)
  rw [hr]
  rfl

theorem v87_apply (r : Fin 16384) (d : Fin 1024) :
    val_main_v87 (F := Ideal) x0 x1 x2 x3 x4 x5 x6 x7 x8 (ix2 r d)
      = norm (fun i => val_main_v73 (F := Ideal) x0 x1 x2 x3 x4 x5 x6 x7 (ix3 (batch r) (place r) i)) d * x8 (ix1 d) := by
  generalize h : val_main_v73 (F := Ideal) x0 x1 x2 x3 x4 x5 x6 x7 = N
  pointwise [val_main_v87, val_main_v86, val_main_v85, val_main_v84, val_main_v83, val_main_v82, val_main_v81, val_main_v80, val_main_v79, val_main_v78, val_main_v77, val_main_v76, val_main_v75, val_main_v74, val_main_cst_14, val_main_cst_15, val_main_cst_16, h]
  rfl

/-- The reference's result, at an element. -/
theorem result_apply (r : Fin 16384) (d : Fin 1024) :
    val_main_v87 (F := Ideal) x0 x1 x2 x3 x4 x5 x6 x7 x8 (ix2 r d)
      = token x0 x1 x2 x5 x6 x7 x8 r (fun e => val_main_v61 (F := Ideal) x0 x1 x2 x3 x4 (ix2 r e)) d := by
  rw [v87_apply]
  unfold token last mixed
  simp only [v73_apply, v69_apply, v68_apply, v65_apply]

end Cert.ExpertsReferenceIdeal.Moe

end
-- ==== Proof.MoeClaim.lean ====
/-
  The experts' claims.
-/
module

public import proofs.«01_k».proof.Defs
public import proofs.«01_k».proof.Proof.MoeRun
public import proofs.«01_k».proof.Proof.MoeRefB
public import proofs.«01_k».proof.Proof.MoeRefC
public import proofs.«01_k».proof.Proof.Finite
public import proofs.«01_k».proof.Proof.Gen.Pre_finite_router
public import Idealize.ShloMosaic.Lib.Claim

@[expose] public section

noncomputable section

namespace Cert.MoeClaim

open Idealize.ShloMosaic Idealize.ShloMosaic.TcCoe Idealize.SL.Sem
open Cert.ExpertsIdeal.Moe (argH argM argG argW argB)

/-- The precondition gives the real numbers the scores are made of. -/
theorem given (m : (ℓ : Loc Cert.ExpertsIdeal.nD Cert.ExpertsIdeal.τ Cert.ExpertsIdeal.sig) → Buf (Elt Ideal) ℓ)
    (hm : Cert.Pre_ExpertsIdeal_finite_router m) (c : Dev Cert.ExpertsIdeal.nD) : Cert.Moe.Given (argM m c) (argG m c) (argW m c) := by
  have h := congrFun (hm c) (fun a => a.elim0)
  dsimp only [Cert.Pre_finite_router.fn] at h
  obtain ⟨h2, hw⟩ := IntOp.andi_eq_one.1 h
  obtain ⟨hd, hg⟩ := IntOp.andi_eq_one.1 h2
  have rd := Cert.Finite.real_of_all _ _ _ (fun _ => rfl) _ _ _ hd
  have rg := Cert.Finite.real_of_all _ _ _ (fun _ => rfl) _ _ _ hg
  have rw' := Cert.Finite.real_of_all _ _ _ (fun _ => rfl) _ _ _ hw
  refine ⟨fun b d hlo hhi => ?_, fun d => rg _, fun d e => rw' _⟩
  obtain ⟨r, hr⟩ := rd (ix3 b 0 ⟨d.val - 3072, by omega⟩)
  refine ⟨r, Eq.trans ?_ hr⟩
  refine congrArg (argM m c) (funext fun a => Fin.ext ?_)
  match a with
  | ⟨0, _⟩ => exact (Nat.zero_add _).symm
  | ⟨1, _⟩ => rfl
  | ⟨2, _⟩ => show d.val = 3072 + (d.val - 3072); omega

theorem frame_reference : Cert.quiescent_ExpertsReferenceIdeal := fun m ρ _ =>
  (θ_run _ _ _).mono (fun r h => ⟨fun c => (h c).2, sem_eq_zero_of_no_sems (by decide) r.2⟩) (Cert.ExpertsReferenceIdeal.Value.run (F := Ideal) m ρ)

theorem algebraic : Cert.algebraic_ExpertsIdeal_ExpertsReferenceIdeal_pre_finite_router := by
  intro m g m' g' hpre hagree
  have H := given m hpre
  refine ⟨fun c => Cert.ExpertsIdeal.Moe.result m c
      (fun r e => Cert.ExpertsReferenceIdeal.Read.val_main_v61 (F := Ideal) (argH m c) (argM m c) (argG m c) (argW m c) (argB m c) (ix2 r e)),
    Cert.ExpertsIdeal.Moe.run m g _ H (fun c => Cert.ExpertsReferenceIdeal.Moe.chosen _ _ _ _ _ (H c)), ?_⟩
  refine (θ_run _ _ _).mono (fun r h c => ⟨(h c).1.trans ?_, (h c).2⟩) (Cert.ExpertsReferenceIdeal.Value.run (F := Ideal) m' g')
  rw [Cert.ExpertsReferenceIdeal.Read.val_main_v87_eq]
  obtain ⟨ha0, ha1, ha2, ha3, ha4, ha5, ha6, ha7, ha8⟩ := hagree c
  simp only [StableHlo.launchContents_devRef, ha0, ha1, ha2, ha3, ha4, ha5, ha6, ha7, ha8]
  refine funext fun y => ?_
  have hy : y = ix2 (y 0) (y 1) := by
    refine funext fun a => ?_
    match a with
    | ⟨0, _⟩ => rfl
    | ⟨1, _⟩ => rfl
  refine (congrArg _ hy).trans ?_
  exact Cert.ExpertsReferenceIdeal.Moe.result_apply _ _ _ _ _ _ _ _ _ (y 0) (y 1)

end Cert.MoeClaim
-- ==== Proof.ProjSpec.lean ====
/-
  One token through the projections, over the extended reals: the shifted norm, a head's norm and rotation.
-/
module

public import proofs.«01_k».proof.Proof.MoeSpec

@[expose] public section

noncomputable section

namespace Cert.Proj

open Idealize.ShloMosaic

/-- The number of entries of a head. -/
def sixtyFour : EReal := Ideal.ofBits .f32 0x42800000#32

/-- A head over the root of its mean square, with a gain. -/
def headNorm (x g : Fin 64 → EReal) (e : Fin 64) : EReal :=
  x e * Ideal.rsqrt (Ideal.div (∑ i, x i * x i) sixtyFour + Cert.Moe.small) * g e

/-- The quarters of a head swapped by pairs, the first of each negated. -/
def turned (y : Fin 64 → EReal) (e : Fin 64) : EReal :=
  if h : e.val < 16 then -y ⟨e.val + 16, by omega⟩
  else if h : e.val < 32 then y ⟨e.val - 16, by omega⟩
  else if h : e.val < 48 then -y ⟨e.val + 16, by omega⟩
  else y ⟨e.val - 16, by omega⟩

/-- A head rotated by a place's angles. -/
def rope (y cos sin : Fin 64 → EReal) (e : Fin 64) : EReal := y e * cos e + turned y e * sin e

/-- The same as four quarters in a row are read, -/
theorem turned_neg (y : Fin 64 → EReal) (e : Fin 64) :
    (if h : e.val < 16 then -y ⟨16 + e.val, by omega⟩
      else if h : e.val - 16 < 16 then y ⟨e.val - 16, by omega⟩
      else if h : e.val - 16 - 16 < 16 then -y ⟨48 + (e.val - 16 - 16), by omega⟩
      else y ⟨32 + (e.val - 16 - 16 - 16), by omega⟩) = turned y e := by
  unfold turned
  split_ifs <;> first
    | omega
    | exact congrArg (fun i => -y i) (Fin.ext (by first | omega | (dsimp only; omega) | rfl))
    | exact congrArg y (Fin.ext (by first | omega | (dsimp only; omega) | rfl))

/-- and with the negation as a difference from zero. -/
theorem turned_sub (y : Fin 64 → EReal) (e : Fin 64) :
    (if h : e.val < 16 then 0 - y ⟨16 + e.val, by omega⟩
      else if h : e.val - 16 < 16 then y ⟨e.val - 16, by omega⟩
      else if h : e.val - 16 - 16 < 16 then 0 - y ⟨48 + (e.val - 16 - 16), by omega⟩
      else y ⟨32 + (e.val - 16 - 16 - 16), by omega⟩) = turned y e := by
  rw [← turned_neg]
  simp only [zero_sub]

theorem turned_mul (y : Fin 64 → EReal) (s : EReal) (e : Fin 64) : turned (fun i => y i * s) e = turned y e * s := by
  unfold turned
  split_ifs <;> simp [EReal.neg_mul]

/-- A positive scale passes through the rotation. -/
theorem rope_mul (y cos sin : Fin 64 → EReal) (s : ℝ) (hs : 0 ≤ s) (e : Fin 64) :
    rope (fun i => y i * (s : EReal)) cos sin e = rope y cos sin e * (s : EReal) := by
  unfold rope
  rw [turned_mul, EReal.right_distrib_of_nonneg_of_ne_top (EReal.coe_nonneg.2 hs) (EReal.coe_ne_top s),
    mul_right_comm, mul_right_comm (turned y e)]

theorem headNorm_mul (x g : Fin 64 → EReal) (s : EReal) (e : Fin 64) :
    headNorm x (fun i => g i * s) e = headNorm x g e * s := by
  unfold headNorm; rw [mul_assoc _ (g e) s]

/-- The scale of the queries. -/
def scale : EReal := Ideal.div (Ideal.ofBits .f32 0x3E000000#32) (Ideal.log (Ideal.ofBits .f32 0x40000000#32))

theorem scale_real : ∃ s : ℝ, 0 ≤ s ∧ scale = (s : EReal) := by
  have h2 : Ideal.ofBits .f32 0x40000000#32 = ((2 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have pos : 0 < Real.log 2 := Real.log_pos (by norm_num)
  refine ⟨1 / 8 * (1 / Real.log 2), by positivity, ?_⟩
  unfold scale
  rw [h2, h8, hl, Ideal.div_coe pos.ne', ← EReal.coe_mul]

section Arrays
variable (h : Vec Ideal ⟨3, ![4, 4096, 1024]⟩ .f32) (md : Vec Ideal ⟨3, ![4, 1, 6144]⟩ .f32) (g : Vec Ideal ⟨1, ![1024]⟩ .f32)
  (w : Vec Ideal ⟨2, ![1024, 4608]⟩ .f32) (qg kg : Vec Ideal ⟨1, ![64]⟩ .f32) (cos sin : Vec Ideal ⟨2, ![4096, 64]⟩ .f32)

/-- The token's row, normed and shifted, -/
def inner (r : Fin 16384) (d : Fin 1024) : EReal :=
  Cert.Moe.shifted (Cert.Moe.row h r) (fun d => g (ix1 d)) (Cert.Moe.part md 1 r) (Cert.Moe.part md 0 r) d
/-- its projection, column by column, -/
def proj (r : Fin 16384) (j : Fin 4608) : EReal := ∑ d, inner h md g r d * w (ix2 d j)
/-- a head's query, normed, rotated and scaled, -/
def query (r : Fin 16384) (a : Fin 16) (e : Fin 64) : EReal :=
  rope (headNorm (fun e => proj h md g w r ⟨a.val * 64 + e.val, by omega⟩) (fun e => qg (ix1 e)))
    (fun e => cos (ix2 (Cert.Moe.place r) e)) (fun e => sin (ix2 (Cert.Moe.place r) e)) e * scale
/-- a head's key, normed and rotated, -/
def key (r : Fin 16384) (a : Fin 4) (e : Fin 64) : EReal :=
  rope (headNorm (fun e => proj h md g w r ⟨1024 + (a.val * 64 + e.val), by omega⟩) (fun e => kg (ix1 e)))
    (fun e => cos (ix2 (Cert.Moe.place r) e)) (fun e => sin (ix2 (Cert.Moe.place r) e)) e
/-- a head's value, over ones, -/
def value (r : Fin 16384) (a : Fin 4) (e : Fin 80) : EReal :=
  if h' : e.val < 64 then proj h md g w r ⟨1280 + (a.val * 64 + e.val), by omega⟩ else 1
/-- the gated part, -/
def gated (r : Fin 16384) (j : Fin 512) : EReal :=
  proj h md g w r ⟨1536 + j.val, by omega⟩ * Ideal.logistic (proj h md g w r ⟨2048 + j.val, by omega⟩)
/-- and the gates. -/
def gate (r : Fin 16384) (j : Fin 2048) : EReal := Ideal.logistic (proj h md g w r ⟨2560 + j.val, by omega⟩)

end Arrays

end Cert.Proj

end
-- ==== Proof.ProjTok.lean ====
/-
  The projections' kernel's body at an element.
-/
module

public import proofs.«01_k».proof.Proof.ProjSpec
public import proofs.«01_k».proof.Proof.Gen.ProjectionsIdeal.Skeleton
public import Idealize.ShloMosaic.Lib.Pointwise

@[expose] public section

noncomputable section

namespace Cert.ProjectionsIdeal.Proj

open Cert.ProjectionsIdeal Cert.ProjectionsIdeal.Gen Idealize.ShloMosaic

theorem pay2_apply (x0 : Vec Ideal S256x1024 .f32) (x1 : Vec Ideal S1x1x6144 .f32) (x2 : Vec Ideal S1x1024 .f32) (n : Fin 256) (d : Fin 1024) :
    (k0_pay2 x0 x1 x2 : FVec Ideal S256x1024 .bf16) (ix2 n d) = Cert.Moe.shifted (fun i => x0 (ix2 n i)) (fun i => x2 (ix2 (0 : Fin 1) i))
      (fun i => x1 (ix3 (0 : Fin 1) (0 : Fin 1) (⟨1024 + i.val, by omega⟩ : Fin 6144)))
      (fun i => x1 (ix3 (0 : Fin 1) (0 : Fin 1) (⟨0 + i.val, by omega⟩ : Fin 6144))) d := by
  pointwise [k0_pay2]
  rfl

theorem pay3_apply (x0 : Vec Ideal S256x1024 .f32) (x1 : Vec Ideal S1x1x6144 .f32) (x2 : Vec Ideal S1x1024 .f32) (w : Vec Ideal S1024x1024 .bf16) (a : Fin 16) (e : Fin 64) (n : Fin 256) :
    (k0_pay3 x0 x1 x2 w : FVec Ideal S16x64x256 .f32) (ix3 a e n) = ∑ d, w (ix2 (⟨a.val * 64 + e.val, by omega⟩ : Fin 1024) d) * (k0_pay2 x0 x1 x2 : FVec Ideal S256x1024 .bf16) (ix2 n d) := by
  generalize hu : (k0_pay2 x0 x1 x2 : FVec Ideal S256x1024 .bf16) = u
  pointwise [k0_pay3, hu]

theorem pay5_apply (x0 : Vec Ideal S256x1024 .f32) (x1 : Vec Ideal S1x1x6144 .f32) (x2 : Vec Ideal S1x1024 .f32) (w : Vec Ideal S1024x1024 .bf16) (a : Fin 16) (n : Fin 256) :
    (k0_pay5 x0 x1 x2 w : FVec Ideal S16x1x256 .f32) (ix3 a (0 : Fin 1) n) = Ideal.div (∑ e, k0_pay3 x0 x1 x2 w (ix3 a e n) * k0_pay3 x0 x1 x2 w (ix3 a e n)) Cert.Proj.sixtyFour := by
  generalize hu : (k0_pay3 x0 x1 x2 w : FVec Ideal S16x64x256 .f32) = u
  pointwise [k0_pay5, hu]
  rfl

theorem pay7_apply (X : FVec Ideal S16x64x256 .f32) (g : Vec Ideal S64x256 .f32) (v : FVec Ideal S16x1x256 .f32) (cos sin : Vec Ideal S64x256 .f32) (a : Fin 16) (e : Fin 64) (n : Fin 256) :
    (k0_pay7 X (k0_pay4 g) v k0_pay6 cos sin : FVec Ideal S1x16x64x256 .bf16) (ix4 (0 : Fin 1) a e n)
      = Cert.Proj.rope (fun e => X (ix3 a e n) * Ideal.rsqrt (v (ix3 a (0 : Fin 1) n) + Cert.Moe.small) * g (ix2 e n))
        (fun e => cos (ix2 e n)) (fun e => sin (ix2 e n)) e := by
  pointwise [k0_pay7, k0_pay4, k0_pay6]
  exact congrArg (fun z => X (ix3 a e n) * Ideal.rsqrt (v (ix3 a (0 : Fin 1) n) + Cert.Moe.small) * g (ix2 e n) * cos (ix2 e n) + z * sin (ix2 e n))
    (Cert.Proj.turned_sub (fun e => X (ix3 a e n) * Ideal.rsqrt (v (ix3 a (0 : Fin 1) n) + Cert.Moe.small) * g (ix2 e n)) e)

theorem pay8_apply (u : FVec Ideal S256x1024 .bf16) (w : Vec Ideal S256x1024 .bf16) (a : Fin 4) (e : Fin 64) (n : Fin 256) :
    (k0_pay8 u w : FVec Ideal S4x64x256 .f32) (ix3 a e n) = ∑ d, w (ix2 (⟨a.val * 64 + e.val, by omega⟩ : Fin 256) d) * u (ix2 n d) := by
  pointwise [k0_pay8]

theorem pay10_apply (u : FVec Ideal S256x1024 .bf16) (w : Vec Ideal S256x1024 .bf16) (a : Fin 4) (n : Fin 256) :
    (k0_pay10 u w : FVec Ideal S4x1x256 .f32) (ix3 a (0 : Fin 1) n) = Ideal.div (∑ e, k0_pay8 u w (ix3 a e n) * k0_pay8 u w (ix3 a e n)) Cert.Proj.sixtyFour := by
  generalize hu : (k0_pay8 u w : FVec Ideal S4x64x256 .f32) = x
  pointwise [k0_pay10, hu]
  rfl

/-- The key's heads before they are laid side by side. -/
theorem pay11_parts (X : FVec Ideal S4x64x256 .f32) (g : Vec Ideal S64x256 .f32) (v : FVec Ideal S4x1x256 .f32) (cos sin : Vec Ideal S64x256 .f32) :
    ∃ Z : FVec Ideal S4x64x256 .f32,
      (k0_pay11 X (k0_pay9 g) v cos sin : FVec Ideal S256x256 .bf16)
        = truncf .bf16 (transpose S256x256 [1, 0] (shapeCast S256x256 Z shapeCasts_S4x64x256_S256x256) transposes_S256x256_p1_0_S256x256) bitsLt_bf16_f32
      ∧ ∀ (a : Fin 4) (e : Fin 64) (n : Fin 256), Z (ix3 a e n)
        = Cert.Proj.rope (fun e => X (ix3 a e n) * Ideal.rsqrt (v (ix3 a (0 : Fin 1) n) + Cert.Moe.small) * g (ix2 e n))
          (fun e => cos (ix2 e n)) (fun e => sin (ix2 e n)) e := by
  refine ⟨_, rfl, fun a e n => ?_⟩
  pointwise [k0_pay9]
  exact congrArg (fun z => X (ix3 a e n) * Ideal.rsqrt (v (ix3 a (0 : Fin 1) n) + Cert.Moe.small) * g (ix2 e n) * cos (ix2 e n) + z * sin (ix2 e n))
    (Cert.Proj.turned_sub (fun e => X (ix3 a e n) * Ideal.rsqrt (v (ix3 a (0 : Fin 1) n) + Cert.Moe.small) * g (ix2 e n)) e)

theorem pay11_apply (X : FVec Ideal S4x64x256 .f32) (g : Vec Ideal S64x256 .f32) (v : FVec Ideal S4x1x256 .f32) (cos sin : Vec Ideal S64x256 .f32) (a : Fin 4) (e : Fin 64) (n : Fin 256) :
    (k0_pay11 X (k0_pay9 g) v cos sin : FVec Ideal S256x256 .bf16) (ix2 n (⟨a.val * 64 + e.val, by omega⟩ : Fin 256))
      = Cert.Proj.rope (fun e => X (ix3 a e n) * Ideal.rsqrt (v (ix3 a (0 : Fin 1) n) + Cert.Moe.small) * g (ix2 e n))
        (fun e => cos (ix2 e n)) (fun e => sin (ix2 e n)) e := by
  obtain ⟨Z, hZ, hZa⟩ := pay11_parts X g v cos sin
  rw [hZ, ← hZa]
  pointwise

theorem pay17_apply (u : FVec Ideal S256x1024 .bf16) (w : Vec Ideal S256x1024 .bf16) (a : Fin 4) (e : Fin 64) (n : Fin 256) :
    (k0_pay17 u w : FVec Ideal S1x4x1x64x256 .bf16) (ix5 (0 : Fin 1) a (0 : Fin 1) e n) = ∑ d, w (ix2 (⟨a.val * 64 + e.val, by omega⟩ : Fin 256) d) * u (ix2 n d) := by
  pointwise [k0_pay17]

theorem pay18_apply (a : Fin 4) (e : Fin 16) (n : Fin 256) :
    (k0_pay18 : FVec Ideal S1x4x1x16x256 .bf16) (ix5 (0 : Fin 1) a (0 : Fin 1) e n) = 1 := by
  pointwise [k0_pay18]

theorem pay19_apply (u : FVec Ideal S256x1024 .bf16) (w : Vec Ideal S1024x1024 .bf16) (n : Fin 256) (j : Fin 512) :
    (k0_pay19 u w : FVec Ideal S1x256x512 .bf16) (ix3 (0 : Fin 1) n j)
      = (∑ d, u (ix2 n d) * w (ix2 d (⟨0 + j.val, by omega⟩ : Fin 1024))) * Ideal.logistic (∑ d, u (ix2 n d) * w (ix2 d (⟨512 + j.val, by omega⟩ : Fin 1024))) := by
  pointwise [k0_pay19]

theorem pay1_apply (u : FVec Ideal S256x1024 .bf16) (w : Vec Ideal S1024x2048 .bf16) (n : Fin 256) (j : Fin 2048) :
    (k0_pay1 u w : FVec Ideal S256x2048 .bf16) (ix2 n j) = Ideal.logistic (∑ d, u (ix2 n d) * w (ix2 d j)) := by
  pointwise [k0_pay1]

/-- One of the key's four heads cut out of the four side by side. -/
theorem pay12_apply (X : FVec Ideal S4x64x256 .f32) (g : FVec Ideal S64x256 .f32) (v : FVec Ideal S4x1x256 .f32) (cos sin : Vec Ideal S64x256 .f32) (e : Fin 64) (n : Fin 256) :
    (k0_pay12 X g v cos sin : FVec Ideal S1x1x256x64 .bf16) (ix4 (0 : Fin 1) (0 : Fin 1) n e) = (k0_pay11 X g v cos sin : FVec Ideal S256x256 .bf16) (ix2 n (⟨0 * 64 + e.val, by omega⟩ : Fin 256)) := by
  generalize hx : (k0_pay11 X g v cos sin : FVec Ideal S256x256 .bf16) = x
  pointwise [k0_pay12, hx]
theorem pay13_apply (X : FVec Ideal S4x64x256 .f32) (g : FVec Ideal S64x256 .f32) (v : FVec Ideal S4x1x256 .f32) (cos sin : Vec Ideal S64x256 .f32) (e : Fin 64) (n : Fin 256) :
    (k0_pay13 X g v cos sin : FVec Ideal S1x1x256x64 .bf16) (ix4 (0 : Fin 1) (0 : Fin 1) n e) = (k0_pay11 X g v cos sin : FVec Ideal S256x256 .bf16) (ix2 n (⟨1 * 64 + e.val, by omega⟩ : Fin 256)) := by
  generalize hx : (k0_pay11 X g v cos sin : FVec Ideal S256x256 .bf16) = x
  pointwise [k0_pay13, hx]
theorem pay15_apply (X : FVec Ideal S4x64x256 .f32) (g : FVec Ideal S64x256 .f32) (v : FVec Ideal S4x1x256 .f32) (cos sin : Vec Ideal S64x256 .f32) (e : Fin 64) (n : Fin 256) :
    (k0_pay15 (k0_pay14 X g v cos sin) : FVec Ideal S1x1x256x64 .bf16) (ix4 (0 : Fin 1) (0 : Fin 1) n e) = (k0_pay11 X g v cos sin : FVec Ideal S256x256 .bf16) (ix2 n (⟨2 * 64 + e.val, by omega⟩ : Fin 256)) := by
  generalize hx : (k0_pay11 X g v cos sin : FVec Ideal S256x256 .bf16) = x
  pointwise [k0_pay15, k0_pay14, hx]
theorem pay16_apply (x : FVec Ideal S256x256 .bf16) (e : Fin 64) (n : Fin 256) :
    (k0_pay16 x : FVec Ideal S1x1x256x64 .bf16) (ix4 (0 : Fin 1) (0 : Fin 1) n e) = x (ix2 n (⟨3 * 64 + e.val, by omega⟩ : Fin 256)) := by
  pointwise [k0_pay16]

end Cert.ProjectionsIdeal.Proj

end
-- ==== Proof.ProjBody.lean ====
/-
  What the projections' kernel's body leaves at one grid point, from the blocks it reads.
-/
module

public import proofs.«01_k».proof.Proof.ProjTok
public import proofs.«01_k».proof.Proof.Gen.ProjectionsIdeal.Frame
public import Idealize.ShloMosaic.Lib.Pipeline.Value
public import Idealize.ShloMosaic.Lib.Pipeline.ReadBack
public import Idealize.ShloMosaic.Lib.VecWindow

@[expose] public section

noncomputable section

namespace Cert.ProjectionsIdeal.Proj

open Cert.ProjectionsIdeal Cert.ProjectionsIdeal.Gen Idealize.ShloMosaic

theorem load_whole {s : Shape} {e : EltTy} (M : Memref sig .tc .vmem s e) (h : M.IsWhole) (x : Vec Ideal s e) {off : Fin s.rank → ℕ} (inb) :
    View.readAt (Elt Ideal) M.view (Rect.unit off s.size inb).toLoadRect (h.unread x) = x := by
  rw [View.readAt_full]; exact h.read_unread x

theorem load_part {s : Shape} {e : EltTy} (M : Memref sig .tc .vmem s e) (h : M.IsWhole) (x : Vec Ideal s e) (r : Rect s) :
    View.readAt (Elt Ideal) M.view r.toLoadRect (h.unread x) = View.ld x r := by
  rw [View.readAt_eq_ld]; exact congrArg (fun x => View.ld x r) (h.read_unread x)

/-- Part of an array's rows and columns, at an element. -/
theorem ld_apply {e : EltTy} {N M p q : ℕ} (X : Vec Ideal ⟨2, ![N, M]⟩ e) (o k : ℕ) (inb) (i : Fin p) (j : Fin q) (hi : o + i.val < N) (hj : k + j.val < M) :
    (View.ld X (Rect.unit (s := ⟨2, ![N, M]⟩) ![o, k] (⟨2, ![p, q]⟩ : Shape).size inb) : Vec Ideal ⟨2, ![p, q]⟩ e) (ix2 i j)
      = X (ix2 ⟨o + i.val, hi⟩ ⟨k + j.val, hj⟩) := by
  rw [View.ld_unit]
  refine congrArg X (funext fun a => Fin.ext ?_)
  match a with
  | ⟨0, _⟩ => rfl
  | ⟨1, _⟩ => rfl

section Pure
variable (x0 : Vec Ideal S256x1024 .f32) (x1 : Vec Ideal S1x1x6144 .f32) (x2 : Vec Ideal S1x1024 .f32) (x3 : Vec Ideal S1536x1024 .bf16) (x4 : Vec Ideal S1024x3072 .bf16) (x5 : Vec Ideal S64x256 .f32) (x6 : Vec Ideal S64x256 .f32) (x7 : Vec Ideal S64x256 .f32) (x8 : Vec Ideal S64x256 .f32)

/-- A token's row, normed and shifted, -/
def U (n : Fin 256) (d : Fin 1024) : EReal :=
  Cert.Moe.shifted (fun i => x0 (ix2 n i)) (fun i => x2 (ix2 (0 : Fin 1) i))
    (fun i => x1 (ix3 (0 : Fin 1) (0 : Fin 1) (⟨1024 + i.val, by omega⟩ : Fin 6144)))
    (fun i => x1 (ix3 (0 : Fin 1) (0 : Fin 1) (⟨0 + i.val, by omega⟩ : Fin 6144))) d
/-- its projection to queries, keys and values, -/
def P (n : Fin 256) (j : Fin 1536) : EReal := ∑ d, U x0 x1 x2 n d * x3 (ix2 j d)
/-- and to the rest. -/
def R (n : Fin 256) (j : Fin 3072) : EReal := ∑ d, U x0 x1 x2 n d * x4 (ix2 d j)

/-- The blocks the body leaves: the queries', -/
def Qe (a : Fin 16) (e : Fin 64) (n : Fin 256) : EReal :=
  Cert.Proj.rope (Cert.Proj.headNorm (fun e => P x0 x1 x2 x3 n ⟨a.val * 64 + e.val, by omega⟩) (fun e => x5 (ix2 e n)))
    (fun e => x7 (ix2 e n)) (fun e => x8 (ix2 e n)) e
/-- the keys', -/
def Ke (a : Fin 4) (e : Fin 64) (n : Fin 256) : EReal :=
  Cert.Proj.rope (Cert.Proj.headNorm (fun e => P x0 x1 x2 x3 n ⟨1024 + (a.val * 64 + e.val), by omega⟩) (fun e => x6 (ix2 e n)))
    (fun e => x7 (ix2 e n)) (fun e => x8 (ix2 e n)) e
/-- the values' over ones, -/
def Ve (a : Fin 4) (e : Fin 80) (n : Fin 256) : EReal :=
  if h : e.val < 64 then P x0 x1 x2 x3 n ⟨1280 + (a.val * 64 + e.val), by omega⟩ else 1
/-- the gated part's -/
def Ae (n : Fin 256) (j : Fin 512) : EReal :=
  R x0 x1 x2 x4 n ⟨j.val, by omega⟩ * Ideal.logistic (R x0 x1 x2 x4 n ⟨512 + j.val, by omega⟩)
/-- and the gates'. -/
def Ge (n : Fin 256) (j : Fin 2048) : EReal := Ideal.logistic (R x0 x1 x2 x4 n ⟨1024 + j.val, by omega⟩)

theorem pay2_U (n : Fin 256) (d : Fin 1024) : (k0_pay2 x0 x1 x2 : FVec Ideal S256x1024 .bf16) (ix2 n d) = U x0 x1 x2 n d := pay2_apply x0 x1 x2 n d

theorem query_eq (inb) (a : Fin 16) (e : Fin 64) (n : Fin 256) :
    (k0_pay7 (k0_pay3 x0 x1 x2 (View.ld x3 (Rect.unit (s := S1536x1024) ![0, 0] S1024x1024.size inb))) (k0_pay4 x5)
        (k0_pay5 x0 x1 x2 (View.ld x3 (Rect.unit (s := S1536x1024) ![0, 0] S1024x1024.size inb))) k0_pay6 x7 x8 : FVec Ideal S1x16x64x256 .bf16)
      (ix4 (0 : Fin 1) a e n) = Qe x0 x1 x2 x3 x5 x7 x8 a e n := by
  have hx : ∀ i : Fin 64, (k0_pay3 x0 x1 x2 (View.ld x3 (Rect.unit (s := S1536x1024) ![0, 0] S1024x1024.size inb)) : FVec Ideal S16x64x256 .f32) (ix3 a i n)
      = P x0 x1 x2 x3 n ⟨a.val * 64 + i.val, by omega⟩ := fun i => by
    rw [pay3_apply]
    refine Finset.sum_congr rfl fun d _ => ?_
    rw [pay2_U, mul_comm]
    refine congrArg (fun z => U x0 x1 x2 n d * z) ((ld_apply x3 0 0 inb _ d (by dsimp only; omega) (by omega)).trans (congrArg₂ (fun i j => x3 (ix2 i j)) (Fin.ext (by dsimp only; omega)) (Fin.ext (by dsimp only; omega))))
  rw [pay7_apply, pay5_apply]
  simp only [hx]
  rfl

theorem key_eq (inb) (a : Fin 4) (e : Fin 64) (n : Fin 256) :
    (k0_pay11 (k0_pay8 (k0_pay2 x0 x1 x2) (View.ld x3 (Rect.unit (s := S1536x1024) ![1024, 0] S256x1024.size inb))) (k0_pay9 x6)
        (k0_pay10 (k0_pay2 x0 x1 x2) (View.ld x3 (Rect.unit (s := S1536x1024) ![1024, 0] S256x1024.size inb))) x7 x8 : FVec Ideal S256x256 .bf16)
      (ix2 n (⟨a.val * 64 + e.val, by omega⟩ : Fin 256)) = Ke x0 x1 x2 x3 x6 x7 x8 a e n := by
  have hx : ∀ i : Fin 64, (k0_pay8 (k0_pay2 x0 x1 x2) (View.ld x3 (Rect.unit (s := S1536x1024) ![1024, 0] S256x1024.size inb)) : FVec Ideal S4x64x256 .f32) (ix3 a i n)
      = P x0 x1 x2 x3 n ⟨1024 + (a.val * 64 + i.val), by omega⟩ := fun i => by
    rw [pay8_apply]
    refine Finset.sum_congr rfl fun d _ => ?_
    rw [pay2_U, mul_comm]
    refine congrArg (fun z => U x0 x1 x2 n d * z) ((ld_apply x3 1024 0 inb _ d (by dsimp only; omega) (by omega)).trans (congrArg (fun j => x3 (ix2 _ j)) (Fin.ext (by dsimp only; omega))))
  rw [pay11_apply, pay10_apply]
  simp only [hx]
  rfl

theorem value_eq (inb) (a : Fin 4) (e : Fin 64) (n : Fin 256) :
    (k0_pay17 (k0_pay2 x0 x1 x2) (View.ld x3 (Rect.unit (s := S1536x1024) ![1280, 0] S256x1024.size inb)) : FVec Ideal S1x4x1x64x256 .bf16)
      (ix5 (0 : Fin 1) a (0 : Fin 1) e n) = P x0 x1 x2 x3 n ⟨1280 + (a.val * 64 + e.val), by omega⟩ := by
  rw [pay17_apply]
  refine Finset.sum_congr rfl fun d _ => ?_
  rw [pay2_U, mul_comm]
  refine congrArg (fun z => U x0 x1 x2 n d * z) ((ld_apply x3 1280 0 inb _ d (by dsimp only; omega) (by omega)).trans (congrArg (fun j => x3 (ix2 _ j)) (Fin.ext (by dsimp only; omega))))

theorem gated_eq (inb) (n : Fin 256) (j : Fin 512) :
    (k0_pay19 (k0_pay2 x0 x1 x2) (View.ld x4 (Rect.unit (s := S1024x3072) ![0, 0] S1024x1024.size inb)) : FVec Ideal S1x256x512 .bf16)
      (ix3 (0 : Fin 1) n j) = Ae x0 x1 x2 x4 n j := by
  have hx : ∀ (k : Fin 1024), (∑ d, (k0_pay2 x0 x1 x2 : FVec Ideal S256x1024 .bf16) (ix2 n d)
        * (View.ld x4 (Rect.unit (s := S1024x3072) ![0, 0] S1024x1024.size inb) : Vec Ideal S1024x1024 .bf16) (ix2 d k))
      = R x0 x1 x2 x4 n ⟨k.val, by omega⟩ := fun k => by
    refine Finset.sum_congr rfl fun d _ => ?_
    rw [pay2_U]
    exact congrArg (fun z => U x0 x1 x2 n d * z) ((ld_apply x4 0 0 inb d k (by omega) (by omega)).trans (congrArg₂ (fun i j => x4 (ix2 i j)) (Fin.ext (by dsimp only; omega)) (Fin.ext (by dsimp only; omega))))
  rw [pay19_apply, hx, hx]
  unfold Ae
  exact congrArg (fun i => R x0 x1 x2 x4 n i * _) (Fin.ext (Nat.zero_add _))

theorem gate_eq (inb) (n : Fin 256) (j : Fin 2048) :
    (k0_pay1 (k0_pay2 x0 x1 x2) (View.ld x4 (Rect.unit (s := S1024x3072) ![0, 1024] S1024x2048.size inb)) : FVec Ideal S256x2048 .bf16)
      (ix2 n j) = Ge x0 x1 x2 x4 n j := by
  rw [pay1_apply]
  refine congrArg Ideal.logistic (Finset.sum_congr rfl fun d _ => ?_)
  rw [pay2_U]
  exact congrArg (fun z => U x0 x1 x2 n d * z) ((ld_apply x4 0 1024 inb d j (by omega) (by omega)).trans (congrArg (fun i => x4 (ix2 i _)) (Fin.ext (by dsimp only; omega))))
end Pure

section Run
variable (c : Dev nD) (i : grid0.Coords) (arg2 : Memref sig .tc .vmem S256x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1536x1024 .bf16) (harg5 : arg5.IsWhole) (arg6 : Memref sig .tc .vmem S1024x3072 .bf16) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S1x16x64x256 .bf16) (harg11 : arg11.IsWhole) (arg12 : Memref sig .tc .vmem S1x4x256x64 .bf16) (harg12 : arg12.IsWhole) (arg13 : Memref sig .tc .vmem S1x4x1x80x256 .bf16) (harg13 : arg13.IsWhole) (arg14 : Memref sig .tc .vmem S1x256x512 .bf16) (harg14 : arg14.IsWhole) (arg15 : Memref sig .tc .vmem S256x2048 .bf16) (harg15 : arg15.IsWhole)
  (x0 : Vec Ideal S256x1024 .f32) (x1 : Vec Ideal S1x1x6144 .f32) (x2 : Vec Ideal S1x1024 .f32) (x3 : Vec Ideal S1536x1024 .bf16) (x4 : Vec Ideal S1024x3072 .bf16) (x5 : Vec Ideal S64x256 .f32) (x6 : Vec Ideal S64x256 .f32) (x7 : Vec Ideal S64x256 .f32) (x8 : Vec Ideal S64x256 .f32)

theorem r_eq : (kernelRun0_A.sl.r c arg2 harg2 arg3 harg3 arg4 harg4 x0 x1 x2) = k0_pay2 x0 x1 x2 := by
  unfold kernelRun0_A.sl.r; rw [load_whole, load_whole, load_whole]
theorem r_1_eq : (kernelRun0_A.sl.r_1 c arg2 harg2 arg3 harg3 arg4 harg4 arg5 harg5 x0 x1 x2 x3) = k0_pay3 x0 x1 x2 (View.ld x3 (Rect.unit (s := S1536x1024) ![0, 0] S1024x1024.size inb_S1536x1024_S1024x1024_0_0)) := by
  unfold kernelRun0_A.sl.r_1; rw [load_whole, load_whole, load_whole, load_part]
theorem r_2_eq : (kernelRun0_A.sl.r_2 c arg7 harg7 x5) = k0_pay4 x5 := by
  unfold kernelRun0_A.sl.r_2; rw [load_whole]
theorem r_3_eq : (kernelRun0_A.sl.r_3 c arg2 harg2 arg3 harg3 arg4 harg4 arg5 harg5 x0 x1 x2 x3) = k0_pay5 x0 x1 x2 (View.ld x3 (Rect.unit (s := S1536x1024) ![0, 0] S1024x1024.size inb_S1536x1024_S1024x1024_0_0)) := by
  unfold kernelRun0_A.sl.r_3; rw [load_whole, load_whole, load_whole, load_part]
theorem r_4_eq : (kernelRun0_A.sl.r_4 c arg2 harg2 arg3 harg3 arg4 harg4 arg5 harg5 x0 x1 x2 x3) = k0_pay8 (k0_pay2 x0 x1 x2) (View.ld x3 (Rect.unit (s := S1536x1024) ![1024, 0] S256x1024.size inb_S1536x1024_S256x1024_1024_0)) := by
  unfold kernelRun0_A.sl.r_4; rw [r_eq, load_part]
theorem r_5_eq : (kernelRun0_A.sl.r_5 c arg8 harg8 x6) = k0_pay9 x6 := by
  unfold kernelRun0_A.sl.r_5; rw [load_whole]
theorem r_6_eq : (kernelRun0_A.sl.r_6 c arg2 harg2 arg3 harg3 arg4 harg4 arg5 harg5 x0 x1 x2 x3) = k0_pay10 (k0_pay2 x0 x1 x2) (View.ld x3 (Rect.unit (s := S1536x1024) ![1024, 0] S256x1024.size inb_S1536x1024_S256x1024_1024_0)) := by
  unfold kernelRun0_A.sl.r_6; rw [r_eq, load_part]
theorem r_7_eq : (kernelRun0_A.sl.r_7 c arg2 harg2 arg3 harg3 arg4 harg4 arg5 harg5 arg8 harg8 arg9 harg9 arg10 harg10 x0 x1 x2 x3 x6 x7 x8) = k0_pay11 (kernelRun0_A.sl.r_4 c arg2 harg2 arg3 harg3 arg4 harg4 arg5 harg5 x0 x1 x2 x3) (kernelRun0_A.sl.r_5 c arg8 harg8 x6) (kernelRun0_A.sl.r_6 c arg2 harg2 arg3 harg3 arg4 harg4 arg5 harg5 x0 x1 x2 x3) x7 x8 := by
  unfold kernelRun0_A.sl.r_7; rw [load_whole, load_whole]
theorem r_8_eq : (kernelRun0_A.sl.r_8 c arg2 harg2 arg3 harg3 arg4 harg4 arg5 harg5 arg8 harg8 arg9 harg9 arg10 harg10 x0 x1 x2 x3 x6 x7 x8) = k0_pay14 (kernelRun0_A.sl.r_4 c arg2 harg2 arg3 harg3 arg4 harg4 arg5 harg5 x0 x1 x2 x3) (kernelRun0_A.sl.r_5 c arg8 harg8 x6) (kernelRun0_A.sl.r_6 c arg2 harg2 arg3 harg3 arg4 harg4 arg5 harg5 x0 x1 x2 x3) x7 x8 := by
  unfold kernelRun0_A.sl.r_8; rw [load_whole, load_whole]

theorem out9_apply (a : Fin 16) (e : Fin 64) (n : Fin 256) : out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix4 (0 : Fin 1) a e n) = Qe x0 x1 x2 x3 x5 x7 x8 a e n := by
  unfold out0_A_9 kernelRun0_A
  dsimp only
  rw [View.read_writes_full, r_1_eq, r_2_eq, r_3_eq, load_whole, load_whole]
  exact query_eq ..

theorem out12_apply (n : Fin 256) (j : Fin 512) : out0_A_12 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 (0 : Fin 1) n j) = Ae x0 x1 x2 x4 n j := by
  unfold out0_A_12 kernelRun0_A
  dsimp only
  rw [View.read_writes_full, r_eq, load_part]
  exact gated_eq ..

theorem out13_apply (n : Fin 256) (j : Fin 2048) : out0_A_13 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix2 n j) = Ge x0 x1 x2 x4 n j := by
  unfold out0_A_13 kernelRun0_A
  dsimp only
  rw [View.read_writes_full, r_eq, load_part]
  exact gate_eq ..

theorem key_piece (W : FVec Ideal S1x1x256x64 .bf16) (a : Fin 4) (o : ℕ) (ho : o = a.val) (inb)
    (hW : ∀ n e, W (ix4 (0 : Fin 1) (0 : Fin 1) n e) = Ke x0 x1 x2 x3 x6 x7 x8 a e n)
    (z : (Rect.unit (s := S1x4x256x64) ![0, o, 0, 0] S1x1x256x64.size inb).shape.Idx) :
    W z = (fun y : S1x4x256x64.Idx => Ke x0 x1 x2 x3 x6 x7 x8 (y 1) (y 3) (y 2)) ((Rect.unit (s := S1x4x256x64) ![0, o, 0, 0] S1x1x256x64.size inb).emb z) := by
  subst ho
  have h0 : (z 0).val < 1 := (z 0).isLt
  have h1 : (z 1).val < 1 := (z 1).isLt
  have h2 : (z 2).val < 256 := (z 2).isLt
  have h3 : (z 3).val < 64 := (z 3).isLt
  have hz : (z : S1x1x256x64.Idx) = ix4 (0 : Fin 1) (0 : Fin 1) (⟨(z 2).val, h2⟩ : Fin 256) (⟨(z 3).val, h3⟩ : Fin 64) := by
    refine funext fun a => Fin.ext ?_
    match a with
    | ⟨0, _⟩ => show (z 0).val = 0; omega
    | ⟨1, _⟩ => show (z 1).val = 0; omega
    | ⟨2, _⟩ => rfl
    | ⟨3, _⟩ => rfl
  refine (congrArg W hz).trans ((hW _ _).trans ?_)
  exact congr (congrArg₂ (Ke x0 x1 x2 x3 x6 x7 x8) (Fin.ext (by show a.val = a.val + 1 * (z 1).val; omega)) (Fin.ext (by show (z 3).val = 0 + 1 * (z 3).val; omega)))
    (Fin.ext (by show (z 2).val = 0 + 1 * (z 2).val; omega))

theorem out10_apply (y : S1x4x256x64.Idx) : out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = Ke x0 x1 x2 x3 x6 x7 x8 (y 1) (y 3) (y 2) := by
  unfold out0_A_10
  rw [View.read_writes_junk_apply_eq_canon]
  refine View.canon_apply_of_pieces (Val := Elt Ideal) (e := .bf16) (fun y : S1x4x256x64.Idx => Ke x0 x1 x2 x3 x6 x7 x8 (y 1) (y 3) (y 2)) _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y)
  intro p hp
  unfold kernelRun0_A at hp
  dsimp only at hp
  simp only [List.mem_cons, List.not_mem_nil, or_false] at hp
  rcases hp with rfl | rfl | rfl | rfl
  · exact key_piece x0 x1 x2 x3 x6 x7 x8 _ 3 3 rfl inb_S1x4x256x64_S1x1x256x64_0_3_0_0 (fun n e => by
      dsimp only; rw [pay16_apply, r_7_eq, r_4_eq, r_5_eq, r_6_eq]; exact key_eq x0 x1 x2 x3 x6 x7 x8 _ 3 e n)
  · exact key_piece x0 x1 x2 x3 x6 x7 x8 _ 2 2 rfl inb_S1x4x256x64_S1x1x256x64_0_2_0_0 (fun n e => by
      dsimp only; rw [r_8_eq, pay15_apply, r_4_eq, r_5_eq, r_6_eq]; exact key_eq x0 x1 x2 x3 x6 x7 x8 _ 2 e n)
  · exact key_piece x0 x1 x2 x3 x6 x7 x8 _ 1 1 rfl inb_S1x4x256x64_S1x1x256x64_0_1_0_0 (fun n e => by
      dsimp only; rw [pay13_apply, r_4_eq, r_5_eq, r_6_eq, load_whole, load_whole]; exact key_eq x0 x1 x2 x3 x6 x7 x8 _ 1 e n)
  · exact key_piece x0 x1 x2 x3 x6 x7 x8 _ 0 0 rfl inb_S1x4x256x64_S1x1x256x64_0_0_0_0 (fun n e => by
      dsimp only; rw [pay12_apply, r_4_eq, r_5_eq, r_6_eq, load_whole, load_whole]; exact key_eq x0 x1 x2 x3 x6 x7 x8 _ 0 e n)

theorem out10_ix (a : Fin 4) (n : Fin 256) (e : Fin 64) : out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix4 (0 : Fin 1) a n e) = Ke x0 x1 x2 x3 x6 x7 x8 a e n :=
  out10_apply c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 _

theorem value_piece {k : ℕ} (W : FVec Ideal ⟨5, ![1, 4, 1, k, 256]⟩ .bf16) (o : ℕ) (inb) (hk : o + k ≤ 80)
    (hW : ∀ (a : Fin 4) (e : Fin k) n, W (ix5 (0 : Fin 1) a (0 : Fin 1) e n) = Ve x0 x1 x2 x3 a ⟨o + e.val, by omega⟩ n)
    (z : (Rect.unit (s := S1x4x1x80x256) ![0, 0, 0, o, 0] (⟨5, ![1, 4, 1, k, 256]⟩ : Shape).size inb).shape.Idx) :
    W z = (fun y : S1x4x1x80x256.Idx => Ve x0 x1 x2 x3 (y 1) (y 3) (y 4)) ((Rect.unit (s := S1x4x1x80x256) ![0, 0, 0, o, 0] (⟨5, ![1, 4, 1, k, 256]⟩ : Shape).size inb).emb z) := by
  have h0 : (z 0).val < 1 := (z 0).isLt
  have h1 : (z 1).val < 4 := (z 1).isLt
  have h2 : (z 2).val < 1 := (z 2).isLt
  have h3 : (z 3).val < k := (z 3).isLt
  have h4 : (z 4).val < 256 := (z 4).isLt
  have hz : z = (ix5 (0 : Fin 1) (⟨(z 1).val, h1⟩ : Fin 4) (0 : Fin 1) (⟨(z 3).val, h3⟩ : Fin k) (⟨(z 4).val, h4⟩ : Fin 256) : (⟨5, ![1, 4, 1, k, 256]⟩ : Shape).Idx) := by
    refine funext fun a => Fin.ext ?_
    match a with
    | ⟨0, _⟩ => show (z 0).val = 0; omega
    | ⟨1, _⟩ => rfl
    | ⟨2, _⟩ => show (z 2).val = 0; omega
    | ⟨3, _⟩ => rfl
    | ⟨4, _⟩ => rfl
  refine (congrArg W hz).trans ((hW _ _ _).trans ?_)
  exact congr (congrArg₂ (Ve x0 x1 x2 x3) (Fin.ext (by show (z 1).val = 0 + 1 * (z 1).val; omega)) (Fin.ext (by show o + (z 3).val = o + 1 * (z 3).val; omega)))
    (Fin.ext (by show (z 4).val = 0 + 1 * (z 4).val; omega))

theorem out11_apply (y : S1x4x1x80x256.Idx) : out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y = Ve x0 x1 x2 x3 (y 1) (y 3) (y 4) := by
  unfold out0_A_11
  rw [View.read_writes_junk_apply_eq_canon]
  refine View.canon_apply_of_pieces (Val := Elt Ideal) (e := .bf16) (fun y : S1x4x1x80x256.Idx => Ve x0 x1 x2 x3 (y 1) (y 3) (y 4)) _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 y)
  intro p hp
  unfold kernelRun0_A at hp
  dsimp only at hp
  simp only [List.mem_cons, List.not_mem_nil, or_false] at hp
  rcases hp with rfl | rfl
  · refine value_piece (k := 16) x0 x1 x2 x3 _ 64 inb_S1x4x1x80x256_S1x4x1x16x256_0_0_0_64_0 (by omega) (fun a e n => ?_)
    dsimp only; rw [pay18_apply]; unfold Ve; rw [dif_neg (by dsimp only; omega)]
  · refine value_piece (k := 64) x0 x1 x2 x3 _ 0 inb_S1x4x1x80x256_S1x4x1x64x256_0_0_0_0_0 (by omega) (fun a e n => ?_)
    dsimp only; rw [r_eq, load_part]; refine (value_eq ..).trans ?_; unfold Ve; rw [dif_pos (by dsimp only; omega)]
    exact congrArg (P x0 x1 x2 x3 n) (Fin.ext (by dsimp only; omega))

theorem out11_ix (a : Fin 4) (e : Fin 80) (n : Fin 256) : out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix5 (0 : Fin 1) a (0 : Fin 1) e n) = Ve x0 x1 x2 x3 a e n :=
  out11_apply c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 _
end Run

end Cert.ProjectionsIdeal.Proj

end
-- ==== Proof.ProjEntry.lean ====
/-
  The projections' kernel's arrays at an element in terms of the arguments, and its blocks.
-/
module

public import proofs.«01_k».proof.Proof.ProjBody
public import Idealize.ShloMosaic.Lib.StableHlo.ReadAt

@[expose] public section

noncomputable section

namespace Cert.ProjectionsIdeal.Proj

open Cert.ProjectionsIdeal Cert.ProjectionsIdeal.Gen Idealize.ShloMosaic Idealize.ShloMosaic.TcCoe Idealize.SL.Sem

variable (m : (ℓ : Loc nD τ sig) → Buf (Elt Ideal) ℓ) (c : Dev nD)

/-- The arguments. -/
abbrev argH : Vec Ideal ⟨3, ![4, 4096, 1024]⟩ .f32 := m ((c : Thread nD τ).loc main_arg0)
abbrev argM : Vec Ideal ⟨3, ![4, 1, 6144]⟩ .f32 := m ((c : Thread nD τ).loc main_arg1)
abbrev argG : Vec Ideal ⟨1, ![1024]⟩ .f32 := m ((c : Thread nD τ).loc main_arg2)
abbrev argW : Vec Ideal ⟨2, ![1024, 4608]⟩ .f32 := m ((c : Thread nD τ).loc main_arg3)
abbrev argQ : Vec Ideal ⟨1, ![64]⟩ .f32 := m ((c : Thread nD τ).loc main_arg4)
abbrev argK : Vec Ideal ⟨1, ![64]⟩ .f32 := m ((c : Thread nD τ).loc main_arg5)
abbrev argC : Vec Ideal ⟨2, ![4096, 64]⟩ .f32 := m ((c : Thread nD τ).loc main_arg6)
abbrev argS : Vec Ideal ⟨2, ![4096, 64]⟩ .f32 := m ((c : Thread nD τ).loc main_arg7)

theorem arr0 (r : Fin 16384) (d : Fin 1024) : (V m c main_v14 : Vec Ideal S16384x1024 .f32) (ix2 r d) = Cert.Moe.row (argH m c) r d := by
  unfold V Cert.Moe.row
  after_reads_at
  rfl
theorem arr1 (b : Fin 4) (d : Fin 6144) : (V m c main_arg1 : Vec Ideal S4x1x6144 .f32) (ix3 b (0 : Fin 1) d) = argM m c (ix3 b (0 : Fin 1) d) := by
  unfold V
  after_reads_at
theorem arr2 (d : Fin 1024) : (V m c main_v2 : Vec Ideal S1x1024 .f32) (ix2 (0 : Fin 1) d) = argG m c (ix1 d) := by
  unfold V
  after_reads_at
theorem arr3 (j : Fin 1536) (d : Fin 1024) : (V m c main_v5 : Vec Ideal S1536x1024 .bf16) (ix2 j d) = argW m c (ix2 d (⟨j.val, by omega⟩ : Fin 4608)) := by
  unfold V
  after_reads_at
theorem arr4 (d : Fin 1024) (j : Fin 3072) : (V m c main_v7 : Vec Ideal S1024x3072 .bf16) (ix2 d j) = argW m c (ix2 d (⟨1536 + j.val, by omega⟩ : Fin 4608)) := by
  unfold V
  after_reads_at
theorem arr5 (e : Fin 64) (n : Fin 256) : (V m c main_v11 : Vec Ideal S64x256 .f32) (ix2 e n) = argQ m c (ix1 e) * Cert.Proj.scale := by
  unfold V
  after_reads_at
  rfl
theorem arr6 (e : Fin 64) (n : Fin 256) : (V m c main_v13 : Vec Ideal S64x256 .f32) (ix2 e n) = argK m c (ix1 e) := by
  unfold V
  after_reads_at
theorem arr7 (e : Fin 64) (p : Fin 4096) : (V m c main_v15 : Vec Ideal S64x4096 .f32) (ix2 e p) = argC m c (ix2 p e) := by
  unfold V
  after_reads_at
theorem arr8 (e : Fin 64) (p : Fin 4096) : (V m c main_v16 : Vec Ideal S64x4096 .f32) (ix2 e p) = argS m c (ix2 p e) := by
  unfold V
  after_reads_at

/-! ## The windows' blocks: point `t` is the tokens from `256 t`, of batch `t / 16` -/

theorem lt64 (t : Fin cfg0.N) : t.val < 64 := lt_of_lt_of_eq t.isLt N_0

abbrev tok (t : Fin cfg0.N) (n : Fin 256) : Fin 16384 := ⟨t.val * 256 + n.val, by have := lt64 t; omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val / 16, 0, 0] :=
  (by decide +kernel : ∀ t : Fin grid0.N, win0_1.index t = ![t.val / 16, 0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])
theorem index6 : ∀ t : Fin cfg0.N, win0_6.index t = ![0, 0] :=
  (by decide +kernel : ∀ t : Fin grid0.N, win0_6.index t = ![0, 0])
theorem index7 : ∀ t : Fin cfg0.N, win0_7.index t = ![0, t.val % 16] :=
  (by decide +kernel : ∀ t : Fin grid0.N, win0_7.index t = ![0, t.val % 16])
theorem index8 : ∀ t : Fin cfg0.N, win0_8.index t = ![0, t.val % 16] :=
  (by decide +kernel : ∀ t : Fin grid0.N, win0_8.index t = ![0, t.val % 16])
theorem index9 : ∀ t : Fin cfg0.N, win0_9.index t = ![t.val / 16, 0, 0, t.val % 16] :=
  (by decide +kernel : ∀ t : Fin grid0.N, win0_9.index t = ![t.val / 16, 0, 0, t.val % 16])
theorem index10 : ∀ t : Fin cfg0.N, win0_10.index t = ![t.val / 16, 0, t.val % 16, 0] :=
  (by decide +kernel : ∀ t : Fin grid0.N, win0_10.index t = ![t.val / 16, 0, t.val % 16, 0])
theorem index11 : ∀ t : Fin cfg0.N, win0_11.index t = ![t.val / 16, 0, t.val % 16, 0, 0] :=
  (by decide +kernel : ∀ t : Fin grid0.N, win0_11.index t = ![t.val / 16, 0, t.val % 16, 0, 0])
theorem index12 : ∀ t : Fin cfg0.N, win0_12.index t = ![t.val / 16, t.val % 16, 0] :=
  (by decide +kernel : ∀ t : Fin grid0.N, win0_12.index t = ![t.val / 16, t.val % 16, 0])
theorem index13 : ∀ t : Fin cfg0.N, win0_13.index t = ![t.val, 0] :=
  (by decide +kernel : ∀ t : Fin grid0.N, win0_13.index t = ![t.val, 0])
theorem blk0 (t : Fin cfg0.N) (i : Fin 256) (j : Fin 1024) :
    (iblk m c 0 t : Vec Ideal S256x1024 .f32) (ix2 i j) = (V m c main_v14 : Vec Ideal S16384x1024 .f32) (ix2 (⟨t.val * 256 + i.val, by have := lt64 t; omega⟩ : Fin 16384) j) := by
  refine congrArg (V m c main_v14) (funext fun a => Fin.ext ((win0_0.rect_emb_val t _ a).trans ?_))
  rw [index0]
  match a with
  | ⟨0, _⟩ => rfl
  | ⟨1, _⟩ => show 0 * 1024 + j.val = j.val; omega
theorem blk1 (t : Fin cfg0.N) (k : Fin 6144) :
    (iblk m c 1 t : Vec Ideal S1x1x6144 .f32) (ix3 (0 : Fin 1) (0 : Fin 1) k) = (V m c main_arg1 : Vec Ideal S4x1x6144 .f32) (ix3 (⟨t.val / 16, by have := lt64 t; omega⟩ : Fin 4) (0 : Fin 1) k) := by
  refine congrArg (V m c main_arg1) (funext fun a => Fin.ext ((win0_1.rect_emb_val t _ a).trans ?_))
  rw [index1]
  match a with
  | ⟨0, _⟩ => show t.val / 16 * 1 + 0 = t.val / 16; omega
  | ⟨1, _⟩ => show 0 * 1 + 0 = 0; rfl
  | ⟨2, _⟩ => show 0 * 6144 + k.val = k.val; omega
theorem blk2 (t : Fin cfg0.N) (j : Fin 1024) :
    (iblk m c 2 t : Vec Ideal S1x1024 .f32) (ix2 (0 : Fin 1) j) = (V m c main_v2 : Vec Ideal S1x1024 .f32) (ix2 (0 : Fin 1) j) := by
  refine congrArg (V m c main_v2) (funext fun a => Fin.ext ((win0_2.rect_emb_val t _ a).trans ?_))
  rw [index2]
  match a with
  | ⟨0, _⟩ => show 0 * 1 + 0 = 0; rfl
  | ⟨1, _⟩ => show 0 * 1024 + j.val = j.val; omega
theorem blk3 (t : Fin cfg0.N) (i : Fin 1536) (j : Fin 1024) :
    (iblk m c 3 t : Vec Ideal S1536x1024 .bf16) (ix2 i j) = (V m c main_v5 : Vec Ideal S1536x1024 .bf16) (ix2 i j) := by
  refine congrArg (V m c main_v5) (funext fun a => Fin.ext ((win0_3.rect_emb_val t _ a).trans ?_))
  rw [index3]
  match a with
  | ⟨0, _⟩ => show 0 * 1536 + i.val = i.val; omega
  | ⟨1, _⟩ => show 0 * 1024 + j.val = j.val; omega
theorem blk4 (t : Fin cfg0.N) (i : Fin 1024) (j : Fin 3072) :
    (iblk m c 4 t : Vec Ideal S1024x3072 .bf16) (ix2 i j) = (V m c main_v7 : Vec Ideal S1024x3072 .bf16) (ix2 i j) := by
  refine congrArg (V m c main_v7) (funext fun a => Fin.ext ((win0_4.rect_emb_val t _ a).trans ?_))
  rw [index4]
  match a with
  | ⟨0, _⟩ => show 0 * 1024 + i.val = i.val; omega
  | ⟨1, _⟩ => show 0 * 3072 + j.val = j.val; omega
theorem blk5 (t : Fin cfg0.N) (i : Fin 64) (j : Fin 256) :
    (iblk m c 5 t : Vec Ideal S64x256 .f32) (ix2 i j) = (V m c main_v11 : Vec Ideal S64x256 .f32) (ix2 i j) := by
  refine congrArg (V m c main_v11) (funext fun a => Fin.ext ((win0_5.rect_emb_val t _ a).trans ?_))
  rw [index5]
  match a with
  | ⟨0, _⟩ => show 0 * 64 + i.val = i.val; omega
  | ⟨1, _⟩ => show 0 * 256 + j.val = j.val; omega
theorem blk6 (t : Fin cfg0.N) (i : Fin 64) (j : Fin 256) :
    (iblk m c 6 t : Vec Ideal S64x256 .f32) (ix2 i j) = (V m c main_v13 : Vec Ideal S64x256 .f32) (ix2 i j) := by
  refine congrArg (V m c main_v13) (funext fun a => Fin.ext ((win0_6.rect_emb_val t _ a).trans ?_))
  rw [index6]
  match a with
  | ⟨0, _⟩ => show 0 * 64 + i.val = i.val; omega
  | ⟨1, _⟩ => show 0 * 256 + j.val = j.val; omega
theorem blk7 (t : Fin cfg0.N) (i : Fin 64) (j : Fin 256) :
    (iblk m c 7 t : Vec Ideal S64x256 .f32) (ix2 i j) = (V m c main_v15 : Vec Ideal S64x4096 .f32) (ix2 i (⟨t.val % 16 * 256 + j.val, by have := lt64 t; omega⟩ : Fin 4096)) := by
  refine congrArg (V m c main_v15) (funext fun a => Fin.ext ((win0_7.rect_emb_val t _ a).trans ?_))
  rw [index7]
  match a with
  | ⟨0, _⟩ => show 0 * 64 + i.val = i.val; omega
  | ⟨1, _⟩ => rfl
theorem blk8 (t : Fin cfg0.N) (i : Fin 64) (j : Fin 256) :
    (iblk m c 8 t : Vec Ideal S64x256 .f32) (ix2 i j) = (V m c main_v16 : Vec Ideal S64x4096 .f32) (ix2 i (⟨t.val % 16 * 256 + j.val, by have := lt64 t; omega⟩ : Fin 4096)) := by
  refine congrArg (V m c main_v16) (funext fun a => Fin.ext ((win0_8.rect_emb_val t _ a).trans ?_))
  rw [index8]
  match a with
  | ⟨0, _⟩ => show 0 * 64 + i.val = i.val; omega
  | ⟨1, _⟩ => rfl

/-! Where an element of a result's block sits in the result. -/
theorem emb9 (t : Fin cfg0.N) (j : Fin 16) (k : Fin 64) (l : Fin 256) :
    ((cfg0.win 9).blk t).view.emb (ix4 (0 : Fin 1) j k l : S1x16x64x256.Idx) = (ix4 (⟨t.val / 16, by have := lt64 t; omega⟩ : Fin 4) j k (⟨t.val % 16 * 256 + l.val, by have := lt64 t; omega⟩ : Fin 4096) : S4x16x64x4096.Idx) := by
  refine funext fun a => Fin.ext ((win0_9.rect_emb_val t _ a).trans ?_)
  rw [index9]
  match a with
  | ⟨0, _⟩ => show t.val / 16 * 1 + 0 = t.val / 16; omega
  | ⟨1, _⟩ => show 0 * 16 + j.val = j.val; omega
  | ⟨2, _⟩ => show 0 * 64 + k.val = k.val; omega
  | ⟨3, _⟩ => rfl
theorem emb10 (t : Fin cfg0.N) (j : Fin 4) (k : Fin 256) (l : Fin 64) :
    ((cfg0.win 10).blk t).view.emb (ix4 (0 : Fin 1) j k l : S1x4x256x64.Idx) = (ix4 (⟨t.val / 16, by have := lt64 t; omega⟩ : Fin 4) j (⟨t.val % 16 * 256 + k.val, by have := lt64 t; omega⟩ : Fin 4096) l : S4x4x4096x64.Idx) := by
  refine funext fun a => Fin.ext ((win0_10.rect_emb_val t _ a).trans ?_)
  rw [index10]
  match a with
  | ⟨0, _⟩ => show t.val / 16 * 1 + 0 = t.val / 16; omega
  | ⟨1, _⟩ => show 0 * 4 + j.val = j.val; omega
  | ⟨2, _⟩ => rfl
  | ⟨3, _⟩ => show 0 * 64 + l.val = l.val; omega
theorem emb11 (t : Fin cfg0.N) (j : Fin 4) (l : Fin 80) (o : Fin 256) :
    ((cfg0.win 11).blk t).view.emb (ix5 (0 : Fin 1) j (0 : Fin 1) l o : S1x4x1x80x256.Idx) = (ix5 (⟨t.val / 16, by have := lt64 t; omega⟩ : Fin 4) j (⟨t.val % 16, by have := lt64 t; omega⟩ : Fin 16) l o : S4x4x16x80x256.Idx) := by
  refine funext fun a => Fin.ext ((win0_11.rect_emb_val t _ a).trans ?_)
  rw [index11]
  match a with
  | ⟨0, _⟩ => show t.val / 16 * 1 + 0 = t.val / 16; omega
  | ⟨1, _⟩ => show 0 * 4 + j.val = j.val; omega
  | ⟨2, _⟩ => show t.val % 16 * 1 + 0 = t.val % 16; omega
  | ⟨3, _⟩ => show 0 * 80 + l.val = l.val; omega
  | ⟨4, _⟩ => show 0 * 256 + o.val = o.val; omega
theorem emb12 (t : Fin cfg0.N) (j : Fin 256) (k : Fin 512) :
    ((cfg0.win 12).blk t).view.emb (ix3 (0 : Fin 1) j k : S1x256x512.Idx) = (ix3 (⟨t.val / 16, by have := lt64 t; omega⟩ : Fin 4) (⟨t.val % 16 * 256 + j.val, by have := lt64 t; omega⟩ : Fin 4096) k : S4x4096x512.Idx) := by
  refine funext fun a => Fin.ext ((win0_12.rect_emb_val t _ a).trans ?_)
  rw [index12]
  match a with
  | ⟨0, _⟩ => show t.val / 16 * 1 + 0 = t.val / 16; omega
  | ⟨1, _⟩ => rfl
  | ⟨2, _⟩ => show 0 * 512 + k.val = k.val; omega
theorem emb13 (t : Fin cfg0.N) (i : Fin 256) (j : Fin 2048) :
    ((cfg0.win 13).blk t).view.emb (ix2 i j : S256x2048.Idx) = (ix2 (⟨t.val * 256 + i.val, by have := lt64 t; omega⟩ : Fin 16384) j : S16384x2048.Idx) := by
  refine funext fun a => Fin.ext ((win0_13.rect_emb_val t _ a).trans ?_)
  rw [index13]
  match a with
  | ⟨0, _⟩ => rfl
  | ⟨1, _⟩ => show 0 * 2048 + j.val = j.val; omega

end Cert.ProjectionsIdeal.Proj

end
-- ==== Proof.ProjRun.lean ====
/-
  The projections' kernel's results.
-/
module

public import proofs.«01_k».proof.Proof.ProjEntry

@[expose] public section

noncomputable section

namespace Cert.ProjectionsIdeal.Proj

open Cert.ProjectionsIdeal Cert.ProjectionsIdeal.Gen Idealize.ShloMosaic Idealize.ShloMosaic.TcCoe Idealize.SL.Sem

variable {m : (ℓ : Loc nD τ sig) → Buf (Elt Ideal) ℓ} {c : Dev nD}

theorem batch_tok (t : Fin cfg0.N) (n : Fin 256) : (⟨t.val / 16, by have := lt64 t; omega⟩ : Fin 4) = Cert.Moe.batch (tok t n) :=
  Fin.ext (by show t.val / 16 = (t.val * 256 + n.val) / 4096; omega)

theorem place_tok (t : Fin cfg0.N) (n : Fin 256) : (⟨t.val % 16 * 256 + n.val, by omega⟩ : Fin 4096) = Cert.Moe.place (tok t n) :=
  Fin.ext (by show t.val % 16 * 256 + n.val = (t.val * 256 + n.val) % 4096; omega)

theorem mod_eq (t : Fin cfg0.N) (n : Fin 256) (k : Fin 6) (o : ℕ) (ho : o = 1024 * k.val) (hlt : ∀ d : Fin 1024, o + d.val < 6144) :
    (fun d : Fin 1024 => (iblk m c 1 t : Vec Ideal S1x1x6144 .f32) (ix3 (0 : Fin 1) (0 : Fin 1) (⟨o + d.val, hlt d⟩ : Fin 6144)))
      = Cert.Moe.part (argM m c) k (tok t n) := by
  subst ho
  refine funext fun d => ?_
  rw [blk1, arr1, batch_tok t n]
  rfl

theorem U_eq (t : Fin cfg0.N) (n : Fin 256) (d : Fin 1024) :
    U (iblk m c 0 t) (iblk m c 1 t) (iblk m c 2 t) n d = Cert.Proj.inner (argH m c) (argM m c) (argG m c) (tok t n) d := by
  unfold U Cert.Proj.inner
  have hr : (fun d : Fin 1024 => (iblk m c 0 t : Vec Ideal S256x1024 .f32) (ix2 n d)) = Cert.Moe.row (argH m c) (tok t n) :=
    funext fun d => (blk0 m c t n d).trans (arr0 m c _ d)
  have hg : (fun i : Fin 1024 => (iblk m c 2 t : Vec Ideal S1x1024 .f32) (ix2 (0 : Fin 1) i)) = fun d => argG m c (ix1 d) :=
    funext fun d => (blk2 m c t d).trans (arr2 m c d)
  rw [hr, hg, mod_eq t n 1 1024 rfl, mod_eq t n 0 0 rfl]

theorem P_eq (t : Fin cfg0.N) (n : Fin 256) (j : Fin 1536) :
    P (iblk m c 0 t) (iblk m c 1 t) (iblk m c 2 t) (iblk m c 3 t) n j
      = Cert.Proj.proj (argH m c) (argM m c) (argG m c) (argW m c) (tok t n) (⟨j.val, by omega⟩ : Fin 4608) := by
  unfold P Cert.Proj.proj
  exact Finset.sum_congr rfl fun d _ => congrArg₂ (fun x y : EReal => x * y) (U_eq t n d) ((blk3 m c t j d).trans (arr3 m c j d))

theorem R_eq (t : Fin cfg0.N) (n : Fin 256) (j : Fin 3072) :
    R (iblk m c 0 t) (iblk m c 1 t) (iblk m c 2 t) (iblk m c 4 t) n j
      = Cert.Proj.proj (argH m c) (argM m c) (argG m c) (argW m c) (tok t n) (⟨1536 + j.val, by omega⟩ : Fin 4608) := by
  unfold R Cert.Proj.proj
  exact Finset.sum_congr rfl fun d _ => congrArg₂ (fun x y : EReal => x * y) (U_eq t n d) ((blk4 m c t d j).trans (arr4 m c d j))

theorem cos_eq (t : Fin cfg0.N) (n : Fin 256) :
    (fun e : Fin 64 => (iblk m c 7 t : Vec Ideal S64x256 .f32) (ix2 e n)) = fun e => argC m c (ix2 (Cert.Moe.place (tok t n)) e) :=
  funext fun e => (blk7 m c t e n).trans ((arr7 m c e _).trans (congrArg (fun p => argC m c (ix2 p e)) (place_tok t n)))

theorem sin_eq (t : Fin cfg0.N) (n : Fin 256) :
    (fun e : Fin 64 => (iblk m c 8 t : Vec Ideal S64x256 .f32) (ix2 e n)) = fun e => argS m c (ix2 (Cert.Moe.place (tok t n)) e) :=
  funext fun e => (blk8 m c t e n).trans ((arr8 m c e _).trans (congrArg (fun p => argS m c (ix2 p e)) (place_tok t n)))

theorem Qe_eq (t : Fin cfg0.N) (a : Fin 16) (e : Fin 64) (n : Fin 256) :
    Qe (iblk m c 0 t) (iblk m c 1 t) (iblk m c 2 t) (iblk m c 3 t) (iblk m c 5 t) (iblk m c 7 t) (iblk m c 8 t) a e n
      = Cert.Proj.query (argH m c) (argM m c) (argG m c) (argW m c) (argQ m c) (argC m c) (argS m c) (tok t n) a e := by
  have hq : (fun e : Fin 64 => (iblk m c 5 t : Vec Ideal S64x256 .f32) (ix2 e n)) = fun e => argQ m c (ix1 e) * Cert.Proj.scale :=
    funext fun e => (blk5 m c t e n).trans (arr5 m c e n)
  obtain ⟨s, hs, hc⟩ := Cert.Proj.scale_real
  unfold Qe Cert.Proj.query
  rw [cos_eq, sin_eq, hq]
  simp only [P_eq]
  rw [hc, ← Cert.Proj.rope_mul _ _ _ s hs]
  exact congrArg (fun f => Cert.Proj.rope f _ _ e) (funext fun e => Cert.Proj.headNorm_mul _ _ _ e)

theorem Ke_eq (t : Fin cfg0.N) (a : Fin 4) (e : Fin 64) (n : Fin 256) :
    Ke (iblk m c 0 t) (iblk m c 1 t) (iblk m c 2 t) (iblk m c 3 t) (iblk m c 6 t) (iblk m c 7 t) (iblk m c 8 t) a e n
      = Cert.Proj.key (argH m c) (argM m c) (argG m c) (argW m c) (argK m c) (argC m c) (argS m c) (tok t n) a e := by
  have hq : (fun e : Fin 64 => (iblk m c 6 t : Vec Ideal S64x256 .f32) (ix2 e n)) = fun e => argK m c (ix1 e) :=
    funext fun e => (blk6 m c t e n).trans (arr6 m c e n)
  unfold Ke Cert.Proj.key
  rw [cos_eq, sin_eq, hq]
  simp only [P_eq]

theorem Ve_eq (t : Fin cfg0.N) (a : Fin 4) (e : Fin 80) (n : Fin 256) :
    Ve (iblk m c 0 t) (iblk m c 1 t) (iblk m c 2 t) (iblk m c 3 t) a e n
      = Cert.Proj.value (argH m c) (argM m c) (argG m c) (argW m c) (tok t n) a e := by
  unfold Ve Cert.Proj.value
  simp only [P_eq]

theorem Ae_eq (t : Fin cfg0.N) (n : Fin 256) (j : Fin 512) :
    Ae (iblk m c 0 t) (iblk m c 1 t) (iblk m c 2 t) (iblk m c 4 t) n j
      = Cert.Proj.gated (argH m c) (argM m c) (argG m c) (argW m c) (tok t n) j := by
  unfold Ae Cert.Proj.gated
  rw [R_eq, R_eq]
  exact congrArg (fun i => _ * Ideal.logistic (Cert.Proj.proj (argH m c) (argM m c) (argG m c) (argW m c) (tok t n) i)) (show (⟨1536 + (512 + j.val), by omega⟩ : Fin 4608) = ⟨2048 + j.val, by omega⟩ from Fin.ext (by dsimp only; omega))

theorem Ge_eq (t : Fin cfg0.N) (n : Fin 256) (j : Fin 2048) :
    Ge (iblk m c 0 t) (iblk m c 1 t) (iblk m c 2 t) (iblk m c 4 t) n j
      = Cert.Proj.gate (argH m c) (argM m c) (argG m c) (argW m c) (tok t n) j := by
  unfold Ge Cert.Proj.gate
  rw [R_eq]
  exact congrArg (fun i => Ideal.logistic (Cert.Proj.proj (argH m c) (argM m c) (argG m c) (argW m c) (tok t n) i)) (show (⟨1536 + (1024 + j.val), by omega⟩ : Fin 4608) = ⟨2560 + j.val, by omega⟩ from Fin.ext (by dsimp only; omega))

/-- Token `p` of batch `b`. -/
abbrev at' (b : Fin 4) (p : Fin 4096) : Fin 16384 := ⟨b.val * 4096 + p.val, by omega⟩

/-- The result arrays: the queries, -/
def result9 (m : (ℓ : Loc nD τ sig) → Buf (Elt Ideal) ℓ) (c : Dev nD) : Vec Ideal S4x16x64x4096 .bf16 := fun y =>
  Cert.Proj.query (argH m c) (argM m c) (argG m c) (argW m c) (argQ m c) (argC m c) (argS m c) (at' (y 0) (y 3)) (y 1) (y 2)
/-- the keys, -/
def result10 (m : (ℓ : Loc nD τ sig) → Buf (Elt Ideal) ℓ) (c : Dev nD) : Vec Ideal S4x4x4096x64 .bf16 := fun y =>
  Cert.Proj.key (argH m c) (argM m c) (argG m c) (argW m c) (argK m c) (argC m c) (argS m c) (at' (y 0) (y 2)) (y 1) (y 3)
/-- the values in blocks of keys, -/
def result11 (m : (ℓ : Loc nD τ sig) → Buf (Elt Ideal) ℓ) (c : Dev nD) : Vec Ideal S4x4x16x80x256 .bf16 := fun y =>
  Cert.Proj.value (argH m c) (argM m c) (argG m c) (argW m c) (at' (y 0) ⟨(y 2).val * 256 + (y 4).val, by
    have h2 : (y 2).val < 16 := (y 2).isLt
    have h4 : (y 4).val < 256 := (y 4).isLt
    omega⟩) (y 1) (y 3)
/-- the gated part -/
def result12 (m : (ℓ : Loc nD τ sig) → Buf (Elt Ideal) ℓ) (c : Dev nD) : Vec Ideal S4x4096x512 .bf16 := fun y =>
  Cert.Proj.gated (argH m c) (argM m c) (argG m c) (argW m c) (at' (y 0) (y 1)) (y 2)
/-- and the gates. -/
def result13 (m : (ℓ : Loc nD τ sig) → Buf (Elt Ideal) ℓ) (c : Dev nD) : Vec Ideal S16384x2048 .bf16 := fun y =>
  Cert.Proj.gate (argH m c) (argM m c) (argG m c) (argW m c) (y 0) (y 1)

theorem at_tok (t : Fin cfg0.N) (n : Fin 256) : tok t n = at' ⟨t.val / 16, by have := lt64 t; omega⟩ ⟨t.val % 16 * 256 + n.val, by omega⟩ :=
  Fin.ext (by show t.val * 256 + n.val = t.val / 16 * 4096 + (t.val % 16 * 256 + n.val); omega)

theorem block9 (t : Fin cfg0.N) (a : Fin 16) (e : Fin 64) (n : Fin 256) :
    (outsAt0 m c t).1 (ix4 (0 : Fin 1) a e n) = result9 m c (ix4 (⟨t.val / 16, by have := lt64 t; omega⟩ : Fin 4) a e (⟨t.val % 16 * 256 + n.val, by have := lt64 t; omega⟩ : Fin 4096)) := by
  unfold outsAt0
  dsimp only
  refine ((out9_apply ..).trans (Qe_eq t a e n)).trans ?_
  exact congrArg (fun r => Cert.Proj.query (argH m c) (argM m c) (argG m c) (argW m c) (argQ m c) (argC m c) (argS m c) r a e) (at_tok t n)

theorem flushed9 (t : Fin cfg0.N) :
    (dats m 0 c).flushed 9 t = (win0_9.blk t).view.read (Elt Ideal) (result9 m c) := by
  show (cfg0.win 9).cut (grid0.coords t) ((dats m 0 c).after 9 t) = _
  rw [after0_9]
  refine funext fun x => ?_
  have hx : (x : S1x16x64x256.Idx) = ix4 (0 : Fin 1) (⟨(x 1).val, (x 1).isLt⟩ : Fin 16) (⟨(x 2).val, (x 2).isLt⟩ : Fin 64) (⟨(x 3).val, (x 3).isLt⟩ : Fin 256) := by
    refine funext fun a => Fin.ext ?_
    match a with
    | ⟨0, _⟩ => have := (x 0).isLt; show (x 0).val = 0; exact Nat.lt_one_iff.1 this
    | ⟨1, _⟩ => rfl
    | ⟨2, _⟩ => rfl
    | ⟨3, _⟩ => rfl
  refine (congrArg (outsAt0 m c t).1 hx).trans ((block9 t _ _ _).trans ?_)
  exact congrArg (result9 m c) ((emb9 t _ _ _).symm.trans (congrArg ((cfg0.win 9).blk t).view.emb hx.symm))

theorem cover9 (y : S4x16x64x4096.Idx) : ∃ t : Fin cfg0.N, (cfg0.win 9).flush t = true ∧ y ∈ ((cfg0.win 9).blk t).view.set := by
  have h0 : (y 0).val < 4 := (y 0).isLt
  have h1 : (y 1).val < 16 := (y 1).isLt
  have h2 : (y 2).val < 64 := (y 2).isLt
  have h3 : (y 3).val < 4096 := (y 3).isLt
  have ht : ((y 0).val * 16 + (y 3).val / 256) < cfg0.N := lt_of_lt_of_eq (by omega) N_0.symm
  have e := emb9 ⟨((y 0).val * 16 + (y 3).val / 256), ht⟩ (⟨(y 1).val, h1⟩ : Fin 16) (⟨(y 2).val, h2⟩ : Fin 64) (⟨(y 3).val % 256, by omega⟩ : Fin 256)
  refine ⟨⟨((y 0).val * 16 + (y 3).val / 256), ht⟩, flush0_9 _, ?_⟩
  have hy : ((cfg0.win 9).blk ⟨((y 0).val * 16 + (y 3).val / 256), ht⟩).view.emb (ix4 (0 : Fin 1) (⟨(y 1).val, h1⟩ : Fin 16) (⟨(y 2).val, h2⟩ : Fin 64) (⟨(y 3).val % 256, by omega⟩ : Fin 256) : S1x16x64x256.Idx) = y := by
    refine e.trans (funext fun a => Fin.ext ?_)
    match a with
    | ⟨0, _⟩ => show ((y 0).val * 16 + (y 3).val / 256) / 16 = (y 0).val; omega
    | ⟨1, _⟩ => rfl
    | ⟨2, _⟩ => rfl
    | ⟨3, _⟩ => show ((y 0).val * 16 + (y 3).val / 256) % 16 * 256 + (y 3).val % 256 = (y 3).val; omega
  have hm := View.emb_mem_set ((cfg0.win 9).blk ⟨((y 0).val * 16 + (y 3).val / 256), ht⟩).view (ix4 (0 : Fin 1) (⟨(y 1).val, h1⟩ : Fin 16) (⟨(y 2).val, h2⟩ : Fin 64) (⟨(y 3).val % 256, by omega⟩ : Fin 256) : S1x16x64x256.Idx)
  rw [hy] at hm
  exact hm

theorem final9 : (dats m 0 c).arrAt 9 cfg0.N = result9 m c :=
  (dats m 0 c).arrAt_eq_of_cover 9 (result9 m c) (fun t _ => flushed9 t) cover9

theorem block10 (t : Fin cfg0.N) (a : Fin 4) (n : Fin 256) (e : Fin 64) :
    (outsAt0 m c t).2.1 (ix4 (0 : Fin 1) a n e) = result10 m c (ix4 (⟨t.val / 16, by have := lt64 t; omega⟩ : Fin 4) a (⟨t.val % 16 * 256 + n.val, by have := lt64 t; omega⟩ : Fin 4096) e) := by
  unfold outsAt0
  dsimp only
  refine ((out10_ix ..).trans (Ke_eq t a e n)).trans ?_
  exact congrArg (fun r => Cert.Proj.key (argH m c) (argM m c) (argG m c) (argW m c) (argK m c) (argC m c) (argS m c) r a e) (at_tok t n)

theorem flushed10 (t : Fin cfg0.N) :
    (dats m 0 c).flushed 10 t = (win0_10.blk t).view.read (Elt Ideal) (result10 m c) := by
  show (cfg0.win 10).cut (grid0.coords t) ((dats m 0 c).after 10 t) = _
  rw [after0_10]
  refine funext fun x => ?_
  have hx : (x : S1x4x256x64.Idx) = ix4 (0 : Fin 1) (⟨(x 1).val, (x 1).isLt⟩ : Fin 4) (⟨(x 2).val, (x 2).isLt⟩ : Fin 256) (⟨(x 3).val, (x 3).isLt⟩ : Fin 64) := by
    refine funext fun a => Fin.ext ?_
    match a with
    | ⟨0, _⟩ => have := (x 0).isLt; show (x 0).val = 0; exact Nat.lt_one_iff.1 this
    | ⟨1, _⟩ => rfl
    | ⟨2, _⟩ => rfl
    | ⟨3, _⟩ => rfl
  refine (congrArg (outsAt0 m c t).2.1 hx).trans ((block10 t _ _ _).trans ?_)
  exact congrArg (result10 m c) ((emb10 t _ _ _).symm.trans (congrArg ((cfg0.win 10).blk t).view.emb hx.symm))

theorem cover10 (y : S4x4x4096x64.Idx) : ∃ t : Fin cfg0.N, (cfg0.win 10).flush t = true ∧ y ∈ ((cfg0.win 10).blk t).view.set := by
  have h0 : (y 0).val < 4 := (y 0).isLt
  have h1 : (y 1).val < 4 := (y 1).isLt
  have h2 : (y 2).val < 4096 := (y 2).isLt
  have h3 : (y 3).val < 64 := (y 3).isLt
  have ht : ((y 0).val * 16 + (y 2).val / 256) < cfg0.N := lt_of_lt_of_eq (by omega) N_0.symm
  have e := emb10 ⟨((y 0).val * 16 + (y 2).val / 256), ht⟩ (⟨(y 1).val, h1⟩ : Fin 4) (⟨(y 2).val % 256, by omega⟩ : Fin 256) (⟨(y 3).val, h3⟩ : Fin 64)
  refine ⟨⟨((y 0).val * 16 + (y 2).val / 256), ht⟩, flush0_10 _, ?_⟩
  have hy : ((cfg0.win 10).blk ⟨((y 0).val * 16 + (y 2).val / 256), ht⟩).view.emb (ix4 (0 : Fin 1) (⟨(y 1).val, h1⟩ : Fin 4) (⟨(y 2).val % 256, by omega⟩ : Fin 256) (⟨(y 3).val, h3⟩ : Fin 64) : S1x4x256x64.Idx) = y := by
    refine e.trans (funext fun a => Fin.ext ?_)
    match a with
    | ⟨0, _⟩ => show ((y 0).val * 16 + (y 2).val / 256) / 16 = (y 0).val; omega
    | ⟨1, _⟩ => rfl
    | ⟨2, _⟩ => show ((y 0).val * 16 + (y 2).val / 256) % 16 * 256 + (y 2).val % 256 = (y 2).val; omega
    | ⟨3, _⟩ => rfl
  have hm := View.emb_mem_set ((cfg0.win 10).blk ⟨((y 0).val * 16 + (y 2).val / 256), ht⟩).view (ix4 (0 : Fin 1) (⟨(y 1).val, h1⟩ : Fin 4) (⟨(y 2).val % 256, by omega⟩ : Fin 256) (⟨(y 3).val, h3⟩ : Fin 64) : S1x4x256x64.Idx)
  rw [hy] at hm
  exact hm

theorem final10 : (dats m 0 c).arrAt 10 cfg0.N = result10 m c :=
  (dats m 0 c).arrAt_eq_of_cover 10 (result10 m c) (fun t _ => flushed10 t) cover10

theorem block11 (t : Fin cfg0.N) (a : Fin 4) (e : Fin 80) (n : Fin 256) :
    (outsAt0 m c t).2.2.1 (ix5 (0 : Fin 1) a (0 : Fin 1) e n) = result11 m c (ix5 (⟨t.val / 16, by have := lt64 t; omega⟩ : Fin 4) a (⟨t.val % 16, by have := lt64 t; omega⟩ : Fin 16) e n) := by
  unfold outsAt0
  dsimp only
  refine ((out11_ix ..).trans (Ve_eq t a e n)).trans ?_
  exact congrArg (fun r => Cert.Proj.value (argH m c) (argM m c) (argG m c) (argW m c) r a e) (at_tok t n)

theorem flushed11 (t : Fin cfg0.N) :
    (dats m 0 c).flushed 11 t = (win0_11.blk t).view.read (Elt Ideal) (result11 m c) := by
  show (cfg0.win 11).cut (grid0.coords t) ((dats m 0 c).after 11 t) = _
  rw [after0_11]
  refine funext fun x => ?_
  have hx : (x : S1x4x1x80x256.Idx) = ix5 (0 : Fin 1) (⟨(x 1).val, (x 1).isLt⟩ : Fin 4) (0 : Fin 1) (⟨(x 3).val, (x 3).isLt⟩ : Fin 80) (⟨(x 4).val, (x 4).isLt⟩ : Fin 256) := by
    refine funext fun a => Fin.ext ?_
    match a with
    | ⟨0, _⟩ => have := (x 0).isLt; show (x 0).val = 0; exact Nat.lt_one_iff.1 this
    | ⟨1, _⟩ => rfl
    | ⟨2, _⟩ => have := (x 2).isLt; show (x 2).val = 0; exact Nat.lt_one_iff.1 this
    | ⟨3, _⟩ => rfl
    | ⟨4, _⟩ => rfl
  refine (congrArg (outsAt0 m c t).2.2.1 hx).trans ((block11 t _ _ _).trans ?_)
  exact congrArg (result11 m c) ((emb11 t _ _ _).symm.trans (congrArg ((cfg0.win 11).blk t).view.emb hx.symm))

theorem cover11 (y : S4x4x16x80x256.Idx) : ∃ t : Fin cfg0.N, (cfg0.win 11).flush t = true ∧ y ∈ ((cfg0.win 11).blk t).view.set := by
  have h0 : (y 0).val < 4 := (y 0).isLt
  have h1 : (y 1).val < 4 := (y 1).isLt
  have h2 : (y 2).val < 16 := (y 2).isLt
  have h3 : (y 3).val < 80 := (y 3).isLt
  have h4 : (y 4).val < 256 := (y 4).isLt
  have ht : ((y 0).val * 16 + (y 2).val) < cfg0.N := lt_of_lt_of_eq (by omega) N_0.symm
  have e := emb11 ⟨((y 0).val * 16 + (y 2).val), ht⟩ (⟨(y 1).val, h1⟩ : Fin 4) (⟨(y 3).val, h3⟩ : Fin 80) (⟨(y 4).val, h4⟩ : Fin 256)
  refine ⟨⟨((y 0).val * 16 + (y 2).val), ht⟩, flush0_11 _, ?_⟩
  have hy : ((cfg0.win 11).blk ⟨((y 0).val * 16 + (y 2).val), ht⟩).view.emb (ix5 (0 : Fin 1) (⟨(y 1).val, h1⟩ : Fin 4) (0 : Fin 1) (⟨(y 3).val, h3⟩ : Fin 80) (⟨(y 4).val, h4⟩ : Fin 256) : S1x4x1x80x256.Idx) = y := by
    refine e.trans (funext fun a => Fin.ext ?_)
    match a with
    | ⟨0, _⟩ => show ((y 0).val * 16 + (y 2).val) / 16 = (y 0).val; omega
    | ⟨1, _⟩ => rfl
    | ⟨2, _⟩ => show ((y 0).val * 16 + (y 2).val) % 16 = (y 2).val; omega
    | ⟨3, _⟩ => rfl
    | ⟨4, _⟩ => rfl
  have hm := View.emb_mem_set ((cfg0.win 11).blk ⟨((y 0).val * 16 + (y 2).val), ht⟩).view (ix5 (0 : Fin 1) (⟨(y 1).val, h1⟩ : Fin 4) (0 : Fin 1) (⟨(y 3).val, h3⟩ : Fin 80) (⟨(y 4).val, h4⟩ : Fin 256) : S1x4x1x80x256.Idx)
  rw [hy] at hm
  exact hm

theorem final11 : (dats m 0 c).arrAt 11 cfg0.N = result11 m c :=
  (dats m 0 c).arrAt_eq_of_cover 11 (result11 m c) (fun t _ => flushed11 t) cover11

theorem block12 (t : Fin cfg0.N) (n : Fin 256) (j : Fin 512) :
    (outsAt0 m c t).2.2.2.1 (ix3 (0 : Fin 1) n j) = result12 m c (ix3 (⟨t.val / 16, by have := lt64 t; omega⟩ : Fin 4) (⟨t.val % 16 * 256 + n.val, by have := lt64 t; omega⟩ : Fin 4096) j) := by
  unfold outsAt0
  dsimp only
  refine ((out12_apply ..).trans (Ae_eq t n j)).trans ?_
  exact congrArg (fun r => Cert.Proj.gated (argH m c) (argM m c) (argG m c) (argW m c) r j) (at_tok t n)

theorem flushed12 (t : Fin cfg0.N) :
    (dats m 0 c).flushed 12 t = (win0_12.blk t).view.read (Elt Ideal) (result12 m c) := by
  show (cfg0.win 12).cut (grid0.coords t) ((dats m 0 c).after 12 t) = _
  rw [after0_12]
  refine funext fun x => ?_
  have hx : (x : S1x256x512.Idx) = ix3 (0 : Fin 1) (⟨(x 1).val, (x 1).isLt⟩ : Fin 256) (⟨(x 2).val, (x 2).isLt⟩ : Fin 512) := by
    refine funext fun a => Fin.ext ?_
    match a with
    | ⟨0, _⟩ => have := (x 0).isLt; show (x 0).val = 0; exact Nat.lt_one_iff.1 this
    | ⟨1, _⟩ => rfl
    | ⟨2, _⟩ => rfl
  refine (congrArg (outsAt0 m c t).2.2.2.1 hx).trans ((block12 t _ _).trans ?_)
  exact congrArg (result12 m c) ((emb12 t _ _).symm.trans (congrArg ((cfg0.win 12).blk t).view.emb hx.symm))

theorem cover12 (y : S4x4096x512.Idx) : ∃ t : Fin cfg0.N, (cfg0.win 12).flush t = true ∧ y ∈ ((cfg0.win 12).blk t).view.set := by
  have h0 : (y 0).val < 4 := (y 0).isLt
  have h1 : (y 1).val < 4096 := (y 1).isLt
  have h2 : (y 2).val < 512 := (y 2).isLt
  have ht : ((y 0).val * 16 + (y 1).val / 256) < cfg0.N := lt_of_lt_of_eq (by omega) N_0.symm
  have e := emb12 ⟨((y 0).val * 16 + (y 1).val / 256), ht⟩ (⟨(y 1).val % 256, by omega⟩ : Fin 256) (⟨(y 2).val, h2⟩ : Fin 512)
  refine ⟨⟨((y 0).val * 16 + (y 1).val / 256), ht⟩, flush0_12 _, ?_⟩
  have hy : ((cfg0.win 12).blk ⟨((y 0).val * 16 + (y 1).val / 256), ht⟩).view.emb (ix3 (0 : Fin 1) (⟨(y 1).val % 256, by omega⟩ : Fin 256) (⟨(y 2).val, h2⟩ : Fin 512) : S1x256x512.Idx) = y := by
    refine e.trans (funext fun a => Fin.ext ?_)
    match a with
    | ⟨0, _⟩ => show ((y 0).val * 16 + (y 1).val / 256) / 16 = (y 0).val; omega
    | ⟨1, _⟩ => show ((y 0).val * 16 + (y 1).val / 256) % 16 * 256 + (y 1).val % 256 = (y 1).val; omega
    | ⟨2, _⟩ => rfl
  have hm := View.emb_mem_set ((cfg0.win 12).blk ⟨((y 0).val * 16 + (y 1).val / 256), ht⟩).view (ix3 (0 : Fin 1) (⟨(y 1).val % 256, by omega⟩ : Fin 256) (⟨(y 2).val, h2⟩ : Fin 512) : S1x256x512.Idx)
  rw [hy] at hm
  exact hm

theorem final12 : (dats m 0 c).arrAt 12 cfg0.N = result12 m c :=
  (dats m 0 c).arrAt_eq_of_cover 12 (result12 m c) (fun t _ => flushed12 t) cover12

theorem block13 (t : Fin cfg0.N) (n : Fin 256) (j : Fin 2048) :
    (outsAt0 m c t).2.2.2.2 (ix2 n j) = result13 m c (ix2 (⟨t.val * 256 + n.val, by have := lt64 t; omega⟩ : Fin 16384) j) := by
  unfold outsAt0
  dsimp only
  refine ((out13_apply ..).trans (Ge_eq t n j)).trans ?_
  exact rfl

theorem flushed13 (t : Fin cfg0.N) :
    (dats m 0 c).flushed 13 t = (win0_13.blk t).view.read (Elt Ideal) (result13 m c) := by
  show (cfg0.win 13).cut (grid0.coords t) ((dats m 0 c).after 13 t) = _
  rw [after0_13]
  refine funext fun x => ?_
  have hx : (x : S256x2048.Idx) = ix2 (⟨(x 0).val, (x 0).isLt⟩ : Fin 256) (⟨(x 1).val, (x 1).isLt⟩ : Fin 2048) := by
    refine funext fun a => Fin.ext ?_
    match a with
    | ⟨0, _⟩ => rfl
    | ⟨1, _⟩ => rfl
  refine (congrArg (outsAt0 m c t).2.2.2.2 hx).trans ((block13 t _ _).trans ?_)
  exact congrArg (result13 m c) ((emb13 t _ _).symm.trans (congrArg ((cfg0.win 13).blk t).view.emb hx.symm))

theorem cover13 (y : S16384x2048.Idx) : ∃ t : Fin cfg0.N, (cfg0.win 13).flush t = true ∧ y ∈ ((cfg0.win 13).blk t).view.set := by
  have h0 : (y 0).val < 16384 := (y 0).isLt
  have h1 : (y 1).val < 2048 := (y 1).isLt
  have ht : ((y 0).val / 256) < cfg0.N := lt_of_lt_of_eq (by omega) N_0.symm
  have e := emb13 ⟨((y 0).val / 256), ht⟩ (⟨(y 0).val % 256, by omega⟩ : Fin 256) (⟨(y 1).val, h1⟩ : Fin 2048)
  refine ⟨⟨((y 0).val / 256), ht⟩, flush0_13 _, ?_⟩
  have hy : ((cfg0.win 13).blk ⟨((y 0).val / 256), ht⟩).view.emb (ix2 (⟨(y 0).val % 256, by omega⟩ : Fin 256) (⟨(y 1).val, h1⟩ : Fin 2048) : S256x2048.Idx) = y := by
    refine e.trans (funext fun a => Fin.ext ?_)
    match a with
    | ⟨0, _⟩ => show ((y 0).val / 256) * 256 + (y 0).val % 256 = (y 0).val; omega
    | ⟨1, _⟩ => rfl
  have hm := View.emb_mem_set ((cfg0.win 13).blk ⟨((y 0).val / 256), ht⟩).view (ix2 (⟨(y 0).val % 256, by omega⟩ : Fin 256) (⟨(y 1).val, h1⟩ : Fin 2048) : S256x2048.Idx)
  rw [hy] at hm
  exact hm

theorem final13 : (dats m 0 c).arrAt 13 cfg0.N = result13 m c :=
  (dats m 0 c).arrAt_eq_of_cover 13 (result13 m c) (fun t _ => flushed13 t) cover13

/-- The run: the result arrays at their values, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v17_0) = result9 m c
      ∧ r.2.mem ((c : Thread nD τ).loc main_v17_1) = result10 m c
      ∧ r.2.mem ((c : Thread nD τ).loc main_v17_2) = result11 m c
      ∧ r.2.mem ((c : Thread nD τ).loc main_v17_3) = result12 m c
      ∧ r.2.mem ((c : Thread nD τ).loc main_v17_4) = result13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 9).trans final9, ((h.1 c).1 10).trans final10, ((h.1 c).1 11).trans final11,
      ((h.1 c).1 12).trans final12, ((h.1 c).1 13).trans final13, h.2 c⟩)
    (θ_run_and (run_main m ρ) (unchanged m ρ))

end Cert.ProjectionsIdeal.Proj

end
-- ==== Proof.ProjRef.lean ====
/-
  The projections' reference's results at an element.
-/
module

public import proofs.«01_k».proof.Proof.ProjSpec
public import proofs.«01_k».proof.Proof.Gen.ProjectionsReferenceIdeal.Read
public import Idealize.ShloMosaic.Lib.Pointwise

@[expose] public section

noncomputable section

namespace Cert.ProjectionsReferenceIdeal.Proj

open Cert.ProjectionsReferenceIdeal Cert.ProjectionsReferenceIdeal.Gen Cert.ProjectionsReferenceIdeal.Read Idealize.ShloMosaic Cert.Proj

variable (x0 : Vec Ideal S4x4096x1024 .f32) (x1 : Vec Ideal S4x1x6144 .f32) (x2 : Vec Ideal S1024 .f32)
  (x3 : Vec Ideal S1024x4608 .f32) (x4 x5 : Vec Ideal S64 .f32) (x6 x7 : Vec Ideal S4096x64 .f32)

theorem one_bits : Ideal.ofBits .f32 1065353216#32 = (1 : EReal) := by
  simp [Ideal.ofBits, Ideal.ieee, -EReal.coe_mul]; norm_num

/-- Token `p` of batch `b`. -/
abbrev at' (b : Fin 4) (p : Fin 4096) : Fin 16384 := ⟨b.val * 4096 + p.val, by omega⟩

theorem batch_at (b : Fin 4) (p : Fin 4096) : Cert.Moe.batch (at' b p) = b := Fin.ext (by show (b.val * 4096 + p.val) / 4096 = b.val; omega)
theorem place_at (b : Fin 4) (p : Fin 4096) : Cert.Moe.place (at' b p) = p := Fin.ext (by show (b.val * 4096 + p.val) % 4096 = p.val; omega)

theorem v15_apply (b : Fin 4) (p : Fin 4096) (d : Fin 1024) :
    val_main_v15 (F := Ideal) x0 (ix3 b p d) = Cert.Moe.norm (fun i => x0 (ix3 b p i)) d := by
  pointwise [val_main_v15, val_main_v14, val_main_v13, val_main_v12, val_main_v11, val_main_v10, val_main_v9, val_main_v8, val_main_v7, val_main_v6, val_main_cst, val_main_cst_0, val_main_cst_1]
  rfl

theorem v24_apply (b : Fin 4) (p : Fin 4096) (d : Fin 1024) :
    val_main_v24 (F := Ideal) x0 x1 x2 (ix3 b p d) = Cert.Moe.shifted (fun i => x0 (ix3 b p i)) (fun d => x2 (ix1 d))
      (fun d => x1 (ix3 b 0 ⟨1024 + d.val, by omega⟩)) (fun d => x1 (ix3 b 0 ⟨0 + d.val, by omega⟩)) d := by
  unfold Cert.Moe.shifted
  rw [← v15_apply]
  generalize h : val_main_v15 (F := Ideal) x0 = N
  pointwise [val_main_v24, val_main_v23, val_main_v22, val_main_v21, val_main_v20, val_main_v19, val_main_v18, val_main_v17, val_main_v16, val_main_v1, val_main_v0, val_main_cst_2, h]

theorem v24_inner (b : Fin 4) (p : Fin 4096) (d : Fin 1024) :
    val_main_v24 (F := Ideal) x0 x1 x2 (ix3 b p d) = Cert.Proj.inner x0 x1 x2 (at' b p) d := by
  rw [v24_apply]
  unfold Cert.Proj.inner Cert.Moe.row Cert.Moe.part
  rw [batch_at, place_at]
  rfl

theorem v25_apply (b : Fin 4) (p : Fin 4096) (j : Fin 4608) :
    val_main_v25 (F := Ideal) x0 x1 x2 x3 (ix3 b p j) = proj x0 x1 x2 x3 (at' b p) j := by
  unfold proj
  simp only [← v24_inner]
  generalize h : val_main_v24 (F := Ideal) x0 x1 x2 = N
  pointwise [val_main_v25, h]

theorem v31_apply (b : Fin 4) (p : Fin 4096) (a : Fin 16) (e : Fin 64) :
    val_main_v31 (F := Ideal) x0 x1 x2 x3 (ix4 b p a e) = proj x0 x1 x2 x3 (at' b p) ⟨a.val * 64 + e.val, by omega⟩ := by
  rw [← v25_apply]
  generalize h : val_main_v25 (F := Ideal) x0 x1 x2 x3 = N
  pointwise [val_main_v31, val_main_v26, h]

theorem v45_apply (b : Fin 4) (p : Fin 4096) (a : Fin 4) (e : Fin 64) :
    val_main_v45 (F := Ideal) x0 x1 x2 x3 (ix4 b p a e) = proj x0 x1 x2 x3 (at' b p) ⟨1024 + (a.val * 64 + e.val), by omega⟩ := by
  rw [← v25_apply]
  generalize h : val_main_v25 (F := Ideal) x0 x1 x2 x3 = N
  pointwise [val_main_v45, val_main_v27, h]

theorem v59_apply (b : Fin 4) (p : Fin 4096) (a : Fin 4) (e : Fin 64) :
    val_main_v59 (F := Ideal) x0 x1 x2 x3 (ix4 b p a e) = proj x0 x1 x2 x3 (at' b p) ⟨1280 + (a.val * 64 + e.val), by omega⟩ := by
  rw [← v25_apply]
  generalize h : val_main_v25 (F := Ideal) x0 x1 x2 x3 = N
  pointwise [val_main_v59, val_main_v28, h]

theorem v44_apply (b : Fin 4) (p : Fin 4096) (a : Fin 16) (e : Fin 64) :
    val_main_v44 (F := Ideal) x0 x1 x2 x3 x4 (ix4 b p a e)
      = headNorm (fun e => val_main_v31 (F := Ideal) x0 x1 x2 x3 (ix4 b p a e)) (fun e => x4 (ix1 e)) e := by
  generalize h : val_main_v31 (F := Ideal) x0 x1 x2 x3 = N
  pointwise [val_main_v44, val_main_v43, val_main_v42, val_main_v41, val_main_v40, val_main_v39, val_main_v38, val_main_v37, val_main_v36, val_main_v35, val_main_v34, val_main_v33, val_main_v32, val_main_cst_3, val_main_cst_4, val_main_cst_5, h]
  rfl

theorem v58_apply (b : Fin 4) (p : Fin 4096) (a : Fin 4) (e : Fin 64) :
    val_main_v58 (F := Ideal) x0 x1 x2 x3 x5 (ix4 b p a e)
      = headNorm (fun e => val_main_v45 (F := Ideal) x0 x1 x2 x3 (ix4 b p a e)) (fun e => x5 (ix1 e)) e := by
  generalize h : val_main_v45 (F := Ideal) x0 x1 x2 x3 = N
  pointwise [val_main_v58, val_main_v57, val_main_v56, val_main_v55, val_main_v54, val_main_v53, val_main_v52, val_main_v51, val_main_v50, val_main_v49, val_main_v48, val_main_v47, val_main_v46, val_main_cst_6, val_main_cst_7, val_main_cst_8, h]
  rfl

theorem v66_apply (b : Fin 4) (p : Fin 4096) (a : Fin 16) (e : Fin 64) :
    val_main_v66 (F := Ideal) x0 x1 x2 x3 x4 (ix4 b p a e) = turned (fun e => val_main_v44 (F := Ideal) x0 x1 x2 x3 x4 (ix4 b p a e)) e := by
  generalize h : val_main_v44 (F := Ideal) x0 x1 x2 x3 x4 = N
  rw [← turned_neg]
  pointwise [val_main_v66, val_main_v65, val_main_v64, val_main_v63, val_main_v62, val_main_v61, val_main_v60, h]

theorem v80_apply (b : Fin 4) (p : Fin 4096) (a : Fin 4) (e : Fin 64) :
    val_main_v80 (F := Ideal) x0 x1 x2 x3 x5 (ix4 b p a e) = turned (fun e => val_main_v58 (F := Ideal) x0 x1 x2 x3 x5 (ix4 b p a e)) e := by
  generalize h : val_main_v58 (F := Ideal) x0 x1 x2 x3 x5 = N
  rw [← turned_neg]
  pointwise [val_main_v80, val_main_v79, val_main_v78, val_main_v77, val_main_v76, val_main_v75, val_main_v74, h]

theorem v73_apply (b : Fin 4) (p : Fin 4096) (a : Fin 16) (e : Fin 64) :
    val_main_v73 (F := Ideal) x0 x1 x2 x3 x4 x6 x7 (ix4 b p a e)
      = rope (fun e => val_main_v44 (F := Ideal) x0 x1 x2 x3 x4 (ix4 b p a e)) (fun e => x6 (ix2 p e)) (fun e => x7 (ix2 p e)) e := by
  unfold rope
  rw [← v66_apply]
  generalize h : val_main_v44 (F := Ideal) x0 x1 x2 x3 x4 = N
  generalize h' : val_main_v66 (F := Ideal) x0 x1 x2 x3 x4 = M
  pointwise [val_main_v73, val_main_v72, val_main_v71, val_main_v70, val_main_v69, val_main_v68, val_main_v67, h, h']

theorem v87_apply (b : Fin 4) (p : Fin 4096) (a : Fin 4) (e : Fin 64) :
    val_main_v87 (F := Ideal) x0 x1 x2 x3 x5 x6 x7 (ix4 b p a e)
      = rope (fun e => val_main_v58 (F := Ideal) x0 x1 x2 x3 x5 (ix4 b p a e)) (fun e => x6 (ix2 p e)) (fun e => x7 (ix2 p e)) e := by
  unfold rope
  rw [← v80_apply]
  generalize h : val_main_v58 (F := Ideal) x0 x1 x2 x3 x5 = N
  generalize h' : val_main_v80 (F := Ideal) x0 x1 x2 x3 x5 = M
  pointwise [val_main_v87, val_main_v86, val_main_v85, val_main_v84, val_main_v83, val_main_v82, val_main_v81, h, h']

theorem query_apply (b : Fin 4) (a : Fin 16) (e : Fin 64) (p : Fin 4096) :
    val_main_v112 (F := Ideal) x0 x1 x2 x3 x4 x6 x7 (ix4 b a e p) = query x0 x1 x2 x3 x4 x6 x7 (at' b p) a e := by
  unfold query
  rw [place_at]
  have h1 : headNorm (fun e => proj x0 x1 x2 x3 (at' b p) ⟨a.val * 64 + e.val, by omega⟩) (fun e => x4 (ix1 e))
      = fun e => val_main_v44 (F := Ideal) x0 x1 x2 x3 x4 (ix4 b p a e) :=
    funext fun e => ((v44_apply x0 x1 x2 x3 x4 b p a e).trans (congrArg (fun f => headNorm f _ e) (funext fun e => v31_apply x0 x1 x2 x3 b p a e))).symm
  rw [h1, ← v73_apply]
  generalize h : val_main_v73 (F := Ideal) x0 x1 x2 x3 x4 x6 x7 = N
  pointwise [val_main_v112, val_main_v111, val_main_v106, val_main_v105, val_main_v104, val_main_v103, val_main_cst_13, val_main_cst_14, h]
  rfl

theorem key_apply (b : Fin 4) (a : Fin 4) (p : Fin 4096) (e : Fin 64) :
    val_main_v114 (F := Ideal) x0 x1 x2 x3 x5 x6 x7 (ix4 b a p e) = key x0 x1 x2 x3 x5 x6 x7 (at' b p) a e := by
  unfold key
  rw [place_at]
  have h1 : headNorm (fun e => proj x0 x1 x2 x3 (at' b p) ⟨1024 + (a.val * 64 + e.val), by omega⟩) (fun e => x5 (ix1 e))
      = fun e => val_main_v58 (F := Ideal) x0 x1 x2 x3 x5 (ix4 b p a e) :=
    funext fun e => ((v58_apply x0 x1 x2 x3 x5 b p a e).trans (congrArg (fun f => headNorm f _ e) (funext fun e => v45_apply x0 x1 x2 x3 b p a e))).symm
  rw [h1, ← v87_apply]
  generalize h : val_main_v87 (F := Ideal) x0 x1 x2 x3 x5 x6 x7 = N
  pointwise [val_main_v114, val_main_v113, h]

theorem v108_apply (b : Fin 4) (a : Fin 4) (t : Fin 16) (e : Fin 64) (n : Fin 256) :
    val_main_v108 (F := Ideal) x0 x1 x2 x3 (ix5 b a t e n) = val_main_v59 (F := Ideal) x0 x1 x2 x3 (ix4 b ⟨t.val * 256 + n.val, by omega⟩ a e) := by
  generalize h : val_main_v59 (F := Ideal) x0 x1 x2 x3 = N
  pointwise [val_main_v108, val_main_v107, h]

theorem value_apply (b : Fin 4) (a : Fin 4) (t : Fin 16) (e : Fin 80) (n : Fin 256) :
    val_main_v115 (F := Ideal) x0 x1 x2 x3 (ix5 b a t e n) = value x0 x1 x2 x3 (at' b ⟨t.val * 256 + n.val, by omega⟩) a e := by
  have hv : ∀ he : e.val < 64, proj x0 x1 x2 x3 (at' b ⟨t.val * 256 + n.val, by omega⟩) ⟨1280 + (a.val * 64 + e.val), by omega⟩
      = val_main_v108 (F := Ideal) x0 x1 x2 x3 (ix5 b a t ⟨e.val, he⟩ n) := fun he => ((v108_apply x0 x1 x2 x3 b a t ⟨e.val, he⟩ n).trans (v59_apply x0 x1 x2 x3 b _ a ⟨e.val, he⟩)).symm
  unfold value
  generalize h : val_main_v108 (F := Ideal) x0 x1 x2 x3 = N at hv
  pointwise [val_main_v115, val_main_v110, val_main_v109, val_main_cst_15, h]
  split_ifs with he
  · exact (hv he).symm
  · first | rfl | exact one_bits

theorem v29_apply (b : Fin 4) (p : Fin 4096) (j : Fin 1024) :
    val_main_v29 (F := Ideal) x0 x1 x2 x3 (ix3 b p j) = proj x0 x1 x2 x3 (at' b p) ⟨1536 + j.val, by omega⟩ := by
  rw [← v25_apply]
  generalize h : val_main_v25 (F := Ideal) x0 x1 x2 x3 = N
  pointwise [val_main_v29, h]

theorem v30_apply (b : Fin 4) (p : Fin 4096) (j : Fin 2048) :
    val_main_v30 (F := Ideal) x0 x1 x2 x3 (ix3 b p j) = proj x0 x1 x2 x3 (at' b p) ⟨2560 + j.val, by omega⟩ := by
  rw [← v25_apply]
  generalize h : val_main_v25 (F := Ideal) x0 x1 x2 x3 = N
  pointwise [val_main_v30, h]

theorem gated_apply (b : Fin 4) (p : Fin 4096) (j : Fin 512) :
    val_main_v116 (F := Ideal) x0 x1 x2 x3 (ix3 b p j) = gated x0 x1 x2 x3 (at' b p) j := by
  have h1 : proj x0 x1 x2 x3 (at' b p) ⟨1536 + j.val, by omega⟩ = val_main_v29 (F := Ideal) x0 x1 x2 x3 (ix3 b p ⟨0 + j.val, by omega⟩) :=
    Eq.trans (congrArg (proj x0 x1 x2 x3 (at' b p)) (Fin.ext (by dsimp only; omega))) (v29_apply x0 x1 x2 x3 b p ⟨0 + j.val, by omega⟩).symm
  have h2 : proj x0 x1 x2 x3 (at' b p) ⟨2048 + j.val, by omega⟩ = val_main_v29 (F := Ideal) x0 x1 x2 x3 (ix3 b p ⟨512 + j.val, by omega⟩) :=
    Eq.trans (congrArg (proj x0 x1 x2 x3 (at' b p)) (Fin.ext (by dsimp only; omega))) (v29_apply x0 x1 x2 x3 b p ⟨512 + j.val, by omega⟩).symm
  unfold gated
  rw [h1, h2]
  generalize h : val_main_v29 (F := Ideal) x0 x1 x2 x3 = N
  pointwise [val_main_v116, val_main_v96, val_main_v95, val_main_v94, val_main_v93, val_main_v92, val_main_v91, val_main_v90, val_main_v89, val_main_v88, val_main_cst_9, val_main_cst_10, h]
  first | rfl | (unfold Ideal.logistic; rfl) | (unfold Ideal.logistic; rw [one_bits]; rfl)

theorem gate_apply (r : Fin 16384) (j : Fin 2048) :
    val_main_v118 (F := Ideal) x0 x1 x2 x3 (ix2 r j) = gate x0 x1 x2 x3 r j := by
  have hr : r = at' ⟨r.val / 4096, by omega⟩ ⟨r.val % 4096, by omega⟩ := Fin.ext (by dsimp only; omega)
  have h1 : proj x0 x1 x2 x3 r ⟨2560 + j.val, by omega⟩ = val_main_v30 (F := Ideal) x0 x1 x2 x3 (ix3 ⟨r.val / 4096, by omega⟩ ⟨r.val % 4096, by omega⟩ j) :=
    (congrArg (fun r => proj x0 x1 x2 x3 r ⟨2560 + j.val, by omega⟩) hr).trans (v30_apply ..).symm
  unfold gate
  rw [h1]
  generalize h : val_main_v30 (F := Ideal) x0 x1 x2 x3 = N
  pointwise [val_main_v118, val_main_v117, val_main_v102, val_main_v101, val_main_v100, val_main_v99, val_main_v98, val_main_v97, val_main_cst_11, val_main_cst_12, h]
  first | rfl | (unfold Ideal.logistic; rfl) | (unfold Ideal.logistic; rw [one_bits]; rfl)

end Cert.ProjectionsReferenceIdeal.Proj

end
-- ==== Proof.ProjClaim.lean ====
/-
  The projections' claims.
-/
module

public import proofs.«01_k».proof.Defs
public import proofs.«01_k».proof.Proof.ProjRun
public import proofs.«01_k».proof.Proof.ProjRef
public import proofs.«01_k».proof.Proof.Gen.ProjectionsReferenceIdeal.Run
public import Idealize.ShloMosaic.Lib.Claim

@[expose] public section

noncomputable section

namespace Cert.ProjClaim

open Idealize.ShloMosaic Idealize.ShloMosaic.TcCoe Idealize.SL.Sem
open Cert.ProjectionsIdeal.Proj (argH argM argG argW argQ argK argC argS)
open Cert.ProjectionsReferenceIdeal.Read Cert.ProjectionsReferenceIdeal.Proj

section Values
variable (m : (ℓ : Loc Cert.ProjectionsIdeal.nD Cert.ProjectionsIdeal.τ Cert.ProjectionsIdeal.sig) → Buf (Elt Ideal) ℓ) (c : Dev Cert.ProjectionsIdeal.nD)

theorem query_eq : val_main_v112 (F := Ideal) (argH m c) (argM m c) (argG m c) (argW m c) (argQ m c) (argC m c) (argS m c) = Cert.ProjectionsIdeal.Proj.result9 m c :=
  funext fun y => (congrArg _ (show y = ix4 (y 0) (y 1) (y 2) (y 3) from funext fun a => match a with
    | ⟨0, _⟩ => rfl | ⟨1, _⟩ => rfl | ⟨2, _⟩ => rfl | ⟨3, _⟩ => rfl)).trans (query_apply _ _ _ _ _ _ _ (y 0) (y 1) (y 2) (y 3))

theorem key_eq : val_main_v114 (F := Ideal) (argH m c) (argM m c) (argG m c) (argW m c) (argK m c) (argC m c) (argS m c) = Cert.ProjectionsIdeal.Proj.result10 m c :=
  funext fun y => (congrArg _ (show y = ix4 (y 0) (y 1) (y 2) (y 3) from funext fun a => match a with
    | ⟨0, _⟩ => rfl | ⟨1, _⟩ => rfl | ⟨2, _⟩ => rfl | ⟨3, _⟩ => rfl)).trans (key_apply _ _ _ _ _ _ _ (y 0) (y 1) (y 2) (y 3))

theorem value_eq : val_main_v115 (F := Ideal) (argH m c) (argM m c) (argG m c) (argW m c) = Cert.ProjectionsIdeal.Proj.result11 m c :=
  funext fun y => (congrArg _ (show y = ix5 (y 0) (y 1) (y 2) (y 3) (y 4) from funext fun a => match a with
    | ⟨0, _⟩ => rfl | ⟨1, _⟩ => rfl | ⟨2, _⟩ => rfl | ⟨3, _⟩ => rfl | ⟨4, _⟩ => rfl)).trans (value_apply _ _ _ _ (y 0) (y 1) (y 2) (y 3) (y 4))

theorem gated_eq : val_main_v116 (F := Ideal) (argH m c) (argM m c) (argG m c) (argW m c) = Cert.ProjectionsIdeal.Proj.result12 m c :=
  funext fun y => (congrArg _ (show y = ix3 (y 0) (y 1) (y 2) from funext fun a => match a with
    | ⟨0, _⟩ => rfl | ⟨1, _⟩ => rfl | ⟨2, _⟩ => rfl)).trans (gated_apply _ _ _ _ (y 0) (y 1) (y 2))

theorem gate_eq : val_main_v118 (F := Ideal) (argH m c) (argM m c) (argG m c) (argW m c) = Cert.ProjectionsIdeal.Proj.result13 m c :=
  funext fun y => (congrArg _ (show y = ix2 (y 0) (y 1) from funext fun a => match a with
    | ⟨0, _⟩ => rfl | ⟨1, _⟩ => rfl)).trans (gate_apply _ _ _ _ (y 0) (y 1))
end Values

theorem frame_reference : Cert.quiescent_ProjectionsReferenceIdeal := fun m ρ _ =>
  (θ_run _ _ _).mono (fun r h => ⟨fun c => (h c).2.2.2.2.2, sem_eq_zero_of_no_sems (by decide) r.2⟩) (Cert.ProjectionsReferenceIdeal.Value.run (F := Ideal) m ρ)

theorem algebraic : Cert.algebraic_ProjectionsIdeal_ProjectionsReferenceIdeal := by
  intro m g m' g' _ hagree
  refine ⟨fun c => Cert.ProjectionsIdeal.Proj.result9 m c, fun c => Cert.ProjectionsIdeal.Proj.result10 m c, fun c => Cert.ProjectionsIdeal.Proj.result11 m c,
    fun c => Cert.ProjectionsIdeal.Proj.result12 m c, fun c => Cert.ProjectionsIdeal.Proj.result13 m c, Cert.ProjectionsIdeal.Proj.run m g, ?_⟩
  refine (θ_run _ _ _).mono (fun r h c => ?_) (Cert.ProjectionsReferenceIdeal.Value.run (F := Ideal) m' g')
  obtain ⟨h0, h1, h2, h3, h4, h5⟩ := h c
  obtain ⟨ha0, ha1, ha2, ha3, ha4, ha5, ha6, ha7⟩ := hagree c
  refine ⟨h0.trans ?_, h1.trans ?_, h2.trans ?_, h3.trans ?_, h4.trans ?_, h5⟩
  · rw [val_main_v112_eq]
    simp only [StableHlo.launchContents_devRef, ha0, ha1, ha2, ha3, ha4, ha6, ha7]
    exact query_eq m c
  · rw [val_main_v114_eq]
    simp only [StableHlo.launchContents_devRef, ha0, ha1, ha2, ha3, ha5, ha6, ha7]
    exact key_eq m c
  · rw [val_main_v115_eq]
    simp only [StableHlo.launchContents_devRef, ha0, ha1, ha2, ha3]
    exact value_eq m c
  · rw [val_main_v116_eq]
    simp only [StableHlo.launchContents_devRef, ha0, ha1, ha2, ha3]
    exact gated_eq m c
  · rw [val_main_v118_eq]
    simp only [StableHlo.launchContents_devRef, ha0, ha1, ha2, ha3]
    exact gate_eq m c

end Cert.ProjClaim

end
-- ==== Proof.MergeSpec.lean ====
/-
  One token through the merge of the two branches, over the extended reals.
-/
module

public import proofs.«01_k».proof.Proof.MoeSpec

@[expose] public section

noncomputable section

namespace Cert.Merge

open Idealize.ShloMosaic

/-- The first `k` terms added one after another to a start. -/
def acc (b : EReal) (f : ℕ → EReal) : ℕ → EReal
  | 0 => b
  | k + 1 => acc b f k + f k

theorem acc_eq (b : EReal) (f : ℕ → EReal) (k : ℕ) : acc b f k = acc 0 f k + b := by
  induction k with
  | zero => exact (zero_add b).symm
  | succ k ih =>
    show acc b f k + f k = acc 0 f k + f k + b
    rw [ih, add_right_comm]

theorem acc_congr (b : EReal) (f g : ℕ → EReal) (k : ℕ) (h : ∀ j, j < k → f j = g j) : acc b f k = acc b g k := by
  induction k with
  | zero => rfl
  | succ k ih =>
    show acc b f k + f k = acc b g k + g k
    rw [ih fun j hj => h j (Nat.lt_succ_of_lt hj), h k (Nat.lt_succ_self k)]

/-- The number of channels. -/
def channels : EReal := Ideal.ofBits .f32 0x44000000#32

/-- A row less its mean, -/
def dev (x : Fin 512 → EReal) (d : Fin 512) : EReal := x d - Ideal.div (∑ i, x i) channels
/-- over the root of its variance, -/
def scale (x : Fin 512 → EReal) : EReal := Ideal.rsqrt (Ideal.div (∑ i, dev x i * dev x i) channels + Cert.Moe.small)
/-- with a gain and a shift, -/
def lnorm (x g b : Fin 512 → EReal) (d : Fin 512) : EReal := dev x d * scale x * g d + b d
/-- times its own logistic. -/
def act (x g b : Fin 512 → EReal) (d : Fin 512) : EReal := lnorm x g b d * Ideal.logistic (lnorm x g b d)

/-- The two branches, gated and added, -/
def merged (ga gc o : Fin 1024 → EReal) (wao : Fin 1024 → Fin 1024 → EReal) (x g b : Fin 512 → EReal) (wco : Fin 512 → Fin 1024 → EReal)
    (j : Fin 1024) : EReal := ga j * (∑ i, o i * wao i j) + gc j * ∑ e, act x g b e * wco e j
/-- projected, scaled and added to the token's row. -/
def token (h g1 ga gc o : Fin 1024 → EReal) (wao : Fin 1024 → Fin 1024 → EReal) (x g b : Fin 512 → EReal) (wco : Fin 512 → Fin 1024 → EReal)
    (wout : Fin 1024 → Fin 1024 → EReal) (d : Fin 1024) : EReal :=
  h d + g1 d * ∑ j, merged ga gc o wao x g b wco j * wout j d

/-- A tap's weights, zero past the last. -/
def weight (w : Vec Ideal ⟨2, ![31, 512]⟩ .f32) (j : ℕ) (d : Fin 512) : EReal := if h : j < 31 then w (ix2 ⟨j, h⟩ d) else 0

/-- A batch's rows with fifteen zero rows before and zeros after, -/
def padded (a : Vec Ideal ⟨3, ![4, 4096, 512]⟩ .f32) (b : Fin 4) (q : ℕ) (d : Fin 512) : EReal :=
  if h : 15 ≤ q ∧ q - 15 < 4096 then a (ix3 b ⟨q - 15, h.2⟩ d) else 0
/-- and the convolution at a token. -/
def conv (a : Vec Ideal ⟨3, ![4, 4096, 512]⟩ .f32) (cw : Vec Ideal ⟨2, ![31, 512]⟩ .f32) (cb : Vec Ideal ⟨1, ![512]⟩ .f32) (r : Fin 16384) (d : Fin 512) : EReal :=
  acc (cb (ix1 d)) (fun j => padded a (Cert.Moe.batch r) ((Cert.Moe.place r).val + j) d * weight cw j d) 31

section Arrays
variable (h : Vec Ideal ⟨3, ![4, 4096, 1024]⟩ .f32) (o : Vec Ideal ⟨4, ![4, 4096, 16, 64]⟩ .f32) (a : Vec Ideal ⟨3, ![4, 4096, 512]⟩ .f32)
  (gates : Vec Ideal ⟨3, ![4, 4096, 2048]⟩ .f32) (md : Vec Ideal ⟨3, ![4, 1, 6144]⟩ .f32) (wao : Vec Ideal ⟨2, ![1024, 1024]⟩ .f32)
  (cw : Vec Ideal ⟨2, ![31, 512]⟩ .f32) (cb lg lb : Vec Ideal ⟨1, ![512]⟩ .f32) (wco : Vec Ideal ⟨2, ![512, 1024]⟩ .f32) (wout : Vec Ideal ⟨2, ![1024, 1024]⟩ .f32)

/-- The heads' outputs of a token in a row, -/
def heads (r : Fin 16384) (i : Fin 1024) : EReal :=
  o (ix4 (Cert.Moe.batch r) (Cert.Moe.place r) (⟨i.val / 64, by omega⟩ : Fin 16) (⟨i.val % 64, by omega⟩ : Fin 64))

/-- and the layer's output at a token. -/
def out (r : Fin 16384) (d : Fin 1024) : EReal :=
  token (Cert.Moe.row h r) (Cert.Moe.part md 2 r)
    (fun j => gates (ix3 (Cert.Moe.batch r) (Cert.Moe.place r) (⟨0 + j.val, by omega⟩ : Fin 2048)))
    (fun j => gates (ix3 (Cert.Moe.batch r) (Cert.Moe.place r) (⟨1024 + j.val, by omega⟩ : Fin 2048)))
    (heads o r) (fun i j => wao (ix2 i j)) (conv a cw cb r) (fun e => lg (ix1 e)) (fun e => lb (ix1 e)) (fun e j => wco (ix2 e j))
    (fun j d => wout (ix2 j d)) d
end Arrays

end Cert.Merge

end
-- ==== Proof.MergeEntry.lean ====
/-
  The merge's kernel's arrays at an element in terms of the arguments, and its blocks.
-/
module

public import proofs.«01_k».proof.Proof.MergeSpec
public import proofs.«01_k».proof.Proof.Gen.MergeIdeal.Frame
public import Idealize.ShloMosaic.Lib.StableHlo.ReadAt

@[expose] public section

noncomputable section

namespace Cert.MergeIdeal.Merge

open Cert.MergeIdeal Cert.MergeIdeal.Gen Idealize.ShloMosaic Idealize.ShloMosaic.TcCoe Idealize.SL.Sem

variable (m : (ℓ : Loc nD τ sig) → Buf (Elt Ideal) ℓ) (c : Dev nD)

/-- The arguments. -/
abbrev argH : Vec Ideal ⟨3, ![4, 4096, 1024]⟩ .f32 := m ((c : Thread nD τ).loc main_arg0)
abbrev argO : Vec Ideal ⟨4, ![4, 4096, 16, 64]⟩ .f32 := m ((c : Thread nD τ).loc main_arg1)
abbrev argA : Vec Ideal ⟨3, ![4, 4096, 512]⟩ .f32 := m ((c : Thread nD τ).loc main_arg2)
abbrev argG : Vec Ideal ⟨3, ![4, 4096, 2048]⟩ .f32 := m ((c : Thread nD τ).loc main_arg3)
abbrev argM : Vec Ideal ⟨3, ![4, 1, 6144]⟩ .f32 := m ((c : Thread nD τ).loc main_arg4)
abbrev argWa : Vec Ideal ⟨2, ![1024, 1024]⟩ .f32 := m ((c : Thread nD τ).loc main_arg5)
abbrev argCw : Vec Ideal ⟨2, ![31, 512]⟩ .f32 := m ((c : Thread nD τ).loc main_arg6)
abbrev argCb : Vec Ideal ⟨1, ![512]⟩ .f32 := m ((c : Thread nD τ).loc main_arg7)
abbrev argLg : Vec Ideal ⟨1, ![512]⟩ .f32 := m ((c : Thread nD τ).loc main_arg8)
abbrev argLb : Vec Ideal ⟨1, ![512]⟩ .f32 := m ((c : Thread nD τ).loc main_arg9)
abbrev argWc : Vec Ideal ⟨2, ![512, 1024]⟩ .f32 := m ((c : Thread nD τ).loc main_arg10)
abbrev argWo : Vec Ideal ⟨2, ![1024, 1024]⟩ .f32 := m ((c : Thread nD τ).loc main_arg11)

theorem arr0 (r : Fin 16384) (d : Fin 1024) : (V m c main_v6 : Vec Ideal S16384x1024 .f32) (ix2 r d) = Cert.Moe.row (argH m c) r d := by
  unfold V Cert.Moe.row
  after_reads_at
  rfl
theorem arr1 (b : Fin 4) (a : Fin 16) (e : Fin 64) (p : Fin 4096) : (V m c main_v8 : Vec Ideal S4x16x64x4096 .bf16) (ix4 b a e p) = argO m c (ix4 b p a e) := by
  unfold V
  after_reads_at
theorem arr2 (b : Fin 4) (p : Fin 4096) (d : Fin 512) : (V m c main_v11 : Vec Ideal S4x4096x512 .bf16) (ix3 b p d) = argA m c (ix3 b p d) := by
  unfold V
  after_reads_at
theorem arr5 (r : Fin 16384) (d : Fin 2048) : (V m c main_v10 : Vec Ideal S16384x2048 .bf16) (ix2 r d) = argG m c (ix3 (Cert.Moe.batch r) (Cert.Moe.place r) d) := by
  unfold V
  after_reads_at
  rfl
theorem arr6 (b : Fin 4) (d : Fin 6144) : (V m c main_arg4 : Vec Ideal S4x1x6144 .f32) (ix3 b (0 : Fin 1) d) = argM m c (ix3 b (0 : Fin 1) d) := by
  unfold V
  after_reads_at
theorem arr7 (i j : Fin 1024) : (V m c main_v0 : Vec Ideal S1024x1024 .bf16) (ix2 i j) = argWa m c (ix2 i j) := by
  unfold V
  after_reads_at
theorem arr8 (i : Fin 512) (j : Fin 1024) : (V m c main_v1 : Vec Ideal S512x1024 .bf16) (ix2 i j) = argWc m c (ix2 i j) := by
  unfold V
  after_reads_at
theorem arr9 (i j : Fin 1024) : (V m c main_v2 : Vec Ideal S1024x1024 .bf16) (ix2 i j) = argWo m c (ix2 i j) := by
  unfold V
  after_reads_at
theorem arr10 (i : Fin 31) (d : Fin 512) : (V m c main_arg6 : Vec Ideal S31x512 .f32) (ix2 i d) = argCw m c (ix2 i d) := by
  unfold V
  after_reads_at
theorem arr11 (d : Fin 512) : (V m c main_v3 : Vec Ideal S1x512 .f32) (ix2 (0 : Fin 1) d) = argCb m c (ix1 d) := by
  unfold V
  after_reads_at
theorem arr12 (d : Fin 512) : (V m c main_v4 : Vec Ideal S1x512 .f32) (ix2 (0 : Fin 1) d) = argLg m c (ix1 d) := by
  unfold V
  after_reads_at
theorem arr13 (d : Fin 512) : (V m c main_v5 : Vec Ideal S1x512 .f32) (ix2 (0 : Fin 1) d) = argLb m c (ix1 d) := by
  unfold V
  after_reads_at

/-! ## The windows' blocks: point `t` is the tokens from `512 t`, of batch `t / 8` -/

theorem lt32 (t : Fin cfg0.N) : t.val < 32 := lt_of_lt_of_eq t.isLt N_0

abbrev tok (t : Fin cfg0.N) (n : Fin 512) : Fin 16384 := ⟨t.val * 512 + n.val, by have := lt32 t; omega⟩

theorem tile (t : Fin cfg0.N) : ((grid0.coords t) 1).val = t.val % 8 :=
  (by decide +kernel : ∀ t : Fin grid0.N, ((grid0.coords t) 1).val = t.val % 8) t

theorem index0 : ∀ t : Fin cfg0.N, win0_0.index t = ![t.val, 0] :=
  (by decide +kernel : ∀ t : Fin grid0.N, win0_0.index t = ![t.val, 0])
theorem index1 : ∀ t : Fin cfg0.N, win0_1.index t = ![t.val / 8, 0, 0, t.val % 8] :=
  (by decide +kernel : ∀ t : Fin grid0.N, win0_1.index t = ![t.val / 8, 0, 0, t.val % 8])
theorem index2 : ∀ t : Fin cfg0.N, win0_2.index t = ![t.val / 8, t.val % 8, 0] :=
  (by decide +kernel : ∀ t : Fin grid0.N, win0_2.index t = ![t.val / 8, t.val % 8, 0])
theorem index3 : ∀ t : Fin cfg0.N, win0_3.index t = ![t.val / 8, (t.val % 8 * 32 - 1), 0] :=
  (by decide +kernel : ∀ t : Fin grid0.N, win0_3.index t = ![t.val / 8, (t.val % 8 * 32 - 1), 0])
theorem index4 : ∀ t : Fin cfg0.N, win0_4.index t = ![t.val / 8, (min (t.val % 8 * 32 + 32) 255), 0] :=
  (by decide +kernel : ∀ t : Fin grid0.N, win0_4.index t = ![t.val / 8, (min (t.val % 8 * 32 + 32) 255), 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val / 8, 0, 0] :=
  (by decide +kernel : ∀ t : Fin grid0.N, win0_6.index t = ![t.val / 8, 0, 0])
theorem index7 : ∀ t : Fin cfg0.N, win0_7.index t = ![0, 0] :=
  (by decide +kernel : ∀ t : Fin grid0.N, win0_7.index t = ![0, 0])
theorem index8 : ∀ t : Fin cfg0.N, win0_8.index t = ![0, 0] :=
  (by decide +kernel : ∀ t : Fin grid0.N, win0_8.index t = ![0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![0, 0] :=
  (by decide +kernel : ∀ t : Fin grid0.N, win0_12.index t = ![0, 0])
theorem index13 : ∀ t : Fin cfg0.N, win0_13.index t = ![0, 0] :=
  (by decide +kernel : ∀ t : Fin grid0.N, win0_13.index t = ![0, 0])
theorem index14 : ∀ t : Fin cfg0.N, win0_14.index t = ![t.val, 0] :=
  (by decide +kernel : ∀ t : Fin grid0.N, win0_14.index t = ![t.val, 0])
theorem blk0 (t : Fin cfg0.N) (i : Fin 512) (j : Fin 1024) :
    (iblk m c 0 t : Vec Ideal S512x1024 .f32) (ix2 i j) = (V m c main_v6 : Vec Ideal S16384x1024 .f32) (ix2 (⟨t.val * 512 + i.val, by have := lt32 t; omega⟩ : Fin 16384) j) := by
  refine congrArg (V m c main_v6) (funext fun a => Fin.ext ((win0_0.rect_emb_val t _ a).trans ?_))
  rw [index0]
  match a with
  | ⟨0, _⟩ => rfl
  | ⟨1, _⟩ => show 0 * 1024 + j.val = j.val; omega
theorem blk1 (t : Fin cfg0.N) (j : Fin 16) (k : Fin 64) (l : Fin 512) :
    (iblk m c 1 t : Vec Ideal S1x16x64x512 .bf16) (ix4 (0 : Fin 1) j k l) = (V m c main_v8 : Vec Ideal S4x16x64x4096 .bf16) (ix4 (⟨t.val / 8, by have := lt32 t; omega⟩ : Fin 4) j k (⟨t.val % 8 * 512 + l.val, by have := lt32 t; omega⟩ : Fin 4096)) := by
  refine congrArg (V m c main_v8) (funext fun a => Fin.ext ((win0_1.rect_emb_val t _ a).trans ?_))
  rw [index1]
  match a with
  | ⟨0, _⟩ => show t.val / 8 * 1 + 0 = t.val / 8; omega
  | ⟨1, _⟩ => show 0 * 16 + j.val = j.val; omega
  | ⟨2, _⟩ => show 0 * 64 + k.val = k.val; omega
  | ⟨3, _⟩ => rfl
theorem blk2 (t : Fin cfg0.N) (j : Fin 512) (k : Fin 512) :
    (iblk m c 2 t : Vec Ideal S1x512x512 .bf16) (ix3 (0 : Fin 1) j k) = (V m c main_v11 : Vec Ideal S4x4096x512 .bf16) (ix3 (⟨t.val / 8, by have := lt32 t; omega⟩ : Fin 4) (⟨t.val % 8 * 512 + j.val, by have := lt32 t; omega⟩ : Fin 4096) k) := by
  refine congrArg (V m c main_v11) (funext fun a => Fin.ext ((win0_2.rect_emb_val t _ a).trans ?_))
  rw [index2]
  match a with
  | ⟨0, _⟩ => show t.val / 8 * 1 + 0 = t.val / 8; omega
  | ⟨1, _⟩ => rfl
  | ⟨2, _⟩ => show 0 * 512 + k.val = k.val; omega
theorem blk3 (t : Fin cfg0.N) (j : Fin 16) (k : Fin 512) :
    (iblk m c 3 t : Vec Ideal S1x16x512 .bf16) (ix3 (0 : Fin 1) j k) = (V m c main_v11 : Vec Ideal S4x4096x512 .bf16) (ix3 (⟨t.val / 8, by have := lt32 t; omega⟩ : Fin 4) (⟨(t.val % 8 * 32 - 1) * 16 + j.val, by have := lt32 t; omega⟩ : Fin 4096) k) := by
  refine congrArg (V m c main_v11) (funext fun a => Fin.ext ((win0_3.rect_emb_val t _ a).trans ?_))
  rw [index3]
  match a with
  | ⟨0, _⟩ => show t.val / 8 * 1 + 0 = t.val / 8; omega
  | ⟨1, _⟩ => rfl
  | ⟨2, _⟩ => show 0 * 512 + k.val = k.val; omega
theorem blk4 (t : Fin cfg0.N) (j : Fin 16) (k : Fin 512) :
    (iblk m c 4 t : Vec Ideal S1x16x512 .bf16) (ix3 (0 : Fin 1) j k) = (V m c main_v11 : Vec Ideal S4x4096x512 .bf16) (ix3 (⟨t.val / 8, by have := lt32 t; omega⟩ : Fin 4) (⟨(min (t.val % 8 * 32 + 32) 255) * 16 + j.val, by have := lt32 t; omega⟩ : Fin 4096) k) := by
  refine congrArg (V m c main_v11) (funext fun a => Fin.ext ((win0_4.rect_emb_val t _ a).trans ?_))
  rw [index4]
  match a with
  | ⟨0, _⟩ => show t.val / 8 * 1 + 0 = t.val / 8; omega
  | ⟨1, _⟩ => rfl
  | ⟨2, _⟩ => show 0 * 512 + k.val = k.val; omega
theorem blk5 (t : Fin cfg0.N) (i : Fin 512) (j : Fin 2048) :
    (iblk m c 5 t : Vec Ideal S512x2048 .bf16) (ix2 i j) = (V m c main_v10 : Vec Ideal S16384x2048 .bf16) (ix2 (⟨t.val * 512 + i.val, by have := lt32 t; omega⟩ : Fin 16384) j) := by
  refine congrArg (V m c main_v10) (funext fun a => Fin.ext ((win0_5.rect_emb_val t _ a).trans ?_))
  rw [index5]
  match a with
  | ⟨0, _⟩ => rfl
  | ⟨1, _⟩ => show 0 * 2048 + j.val = j.val; omega
theorem blk6 (t : Fin cfg0.N) (k : Fin 6144) :
    (iblk m c 6 t : Vec Ideal S1x1x6144 .f32) (ix3 (0 : Fin 1) (0 : Fin 1) k) = (V m c main_arg4 : Vec Ideal S4x1x6144 .f32) (ix3 (⟨t.val / 8, by have := lt32 t; omega⟩ : Fin 4) (0 : Fin 1) k) := by
  refine congrArg (V m c main_arg4) (funext fun a => Fin.ext ((win0_6.rect_emb_val t _ a).trans ?_))
  rw [index6]
  match a with
  | ⟨0, _⟩ => show t.val / 8 * 1 + 0 = t.val / 8; omega
  | ⟨1, _⟩ => show 0 * 1 + 0 = 0; rfl
  | ⟨2, _⟩ => show 0 * 6144 + k.val = k.val; omega
theorem blk7 (t : Fin cfg0.N) (i : Fin 1024) (j : Fin 1024) :
    (iblk m c 7 t : Vec Ideal S1024x1024 .bf16) (ix2 i j) = (V m c main_v0 : Vec Ideal S1024x1024 .bf16) (ix2 i j) := by
  refine congrArg (V m c main_v0) (funext fun a => Fin.ext ((win0_7.rect_emb_val t _ a).trans ?_))
  rw [index7]
  match a with
  | ⟨0, _⟩ => show 0 * 1024 + i.val = i.val; omega
  | ⟨1, _⟩ => show 0 * 1024 + j.val = j.val; omega
theorem blk8 (t : Fin cfg0.N) (i : Fin 512) (j : Fin 1024) :
    (iblk m c 8 t : Vec Ideal S512x1024 .bf16) (ix2 i j) = (V m c main_v1 : Vec Ideal S512x1024 .bf16) (ix2 i j) := by
  refine congrArg (V m c main_v1) (funext fun a => Fin.ext ((win0_8.rect_emb_val t _ a).trans ?_))
  rw [index8]
  match a with
  | ⟨0, _⟩ => show 0 * 512 + i.val = i.val; omega
  | ⟨1, _⟩ => show 0 * 1024 + j.val = j.val; omega
theorem blk9 (t : Fin cfg0.N) (i : Fin 1024) (j : Fin 1024) :
    (iblk m c 9 t : Vec Ideal S1024x1024 .bf16) (ix2 i j) = (V m c main_v2 : Vec Ideal S1024x1024 .bf16) (ix2 i j) := by
  refine congrArg (V m c main_v2) (funext fun a => Fin.ext ((win0_9.rect_emb_val t _ a).trans ?_))
  rw [index9]
  match a with
  | ⟨0, _⟩ => show 0 * 1024 + i.val = i.val; omega
  | ⟨1, _⟩ => show 0 * 1024 + j.val = j.val; omega
theorem blk10 (t : Fin cfg0.N) (i : Fin 31) (j : Fin 512) :
    (iblk m c 10 t : Vec Ideal S31x512 .f32) (ix2 i j) = (V m c main_arg6 : Vec Ideal S31x512 .f32) (ix2 i j) := by
  refine congrArg (V m c main_arg6) (funext fun a => Fin.ext ((win0_10.rect_emb_val t _ a).trans ?_))
  rw [index10]
  match a with
  | ⟨0, _⟩ => show 0 * 31 + i.val = i.val; omega
  | ⟨1, _⟩ => show 0 * 512 + j.val = j.val; omega
theorem blk11 (t : Fin cfg0.N) (j : Fin 512) :
    (iblk m c 11 t : Vec Ideal S1x512 .f32) (ix2 (0 : Fin 1) j) = (V m c main_v3 : Vec Ideal S1x512 .f32) (ix2 (0 : Fin 1) j) := by
  refine congrArg (V m c main_v3) (funext fun a => Fin.ext ((win0_11.rect_emb_val t _ a).trans ?_))
  rw [index11]
  match a with
  | ⟨0, _⟩ => show 0 * 1 + 0 = 0; rfl
  | ⟨1, _⟩ => show 0 * 512 + j.val = j.val; omega
theorem blk12 (t : Fin cfg0.N) (j : Fin 512) :
    (iblk m c 12 t : Vec Ideal S1x512 .f32) (ix2 (0 : Fin 1) j) = (V m c main_v4 : Vec Ideal S1x512 .f32) (ix2 (0 : Fin 1) j) := by
  refine congrArg (V m c main_v4) (funext fun a => Fin.ext ((win0_12.rect_emb_val t _ a).trans ?_))
  rw [index12]
  match a with
  | ⟨0, _⟩ => show 0 * 1 + 0 = 0; rfl
  | ⟨1, _⟩ => show 0 * 512 + j.val = j.val; omega
theorem blk13 (t : Fin cfg0.N) (j : Fin 512) :
    (iblk m c 13 t : Vec Ideal S1x512 .f32) (ix2 (0 : Fin 1) j) = (V m c main_v5 : Vec Ideal S1x512 .f32) (ix2 (0 : Fin 1) j) := by
  refine congrArg (V m c main_v5) (funext fun a => Fin.ext ((win0_13.rect_emb_val t _ a).trans ?_))
  rw [index13]
  match a with
  | ⟨0, _⟩ => show 0 * 1 + 0 = 0; rfl
  | ⟨1, _⟩ => show 0 * 512 + j.val = j.val; omega

/-! Where an element of the result's block sits in the result. -/
theorem emb14 (t : Fin cfg0.N) (i : Fin 512) (j : Fin 1024) :
    ((cfg0.win 14).blk t).view.emb (ix2 i j : S512x1024.Idx) = (ix2 (⟨t.val * 512 + i.val, by have := lt32 t; omega⟩ : Fin 16384) j : S16384x1024.Idx) := by
  refine funext fun a => Fin.ext ((win0_14.rect_emb_val t _ a).trans ?_)
  rw [index14]
  match a with
  | ⟨0, _⟩ => rfl
  | ⟨1, _⟩ => show 0 * 1024 + j.val = j.val; omega

end Cert.MergeIdeal.Merge

end
-- ==== Proof.MergeTap.lean ====
/-
  The merge's kernel's payloads at an element: the sums of taps.
-/
module

public import proofs.«01_k».proof.Proof.MergeSpec
public import proofs.«01_k».proof.Proof.Gen.MergeIdeal.Skeleton
public import Idealize.ShloMosaic.Lib.Pointwise

@[expose] public section

noncomputable section

namespace Cert.MergeIdeal.Merge

open Cert.MergeIdeal Cert.MergeIdeal.Gen Idealize.ShloMosaic

theorem pay12_acc (v36 : Vec Ideal S1x128 .f32) (v40 : Vec Ideal S1x512x128 .f32) (v42 : Vec Ideal S1x128 .f32) (v46 : Vec Ideal S1x512x128 .f32) (v48 : Vec Ideal S1x128 .f32) (v52 : Vec Ideal S1x512x128 .f32) (v54 : Vec Ideal S1x128 .f32) (b : EReal) (f : ℕ → EReal) (n : Fin 512) (l : Fin 128)
    (hb : v36 (ix2 (0 : Fin 1) l) = b) (h0 : v40 (ix3 (0 : Fin 1) n l) * v42 (ix2 (0 : Fin 1) l) = f 0) (h1 : v46 (ix3 (0 : Fin 1) n l) * v48 (ix2 (0 : Fin 1) l) = f 1) (h2 : v52 (ix3 (0 : Fin 1) n l) * v54 (ix2 (0 : Fin 1) l) = f 2) :
    k0_pay12 (F := Ideal) v36 v40 v42 v46 v48 v52 v54 (ix2 n l) = Cert.Merge.acc b f 3 := by
  show _ = b + f 0 + f 1 + f 2
  rw [← hb, ← h0, ← h1, ← h2]
  pointwise [k0_pay12]

theorem pay13_apply (v58 : Vec Ideal S1x512x128 .f32) (n : Fin 512) (l : Fin 128) : k0_pay13 (F := Ideal) v58 (ix2 n l) = v58 (ix3 (0 : Fin 1) n l) := by
  pointwise [k0_pay13]

theorem pay14_acc (v57 : FVec Ideal S512x128 .f32) (v59 : FVec Ideal S512x128 .f32) (v60 : Vec Ideal S1x128 .f32) (v64 : Vec Ideal S1x512x128 .f32) (v66 : Vec Ideal S1x128 .f32) (v70 : Vec Ideal S1x512x128 .f32) (v72 : Vec Ideal S1x128 .f32) (v76 : Vec Ideal S1x512x128 .f32) (v78 : Vec Ideal S1x128 .f32) (v82 : Vec Ideal S1x512x128 .f32) (v84 : Vec Ideal S1x128 .f32) (v88 : Vec Ideal S1x512x128 .f32) (v90 : Vec Ideal S1x128 .f32) (b : EReal) (f : ℕ → EReal) (n : Fin 512) (l : Fin 128)
    (hb : v57 (ix2 n l) = Cert.Merge.acc b f 3) (h3 : v59 (ix2 n l) * v60 (ix2 (0 : Fin 1) l) = f 3) (h4 : v64 (ix3 (0 : Fin 1) n l) * v66 (ix2 (0 : Fin 1) l) = f 4) (h5 : v70 (ix3 (0 : Fin 1) n l) * v72 (ix2 (0 : Fin 1) l) = f 5) (h6 : v76 (ix3 (0 : Fin 1) n l) * v78 (ix2 (0 : Fin 1) l) = f 6) (h7 : v82 (ix3 (0 : Fin 1) n l) * v84 (ix2 (0 : Fin 1) l) = f 7) (h8 : v88 (ix3 (0 : Fin 1) n l) * v90 (ix2 (0 : Fin 1) l) = f 8) :
    k0_pay14 (F := Ideal) v57 v59 v60 v64 v66 v70 v72 v76 v78 v82 v84 v88 v90 (ix2 n l) = Cert.Merge.acc b f 9 := by
  show _ = Cert.Merge.acc b f 3 + f 3 + f 4 + f 5 + f 6 + f 7 + f 8
  rw [← hb, ← h3, ← h4, ← h5, ← h6, ← h7, ← h8]
  pointwise [k0_pay14]

theorem pay15_acc (v93 : FVec Ideal S512x128 .f32) (v94 : Vec Ideal S1x512x128 .f32) (v96 : Vec Ideal S1x128 .f32) (v100 : Vec Ideal S1x512x128 .f32) (v102 : Vec Ideal S1x128 .f32) (v106 : Vec Ideal S1x512x128 .f32) (v108 : Vec Ideal S1x128 .f32) (v112 : Vec Ideal S1x512x128 .f32) (v114 : Vec Ideal S1x128 .f32) (v118 : Vec Ideal S1x512x128 .f32) (v120 : Vec Ideal S1x128 .f32) (b : EReal) (f : ℕ → EReal) (n : Fin 512) (l : Fin 128)
    (hb : v93 (ix2 n l) = Cert.Merge.acc b f 9) (h9 : v94 (ix3 (0 : Fin 1) n l) * v96 (ix2 (0 : Fin 1) l) = f 9) (h10 : v100 (ix3 (0 : Fin 1) n l) * v102 (ix2 (0 : Fin 1) l) = f 10) (h11 : v106 (ix3 (0 : Fin 1) n l) * v108 (ix2 (0 : Fin 1) l) = f 11) (h12 : v112 (ix3 (0 : Fin 1) n l) * v114 (ix2 (0 : Fin 1) l) = f 12) (h13 : v118 (ix3 (0 : Fin 1) n l) * v120 (ix2 (0 : Fin 1) l) = f 13) :
    k0_pay15 (F := Ideal) v93 v94 v96 v100 v102 v106 v108 v112 v114 v118 v120 (ix2 n l) = Cert.Merge.acc b f 14 := by
  show _ = Cert.Merge.acc b f 9 + f 9 + f 10 + f 11 + f 12 + f 13
  rw [← hb, ← h9, ← h10, ← h11, ← h12, ← h13]
  pointwise [k0_pay15]

theorem pay16_apply (v124 : Vec Ideal S1x512x128 .f32) (n : Fin 512) (l : Fin 128) : k0_pay16 (F := Ideal) v124 (ix2 n l) = v124 (ix3 (0 : Fin 1) n l) := by
  pointwise [k0_pay16]

theorem pay17_acc (v123 : FVec Ideal S512x128 .f32) (v125 : FVec Ideal S512x128 .f32) (v126 : Vec Ideal S1x128 .f32) (v130 : Vec Ideal S1x512x128 .f32) (v132 : Vec Ideal S1x128 .f32) (v136 : Vec Ideal S1x512x128 .f32) (v138 : Vec Ideal S1x128 .f32) (v142 : Vec Ideal S1x512x128 .f32) (v144 : Vec Ideal S1x128 .f32) (v148 : Vec Ideal S1x512x128 .f32) (v150 : Vec Ideal S1x128 .f32) (v154 : Vec Ideal S1x512x128 .f32) (v156 : Vec Ideal S1x128 .f32) (b : EReal) (f : ℕ → EReal) (n : Fin 512) (l : Fin 128)
    (hb : v123 (ix2 n l) = Cert.Merge.acc b f 14) (h14 : v125 (ix2 n l) * v126 (ix2 (0 : Fin 1) l) = f 14) (h15 : v130 (ix3 (0 : Fin 1) n l) * v132 (ix2 (0 : Fin 1) l) = f 15) (h16 : v136 (ix3 (0 : Fin 1) n l) * v138 (ix2 (0 : Fin 1) l) = f 16) (h17 : v142 (ix3 (0 : Fin 1) n l) * v144 (ix2 (0 : Fin 1) l) = f 17) (h18 : v148 (ix3 (0 : Fin 1) n l) * v150 (ix2 (0 : Fin 1) l) = f 18) (h19 : v154 (ix3 (0 : Fin 1) n l) * v156 (ix2 (0 : Fin 1) l) = f 19) :
    k0_pay17 (F := Ideal) v123 v125 v126 v130 v132 v136 v138 v142 v144 v148 v150 v154 v156 (ix2 n l) = Cert.Merge.acc b f 20 := by
  show _ = Cert.Merge.acc b f 14 + f 14 + f 15 + f 16 + f 17 + f 18 + f 19
  rw [← hb, ← h14, ← h15, ← h16, ← h17, ← h18, ← h19]
  pointwise [k0_pay17]

theorem pay18_acc (v159 : FVec Ideal S512x128 .f32) (v160 : Vec Ideal S1x512x128 .f32) (v162 : Vec Ideal S1x128 .f32) (v166 : Vec Ideal S1x512x128 .f32) (v168 : Vec Ideal S1x128 .f32) (v172 : Vec Ideal S1x512x128 .f32) (v174 : Vec Ideal S1x128 .f32) (v178 : Vec Ideal S1x512x128 .f32) (v180 : Vec Ideal S1x128 .f32) (v184 : Vec Ideal S1x512x128 .f32) (v186 : Vec Ideal S1x128 .f32) (b : EReal) (f : ℕ → EReal) (n : Fin 512) (l : Fin 128)
    (hb : v159 (ix2 n l) = Cert.Merge.acc b f 20) (h20 : v160 (ix3 (0 : Fin 1) n l) * v162 (ix2 (0 : Fin 1) l) = f 20) (h21 : v166 (ix3 (0 : Fin 1) n l) * v168 (ix2 (0 : Fin 1) l) = f 21) (h22 : v172 (ix3 (0 : Fin 1) n l) * v174 (ix2 (0 : Fin 1) l) = f 22) (h23 : v178 (ix3 (0 : Fin 1) n l) * v180 (ix2 (0 : Fin 1) l) = f 23) (h24 : v184 (ix3 (0 : Fin 1) n l) * v186 (ix2 (0 : Fin 1) l) = f 24) :
    k0_pay18 (F := Ideal) v159 v160 v162 v166 v168 v172 v174 v178 v180 v184 v186 (ix2 n l) = Cert.Merge.acc b f 25 := by
  show _ = Cert.Merge.acc b f 20 + f 20 + f 21 + f 22 + f 23 + f 24
  rw [← hb, ← h20, ← h21, ← h22, ← h23, ← h24]
  pointwise [k0_pay18]

theorem pay19_apply (v190 : Vec Ideal S1x512x128 .f32) (n : Fin 512) (l : Fin 128) : k0_pay19 (F := Ideal) v190 (ix2 n l) = v190 (ix3 (0 : Fin 1) n l) := by
  pointwise [k0_pay19]

theorem pay20_acc (v189 : FVec Ideal S512x128 .f32) (v191 : FVec Ideal S512x128 .f32) (v192 : Vec Ideal S1x128 .f32) (v196 : Vec Ideal S1x512x128 .f32) (v198 : Vec Ideal S1x128 .f32) (v202 : Vec Ideal S1x512x128 .f32) (v204 : Vec Ideal S1x128 .f32) (v208 : Vec Ideal S1x512x128 .f32) (v210 : Vec Ideal S1x128 .f32) (v214 : Vec Ideal S1x512x128 .f32) (v216 : Vec Ideal S1x128 .f32) (v220 : Vec Ideal S1x512x128 .f32) (v222 : Vec Ideal S1x128 .f32) (b : EReal) (f : ℕ → EReal) (n : Fin 512) (l : Fin 128)
    (hb : v189 (ix2 n l) = Cert.Merge.acc b f 25) (h25 : v191 (ix2 n l) * v192 (ix2 (0 : Fin 1) l) = f 25) (h26 : v196 (ix3 (0 : Fin 1) n l) * v198 (ix2 (0 : Fin 1) l) = f 26) (h27 : v202 (ix3 (0 : Fin 1) n l) * v204 (ix2 (0 : Fin 1) l) = f 27) (h28 : v208 (ix3 (0 : Fin 1) n l) * v210 (ix2 (0 : Fin 1) l) = f 28) (h29 : v214 (ix3 (0 : Fin 1) n l) * v216 (ix2 (0 : Fin 1) l) = f 29) (h30 : v220 (ix3 (0 : Fin 1) n l) * v222 (ix2 (0 : Fin 1) l) = f 30) :
    k0_pay20 (F := Ideal) v189 v191 v192 v196 v198 v202 v204 v208 v210 v214 v216 v220 v222 (ix2 n l) = Cert.Merge.acc b f 31 := by
  show _ = Cert.Merge.acc b f 25 + f 25 + f 26 + f 27 + f 28 + f 29 + f 30
  rw [← hb, ← h25, ← h26, ← h27, ← h28, ← h29, ← h30]
  pointwise [k0_pay20]

theorem pay24_acc (v239 : Vec Ideal S1x128 .f32) (v243 : Vec Ideal S1x512x128 .f32) (v245 : Vec Ideal S1x128 .f32) (v249 : Vec Ideal S1x512x128 .f32) (v251 : Vec Ideal S1x128 .f32) (b : EReal) (f : ℕ → EReal) (n : Fin 512) (l : Fin 128)
    (hb : v239 (ix2 (0 : Fin 1) l) = b) (h0 : v243 (ix3 (0 : Fin 1) n l) * v245 (ix2 (0 : Fin 1) l) = f 0) (h1 : v249 (ix3 (0 : Fin 1) n l) * v251 (ix2 (0 : Fin 1) l) = f 1) :
    k0_pay24 (F := Ideal) v239 v243 v245 v249 v251 (ix2 n l) = Cert.Merge.acc b f 2 := by
  show _ = b + f 0 + f 1
  rw [← hb, ← h0, ← h1]
  pointwise [k0_pay24]

theorem pay25_apply (v255 : Vec Ideal S1x512x128 .f32) (n : Fin 512) (l : Fin 128) : k0_pay25 (F := Ideal) v255 (ix2 n l) = v255 (ix3 (0 : Fin 1) n l) := by
  pointwise [k0_pay25]

theorem pay26_acc (v254 : FVec Ideal S512x128 .f32) (v256 : FVec Ideal S512x128 .f32) (v257 : Vec Ideal S1x128 .f32) (v261 : Vec Ideal S1x512x128 .f32) (v263 : Vec Ideal S1x128 .f32) (v267 : Vec Ideal S1x512x128 .f32) (v269 : Vec Ideal S1x128 .f32) (v273 : Vec Ideal S1x512x128 .f32) (v275 : Vec Ideal S1x128 .f32) (v279 : Vec Ideal S1x512x128 .f32) (v281 : Vec Ideal S1x128 .f32) (v285 : Vec Ideal S1x512x128 .f32) (v287 : Vec Ideal S1x128 .f32) (b : EReal) (f : ℕ → EReal) (n : Fin 512) (l : Fin 128)
    (hb : v254 (ix2 n l) = Cert.Merge.acc b f 2) (h2 : v256 (ix2 n l) * v257 (ix2 (0 : Fin 1) l) = f 2) (h3 : v261 (ix3 (0 : Fin 1) n l) * v263 (ix2 (0 : Fin 1) l) = f 3) (h4 : v267 (ix3 (0 : Fin 1) n l) * v269 (ix2 (0 : Fin 1) l) = f 4) (h5 : v273 (ix3 (0 : Fin 1) n l) * v275 (ix2 (0 : Fin 1) l) = f 5) (h6 : v279 (ix3 (0 : Fin 1) n l) * v281 (ix2 (0 : Fin 1) l) = f 6) (h7 : v285 (ix3 (0 : Fin 1) n l) * v287 (ix2 (0 : Fin 1) l) = f 7) :
    k0_pay26 (F := Ideal) v254 v256 v257 v261 v263 v267 v269 v273 v275 v279 v281 v285 v287 (ix2 n l) = Cert.Merge.acc b f 8 := by
  show _ = Cert.Merge.acc b f 2 + f 2 + f 3 + f 4 + f 5 + f 6 + f 7
  rw [← hb, ← h2, ← h3, ← h4, ← h5, ← h6, ← h7]
  pointwise [k0_pay26]

theorem pay27_acc (v290 : FVec Ideal S512x128 .f32) (v291 : Vec Ideal S1x512x128 .f32) (v293 : Vec Ideal S1x128 .f32) (v297 : Vec Ideal S1x512x128 .f32) (v299 : Vec Ideal S1x128 .f32) (v303 : Vec Ideal S1x512x128 .f32) (v305 : Vec Ideal S1x128 .f32) (v309 : Vec Ideal S1x512x128 .f32) (v311 : Vec Ideal S1x128 .f32) (v315 : Vec Ideal S1x512x128 .f32) (v317 : Vec Ideal S1x128 .f32) (b : EReal) (f : ℕ → EReal) (n : Fin 512) (l : Fin 128)
    (hb : v290 (ix2 n l) = Cert.Merge.acc b f 8) (h8 : v291 (ix3 (0 : Fin 1) n l) * v293 (ix2 (0 : Fin 1) l) = f 8) (h9 : v297 (ix3 (0 : Fin 1) n l) * v299 (ix2 (0 : Fin 1) l) = f 9) (h10 : v303 (ix3 (0 : Fin 1) n l) * v305 (ix2 (0 : Fin 1) l) = f 10) (h11 : v309 (ix3 (0 : Fin 1) n l) * v311 (ix2 (0 : Fin 1) l) = f 11) (h12 : v315 (ix3 (0 : Fin 1) n l) * v317 (ix2 (0 : Fin 1) l) = f 12) :
    k0_pay27 (F := Ideal) v290 v291 v293 v297 v299 v303 v305 v309 v311 v315 v317 (ix2 n l) = Cert.Merge.acc b f 13 := by
  show _ = Cert.Merge.acc b f 8 + f 8 + f 9 + f 10 + f 11 + f 12
  rw [← hb, ← h8, ← h9, ← h10, ← h11, ← h12]
  pointwise [k0_pay27]

theorem pay28_apply (v321 : Vec Ideal S1x512x128 .f32) (n : Fin 512) (l : Fin 128) : k0_pay28 (F := Ideal) v321 (ix2 n l) = v321 (ix3 (0 : Fin 1) n l) := by
  pointwise [k0_pay28]

theorem pay29_acc (v320 : FVec Ideal S512x128 .f32) (v322 : FVec Ideal S512x128 .f32) (v323 : Vec Ideal S1x128 .f32) (v327 : Vec Ideal S1x512x128 .f32) (v329 : Vec Ideal S1x128 .f32) (v333 : Vec Ideal S1x512x128 .f32) (v335 : Vec Ideal S1x128 .f32) (v339 : Vec Ideal S1x512x128 .f32) (v341 : Vec Ideal S1x128 .f32) (v345 : Vec Ideal S1x512x128 .f32) (v347 : Vec Ideal S1x128 .f32) (b : EReal) (f : ℕ → EReal) (n : Fin 512) (l : Fin 128)
    (hb : v320 (ix2 n l) = Cert.Merge.acc b f 13) (h13 : v322 (ix2 n l) * v323 (ix2 (0 : Fin 1) l) = f 13) (h14 : v327 (ix3 (0 : Fin 1) n l) * v329 (ix2 (0 : Fin 1) l) = f 14) (h15 : v333 (ix3 (0 : Fin 1) n l) * v335 (ix2 (0 : Fin 1) l) = f 15) (h16 : v339 (ix3 (0 : Fin 1) n l) * v341 (ix2 (0 : Fin 1) l) = f 16) (h17 : v345 (ix3 (0 : Fin 1) n l) * v347 (ix2 (0 : Fin 1) l) = f 17) :
    k0_pay29 (F := Ideal) v320 v322 v323 v327 v329 v333 v335 v339 v341 v345 v347 (ix2 n l) = Cert.Merge.acc b f 18 := by
  show _ = Cert.Merge.acc b f 13 + f 13 + f 14 + f 15 + f 16 + f 17
  rw [← hb, ← h13, ← h14, ← h15, ← h16, ← h17]
  pointwise [k0_pay29]

theorem pay30_apply (v351 : Vec Ideal S1x512x128 .f32) (v353 : Vec Ideal S1x128 .f32) (n : Fin 512) (l : Fin 128) : k0_pay30 (F := Ideal) v351 v353 (ix2 n l) = v351 (ix3 (0 : Fin 1) n l) * v353 (ix2 (0 : Fin 1) l) := by
  pointwise [k0_pay30]

theorem pay31_acc (v350 : FVec Ideal S512x128 .f32) (v355 : FVec Ideal S512x128 .f32) (v357 : Vec Ideal S1x512x128 .f32) (v359 : Vec Ideal S1x128 .f32) (v363 : Vec Ideal S1x512x128 .f32) (v365 : Vec Ideal S1x128 .f32) (v369 : Vec Ideal S1x512x128 .f32) (v371 : Vec Ideal S1x128 .f32) (v375 : Vec Ideal S1x512x128 .f32) (v377 : Vec Ideal S1x128 .f32) (v381 : Vec Ideal S1x512x128 .f32) (v383 : Vec Ideal S1x128 .f32) (b : EReal) (f : ℕ → EReal) (n : Fin 512) (l : Fin 128)
    (hb : v350 (ix2 n l) = Cert.Merge.acc b f 18) (h18 : v355 (ix2 n l) = f 18) (h19 : v357 (ix3 (0 : Fin 1) n l) * v359 (ix2 (0 : Fin 1) l) = f 19) (h20 : v363 (ix3 (0 : Fin 1) n l) * v365 (ix2 (0 : Fin 1) l) = f 20) (h21 : v369 (ix3 (0 : Fin 1) n l) * v371 (ix2 (0 : Fin 1) l) = f 21) (h22 : v375 (ix3 (0 : Fin 1) n l) * v377 (ix2 (0 : Fin 1) l) = f 22) (h23 : v381 (ix3 (0 : Fin 1) n l) * v383 (ix2 (0 : Fin 1) l) = f 23) :
    k0_pay31 (F := Ideal) v350 v355 v357 v359 v363 v365 v369 v371 v375 v377 v381 v383 (ix2 n l) = Cert.Merge.acc b f 24 := by
  show _ = Cert.Merge.acc b f 18 + f 18 + f 19 + f 20 + f 21 + f 22 + f 23
  rw [← hb, ← h18, ← h19, ← h20, ← h21, ← h22, ← h23]
  pointwise [k0_pay31]

theorem pay32_acc (v386 : FVec Ideal S512x128 .f32) (v387 : Vec Ideal S1x512x128 .f32) (v389 : Vec Ideal S1x128 .f32) (v393 : Vec Ideal S1x512x128 .f32) (v395 : Vec Ideal S1x128 .f32) (v399 : Vec Ideal S1x512x128 .f32) (v401 : Vec Ideal S1x128 .f32) (v405 : Vec Ideal S1x512x128 .f32) (v407 : Vec Ideal S1x128 .f32) (v411 : Vec Ideal S1x512x128 .f32) (v413 : Vec Ideal S1x128 .f32) (b : EReal) (f : ℕ → EReal) (n : Fin 512) (l : Fin 128)
    (hb : v386 (ix2 n l) = Cert.Merge.acc b f 24) (h24 : v387 (ix3 (0 : Fin 1) n l) * v389 (ix2 (0 : Fin 1) l) = f 24) (h25 : v393 (ix3 (0 : Fin 1) n l) * v395 (ix2 (0 : Fin 1) l) = f 25) (h26 : v399 (ix3 (0 : Fin 1) n l) * v401 (ix2 (0 : Fin 1) l) = f 26) (h27 : v405 (ix3 (0 : Fin 1) n l) * v407 (ix2 (0 : Fin 1) l) = f 27) (h28 : v411 (ix3 (0 : Fin 1) n l) * v413 (ix2 (0 : Fin 1) l) = f 28) :
    k0_pay32 (F := Ideal) v386 v387 v389 v393 v395 v399 v401 v405 v407 v411 v413 (ix2 n l) = Cert.Merge.acc b f 29 := by
  show _ = Cert.Merge.acc b f 24 + f 24 + f 25 + f 26 + f 27 + f 28
  rw [← hb, ← h24, ← h25, ← h26, ← h27, ← h28]
  pointwise [k0_pay32]

theorem pay33_apply (v417 : Vec Ideal S1x512x128 .f32) (n : Fin 512) (l : Fin 128) : k0_pay33 (F := Ideal) v417 (ix2 n l) = v417 (ix3 (0 : Fin 1) n l) := by
  pointwise [k0_pay33]

theorem pay34_apply (v419 : Vec Ideal S1x128 .f32) (n : Fin 512) (l : Fin 128) : k0_pay34 (F := Ideal) v419 (ix2 n l) = v419 (ix2 (0 : Fin 1) l) := by
  pointwise [k0_pay34]

theorem pay35_acc (v416 : FVec Ideal S512x128 .f32) (v418 : FVec Ideal S512x128 .f32) (v420 : FVec Ideal S512x128 .f32) (v423 : Vec Ideal S1x512x128 .f32) (v425 : Vec Ideal S1x128 .f32) (b : EReal) (f : ℕ → EReal) (n : Fin 512) (l : Fin 128)
    (hb : v416 (ix2 n l) = Cert.Merge.acc b f 29) (h29 : v418 (ix2 n l) * v420 (ix2 n l) = f 29) (h30 : v423 (ix3 (0 : Fin 1) n l) * v425 (ix2 (0 : Fin 1) l) = f 30) :
    k0_pay35 (F := Ideal) v416 v418 v420 v423 v425 (ix2 n l) = Cert.Merge.acc b f 31 := by
  show _ = Cert.Merge.acc b f 29 + f 29 + f 30
  rw [← hb, ← h29, ← h30]
  pointwise [k0_pay35]

theorem pay39_acc (v442 : Vec Ideal S1x128 .f32) (v446 : Vec Ideal S1x512x128 .f32) (v448 : Vec Ideal S1x128 .f32) (b : EReal) (f : ℕ → EReal) (n : Fin 512) (l : Fin 128)
    (hb : v442 (ix2 (0 : Fin 1) l) = b) (h0 : v446 (ix3 (0 : Fin 1) n l) * v448 (ix2 (0 : Fin 1) l) = f 0) :
    k0_pay39 (F := Ideal) v442 v446 v448 (ix2 n l) = Cert.Merge.acc b f 1 := by
  show _ = b + f 0
  rw [← hb, ← h0]
  pointwise [k0_pay39]

theorem pay40_acc (v451 : FVec Ideal S512x128 .f32) (v452 : Vec Ideal S1x512x128 .f32) (v454 : Vec Ideal S1x128 .f32) (v458 : Vec Ideal S1x512x128 .f32) (v460 : Vec Ideal S1x128 .f32) (v464 : Vec Ideal S1x512x128 .f32) (v466 : Vec Ideal S1x128 .f32) (v470 : Vec Ideal S1x512x128 .f32) (v472 : Vec Ideal S1x128 .f32) (v476 : Vec Ideal S1x512x128 .f32) (v478 : Vec Ideal S1x128 .f32) (b : EReal) (f : ℕ → EReal) (n : Fin 512) (l : Fin 128)
    (hb : v451 (ix2 n l) = Cert.Merge.acc b f 1) (h1 : v452 (ix3 (0 : Fin 1) n l) * v454 (ix2 (0 : Fin 1) l) = f 1) (h2 : v458 (ix3 (0 : Fin 1) n l) * v460 (ix2 (0 : Fin 1) l) = f 2) (h3 : v464 (ix3 (0 : Fin 1) n l) * v466 (ix2 (0 : Fin 1) l) = f 3) (h4 : v470 (ix3 (0 : Fin 1) n l) * v472 (ix2 (0 : Fin 1) l) = f 4) (h5 : v476 (ix3 (0 : Fin 1) n l) * v478 (ix2 (0 : Fin 1) l) = f 5) :
    k0_pay40 (F := Ideal) v451 v452 v454 v458 v460 v464 v466 v470 v472 v476 v478 (ix2 n l) = Cert.Merge.acc b f 6 := by
  show _ = Cert.Merge.acc b f 1 + f 1 + f 2 + f 3 + f 4 + f 5
  rw [← hb, ← h1, ← h2, ← h3, ← h4, ← h5]
  pointwise [k0_pay40]

theorem pay41_apply (v482 : Vec Ideal S1x512x128 .f32) (n : Fin 512) (l : Fin 128) : k0_pay41 (F := Ideal) v482 (ix2 n l) = v482 (ix3 (0 : Fin 1) n l) := by
  pointwise [k0_pay41]

theorem pay42_apply (v484 : Vec Ideal S1x128 .f32) (n : Fin 512) (l : Fin 128) : k0_pay42 (F := Ideal) v484 (ix2 n l) = v484 (ix2 (0 : Fin 1) l) := by
  pointwise [k0_pay42]

theorem pay43_acc (v481 : FVec Ideal S512x128 .f32) (v483 : FVec Ideal S512x128 .f32) (v485 : FVec Ideal S512x128 .f32) (v488 : Vec Ideal S1x512x128 .f32) (v490 : Vec Ideal S1x128 .f32) (v494 : Vec Ideal S1x512x128 .f32) (v496 : Vec Ideal S1x128 .f32) (v500 : Vec Ideal S1x512x128 .f32) (v502 : Vec Ideal S1x128 .f32) (v506 : Vec Ideal S1x512x128 .f32) (v508 : Vec Ideal S1x128 .f32) (v512 : Vec Ideal S1x512x128 .f32) (v514 : Vec Ideal S1x128 .f32) (b : EReal) (f : ℕ → EReal) (n : Fin 512) (l : Fin 128)
    (hb : v481 (ix2 n l) = Cert.Merge.acc b f 6) (h6 : v483 (ix2 n l) * v485 (ix2 n l) = f 6) (h7 : v488 (ix3 (0 : Fin 1) n l) * v490 (ix2 (0 : Fin 1) l) = f 7) (h8 : v494 (ix3 (0 : Fin 1) n l) * v496 (ix2 (0 : Fin 1) l) = f 8) (h9 : v500 (ix3 (0 : Fin 1) n l) * v502 (ix2 (0 : Fin 1) l) = f 9) (h10 : v506 (ix3 (0 : Fin 1) n l) * v508 (ix2 (0 : Fin 1) l) = f 10) (h11 : v512 (ix3 (0 : Fin 1) n l) * v514 (ix2 (0 : Fin 1) l) = f 11) :
    k0_pay43 (F := Ideal) v481 v483 v485 v488 v490 v494 v496 v500 v502 v506 v508 v512 v514 (ix2 n l) = Cert.Merge.acc b f 12 := by
  show _ = Cert.Merge.acc b f 6 + f 6 + f 7 + f 8 + f 9 + f 10 + f 11
  rw [← hb, ← h6, ← h7, ← h8, ← h9, ← h10, ← h11]
  pointwise [k0_pay43]

theorem pay44_acc (v517 : FVec Ideal S512x128 .f32) (v518 : Vec Ideal S1x512x128 .f32) (v520 : Vec Ideal S1x128 .f32) (v524 : Vec Ideal S1x512x128 .f32) (v526 : Vec Ideal S1x128 .f32) (v530 : Vec Ideal S1x512x128 .f32) (v532 : Vec Ideal S1x128 .f32) (v536 : Vec Ideal S1x512x128 .f32) (v538 : Vec Ideal S1x128 .f32) (v542 : Vec Ideal S1x512x128 .f32) (v544 : Vec Ideal S1x128 .f32) (b : EReal) (f : ℕ → EReal) (n : Fin 512) (l : Fin 128)
    (hb : v517 (ix2 n l) = Cert.Merge.acc b f 12) (h12 : v518 (ix3 (0 : Fin 1) n l) * v520 (ix2 (0 : Fin 1) l) = f 12) (h13 : v524 (ix3 (0 : Fin 1) n l) * v526 (ix2 (0 : Fin 1) l) = f 13) (h14 : v530 (ix3 (0 : Fin 1) n l) * v532 (ix2 (0 : Fin 1) l) = f 14) (h15 : v536 (ix3 (0 : Fin 1) n l) * v538 (ix2 (0 : Fin 1) l) = f 15) (h16 : v542 (ix3 (0 : Fin 1) n l) * v544 (ix2 (0 : Fin 1) l) = f 16) :
    k0_pay44 (F := Ideal) v517 v518 v520 v524 v526 v530 v532 v536 v538 v542 v544 (ix2 n l) = Cert.Merge.acc b f 17 := by
  show _ = Cert.Merge.acc b f 12 + f 12 + f 13 + f 14 + f 15 + f 16
  rw [← hb, ← h12, ← h13, ← h14, ← h15, ← h16]
  pointwise [k0_pay44]

theorem pay45_apply (v548 : Vec Ideal S1x512x128 .f32) (n : Fin 512) (l : Fin 128) : k0_pay45 (F := Ideal) v548 (ix2 n l) = v548 (ix3 (0 : Fin 1) n l) := by
  pointwise [k0_pay45]

theorem pay46_acc (v547 : FVec Ideal S512x128 .f32) (v549 : FVec Ideal S512x128 .f32) (v550 : Vec Ideal S1x128 .f32) (v554 : Vec Ideal S1x512x128 .f32) (v556 : Vec Ideal S1x128 .f32) (v560 : Vec Ideal S1x512x128 .f32) (v562 : Vec Ideal S1x128 .f32) (v566 : Vec Ideal S1x512x128 .f32) (v568 : Vec Ideal S1x128 .f32) (v572 : Vec Ideal S1x512x128 .f32) (v574 : Vec Ideal S1x128 .f32) (v578 : Vec Ideal S1x512x128 .f32) (v580 : Vec Ideal S1x128 .f32) (b : EReal) (f : ℕ → EReal) (n : Fin 512) (l : Fin 128)
    (hb : v547 (ix2 n l) = Cert.Merge.acc b f 17) (h17 : v549 (ix2 n l) * v550 (ix2 (0 : Fin 1) l) = f 17) (h18 : v554 (ix3 (0 : Fin 1) n l) * v556 (ix2 (0 : Fin 1) l) = f 18) (h19 : v560 (ix3 (0 : Fin 1) n l) * v562 (ix2 (0 : Fin 1) l) = f 19) (h20 : v566 (ix3 (0 : Fin 1) n l) * v568 (ix2 (0 : Fin 1) l) = f 20) (h21 : v572 (ix3 (0 : Fin 1) n l) * v574 (ix2 (0 : Fin 1) l) = f 21) (h22 : v578 (ix3 (0 : Fin 1) n l) * v580 (ix2 (0 : Fin 1) l) = f 22) :
    k0_pay46 (F := Ideal) v547 v549 v550 v554 v556 v560 v562 v566 v568 v572 v574 v578 v580 (ix2 n l) = Cert.Merge.acc b f 23 := by
  show _ = Cert.Merge.acc b f 17 + f 17 + f 18 + f 19 + f 20 + f 21 + f 22
  rw [← hb, ← h17, ← h18, ← h19, ← h20, ← h21, ← h22]
  pointwise [k0_pay46]

theorem pay47_acc (v583 : FVec Ideal S512x128 .f32) (v584 : Vec Ideal S1x512x128 .f32) (v586 : Vec Ideal S1x128 .f32) (v590 : Vec Ideal S1x512x128 .f32) (v592 : Vec Ideal S1x128 .f32) (v596 : Vec Ideal S1x512x128 .f32) (v598 : Vec Ideal S1x128 .f32) (v602 : Vec Ideal S1x512x128 .f32) (v604 : Vec Ideal S1x128 .f32) (v608 : Vec Ideal S1x512x128 .f32) (v610 : Vec Ideal S1x128 .f32) (b : EReal) (f : ℕ → EReal) (n : Fin 512) (l : Fin 128)
    (hb : v583 (ix2 n l) = Cert.Merge.acc b f 23) (h23 : v584 (ix3 (0 : Fin 1) n l) * v586 (ix2 (0 : Fin 1) l) = f 23) (h24 : v590 (ix3 (0 : Fin 1) n l) * v592 (ix2 (0 : Fin 1) l) = f 24) (h25 : v596 (ix3 (0 : Fin 1) n l) * v598 (ix2 (0 : Fin 1) l) = f 25) (h26 : v602 (ix3 (0 : Fin 1) n l) * v604 (ix2 (0 : Fin 1) l) = f 26) (h27 : v608 (ix3 (0 : Fin 1) n l) * v610 (ix2 (0 : Fin 1) l) = f 27) :
    k0_pay47 (F := Ideal) v583 v584 v586 v590 v592 v596 v598 v602 v604 v608 v610 (ix2 n l) = Cert.Merge.acc b f 28 := by
  show _ = Cert.Merge.acc b f 23 + f 23 + f 24 + f 25 + f 26 + f 27
  rw [← hb, ← h23, ← h24, ← h25, ← h26, ← h27]
  pointwise [k0_pay47]

theorem pay48_apply (v614 : Vec Ideal S1x512x128 .f32) (n : Fin 512) (l : Fin 128) : k0_pay48 (F := Ideal) v614 (ix2 n l) = v614 (ix3 (0 : Fin 1) n l) := by
  pointwise [k0_pay48]

theorem pay49_acc (v613 : FVec Ideal S512x128 .f32) (v615 : FVec Ideal S512x128 .f32) (v616 : Vec Ideal S1x128 .f32) (v620 : Vec Ideal S1x512x128 .f32) (v622 : Vec Ideal S1x128 .f32) (v626 : Vec Ideal S1x512x128 .f32) (v628 : Vec Ideal S1x128 .f32) (b : EReal) (f : ℕ → EReal) (n : Fin 512) (l : Fin 128)
    (hb : v613 (ix2 n l) = Cert.Merge.acc b f 28) (h28 : v615 (ix2 n l) * v616 (ix2 (0 : Fin 1) l) = f 28) (h29 : v620 (ix3 (0 : Fin 1) n l) * v622 (ix2 (0 : Fin 1) l) = f 29) (h30 : v626 (ix3 (0 : Fin 1) n l) * v628 (ix2 (0 : Fin 1) l) = f 30) :
    k0_pay49 (F := Ideal) v613 v615 v616 v620 v622 v626 v628 (ix2 n l) = Cert.Merge.acc b f 31 := by
  show _ = Cert.Merge.acc b f 28 + f 28 + f 29 + f 30
  rw [← hb, ← h28, ← h29, ← h30]
  pointwise [k0_pay49]

theorem pay53_acc (v645 : Vec Ideal S1x128 .f32) (b : EReal) (f : ℕ → EReal) (n : Fin 512) (l : Fin 128)
    (hb : v645 (ix2 (0 : Fin 1) l) = b) :
    k0_pay53 (F := Ideal) v645 (ix2 n l) = Cert.Merge.acc b f 0 := by
  show _ = b
  rw [← hb]
  pointwise [k0_pay53]

theorem pay54_acc (v648 : FVec Ideal S512x128 .f32) (v649 : Vec Ideal S1x512x128 .f32) (v651 : Vec Ideal S1x128 .f32) (v655 : Vec Ideal S1x512x128 .f32) (v657 : Vec Ideal S1x128 .f32) (v661 : Vec Ideal S1x512x128 .f32) (v663 : Vec Ideal S1x128 .f32) (v667 : Vec Ideal S1x512x128 .f32) (v669 : Vec Ideal S1x128 .f32) (v673 : Vec Ideal S1x512x128 .f32) (v675 : Vec Ideal S1x128 .f32) (b : EReal) (f : ℕ → EReal) (n : Fin 512) (l : Fin 128)
    (hb : v648 (ix2 n l) = Cert.Merge.acc b f 0) (h0 : v649 (ix3 (0 : Fin 1) n l) * v651 (ix2 (0 : Fin 1) l) = f 0) (h1 : v655 (ix3 (0 : Fin 1) n l) * v657 (ix2 (0 : Fin 1) l) = f 1) (h2 : v661 (ix3 (0 : Fin 1) n l) * v663 (ix2 (0 : Fin 1) l) = f 2) (h3 : v667 (ix3 (0 : Fin 1) n l) * v669 (ix2 (0 : Fin 1) l) = f 3) (h4 : v673 (ix3 (0 : Fin 1) n l) * v675 (ix2 (0 : Fin 1) l) = f 4) :
    k0_pay54 (F := Ideal) v648 v649 v651 v655 v657 v661 v663 v667 v669 v673 v675 (ix2 n l) = Cert.Merge.acc b f 5 := by
  show _ = Cert.Merge.acc b f 0 + f 0 + f 1 + f 2 + f 3 + f 4
  rw [← hb, ← h0, ← h1, ← h2, ← h3, ← h4]
  pointwise [k0_pay54]

theorem pay55_apply (v679 : Vec Ideal S1x512x128 .f32) (n : Fin 512) (l : Fin 128) : k0_pay55 (F := Ideal) v679 (ix2 n l) = v679 (ix3 (0 : Fin 1) n l) := by
  pointwise [k0_pay55]

theorem pay56_acc (v678 : FVec Ideal S512x128 .f32) (v680 : FVec Ideal S512x128 .f32) (v681 : Vec Ideal S1x128 .f32) (v685 : Vec Ideal S1x512x128 .f32) (v687 : Vec Ideal S1x128 .f32) (v691 : Vec Ideal S1x512x128 .f32) (v693 : Vec Ideal S1x128 .f32) (v697 : Vec Ideal S1x512x128 .f32) (v699 : Vec Ideal S1x128 .f32) (v703 : Vec Ideal S1x512x128 .f32) (v705 : Vec Ideal S1x128 .f32) (v709 : Vec Ideal S1x512x128 .f32) (v711 : Vec Ideal S1x128 .f32) (b : EReal) (f : ℕ → EReal) (n : Fin 512) (l : Fin 128)
    (hb : v678 (ix2 n l) = Cert.Merge.acc b f 5) (h5 : v680 (ix2 n l) * v681 (ix2 (0 : Fin 1) l) = f 5) (h6 : v685 (ix3 (0 : Fin 1) n l) * v687 (ix2 (0 : Fin 1) l) = f 6) (h7 : v691 (ix3 (0 : Fin 1) n l) * v693 (ix2 (0 : Fin 1) l) = f 7) (h8 : v697 (ix3 (0 : Fin 1) n l) * v699 (ix2 (0 : Fin 1) l) = f 8) (h9 : v703 (ix3 (0 : Fin 1) n l) * v705 (ix2 (0 : Fin 1) l) = f 9) (h10 : v709 (ix3 (0 : Fin 1) n l) * v711 (ix2 (0 : Fin 1) l) = f 10) :
    k0_pay56 (F := Ideal) v678 v680 v681 v685 v687 v691 v693 v697 v699 v703 v705 v709 v711 (ix2 n l) = Cert.Merge.acc b f 11 := by
  show _ = Cert.Merge.acc b f 5 + f 5 + f 6 + f 7 + f 8 + f 9 + f 10
  rw [← hb, ← h5, ← h6, ← h7, ← h8, ← h9, ← h10]
  pointwise [k0_pay56]

theorem pay57_acc (v714 : FVec Ideal S512x128 .f32) (v715 : Vec Ideal S1x512x128 .f32) (v717 : Vec Ideal S1x128 .f32) (v721 : Vec Ideal S1x512x128 .f32) (v723 : Vec Ideal S1x128 .f32) (v727 : Vec Ideal S1x512x128 .f32) (v729 : Vec Ideal S1x128 .f32) (v733 : Vec Ideal S1x512x128 .f32) (v735 : Vec Ideal S1x128 .f32) (v739 : Vec Ideal S1x512x128 .f32) (v741 : Vec Ideal S1x128 .f32) (b : EReal) (f : ℕ → EReal) (n : Fin 512) (l : Fin 128)
    (hb : v714 (ix2 n l) = Cert.Merge.acc b f 11) (h11 : v715 (ix3 (0 : Fin 1) n l) * v717 (ix2 (0 : Fin 1) l) = f 11) (h12 : v721 (ix3 (0 : Fin 1) n l) * v723 (ix2 (0 : Fin 1) l) = f 12) (h13 : v727 (ix3 (0 : Fin 1) n l) * v729 (ix2 (0 : Fin 1) l) = f 13) (h14 : v733 (ix3 (0 : Fin 1) n l) * v735 (ix2 (0 : Fin 1) l) = f 14) (h15 : v739 (ix3 (0 : Fin 1) n l) * v741 (ix2 (0 : Fin 1) l) = f 15) :
    k0_pay57 (F := Ideal) v714 v715 v717 v721 v723 v727 v729 v733 v735 v739 v741 (ix2 n l) = Cert.Merge.acc b f 16 := by
  show _ = Cert.Merge.acc b f 11 + f 11 + f 12 + f 13 + f 14 + f 15
  rw [← hb, ← h11, ← h12, ← h13, ← h14, ← h15]
  pointwise [k0_pay57]

theorem pay58_apply (v745 : Vec Ideal S1x512x128 .f32) (n : Fin 512) (l : Fin 128) : k0_pay58 (F := Ideal) v745 (ix2 n l) = v745 (ix3 (0 : Fin 1) n l) := by
  pointwise [k0_pay58]

theorem pay59_acc (v744 : FVec Ideal S512x128 .f32) (v746 : FVec Ideal S512x128 .f32) (v747 : Vec Ideal S1x128 .f32) (v751 : Vec Ideal S1x512x128 .f32) (v753 : Vec Ideal S1x128 .f32) (v757 : Vec Ideal S1x512x128 .f32) (v759 : Vec Ideal S1x128 .f32) (v763 : Vec Ideal S1x512x128 .f32) (v765 : Vec Ideal S1x128 .f32) (v769 : Vec Ideal S1x512x128 .f32) (v771 : Vec Ideal S1x128 .f32) (v775 : Vec Ideal S1x512x128 .f32) (v777 : Vec Ideal S1x128 .f32) (b : EReal) (f : ℕ → EReal) (n : Fin 512) (l : Fin 128)
    (hb : v744 (ix2 n l) = Cert.Merge.acc b f 16) (h16 : v746 (ix2 n l) * v747 (ix2 (0 : Fin 1) l) = f 16) (h17 : v751 (ix3 (0 : Fin 1) n l) * v753 (ix2 (0 : Fin 1) l) = f 17) (h18 : v757 (ix3 (0 : Fin 1) n l) * v759 (ix2 (0 : Fin 1) l) = f 18) (h19 : v763 (ix3 (0 : Fin 1) n l) * v765 (ix2 (0 : Fin 1) l) = f 19) (h20 : v769 (ix3 (0 : Fin 1) n l) * v771 (ix2 (0 : Fin 1) l) = f 20) (h21 : v775 (ix3 (0 : Fin 1) n l) * v777 (ix2 (0 : Fin 1) l) = f 21) :
    k0_pay59 (F := Ideal) v744 v746 v747 v751 v753 v757 v759 v763 v765 v769 v771 v775 v777 (ix2 n l) = Cert.Merge.acc b f 22 := by
  show _ = Cert.Merge.acc b f 16 + f 16 + f 17 + f 18 + f 19 + f 20 + f 21
  rw [← hb, ← h16, ← h17, ← h18, ← h19, ← h20, ← h21]
  pointwise [k0_pay59]

theorem pay60_acc (v780 : FVec Ideal S512x128 .f32) (v781 : Vec Ideal S1x512x128 .f32) (v783 : Vec Ideal S1x128 .f32) (v787 : Vec Ideal S1x512x128 .f32) (v789 : Vec Ideal S1x128 .f32) (v793 : Vec Ideal S1x512x128 .f32) (v795 : Vec Ideal S1x128 .f32) (v799 : Vec Ideal S1x512x128 .f32) (v801 : Vec Ideal S1x128 .f32) (v805 : Vec Ideal S1x512x128 .f32) (v807 : Vec Ideal S1x128 .f32) (b : EReal) (f : ℕ → EReal) (n : Fin 512) (l : Fin 128)
    (hb : v780 (ix2 n l) = Cert.Merge.acc b f 22) (h22 : v781 (ix3 (0 : Fin 1) n l) * v783 (ix2 (0 : Fin 1) l) = f 22) (h23 : v787 (ix3 (0 : Fin 1) n l) * v789 (ix2 (0 : Fin 1) l) = f 23) (h24 : v793 (ix3 (0 : Fin 1) n l) * v795 (ix2 (0 : Fin 1) l) = f 24) (h25 : v799 (ix3 (0 : Fin 1) n l) * v801 (ix2 (0 : Fin 1) l) = f 25) (h26 : v805 (ix3 (0 : Fin 1) n l) * v807 (ix2 (0 : Fin 1) l) = f 26) :
    k0_pay60 (F := Ideal) v780 v781 v783 v787 v789 v793 v795 v799 v801 v805 v807 (ix2 n l) = Cert.Merge.acc b f 27 := by
  show _ = Cert.Merge.acc b f 22 + f 22 + f 23 + f 24 + f 25 + f 26
  rw [← hb, ← h22, ← h23, ← h24, ← h25, ← h26]
  pointwise [k0_pay60]

theorem pay61_apply (v811 : Vec Ideal S1x512x128 .f32) (n : Fin 512) (l : Fin 128) : k0_pay61 (F := Ideal) v811 (ix2 n l) = v811 (ix3 (0 : Fin 1) n l) := by
  pointwise [k0_pay61]

end Cert.MergeIdeal.Merge

end
-- ==== Proof.MergeKeep.lean ====
/-
  The rows the merge's kernel keeps between its loads: a block's own, between those before and after it.
-/
module

public import proofs.«01_k».proof.Proof.MergeSpec
public import proofs.«01_k».proof.Proof.Gen.MergeIdeal.Frame
public import Idealize.ShloMosaic.Lib.Pointwise
public import Idealize.ShloMosaic.Lib.Pipeline.Value
public import Idealize.ShloMosaic.Lib.Pipeline.ReadBack
public import Idealize.ShloMosaic.Lib.VecWindow

@[expose] public section

noncomputable section

namespace Cert.MergeIdeal.Merge

open Cert.MergeIdeal Cert.MergeIdeal.Gen Idealize.ShloMosaic

theorem load_whole {s : Shape} {e : EltTy} (M : Memref sig .tc .vmem s e) (h : M.IsWhole) (x : Vec Ideal s e) {off : Fin s.rank → ℕ} (inb) :
    View.readAt (Elt Ideal) M.view (Rect.unit off s.size inb).toLoadRect (h.unread x) = x := by
  rw [View.readAt_full]; exact h.read_unread x

theorem load_part {s : Shape} {e : EltTy} (M : Memref sig .tc .vmem s e) (h : M.IsWhole) (x : Vec Ideal s e) (r : Rect s) :
    View.readAt (Elt Ideal) M.view r.toLoadRect (h.unread x) = View.ld x r := by
  rw [View.readAt_eq_ld]; exact congrArg (fun x => View.ld x r) (h.read_unread x)

/-- Part of an array's rows and columns, at an element. -/
theorem ld_apply {e : EltTy} {N M p q : ℕ} (X : Vec Ideal ⟨2, ![N, M]⟩ e) (o k : ℕ) (inb) (i : Fin p) (j : Fin q) (hi : o + i.val < N) (hj : k + j.val < M) :
    (View.ld X (Rect.unit (s := ⟨2, ![N, M]⟩) ![o, k] (⟨2, ![p, q]⟩ : Shape).size inb) : Vec Ideal ⟨2, ![p, q]⟩ e) (ix2 i j)
      = X (ix2 ⟨o + i.val, hi⟩ ⟨k + j.val, hj⟩) := by
  rw [View.ld_unit]
  refine congrArg X (funext fun a => Fin.ext ?_)
  match a with
  | ⟨0, _⟩ => rfl
  | ⟨1, _⟩ => rfl

/-- The rows before the block, zero at a batch's first, -/
def before (i : grid0.Coords) (x3 : Vec Ideal S1x16x512 .bf16) (q : Fin 16) (d : Fin 512) : EReal :=
  if 0 < (i 1).val then x3 (ix3 (0 : Fin 1) q d) else 0
/-- those after it, zero at a batch's last, -/
def after (i : grid0.Coords) (x4 : Vec Ideal S1x16x512 .bf16) (q : Fin 16) (d : Fin 512) : EReal :=
  if (i 1).val < 7 then x4 (ix3 (0 : Fin 1) q d) else 0
/-- and the three one after another. -/
def E (i : grid0.Coords) (x2 : Vec Ideal S1x512x512 .bf16) (x3 : Vec Ideal S1x16x512 .bf16) (x4 : Vec Ideal S1x16x512 .bf16) (q : ℕ) (d : Fin 512) : EReal :=
  if h : q < 16 then before i x3 ⟨q, h⟩ d
  else if h : q - 16 < 512 then x2 (ix3 (0 : Fin 1) ⟨q - 16, h⟩ d)
  else if h : q - 528 < 16 then after i x4 ⟨q - 528, h⟩ d else 0

theorem E_before (i : grid0.Coords) (x2 : Vec Ideal S1x512x512 .bf16) (x3 : Vec Ideal S1x16x512 .bf16) (x4 : Vec Ideal S1x16x512 .bf16) (q : Fin 16) (d : Fin 512) : E i x2 x3 x4 (0 + q.val) d = before i x3 q d := by
  unfold E
  rw [dif_pos (by omega : 0 + q.val < 16)]
  exact congrArg (fun q => before i x3 q d) (Fin.ext (Nat.zero_add _))
theorem E_own (i : grid0.Coords) (x2 : Vec Ideal S1x512x512 .bf16) (x3 : Vec Ideal S1x16x512 .bf16) (x4 : Vec Ideal S1x16x512 .bf16) (q : Fin 512) (d : Fin 512) : E i x2 x3 x4 (16 + q.val) d = x2 (ix3 (0 : Fin 1) q d) := by
  unfold E
  rw [dif_neg (by omega : ¬ 16 + q.val < 16), dif_pos (by omega : 16 + q.val - 16 < 512)]
  exact congrArg (fun q => x2 (ix3 (0 : Fin 1) q d)) (Fin.ext (by dsimp only; omega))
theorem E_after (i : grid0.Coords) (x2 : Vec Ideal S1x512x512 .bf16) (x3 : Vec Ideal S1x16x512 .bf16) (x4 : Vec Ideal S1x16x512 .bf16) (q : Fin 16) (d : Fin 512) : E i x2 x3 x4 (528 + q.val) d = after i x4 q d := by
  unfold E
  rw [dif_neg (by omega : ¬ 528 + q.val < 16), dif_neg (by omega : ¬ 528 + q.val - 16 < 512), dif_pos (by omega : 528 + q.val - 528 < 16)]
  exact congrArg (fun q => after i x4 q d) (Fin.ext (by dsimp only; omega))

/-- A tap's term. -/
def tap (i : grid0.Coords) (x2 : Vec Ideal S1x512x512 .bf16) (x3 : Vec Ideal S1x16x512 .bf16) (x4 : Vec Ideal S1x16x512 .bf16) (x10 : Vec Ideal S31x512 .f32) (n : Fin 512) (d : Fin 512) (j : ℕ) : EReal :=
  E i x2 x3 x4 (1 + j + n.val) d * Cert.Merge.weight x10 j d

theorem first (i : grid0.Coords) : Scalar.cmpi .sgt (BitVec.ofNat 32 (i 1).val) 0#32 = if 0 < (i 1).val then 1#1 else 0#1 := by
  generalize i 1 = j
  revert j
  exact (by decide +kernel : ∀ j : Fin 8, Scalar.cmpi .sgt (BitVec.ofNat 32 j.val) 0#32 = if 0 < j.val then 1#1 else 0#1)
theorem last (i : grid0.Coords) : Scalar.cmpi .slt (BitVec.ofNat 32 (i 1).val) 7#32 = if (i 1).val < 7 then 1#1 else 0#1 := by
  generalize i 1 = j
  revert j
  exact (by decide +kernel : ∀ j : Fin 8, Scalar.cmpi .slt (BitVec.ofNat 32 j.val) 7#32 = if j.val < 7 then 1#1 else 0#1)

theorem pay5_apply (i : grid0.Coords) (v11 : Vec Ideal S1x16x512 .bf16) (q : Fin 16) (d : Fin 512) : k0_pay5 (F := Ideal) i v11 (ix2 q d) = before i v11 q d := by
  unfold k0_pay5 before
  dsimp only
  rw [first]
  split_ifs
  · show shapeCast S16x512 v11 shapeCasts_S1x16x512_S16x512 (ix2 q d) = _
    pointwise []
  · show (k0_pay4 (F := Ideal)) (ix2 q d) = _
    pointwise [k0_pay4]
theorem pay6_apply (i : grid0.Coords) (v16 : Vec Ideal S1x16x512 .bf16) (q : Fin 16) (d : Fin 512) : k0_pay6 (F := Ideal) i v16 (ix2 q d) = after i v16 q d := by
  unfold k0_pay6 after
  dsimp only
  rw [last]
  split_ifs
  · show shapeCast S16x512 v16 shapeCasts_S1x16x512_S16x512 (ix2 q d) = _
    pointwise []
  · show (k0_pay4 (F := Ideal)) (ix2 q d) = _
    pointwise [k0_pay4]
theorem pay7_apply (v20 : Vec Ideal S1x512x512 .bf16) (q : Fin 512) (d : Fin 512) : k0_pay7 (F := Ideal) v20 (ix2 q d) = v20 (ix3 (0 : Fin 1) q d) := by
  pointwise [k0_pay7]
theorem pay8_apply (i : grid0.Coords) (v11 : Vec Ideal S1x16x512 .bf16) (q : Fin 16) (l : Fin 128) :
    k0_pay8 (F := Ideal) i v11 (ix3 (0 : Fin 1) q l) = before i v11 q (⟨0 + l.val, by omega⟩ : Fin 512) := by
  rw [← pay5_apply]
  generalize h : k0_pay5 (F := Ideal) i v11 = N
  pointwise [k0_pay8, h]
theorem pay10_apply (v20 : Vec Ideal S1x512x512 .bf16) (q : Fin 512) (l : Fin 128) :
    k0_pay10 (F := Ideal) (k0_pay9 v20) (ix3 (0 : Fin 1) q l) = v20 (ix3 (0 : Fin 1) q (⟨0 + l.val, by omega⟩ : Fin 512)) := by
  rw [← pay7_apply v20]
  generalize h : k0_pay7 (F := Ideal) v20 = N
  pointwise [k0_pay10, k0_pay9, h]
theorem pay11_apply (v : FVec Ideal S16x512 .f32) (q : Fin 16) (l : Fin 128) :
    k0_pay11 (F := Ideal) v (ix3 (0 : Fin 1) q l) = v (ix2 q (⟨0 + l.val, by omega⟩ : Fin 512)) := by
  pointwise [k0_pay11]
theorem pay21_apply (v : FVec Ideal S16x512 .f32) (q : Fin 16) (l : Fin 128) :
    k0_pay21 (F := Ideal) v (ix3 (0 : Fin 1) q l) = v (ix2 q (⟨128 + l.val, by omega⟩ : Fin 512)) := by
  pointwise [k0_pay21]
theorem pay22_apply (v : FVec Ideal S512x512 .f32) (q : Fin 512) (l : Fin 128) :
    k0_pay22 (F := Ideal) v (ix3 (0 : Fin 1) q l) = v (ix2 q (⟨128 + l.val, by omega⟩ : Fin 512)) := by
  pointwise [k0_pay22]
theorem pay23_apply (v : FVec Ideal S16x512 .f32) (q : Fin 16) (l : Fin 128) :
    k0_pay23 (F := Ideal) v (ix3 (0 : Fin 1) q l) = v (ix2 q (⟨128 + l.val, by omega⟩ : Fin 512)) := by
  pointwise [k0_pay23]
theorem pay36_apply (v : FVec Ideal S16x512 .f32) (q : Fin 16) (l : Fin 128) :
    k0_pay36 (F := Ideal) v (ix3 (0 : Fin 1) q l) = v (ix2 q (⟨256 + l.val, by omega⟩ : Fin 512)) := by
  pointwise [k0_pay36]
theorem pay37_apply (v : FVec Ideal S512x512 .f32) (q : Fin 512) (l : Fin 128) :
    k0_pay37 (F := Ideal) v (ix3 (0 : Fin 1) q l) = v (ix2 q (⟨256 + l.val, by omega⟩ : Fin 512)) := by
  pointwise [k0_pay37]
theorem pay38_apply (v : FVec Ideal S16x512 .f32) (q : Fin 16) (l : Fin 128) :
    k0_pay38 (F := Ideal) v (ix3 (0 : Fin 1) q l) = v (ix2 q (⟨256 + l.val, by omega⟩ : Fin 512)) := by
  pointwise [k0_pay38]
theorem pay50_apply (v : FVec Ideal S16x512 .f32) (q : Fin 16) (l : Fin 128) :
    k0_pay50 (F := Ideal) v (ix3 (0 : Fin 1) q l) = v (ix2 q (⟨384 + l.val, by omega⟩ : Fin 512)) := by
  pointwise [k0_pay50]
theorem pay51_apply (v : FVec Ideal S512x512 .f32) (q : Fin 512) (l : Fin 128) :
    k0_pay51 (F := Ideal) v (ix3 (0 : Fin 1) q l) = v (ix2 q (⟨384 + l.val, by omega⟩ : Fin 512)) := by
  pointwise [k0_pay51]
theorem pay52_apply (v : FVec Ideal S16x512 .f32) (q : Fin 16) (l : Fin 128) :
    k0_pay52 (F := Ideal) v (ix3 (0 : Fin 1) q l) = v (ix2 q (⟨384 + l.val, by omega⟩ : Fin 512)) := by
  pointwise [k0_pay52]

section Kept
variable (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (x2 : Vec Ideal S1x512x512 .bf16) (x3 : Vec Ideal S1x16x512 .bf16) (x4 : Vec Ideal S1x16x512 .bf16)

theorem r_2_eq (q : Fin 16) (d : Fin 512) : (kernelRun0_A.sl.r_2 (F := Ideal) c i arg5 harg5 x3) (ix2 q d) = before i x3 q d := by
  unfold kernelRun0_A.sl.r_2
  rw [load_whole]
  exact pay5_apply i x3 q d
theorem r_3_eq (q : Fin 16) (d : Fin 512) : (kernelRun0_A.sl.r_3 (F := Ideal) c i arg6 harg6 x4) (ix2 q d) = after i x4 q d := by
  unfold kernelRun0_A.sl.r_3
  rw [load_whole]
  exact pay6_apply i x4 q d
theorem r_4_eq (q : Fin 512) (d : Fin 512) : (kernelRun0_A.sl.r_4 (F := Ideal) c arg4 harg4 x2) (ix2 q d) = x2 (ix3 (0 : Fin 1) q d) := by
  unfold kernelRun0_A.sl.r_4
  rw [load_whole]
  exact pay7_apply x2 q d

/-- What is kept at part `y 0`, row `y 1`, channel `128 y 0 + y 2`. -/
def G : S4x544x128.Idx → EReal := fun y => E i x2 x3 x4 (y 1).val (⟨128 * (y 0).val + (y 2).val, by
  have h0 : (y 0).val < 4 := (y 0).isLt
  have h2 : (y 2).val < 128 := (y 2).isLt
  omega⟩ : Fin 512)

/-- A stored part agrees with it when it does at each element. -/
theorem piece_eq {p : ℕ} (s o : ℕ) (inb : ∀ a, (![s, o, 0] : Fin 3 → ℕ) a + (⟨3, ![1, p, 128]⟩ : Shape).size a ≤ S4x544x128.size a)
    (w : FVec Ideal ⟨3, ![1, p, 128]⟩ .f32)
    (hw : ∀ (q : Fin p) (l : Fin 128) (h : 128 * s + l.val < 512), w (ix3 (0 : Fin 1) q l) = E i x2 x3 x4 (o + q.val) ⟨128 * s + l.val, h⟩)
    (x : (⟨3, ![1, p, 128]⟩ : Shape).Idx) :
    w x = G i x2 x3 x4 ((Rect.unit (s := S4x544x128) ![s, o, 0] (⟨3, ![1, p, 128]⟩ : Shape).size inb).emb x) := by
  have h0 : (x 0).val < 1 := (x 0).isLt
  have h2 : (x 2).val < 128 := (x 2).isLt
  have hs : s + 1 ≤ 4 := inb 0
  have hx : x = ix3 (0 : Fin 1) (⟨(x 1).val, (x 1).isLt⟩ : Fin p) (⟨(x 2).val, h2⟩ : Fin 128) := by
    refine funext fun a => Fin.ext ?_
    match a with
    | ⟨0, _⟩ => show (x 0).val = 0; omega
    | ⟨1, _⟩ => rfl
    | ⟨2, _⟩ => rfl
  refine (congrArg w hx).trans ((hw _ _ (by dsimp only; omega)).trans ?_)
  unfold G
  have e1 : ((Rect.unit (s := S4x544x128) ![s, o, 0] (⟨3, ![1, p, 128]⟩ : Shape).size inb).emb x 1).val = o + 1 * (x 1).val := rfl
  have e0 : ((Rect.unit (s := S4x544x128) ![s, o, 0] (⟨3, ![1, p, 128]⟩ : Shape).size inb).emb x 0).val = s + 1 * (x 0).val := rfl
  have e2 : ((Rect.unit (s := S4x544x128) ![s, o, 0] (⟨3, ![1, p, 128]⟩ : Shape).size inb).emb x 2).val = 0 + 1 * (x 2).val := rfl
  rw [e1, Nat.one_mul]
  exact congrArg (fun d => E i x2 x3 x4 (o + (x 1).val) d) (Fin.ext (by dsimp only; rw [e0, e2]; omega))

theorem mem_kept (s o p : ℕ) (inb : ∀ a, (![s, o, 0] : Fin 3 → ℕ) a + (⟨3, ![1, p, 128]⟩ : Shape).size a ≤ S4x544x128.size a) (y : S4x544x128.Idx)
    (h0 : (y 0).val = s) (h1 : o ≤ (y 1).val) (h1' : (y 1).val < o + p) :
    y ∈ (Rect.unit (s := S4x544x128) ![s, o, 0] (⟨3, ![1, p, 128]⟩ : Shape).size inb).set := by
  have h2 : (y 2).val < 128 := (y 2).isLt
  refine Rect.mem_set_unit.2 fun a => ?_
  match a with
  | ⟨0, _⟩ => exact ⟨by show s ≤ (y 0).val; omega, by show (y 0).val < s + 1; omega⟩
  | ⟨1, _⟩ => exact ⟨h1, h1'⟩
  | ⟨2, _⟩ => exact ⟨by show 0 ≤ (y 2).val; omega, by show (y 2).val < 0 + 128; omega⟩

theorem pieces0 : ∀ p ∈ kernelRun0_A.sl.HS0_3 (F := Ideal) c i arg4 harg4 arg5 harg5 arg6 harg6 x2 x3 x4, ∀ x : p.1.shape.Idx, p.2 x = G i x2 x3 x4 (p.1.emb x) := by
  intro p hp
  unfold kernelRun0_A.sl.HS0_3 at hp
  simp only [List.mem_cons, List.not_mem_nil, or_false] at hp
  rcases hp with rfl | rfl | rfl
  · exact piece_eq i x2 x3 x4 0 528 inb_S4x544x128_S1x16x128_0_528_0 _ (fun q l h => (pay11_apply _ q l).trans ((r_3_eq c i arg6 harg6 x4 q _).trans (E_after i x2 x3 x4 q _).symm))
  · exact piece_eq i x2 x3 x4 0 16 inb_S4x544x128_S1x512x128_0_16_0 _ (fun q l h => ((congrArg (fun v => k0_pay10 (F := Ideal) (k0_pay9 v) (ix3 (0 : Fin 1) q l)) (load_whole arg4 harg4 x2 _)).trans (pay10_apply x2 q l)).trans (E_own i x2 x3 x4 q _).symm)
  · exact piece_eq i x2 x3 x4 0 0 inb_S4x544x128_S1x16x128_0_0_0 _ (fun q l h => ((congrArg (fun v => k0_pay8 (F := Ideal) i v (ix3 (0 : Fin 1) q l)) (load_whole arg5 harg5 x3 _)).trans (pay8_apply i x3 q l)).trans (E_before i x2 x3 x4 q _).symm)

theorem kept0 (y : S4x544x128.Idx) (hy : (y 0).val = 0) : ∃ p ∈ kernelRun0_A.sl.HS0_3 (F := Ideal) c i arg4 harg4 arg5 harg5 arg6 harg6 x2 x3 x4, y ∈ p.1.set := by
  have h1 : (y 1).val < 544 := (y 1).isLt
  unfold kernelRun0_A.sl.HS0_3
  by_cases ha : 528 ≤ (y 1).val
  · exact ⟨_, List.mem_cons_self, mem_kept 0 528 16 inb_S4x544x128_S1x16x128_0_528_0 y hy ha (by omega)⟩
  by_cases hb : 16 ≤ (y 1).val
  · exact ⟨_, List.mem_cons_of_mem _ List.mem_cons_self, mem_kept 0 16 512 inb_S4x544x128_S1x512x128_0_16_0 y hy hb (by omega)⟩
  · exact ⟨_, List.mem_cons_of_mem _ (List.mem_cons_of_mem _ List.mem_cons_self), mem_kept 0 0 16 inb_S4x544x128_S1x16x128_0_0_0 y hy (by omega) (by omega)⟩

theorem scr0 (v : View sig .tc .vmem S4x544x128 .f32) (o : ℕ) (inb : ∀ a, (![0, o, 0] : Fin 3 → ℕ) a + S1x512x128.size a ≤ S4x544x128.size a) (n : Fin 512) (l : Fin 128) :
    (v.readCov (Val := Elt Ideal) (kernelRun0_A.sl.HS0_3 (F := Ideal) c i arg4 harg4 arg5 harg5 arg6 harg6 x2 x3 x4) (Rect.unit (s := S4x544x128) ![0, o, 0] S1x512x128.size inb).toLoadRect : Vec Ideal S1x512x128 .f32) (ix3 (0 : Fin 1) n l)
      = E i x2 x3 x4 (o + n.val) (⟨0 + l.val, by omega⟩ : Fin 512) := by
  rw [View.readCov_eq_canon']
  refine (View.canon_apply_of_pieces (Val := Elt Ideal) (e := .f32) (G i x2 x3 x4) _ (pieces0 c i arg4 harg4 arg5 harg5 arg6 harg6 x2 x3 x4) _ (kept0 c i arg4 harg4 arg5 harg5 arg6 harg6 x2 x3 x4 _ rfl)).trans ?_
  unfold G
  refine congrArg₂ (E i x2 x3 x4) ?_ (Fin.ext ?_)
  · show o + 1 * n.val = o + n.val
    omega
  show 128 * (0 + 1 * 0) + (0 + 1 * l.val) = 0 + l.val
  omega

theorem pieces1 : ∀ p ∈ kernelRun0_A.sl.HS0_6 (F := Ideal) c i arg4 harg4 arg5 harg5 arg6 harg6 x2 x3 x4, ∀ x : p.1.shape.Idx, p.2 x = G i x2 x3 x4 (p.1.emb x) := by
  intro p hp
  unfold kernelRun0_A.sl.HS0_6 at hp
  simp only [List.mem_cons] at hp
  rcases hp with rfl | rfl | rfl | hp
  · exact piece_eq i x2 x3 x4 1 528 inb_S4x544x128_S1x16x128_1_528_0 _ (fun q l h => (pay23_apply _ q l).trans ((r_3_eq c i arg6 harg6 x4 q _).trans (E_after i x2 x3 x4 q _).symm))
  · exact piece_eq i x2 x3 x4 1 16 inb_S4x544x128_S1x512x128_1_16_0 _ (fun q l h => (pay22_apply _ q l).trans ((r_4_eq c arg4 harg4 x2 q _).trans (E_own i x2 x3 x4 q _).symm))
  · exact piece_eq i x2 x3 x4 1 0 inb_S4x544x128_S1x16x128_1_0_0 _ (fun q l h => (pay21_apply _ q l).trans ((r_2_eq c i arg5 harg5 x3 q _).trans (E_before i x2 x3 x4 q _).symm))
  · exact pieces0 c i arg4 harg4 arg5 harg5 arg6 harg6 x2 x3 x4 p hp

theorem kept1 (y : S4x544x128.Idx) (hy : (y 0).val = 1) : ∃ p ∈ kernelRun0_A.sl.HS0_6 (F := Ideal) c i arg4 harg4 arg5 harg5 arg6 harg6 x2 x3 x4, y ∈ p.1.set := by
  have h1 : (y 1).val < 544 := (y 1).isLt
  unfold kernelRun0_A.sl.HS0_6
  by_cases ha : 528 ≤ (y 1).val
  · exact ⟨_, List.mem_cons_self, mem_kept 1 528 16 inb_S4x544x128_S1x16x128_1_528_0 y hy ha (by omega)⟩
  by_cases hb : 16 ≤ (y 1).val
  · exact ⟨_, List.mem_cons_of_mem _ List.mem_cons_self, mem_kept 1 16 512 inb_S4x544x128_S1x512x128_1_16_0 y hy hb (by omega)⟩
  · exact ⟨_, List.mem_cons_of_mem _ (List.mem_cons_of_mem _ List.mem_cons_self), mem_kept 1 0 16 inb_S4x544x128_S1x16x128_1_0_0 y hy (by omega) (by omega)⟩

theorem scr1 (v : View sig .tc .vmem S4x544x128 .f32) (o : ℕ) (inb : ∀ a, (![1, o, 0] : Fin 3 → ℕ) a + S1x512x128.size a ≤ S4x544x128.size a) (n : Fin 512) (l : Fin 128) :
    (v.readCov (Val := Elt Ideal) (kernelRun0_A.sl.HS0_6 (F := Ideal) c i arg4 harg4 arg5 harg5 arg6 harg6 x2 x3 x4) (Rect.unit (s := S4x544x128) ![1, o, 0] S1x512x128.size inb).toLoadRect : Vec Ideal S1x512x128 .f32) (ix3 (0 : Fin 1) n l)
      = E i x2 x3 x4 (o + n.val) (⟨128 + l.val, by omega⟩ : Fin 512) := by
  rw [View.readCov_eq_canon']
  refine (View.canon_apply_of_pieces (Val := Elt Ideal) (e := .f32) (G i x2 x3 x4) _ (pieces1 c i arg4 harg4 arg5 harg5 arg6 harg6 x2 x3 x4) _ (kept1 c i arg4 harg4 arg5 harg5 arg6 harg6 x2 x3 x4 _ rfl)).trans ?_
  unfold G
  refine congrArg₂ (E i x2 x3 x4) ?_ (Fin.ext ?_)
  · show o + 1 * n.val = o + n.val
    omega
  show 128 * (1 + 1 * 0) + (0 + 1 * l.val) = 128 + l.val
  omega

theorem pieces2 : ∀ p ∈ kernelRun0_A.sl.HS0_9 (F := Ideal) c i arg4 harg4 arg5 harg5 arg6 harg6 x2 x3 x4, ∀ x : p.1.shape.Idx, p.2 x = G i x2 x3 x4 (p.1.emb x) := by
  intro p hp
  unfold kernelRun0_A.sl.HS0_9 at hp
  simp only [List.mem_cons] at hp
  rcases hp with rfl | rfl | rfl | hp
  · exact piece_eq i x2 x3 x4 2 528 inb_S4x544x128_S1x16x128_2_528_0 _ (fun q l h => (pay38_apply _ q l).trans ((r_3_eq c i arg6 harg6 x4 q _).trans (E_after i x2 x3 x4 q _).symm))
  · exact piece_eq i x2 x3 x4 2 16 inb_S4x544x128_S1x512x128_2_16_0 _ (fun q l h => (pay37_apply _ q l).trans ((r_4_eq c arg4 harg4 x2 q _).trans (E_own i x2 x3 x4 q _).symm))
  · exact piece_eq i x2 x3 x4 2 0 inb_S4x544x128_S1x16x128_2_0_0 _ (fun q l h => (pay36_apply _ q l).trans ((r_2_eq c i arg5 harg5 x3 q _).trans (E_before i x2 x3 x4 q _).symm))
  · exact pieces1 c i arg4 harg4 arg5 harg5 arg6 harg6 x2 x3 x4 p hp

theorem kept2 (y : S4x544x128.Idx) (hy : (y 0).val = 2) : ∃ p ∈ kernelRun0_A.sl.HS0_9 (F := Ideal) c i arg4 harg4 arg5 harg5 arg6 harg6 x2 x3 x4, y ∈ p.1.set := by
  have h1 : (y 1).val < 544 := (y 1).isLt
  unfold kernelRun0_A.sl.HS0_9
  by_cases ha : 528 ≤ (y 1).val
  · exact ⟨_, List.mem_cons_self, mem_kept 2 528 16 inb_S4x544x128_S1x16x128_2_528_0 y hy ha (by omega)⟩
  by_cases hb : 16 ≤ (y 1).val
  · exact ⟨_, List.mem_cons_of_mem _ List.mem_cons_self, mem_kept 2 16 512 inb_S4x544x128_S1x512x128_2_16_0 y hy hb (by omega)⟩
  · exact ⟨_, List.mem_cons_of_mem _ (List.mem_cons_of_mem _ List.mem_cons_self), mem_kept 2 0 16 inb_S4x544x128_S1x16x128_2_0_0 y hy (by omega) (by omega)⟩

theorem scr2 (v : View sig .tc .vmem S4x544x128 .f32) (o : ℕ) (inb : ∀ a, (![2, o, 0] : Fin 3 → ℕ) a + S1x512x128.size a ≤ S4x544x128.size a) (n : Fin 512) (l : Fin 128) :
    (v.readCov (Val := Elt Ideal) (kernelRun0_A.sl.HS0_9 (F := Ideal) c i arg4 harg4 arg5 harg5 arg6 harg6 x2 x3 x4) (Rect.unit (s := S4x544x128) ![2, o, 0] S1x512x128.size inb).toLoadRect : Vec Ideal S1x512x128 .f32) (ix3 (0 : Fin 1) n l)
      = E i x2 x3 x4 (o + n.val) (⟨256 + l.val, by omega⟩ : Fin 512) := by
  rw [View.readCov_eq_canon']
  refine (View.canon_apply_of_pieces (Val := Elt Ideal) (e := .f32) (G i x2 x3 x4) _ (pieces2 c i arg4 harg4 arg5 harg5 arg6 harg6 x2 x3 x4) _ (kept2 c i arg4 harg4 arg5 harg5 arg6 harg6 x2 x3 x4 _ rfl)).trans ?_
  unfold G
  refine congrArg₂ (E i x2 x3 x4) ?_ (Fin.ext ?_)
  · show o + 1 * n.val = o + n.val
    omega
  show 128 * (2 + 1 * 0) + (0 + 1 * l.val) = 256 + l.val
  omega

theorem pieces3 : ∀ p ∈ kernelRun0_A.sl.HS0_12 (F := Ideal) c i arg4 harg4 arg5 harg5 arg6 harg6 x2 x3 x4, ∀ x : p.1.shape.Idx, p.2 x = G i x2 x3 x4 (p.1.emb x) := by
  intro p hp
  unfold kernelRun0_A.sl.HS0_12 at hp
  simp only [List.mem_cons] at hp
  rcases hp with rfl | rfl | rfl | hp
  · exact piece_eq i x2 x3 x4 3 528 inb_S4x544x128_S1x16x128_3_528_0 _ (fun q l h => (pay52_apply _ q l).trans ((r_3_eq c i arg6 harg6 x4 q _).trans (E_after i x2 x3 x4 q _).symm))
  · exact piece_eq i x2 x3 x4 3 16 inb_S4x544x128_S1x512x128_3_16_0 _ (fun q l h => (pay51_apply _ q l).trans ((r_4_eq c arg4 harg4 x2 q _).trans (E_own i x2 x3 x4 q _).symm))
  · exact piece_eq i x2 x3 x4 3 0 inb_S4x544x128_S1x16x128_3_0_0 _ (fun q l h => (pay50_apply _ q l).trans ((r_2_eq c i arg5 harg5 x3 q _).trans (E_before i x2 x3 x4 q _).symm))
  · exact pieces2 c i arg4 harg4 arg5 harg5 arg6 harg6 x2 x3 x4 p hp

theorem kept3 (y : S4x544x128.Idx) (hy : (y 0).val = 3) : ∃ p ∈ kernelRun0_A.sl.HS0_12 (F := Ideal) c i arg4 harg4 arg5 harg5 arg6 harg6 x2 x3 x4, y ∈ p.1.set := by
  have h1 : (y 1).val < 544 := (y 1).isLt
  unfold kernelRun0_A.sl.HS0_12
  by_cases ha : 528 ≤ (y 1).val
  · exact ⟨_, List.mem_cons_self, mem_kept 3 528 16 inb_S4x544x128_S1x16x128_3_528_0 y hy ha (by omega)⟩
  by_cases hb : 16 ≤ (y 1).val
  · exact ⟨_, List.mem_cons_of_mem _ List.mem_cons_self, mem_kept 3 16 512 inb_S4x544x128_S1x512x128_3_16_0 y hy hb (by omega)⟩
  · exact ⟨_, List.mem_cons_of_mem _ (List.mem_cons_of_mem _ List.mem_cons_self), mem_kept 3 0 16 inb_S4x544x128_S1x16x128_3_0_0 y hy (by omega) (by omega)⟩

theorem scr3 (v : View sig .tc .vmem S4x544x128 .f32) (o : ℕ) (inb : ∀ a, (![3, o, 0] : Fin 3 → ℕ) a + S1x512x128.size a ≤ S4x544x128.size a) (n : Fin 512) (l : Fin 128) :
    (v.readCov (Val := Elt Ideal) (kernelRun0_A.sl.HS0_12 (F := Ideal) c i arg4 harg4 arg5 harg5 arg6 harg6 x2 x3 x4) (Rect.unit (s := S4x544x128) ![3, o, 0] S1x512x128.size inb).toLoadRect : Vec Ideal S1x512x128 .f32) (ix3 (0 : Fin 1) n l)
      = E i x2 x3 x4 (o + n.val) (⟨384 + l.val, by omega⟩ : Fin 512) := by
  rw [View.readCov_eq_canon']
  refine (View.canon_apply_of_pieces (Val := Elt Ideal) (e := .f32) (G i x2 x3 x4) _ (pieces3 c i arg4 harg4 arg5 harg5 arg6 harg6 x2 x3 x4) _ (kept3 c i arg4 harg4 arg5 harg5 arg6 harg6 x2 x3 x4 _ rfl)).trans ?_
  unfold G
  refine congrArg₂ (E i x2 x3 x4) ?_ (Fin.ext ?_)
  · show o + 1 * n.val = o + n.val
    omega
  show 128 * (3 + 1 * 0) + (0 + 1 * l.val) = 384 + l.val
  omega

end Kept

end Cert.MergeIdeal.Merge

end
-- ==== Proof.MergeSum.lean ====
/-
  The sums of taps the merge's kernel's body makes, from the blocks it reads.
-/
module

public import proofs.«01_k».proof.Proof.MergeTap
public import proofs.«01_k».proof.Proof.MergeKeep

@[expose] public section

noncomputable section

namespace Cert.MergeIdeal.Merge

open Cert.MergeIdeal Cert.MergeIdeal.Gen Idealize.ShloMosaic

theorem wt (M : Memref sig .tc .vmem S31x512 .f32) (h : M.IsWhole) (x : Vec Ideal S31x512 .f32) (j k : ℕ) (inb) (hj : j < 31) (l : Fin 128) (hl : k + l.val < 512) :
    (View.readAt (Elt Ideal) M.view (Rect.unit (s := S31x512) ![j, k] S1x128.size inb).toLoadRect (h.unread x) : Vec Ideal S1x128 .f32) (ix2 (0 : Fin 1) l)
      = Cert.Merge.weight x j ⟨k + l.val, hl⟩ := by
  rw [load_part]
  refine (ld_apply x j k inb (0 : Fin 1) l (by show j + 0 < 31; omega) hl).trans ?_
  unfold Cert.Merge.weight
  rw [dif_pos hj]
  rfl

theorem bs (M : Memref sig .tc .vmem S1x512 .f32) (h : M.IsWhole) (x : Vec Ideal S1x512 .f32) (k : ℕ) (inb) (l : Fin 128) (hl : k + l.val < 512) :
    (View.readAt (Elt Ideal) M.view (Rect.unit (s := S1x512) ![0, k] S1x128.size inb).toLoadRect (h.unread x) : Vec Ideal S1x128 .f32) (ix2 (0 : Fin 1) l)
      = x (ix2 (0 : Fin 1) ⟨k + l.val, hl⟩) := by
  rw [load_part]
  exact ld_apply x 0 k inb (0 : Fin 1) l (by decide) hl

theorem r_6_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_6 (F := Ideal) c i arg4 harg4 arg5 harg5 arg6 harg6 arg12 harg12 arg13 harg13 arg17 x2 x3 x4 x10 x11) (ix2 n l) = Cert.Merge.acc (x11 (ix2 (0 : Fin 1) (⟨0 + l.val, by omega⟩ : Fin 512))) (tap i x2 x3 x4 x10 n (⟨0 + l.val, by omega⟩ : Fin 512)) 3 :=
  pay12_acc _ _ _ _ _ _ _ _ (tap i x2 x3 x4 x10 n (⟨0 + l.val, by omega⟩ : Fin 512)) n l (bs arg13 harg13 x11 0 _ l (by omega)) (congrArg₂ (fun x y : EReal => x * y) (scr0 c i arg4 harg4 arg5 harg5 arg6 harg6 x2 x3 x4 arg17.view 1 _ n l) (wt arg12 harg12 x10 0 0 _ (by decide) l (by omega))) (congrArg₂ (fun x y : EReal => x * y) (scr0 c i arg4 harg4 arg5 harg5 arg6 harg6 x2 x3 x4 arg17.view 2 _ n l) (wt arg12 harg12 x10 1 0 _ (by decide) l (by omega))) (congrArg₂ (fun x y : EReal => x * y) (scr0 c i arg4 harg4 arg5 harg5 arg6 harg6 x2 x3 x4 arg17.view 3 _ n l) (wt arg12 harg12 x10 2 0 _ (by decide) l (by omega)))

theorem r_7_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_7 (F := Ideal) c i arg4 harg4 arg5 harg5 arg6 harg6 arg17 x2 x3 x4) (ix2 n l) = E i x2 x3 x4 (4 + n.val) (⟨0 + l.val, by omega⟩ : Fin 512) :=
  (pay13_apply _ n l).trans (scr0 c i arg4 harg4 arg5 harg5 arg6 harg6 x2 x3 x4 arg17.view 4 _ n l)

theorem r_8_eq (c : Dev nD) (arg12 : Memref sig .tc .vmem S31x512 .f32) (harg12 : arg12.IsWhole) (x10 : Vec Ideal S31x512 .f32) (n : Fin 512) (l : Fin 128) :
    (kernelRun0_A.sl.r_8 (F := Ideal) c arg12 harg12 x10) (ix2 (0 : Fin 1) l) = Cert.Merge.weight x10 3 (⟨0 + l.val, by omega⟩ : Fin 512) :=
  wt arg12 harg12 x10 3 0 _ (by decide) l (by omega)

theorem r_9_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_9 (F := Ideal) c i arg4 harg4 arg5 harg5 arg6 harg6 arg12 harg12 arg13 harg13 arg17 x2 x3 x4 x10 x11) (ix2 n l) = Cert.Merge.acc (x11 (ix2 (0 : Fin 1) (⟨0 + l.val, by omega⟩ : Fin 512))) (tap i x2 x3 x4 x10 n (⟨0 + l.val, by omega⟩ : Fin 512)) 9 :=
  pay14_acc _ _ _ _ _ _ _ _ _ _ _ _ _ _ (tap i x2 x3 x4 x10 n (⟨0 + l.val, by omega⟩ : Fin 512)) n l (r_6_eq c i arg4 harg4 arg5 harg5 arg6 harg6 arg12 harg12 arg13 harg13 arg17 x2 x3 x4 x10 x11 n l) (congrArg₂ (fun x y : EReal => x * y) (r_7_eq c i arg4 harg4 arg5 harg5 arg6 harg6 arg17 x2 x3 x4 n l) (r_8_eq c arg12 harg12 x10 n l)) (congrArg₂ (fun x y : EReal => x * y) (scr0 c i arg4 harg4 arg5 harg5 arg6 harg6 x2 x3 x4 arg17.view 5 _ n l) (wt arg12 harg12 x10 4 0 _ (by decide) l (by omega))) (congrArg₂ (fun x y : EReal => x * y) (scr0 c i arg4 harg4 arg5 harg5 arg6 harg6 x2 x3 x4 arg17.view 6 _ n l) (wt arg12 harg12 x10 5 0 _ (by decide) l (by omega))) (congrArg₂ (fun x y : EReal => x * y) (scr0 c i arg4 harg4 arg5 harg5 arg6 harg6 x2 x3 x4 arg17.view 7 _ n l) (wt arg12 harg12 x10 6 0 _ (by decide) l (by omega))) (congrArg₂ (fun x y : EReal => x * y) (scr0 c i arg4 harg4 arg5 harg5 arg6 harg6 x2 x3 x4 arg17.view 8 _ n l) (wt arg12 harg12 x10 7 0 _ (by decide) l (by omega))) (congrArg₂ (fun x y : EReal => x * y) (scr0 c i arg4 harg4 arg5 harg5 arg6 harg6 x2 x3 x4 arg17.view 9 _ n l) (wt arg12 harg12 x10 8 0 _ (by decide) l (by omega)))

theorem r_10_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_10 (F := Ideal) c i arg4 harg4 arg5 harg5 arg6 harg6 arg12 harg12 arg13 harg13 arg17 x2 x3 x4 x10 x11) (ix2 n l) = Cert.Merge.acc (x11 (ix2 (0 : Fin 1) (⟨0 + l.val, by omega⟩ : Fin 512))) (tap i x2 x3 x4 x10 n (⟨0 + l.val, by omega⟩ : Fin 512)) 14 :=
  pay15_acc _ _ _ _ _ _ _ _ _ _ _ _ (tap i x2 x3 x4 x10 n (⟨0 + l.val, by omega⟩ : Fin 512)) n l (r_9_eq c i arg4 harg4 arg5 harg5 arg6 harg6 arg12 harg12 arg13 harg13 arg17 x2 x3 x4 x10 x11 n l) (congrArg₂ (fun x y : EReal => x * y) (scr0 c i arg4 harg4 arg5 harg5 arg6 harg6 x2 x3 x4 arg17.view 10 _ n l) (wt arg12 harg12 x10 9 0 _ (by decide) l (by omega))) (congrArg₂ (fun x y : EReal => x * y) (scr0 c i arg4 harg4 arg5 harg5 arg6 harg6 x2 x3 x4 arg17.view 11 _ n l) (wt arg12 harg12 x10 10 0 _ (by decide) l (by omega))) (congrArg₂ (fun x y : EReal => x * y) (scr0 c i arg4 harg4 arg5 harg5 arg6 harg6 x2 x3 x4 arg17.view 12 _ n l) (wt arg12 harg12 x10 11 0 _ (by decide) l (by omega))) (congrArg₂ (fun x y : EReal => x * y) (scr0 c i arg4 harg4 arg5 harg5 arg6 harg6 x2 x3 x4 arg17.view 13 _ n l) (wt arg12 harg12 x10 12 0 _ (by decide) l (by omega))) (congrArg₂ (fun x y : EReal => x * y) (scr0 c i arg4 harg4 arg5 harg5 arg6 harg6 x2 x3 x4 arg17.view 14 _ n l) (wt arg12 harg12 x10 13 0 _ (by decide) l (by omega)))

theorem r_11_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_11 (F := Ideal) c i arg4 harg4 arg5 harg5 arg6 harg6 arg17 x2 x3 x4) (ix2 n l) = E i x2 x3 x4 (15 + n.val) (⟨0 + l.val, by omega⟩ : Fin 512) :=
  (pay16_apply _ n l).trans (scr0 c i arg4 harg4 arg5 harg5 arg6 harg6 x2 x3 x4 arg17.view 15 _ n l)

theorem r_12_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_12 (F := Ideal) c i arg4 harg4 arg5 harg5 arg6 harg6 arg12 harg12 arg13 harg13 arg17 x2 x3 x4 x10 x11) (ix2 n l) = Cert.Merge.acc (x11 (ix2 (0 : Fin 1) (⟨0 + l.val, by omega⟩ : Fin 512))) (tap i x2 x3 x4 x10 n (⟨0 + l.val, by omega⟩ : Fin 512)) 20 :=
  pay17_acc _ _ _ _ _ _ _ _ _ _ _ _ _ _ (tap i x2 x3 x4 x10 n (⟨0 + l.val, by omega⟩ : Fin 512)) n l (r_10_eq c i arg4 harg4 arg5 harg5 arg6 harg6 arg12 harg12 arg13 harg13 arg17 x2 x3 x4 x10 x11 n l) (congrArg₂ (fun x y : EReal => x * y) (r_11_eq c i arg4 harg4 arg5 harg5 arg6 harg6 arg17 x2 x3 x4 n l) (wt arg12 harg12 x10 14 0 _ (by decide) l (by omega))) (congrArg₂ (fun x y : EReal => x * y) (scr0 c i arg4 harg4 arg5 harg5 arg6 harg6 x2 x3 x4 arg17.view 16 _ n l) (wt arg12 harg12 x10 15 0 _ (by decide) l (by omega))) (congrArg₂ (fun x y : EReal => x * y) (scr0 c i arg4 harg4 arg5 harg5 arg6 harg6 x2 x3 x4 arg17.view 17 _ n l) (wt arg12 harg12 x10 16 0 _ (by decide) l (by omega))) (congrArg₂ (fun x y : EReal => x * y) (scr0 c i arg4 harg4 arg5 harg5 arg6 harg6 x2 x3 x4 arg17.view 18 _ n l) (wt arg12 harg12 x10 17 0 _ (by decide) l (by omega))) (congrArg₂ (fun x y : EReal => x * y) (scr0 c i arg4 harg4 arg5 harg5 arg6 harg6 x2 x3 x4 arg17.view 19 _ n l) (wt arg12 harg12 x10 18 0 _ (by decide) l (by omega))) (congrArg₂ (fun x y : EReal => x * y) (scr0 c i arg4 harg4 arg5 harg5 arg6 harg6 x2 x3 x4 arg17.view 20 _ n l) (wt arg12 harg12 x10 19 0 _ (by decide) l (by omega)))

theorem r_13_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_13 (F := Ideal) c i arg4 harg4 arg5 harg5 arg6 harg6 arg12 harg12 arg13 harg13 arg17 x2 x3 x4 x10 x11) (ix2 n l) = Cert.Merge.acc (x11 (ix2 (0 : Fin 1) (⟨0 + l.val, by omega⟩ : Fin 512))) (tap i x2 x3 x4 x10 n (⟨0 + l.val, by omega⟩ : Fin 512)) 25 :=
  pay18_acc _ _ _ _ _ _ _ _ _ _ _ _ (tap i x2 x3 x4 x10 n (⟨0 + l.val, by omega⟩ : Fin 512)) n l (r_12_eq c i arg4 harg4 arg5 harg5 arg6 harg6 arg12 harg12 arg13 harg13 arg17 x2 x3 x4 x10 x11 n l) (congrArg₂ (fun x y : EReal => x * y) (scr0 c i arg4 harg4 arg5 harg5 arg6 harg6 x2 x3 x4 arg17.view 21 _ n l) (wt arg12 harg12 x10 20 0 _ (by decide) l (by omega))) (congrArg₂ (fun x y : EReal => x * y) (scr0 c i arg4 harg4 arg5 harg5 arg6 harg6 x2 x3 x4 arg17.view 22 _ n l) (wt arg12 harg12 x10 21 0 _ (by decide) l (by omega))) (congrArg₂ (fun x y : EReal => x * y) (scr0 c i arg4 harg4 arg5 harg5 arg6 harg6 x2 x3 x4 arg17.view 23 _ n l) (wt arg12 harg12 x10 22 0 _ (by decide) l (by omega))) (congrArg₂ (fun x y : EReal => x * y) (scr0 c i arg4 harg4 arg5 harg5 arg6 harg6 x2 x3 x4 arg17.view 24 _ n l) (wt arg12 harg12 x10 23 0 _ (by decide) l (by omega))) (congrArg₂ (fun x y : EReal => x * y) (scr0 c i arg4 harg4 arg5 harg5 arg6 harg6 x2 x3 x4 arg17.view 25 _ n l) (wt arg12 harg12 x10 24 0 _ (by decide) l (by omega)))

theorem r_14_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_14 (F := Ideal) c i arg4 harg4 arg5 harg5 arg6 harg6 arg17 x2 x3 x4) (ix2 n l) = E i x2 x3 x4 (26 + n.val) (⟨0 + l.val, by omega⟩ : Fin 512) :=
  (pay19_apply _ n l).trans (scr0 c i arg4 harg4 arg5 harg5 arg6 harg6 x2 x3 x4 arg17.view 26 _ n l)

theorem r_15_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_15 (F := Ideal) c i arg4 harg4 arg5 harg5 arg6 harg6 arg12 harg12 arg13 harg13 arg17 x2 x3 x4 x10 x11) (ix2 n l) = Cert.Merge.acc (x11 (ix2 (0 : Fin 1) (⟨0 + l.val, by omega⟩ : Fin 512))) (tap i x2 x3 x4 x10 n (⟨0 + l.val, by omega⟩ : Fin 512)) 31 :=
  pay20_acc _ _ _ _ _ _ _ _ _ _ _ _ _ _ (tap i x2 x3 x4 x10 n (⟨0 + l.val, by omega⟩ : Fin 512)) n l (r_13_eq c i arg4 harg4 arg5 harg5 arg6 harg6 arg12 harg12 arg13 harg13 arg17 x2 x3 x4 x10 x11 n l) (congrArg₂ (fun x y : EReal => x * y) (r_14_eq c i arg4 harg4 arg5 harg5 arg6 harg6 arg17 x2 x3 x4 n l) (wt arg12 harg12 x10 25 0 _ (by decide) l (by omega))) (congrArg₂ (fun x y : EReal => x * y) (scr0 c i arg4 harg4 arg5 harg5 arg6 harg6 x2 x3 x4 arg17.view 27 _ n l) (wt arg12 harg12 x10 26 0 _ (by decide) l (by omega))) (congrArg₂ (fun x y : EReal => x * y) (scr0 c i arg4 harg4 arg5 harg5 arg6 harg6 x2 x3 x4 arg17.view 28 _ n l) (wt arg12 harg12 x10 27 0 _ (by decide) l (by omega))) (congrArg₂ (fun x y : EReal => x * y) (scr0 c i arg4 harg4 arg5 harg5 arg6 harg6 x2 x3 x4 arg17.view 29 _ n l) (wt arg12 harg12 x10 28 0 _ (by decide) l (by omega))) (congrArg₂ (fun x y : EReal => x * y) (scr0 c i arg4 harg4 arg5 harg5 arg6 harg6 x2 x3 x4 arg17.view 30 _ n l) (wt arg12 harg12 x10 29 0 _ (by decide) l (by omega))) (congrArg₂ (fun x y : EReal => x * y) (scr0 c i arg4 harg4 arg5 harg5 arg6 harg6 x2 x3 x4 arg17.view 31 _ n l) (wt arg12 harg12 x10 30 0 _ (by decide) l (by omega)))

theorem r_16_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_16 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 2 :=
  pay24_acc _ _ _ _ _ _ (tap i x2 x3 x4 x10 n (⟨128 + l.val, by omega⟩ : Fin 512)) n l (bs arg13 harg13 x11 128 _ l (by omega)) (congrArg₂ (fun x y : EReal => x * y) (scr1 c i arg4 harg4 arg5 harg5 arg6 harg6 x2 x3 x4 arg17.view 1 _ n l) (wt arg12 harg12 x10 0 128 _ (by decide) l (by omega))) (congrArg₂ (fun x y : EReal => x * y) (scr1 c i arg4 harg4 arg5 harg5 arg6 harg6 x2 x3 x4 arg17.view 2 _ n l) (wt arg12 harg12 x10 1 128 _ (by decide) l (by omega)))

theorem r_17_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_17 (F := Ideal) c i arg4 harg4 arg5 harg5 arg6 harg6 arg17 x2 x3 x4) (ix2 n l) = E i x2 x3 x4 (3 + n.val) (⟨128 + l.val, by omega⟩ : Fin 512) :=
  (pay25_apply _ n l).trans (scr1 c i arg4 harg4 arg5 harg5 arg6 harg6 x2 x3 x4 arg17.view 3 _ n l)

theorem r_18_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_18 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 8 :=
  pay26_acc _ _ _ _ _ _ _ _ _ _ _ _ _ _ (tap i x2 x3 x4 x10 n (⟨128 + l.val, by omega⟩ : Fin 512)) n l (r_16_eq c i arg4 harg4 arg5 harg5 arg6 harg6 arg12 harg12 arg13 harg13 arg17 x2 x3 x4 x10 x11 n l) (congrArg₂ (fun x y : EReal => x * y) (r_17_eq c i arg4 harg4 arg5 harg5 arg6 harg6 arg17 x2 x3 x4 n l) (wt arg12 harg12 x10 2 128 _ (by decide) l (by omega))) (congrArg₂ (fun x y : EReal => x * y) (scr1 c i arg4 harg4 arg5 harg5 arg6 harg6 x2 x3 x4 arg17.view 4 _ n l) (wt arg12 harg12 x10 3 128 _ (by decide) l (by omega))) (congrArg₂ (fun x y : EReal => x * y) (scr1 c i arg4 harg4 arg5 harg5 arg6 harg6 x2 x3 x4 arg17.view 5 _ n l) (wt arg12 harg12 x10 4 128 _ (by decide) l (by omega))) (congrArg₂ (fun x y : EReal => x * y) (scr1 c i arg4 harg4 arg5 harg5 arg6 harg6 x2 x3 x4 arg17.view 6 _ n l) (wt arg12 harg12 x10 5 128 _ (by decide) l (by omega))) (congrArg₂ (fun x y : EReal => x * y) (scr1 c i arg4 harg4 arg5 harg5 arg6 harg6 x2 x3 x4 arg17.view 7 _ n l) (wt arg12 harg12 x10 6 128 _ (by decide) l (by omega))) (congrArg₂ (fun x y : EReal => x * y) (scr1 c i arg4 harg4 arg5 harg5 arg6 harg6 x2 x3 x4 arg17.view 8 _ n l) (wt arg12 harg12 x10 7 128 _ (by decide) l (by omega)))

theorem r_19_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_19 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 13 :=
  pay27_acc _ _ _ _ _ _ _ _ _ _ _ _ (tap i x2 x3 x4 x10 n (⟨128 + l.val, by omega⟩ : Fin 512)) n l (r_18_eq c i arg4 harg4 arg5 harg5 arg6 harg6 arg12 harg12 arg13 harg13 arg17 x2 x3 x4 x10 x11 n l) (congrArg₂ (fun x y : EReal => x * y) (scr1 c i arg4 harg4 arg5 harg5 arg6 harg6 x2 x3 x4 arg17.view 9 _ n l) (wt arg12 harg12 x10 8 128 _ (by decide) l (by omega))) (congrArg₂ (fun x y : EReal => x * y) (scr1 c i arg4 harg4 arg5 harg5 arg6 harg6 x2 x3 x4 arg17.view 10 _ n l) (wt arg12 harg12 x10 9 128 _ (by decide) l (by omega))) (congrArg₂ (fun x y : EReal => x * y) (scr1 c i arg4 harg4 arg5 harg5 arg6 harg6 x2 x3 x4 arg17.view 11 _ n l) (wt arg12 harg12 x10 10 128 _ (by decide) l (by omega))) (congrArg₂ (fun x y : EReal => x * y) (scr1 c i arg4 harg4 arg5 harg5 arg6 harg6 x2 x3 x4 arg17.view 12 _ n l) (wt arg12 harg12 x10 11 128 _ (by decide) l (by omega))) (congrArg₂ (fun x y : EReal => x * y) (scr1 c i arg4 harg4 arg5 harg5 arg6 harg6 x2 x3 x4 arg17.view 13 _ n l) (wt arg12 harg12 x10 12 128 _ (by decide) l (by omega)))

theorem r_20_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_20 (F := Ideal) c i arg4 harg4 arg5 harg5 arg6 harg6 arg17 x2 x3 x4) (ix2 n l) = E i x2 x3 x4 (14 + n.val) (⟨128 + l.val, by omega⟩ : Fin 512) :=
  (pay28_apply _ n l).trans (scr1 c i arg4 harg4 arg5 harg5 arg6 harg6 x2 x3 x4 arg17.view 14 _ n l)

theorem r_21_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_21 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 18 :=
  pay29_acc _ _ _ _ _ _ _ _ _ _ _ _ (tap i x2 x3 x4 x10 n (⟨128 + l.val, by omega⟩ : Fin 512)) n l (r_19_eq c i arg4 harg4 arg5 harg5 arg6 harg6 arg12 harg12 arg13 harg13 arg17 x2 x3 x4 x10 x11 n l) (congrArg₂ (fun x y : EReal => x * y) (r_20_eq c i arg4 harg4 arg5 harg5 arg6 harg6 arg17 x2 x3 x4 n l) (wt arg12 harg12 x10 13 128 _ (by decide) l (by omega))) (congrArg₂ (fun x y : EReal => x * y) (scr1 c i arg4 harg4 arg5 harg5 arg6 harg6 x2 x3 x4 arg17.view 15 _ n l) (wt arg12 harg12 x10 14 128 _ (by decide) l (by omega))) (congrArg₂ (fun x y : EReal => x * y) (scr1 c i arg4 harg4 arg5 harg5 arg6 harg6 x2 x3 x4 arg17.view 16 _ n l) (wt arg12 harg12 x10 15 128 _ (by decide) l (by omega))) (congrArg₂ (fun x y : EReal => x * y) (scr1 c i arg4 harg4 arg5 harg5 arg6 harg6 x2 x3 x4 arg17.view 17 _ n l) (wt arg12 harg12 x10 16 128 _ (by decide) l (by omega))) (congrArg₂ (fun x y : EReal => x * y) (scr1 c i arg4 harg4 arg5 harg5 arg6 harg6 x2 x3 x4 arg17.view 18 _ n l) (wt arg12 harg12 x10 17 128 _ (by decide) l (by omega)))

theorem r_22_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (n : Fin 512) (l : Fin 128) :
    (kernelRun0_A.sl.r_22 (F := Ideal) c i arg4 harg4 arg5 harg5 arg6 harg6 arg12 harg12 arg17 x2 x3 x4 x10) (ix2 n l) = (tap i x2 x3 x4 x10 n (⟨128 + l.val, by omega⟩ : Fin 512)) 18 :=
  (pay30_apply _ _ n l).trans (congrArg₂ (fun x y : EReal => x * y) (scr1 c i arg4 harg4 arg5 harg5 arg6 harg6 x2 x3 x4 arg17.view 19 _ n l) (wt arg12 harg12 x10 18 128 _ (by decide) l (by omega)))

theorem r_23_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_23 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 24 :=
  pay31_acc _ _ _ _ _ _ _ _ _ _ _ _ _ (tap i x2 x3 x4 x10 n (⟨128 + l.val, by omega⟩ : Fin 512)) n l (r_21_eq c i arg4 harg4 arg5 harg5 arg6 harg6 arg12 harg12 arg13 harg13 arg17 x2 x3 x4 x10 x11 n l) (r_22_eq c i arg4 harg4 arg5 harg5 arg6 harg6 arg12 harg12 arg17 x2 x3 x4 x10 n l) (congrArg₂ (fun x y : EReal => x * y) (scr1 c i arg4 harg4 arg5 harg5 arg6 harg6 x2 x3 x4 arg17.view 20 _ n l) (wt arg12 harg12 x10 19 128 _ (by decide) l (by omega))) (congrArg₂ (fun x y : EReal => x * y) (scr1 c i arg4 harg4 arg5 harg5 arg6 harg6 x2 x3 x4 arg17.view 21 _ n l) (wt arg12 harg12 x10 20 128 _ (by decide) l (by omega))) (congrArg₂ (fun x y : EReal => x * y) (scr1 c i arg4 harg4 arg5 harg5 arg6 harg6 x2 x3 x4 arg17.view 22 _ n l) (wt arg12 harg12 x10 21 128 _ (by decide) l (by omega))) (congrArg₂ (fun x y : EReal => x * y) (scr1 c i arg4 harg4 arg5 harg5 arg6 harg6 x2 x3 x4 arg17.view 23 _ n l) (wt arg12 harg12 x10 22 128 _ (by decide) l (by omega))) (congrArg₂ (fun x y : EReal => x * y) (scr1 c i arg4 harg4 arg5 harg5 arg6 harg6 x2 x3 x4 arg17.view 24 _ n l) (wt arg12 harg12 x10 23 128 _ (by decide) l (by omega)))

theorem r_24_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_24 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 29 :=
  pay32_acc _ _ _ _ _ _ _ _ _ _ _ _ (tap i x2 x3 x4 x10 n (⟨128 + l.val, by omega⟩ : Fin 512)) n l (r_23_eq c i arg4 harg4 arg5 harg5 arg6 harg6 arg12 harg12 arg13 harg13 arg17 x2 x3 x4 x10 x11 n l) (congrArg₂ (fun x y : EReal => x * y) (scr1 c i arg4 harg4 arg5 harg5 arg6 harg6 x2 x3 x4 arg17.view 25 _ n l) (wt arg12 harg12 x10 24 128 _ (by decide) l (by omega))) (congrArg₂ (fun x y : EReal => x * y) (scr1 c i arg4 harg4 arg5 harg5 arg6 harg6 x2 x3 x4 arg17.view 26 _ n l) (wt arg12 harg12 x10 25 128 _ (by decide) l (by omega))) (congrArg₂ (fun x y : EReal => x * y) (scr1 c i arg4 harg4 arg5 harg5 arg6 harg6 x2 x3 x4 arg17.view 27 _ n l) (wt arg12 harg12 x10 26 128 _ (by decide) l (by omega))) (congrArg₂ (fun x y : EReal => x * y) (scr1 c i arg4 harg4 arg5 harg5 arg6 harg6 x2 x3 x4 arg17.view 28 _ n l) (wt arg12 harg12 x10 27 128 _ (by decide) l (by omega))) (congrArg₂ (fun x y : EReal => x * y) (scr1 c i arg4 harg4 arg5 harg5 arg6 harg6 x2 x3 x4 arg17.view 29 _ n l) (wt arg12 harg12 x10 28 128 _ (by decide) l (by omega)))

theorem r_25_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_25 (F := Ideal) c i arg4 harg4 arg5 harg5 arg6 harg6 arg17 x2 x3 x4) (ix2 n l) = E i x2 x3 x4 (30 + n.val) (⟨128 + l.val, by omega⟩ : Fin 512) :=
  (pay33_apply _ n l).trans (scr1 c i arg4 harg4 arg5 harg5 arg6 harg6 x2 x3 x4 arg17.view 30 _ n l)

theorem r_26_eq (c : Dev nD) (arg12 : Memref sig .tc .vmem S31x512 .f32) (harg12 : arg12.IsWhole) (x10 : Vec Ideal S31x512 .f32) (n : Fin 512) (l : Fin 128) :
    (kernelRun0_A.sl.r_26 (F := Ideal) c arg12 harg12 x10) (ix2 n l) = Cert.Merge.weight x10 29 (⟨128 + l.val, by omega⟩ : Fin 512) :=
  (pay34_apply _ n l).trans (wt arg12 harg12 x10 29 128 _ (by decide) l (by omega))

theorem r_27_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_27 (F := Ideal) c i arg4 harg4 arg5 harg5 arg6 harg6 arg12 harg12 arg13 harg13 arg17 x2 x3 x4 x10 x11) (ix2 n l) = Cert.Merge.acc (x11 (ix2 (0 : Fin 1) (⟨128 + l.val, by omega⟩ : Fin 512))) (tap i x2 x3 x4 x10 n (⟨128 + l.val, by omega⟩ : Fin 512)) 31 :=
  pay35_acc _ _ _ _ _ _ (tap i x2 x3 x4 x10 n (⟨128 + l.val, by omega⟩ : Fin 512)) n l (r_24_eq c i arg4 harg4 arg5 harg5 arg6 harg6 arg12 harg12 arg13 harg13 arg17 x2 x3 x4 x10 x11 n l) (congrArg₂ (fun x y : EReal => x * y) (r_25_eq c i arg4 harg4 arg5 harg5 arg6 harg6 arg17 x2 x3 x4 n l) (r_26_eq c arg12 harg12 x10 n l)) (congrArg₂ (fun x y : EReal => x * y) (scr1 c i arg4 harg4 arg5 harg5 arg6 harg6 x2 x3 x4 arg17.view 31 _ n l) (wt arg12 harg12 x10 30 128 _ (by decide) l (by omega)))

theorem r_28_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_28 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 1 :=
  pay39_acc _ _ _ _ (tap i x2 x3 x4 x10 n (⟨256 + l.val, by omega⟩ : Fin 512)) n l (bs arg13 harg13 x11 256 _ l (by omega)) (congrArg₂ (fun x y : EReal => x * y) (scr2 c i arg4 harg4 arg5 harg5 arg6 harg6 x2 x3 x4 arg17.view 1 _ n l) (wt arg12 harg12 x10 0 256 _ (by decide) l (by omega)))

theorem r_29_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_29 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 6 :=
  pay40_acc _ _ _ _ _ _ _ _ _ _ _ _ (tap i x2 x3 x4 x10 n (⟨256 + l.val, by omega⟩ : Fin 512)) n l (r_28_eq c i arg4 harg4 arg5 harg5 arg6 harg6 arg12 harg12 arg13 harg13 arg17 x2 x3 x4 x10 x11 n l) (congrArg₂ (fun x y : EReal => x * y) (scr2 c i arg4 harg4 arg5 harg5 arg6 harg6 x2 x3 x4 arg17.view 2 _ n l) (wt arg12 harg12 x10 1 256 _ (by decide) l (by omega))) (congrArg₂ (fun x y : EReal => x * y) (scr2 c i arg4 harg4 arg5 harg5 arg6 harg6 x2 x3 x4 arg17.view 3 _ n l) (wt arg12 harg12 x10 2 256 _ (by decide) l (by omega))) (congrArg₂ (fun x y : EReal => x * y) (scr2 c i arg4 harg4 arg5 harg5 arg6 harg6 x2 x3 x4 arg17.view 4 _ n l) (wt arg12 harg12 x10 3 256 _ (by decide) l (by omega))) (congrArg₂ (fun x y : EReal => x * y) (scr2 c i arg4 harg4 arg5 harg5 arg6 harg6 x2 x3 x4 arg17.view 5 _ n l) (wt arg12 harg12 x10 4 256 _ (by decide) l (by omega))) (congrArg₂ (fun x y : EReal => x * y) (scr2 c i arg4 harg4 arg5 harg5 arg6 harg6 x2 x3 x4 arg17.view 6 _ n l) (wt arg12 harg12 x10 5 256 _ (by decide) l (by omega)))

theorem r_30_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_30 (F := Ideal) c i arg4 harg4 arg5 harg5 arg6 harg6 arg17 x2 x3 x4) (ix2 n l) = E i x2 x3 x4 (7 + n.val) (⟨256 + l.val, by omega⟩ : Fin 512) :=
  (pay41_apply _ n l).trans (scr2 c i arg4 harg4 arg5 harg5 arg6 harg6 x2 x3 x4 arg17.view 7 _ n l)

theorem r_31_eq (c : Dev nD) (arg12 : Memref sig .tc .vmem S31x512 .f32) (harg12 : arg12.IsWhole) (x10 : Vec Ideal S31x512 .f32) (n : Fin 512) (l : Fin 128) :
    (kernelRun0_A.sl.r_31 (F := Ideal) c arg12 harg12 x10) (ix2 n l) = Cert.Merge.weight x10 6 (⟨256 + l.val, by omega⟩ : Fin 512) :=
  (pay42_apply _ n l).trans (wt arg12 harg12 x10 6 256 _ (by decide) l (by omega))

theorem r_32_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_32 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 12 :=
  pay43_acc _ _ _ _ _ _ _ _ _ _ _ _ _ _ (tap i x2 x3 x4 x10 n (⟨256 + l.val, by omega⟩ : Fin 512)) n l (r_29_eq c i arg4 harg4 arg5 harg5 arg6 harg6 arg12 harg12 arg13 harg13 arg17 x2 x3 x4 x10 x11 n l) (congrArg₂ (fun x y : EReal => x * y) (r_30_eq c i arg4 harg4 arg5 harg5 arg6 harg6 arg17 x2 x3 x4 n l) (r_31_eq c arg12 harg12 x10 n l)) (congrArg₂ (fun x y : EReal => x * y) (scr2 c i arg4 harg4 arg5 harg5 arg6 harg6 x2 x3 x4 arg17.view 8 _ n l) (wt arg12 harg12 x10 7 256 _ (by decide) l (by omega))) (congrArg₂ (fun x y : EReal => x * y) (scr2 c i arg4 harg4 arg5 harg5 arg6 harg6 x2 x3 x4 arg17.view 9 _ n l) (wt arg12 harg12 x10 8 256 _ (by decide) l (by omega))) (congrArg₂ (fun x y : EReal => x * y) (scr2 c i arg4 harg4 arg5 harg5 arg6 harg6 x2 x3 x4 arg17.view 10 _ n l) (wt arg12 harg12 x10 9 256 _ (by decide) l (by omega))) (congrArg₂ (fun x y : EReal => x * y) (scr2 c i arg4 harg4 arg5 harg5 arg6 harg6 x2 x3 x4 arg17.view 11 _ n l) (wt arg12 harg12 x10 10 256 _ (by decide) l (by omega))) (congrArg₂ (fun x y : EReal => x * y) (scr2 c i arg4 harg4 arg5 harg5 arg6 harg6 x2 x3 x4 arg17.view 12 _ n l) (wt arg12 harg12 x10 11 256 _ (by decide) l (by omega)))

theorem r_33_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_33 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 17 :=
  pay44_acc _ _ _ _ _ _ _ _ _ _ _ _ (tap i x2 x3 x4 x10 n (⟨256 + l.val, by omega⟩ : Fin 512)) n l (r_32_eq c i arg4 harg4 arg5 harg5 arg6 harg6 arg12 harg12 arg13 harg13 arg17 x2 x3 x4 x10 x11 n l) (congrArg₂ (fun x y : EReal => x * y) (scr2 c i arg4 harg4 arg5 harg5 arg6 harg6 x2 x3 x4 arg17.view 13 _ n l) (wt arg12 harg12 x10 12 256 _ (by decide) l (by omega))) (congrArg₂ (fun x y : EReal => x * y) (scr2 c i arg4 harg4 arg5 harg5 arg6 harg6 x2 x3 x4 arg17.view 14 _ n l) (wt arg12 harg12 x10 13 256 _ (by decide) l (by omega))) (congrArg₂ (fun x y : EReal => x * y) (scr2 c i arg4 harg4 arg5 harg5 arg6 harg6 x2 x3 x4 arg17.view 15 _ n l) (wt arg12 harg12 x10 14 256 _ (by decide) l (by omega))) (congrArg₂ (fun x y : EReal => x * y) (scr2 c i arg4 harg4 arg5 harg5 arg6 harg6 x2 x3 x4 arg17.view 16 _ n l) (wt arg12 harg12 x10 15 256 _ (by decide) l (by omega))) (congrArg₂ (fun x y : EReal => x * y) (scr2 c i arg4 harg4 arg5 harg5 arg6 harg6 x2 x3 x4 arg17.view 17 _ n l) (wt arg12 harg12 x10 16 256 _ (by decide) l (by omega)))

theorem r_34_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_34 (F := Ideal) c i arg4 harg4 arg5 harg5 arg6 harg6 arg17 x2 x3 x4) (ix2 n l) = E i x2 x3 x4 (18 + n.val) (⟨256 + l.val, by omega⟩ : Fin 512) :=
  (pay45_apply _ n l).trans (scr2 c i arg4 harg4 arg5 harg5 arg6 harg6 x2 x3 x4 arg17.view 18 _ n l)

theorem r_35_eq (c : Dev nD) (arg12 : Memref sig .tc .vmem S31x512 .f32) (harg12 : arg12.IsWhole) (x10 : Vec Ideal S31x512 .f32) (n : Fin 512) (l : Fin 128) :
    (kernelRun0_A.sl.r_35 (F := Ideal) c arg12 harg12 x10) (ix2 (0 : Fin 1) l) = Cert.Merge.weight x10 17 (⟨256 + l.val, by omega⟩ : Fin 512) :=
  wt arg12 harg12 x10 17 256 _ (by decide) l (by omega)

theorem r_36_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_36 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 23 :=
  pay46_acc _ _ _ _ _ _ _ _ _ _ _ _ _ _ (tap i x2 x3 x4 x10 n (⟨256 + l.val, by omega⟩ : Fin 512)) n l (r_33_eq c i arg4 harg4 arg5 harg5 arg6 harg6 arg12 harg12 arg13 harg13 arg17 x2 x3 x4 x10 x11 n l) (congrArg₂ (fun x y : EReal => x * y) (r_34_eq c i arg4 harg4 arg5 harg5 arg6 harg6 arg17 x2 x3 x4 n l) (r_35_eq c arg12 harg12 x10 n l)) (congrArg₂ (fun x y : EReal => x * y) (scr2 c i arg4 harg4 arg5 harg5 arg6 harg6 x2 x3 x4 arg17.view 19 _ n l) (wt arg12 harg12 x10 18 256 _ (by decide) l (by omega))) (congrArg₂ (fun x y : EReal => x * y) (scr2 c i arg4 harg4 arg5 harg5 arg6 harg6 x2 x3 x4 arg17.view 20 _ n l) (wt arg12 harg12 x10 19 256 _ (by decide) l (by omega))) (congrArg₂ (fun x y : EReal => x * y) (scr2 c i arg4 harg4 arg5 harg5 arg6 harg6 x2 x3 x4 arg17.view 21 _ n l) (wt arg12 harg12 x10 20 256 _ (by decide) l (by omega))) (congrArg₂ (fun x y : EReal => x * y) (scr2 c i arg4 harg4 arg5 harg5 arg6 harg6 x2 x3 x4 arg17.view 22 _ n l) (wt arg12 harg12 x10 21 256 _ (by decide) l (by omega))) (congrArg₂ (fun x y : EReal => x * y) (scr2 c i arg4 harg4 arg5 harg5 arg6 harg6 x2 x3 x4 arg17.view 23 _ n l) (wt arg12 harg12 x10 22 256 _ (by decide) l (by omega)))

theorem r_37_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_37 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 28 :=
  pay47_acc _ _ _ _ _ _ _ _ _ _ _ _ (tap i x2 x3 x4 x10 n (⟨256 + l.val, by omega⟩ : Fin 512)) n l (r_36_eq c i arg4 harg4 arg5 harg5 arg6 harg6 arg12 harg12 arg13 harg13 arg17 x2 x3 x4 x10 x11 n l) (congrArg₂ (fun x y : EReal => x * y) (scr2 c i arg4 harg4 arg5 harg5 arg6 harg6 x2 x3 x4 arg17.view 24 _ n l) (wt arg12 harg12 x10 23 256 _ (by decide) l (by omega))) (congrArg₂ (fun x y : EReal => x * y) (scr2 c i arg4 harg4 arg5 harg5 arg6 harg6 x2 x3 x4 arg17.view 25 _ n l) (wt arg12 harg12 x10 24 256 _ (by decide) l (by omega))) (congrArg₂ (fun x y : EReal => x * y) (scr2 c i arg4 harg4 arg5 harg5 arg6 harg6 x2 x3 x4 arg17.view 26 _ n l) (wt arg12 harg12 x10 25 256 _ (by decide) l (by omega))) (congrArg₂ (fun x y : EReal => x * y) (scr2 c i arg4 harg4 arg5 harg5 arg6 harg6 x2 x3 x4 arg17.view 27 _ n l) (wt arg12 harg12 x10 26 256 _ (by decide) l (by omega))) (congrArg₂ (fun x y : EReal => x * y) (scr2 c i arg4 harg4 arg5 harg5 arg6 harg6 x2 x3 x4 arg17.view 28 _ n l) (wt arg12 harg12 x10 27 256 _ (by decide) l (by omega)))

theorem r_38_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_38 (F := Ideal) c i arg4 harg4 arg5 harg5 arg6 harg6 arg17 x2 x3 x4) (ix2 n l) = E i x2 x3 x4 (29 + n.val) (⟨256 + l.val, by omega⟩ : Fin 512) :=
  (pay48_apply _ n l).trans (scr2 c i arg4 harg4 arg5 harg5 arg6 harg6 x2 x3 x4 arg17.view 29 _ n l)

theorem r_39_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_39 (F := Ideal) c i arg4 harg4 arg5 harg5 arg6 harg6 arg12 harg12 arg13 harg13 arg17 x2 x3 x4 x10 x11) (ix2 n l) = Cert.Merge.acc (x11 (ix2 (0 : Fin 1) (⟨256 + l.val, by omega⟩ : Fin 512))) (tap i x2 x3 x4 x10 n (⟨256 + l.val, by omega⟩ : Fin 512)) 31 :=
  pay49_acc _ _ _ _ _ _ _ _ (tap i x2 x3 x4 x10 n (⟨256 + l.val, by omega⟩ : Fin 512)) n l (r_37_eq c i arg4 harg4 arg5 harg5 arg6 harg6 arg12 harg12 arg13 harg13 arg17 x2 x3 x4 x10 x11 n l) (congrArg₂ (fun x y : EReal => x * y) (r_38_eq c i arg4 harg4 arg5 harg5 arg6 harg6 arg17 x2 x3 x4 n l) (wt arg12 harg12 x10 28 256 _ (by decide) l (by omega))) (congrArg₂ (fun x y : EReal => x * y) (scr2 c i arg4 harg4 arg5 harg5 arg6 harg6 x2 x3 x4 arg17.view 30 _ n l) (wt arg12 harg12 x10 29 256 _ (by decide) l (by omega))) (congrArg₂ (fun x y : EReal => x * y) (scr2 c i arg4 harg4 arg5 harg5 arg6 harg6 x2 x3 x4 arg17.view 31 _ n l) (wt arg12 harg12 x10 30 256 _ (by decide) l (by omega)))

theorem r_40_eq (c : Dev nD) (arg13 : Memref sig .tc .vmem S1x512 .f32) (harg13 : arg13.IsWhole) (x11 : Vec Ideal S1x512 .f32) (n : Fin 512) (l : Fin 128) :
    (kernelRun0_A.sl.r_40 (F := Ideal) c arg13 harg13 x11) (ix2 n l) = x11 (ix2 (0 : Fin 1) (⟨384 + l.val, by omega⟩ : Fin 512)) :=
  pay53_acc _ _ (fun _ => 0) n l (bs arg13 harg13 x11 384 _ l (by omega))

theorem r_41_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_41 (F := Ideal) c i arg4 harg4 arg5 harg5 arg6 harg6 arg12 harg12 arg13 harg13 arg17 x2 x3 x4 x10 x11) (ix2 n l) = Cert.Merge.acc (x11 (ix2 (0 : Fin 1) (⟨384 + l.val, by omega⟩ : Fin 512))) (tap i x2 x3 x4 x10 n (⟨384 + l.val, by omega⟩ : Fin 512)) 5 :=
  pay54_acc _ _ _ _ _ _ _ _ _ _ _ _ (tap i x2 x3 x4 x10 n (⟨384 + l.val, by omega⟩ : Fin 512)) n l (r_40_eq c arg13 harg13 x11 n l) (congrArg₂ (fun x y : EReal => x * y) (scr3 c i arg4 harg4 arg5 harg5 arg6 harg6 x2 x3 x4 arg17.view 1 _ n l) (wt arg12 harg12 x10 0 384 _ (by decide) l (by omega))) (congrArg₂ (fun x y : EReal => x * y) (scr3 c i arg4 harg4 arg5 harg5 arg6 harg6 x2 x3 x4 arg17.view 2 _ n l) (wt arg12 harg12 x10 1 384 _ (by decide) l (by omega))) (congrArg₂ (fun x y : EReal => x * y) (scr3 c i arg4 harg4 arg5 harg5 arg6 harg6 x2 x3 x4 arg17.view 3 _ n l) (wt arg12 harg12 x10 2 384 _ (by decide) l (by omega))) (congrArg₂ (fun x y : EReal => x * y) (scr3 c i arg4 harg4 arg5 harg5 arg6 harg6 x2 x3 x4 arg17.view 4 _ n l) (wt arg12 harg12 x10 3 384 _ (by decide) l (by omega))) (congrArg₂ (fun x y : EReal => x * y) (scr3 c i arg4 harg4 arg5 harg5 arg6 harg6 x2 x3 x4 arg17.view 5 _ n l) (wt arg12 harg12 x10 4 384 _ (by decide) l (by omega)))

theorem r_42_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_42 (F := Ideal) c i arg4 harg4 arg5 harg5 arg6 harg6 arg17 x2 x3 x4) (ix2 n l) = E i x2 x3 x4 (6 + n.val) (⟨384 + l.val, by omega⟩ : Fin 512) :=
  (pay55_apply _ n l).trans (scr3 c i arg4 harg4 arg5 harg5 arg6 harg6 x2 x3 x4 arg17.view 6 _ n l)

theorem r_43_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_43 (F := Ideal) c i arg4 harg4 arg5 harg5 arg6 harg6 arg12 harg12 arg13 harg13 arg17 x2 x3 x4 x10 x11) (ix2 n l) = Cert.Merge.acc (x11 (ix2 (0 : Fin 1) (⟨384 + l.val, by omega⟩ : Fin 512))) (tap i x2 x3 x4 x10 n (⟨384 + l.val, by omega⟩ : Fin 512)) 11 :=
  pay56_acc _ _ _ _ _ _ _ _ _ _ _ _ _ _ (tap i x2 x3 x4 x10 n (⟨384 + l.val, by omega⟩ : Fin 512)) n l (r_41_eq c i arg4 harg4 arg5 harg5 arg6 harg6 arg12 harg12 arg13 harg13 arg17 x2 x3 x4 x10 x11 n l) (congrArg₂ (fun x y : EReal => x * y) (r_42_eq c i arg4 harg4 arg5 harg5 arg6 harg6 arg17 x2 x3 x4 n l) (wt arg12 harg12 x10 5 384 _ (by decide) l (by omega))) (congrArg₂ (fun x y : EReal => x * y) (scr3 c i arg4 harg4 arg5 harg5 arg6 harg6 x2 x3 x4 arg17.view 7 _ n l) (wt arg12 harg12 x10 6 384 _ (by decide) l (by omega))) (congrArg₂ (fun x y : EReal => x * y) (scr3 c i arg4 harg4 arg5 harg5 arg6 harg6 x2 x3 x4 arg17.view 8 _ n l) (wt arg12 harg12 x10 7 384 _ (by decide) l (by omega))) (congrArg₂ (fun x y : EReal => x * y) (scr3 c i arg4 harg4 arg5 harg5 arg6 harg6 x2 x3 x4 arg17.view 9 _ n l) (wt arg12 harg12 x10 8 384 _ (by decide) l (by omega))) (congrArg₂ (fun x y : EReal => x * y) (scr3 c i arg4 harg4 arg5 harg5 arg6 harg6 x2 x3 x4 arg17.view 10 _ n l) (wt arg12 harg12 x10 9 384 _ (by decide) l (by omega))) (congrArg₂ (fun x y : EReal => x * y) (scr3 c i arg4 harg4 arg5 harg5 arg6 harg6 x2 x3 x4 arg17.view 11 _ n l) (wt arg12 harg12 x10 10 384 _ (by decide) l (by omega)))

theorem r_44_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_44 (F := Ideal) c i arg4 harg4 arg5 harg5 arg6 harg6 arg12 harg12 arg13 harg13 arg17 x2 x3 x4 x10 x11) (ix2 n l) = Cert.Merge.acc (x11 (ix2 (0 : Fin 1) (⟨384 + l.val, by omega⟩ : Fin 512))) (tap i x2 x3 x4 x10 n (⟨384 + l.val, by omega⟩ : Fin 512)) 16 :=
  pay57_acc _ _ _ _ _ _ _ _ _ _ _ _ (tap i x2 x3 x4 x10 n (⟨384 + l.val, by omega⟩ : Fin 512)) n l (r_43_eq c i arg4 harg4 arg5 harg5 arg6 harg6 arg12 harg12 arg13 harg13 arg17 x2 x3 x4 x10 x11 n l) (congrArg₂ (fun x y : EReal => x * y) (scr3 c i arg4 harg4 arg5 harg5 arg6 harg6 x2 x3 x4 arg17.view 12 _ n l) (wt arg12 harg12 x10 11 384 _ (by decide) l (by omega))) (congrArg₂ (fun x y : EReal => x * y) (scr3 c i arg4 harg4 arg5 harg5 arg6 harg6 x2 x3 x4 arg17.view 13 _ n l) (wt arg12 harg12 x10 12 384 _ (by decide) l (by omega))) (congrArg₂ (fun x y : EReal => x * y) (scr3 c i arg4 harg4 arg5 harg5 arg6 harg6 x2 x3 x4 arg17.view 14 _ n l) (wt arg12 harg12 x10 13 384 _ (by decide) l (by omega))) (congrArg₂ (fun x y : EReal => x * y) (scr3 c i arg4 harg4 arg5 harg5 arg6 harg6 x2 x3 x4 arg17.view 15 _ n l) (wt arg12 harg12 x10 14 384 _ (by decide) l (by omega))) (congrArg₂ (fun x y : EReal => x * y) (scr3 c i arg4 harg4 arg5 harg5 arg6 harg6 x2 x3 x4 arg17.view 16 _ n l) (wt arg12 harg12 x10 15 384 _ (by decide) l (by omega)))

theorem r_45_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_45 (F := Ideal) c i arg4 harg4 arg5 harg5 arg6 harg6 arg17 x2 x3 x4) (ix2 n l) = E i x2 x3 x4 (17 + n.val) (⟨384 + l.val, by omega⟩ : Fin 512) :=
  (pay58_apply _ n l).trans (scr3 c i arg4 harg4 arg5 harg5 arg6 harg6 x2 x3 x4 arg17.view 17 _ n l)

theorem r_46_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_46 (F := Ideal) c i arg4 harg4 arg5 harg5 arg6 harg6 arg12 harg12 arg13 harg13 arg17 x2 x3 x4 x10 x11) (ix2 n l) = Cert.Merge.acc (x11 (ix2 (0 : Fin 1) (⟨384 + l.val, by omega⟩ : Fin 512))) (tap i x2 x3 x4 x10 n (⟨384 + l.val, by omega⟩ : Fin 512)) 22 :=
  pay59_acc _ _ _ _ _ _ _ _ _ _ _ _ _ _ (tap i x2 x3 x4 x10 n (⟨384 + l.val, by omega⟩ : Fin 512)) n l (r_44_eq c i arg4 harg4 arg5 harg5 arg6 harg6 arg12 harg12 arg13 harg13 arg17 x2 x3 x4 x10 x11 n l) (congrArg₂ (fun x y : EReal => x * y) (r_45_eq c i arg4 harg4 arg5 harg5 arg6 harg6 arg17 x2 x3 x4 n l) (wt arg12 harg12 x10 16 384 _ (by decide) l (by omega))) (congrArg₂ (fun x y : EReal => x * y) (scr3 c i arg4 harg4 arg5 harg5 arg6 harg6 x2 x3 x4 arg17.view 18 _ n l) (wt arg12 harg12 x10 17 384 _ (by decide) l (by omega))) (congrArg₂ (fun x y : EReal => x * y) (scr3 c i arg4 harg4 arg5 harg5 arg6 harg6 x2 x3 x4 arg17.view 19 _ n l) (wt arg12 harg12 x10 18 384 _ (by decide) l (by omega))) (congrArg₂ (fun x y : EReal => x * y) (scr3 c i arg4 harg4 arg5 harg5 arg6 harg6 x2 x3 x4 arg17.view 20 _ n l) (wt arg12 harg12 x10 19 384 _ (by decide) l (by omega))) (congrArg₂ (fun x y : EReal => x * y) (scr3 c i arg4 harg4 arg5 harg5 arg6 harg6 x2 x3 x4 arg17.view 21 _ n l) (wt arg12 harg12 x10 20 384 _ (by decide) l (by omega))) (congrArg₂ (fun x y : EReal => x * y) (scr3 c i arg4 harg4 arg5 harg5 arg6 harg6 x2 x3 x4 arg17.view 22 _ n l) (wt arg12 harg12 x10 21 384 _ (by decide) l (by omega)))

theorem r_47_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n : Fin 512) (l : Fin 128) :
    (kernelRun0_A.sl.r_47 (F := Ideal) c i arg4 harg4 arg5 harg5 arg6 harg6 arg12 harg12 arg13 harg13 arg17 x2 x3 x4 x10 x11) (ix2 n l) = Cert.Merge.acc (x11 (ix2 (0 : Fin 1) (⟨384 + l.val, by omega⟩ : Fin 512))) (tap i x2 x3 x4 x10 n (⟨384 + l.val, by omega⟩ : Fin 512)) 27 :=
  pay60_acc _ _ _ _ _ _ _ _ _ _ _ _ (tap i x2 x3 x4 x10 n (⟨384 + l.val, by omega⟩ : Fin 512)) n l (r_46_eq c i arg4 harg4 arg5 harg5 arg6 harg6 arg12 harg12 arg13 harg13 arg17 x2 x3 x4 x10 x11 n l) (congrArg₂ (fun x y : EReal => x * y) (scr3 c i arg4 harg4 arg5 harg5 arg6 harg6 x2 x3 x4 arg17.view 23 _ n l) (wt arg12 harg12 x10 22 384 _ (by decide) l (by omega))) (congrArg₂ (fun x y : EReal => x * y) (scr3 c i arg4 harg4 arg5 harg5 arg6 harg6 x2 x3 x4 arg17.view 24 _ n l) (wt arg12 harg12 x10 23 384 _ (by decide) l (by omega))) (congrArg₂ (fun x y : EReal => x * y) (scr3 c i arg4 harg4 arg5 harg5 arg6 harg6 x2 x3 x4 arg17.view 25 _ n l) (wt arg12 harg12 x10 24 384 _ (by decide) l (by omega))) (congrArg₂ (fun x y : EReal => x * y) (scr3 c i arg4 harg4 arg5 harg5 arg6 harg6 x2 x3 x4 arg17.view 26 _ n l) (wt arg12 harg12 x10 25 384 _ (by decide) l (by omega))) (congrArg₂ (fun x y : EReal => x * y) (scr3 c i arg4 harg4 arg5 harg5 arg6 harg6 x2 x3 x4 arg17.view 27 _ n l) (wt arg12 harg12 x10 26 384 _ (by decide) l (by omega)))

theorem r_48_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg17 : Memref sig .tc .vmem S4x544x128 .f32) (x2 : Vec Ideal S1x512x512 .bf16) (x3 : Vec Ideal S1x16x512 .bf16) (x4 : Vec Ideal S1x16x512 .bf16) (n : Fin 512) (l : Fin 128) :
    (kernelRun0_A.sl.r_48 (F := Ideal) c i arg4 harg4 arg5 harg5 arg6 harg6 arg17 x2 x3 x4) (ix2 n l) = E i x2 x3 x4 (28 + n.val) (⟨384 + l.val, by omega⟩ : Fin 512) :=
  (pay61_apply _ n l).trans (scr3 c i arg4 harg4 arg5 harg5 arg6 harg6 x2 x3 x4 arg17.view 28 _ n l)

end Cert.MergeIdeal.Merge

end
-- ==== Proof.MergeBody.lean ====
/-
  What the merge's kernel's body leaves at one grid point, from the blocks it reads.
-/
module

public import proofs.«01_k».proof.Proof.MergeSum

@[expose] public section

noncomputable section

namespace Cert.MergeIdeal.Merge

open Cert.MergeIdeal Cert.MergeIdeal.Gen Idealize.ShloMosaic

/-- The last channels' sum. -/
def lastSum (v810 : FVec Ideal S512x128 .f32) (v812 : FVec Ideal S512x128 .f32) (v813 : Vec Ideal S1x128 .f32) (v817 : Vec Ideal S1x512x128 .f32) (v819 : Vec Ideal S1x128 .f32) (v823 : Vec Ideal S1x512x128 .f32) (v825 : Vec Ideal S1x128 .f32) (v829 : Vec Ideal S1x512x128 .f32) (v831 : Vec Ideal S1x128 .f32) : FVec Ideal S512x128 .f32 :=
  have v814 : FVec Ideal S512x128 .f32 := broadcastTo S512x128 v813 broadcasts_S1x128_S512x128
  have v815 : FVec Ideal S512x128 .f32 := mulf v812 v814
  have v816 : FVec Ideal S512x128 .f32 := addf v810 v815
  have v818 : FVec Ideal S512x128 .f32 := shapeCast S512x128 v817 shapeCasts_S1x512x128_S512x128
  have v820 : FVec Ideal S512x128 .f32 := broadcastTo S512x128 v819 broadcasts_S1x128_S512x128
  have v821 : FVec Ideal S512x128 .f32 := mulf v818 v820
  have v822 : FVec Ideal S512x128 .f32 := addf v816 v821
  have v824 : FVec Ideal S512x128 .f32 := shapeCast S512x128 v823 shapeCasts_S1x512x128_S512x128
  have v826 : FVec Ideal S512x128 .f32 := broadcastTo S512x128 v825 broadcasts_S1x128_S512x128
  have v827 : FVec Ideal S512x128 .f32 := mulf v824 v826
  have v828 : FVec Ideal S512x128 .f32 := addf v822 v827
  have v830 : FVec Ideal S512x128 .f32 := shapeCast S512x128 v829 shapeCasts_S1x512x128_S512x128
  have v832 : FVec Ideal S512x128 .f32 := broadcastTo S512x128 v831 broadcasts_S1x128_S512x128
  have v833 : FVec Ideal S512x128 .f32 := mulf v830 v832
  have v834 : FVec Ideal S512x128 .f32 := addf v828 v833
  v834

theorem lastSum_acc (v810 : FVec Ideal S512x128 .f32) (v812 : FVec Ideal S512x128 .f32) (v813 : Vec Ideal S1x128 .f32) (v817 : Vec Ideal S1x512x128 .f32) (v819 : Vec Ideal S1x128 .f32) (v823 : Vec Ideal S1x512x128 .f32) (v825 : Vec Ideal S1x128 .f32) (v829 : Vec Ideal S1x512x128 .f32) (v831 : Vec Ideal S1x128 .f32) (b : EReal) (f : ℕ → EReal) (n : Fin 512) (l : Fin 128)
    (hb : v810 (ix2 n l) = Cert.Merge.acc b f 27) (h27 : v812 (ix2 n l) * v813 (ix2 (0 : Fin 1) l) = f 27) (h28 : v817 (ix3 (0 : Fin 1) n l) * v819 (ix2 (0 : Fin 1) l) = f 28) (h29 : v823 (ix3 (0 : Fin 1) n l) * v825 (ix2 (0 : Fin 1) l) = f 29) (h30 : v829 (ix3 (0 : Fin 1) n l) * v831 (ix2 (0 : Fin 1) l) = f 30) :
    lastSum v810 v812 v813 v817 v819 v823 v825 v829 v831 (ix2 n l) = Cert.Merge.acc b f 31 := by
  show _ = Cert.Merge.acc b f 27 + f 27 + f 28 + f 29 + f 30
  rw [← hb, ← h27, ← h28, ← h29, ← h30]
  pointwise [lastSum]

/-- All the channels' sums. -/
def sums (v225 v428 v631 Z : FVec Ideal S512x128 .f32) : FVec Ideal S512x512 .f32 :=
  concatenate S512x512 1 [⟨S512x128, v225⟩, ⟨S512x128, v428⟩, ⟨S512x128, v631⟩, ⟨S512x128, Z⟩] concatenates_S512x128_S512x128_S512x128_S512x128_S512x512_d1

theorem sums_apply (v225 v428 v631 Z : FVec Ideal S512x128 .f32) (C : Fin 512 → Fin 512 → EReal)
    (h0 : ∀ (n : Fin 512) (l : Fin 128), v225 (ix2 n l) = C n (⟨0 + l.val, by omega⟩ : Fin 512))
    (h1 : ∀ (n : Fin 512) (l : Fin 128), v428 (ix2 n l) = C n (⟨128 + l.val, by omega⟩ : Fin 512))
    (h2 : ∀ (n : Fin 512) (l : Fin 128), v631 (ix2 n l) = C n (⟨256 + l.val, by omega⟩ : Fin 512))
    (h3 : ∀ (n : Fin 512) (l : Fin 128), Z (ix2 n l) = C n (⟨384 + l.val, by omega⟩ : Fin 512)) (n d : Fin 512) :
    sums v225 v428 v631 Z (ix2 n d) = C n d := by
  pointwise [sums]
  split_ifs <;> first
    | exact (h0 _ _).trans (congrArg (C n) (Fin.ext (by dsimp only; omega)))
    | exact (h1 _ _).trans (congrArg (C n) (Fin.ext (by dsimp only; omega)))
    | exact (h2 _ _).trans (congrArg (C n) (Fin.ext (by dsimp only; omega)))
    | exact (h3 _ _).trans (congrArg (C n) (Fin.ext (by dsimp only; omega)))

/-- Sums less their mean. -/
def devs (v835 : FVec Ideal S512x512 .f32) : FVec Ideal S512x512 .f32 :=
  have v836 : FVec Ideal S512 .f32 := multiReduction .add [1] S512 v835 0x00000000#32 reduces_S512x512_S512 (.inl rfl) rfl
  have v837 : FVec Ideal S512x1 .f32 := shapeCast S512x1 v836 shapeCasts_S512_S512x1
  have cst_652 : Ideal .f32 := Scalar.ofBits .f32 0x44000000#32
  have v838 : FVec Ideal S512x1 .f32 := broadcast S512x1 cst_652
  have v839 : FVec Ideal S512x1 .f32 := divf v837 v838
  have v840 : FVec Ideal S512x512 .f32 := broadcastTo S512x512 v839 broadcasts_S512x1_S512x512
  have v841 : FVec Ideal S512x512 .f32 := subf v835 v840
  v841

theorem devs_apply (v835 : FVec Ideal S512x512 .f32) (n d : Fin 512) :
    devs v835 (ix2 n d) = Cert.Merge.dev (fun i => v835 (ix2 n i)) d := by
  pointwise [devs]
  rfl

theorem pay62_eq (v225 : FVec Ideal S512x128 .f32) (v428 : FVec Ideal S512x128 .f32) (v631 : FVec Ideal S512x128 .f32) (v810 : FVec Ideal S512x128 .f32) (v812 : FVec Ideal S512x128 .f32) (v813 : Vec Ideal S1x128 .f32) (v817 : Vec Ideal S1x512x128 .f32) (v819 : Vec Ideal S1x128 .f32) (v823 : Vec Ideal S1x512x128 .f32) (v825 : Vec Ideal S1x128 .f32) (v829 : Vec Ideal S1x512x128 .f32) (v831 : Vec Ideal S1x128 .f32) : k0_pay62 (F := Ideal) v225 v428 v631 v810 v812 v813 v817 v819 v823 v825 v829 v831 = devs (sums v225 v428 v631 (lastSum v810 v812 v813 v817 v819 v823 v825 v829 v831)) := rfl

theorem pay63_apply (v225 : FVec Ideal S512x128 .f32) (v428 : FVec Ideal S512x128 .f32) (v631 : FVec Ideal S512x128 .f32) (v810 : FVec Ideal S512x128 .f32) (v812 : FVec Ideal S512x128 .f32) (v813 : Vec Ideal S1x128 .f32) (v817 : Vec Ideal S1x512x128 .f32) (v819 : Vec Ideal S1x128 .f32) (v823 : Vec Ideal S1x512x128 .f32) (v825 : Vec Ideal S1x128 .f32) (v829 : Vec Ideal S1x512x128 .f32) (v831 : Vec Ideal S1x128 .f32) (C : Fin 512 → Fin 512 → EReal)
    (h : ∀ n d : Fin 512, k0_pay62 (F := Ideal) v225 v428 v631 v810 v812 v813 v817 v819 v823 v825 v829 v831 (ix2 n d) = Cert.Merge.dev (C n) d) (n d : Fin 512) :
    k0_pay63 (F := Ideal) v225 v428 v631 v810 v812 v813 v817 v819 v823 v825 v829 v831 (ix2 n d) = Cert.Merge.scale (C n) := by
  unfold Cert.Merge.scale
  simp only [← h]
  unfold k0_pay63
  generalize k0_pay62 (F := Ideal) v225 v428 v631 v810 v812 v813 v817 v819 v823 v825 v829 v831 = D
  pointwise []
  rfl

theorem pay3_apply (v3 : Vec Ideal S1x16x64x512 .bf16) (v6 : Vec Ideal S1024x1024 .bf16) (n : Fin 512) (j : Fin 1024) :
    k0_pay3 (F := Ideal) v3 v6 (ix2 n j) = ∑ i : Fin 1024, v3 (ix4 (0 : Fin 1) (⟨i.val / 64, by omega⟩ : Fin 16) (⟨i.val % 64, by omega⟩ : Fin 64) n) * v6 (ix2 i j) := by
  pointwise [k0_pay3]

theorem pay2_apply (v0 : Vec Ideal S1x1x6144 .f32) (d : Fin 1024) :
    k0_pay2 (F := Ideal) v0 (ix2 (0 : Fin 1) d) = v0 (ix3 (0 : Fin 1) (0 : Fin 1) (⟨2048 + d.val, by omega⟩ : Fin 6144)) := by
  pointwise [k0_pay2]

/-- The branches gated and added, the convolution's as it is made. -/
def acts (v841 v850 : FVec Ideal S512x512 .f32) (v852 v856 : Vec Ideal S1x512 .f32) (n d : Fin 512) : EReal :=
  (v841 (ix2 n d) * v850 (ix2 n d) * v852 (ix2 (0 : Fin 1) d) + v856 (ix2 (0 : Fin 1) d))
    * Ideal.logistic (v841 (ix2 n d) * v850 (ix2 n d) * v852 (ix2 (0 : Fin 1) d) + v856 (ix2 (0 : Fin 1) d))

theorem pay64_apply (v8 : FVec Ideal S512x1024 .f32) (v841 : FVec Ideal S512x512 .f32) (v850 : FVec Ideal S512x512 .f32) (v852 : Vec Ideal S1x512 .f32) (v856 : Vec Ideal S1x512 .f32) (v863 : Vec Ideal S512x1024 .bf16) (v866 : Vec Ideal S512x2048 .bf16) (n : Fin 512) (j : Fin 1024) :
    k0_pay64 (F := Ideal) v8 v841 v850 v852 v856 v863 v866 (ix2 n j)
      = v866 (ix2 n (⟨0 + j.val, by omega⟩ : Fin 2048)) * v8 (ix2 n j)
        + v866 (ix2 n (⟨1024 + j.val, by omega⟩ : Fin 2048)) * ∑ d, acts v841 v850 v852 v856 n d * v863 (ix2 d j) := by
  unfold acts
  pointwise [k0_pay64]

theorem pay1_apply (v2 : FVec Ideal S1x1024 .f32) (v874 : FVec Ideal S512x1024 .bf16) (v875 : Vec Ideal S1024x1024 .bf16) (v878 : Vec Ideal S512x1024 .f32) (n : Fin 512) (d : Fin 1024) :
    k0_pay1 (F := Ideal) v2 v874 v875 v878 (ix2 n d) = v878 (ix2 n d) + v2 (ix2 (0 : Fin 1) d) * ∑ j, v874 (ix2 n j) * v875 (ix2 j d) := by
  pointwise [k0_pay1]

/-- The convolution at a row of the block. -/
def C (i : grid0.Coords) (x2 : Vec Ideal S1x512x512 .bf16) (x3 : Vec Ideal S1x16x512 .bf16) (x4 : Vec Ideal S1x16x512 .bf16) (x10 : Vec Ideal S31x512 .f32) (x11 : Vec Ideal S1x512 .f32) (n d : Fin 512) : EReal :=
  Cert.Merge.acc (x11 (ix2 (0 : Fin 1) d)) (tap i x2 x3 x4 x10 n d) 31

/-- The result at a row of the block. -/
def Te (i : grid0.Coords) (x0 : Vec Ideal S512x1024 .f32) (x1 : Vec Ideal S1x16x64x512 .bf16) (x2 : Vec Ideal S1x512x512 .bf16) (x3 : Vec Ideal S1x16x512 .bf16) (x4 : Vec Ideal S1x16x512 .bf16) (x5 : Vec Ideal S512x2048 .bf16) (x6 : Vec Ideal S1x1x6144 .f32) (x7 : Vec Ideal S1024x1024 .bf16) (x8 : Vec Ideal S512x1024 .bf16) (x9 : Vec Ideal S1024x1024 .bf16) (x10 : Vec Ideal S31x512 .f32) (x11 : Vec Ideal S1x512 .f32) (x12 : Vec Ideal S1x512 .f32) (x13 : Vec Ideal S1x512 .f32) (n : Fin 512) (d : Fin 1024) : EReal :=
  Cert.Merge.token (fun d => x0 (ix2 n d)) (fun d => x6 (ix3 (0 : Fin 1) (0 : Fin 1) (⟨2048 + d.val, by omega⟩ : Fin 6144)))
    (fun j => x5 (ix2 n (⟨0 + j.val, by omega⟩ : Fin 2048))) (fun j => x5 (ix2 n (⟨1024 + j.val, by omega⟩ : Fin 2048)))
    (fun k => x1 (ix4 (0 : Fin 1) (⟨k.val / 64, by omega⟩ : Fin 16) (⟨k.val % 64, by omega⟩ : Fin 64) n)) (fun k j => x7 (ix2 k j))
    (C i x2 x3 x4 x10 x11 n) (fun e => x12 (ix2 (0 : Fin 1) e)) (fun e => x13 (ix2 (0 : Fin 1) e)) (fun e j => x8 (ix2 e j)) (fun j d => x9 (ix2 j d)) d

theorem r_49_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n d : Fin 512) :
    (kernelRun0_A.sl.r_49 (F := Ideal) c i arg4 harg4 arg5 harg5 arg6 harg6 arg12 harg12 arg13 harg13 arg17 x2 x3 x4 x10 x11) (ix2 n d) = Cert.Merge.dev (C i x2 x3 x4 x10 x11 n) d := by
  unfold kernelRun0_A.sl.r_49
  rw [pay62_eq, devs_apply]
  refine congrArg (fun f => Cert.Merge.dev f d) (funext fun e => ?_)
  refine sums_apply _ _ _ _ (C i x2 x3 x4 x10 x11) (fun n l => ?_) (fun n l => ?_) (fun n l => ?_) (fun n l => ?_) n e
  · exact r_15_eq c i arg4 harg4 arg5 harg5 arg6 harg6 arg12 harg12 arg13 harg13 arg17 x2 x3 x4 x10 x11 n l
  · exact r_27_eq c i arg4 harg4 arg5 harg5 arg6 harg6 arg12 harg12 arg13 harg13 arg17 x2 x3 x4 x10 x11 n l
  · exact r_39_eq c i arg4 harg4 arg5 harg5 arg6 harg6 arg12 harg12 arg13 harg13 arg17 x2 x3 x4 x10 x11 n l
  · exact lastSum_acc _ _ _ _ _ _ _ _ _ _ (tap i x2 x3 x4 x10 n (⟨384 + l.val, by omega⟩ : Fin 512)) n l (r_47_eq c i arg4 harg4 arg5 harg5 arg6 harg6 arg12 harg12 arg13 harg13 arg17 x2 x3 x4 x10 x11 n l) (congrArg₂ (fun x y : EReal => x * y) (r_48_eq c i arg4 harg4 arg5 harg5 arg6 harg6 arg17 x2 x3 x4 n l) (wt arg12 harg12 x10 27 384 _ (by decide) l (by omega))) (congrArg₂ (fun x y : EReal => x * y) (scr3 c i arg4 harg4 arg5 harg5 arg6 harg6 x2 x3 x4 arg17.view 29 _ n l) (wt arg12 harg12 x10 28 384 _ (by decide) l (by omega))) (congrArg₂ (fun x y : EReal => x * y) (scr3 c i arg4 harg4 arg5 harg5 arg6 harg6 x2 x3 x4 arg17.view 30 _ n l) (wt arg12 harg12 x10 29 384 _ (by decide) l (by omega))) (congrArg₂ (fun x y : EReal => x * y) (scr3 c i arg4 harg4 arg5 harg5 arg6 harg6 x2 x3 x4 arg17.view 31 _ n l) (wt arg12 harg12 x10 30 384 _ (by decide) l (by omega)))

theorem r_50_eq (c : Dev nD) (i : grid0.Coords) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg12 : Memref sig .tc .vmem S31x512 .f32) (harg12 : arg12.IsWhole) (arg13 : Memref sig .tc .vmem S1x512 .f32) (harg13 : arg13.IsWhole) (arg17 : Memref sig .tc .vmem S4x544x128 .f32) (x2 : Vec Ideal S1x512x512 .bf16) (x3 : Vec Ideal S1x16x512 .bf16) (x4 : Vec Ideal S1x16x512 .bf16) (x10 : Vec Ideal S31x512 .f32) (x11 : Vec Ideal S1x512 .f32) (n d : Fin 512) :
    (kernelRun0_A.sl.r_50 (F := Ideal) c i arg4 harg4 arg5 harg5 arg6 harg6 arg12 harg12 arg13 harg13 arg17 x2 x3 x4 x10 x11) (ix2 n d) = Cert.Merge.scale (C i x2 x3 x4 x10 x11 n) :=
  pay63_apply _ _ _ _ _ _ _ _ _ _ _ _ (C i x2 x3 x4 x10 x11) (fun n d => r_49_eq c i arg4 harg4 arg5 harg5 arg6 harg6 arg12 harg12 arg13 harg13 arg17 x2 x3 x4 x10 x11 n d) n d

section Out
variable (c : Dev nD) (i : grid0.Coords) (arg2 : Memref sig .tc .vmem S512x1024 .f32) (harg2 : arg2.IsWhole) (arg3 : Memref sig .tc .vmem S1x16x64x512 .bf16) (harg3 : arg3.IsWhole) (arg4 : Memref sig .tc .vmem S1x512x512 .bf16) (harg4 : arg4.IsWhole) (arg5 : Memref sig .tc .vmem S1x16x512 .bf16) (harg5 : arg5.IsWhole) (arg6 : Memref sig .tc .vmem S1x16x512 .bf16) (harg6 : arg6.IsWhole) (arg7 : Memref sig .tc .vmem S512x2048 .bf16) (harg7 : arg7.IsWhole) (arg8 : Memref sig .tc .vmem S1x1x6144 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S31x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S512x1024 .f32) (harg16 : arg16.IsWhole) (arg17 : Memref sig .tc .vmem S4x544x128 .f32) (harg17 : arg17.IsWhole)
    (x0 : Vec Ideal S512x1024 .f32) (x1 : Vec Ideal S1x16x64x512 .bf16) (x2 : Vec Ideal S1x512x512 .bf16) (x3 : Vec Ideal S1x16x512 .bf16) (x4 : Vec Ideal S1x16x512 .bf16) (x5 : Vec Ideal S512x2048 .bf16) (x6 : Vec Ideal S1x1x6144 .f32) (x7 : Vec Ideal S1024x1024 .bf16) (x8 : Vec Ideal S512x1024 .bf16) (x9 : Vec Ideal S1024x1024 .bf16) (x10 : Vec Ideal S31x512 .f32) (x11 : Vec Ideal S1x512 .f32) (x12 : Vec Ideal S1x512 .f32) (x13 : Vec Ideal S1x512 .f32)

theorem r_51_eq (n : Fin 512) (j : Fin 1024) : (kernelRun0_A.sl.r_51 (F := Ideal) c i arg3 harg3 arg4 harg4 arg5 harg5 arg6 harg6 arg7 harg7 arg9 harg9 arg10 harg10 arg12 harg12 arg13 harg13 arg14 harg14 arg15 harg15 arg17 x1 x2 x3 x4 x5 x7 x8 x10 x11 x12 x13) (ix2 n j)
    = Cert.Merge.merged (fun j => x5 (ix2 n (⟨0 + j.val, by omega⟩ : Fin 2048))) (fun j => x5 (ix2 n (⟨1024 + j.val, by omega⟩ : Fin 2048)))
    (fun k => x1 (ix4 (0 : Fin 1) (⟨k.val / 64, by omega⟩ : Fin 16) (⟨k.val % 64, by omega⟩ : Fin 64) n)) (fun k j => x7 (ix2 k j))
    (C i x2 x3 x4 x10 x11 n) (fun e => x12 (ix2 (0 : Fin 1) e)) (fun e => x13 (ix2 (0 : Fin 1) e)) (fun e j => x8 (ix2 e j)) j := by
  unfold kernelRun0_A.sl.r_51 kernelRun0_A.sl.r_1
  rw [load_whole arg3 harg3 x1, load_whole arg7 harg7 x5, load_whole arg9 harg9 x7, load_whole arg10 harg10 x8, load_whole arg14 harg14 x12, load_whole arg15 harg15 x13]
  rw [pay64_apply, pay3_apply]
  unfold acts
  simp only [r_49_eq, r_50_eq]
  rfl

theorem out14_ix (n : Fin 512) (d : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 (ix2 n d) = Te i x0 x1 x2 x3 x4 x5 x6 x7 x8 x9 x10 x11 x12 x13 n d := by
  unfold out0_A_14 kernelRun0_A
  dsimp only
  rw [View.read_writes_full]
  unfold kernelRun0_A.sl.r
  rw [pay1_apply, pay2_apply]
  simp only [r_51_eq]
  unfold Te Cert.Merge.token
  exact congrArg₂ (fun x y : EReal => x + y) (congrFun (load_whole arg2 harg2 x0 _) _)
    (congrArg₂ (fun x y : EReal => x * y) (congrFun (load_whole arg8 harg8 x6 _) _)
      (Finset.sum_congr rfl fun j _ => congrArg (fun y : EReal => _ * y) (congrFun (load_whole arg11 harg11 x9 _) _)))
end Out

end Cert.MergeIdeal.Merge

end
-- ==== Proof.MergeRun.lean ====
/-
  The merge's kernel's result.
-/
module

public import proofs.«01_k».proof.Proof.MergeEntry
public import proofs.«01_k».proof.Proof.MergeBody

@[expose] public section

noncomputable section

namespace Cert.MergeIdeal.Merge

open Cert.MergeIdeal Cert.MergeIdeal.Gen Idealize.ShloMosaic Idealize.ShloMosaic.TcCoe Idealize.SL.Sem

variable {m : (ℓ : Loc nD τ sig) → Buf (Elt Ideal) ℓ} {c : Dev nD}

theorem batch_tok (t : Fin cfg0.N) (n : Fin 512) : (⟨t.val / 8, by have := lt32 t; omega⟩ : Fin 4) = Cert.Moe.batch (tok t n) :=
  Fin.ext (by show t.val / 8 = (t.val * 512 + n.val) / 4096; omega)

theorem place_tok (t : Fin cfg0.N) (n : Fin 512) : (⟨t.val % 8 * 512 + n.val, by omega⟩ : Fin 4096) = Cert.Moe.place (tok t n) :=
  Fin.ext (by show t.val % 8 * 512 + n.val = (t.val * 512 + n.val) % 4096; omega)

/-- The rows kept are the batch's, with zeros about them. -/
theorem E_eq (t : Fin cfg0.N) (q : ℕ) (h1 : 1 ≤ q) (hq : q < 544) (d : Fin 512) :
    E (grid0.coords t) (iblk m c 2 t) (iblk m c 3 t) (iblk m c 4 t) q d
      = Cert.Merge.padded (argA m c) ⟨t.val / 8, by have := lt32 t; omega⟩ (t.val % 8 * 512 + q - 1) d := by
  have ht := lt32 t
  unfold E before after Cert.Merge.padded
  rw [tile]
  by_cases ha : q < 16
  · rw [dif_pos ha]
    by_cases h0 : 0 < t.val % 8
    · rw [if_pos h0, dif_pos (⟨by omega, by omega⟩ : 15 ≤ t.val % 8 * 512 + q - 1 ∧ t.val % 8 * 512 + q - 1 - 15 < 4096)]
      refine (blk3 m c t _ d).trans ((arr2 m c _ _ d).trans (congrArg (fun p => argA m c (ix3 _ p d)) (Fin.ext ?_)))
      show (t.val % 8 * 32 - 1) * 16 + q = t.val % 8 * 512 + q - 1 - 15
      omega
    · rw [if_neg h0, dif_neg (by omega : ¬ (15 ≤ t.val % 8 * 512 + q - 1 ∧ t.val % 8 * 512 + q - 1 - 15 < 4096))]
  rw [dif_neg ha]
  by_cases hb : q - 16 < 512
  · rw [dif_pos hb, dif_pos (⟨by omega, by omega⟩ : 15 ≤ t.val % 8 * 512 + q - 1 ∧ t.val % 8 * 512 + q - 1 - 15 < 4096)]
    refine (blk2 m c t _ d).trans ((arr2 m c _ _ d).trans (congrArg (fun p => argA m c (ix3 _ p d)) (Fin.ext ?_)))
    show t.val % 8 * 512 + (q - 16) = t.val % 8 * 512 + q - 1 - 15
    omega
  rw [dif_neg hb, dif_pos (by omega : q - 528 < 16)]
  by_cases h7 : t.val % 8 < 7
  · rw [if_pos h7, dif_pos (⟨by omega, by omega⟩ : 15 ≤ t.val % 8 * 512 + q - 1 ∧ t.val % 8 * 512 + q - 1 - 15 < 4096)]
    refine (blk4 m c t _ d).trans ((arr2 m c _ _ d).trans (congrArg (fun p => argA m c (ix3 _ p d)) (Fin.ext ?_)))
    show min (t.val % 8 * 32 + 32) 255 * 16 + (q - 528) = t.val % 8 * 512 + q - 1 - 15
    omega
  · rw [if_neg h7, dif_neg (by omega : ¬ (15 ≤ t.val % 8 * 512 + q - 1 ∧ t.val % 8 * 512 + q - 1 - 15 < 4096))]

theorem weight_eq (t : Fin cfg0.N) (j : ℕ) (d : Fin 512) : Cert.Merge.weight (iblk m c 10 t) j d = Cert.Merge.weight (argCw m c) j d := by
  unfold Cert.Merge.weight
  by_cases h : j < 31
  · rw [dif_pos h, dif_pos h]
    exact (blk10 m c t _ d).trans (arr10 m c _ d)
  · rw [dif_neg h, dif_neg h]

theorem C_eq (t : Fin cfg0.N) (n : Fin 512) :
    C (grid0.coords t) (iblk m c 2 t) (iblk m c 3 t) (iblk m c 4 t) (iblk m c 10 t) (iblk m c 11 t) n
      = Cert.Merge.conv (argA m c) (argCw m c) (argCb m c) (tok t n) := by
  refine funext fun d => ?_
  unfold C Cert.Merge.conv
  rw [show (iblk m c 11 t : Vec Ideal S1x512 .f32) (ix2 (0 : Fin 1) d) = argCb m c (ix1 d) from (blk11 m c t d).trans (arr11 m c d)]
  refine Cert.Merge.acc_congr _ _ _ 31 fun j hj => ?_
  unfold tap
  rw [weight_eq, E_eq t (1 + j + n.val) (by omega) (by omega) d, batch_tok t n, ← place_tok t n]
  exact congrArg (fun q => Cert.Merge.padded (argA m c) _ q d * _) (show t.val % 8 * 512 + (1 + j + n.val) - 1 = t.val % 8 * 512 + n.val + j by omega)

theorem token_congr {h h' g1 g1' ga ga' gc gc' o o' : Fin 1024 → EReal} {wao wao' : Fin 1024 → Fin 1024 → EReal} {x x' g g' b b' : Fin 512 → EReal}
    {wco wco' : Fin 512 → Fin 1024 → EReal} {wout wout' : Fin 1024 → Fin 1024 → EReal} (d : Fin 1024)
    (e1 : h = h') (e2 : g1 = g1') (e3 : ga = ga') (e4 : gc = gc') (e5 : o = o') (e6 : wao = wao') (e7 : x = x') (e8 : g = g') (e9 : b = b') (e10 : wco = wco') (e11 : wout = wout') :
    Cert.Merge.token h g1 ga gc o wao x g b wco wout d = Cert.Merge.token h' g1' ga' gc' o' wao' x' g' b' wco' wout' d := by
  subst e1 e2 e3 e4 e5 e6 e7 e8 e9 e10 e11
  rfl

theorem gate_eq (t : Fin cfg0.N) (n : Fin 512) (k : ℕ) (hk : ∀ j : Fin 1024, k + j.val < 2048) :
    (fun j : Fin 1024 => (iblk m c 5 t : Vec Ideal S512x2048 .bf16) (ix2 n (⟨k + j.val, hk j⟩ : Fin 2048)))
      = fun j => argG m c (ix3 (Cert.Moe.batch (tok t n)) (Cert.Moe.place (tok t n)) (⟨k + j.val, hk j⟩ : Fin 2048)) :=
  funext fun j => (blk5 m c t n _).trans (arr5 m c _ _)

theorem heads_eq (t : Fin cfg0.N) (n : Fin 512) :
    (fun k : Fin 1024 => (iblk m c 1 t : Vec Ideal S1x16x64x512 .bf16) (ix4 (0 : Fin 1) (⟨k.val / 64, by omega⟩ : Fin 16) (⟨k.val % 64, by omega⟩ : Fin 64) n))
      = Cert.Merge.heads (argO m c) (tok t n) := by
  refine funext fun k => ?_
  rw [blk1, arr1, batch_tok t n, place_tok t n]
  rfl

theorem mod_eq (t : Fin cfg0.N) (n : Fin 512) :
    (fun d : Fin 1024 => (iblk m c 6 t : Vec Ideal S1x1x6144 .f32) (ix3 (0 : Fin 1) (0 : Fin 1) (⟨2048 + d.val, by omega⟩ : Fin 6144)))
      = Cert.Moe.part (argM m c) 2 (tok t n) := by
  refine funext fun d => ?_
  rw [blk6, arr6, batch_tok t n]
  rfl

theorem Te_eq (t : Fin cfg0.N) (n : Fin 512) (d : Fin 1024) :
    Te (grid0.coords t) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) n d
      = Cert.Merge.out (argH m c) (argO m c) (argA m c) (argG m c) (argM m c) (argWa m c) (argCw m c) (argCb m c) (argLg m c) (argLb m c) (argWc m c) (argWo m c) (tok t n) d := by
  unfold Te Cert.Merge.out
  refine token_congr d ?_ (mod_eq t n) (gate_eq t n 0 _) (gate_eq t n 1024 _) (heads_eq t n) ?_ (C_eq t n) ?_ ?_ ?_ ?_
  · exact funext fun d => (blk0 m c t n d).trans (arr0 m c _ d)
  · exact funext fun i => funext fun j => (blk7 m c t i j).trans (arr7 m c i j)
  · exact funext fun e => (blk12 m c t e).trans (arr12 m c e)
  · exact funext fun e => (blk13 m c t e).trans (arr13 m c e)
  · exact funext fun e => funext fun j => (blk8 m c t e j).trans (arr8 m c e j)
  · exact funext fun i => funext fun j => (blk9 m c t i j).trans (arr9 m c i j)

/-- The result array. -/
def result14 (m : (ℓ : Loc nD τ sig) → Buf (Elt Ideal) ℓ) (c : Dev nD) : Vec Ideal S16384x1024 .f32 := fun y =>
  Cert.Merge.out (argH m c) (argO m c) (argA m c) (argG m c) (argM m c) (argWa m c) (argCw m c) (argCb m c) (argLg m c) (argLb m c) (argWc m c) (argWo m c) (y 0) (y 1)

theorem block14 (t : Fin cfg0.N) (n : Fin 512) (d : Fin 1024) :
    (outsAt0 m c t) (ix2 n d) = result14 m c (ix2 (⟨t.val * 512 + n.val, by have := lt32 t; omega⟩ : Fin 16384) d) := by
  unfold outsAt0
  exact (out14_ix ..).trans (Te_eq t n d)

theorem flushed14 (t : Fin cfg0.N) :
    (dats m 0 c).flushed 14 t = (win0_14.blk t).view.read (Elt Ideal) (result14 m c) := by
  show (cfg0.win 14).cut (grid0.coords t) ((dats m 0 c).after 14 t) = _
  rw [after0_14]
  refine funext fun x => ?_
  have hx : (x : S512x1024.Idx) = ix2 (⟨(x 0).val, (x 0).isLt⟩ : Fin 512) (⟨(x 1).val, (x 1).isLt⟩ : Fin 1024) := by
    refine funext fun a => Fin.ext ?_
    match a with
    | ⟨0, _⟩ => rfl
    | ⟨1, _⟩ => rfl
  refine (congrArg (outsAt0 m c t) hx).trans ((block14 t _ _).trans ?_)
  exact congrArg (result14 m c) ((emb14 t _ _).symm.trans (congrArg ((cfg0.win 14).blk t).view.emb hx.symm))

theorem cover14 (y : S16384x1024.Idx) : ∃ t : Fin cfg0.N, (cfg0.win 14).flush t = true ∧ y ∈ ((cfg0.win 14).blk t).view.set := by
  have h0 : (y 0).val < 16384 := (y 0).isLt
  have h1 : (y 1).val < 1024 := (y 1).isLt
  have ht : ((y 0).val / 512) < cfg0.N := lt_of_lt_of_eq (by omega) N_0.symm
  have e := emb14 ⟨((y 0).val / 512), ht⟩ (⟨(y 0).val % 512, by omega⟩ : Fin 512) (⟨(y 1).val, h1⟩ : Fin 1024)
  refine ⟨⟨((y 0).val / 512), ht⟩, flush0_14 _, ?_⟩
  have hy : ((cfg0.win 14).blk ⟨((y 0).val / 512), ht⟩).view.emb (ix2 (⟨(y 0).val % 512, by omega⟩ : Fin 512) (⟨(y 1).val, h1⟩ : Fin 1024) : S512x1024.Idx) = y := by
    refine e.trans (funext fun a => Fin.ext ?_)
    match a with
    | ⟨0, _⟩ => show ((y 0).val / 512) * 512 + (y 0).val % 512 = (y 0).val; omega
    | ⟨1, _⟩ => rfl
  have hm := View.emb_mem_set ((cfg0.win 14).blk ⟨((y 0).val / 512), ht⟩).view (ix2 (⟨(y 0).val % 512, by omega⟩ : Fin 512) (⟨(y 1).val, h1⟩ : Fin 1024) : S512x1024.Idx)
  rw [hy] at hm
  exact hm

theorem final14 : (dats m 0 c).arrAt 14 cfg0.N = result14 m c :=
  (dats m 0 c).arrAt_eq_of_cover 14 (result14 m c) (fun t _ => flushed14 t) cover14

/-- The run: the result array at its value, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12) = result14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨((h.1 c).1 14).trans final14, h.2 c⟩)
    (θ_run_and (run_main m ρ) (unchanged m ρ))

end Cert.MergeIdeal.Merge

end
-- ==== Proof.MergeRef.lean ====
/-
  The merge's reference's result at an element.
-/
module

public import proofs.«01_k».proof.Proof.MergeSpec
public import proofs.«01_k».proof.Proof.Gen.MergeReferenceIdeal.Read
public import Idealize.ShloMosaic.Lib.Pointwise

@[expose] public section

noncomputable section

namespace Cert.MergeReferenceIdeal.Merge

open Cert.MergeReferenceIdeal Cert.MergeReferenceIdeal.Gen Cert.MergeReferenceIdeal.Read Idealize.ShloMosaic Cert.Merge

variable (x0 : Vec Ideal S4x4096x1024 .f32) (x1 : Vec Ideal S4x4096x16x64 .f32) (x2 : Vec Ideal S4x4096x512 .f32)
  (x3 : Vec Ideal S4x4096x2048 .f32) (x4 : Vec Ideal S4x1x6144 .f32) (x5 : Vec Ideal S1024x1024 .f32) (x6 : Vec Ideal S31x512 .f32)
  (x7 x8 x9 : Vec Ideal S512 .f32) (x10 : Vec Ideal S512x1024 .f32) (x11 : Vec Ideal S1024x1024 .f32)

/-- Token `p` of batch `b`. -/
abbrev at' (b : Fin 4) (p : Fin 4096) : Fin 16384 := ⟨b.val * 4096 + p.val, by omega⟩

theorem batch_at (b : Fin 4) (p : Fin 4096) : Cert.Moe.batch (at' b p) = b := Fin.ext (by show (b.val * 4096 + p.val) / 4096 = b.val; omega)
theorem place_at (b : Fin 4) (p : Fin 4096) : Cert.Moe.place (at' b p) = p := Fin.ext (by show (b.val * 4096 + p.val) % 4096 = p.val; omega)

theorem zero_word : (val_main_call0_v0 (F := Ideal)) = fun _ => (0 : EReal) := by
  refine funext fun i => ?_
  unfold val_main_call0_v0 val_main_c
  show (((0#32 : BitVec 32).toInt : ℝ) : EReal) = 0
  simp

/-- The padded rows. -/
theorem v8_apply (b : Fin 4) (q : Fin 4126) (d : Fin 512) :
    val_main_v8 (F := Ideal) x2 (ix3 b q d) = padded x2 b q.val d := by
  unfold val_main_v8 padded
  rw [zero_word]
  pointwise []

/-- A tap's term. -/
def term (b : Fin 4) (p : Fin 4096) (d : Fin 512) (j : ℕ) : EReal := padded x2 b (p.val + j) d * weight x6 j d

theorem weight_of (j : ℕ) (hj : j < 31) (d : Fin 512) : weight x6 j d = x6 (ix2 (⟨j, hj⟩ : Fin 31) d) := by
  unfold weight
  rw [dif_pos hj]

theorem tap0_apply (b : Fin 4) (p : Fin 4096) (d : Fin 512) :
    val_main_v14 (F := Ideal) x2 x6 (ix3 b p d) = term x2 x6 b p d 0 := by
  unfold term
  rw [Nat.add_comm p.val 0, ← v8_apply x2 b ⟨0 + p.val, by omega⟩ d, weight_of x6 0 (by omega) d]
  generalize h : val_main_v8 (F := Ideal) x2 = N
  pointwise [val_main_v14, val_main_v9, val_main_v13, val_main_v12, val_main_v11, val_main_v10, h]

theorem tap1_apply (b : Fin 4) (p : Fin 4096) (d : Fin 512) :
    val_main_v22 (F := Ideal) x2 x6 (ix3 b p d) = term x2 x6 b p d 1 := by
  unfold term
  rw [Nat.add_comm p.val 1, ← v8_apply x2 b ⟨1 + p.val, by omega⟩ d, weight_of x6 1 (by omega) d]
  generalize h : val_main_v8 (F := Ideal) x2 = N
  pointwise [val_main_v22, val_main_v17, val_main_v21, val_main_v20, val_main_v19, val_main_v18, h]

theorem tap2_apply (b : Fin 4) (p : Fin 4096) (d : Fin 512) :
    val_main_v29 (F := Ideal) x2 x6 (ix3 b p d) = term x2 x6 b p d 2 := by
  unfold term
  rw [Nat.add_comm p.val 2, ← v8_apply x2 b ⟨2 + p.val, by omega⟩ d, weight_of x6 2 (by omega) d]
  generalize h : val_main_v8 (F := Ideal) x2 = N
  pointwise [val_main_v29, val_main_v24, val_main_v28, val_main_v27, val_main_v26, val_main_v25, h]

theorem tap3_apply (b : Fin 4) (p : Fin 4096) (d : Fin 512) :
    val_main_v36 (F := Ideal) x2 x6 (ix3 b p d) = term x2 x6 b p d 3 := by
  unfold term
  rw [Nat.add_comm p.val 3, ← v8_apply x2 b ⟨3 + p.val, by omega⟩ d, weight_of x6 3 (by omega) d]
  generalize h : val_main_v8 (F := Ideal) x2 = N
  pointwise [val_main_v36, val_main_v31, val_main_v35, val_main_v34, val_main_v33, val_main_v32, h]

theorem tap4_apply (b : Fin 4) (p : Fin 4096) (d : Fin 512) :
    val_main_v43 (F := Ideal) x2 x6 (ix3 b p d) = term x2 x6 b p d 4 := by
  unfold term
  rw [Nat.add_comm p.val 4, ← v8_apply x2 b ⟨4 + p.val, by omega⟩ d, weight_of x6 4 (by omega) d]
  generalize h : val_main_v8 (F := Ideal) x2 = N
  pointwise [val_main_v43, val_main_v38, val_main_v42, val_main_v41, val_main_v40, val_main_v39, h]

theorem tap5_apply (b : Fin 4) (p : Fin 4096) (d : Fin 512) :
    val_main_v50 (F := Ideal) x2 x6 (ix3 b p d) = term x2 x6 b p d 5 := by
  unfold term
  rw [Nat.add_comm p.val 5, ← v8_apply x2 b ⟨5 + p.val, by omega⟩ d, weight_of x6 5 (by omega) d]
  generalize h : val_main_v8 (F := Ideal) x2 = N
  pointwise [val_main_v50, val_main_v45, val_main_v49, val_main_v48, val_main_v47, val_main_v46, h]

theorem tap6_apply (b : Fin 4) (p : Fin 4096) (d : Fin 512) :
    val_main_v57 (F := Ideal) x2 x6 (ix3 b p d) = term x2 x6 b p d 6 := by
  unfold term
  rw [Nat.add_comm p.val 6, ← v8_apply x2 b ⟨6 + p.val, by omega⟩ d, weight_of x6 6 (by omega) d]
  generalize h : val_main_v8 (F := Ideal) x2 = N
  pointwise [val_main_v57, val_main_v52, val_main_v56, val_main_v55, val_main_v54, val_main_v53, h]

theorem tap7_apply (b : Fin 4) (p : Fin 4096) (d : Fin 512) :
    val_main_v64 (F := Ideal) x2 x6 (ix3 b p d) = term x2 x6 b p d 7 := by
  unfold term
  rw [Nat.add_comm p.val 7, ← v8_apply x2 b ⟨7 + p.val, by omega⟩ d, weight_of x6 7 (by omega) d]
  generalize h : val_main_v8 (F := Ideal) x2 = N
  pointwise [val_main_v64, val_main_v59, val_main_v63, val_main_v62, val_main_v61, val_main_v60, h]

theorem tap8_apply (b : Fin 4) (p : Fin 4096) (d : Fin 512) :
    val_main_v71 (F := Ideal) x2 x6 (ix3 b p d) = term x2 x6 b p d 8 := by
  unfold term
  rw [Nat.add_comm p.val 8, ← v8_apply x2 b ⟨8 + p.val, by omega⟩ d, weight_of x6 8 (by omega) d]
  generalize h : val_main_v8 (F := Ideal) x2 = N
  pointwise [val_main_v71, val_main_v66, val_main_v70, val_main_v69, val_main_v68, val_main_v67, h]

theorem tap9_apply (b : Fin 4) (p : Fin 4096) (d : Fin 512) :
    val_main_v78 (F := Ideal) x2 x6 (ix3 b p d) = term x2 x6 b p d 9 := by
  unfold term
  rw [Nat.add_comm p.val 9, ← v8_apply x2 b ⟨9 + p.val, by omega⟩ d, weight_of x6 9 (by omega) d]
  generalize h : val_main_v8 (F := Ideal) x2 = N
  pointwise [val_main_v78, val_main_v73, val_main_v77, val_main_v76, val_main_v75, val_main_v74, h]

theorem tap10_apply (b : Fin 4) (p : Fin 4096) (d : Fin 512) :
    val_main_v85 (F := Ideal) x2 x6 (ix3 b p d) = term x2 x6 b p d 10 := by
  unfold term
  rw [Nat.add_comm p.val 10, ← v8_apply x2 b ⟨10 + p.val, by omega⟩ d, weight_of x6 10 (by omega) d]
  generalize h : val_main_v8 (F := Ideal) x2 = N
  pointwise [val_main_v85, val_main_v80, val_main_v84, val_main_v83, val_main_v82, val_main_v81, h]

theorem tap11_apply (b : Fin 4) (p : Fin 4096) (d : Fin 512) :
    val_main_v92 (F := Ideal) x2 x6 (ix3 b p d) = term x2 x6 b p d 11 := by
  unfold term
  rw [Nat.add_comm p.val 11, ← v8_apply x2 b ⟨11 + p.val, by omega⟩ d, weight_of x6 11 (by omega) d]
  generalize h : val_main_v8 (F := Ideal) x2 = N
  pointwise [val_main_v92, val_main_v87, val_main_v91, val_main_v90, val_main_v89, val_main_v88, h]

theorem tap12_apply (b : Fin 4) (p : Fin 4096) (d : Fin 512) :
    val_main_v99 (F := Ideal) x2 x6 (ix3 b p d) = term x2 x6 b p d 12 := by
  unfold term
  rw [Nat.add_comm p.val 12, ← v8_apply x2 b ⟨12 + p.val, by omega⟩ d, weight_of x6 12 (by omega) d]
  generalize h : val_main_v8 (F := Ideal) x2 = N
  pointwise [val_main_v99, val_main_v94, val_main_v98, val_main_v97, val_main_v96, val_main_v95, h]

theorem tap13_apply (b : Fin 4) (p : Fin 4096) (d : Fin 512) :
    val_main_v106 (F := Ideal) x2 x6 (ix3 b p d) = term x2 x6 b p d 13 := by
  unfold term
  rw [Nat.add_comm p.val 13, ← v8_apply x2 b ⟨13 + p.val, by omega⟩ d, weight_of x6 13 (by omega) d]
  generalize h : val_main_v8 (F := Ideal) x2 = N
  pointwise [val_main_v106, val_main_v101, val_main_v105, val_main_v104, val_main_v103, val_main_v102, h]

theorem tap14_apply (b : Fin 4) (p : Fin 4096) (d : Fin 512) :
    val_main_v113 (F := Ideal) x2 x6 (ix3 b p d) = term x2 x6 b p d 14 := by
  unfold term
  rw [Nat.add_comm p.val 14, ← v8_apply x2 b ⟨14 + p.val, by omega⟩ d, weight_of x6 14 (by omega) d]
  generalize h : val_main_v8 (F := Ideal) x2 = N
  pointwise [val_main_v113, val_main_v108, val_main_v112, val_main_v111, val_main_v110, val_main_v109, h]

theorem tap15_apply (b : Fin 4) (p : Fin 4096) (d : Fin 512) :
    val_main_v120 (F := Ideal) x2 x6 (ix3 b p d) = term x2 x6 b p d 15 := by
  unfold term
  rw [Nat.add_comm p.val 15, ← v8_apply x2 b ⟨15 + p.val, by omega⟩ d, weight_of x6 15 (by omega) d]
  generalize h : val_main_v8 (F := Ideal) x2 = N
  pointwise [val_main_v120, val_main_v115, val_main_v119, val_main_v118, val_main_v117, val_main_v116, h]

theorem tap16_apply (b : Fin 4) (p : Fin 4096) (d : Fin 512) :
    val_main_v127 (F := Ideal) x2 x6 (ix3 b p d) = term x2 x6 b p d 16 := by
  unfold term
  rw [Nat.add_comm p.val 16, ← v8_apply x2 b ⟨16 + p.val, by omega⟩ d, weight_of x6 16 (by omega) d]
  generalize h : val_main_v8 (F := Ideal) x2 = N
  pointwise [val_main_v127, val_main_v122, val_main_v126, val_main_v125, val_main_v124, val_main_v123, h]

theorem tap17_apply (b : Fin 4) (p : Fin 4096) (d : Fin 512) :
    val_main_v134 (F := Ideal) x2 x6 (ix3 b p d) = term x2 x6 b p d 17 := by
  unfold term
  rw [Nat.add_comm p.val 17, ← v8_apply x2 b ⟨17 + p.val, by omega⟩ d, weight_of x6 17 (by omega) d]
  generalize h : val_main_v8 (F := Ideal) x2 = N
  pointwise [val_main_v134, val_main_v129, val_main_v133, val_main_v132, val_main_v131, val_main_v130, h]

theorem tap18_apply (b : Fin 4) (p : Fin 4096) (d : Fin 512) :
    val_main_v141 (F := Ideal) x2 x6 (ix3 b p d) = term x2 x6 b p d 18 := by
  unfold term
  rw [Nat.add_comm p.val 18, ← v8_apply x2 b ⟨18 + p.val, by omega⟩ d, weight_of x6 18 (by omega) d]
  generalize h : val_main_v8 (F := Ideal) x2 = N
  pointwise [val_main_v141, val_main_v136, val_main_v140, val_main_v139, val_main_v138, val_main_v137, h]

theorem tap19_apply (b : Fin 4) (p : Fin 4096) (d : Fin 512) :
    val_main_v148 (F := Ideal) x2 x6 (ix3 b p d) = term x2 x6 b p d 19 := by
  unfold term
  rw [Nat.add_comm p.val 19, ← v8_apply x2 b ⟨19 + p.val, by omega⟩ d, weight_of x6 19 (by omega) d]
  generalize h : val_main_v8 (F := Ideal) x2 = N
  pointwise [val_main_v148, val_main_v143, val_main_v147, val_main_v146, val_main_v145, val_main_v144, h]

theorem tap20_apply (b : Fin 4) (p : Fin 4096) (d : Fin 512) :
    val_main_v155 (F := Ideal) x2 x6 (ix3 b p d) = term x2 x6 b p d 20 := by
  unfold term
  rw [Nat.add_comm p.val 20, ← v8_apply x2 b ⟨20 + p.val, by omega⟩ d, weight_of x6 20 (by omega) d]
  generalize h : val_main_v8 (F := Ideal) x2 = N
  pointwise [val_main_v155, val_main_v150, val_main_v154, val_main_v153, val_main_v152, val_main_v151, h]

theorem tap21_apply (b : Fin 4) (p : Fin 4096) (d : Fin 512) :
    val_main_v162 (F := Ideal) x2 x6 (ix3 b p d) = term x2 x6 b p d 21 := by
  unfold term
  rw [Nat.add_comm p.val 21, ← v8_apply x2 b ⟨21 + p.val, by omega⟩ d, weight_of x6 21 (by omega) d]
  generalize h : val_main_v8 (F := Ideal) x2 = N
  pointwise [val_main_v162, val_main_v157, val_main_v161, val_main_v160, val_main_v159, val_main_v158, h]

theorem tap22_apply (b : Fin 4) (p : Fin 4096) (d : Fin 512) :
    val_main_v169 (F := Ideal) x2 x6 (ix3 b p d) = term x2 x6 b p d 22 := by
  unfold term
  rw [Nat.add_comm p.val 22, ← v8_apply x2 b ⟨22 + p.val, by omega⟩ d, weight_of x6 22 (by omega) d]
  generalize h : val_main_v8 (F := Ideal) x2 = N
  pointwise [val_main_v169, val_main_v164, val_main_v168, val_main_v167, val_main_v166, val_main_v165, h]

theorem tap23_apply (b : Fin 4) (p : Fin 4096) (d : Fin 512) :
    val_main_v176 (F := Ideal) x2 x6 (ix3 b p d) = term x2 x6 b p d 23 := by
  unfold term
  rw [Nat.add_comm p.val 23, ← v8_apply x2 b ⟨23 + p.val, by omega⟩ d, weight_of x6 23 (by omega) d]
  generalize h : val_main_v8 (F := Ideal) x2 = N
  pointwise [val_main_v176, val_main_v171, val_main_v175, val_main_v174, val_main_v173, val_main_v172, h]

theorem tap24_apply (b : Fin 4) (p : Fin 4096) (d : Fin 512) :
    val_main_v183 (F := Ideal) x2 x6 (ix3 b p d) = term x2 x6 b p d 24 := by
  unfold term
  rw [Nat.add_comm p.val 24, ← v8_apply x2 b ⟨24 + p.val, by omega⟩ d, weight_of x6 24 (by omega) d]
  generalize h : val_main_v8 (F := Ideal) x2 = N
  pointwise [val_main_v183, val_main_v178, val_main_v182, val_main_v181, val_main_v180, val_main_v179, h]

theorem tap25_apply (b : Fin 4) (p : Fin 4096) (d : Fin 512) :
    val_main_v190 (F := Ideal) x2 x6 (ix3 b p d) = term x2 x6 b p d 25 := by
  unfold term
  rw [Nat.add_comm p.val 25, ← v8_apply x2 b ⟨25 + p.val, by omega⟩ d, weight_of x6 25 (by omega) d]
  generalize h : val_main_v8 (F := Ideal) x2 = N
  pointwise [val_main_v190, val_main_v185, val_main_v189, val_main_v188, val_main_v187, val_main_v186, h]

theorem tap26_apply (b : Fin 4) (p : Fin 4096) (d : Fin 512) :
    val_main_v197 (F := Ideal) x2 x6 (ix3 b p d) = term x2 x6 b p d 26 := by
  unfold term
  rw [Nat.add_comm p.val 26, ← v8_apply x2 b ⟨26 + p.val, by omega⟩ d, weight_of x6 26 (by omega) d]
  generalize h : val_main_v8 (F := Ideal) x2 = N
  pointwise [val_main_v197, val_main_v192, val_main_v196, val_main_v195, val_main_v194, val_main_v193, h]

theorem tap27_apply (b : Fin 4) (p : Fin 4096) (d : Fin 512) :
    val_main_v204 (F := Ideal) x2 x6 (ix3 b p d) = term x2 x6 b p d 27 := by
  unfold term
  rw [Nat.add_comm p.val 27, ← v8_apply x2 b ⟨27 + p.val, by omega⟩ d, weight_of x6 27 (by omega) d]
  generalize h : val_main_v8 (F := Ideal) x2 = N
  pointwise [val_main_v204, val_main_v199, val_main_v203, val_main_v202, val_main_v201, val_main_v200, h]

theorem tap28_apply (b : Fin 4) (p : Fin 4096) (d : Fin 512) :
    val_main_v211 (F := Ideal) x2 x6 (ix3 b p d) = term x2 x6 b p d 28 := by
  unfold term
  rw [Nat.add_comm p.val 28, ← v8_apply x2 b ⟨28 + p.val, by omega⟩ d, weight_of x6 28 (by omega) d]
  generalize h : val_main_v8 (F := Ideal) x2 = N
  pointwise [val_main_v211, val_main_v206, val_main_v210, val_main_v209, val_main_v208, val_main_v207, h]

theorem tap29_apply (b : Fin 4) (p : Fin 4096) (d : Fin 512) :
    val_main_v218 (F := Ideal) x2 x6 (ix3 b p d) = term x2 x6 b p d 29 := by
  unfold term
  rw [Nat.add_comm p.val 29, ← v8_apply x2 b ⟨29 + p.val, by omega⟩ d, weight_of x6 29 (by omega) d]
  generalize h : val_main_v8 (F := Ideal) x2 = N
  pointwise [val_main_v218, val_main_v213, val_main_v217, val_main_v216, val_main_v215, val_main_v214, h]

theorem tap30_apply (b : Fin 4) (p : Fin 4096) (d : Fin 512) :
    val_main_v225 (F := Ideal) x2 x6 (ix3 b p d) = term x2 x6 b p d 30 := by
  unfold term
  rw [Nat.add_comm p.val 30, ← v8_apply x2 b ⟨30 + p.val, by omega⟩ d, weight_of x6 30 (by omega) d]
  generalize h : val_main_v8 (F := Ideal) x2 = N
  pointwise [val_main_v225, val_main_v220, val_main_v224, val_main_v223, val_main_v222, val_main_v221, h]

theorem start_apply (b : Fin 4) (p : Fin 4096) (d : Fin 512) : val_main_v15 (F := Ideal) (ix3 b p d) = (0 : EReal) := by
  pointwise [val_main_v15, val_main_cst]

theorem sum0_apply (b : Fin 4) (p : Fin 4096) (d : Fin 512) :
    val_main_v16 (F := Ideal) x2 x6 (ix3 b p d) = acc 0 (term x2 x6 b p d) 1 :=
  congrArg₂ (fun x y : EReal => x + y) (start_apply b p d) (tap0_apply x2 x6 b p d)
theorem sum1_apply (b : Fin 4) (p : Fin 4096) (d : Fin 512) :
    val_main_v23 (F := Ideal) x2 x6 (ix3 b p d) = acc 0 (term x2 x6 b p d) 2 :=
  congrArg₂ (fun x y : EReal => x + y) (sum0_apply x2 x6 b p d) (tap1_apply x2 x6 b p d)
theorem sum2_apply (b : Fin 4) (p : Fin 4096) (d : Fin 512) :
    val_main_v30 (F := Ideal) x2 x6 (ix3 b p d) = acc 0 (term x2 x6 b p d) 3 :=
  congrArg₂ (fun x y : EReal => x + y) (sum1_apply x2 x6 b p d) (tap2_apply x2 x6 b p d)
theorem sum3_apply (b : Fin 4) (p : Fin 4096) (d : Fin 512) :
    val_main_v37 (F := Ideal) x2 x6 (ix3 b p d) = acc 0 (term x2 x6 b p d) 4 :=
  congrArg₂ (fun x y : EReal => x + y) (sum2_apply x2 x6 b p d) (tap3_apply x2 x6 b p d)
theorem sum4_apply (b : Fin 4) (p : Fin 4096) (d : Fin 512) :
    val_main_v44 (F := Ideal) x2 x6 (ix3 b p d) = acc 0 (term x2 x6 b p d) 5 :=
  congrArg₂ (fun x y : EReal => x + y) (sum3_apply x2 x6 b p d) (tap4_apply x2 x6 b p d)
theorem sum5_apply (b : Fin 4) (p : Fin 4096) (d : Fin 512) :
    val_main_v51 (F := Ideal) x2 x6 (ix3 b p d) = acc 0 (term x2 x6 b p d) 6 :=
  congrArg₂ (fun x y : EReal => x + y) (sum4_apply x2 x6 b p d) (tap5_apply x2 x6 b p d)
theorem sum6_apply (b : Fin 4) (p : Fin 4096) (d : Fin 512) :
    val_main_v58 (F := Ideal) x2 x6 (ix3 b p d) = acc 0 (term x2 x6 b p d) 7 :=
  congrArg₂ (fun x y : EReal => x + y) (sum5_apply x2 x6 b p d) (tap6_apply x2 x6 b p d)
theorem sum7_apply (b : Fin 4) (p : Fin 4096) (d : Fin 512) :
    val_main_v65 (F := Ideal) x2 x6 (ix3 b p d) = acc 0 (term x2 x6 b p d) 8 :=
  congrArg₂ (fun x y : EReal => x + y) (sum6_apply x2 x6 b p d) (tap7_apply x2 x6 b p d)
theorem sum8_apply (b : Fin 4) (p : Fin 4096) (d : Fin 512) :
    val_main_v72 (F := Ideal) x2 x6 (ix3 b p d) = acc 0 (term x2 x6 b p d) 9 :=
  congrArg₂ (fun x y : EReal => x + y) (sum7_apply x2 x6 b p d) (tap8_apply x2 x6 b p d)
theorem sum9_apply (b : Fin 4) (p : Fin 4096) (d : Fin 512) :
    val_main_v79 (F := Ideal) x2 x6 (ix3 b p d) = acc 0 (term x2 x6 b p d) 10 :=
  congrArg₂ (fun x y : EReal => x + y) (sum8_apply x2 x6 b p d) (tap9_apply x2 x6 b p d)
theorem sum10_apply (b : Fin 4) (p : Fin 4096) (d : Fin 512) :
    val_main_v86 (F := Ideal) x2 x6 (ix3 b p d) = acc 0 (term x2 x6 b p d) 11 :=
  congrArg₂ (fun x y : EReal => x + y) (sum9_apply x2 x6 b p d) (tap10_apply x2 x6 b p d)
theorem sum11_apply (b : Fin 4) (p : Fin 4096) (d : Fin 512) :
    val_main_v93 (F := Ideal) x2 x6 (ix3 b p d) = acc 0 (term x2 x6 b p d) 12 :=
  congrArg₂ (fun x y : EReal => x + y) (sum10_apply x2 x6 b p d) (tap11_apply x2 x6 b p d)
theorem sum12_apply (b : Fin 4) (p : Fin 4096) (d : Fin 512) :
    val_main_v100 (F := Ideal) x2 x6 (ix3 b p d) = acc 0 (term x2 x6 b p d) 13 :=
  congrArg₂ (fun x y : EReal => x + y) (sum11_apply x2 x6 b p d) (tap12_apply x2 x6 b p d)
theorem sum13_apply (b : Fin 4) (p : Fin 4096) (d : Fin 512) :
    val_main_v107 (F := Ideal) x2 x6 (ix3 b p d) = acc 0 (term x2 x6 b p d) 14 :=
  congrArg₂ (fun x y : EReal => x + y) (sum12_apply x2 x6 b p d) (tap13_apply x2 x6 b p d)
theorem sum14_apply (b : Fin 4) (p : Fin 4096) (d : Fin 512) :
    val_main_v114 (F := Ideal) x2 x6 (ix3 b p d) = acc 0 (term x2 x6 b p d) 15 :=
  congrArg₂ (fun x y : EReal => x + y) (sum13_apply x2 x6 b p d) (tap14_apply x2 x6 b p d)
theorem sum15_apply (b : Fin 4) (p : Fin 4096) (d : Fin 512) :
    val_main_v121 (F := Ideal) x2 x6 (ix3 b p d) = acc 0 (term x2 x6 b p d) 16 :=
  congrArg₂ (fun x y : EReal => x + y) (sum14_apply x2 x6 b p d) (tap15_apply x2 x6 b p d)
theorem sum16_apply (b : Fin 4) (p : Fin 4096) (d : Fin 512) :
    val_main_v128 (F := Ideal) x2 x6 (ix3 b p d) = acc 0 (term x2 x6 b p d) 17 :=
  congrArg₂ (fun x y : EReal => x + y) (sum15_apply x2 x6 b p d) (tap16_apply x2 x6 b p d)
theorem sum17_apply (b : Fin 4) (p : Fin 4096) (d : Fin 512) :
    val_main_v135 (F := Ideal) x2 x6 (ix3 b p d) = acc 0 (term x2 x6 b p d) 18 :=
  congrArg₂ (fun x y : EReal => x + y) (sum16_apply x2 x6 b p d) (tap17_apply x2 x6 b p d)
theorem sum18_apply (b : Fin 4) (p : Fin 4096) (d : Fin 512) :
    val_main_v142 (F := Ideal) x2 x6 (ix3 b p d) = acc 0 (term x2 x6 b p d) 19 :=
  congrArg₂ (fun x y : EReal => x + y) (sum17_apply x2 x6 b p d) (tap18_apply x2 x6 b p d)
theorem sum19_apply (b : Fin 4) (p : Fin 4096) (d : Fin 512) :
    val_main_v149 (F := Ideal) x2 x6 (ix3 b p d) = acc 0 (term x2 x6 b p d) 20 :=
  congrArg₂ (fun x y : EReal => x + y) (sum18_apply x2 x6 b p d) (tap19_apply x2 x6 b p d)
theorem sum20_apply (b : Fin 4) (p : Fin 4096) (d : Fin 512) :
    val_main_v156 (F := Ideal) x2 x6 (ix3 b p d) = acc 0 (term x2 x6 b p d) 21 :=
  congrArg₂ (fun x y : EReal => x + y) (sum19_apply x2 x6 b p d) (tap20_apply x2 x6 b p d)
theorem sum21_apply (b : Fin 4) (p : Fin 4096) (d : Fin 512) :
    val_main_v163 (F := Ideal) x2 x6 (ix3 b p d) = acc 0 (term x2 x6 b p d) 22 :=
  congrArg₂ (fun x y : EReal => x + y) (sum20_apply x2 x6 b p d) (tap21_apply x2 x6 b p d)
theorem sum22_apply (b : Fin 4) (p : Fin 4096) (d : Fin 512) :
    val_main_v170 (F := Ideal) x2 x6 (ix3 b p d) = acc 0 (term x2 x6 b p d) 23 :=
  congrArg₂ (fun x y : EReal => x + y) (sum21_apply x2 x6 b p d) (tap22_apply x2 x6 b p d)
theorem sum23_apply (b : Fin 4) (p : Fin 4096) (d : Fin 512) :
    val_main_v177 (F := Ideal) x2 x6 (ix3 b p d) = acc 0 (term x2 x6 b p d) 24 :=
  congrArg₂ (fun x y : EReal => x + y) (sum22_apply x2 x6 b p d) (tap23_apply x2 x6 b p d)
theorem sum24_apply (b : Fin 4) (p : Fin 4096) (d : Fin 512) :
    val_main_v184 (F := Ideal) x2 x6 (ix3 b p d) = acc 0 (term x2 x6 b p d) 25 :=
  congrArg₂ (fun x y : EReal => x + y) (sum23_apply x2 x6 b p d) (tap24_apply x2 x6 b p d)
theorem sum25_apply (b : Fin 4) (p : Fin 4096) (d : Fin 512) :
    val_main_v191 (F := Ideal) x2 x6 (ix3 b p d) = acc 0 (term x2 x6 b p d) 26 :=
  congrArg₂ (fun x y : EReal => x + y) (sum24_apply x2 x6 b p d) (tap25_apply x2 x6 b p d)
theorem sum26_apply (b : Fin 4) (p : Fin 4096) (d : Fin 512) :
    val_main_v198 (F := Ideal) x2 x6 (ix3 b p d) = acc 0 (term x2 x6 b p d) 27 :=
  congrArg₂ (fun x y : EReal => x + y) (sum25_apply x2 x6 b p d) (tap26_apply x2 x6 b p d)
theorem sum27_apply (b : Fin 4) (p : Fin 4096) (d : Fin 512) :
    val_main_v205 (F := Ideal) x2 x6 (ix3 b p d) = acc 0 (term x2 x6 b p d) 28 :=
  congrArg₂ (fun x y : EReal => x + y) (sum26_apply x2 x6 b p d) (tap27_apply x2 x6 b p d)
theorem sum28_apply (b : Fin 4) (p : Fin 4096) (d : Fin 512) :
    val_main_v212 (F := Ideal) x2 x6 (ix3 b p d) = acc 0 (term x2 x6 b p d) 29 :=
  congrArg₂ (fun x y : EReal => x + y) (sum27_apply x2 x6 b p d) (tap28_apply x2 x6 b p d)
theorem sum29_apply (b : Fin 4) (p : Fin 4096) (d : Fin 512) :
    val_main_v219 (F := Ideal) x2 x6 (ix3 b p d) = acc 0 (term x2 x6 b p d) 30 :=
  congrArg₂ (fun x y : EReal => x + y) (sum28_apply x2 x6 b p d) (tap29_apply x2 x6 b p d)
theorem sum30_apply (b : Fin 4) (p : Fin 4096) (d : Fin 512) :
    val_main_v226 (F := Ideal) x2 x6 (ix3 b p d) = acc 0 (term x2 x6 b p d) 31 :=
  congrArg₂ (fun x y : EReal => x + y) (sum29_apply x2 x6 b p d) (tap30_apply x2 x6 b p d)

theorem v229_apply (b : Fin 4) (p : Fin 4096) (d : Fin 512) :
    val_main_v229 (F := Ideal) x2 x6 x7 (ix3 b p d) = conv x2 x6 x7 (at' b p) d := by
  unfold conv
  rw [batch_at, place_at, acc_eq]
  have e := sum30_apply x2 x6 b p d
  unfold term at e
  rw [← e]
  generalize h : val_main_v226 (F := Ideal) x2 x6 = N
  pointwise [val_main_v229, val_main_v228, val_main_v227, h]

theorem v235_apply (b : Fin 4) (p : Fin 4096) (d : Fin 512) :
    val_main_v235 (F := Ideal) x2 x6 x7 (ix3 b p d) = dev (fun i => val_main_v229 (F := Ideal) x2 x6 x7 (ix3 b p i)) d := by
  generalize h : val_main_v229 (F := Ideal) x2 x6 x7 = N
  pointwise [val_main_v235, val_main_v234, val_main_v233, val_main_v232, val_main_v231, val_main_v230, val_main_cst_0, val_main_cst_1, h]
  rfl

theorem v242_eq : val_main_v242 (F := Ideal) x2 x6 x7 = val_main_v235 (F := Ideal) x2 x6 x7 := rfl

theorem v247_apply (b : Fin 4) (p : Fin 4096) (d : Fin 512) :
    val_main_v247 (F := Ideal) x2 x6 x7 (ix3 b p d)
      = dev (conv x2 x6 x7 (at' b p)) d * scale (conv x2 x6 x7 (at' b p)) := by
  have h1 : conv x2 x6 x7 (at' b p) = fun i => val_main_v229 (F := Ideal) x2 x6 x7 (ix3 b p i) := funext fun i => (v229_apply x2 x6 x7 b p i).symm
  unfold scale
  rw [h1]
  simp only [← v235_apply]
  unfold val_main_v247
  rw [v242_eq]
  generalize h : val_main_v235 (F := Ideal) x2 x6 x7 = N
  pointwise [val_main_v246, val_main_v245, val_main_v244, val_main_v243, val_main_v240, val_main_v239, val_main_v238, val_main_v237, val_main_v236, val_main_cst_2, val_main_cst_3, val_main_cst_4, h]
  rfl

theorem v253_apply (b : Fin 4) (p : Fin 4096) (d : Fin 512) :
    val_main_v253 (F := Ideal) x2 x6 x7 x8 x9 (ix3 b p d)
      = lnorm (conv x2 x6 x7 (at' b p)) (fun e => x8 (ix1 e)) (fun e => x9 (ix1 e)) d := by
  unfold lnorm
  rw [← v247_apply]
  generalize h : val_main_v247 (F := Ideal) x2 x6 x7 = N
  pointwise [val_main_v253, val_main_v252, val_main_v251, val_main_v250, val_main_v249, val_main_v248, h]

theorem one_bits : Ideal.ofBits .f32 1065353216#32 = (1 : EReal) := by
  simp [Ideal.ofBits, Ideal.ieee, -EReal.coe_mul]; norm_num

theorem v254_apply (b : Fin 4) (p : Fin 4096) (d : Fin 512) :
    val_main_v254 (F := Ideal) x2 x6 x7 x8 x9 (ix3 b p d)
      = act (conv x2 x6 x7 (at' b p)) (fun e => x8 (ix1 e)) (fun e => x9 (ix1 e)) d := by
  unfold act
  rw [← v253_apply]
  generalize h : val_main_v253 (F := Ideal) x2 x6 x7 x8 x9 = N
  pointwise [val_main_v254, val_main_call1_v5, val_main_call1_v4, val_main_call1_v3, val_main_call1_v2, val_main_call1_v1, val_main_call1_v0, val_main_call1_cst, val_main_call1_cst_0, h]
  first
    | rfl
    | (rw [one_bits]; rfl)

theorem v7_apply (b : Fin 4) (p : Fin 4096) (j : Fin 1024) :
    val_main_v7 (F := Ideal) x1 x5 (ix3 b p j) = ∑ i, heads x1 (at' b p) i * x5 (ix2 i j) := by
  unfold heads
  rw [batch_at, place_at]
  pointwise [val_main_v7, val_main_v6]

theorem v255_apply (b : Fin 4) (p : Fin 4096) (j : Fin 1024) :
    val_main_v255 (F := Ideal) x2 x6 x7 x8 x9 x10 (ix3 b p j)
      = ∑ e, act (conv x2 x6 x7 (at' b p)) (fun e => x8 (ix1 e)) (fun e => x9 (ix1 e)) e * x10 (ix2 e j) := by
  simp only [← v254_apply]
  generalize h : val_main_v254 (F := Ideal) x2 x6 x7 x8 x9 = N
  pointwise [val_main_v255, h]

theorem v260_apply (b : Fin 4) (p : Fin 4096) (j : Fin 1024) :
    val_main_v260 (F := Ideal) x1 x2 x3 x5 x6 x7 x8 x9 x10 (ix3 b p j)
      = merged (fun j => x3 (ix3 b p (⟨0 + j.val, by omega⟩ : Fin 2048))) (fun j => x3 (ix3 b p (⟨1024 + j.val, by omega⟩ : Fin 2048)))
        (heads x1 (at' b p)) (fun i j => x5 (ix2 i j)) (conv x2 x6 x7 (at' b p)) (fun e => x8 (ix1 e)) (fun e => x9 (ix1 e)) (fun e j => x10 (ix2 e j)) j := by
  unfold merged
  rw [← v7_apply, ← v255_apply]
  generalize h : val_main_v7 (F := Ideal) x1 x5 = N
  generalize h' : val_main_v255 (F := Ideal) x2 x6 x7 x8 x9 x10 = M
  pointwise [val_main_v260, val_main_v259, val_main_v258, val_main_v257, val_main_v256, h, h']

theorem v264_apply (b : Fin 4) (p : Fin 4096) (d : Fin 1024) :
    val_main_v264 (F := Ideal) x0 x1 x2 x3 x4 x5 x6 x7 x8 x9 x10 x11 (ix3 b p d)
      = Cert.Merge.out x0 x1 x2 x3 x4 x5 x6 x7 x8 x9 x10 x11 (at' b p) d := by
  unfold Cert.Merge.out token Cert.Moe.row Cert.Moe.part
  rw [batch_at, place_at]
  simp only [← v260_apply]
  generalize h : val_main_v260 (F := Ideal) x1 x2 x3 x5 x6 x7 x8 x9 x10 = N
  pointwise [val_main_v264, val_main_v263, val_main_v262, val_main_v261, val_main_v2, h]
  first
    | done
    | rfl

theorem v265_apply (r : Fin 16384) (d : Fin 1024) :
    val_main_v265 (F := Ideal) x0 x1 x2 x3 x4 x5 x6 x7 x8 x9 x10 x11 (ix2 r d)
      = Cert.Merge.out x0 x1 x2 x3 x4 x5 x6 x7 x8 x9 x10 x11 r d := by
  have e := v264_apply x0 x1 x2 x3 x4 x5 x6 x7 x8 x9 x10 x11 (Cert.Moe.batch r) (Cert.Moe.place r) d
  have hr : at' (Cert.Moe.batch r) (Cert.Moe.place r) = r := Fin.ext (by show r.val / 4096 * 4096 + r.val % 4096 = r.val; omega)
  rw [hr] at e
  rw [← e]
  generalize h : val_main_v264 (F := Ideal) x0 x1 x2 x3 x4 x5 x6 x7 x8 x9 x10 x11 = N
  pointwise [val_main_v265, h]
  rfl

end Cert.MergeReferenceIdeal.Merge

end
-- ==== Proof.MergeClaim.lean ====
/-
  The merge's claims.
-/
module

public import proofs.«01_k».proof.Defs
public import proofs.«01_k».proof.Proof.MergeRun
public import proofs.«01_k».proof.Proof.MergeRef
public import proofs.«01_k».proof.Proof.Gen.MergeReferenceIdeal.Run
public import Idealize.ShloMosaic.Lib.Claim

@[expose] public section

noncomputable section

namespace Cert.MergeClaim

open Idealize.ShloMosaic Idealize.ShloMosaic.TcCoe Idealize.SL.Sem
open Cert.MergeIdeal.Merge (argH argO argA argG argM argWa argCw argCb argLg argLb argWc argWo result14)
open Cert.MergeReferenceIdeal.Read Cert.MergeReferenceIdeal.Merge

theorem merge_eq (m : (ℓ : Loc Cert.MergeIdeal.nD Cert.MergeIdeal.τ Cert.MergeIdeal.sig) → Buf (Elt Ideal) ℓ) (c : Dev Cert.MergeIdeal.nD) :
    val_main_v265 (F := Ideal) (argH m c) (argO m c) (argA m c) (argG m c) (argM m c) (argWa m c) (argCw m c) (argCb m c) (argLg m c) (argLb m c) (argWc m c) (argWo m c) = result14 m c :=
  funext fun y => (congrArg _ (show y = ix2 (y 0) (y 1) from funext fun a => match a with
    | ⟨0, _⟩ => rfl | ⟨1, _⟩ => rfl)).trans (v265_apply _ _ _ _ _ _ _ _ _ _ _ _ (y 0) (y 1))

theorem frame_reference : Cert.quiescent_MergeReferenceIdeal := fun m ρ _ =>
  (θ_run _ _ _).mono (fun r h => ⟨fun c => (h c).2, sem_eq_zero_of_no_sems (by decide) r.2⟩) (Cert.MergeReferenceIdeal.Value.run (F := Ideal) m ρ)

theorem algebraic : Cert.algebraic_MergeIdeal_MergeReferenceIdeal := by
  intro m g m' g' _ hagree
  refine ⟨fun c => result14 m c, Cert.MergeIdeal.Merge.run m g, ?_⟩
  refine (θ_run _ _ _).mono (fun r h c => ?_) (Cert.MergeReferenceIdeal.Value.run (F := Ideal) m' g')
  obtain ⟨h0, h5⟩ := h c
  obtain ⟨ha0, ha1, ha2, ha3, ha4, ha5, ha6, ha7, ha8, ha9, ha10, ha11⟩ := hagree c
  refine ⟨h0.trans ?_, h5⟩
  rw [val_main_v265_eq]
  simp only [StableHlo.launchContents_devRef, ha0, ha1, ha2, ha3, ha4, ha5, ha6, ha7, ha8, ha9, ha10, ha11]
  exact merge_eq m c

end Cert.MergeClaim

end
-- ==== Proof.ModSpec.lean ====
/-
  The modulation of one row: the product of its silu with a layer's weights, and the layer's bias.
-/
module

public import Idealize.ShloMosaic.Lib.Pointwise

@[expose] public section

noncomputable section

namespace Cert.Mod

open Idealize.ShloMosaic

/-- One entry of a row's modulation, from the row, a column of the layer's weights and the layer's bias there. -/
def entry (s w : Fin 1024 → EReal) (b : EReal) : EReal := (∑ d, s d * Ideal.logistic (s d) * w d) + b

end Cert.Mod

end
-- ==== Proof.ModBody.lean ====
/-
  What the modulation's kernel's body leaves at one grid point.
-/
module

public import proofs.«01_k».proof.Proof.ModSpec
public import proofs.«01_k».proof.Proof.Gen.ModulationIdeal.Frame
public import Idealize.ShloMosaic.Lib.Pointwise
public import Idealize.ShloMosaic.Lib.Pipeline.Value

@[expose] public section

noncomputable section

namespace Cert.ModulationIdeal.Mod

open Cert.ModulationIdeal Cert.ModulationIdeal.Gen Idealize.ShloMosaic

theorem pay_apply (x : Vec Ideal S8x1024 .f32) (w : Vec Ideal S1x1024x1536 .f32) (b : Vec Ideal S1x1x1536 .f32) (r : Fin 8) (j : Fin 1536) :
    (k0_pay1 x w b : FVec Ideal S1x8x1536 .f32) (ix3 (0 : Fin 1) r j)
      = Cert.Mod.entry (fun d => x (ix2 r d)) (fun d => w (ix3 (0 : Fin 1) d j)) (b (ix3 (0 : Fin 1) (0 : Fin 1) j)) := by
  unfold Cert.Mod.entry
  pointwise [k0_pay1]

theorem zero2 : (![0, 0] : Fin 2 → ℕ) = fun _ => 0 := by
  funext a; match a with
  | ⟨0, _⟩ => rfl
  | ⟨1, _⟩ => rfl
theorem zero3 : (![0, 0, 0] : Fin 3 → ℕ) = fun _ => 0 := by
  funext a; match a with
  | ⟨0, _⟩ => rfl
  | ⟨1, _⟩ => rfl
  | ⟨2, _⟩ => rfl

theorem ld0 (x : Vec Ideal S8x1024 .f32) : (View.ld x r0_0 : Vec Ideal S8x1024 .f32) = x := View.ld_unit_zero zero2 _ _
theorem ld1 (x : Vec Ideal S1x1024x1536 .f32) : (View.ld x r0_1 : Vec Ideal S1x1024x1536 .f32) = x := View.ld_unit_zero zero3 _ _
theorem ld2 (x : Vec Ideal S1x1x1536 .f32) : (View.ld x r0_2 : Vec Ideal S1x1x1536 .f32) = x := View.ld_unit_zero zero3 _ _

theorem out3_ix (x : Vec Ideal S8x1024 .f32) (w : Vec Ideal S1x1024x1536 .f32) (b : Vec Ideal S1x1x1536 .f32) (r : Fin 8) (j : Fin 1536) :
    out0_3 x w b (ix3 (0 : Fin 1) r j)
      = Cert.Mod.entry (fun d => x (ix2 r d)) (fun d => w (ix3 (0 : Fin 1) d j)) (b (ix3 (0 : Fin 1) (0 : Fin 1) j)) := by
  refine Eq.trans ?_ (pay_apply x w b r j)
  unfold out0_3
  rw [ld0, ld1, ld2]
  refine View.canon_apply_of_pieces (Val := Elt Ideal) (e := .f32) (k0_pay1 x w b) _ ?_ (ix3 (0 : Fin 1) r j) (cover0_3 _ _)
  intro p hp
  obtain rfl := List.mem_singleton.1 hp
  exact fun z => (congrFun (View.ld_unit_zero (Val := Elt Ideal) (e := .f32) (S := S1x8x1536) zero3 inb_S1x8x1536_S1x8x1536_0_0_0 (k0_pay1 x w b)) z).symm

end Cert.ModulationIdeal.Mod

end
-- ==== Proof.ModRows.lean ====
/-
  The rows the modulation's host puts together before the kernel.
-/
module

public import proofs.«01_k».proof.Proof.Gen.ModulationIdeal.Frame
public import Idealize.ShloMosaic.Lib.Pointwise
public import Idealize.ShloMosaic.Lib.StableHlo.ReadAt
public import Idealize.ShloMosaic.Lib.Routing.OpsSet
public import Idealize.ShloMosaic.Lib.Routing.OpsPair

@[expose] public section

noncomputable section

namespace Cert.ModulationIdeal.Mod

open Cert.ModulationIdeal Cert.ModulationIdeal.Gen Idealize.ShloMosaic

abbrev dRow : ScatterDims S8x1024 S1 S1024 := scatter_S8x1024_S1_S1024_0_0_0_0
abbrev dRows : ScatterDims S8x1024 S1 S4x1024 := scatter_S8x1024_S1_S4x1024_01_n_0_0

theorem row_lands (idx : IVec S1 32) (hidx : ∀ y, idx y = 0#32) (k : Fin 1024) (r : Fin 8) (d : Fin 1024) :
    dRow.resultIdx? (ix1 k) idx = some (ix2 r d) ↔ r.val = 0 ∧ k = d := by
  have hm : (0 : Fin 2) ∈ dRow.scatterDimsToOperandDims := List.mem_singleton.2 rfl
  have hs0 : dRow.start (ix1 k) idx 0 = 0 := by
    unfold ScatterDims.start
    rw [dif_pos hm, hidx]
    rfl
  have hs1 : dRow.start (ix1 k) idx 1 = 0 := by
    unfold ScatterDims.start
    rw [dif_neg (by decide)]
  have hw0 : dRow.window (ix1 k) 0 = 0 := by
    unfold ScatterDims.window
    rw [dif_neg (by decide)]
  have hw1 : dRow.window (ix1 k) 1 = k.val := by
    unfold ScatterDims.window
    rw [dif_pos (by decide)]
    rfl
  refine (Routing.resultIdx?_ix2 dRow (ix1 k) idx r d).trans ?_
  rw [hs0, hs1, hw0, hw1, Fin.ext_iff]
  omega

theorem rows_land (idx : IVec S1 32) (hidx : ∀ y, idx y = 1#32) (q : Fin 4) (k : Fin 1024) (r : Fin 8) (d : Fin 1024) :
    dRows.resultIdx? (ix2 q k) idx = some (ix2 r d) ↔ r.val = 1 + q.val ∧ k = d := by
  have hm : (0 : Fin 2) ∈ dRows.scatterDimsToOperandDims := List.mem_singleton.2 rfl
  have hs0 : dRows.start (ix2 q k) idx 0 = 1 := by
    unfold ScatterDims.start
    rw [dif_pos hm, hidx]
    rfl
  have hs1 : dRows.start (ix2 q k) idx 1 = 0 := by
    unfold ScatterDims.start
    rw [dif_neg (by decide)]
  have hw0 : dRows.window (ix2 q k) 0 = q.val := by
    unfold ScatterDims.window
    rw [dif_pos (by decide)]
    rfl
  have hw1 : dRows.window (ix2 q k) 1 = k.val := by
    unfold ScatterDims.window
    rw [dif_pos (by decide)]
    rfl
  refine (Routing.resultIdx?_ix2 dRows (ix2 q k) idx r d).trans ?_
  rw [hs0, hs1, hw0, hw1, Fin.ext_iff]
  omega

theorem of1 (k : S1024.Idx) : k = ix1 (k 0) := funext fun a => match a with
  | ⟨0, _⟩ => rfl
theorem of2 (k : S4x1024.Idx) : k = ix2 (k 0) (k 1) := funext fun a => match a with
  | ⟨0, _⟩ => rfl
  | ⟨1, _⟩ => rfl

/-- The first row takes the vector written there. -/
theorem row_first (x0 : S8x1024.Idx → EReal) (idx : IVec S1 32) (hidx : ∀ y, idx y = 0#32) (upd : S1024.Idx → EReal) (d : Fin 1024) :
    Host.scatter dRow (fun _ b => b) x0 idx upd (ix2 (0 : Fin 8) d) = upd (ix1 d) := by
  refine Routing.scatter_set_hit dRow x0 idx upd _ _ (fun k hk => ?_) (ix1 d) ((row_lands idx hidx d 0 d).2 ⟨rfl, rfl⟩)
  rw [of1 k] at hk ⊢
  rw [((row_lands idx hidx (k 0) 0 d).1 hk).2]
  rfl

/-- The rows from the second on take the rows written there, -/
theorem rows_hit (x0 : S8x1024.Idx → EReal) (idx : IVec S1 32) (hidx : ∀ y, idx y = 1#32) (upd : S4x1024.Idx → EReal) (q : Fin 4) (d : Fin 1024) :
    Host.scatter dRows (fun _ b => b) x0 idx upd (ix2 (⟨1 + q.val, by omega⟩ : Fin 8) d) = upd (ix2 q d) := by
  refine Routing.scatter_set_hit dRows x0 idx upd _ _ (fun k hk => ?_) (ix2 q d) ((rows_land idx hidx q d ⟨1 + q.val, by omega⟩ d).2 ⟨rfl, rfl⟩)
  rw [of2 k] at hk ⊢
  obtain ⟨h0, h1⟩ := (rows_land idx hidx (k 0) (k 1) ⟨1 + q.val, by omega⟩ d).1 hk
  rw [h1, show (k 0 : Fin 4) = q from Fin.ext (by have : 1 + q.val = 1 + (k 0 : Fin 4).val := h0; omega)]
  rfl

/-- and the first stays. -/
theorem rows_miss (x0 : S8x1024.Idx → EReal) (idx : IVec S1 32) (hidx : ∀ y, idx y = 1#32) (upd : S4x1024.Idx → EReal) (d : Fin 1024) :
    Host.scatter dRows (fun _ b => b) x0 idx upd (ix2 (0 : Fin 8) d) = x0 (ix2 (0 : Fin 8) d) := by
  refine Routing.scatter_set_miss dRows x0 idx upd _ (fun k hk => ?_)
  rw [of2 k] at hk
  have h0 : 0 = 1 + (k 0 : Fin 4).val := ((rows_land idx hidx (k 0) (k 1) 0 d).1 hk).1
  omega

end Cert.ModulationIdeal.Mod

end
-- ==== Proof.ModRun.lean ====
/-
  The modulation's kernel's results.
-/
module

public import proofs.«01_k».proof.Proof.ModBody
public import proofs.«01_k».proof.Proof.ModRows

@[expose] public section

noncomputable section

namespace Cert.ModulationIdeal.Mod

open Cert.ModulationIdeal Cert.ModulationIdeal.Gen Idealize.ShloMosaic Idealize.ShloMosaic.TcCoe Idealize.SL.Sem

variable (m : (ℓ : Loc nD τ sig) → Buf (Elt Ideal) ℓ) (c : Dev nD)

/-- The arguments: the rows of the sample, the prompt's row, the weights and the biases. -/
abbrev argC : Vec Ideal S4x1024 .f32 := m ((c : Thread nD τ).loc main_arg0)
abbrev argX : Vec Ideal S1024 .f32 := m ((c : Thread nD τ).loc main_arg1)
abbrev argW : Vec Ideal S4x1024x6144 .f32 := m ((c : Thread nD τ).loc main_arg2)
abbrev argB : Vec Ideal S4x6144 .f32 := m ((c : Thread nD τ).loc main_arg3)

/-- The rows the kernel reads. -/
abbrev rows : Vec Ideal S8x1024 .f32 := V m c main_v4

theorem rows_eq : ∃ (x0 : S8x1024.Idx → EReal) (i0 i1 : IVec S1 32), (∀ y, i0 y = 0#32) ∧ (∀ y, i1 y = 1#32) ∧
    rows m c = Host.scatter dRows (fun _ b => b) (Host.scatter dRow (fun _ b => b) x0 i0 (argX m c)) i1 (argC m c) := by
  refine ⟨broadcastInDim S8x1024 ![] bcast_S_S8x1024 (constant S_ .f32 0x00000000#32 : FVec Ideal S_ .f32), broadcastInDim S1 ![] bcast_S_S1 (constantI S_ 32 0#32), broadcastInDim S1 ![] bcast_S_S1 (constantI S_ 32 1#32), ?_, ?_, ?_⟩
  rotate_left 2
  · unfold rows V
    after_reads_simp
  · intro y; rfl
  · intro y; rfl

theorem rows_first (d : Fin 1024) : rows m c (ix2 (0 : Fin 8) d) = argX m c (ix1 d) := by
  obtain ⟨x0, i0, i1, h0, h1, e⟩ := rows_eq m c
  rw [e]
  exact (rows_miss _ i1 h1 _ d).trans (row_first x0 i0 h0 _ d)

theorem rows_rest (q : Fin 4) (d : Fin 1024) : rows m c (ix2 (⟨1 + q.val, by omega⟩ : Fin 8) d) = argC m c (ix2 q d) := by
  obtain ⟨x0, i0, i1, h0, h1, e⟩ := rows_eq m c
  rw [e]
  exact rows_hit _ i1 h1 _ q d

theorem arr1 (i : Fin 4) (d : Fin 1024) (j : Fin 6144) : (V m c main_arg2 : Vec Ideal S4x1024x6144 .f32) (ix3 i d j) = argW m c (ix3 i d j) :=
  congrFun (V_main_arg2 m c) _

theorem arr2 (i : Fin 4) (j : Fin 6144) : (V m c main_v5 : Vec Ideal S4x1x6144 .f32) (ix3 i (0 : Fin 1) j) = argB m c (ix2 i j) := by
  unfold V
  after_reads_at

theorem lt16 (t : Fin cfg0.N) : t.val < 16 := lt_of_lt_of_eq t.isLt N_0

theorem index0 : ∀ t : Fin cfg0.N, win0_0.index t = ![0, 0] :=
  (by decide +kernel : ∀ t : Fin grid0.N, win0_0.index t = ![0, 0])
theorem index1 : ∀ t : Fin cfg0.N, win0_1.index t = ![t.val / 4, 0, t.val % 4] :=
  (by decide +kernel : ∀ t : Fin grid0.N, win0_1.index t = ![t.val / 4, 0, t.val % 4])
theorem index2 : ∀ t : Fin cfg0.N, win0_2.index t = ![t.val / 4, 0, t.val % 4] :=
  (by decide +kernel : ∀ t : Fin grid0.N, win0_2.index t = ![t.val / 4, 0, t.val % 4])
theorem index3 : ∀ t : Fin cfg0.N, win0_3.index t = ![t.val / 4, 0, t.val % 4] :=
  (by decide +kernel : ∀ t : Fin grid0.N, win0_3.index t = ![t.val / 4, 0, t.val % 4])
theorem blk0 (t : Fin cfg0.N) (i : Fin 8) (j : Fin 1024) :
    (iblk m c 0 t : Vec Ideal S8x1024 .f32) (ix2 i j) = (V m c main_v4 : Vec Ideal S8x1024 .f32) (ix2 i j) := by
  refine congrArg (V m c main_v4) (funext fun a => Fin.ext ((win0_0.rect_emb_val t _ a).trans ?_))
  rw [index0]
  match a with
  | ⟨0, _⟩ => show 0 * 8 + i.val = i.val; omega
  | ⟨1, _⟩ => show 0 * 1024 + j.val = j.val; omega
theorem blk1 (t : Fin cfg0.N) (j : Fin 1024) (k : Fin 1536) :
    (iblk m c 1 t : Vec Ideal S1x1024x1536 .f32) (ix3 (0 : Fin 1) j k) = (V m c main_arg2 : Vec Ideal S4x1024x6144 .f32) (ix3 (⟨t.val / 4, by have := lt16 t; omega⟩ : Fin 4) j (⟨t.val % 4 * 1536 + k.val, by have := lt16 t; omega⟩ : Fin 6144)) := by
  refine congrArg (V m c main_arg2) (funext fun a => Fin.ext ((win0_1.rect_emb_val t _ a).trans ?_))
  rw [index1]
  match a with
  | ⟨0, _⟩ => show t.val / 4 * 1 + 0 = t.val / 4; omega
  | ⟨1, _⟩ => show 0 * 1024 + j.val = j.val; omega
  | ⟨2, _⟩ => rfl
theorem blk2 (t : Fin cfg0.N) (k : Fin 1536) :
    (iblk m c 2 t : Vec Ideal S1x1x1536 .f32) (ix3 (0 : Fin 1) (0 : Fin 1) k) = (V m c main_v5 : Vec Ideal S4x1x6144 .f32) (ix3 (⟨t.val / 4, by have := lt16 t; omega⟩ : Fin 4) (0 : Fin 1) (⟨t.val % 4 * 1536 + k.val, by have := lt16 t; omega⟩ : Fin 6144)) := by
  refine congrArg (V m c main_v5) (funext fun a => Fin.ext ((win0_2.rect_emb_val t _ a).trans ?_))
  rw [index2]
  match a with
  | ⟨0, _⟩ => show t.val / 4 * 1 + 0 = t.val / 4; omega
  | ⟨1, _⟩ => show 0 * 1 + 0 = 0; rfl
  | ⟨2, _⟩ => rfl
theorem emb3 (t : Fin cfg0.N) (j : Fin 8) (k : Fin 1536) :
    ((cfg0.win 3).blk t).view.emb (ix3 (0 : Fin 1) j k : S1x8x1536.Idx) = (ix3 (⟨t.val / 4, by have := lt16 t; omega⟩ : Fin 4) j (⟨t.val % 4 * 1536 + k.val, by have := lt16 t; omega⟩ : Fin 6144) : S4x8x6144.Idx) := by
  refine funext fun a => Fin.ext ((win0_3.rect_emb_val t _ a).trans ?_)
  rw [index3]
  match a with
  | ⟨0, _⟩ => show t.val / 4 * 1 + 0 = t.val / 4; omega
  | ⟨1, _⟩ => show 0 * 8 + j.val = j.val; omega
  | ⟨2, _⟩ => rfl

/-- The kernel's array: every row's modulation in every layer. -/
def result3 : Vec Ideal S4x8x6144 .f32 := fun y =>
  Cert.Mod.entry (fun d => rows m c (ix2 (y 1) d)) (fun d => argW m c (ix3 (y 0) d (y 2))) (argB m c (ix2 (y 0) (y 2)))

variable {m c}

theorem entry_congr {s s' w w' : Fin 1024 → EReal} {b b' : EReal} (hs : s = s') (hw : w = w') (hb : b = b') :
    Cert.Mod.entry s w b = Cert.Mod.entry s' w' b' := by
  subst hs hw hb
  rfl

theorem block3 (t : Fin cfg0.N) (r : Fin 8) (j : Fin 1536) :
    out0_3 (iblk m c 0 t) (iblk m c 1 t) (iblk m c 2 t) (ix3 (0 : Fin 1) r j)
      = result3 m c (ix3 (⟨t.val / 4, by have := lt16 t; omega⟩ : Fin 4) r (⟨t.val % 4 * 1536 + j.val, by omega⟩ : Fin 6144)) := by
  refine (out3_ix ..).trans (entry_congr ?_ ?_ ?_)
  · exact funext fun d => blk0 m c t r d
  · exact funext fun d => (blk1 m c t d j).trans (arr1 m c _ d _)
  · exact (blk2 m c t j).trans (arr2 m c _ _)

theorem flushed3 (t : Fin cfg0.N) :
    (dats m 0 c).flushed 3 t = (win0_3.blk t).view.read (Elt Ideal) (result3 m c) := by
  show (cfg0.win 3).cut (grid0.coords t) ((dats m 0 c).after 3 t) = _
  rw [after0_3]
  refine funext fun x => ?_
  have hx : (x : S1x8x1536.Idx) = ix3 (0 : Fin 1) (⟨(x 1).val, (x 1).isLt⟩ : Fin 8) (⟨(x 2).val, (x 2).isLt⟩ : Fin 1536) := by
    refine funext fun a => Fin.ext ?_
    match a with
    | ⟨0, _⟩ => have := (x 0).isLt; show (x 0).val = 0; exact Nat.lt_one_iff.1 this
    | ⟨1, _⟩ => rfl
    | ⟨2, _⟩ => rfl
  refine (congrArg (out0_3 (iblk m c 0 t) (iblk m c 1 t) (iblk m c 2 t)) hx).trans ((block3 t _ _).trans ?_)
  exact congrArg (result3 m c) ((emb3 t _ _).symm.trans (congrArg ((cfg0.win 3).blk t).view.emb hx.symm))

theorem cover3 (y : S4x8x6144.Idx) : ∃ t : Fin cfg0.N, (cfg0.win 3).flush t = true ∧ y ∈ ((cfg0.win 3).blk t).view.set := by
  have h0 : (y 0).val < 4 := (y 0).isLt
  have h1 : (y 1).val < 8 := (y 1).isLt
  have h2 : (y 2).val < 6144 := (y 2).isLt
  have ht : ((y 0).val * 4 + (y 2).val / 1536) < cfg0.N := lt_of_lt_of_eq (by omega) N_0.symm
  have e := emb3 ⟨((y 0).val * 4 + (y 2).val / 1536), ht⟩ (⟨(y 1).val, h1⟩ : Fin 8) (⟨(y 2).val % 1536, by omega⟩ : Fin 1536)
  refine ⟨⟨((y 0).val * 4 + (y 2).val / 1536), ht⟩, flush0_3 _, ?_⟩
  have hy : ((cfg0.win 3).blk ⟨((y 0).val * 4 + (y 2).val / 1536), ht⟩).view.emb (ix3 (0 : Fin 1) (⟨(y 1).val, h1⟩ : Fin 8) (⟨(y 2).val % 1536, by omega⟩ : Fin 1536) : S1x8x1536.Idx) = y := by
    refine e.trans (funext fun a => Fin.ext ?_)
    match a with
    | ⟨0, _⟩ => show ((y 0).val * 4 + (y 2).val / 1536) / 4 = (y 0).val; omega
    | ⟨1, _⟩ => rfl
    | ⟨2, _⟩ => show ((y 0).val * 4 + (y 2).val / 1536) % 4 * 1536 + (y 2).val % 1536 = (y 2).val; omega
  have hm := View.emb_mem_set ((cfg0.win 3).blk ⟨((y 0).val * 4 + (y 2).val / 1536), ht⟩).view (ix3 (0 : Fin 1) (⟨(y 1).val, h1⟩ : Fin 8) (⟨(y 2).val % 1536, by omega⟩ : Fin 1536) : S1x8x1536.Idx)
  rw [hy] at hm
  exact hm

theorem final3 : (dats m 0 c).arrAt 3 cfg0.N = result3 m c :=
  (dats m 0 c).arrAt_eq_of_cover 3 (result3 m c) (fun t _ => flushed3 t) cover3

variable (m c)

/-- The results: the prompt's row's modulations, -/
def result8 : Vec Ideal S4x1x1x6144 .f32 := fun y =>
  Cert.Mod.entry (fun d => argX m c (ix1 d)) (fun d => argW m c (ix3 (y 0) d (y 3))) (argB m c (ix2 (y 0) (y 3)))
/-- and the sample's rows'. -/
def result10 : Vec Ideal S4x4x1x6144 .f32 := fun y =>
  Cert.Mod.entry (fun d => argC m c (ix2 (y 1) d)) (fun d => argW m c (ix3 (y 0) d (y 3))) (argB m c (ix2 (y 0) (y 3)))

theorem arr_inj : Function.Injective (Pipeline.arrRef spec0) := by decide

theorem kept : Pipeline.withArrays (τ := τ) (cfgs 0).spec c (V0 m c) (fun w => (dats m 0 c).arrAt w (cfgs 0).N) (Proc.devRef .tc main_v6) = result3 m c :=
  (Pipeline.withArrays_arr (τ := τ) spec0 arr_inj c (V0 m c) (fun w => (dats m 0 c).arrAt w (cfgs 0).N) 3).trans final3

theorem tail8 : Pipeline.afterTail₀ cfgs (dats m) 0 (V0 m) [hostOps1] c main_v8 = result8 m c := by
  refine funext fun y => ?_
  rw [show y = ix4 (y 0) (0 : Fin 1) (0 : Fin 1) (y 3) from funext fun a => Fin.ext (match a with
    | ⟨0, _⟩ => rfl
    | ⟨1, _⟩ => (Nat.lt_one_iff.1 (y 1).isLt)
    | ⟨2, _⟩ => (Nat.lt_one_iff.1 (y 2).isLt)
    | ⟨3, _⟩ => rfl)]
  have h := kept m c
  unfold Pipeline.afterTail₀
  generalize Pipeline.withArrays (τ := τ) (cfgs 0).spec c (V0 m c) (fun w => (dats m 0 c).arrAt w (cfgs 0).N) = A at h ⊢
  refine Eq.trans ?_ ((congrFun h (ix3 (y 0) (0 : Fin 8) (y 3))).trans (entry_congr (funext fun d => rows_first m c d) rfl rfl))
  after_reads_at

theorem tail10 : Pipeline.afterTail₀ cfgs (dats m) 0 (V0 m) [hostOps1] c main_v10 = result10 m c := by
  refine funext fun y => ?_
  rw [show y = ix4 (y 0) (y 1) (0 : Fin 1) (y 3) from funext fun a => Fin.ext (match a with
    | ⟨0, _⟩ => rfl
    | ⟨1, _⟩ => rfl
    | ⟨2, _⟩ => (Nat.lt_one_iff.1 (y 2).isLt)
    | ⟨3, _⟩ => rfl)]
  have h := kept m c
  unfold Pipeline.afterTail₀
  generalize Pipeline.withArrays (τ := τ) (cfgs 0).spec c (V0 m c) (fun w => (dats m 0 c).arrAt w (cfgs 0).N) = A at h ⊢
  refine Eq.trans ?_ ((congrFun h (ix3 (y 0) (⟨1 + (y 1).val, by have : (y 1).val < 4 := (y 1).isLt; omega⟩ : Fin 8) (y 3))).trans
    (entry_congr (funext fun d => rows_rest m c (y 1) d) rfl rfl))
  after_reads_at

/-- The run: the result arrays at their values, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v8) = result8 m c
      ∧ r.2.mem ((c : Thread nD τ).loc main_v10) = result10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h.1 c).2 main_v8 (Pipeline.mem_restRefs_of main_v8 (by decide) (by decide))).trans (tail8 m c),
        ((h.1 c).2 main_v10 (Pipeline.mem_restRefs_of main_v10 (by decide) (by decide))).trans (tail10 m c), h.2 c⟩)
    (θ_run_and (run_main m ρ) (unchanged m ρ))

end Cert.ModulationIdeal.Mod

end
-- ==== Proof.ModRef.lean ====
/-
  The modulation's reference's results at an element.
-/
module

public import proofs.«01_k».proof.Proof.ModSpec
public import proofs.«01_k».proof.Proof.Gen.ModulationReferenceIdeal.Read
public import Idealize.ShloMosaic.Lib.Pointwise

@[expose] public section

noncomputable section

namespace Cert.ModulationReferenceIdeal.Mod

open Cert.ModulationReferenceIdeal Cert.ModulationReferenceIdeal.Gen Cert.ModulationReferenceIdeal.Read Idealize.ShloMosaic Cert.Mod

variable (x0 : Vec Ideal S4x1024 .f32) (x1 : Vec Ideal S1024 .f32) (x2 : Vec Ideal S4x1024x6144 .f32) (x3 : Vec Ideal S4x6144 .f32)

theorem prompt_act0 (d : Fin 1024) :
    val_main_v1 (F := Ideal) x1 (ix3 (0 : Fin 1) (0 : Fin 1) d) = x1 (ix1 d) * Ideal.logistic (x1 (ix1 d)) := by
  unfold Ideal.logistic
  pointwise [val_main_v1, val_main_v0, val_main_call0_v5, val_main_call0_v4, val_main_call0_v3, val_main_call0_v2, val_main_call0_v1, val_main_call0_v0, val_main_call0_cst, val_main_call0_cst_0]

theorem prompt0 (j : Fin 6144) :
    val_main_v8 (F := Ideal) x1 x2 x3 (ix3 (0 : Fin 1) (0 : Fin 1) j) = entry (fun d => x1 (ix1 d)) (fun d => x2 (ix3 (⟨0 + 0, by omega⟩ : Fin 4) d j)) (x3 (ix2 (⟨0 + 0, by omega⟩ : Fin 4) j)) := by
  unfold entry
  rw [Finset.sum_congr rfl fun d _ => congrArg (· * _) (prompt_act0 x1 d).symm]
  generalize h : val_main_v1 (F := Ideal) x1 = N
  pointwise [val_main_v8, val_main_v7, val_main_v6, val_main_v5, val_main_v4, val_main_v3, val_main_v2, h]

theorem prompt_act1 (d : Fin 1024) :
    val_main_v10 (F := Ideal) x1 (ix3 (0 : Fin 1) (0 : Fin 1) d) = x1 (ix1 d) * Ideal.logistic (x1 (ix1 d)) := by
  unfold Ideal.logistic
  pointwise [val_main_v10, val_main_v9, val_main_call1_v5, val_main_call1_v4, val_main_call1_v3, val_main_call1_v2, val_main_call1_v1, val_main_call1_v0, val_main_call1_cst, val_main_call1_cst_0]

theorem prompt1 (j : Fin 6144) :
    val_main_v17 (F := Ideal) x1 x2 x3 (ix3 (0 : Fin 1) (0 : Fin 1) j) = entry (fun d => x1 (ix1 d)) (fun d => x2 (ix3 (⟨1 + 0, by omega⟩ : Fin 4) d j)) (x3 (ix2 (⟨1 + 0, by omega⟩ : Fin 4) j)) := by
  unfold entry
  rw [Finset.sum_congr rfl fun d _ => congrArg (· * _) (prompt_act1 x1 d).symm]
  generalize h : val_main_v10 (F := Ideal) x1 = N
  pointwise [val_main_v17, val_main_v16, val_main_v15, val_main_v14, val_main_v13, val_main_v12, val_main_v11, h]

theorem prompt_act2 (d : Fin 1024) :
    val_main_v19 (F := Ideal) x1 (ix3 (0 : Fin 1) (0 : Fin 1) d) = x1 (ix1 d) * Ideal.logistic (x1 (ix1 d)) := by
  unfold Ideal.logistic
  pointwise [val_main_v19, val_main_v18, val_main_call2_v5, val_main_call2_v4, val_main_call2_v3, val_main_call2_v2, val_main_call2_v1, val_main_call2_v0, val_main_call2_cst, val_main_call2_cst_0]

theorem prompt2 (j : Fin 6144) :
    val_main_v26 (F := Ideal) x1 x2 x3 (ix3 (0 : Fin 1) (0 : Fin 1) j) = entry (fun d => x1 (ix1 d)) (fun d => x2 (ix3 (⟨2 + 0, by omega⟩ : Fin 4) d j)) (x3 (ix2 (⟨2 + 0, by omega⟩ : Fin 4) j)) := by
  unfold entry
  rw [Finset.sum_congr rfl fun d _ => congrArg (· * _) (prompt_act2 x1 d).symm]
  generalize h : val_main_v19 (F := Ideal) x1 = N
  pointwise [val_main_v26, val_main_v25, val_main_v24, val_main_v23, val_main_v22, val_main_v21, val_main_v20, h]

theorem prompt_act3 (d : Fin 1024) :
    val_main_v28 (F := Ideal) x1 (ix3 (0 : Fin 1) (0 : Fin 1) d) = x1 (ix1 d) * Ideal.logistic (x1 (ix1 d)) := by
  unfold Ideal.logistic
  pointwise [val_main_v28, val_main_v27, val_main_call3_v5, val_main_call3_v4, val_main_call3_v3, val_main_call3_v2, val_main_call3_v1, val_main_call3_v0, val_main_call3_cst, val_main_call3_cst_0]

theorem prompt3 (j : Fin 6144) :
    val_main_v35 (F := Ideal) x1 x2 x3 (ix3 (0 : Fin 1) (0 : Fin 1) j) = entry (fun d => x1 (ix1 d)) (fun d => x2 (ix3 (⟨3 + 0, by omega⟩ : Fin 4) d j)) (x3 (ix2 (⟨3 + 0, by omega⟩ : Fin 4) j)) := by
  unfold entry
  rw [Finset.sum_congr rfl fun d _ => congrArg (· * _) (prompt_act3 x1 d).symm]
  generalize h : val_main_v28 (F := Ideal) x1 = N
  pointwise [val_main_v35, val_main_v34, val_main_v33, val_main_v32, val_main_v31, val_main_v30, val_main_v29, h]

theorem sample_act0 (q : Fin 4) (d : Fin 1024) :
    val_main_v42 (F := Ideal) x0 (ix3 q (0 : Fin 1) d) = x0 (ix2 q d) * Ideal.logistic (x0 (ix2 q d)) := by
  unfold Ideal.logistic
  pointwise [val_main_v42, val_main_v41, val_main_call4_v5, val_main_call4_v4, val_main_call4_v3, val_main_call4_v2, val_main_call4_v1, val_main_call4_v0, val_main_call4_cst, val_main_call4_cst_0]

theorem sample0 (q : Fin 4) (j : Fin 6144) :
    val_main_v50 (F := Ideal) x0 x2 x3 (ix3 q (0 : Fin 1) j) = entry (fun d => x0 (ix2 q d)) (fun d => x2 (ix3 (⟨0 + 0, by omega⟩ : Fin 4) d j)) (x3 (ix2 (⟨0 + 0, by omega⟩ : Fin 4) j)) := by
  unfold entry
  rw [Finset.sum_congr rfl fun d _ => congrArg (· * _) (sample_act0 x0 q d).symm]
  generalize h : val_main_v42 (F := Ideal) x0 = N
  pointwise [val_main_v50, val_main_v49, val_main_v48, val_main_v47, val_main_v46, val_main_v45, val_main_v44, val_main_v43, h]

theorem sample_act1 (q : Fin 4) (d : Fin 1024) :
    val_main_v52 (F := Ideal) x0 (ix3 q (0 : Fin 1) d) = x0 (ix2 q d) * Ideal.logistic (x0 (ix2 q d)) := by
  unfold Ideal.logistic
  pointwise [val_main_v52, val_main_v51, val_main_call5_v5, val_main_call5_v4, val_main_call5_v3, val_main_call5_v2, val_main_call5_v1, val_main_call5_v0, val_main_call5_cst, val_main_call5_cst_0]

theorem sample1 (q : Fin 4) (j : Fin 6144) :
    val_main_v60 (F := Ideal) x0 x2 x3 (ix3 q (0 : Fin 1) j) = entry (fun d => x0 (ix2 q d)) (fun d => x2 (ix3 (⟨1 + 0, by omega⟩ : Fin 4) d j)) (x3 (ix2 (⟨1 + 0, by omega⟩ : Fin 4) j)) := by
  unfold entry
  rw [Finset.sum_congr rfl fun d _ => congrArg (· * _) (sample_act1 x0 q d).symm]
  generalize h : val_main_v52 (F := Ideal) x0 = N
  pointwise [val_main_v60, val_main_v59, val_main_v58, val_main_v57, val_main_v56, val_main_v55, val_main_v54, val_main_v53, h]

theorem sample_act2 (q : Fin 4) (d : Fin 1024) :
    val_main_v62 (F := Ideal) x0 (ix3 q (0 : Fin 1) d) = x0 (ix2 q d) * Ideal.logistic (x0 (ix2 q d)) := by
  unfold Ideal.logistic
  pointwise [val_main_v62, val_main_v61, val_main_call6_v5, val_main_call6_v4, val_main_call6_v3, val_main_call6_v2, val_main_call6_v1, val_main_call6_v0, val_main_call6_cst, val_main_call6_cst_0]

theorem sample2 (q : Fin 4) (j : Fin 6144) :
    val_main_v70 (F := Ideal) x0 x2 x3 (ix3 q (0 : Fin 1) j) = entry (fun d => x0 (ix2 q d)) (fun d => x2 (ix3 (⟨2 + 0, by omega⟩ : Fin 4) d j)) (x3 (ix2 (⟨2 + 0, by omega⟩ : Fin 4) j)) := by
  unfold entry
  rw [Finset.sum_congr rfl fun d _ => congrArg (· * _) (sample_act2 x0 q d).symm]
  generalize h : val_main_v62 (F := Ideal) x0 = N
  pointwise [val_main_v70, val_main_v69, val_main_v68, val_main_v67, val_main_v66, val_main_v65, val_main_v64, val_main_v63, h]

theorem sample_act3 (q : Fin 4) (d : Fin 1024) :
    val_main_v72 (F := Ideal) x0 (ix3 q (0 : Fin 1) d) = x0 (ix2 q d) * Ideal.logistic (x0 (ix2 q d)) := by
  unfold Ideal.logistic
  pointwise [val_main_v72, val_main_v71, val_main_call7_v5, val_main_call7_v4, val_main_call7_v3, val_main_call7_v2, val_main_call7_v1, val_main_call7_v0, val_main_call7_cst, val_main_call7_cst_0]

theorem sample3 (q : Fin 4) (j : Fin 6144) :
    val_main_v80 (F := Ideal) x0 x2 x3 (ix3 q (0 : Fin 1) j) = entry (fun d => x0 (ix2 q d)) (fun d => x2 (ix3 (⟨3 + 0, by omega⟩ : Fin 4) d j)) (x3 (ix2 (⟨3 + 0, by omega⟩ : Fin 4) j)) := by
  unfold entry
  rw [Finset.sum_congr rfl fun d _ => congrArg (· * _) (sample_act3 x0 q d).symm]
  generalize h : val_main_v72 (F := Ideal) x0 = N
  pointwise [val_main_v80, val_main_v79, val_main_v78, val_main_v77, val_main_v76, val_main_v75, val_main_v74, val_main_v73, h]

/-- The prompt's result. -/
theorem prompt_apply (l : Fin 4) (j : Fin 6144) :
    val_main_v40 (F := Ideal) x1 x2 x3 (ix4 l (0 : Fin 1) (0 : Fin 1) j) = entry (fun d => x1 (ix1 d)) (fun d => x2 (ix3 l d j)) (x3 (ix2 l j)) := by
  have e0 := prompt0 x1 x2 x3 j
  have e1 := prompt1 x1 x2 x3 j
  have e2 := prompt2 x1 x2 x3 j
  have e3 := prompt3 x1 x2 x3 j
  generalize h0 : val_main_v8 (F := Ideal) x1 x2 x3 = N0 at e0
  generalize h1 : val_main_v17 (F := Ideal) x1 x2 x3 = N1 at e1
  generalize h2 : val_main_v26 (F := Ideal) x1 x2 x3 = N2 at e2
  generalize h3 : val_main_v35 (F := Ideal) x1 x2 x3 = N3 at e3
  match l with
  | ⟨0, _⟩ =>
    refine Eq.trans ?_ e0
    pointwise [val_main_v40, val_main_v36, val_main_v37, val_main_v38, val_main_v39, h0, h1, h2, h3]
  | ⟨1, _⟩ =>
    refine Eq.trans ?_ e1
    pointwise [val_main_v40, val_main_v36, val_main_v37, val_main_v38, val_main_v39, h0, h1, h2, h3]
  | ⟨2, _⟩ =>
    refine Eq.trans ?_ e2
    pointwise [val_main_v40, val_main_v36, val_main_v37, val_main_v38, val_main_v39, h0, h1, h2, h3]
  | ⟨3, _⟩ =>
    refine Eq.trans ?_ e3
    pointwise [val_main_v40, val_main_v36, val_main_v37, val_main_v38, val_main_v39, h0, h1, h2, h3]

/-- The sample's result. -/
theorem sample_apply (l q : Fin 4) (j : Fin 6144) :
    val_main_v85 (F := Ideal) x0 x2 x3 (ix4 l q (0 : Fin 1) j) = entry (fun d => x0 (ix2 q d)) (fun d => x2 (ix3 l d j)) (x3 (ix2 l j)) := by
  have e0 := sample0 x0 x2 x3 q j
  have e1 := sample1 x0 x2 x3 q j
  have e2 := sample2 x0 x2 x3 q j
  have e3 := sample3 x0 x2 x3 q j
  generalize h0 : val_main_v50 (F := Ideal) x0 x2 x3 = N0 at e0
  generalize h1 : val_main_v60 (F := Ideal) x0 x2 x3 = N1 at e1
  generalize h2 : val_main_v70 (F := Ideal) x0 x2 x3 = N2 at e2
  generalize h3 : val_main_v80 (F := Ideal) x0 x2 x3 = N3 at e3
  match l with
  | ⟨0, _⟩ =>
    refine Eq.trans ?_ e0
    pointwise [val_main_v85, val_main_v81, val_main_v82, val_main_v83, val_main_v84, h0, h1, h2, h3]
  | ⟨1, _⟩ =>
    refine Eq.trans ?_ e1
    pointwise [val_main_v85, val_main_v81, val_main_v82, val_main_v83, val_main_v84, h0, h1, h2, h3]
  | ⟨2, _⟩ =>
    refine Eq.trans ?_ e2
    pointwise [val_main_v85, val_main_v81, val_main_v82, val_main_v83, val_main_v84, h0, h1, h2, h3]
  | ⟨3, _⟩ =>
    refine Eq.trans ?_ e3
    pointwise [val_main_v85, val_main_v81, val_main_v82, val_main_v83, val_main_v84, h0, h1, h2, h3]

end Cert.ModulationReferenceIdeal.Mod

end
-- ==== Proof.ModClaim.lean ====
/-
  The modulation's claims.
-/
module

public import proofs.«01_k».proof.Defs
public import proofs.«01_k».proof.Proof.ModRun
public import proofs.«01_k».proof.Proof.ModRef
public import proofs.«01_k».proof.Proof.Gen.ModulationReferenceIdeal.Run
public import Idealize.ShloMosaic.Lib.Claim

@[expose] public section

noncomputable section

namespace Cert.ModClaim

open Idealize.ShloMosaic Idealize.ShloMosaic.TcCoe Idealize.SL.Sem
open Cert.ModulationIdeal.Mod (argC argX argW argB result8 result10)
open Cert.ModulationReferenceIdeal.Read Cert.ModulationReferenceIdeal.Mod

section Values
variable (m : (ℓ : Loc Cert.ModulationIdeal.nD Cert.ModulationIdeal.τ Cert.ModulationIdeal.sig) → Buf (Elt Ideal) ℓ) (c : Dev Cert.ModulationIdeal.nD)

theorem prompt_eq : val_main_v40 (F := Ideal) (argX m c) (argW m c) (argB m c) = result8 m c :=
  funext fun y => (congrArg _ (show y = ix4 (y 0) (0 : Fin 1) (0 : Fin 1) (y 3) from funext fun a => Fin.ext (match a with
    | ⟨0, _⟩ => rfl
    | ⟨1, _⟩ => (Nat.lt_one_iff.1 (y 1).isLt)
    | ⟨2, _⟩ => (Nat.lt_one_iff.1 (y 2).isLt)
    | ⟨3, _⟩ => rfl))).trans (prompt_apply _ _ _ (y 0) (y 3))

theorem sample_eq : val_main_v85 (F := Ideal) (argC m c) (argW m c) (argB m c) = result10 m c :=
  funext fun y => (congrArg _ (show y = ix4 (y 0) (y 1) (0 : Fin 1) (y 3) from funext fun a => Fin.ext (match a with
    | ⟨0, _⟩ => rfl
    | ⟨1, _⟩ => rfl
    | ⟨2, _⟩ => (Nat.lt_one_iff.1 (y 2).isLt)
    | ⟨3, _⟩ => rfl))).trans (sample_apply _ _ _ (y 0) (y 1) (y 3))
end Values

theorem frame_reference : Cert.quiescent_ModulationReferenceIdeal := fun m ρ _ =>
  (θ_run _ _ _).mono (fun r h => ⟨fun c => (h c).2.2, sem_eq_zero_of_no_sems (by decide) r.2⟩) (Cert.ModulationReferenceIdeal.Value.run (F := Ideal) m ρ)

theorem algebraic : Cert.algebraic_ModulationIdeal_ModulationReferenceIdeal := by
  intro m g m' g' _ hagree
  refine ⟨fun c => result8 m c, fun c => result10 m c, Cert.ModulationIdeal.Mod.run m g, ?_⟩
  refine (θ_run _ _ _).mono (fun r h c => ?_) (Cert.ModulationReferenceIdeal.Value.run (F := Ideal) m' g')
  obtain ⟨h0, h1, h5⟩ := h c
  obtain ⟨ha0, ha1, ha2, ha3⟩ := hagree c
  refine ⟨h0.trans ?_, h1.trans ?_, h5⟩
  · rw [val_main_v40_eq]
    simp only [StableHlo.launchContents_devRef, ha0, ha1, ha2, ha3]
    exact prompt_eq m c
  · rw [val_main_v85_eq]
    simp only [StableHlo.launchContents_devRef, ha0, ha1, ha2, ha3]
    exact sample_eq m c

end Cert.ModClaim

end
-- ==== Proof.CacheTok.lean ====
/-
  What the cache's kernel's lines compute, at an element.
-/
module

public import proofs.«01_k».proof.Proof.Gen.CacheLayoutIdeal.Skeleton
public import Idealize.ShloMosaic.Lib.Pointwise

@[expose] public section

noncomputable section

namespace Cert.CacheLayoutIdeal.Cache

open Cert.CacheLayoutIdeal Cert.CacheLayoutIdeal.Gen Idealize.ShloMosaic

theorem pay1_apply (x : Vec Ideal S1x1x512x256 .f32) (p : Fin 512) (j : Fin 256) :
    (k0_pay1 x : FVec Ideal S512x256 .f32) (ix2 p j) = x (ix4 (0 : Fin 1) (0 : Fin 1) p j) := by
  pointwise [k0_pay1]

theorem pay2_apply (x : Vec Ideal S1x1x512x256 .f32) (p : Fin 512) (j : Fin 256) :
    (k0_pay2 x : FVec Ideal S256x512 .f32) (ix2 j p) = x (ix4 (0 : Fin 1) (0 : Fin 1) p j) := by
  pointwise [k0_pay2]

theorem pay3_apply (e : Fin 16) (n : Fin 256) : (k0_pay3 : FVec Ideal S16x256 .bf16) (ix2 e n) = 1 := by
  pointwise [k0_pay3]

theorem pay4_apply (x : Vec Ideal S1x1x512x256 .f32) (p : Fin 512) (e : Fin 64) :
    (k0_pay4 x : FVec Ideal S1x1x1x512x64 .bf16) (ix5 (0 : Fin 1) (0 : Fin 1) (0 : Fin 1) p e) = x (ix4 (0 : Fin 1) (0 : Fin 1) p (⟨0 + e.val, by omega⟩ : Fin 256)) := by
  pointwise [k0_pay4, k0_pay1]

theorem pay10_apply (v : FVec Ideal S512x256 .f32) (p : Fin 512) (e : Fin 64) :
    (k0_pay10 v : FVec Ideal S1x1x1x512x64 .bf16) (ix5 (0 : Fin 1) (0 : Fin 1) (0 : Fin 1) p e) = v (ix2 p (⟨64 + e.val, by omega⟩ : Fin 256)) := by
  pointwise [k0_pay10]

theorem pay15_apply (v : FVec Ideal S512x256 .f32) (p : Fin 512) (e : Fin 64) :
    (k0_pay15 v : FVec Ideal S1x1x1x512x64 .bf16) (ix5 (0 : Fin 1) (0 : Fin 1) (0 : Fin 1) p e) = v (ix2 p (⟨128 + e.val, by omega⟩ : Fin 256)) := by
  pointwise [k0_pay15]

theorem pay20_apply (v : FVec Ideal S512x256 .f32) (p : Fin 512) (e : Fin 64) :
    (k0_pay20 v : FVec Ideal S1x1x1x512x64 .bf16) (ix5 (0 : Fin 1) (0 : Fin 1) (0 : Fin 1) p e) = v (ix2 p (⟨192 + e.val, by omega⟩ : Fin 256)) := by
  pointwise [k0_pay20]

theorem pay5_apply (x : Vec Ideal S1x1x512x256 .f32) (e : Fin 64) (n : Fin 256) :
    (k0_pay5 x : FVec Ideal S1x1x1x1x64x256 .bf16) (ix6 (0 : Fin 1) (0 : Fin 1) (0 : Fin 1) (0 : Fin 1) e n) = x (ix4 (0 : Fin 1) (0 : Fin 1) (⟨0 + n.val, by omega⟩ : Fin 512) (⟨0 + e.val, by omega⟩ : Fin 256)) := by
  pointwise [k0_pay5, k0_pay2]

theorem pay7_apply (x : Vec Ideal S1x1x512x256 .f32) (e : Fin 64) (n : Fin 256) :
    (k0_pay7 x : FVec Ideal S64x256 .bf16) (ix2 e n) = x (ix4 (0 : Fin 1) (0 : Fin 1) (⟨256 + n.val, by omega⟩ : Fin 512) (⟨0 + e.val, by omega⟩ : Fin 256)) := by
  pointwise [k0_pay7, k0_pay2]

theorem pay11_apply (v : FVec Ideal S256x512 .f32) (e : Fin 64) (n : Fin 256) :
    (k0_pay11 v : FVec Ideal S1x1x1x1x64x256 .bf16) (ix6 (0 : Fin 1) (0 : Fin 1) (0 : Fin 1) (0 : Fin 1) e n) = v (ix2 (⟨64 + e.val, by omega⟩ : Fin 256) (⟨0 + n.val, by omega⟩ : Fin 512)) := by
  pointwise [k0_pay11]

theorem pay13_apply (v : FVec Ideal S256x512 .f32) (e : Fin 64) (n : Fin 256) :
    (k0_pay13 v : FVec Ideal S1x1x1x1x64x256 .bf16) (ix6 (0 : Fin 1) (0 : Fin 1) (0 : Fin 1) (0 : Fin 1) e n) = v (ix2 (⟨64 + e.val, by omega⟩ : Fin 256) (⟨256 + n.val, by omega⟩ : Fin 512)) := by
  pointwise [k0_pay13]

theorem pay16_apply (v : FVec Ideal S256x512 .f32) (e : Fin 64) (n : Fin 256) :
    (k0_pay16 v : FVec Ideal S1x1x1x1x64x256 .bf16) (ix6 (0 : Fin 1) (0 : Fin 1) (0 : Fin 1) (0 : Fin 1) e n) = v (ix2 (⟨128 + e.val, by omega⟩ : Fin 256) (⟨0 + n.val, by omega⟩ : Fin 512)) := by
  pointwise [k0_pay16]

theorem pay18_apply (v : FVec Ideal S256x512 .f32) (e : Fin 64) (n : Fin 256) :
    (k0_pay18 v : FVec Ideal S1x1x1x1x64x256 .bf16) (ix6 (0 : Fin 1) (0 : Fin 1) (0 : Fin 1) (0 : Fin 1) e n) = v (ix2 (⟨128 + e.val, by omega⟩ : Fin 256) (⟨256 + n.val, by omega⟩ : Fin 512)) := by
  pointwise [k0_pay18]

theorem pay21_apply (v : FVec Ideal S256x512 .f32) (e : Fin 64) (n : Fin 256) :
    (k0_pay21 v : FVec Ideal S1x1x1x1x64x256 .bf16) (ix6 (0 : Fin 1) (0 : Fin 1) (0 : Fin 1) (0 : Fin 1) e n) = v (ix2 (⟨192 + e.val, by omega⟩ : Fin 256) (⟨0 + n.val, by omega⟩ : Fin 512)) := by
  pointwise [k0_pay21]

theorem pay23_apply (v : FVec Ideal S256x512 .f32) (e : Fin 64) (n : Fin 256) :
    (k0_pay23 v : FVec Ideal S1x1x1x1x64x256 .bf16) (ix6 (0 : Fin 1) (0 : Fin 1) (0 : Fin 1) (0 : Fin 1) e n) = v (ix2 (⟨192 + e.val, by omega⟩ : Fin 256) (⟨256 + n.val, by omega⟩ : Fin 512)) := by
  pointwise [k0_pay23]

theorem pay8_apply (v : FVec Ideal S64x256 .bf16) (e : Fin 64) (n : Fin 256) :
    (k0_pay8 v : FVec Ideal S1x1x1x1x64x256 .bf16) (ix6 (0 : Fin 1) (0 : Fin 1) (0 : Fin 1) (0 : Fin 1) e n) = v (ix2 e n) := by
  pointwise [k0_pay8]

theorem pay6_apply (e : Fin 16) (n : Fin 256) :
    (k0_pay6 : FVec Ideal S1x1x1x1x16x256 .bf16) (ix6 (0 : Fin 1) (0 : Fin 1) (0 : Fin 1) (0 : Fin 1) e n) = 1 := by
  pointwise [k0_pay6, k0_pay3]

theorem pay9_apply (v : FVec Ideal S16x256 .bf16) (e : Fin 16) (n : Fin 256) :
    (k0_pay9 v : FVec Ideal S1x1x1x1x16x256 .bf16) (ix6 (0 : Fin 1) (0 : Fin 1) (0 : Fin 1) (0 : Fin 1) e n) = v (ix2 e n) := by
  pointwise [k0_pay9]

theorem pay12_apply (v : FVec Ideal S16x256 .bf16) (e : Fin 16) (n : Fin 256) :
    (k0_pay12 v : FVec Ideal S1x1x1x1x16x256 .bf16) (ix6 (0 : Fin 1) (0 : Fin 1) (0 : Fin 1) (0 : Fin 1) e n) = v (ix2 e n) := by
  pointwise [k0_pay12]

theorem pay14_apply (v : FVec Ideal S16x256 .bf16) (e : Fin 16) (n : Fin 256) :
    (k0_pay14 v : FVec Ideal S1x1x1x1x16x256 .bf16) (ix6 (0 : Fin 1) (0 : Fin 1) (0 : Fin 1) (0 : Fin 1) e n) = v (ix2 e n) := by
  pointwise [k0_pay14]

theorem pay17_apply (v : FVec Ideal S16x256 .bf16) (e : Fin 16) (n : Fin 256) :
    (k0_pay17 v : FVec Ideal S1x1x1x1x16x256 .bf16) (ix6 (0 : Fin 1) (0 : Fin 1) (0 : Fin 1) (0 : Fin 1) e n) = v (ix2 e n) := by
  pointwise [k0_pay17]

theorem pay19_apply (v : FVec Ideal S16x256 .bf16) (e : Fin 16) (n : Fin 256) :
    (k0_pay19 v : FVec Ideal S1x1x1x1x16x256 .bf16) (ix6 (0 : Fin 1) (0 : Fin 1) (0 : Fin 1) (0 : Fin 1) e n) = v (ix2 e n) := by
  pointwise [k0_pay19]

theorem pay22_apply (v : FVec Ideal S16x256 .bf16) (e : Fin 16) (n : Fin 256) :
    (k0_pay22 v : FVec Ideal S1x1x1x1x16x256 .bf16) (ix6 (0 : Fin 1) (0 : Fin 1) (0 : Fin 1) (0 : Fin 1) e n) = v (ix2 e n) := by
  pointwise [k0_pay22]

theorem pay24_apply (v : FVec Ideal S16x256 .bf16) (e : Fin 16) (n : Fin 256) :
    (k0_pay24 v : FVec Ideal S1x1x1x1x16x256 .bf16) (ix6 (0 : Fin 1) (0 : Fin 1) (0 : Fin 1) (0 : Fin 1) e n) = v (ix2 e n) := by
  pointwise [k0_pay24]

end Cert.CacheLayoutIdeal.Cache

end
-- ==== Proof.CacheBody.lean ====
/-
  What the cache's kernel's body leaves at one grid point, from the blocks it reads.
-/
module

public import proofs.«01_k».proof.Proof.CacheTok
public import proofs.«01_k».proof.Proof.Gen.CacheLayoutIdeal.Frame
public import Idealize.ShloMosaic.Lib.Pipeline.Value
public import Idealize.ShloMosaic.Lib.Pipeline.ReadBack
public import Idealize.ShloMosaic.Lib.VecWindow

@[expose] public section

noncomputable section

namespace Cert.CacheLayoutIdeal.Cache

open Cert.CacheLayoutIdeal Cert.CacheLayoutIdeal.Gen Idealize.ShloMosaic Idealize.ShloMosaic.TcCoe Idealize.SL.Sem

theorem load_whole {s : Shape} {e : EltTy} (M : Memref sig .tc .vmem s e) (h : M.IsWhole) (x : Vec Ideal s e) {off : Fin s.rank → ℕ} (inb) :
    View.readAt (Elt Ideal) M.view (Rect.unit off s.size inb).toLoadRect (h.unread x) = x := by
  rw [View.readAt_full]; exact h.read_unread x

variable (c : Dev nD) (i : grid0.Coords) (arg2 : Memref sig .tc .vmem S1x1x512x256 .f32) (harg2 : arg2.IsWhole) (arg3 : Memref sig .tc .vmem S1x1x512x256 .f32) (harg3 : arg3.IsWhole)
  (arg4 : Memref sig .tc .vmem S1x1x4x512x64 .bf16) (harg4 : arg4.IsWhole) (arg5 : Memref sig .tc .vmem S1x1x4x2x80x256 .bf16) (harg5 : arg5.IsWhole)
  (x0 x1 : Vec Ideal S1x1x512x256 .f32)

/-- The blocks the body leaves: the keys' -/
def Ke (h : Fin 4) (p : Fin 512) (e : Fin 64) : EReal := x0 (ix4 (0 : Fin 1) (0 : Fin 1) p (⟨h.val * 64 + e.val, by omega⟩ : Fin 256))
/-- and the values' over ones. -/
def Ve (h : Fin 4) (j : Fin 2) (e : Fin 80) (n : Fin 256) : EReal :=
  if he : e.val < 64 then x1 (ix4 (0 : Fin 1) (0 : Fin 1) (⟨j.val * 256 + n.val, by omega⟩ : Fin 512) (⟨h.val * 64 + e.val, by omega⟩ : Fin 256)) else 1

theorem r_eq : kernelRun0_A.sl.r c arg2 harg2 x0 = k0_pay1 x0 := by unfold kernelRun0_A.sl.r; rw [load_whole]
theorem r_1_eq : kernelRun0_A.sl.r_1 c arg3 harg3 x1 = k0_pay2 x1 := by unfold kernelRun0_A.sl.r_1; rw [load_whole]
theorem r_2_eq : kernelRun0_A.sl.r_2 c arg3 harg3 x1 = k0_pay7 x1 := by unfold kernelRun0_A.sl.r_2; rw [load_whole]

theorem key_piece (W : FVec Ideal S1x1x1x512x64 .bf16) (h : Fin 4) (o : ℕ) (ho : o = h.val) (inb)
    (hW : ∀ p e, W (ix5 (0 : Fin 1) (0 : Fin 1) (0 : Fin 1) p e) = Ke x0 h p e)
    (z : (Rect.unit (s := S1x1x4x512x64) ![0, 0, o, 0, 0] S1x1x1x512x64.size inb).shape.Idx) :
    W z = (fun y : S1x1x4x512x64.Idx => Ke x0 (y 2) (y 3) (y 4)) ((Rect.unit (s := S1x1x4x512x64) ![0, 0, o, 0, 0] S1x1x1x512x64.size inb).emb z) := by
  subst ho
  have h0 : (z 0).val < 1 := (z 0).isLt
  have h1 : (z 1).val < 1 := (z 1).isLt
  have h2 : (z 2).val < 1 := (z 2).isLt
  have h3 : (z 3).val < 512 := (z 3).isLt
  have h4 : (z 4).val < 64 := (z 4).isLt
  have hz : (z : S1x1x1x512x64.Idx) = ix5 (0 : Fin 1) (0 : Fin 1) (0 : Fin 1) (⟨(z 3).val, h3⟩ : Fin 512) (⟨(z 4).val, h4⟩ : Fin 64) := by
    refine funext fun a => Fin.ext ?_
    match a with
    | ⟨0, _⟩ => show (z 0).val = 0; omega
    | ⟨1, _⟩ => show (z 1).val = 0; omega
    | ⟨2, _⟩ => show (z 2).val = 0; omega
    | ⟨3, _⟩ => rfl
    | ⟨4, _⟩ => rfl
  refine (congrArg W hz).trans ((hW _ _).trans ?_)
  refine congr (congrArg₂ (Ke x0) (Fin.ext ?_) (Fin.ext ?_)) (Fin.ext ?_)
  · show h.val = h.val + 1 * (z 2).val; omega
  · show (z 3).val = 0 + 1 * (z 3).val; omega
  · show (z 4).val = 0 + 1 * (z 4).val; omega

theorem value_piece {k : ℕ} (W : FVec Ideal ⟨6, ![1, 1, 1, 1, k, 256]⟩ .bf16) (h : Fin 4) (j : Fin 2) (oh oj o : ℕ) (eh : oh = h.val) (ej : oj = j.val) (inb) (hk : o + k ≤ 80)
    (hW : ∀ (e : Fin k) n, W (ix6 (0 : Fin 1) (0 : Fin 1) (0 : Fin 1) (0 : Fin 1) e n) = Ve x1 h j ⟨o + e.val, by omega⟩ n)
    (z : (Rect.unit (s := S1x1x4x2x80x256) ![0, 0, oh, oj, o, 0] (⟨6, ![1, 1, 1, 1, k, 256]⟩ : Shape).size inb).shape.Idx) :
    W z = (fun y : S1x1x4x2x80x256.Idx => Ve x1 (y 2) (y 3) (y 4) (y 5)) ((Rect.unit (s := S1x1x4x2x80x256) ![0, 0, oh, oj, o, 0] (⟨6, ![1, 1, 1, 1, k, 256]⟩ : Shape).size inb).emb z) := by
  subst eh ej
  have h0 : (z 0).val < 1 := (z 0).isLt
  have h1 : (z 1).val < 1 := (z 1).isLt
  have h2 : (z 2).val < 1 := (z 2).isLt
  have h3 : (z 3).val < 1 := (z 3).isLt
  have h4 : (z 4).val < k := (z 4).isLt
  have h5 : (z 5).val < 256 := (z 5).isLt
  have hz : z = (ix6 (0 : Fin 1) (0 : Fin 1) (0 : Fin 1) (0 : Fin 1) (⟨(z 4).val, h4⟩ : Fin k) (⟨(z 5).val, h5⟩ : Fin 256) : (⟨6, ![1, 1, 1, 1, k, 256]⟩ : Shape).Idx) := by
    refine funext fun a => Fin.ext ?_
    match a with
    | ⟨0, _⟩ => show (z 0).val = 0; omega
    | ⟨1, _⟩ => show (z 1).val = 0; omega
    | ⟨2, _⟩ => show (z 2).val = 0; omega
    | ⟨3, _⟩ => show (z 3).val = 0; omega
    | ⟨4, _⟩ => rfl
    | ⟨5, _⟩ => rfl
  refine (congrArg W hz).trans ((hW _ _).trans ?_)
  refine congr (congr (congrArg₂ (Ve x1) (Fin.ext ?_) (Fin.ext ?_)) (Fin.ext ?_)) (Fin.ext ?_)
  · show h.val = h.val + 1 * (z 2).val; omega
  · show j.val = j.val + 1 * (z 3).val; omega
  · show o + (z 4).val = o + 1 * (z 4).val; omega
  · show (z 5).val = 0 + 1 * (z 5).val; omega

theorem out2_apply (y : S1x1x4x512x64.Idx) : out0_A_2 c i arg2 harg2 arg3 harg3 arg4 harg4 arg5 harg5 x0 x1 y = Ke x0 (y 2) (y 3) (y 4) := by
  unfold out0_A_2
  rw [View.read_writes_junk_apply_eq_canon]
  refine View.canon_apply_of_pieces (Val := Elt Ideal) (e := .bf16) (fun y : S1x1x4x512x64.Idx => Ke x0 (y 2) (y 3) (y 4)) _ ?_ y (cover0_A_2 c i arg2 harg2 arg3 harg3 arg4 harg4 arg5 harg5 x0 x1 y)
  intro p hp
  unfold kernelRun0_A at hp
  dsimp only at hp
  simp only [List.mem_cons, List.not_mem_nil, or_false] at hp
  rcases hp with rfl | rfl | rfl | rfl
  · refine key_piece x0 _ 3 3 rfl inb_S1x1x4x512x64_S1x1x1x512x64_0_0_3_0_0 (fun p e => ?_)
    dsimp only; rw [pay20_apply, r_eq, pay1_apply]; rfl
  · refine key_piece x0 _ 2 2 rfl inb_S1x1x4x512x64_S1x1x1x512x64_0_0_2_0_0 (fun p e => ?_)
    dsimp only; rw [pay15_apply, r_eq, pay1_apply]; rfl
  · refine key_piece x0 _ 1 1 rfl inb_S1x1x4x512x64_S1x1x1x512x64_0_0_1_0_0 (fun p e => ?_)
    dsimp only; rw [pay10_apply, r_eq, pay1_apply]; rfl
  · refine key_piece x0 _ 0 0 rfl inb_S1x1x4x512x64_S1x1x1x512x64_0_0_0_0_0 (fun p e => ?_)
    dsimp only; rw [pay4_apply, load_whole]; rfl

theorem out3_apply (y : S1x1x4x2x80x256.Idx) : out0_A_3 c i arg2 harg2 arg3 harg3 arg4 harg4 arg5 harg5 x0 x1 y = Ve x1 (y 2) (y 3) (y 4) (y 5) := by
  unfold out0_A_3
  rw [View.read_writes_junk_apply_eq_canon]
  refine View.canon_apply_of_pieces (Val := Elt Ideal) (e := .bf16) (fun y : S1x1x4x2x80x256.Idx => Ve x1 (y 2) (y 3) (y 4) (y 5)) _ ?_ y (cover0_A_3 c i arg2 harg2 arg3 harg3 arg4 harg4 arg5 harg5 x0 x1 y)
  intro p hp
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  · refine value_piece (k := 16) x1 _ 3 1 3 1 64 rfl rfl inb_S1x1x4x2x80x256_S1x1x1x1x16x256_0_0_3_1_64_0 (by omega) (fun e n => ?_)
    dsimp only; rw [pay24_apply, pay3_apply]; unfold Ve; rw [dif_neg (by dsimp only; omega)]
  · refine value_piece (k := 64) x1 _ 3 1 3 1 0 rfl rfl inb_S1x1x4x2x80x256_S1x1x1x1x64x256_0_0_3_1_0_0 (by omega) (fun e n => ?_)
    dsimp only; rw [pay23_apply, r_1_eq, pay2_apply]; unfold Ve; rw [dif_pos (by dsimp only; omega)]
    exact congrArg₂ (fun p d => x1 (ix4 (0 : Fin 1) (0 : Fin 1) p d)) (Fin.ext (by show 256 + n.val = 1 * 256 + n.val; omega)) (Fin.ext (by show 192 + e.val = 3 * 64 + (0 + e.val); omega))
  · refine value_piece (k := 16) x1 _ 3 0 3 0 64 rfl rfl inb_S1x1x4x2x80x256_S1x1x1x1x16x256_0_0_3_0_64_0 (by omega) (fun e n => ?_)
    dsimp only; rw [pay22_apply, pay3_apply]; unfold Ve; rw [dif_neg (by dsimp only; omega)]
  · refine value_piece (k := 64) x1 _ 3 0 3 0 0 rfl rfl inb_S1x1x4x2x80x256_S1x1x1x1x64x256_0_0_3_0_0_0 (by omega) (fun e n => ?_)
    dsimp only; rw [pay21_apply, r_1_eq, pay2_apply]; unfold Ve; rw [dif_pos (by dsimp only; omega)]
    exact congrArg₂ (fun p d => x1 (ix4 (0 : Fin 1) (0 : Fin 1) p d)) (Fin.ext (by show 0 + n.val = 0 * 256 + n.val; omega)) (Fin.ext (by show 192 + e.val = 3 * 64 + (0 + e.val); omega))
  · refine value_piece (k := 16) x1 _ 2 1 2 1 64 rfl rfl inb_S1x1x4x2x80x256_S1x1x1x1x16x256_0_0_2_1_64_0 (by omega) (fun e n => ?_)
    dsimp only; rw [pay19_apply, pay3_apply]; unfold Ve; rw [dif_neg (by dsimp only; omega)]
  · refine value_piece (k := 64) x1 _ 2 1 2 1 0 rfl rfl inb_S1x1x4x2x80x256_S1x1x1x1x64x256_0_0_2_1_0_0 (by omega) (fun e n => ?_)
    dsimp only; rw [pay18_apply, r_1_eq, pay2_apply]; unfold Ve; rw [dif_pos (by dsimp only; omega)]
    exact congrArg₂ (fun p d => x1 (ix4 (0 : Fin 1) (0 : Fin 1) p d)) (Fin.ext (by show 256 + n.val = 1 * 256 + n.val; omega)) (Fin.ext (by show 128 + e.val = 2 * 64 + (0 + e.val); omega))
  · refine value_piece (k := 16) x1 _ 2 0 2 0 64 rfl rfl inb_S1x1x4x2x80x256_S1x1x1x1x16x256_0_0_2_0_64_0 (by omega) (fun e n => ?_)
    dsimp only; rw [pay17_apply, pay3_apply]; unfold Ve; rw [dif_neg (by dsimp only; omega)]
  · refine value_piece (k := 64) x1 _ 2 0 2 0 0 rfl rfl inb_S1x1x4x2x80x256_S1x1x1x1x64x256_0_0_2_0_0_0 (by omega) (fun e n => ?_)
    dsimp only; rw [pay16_apply, r_1_eq, pay2_apply]; unfold Ve; rw [dif_pos (by dsimp only; omega)]
    exact congrArg₂ (fun p d => x1 (ix4 (0 : Fin 1) (0 : Fin 1) p d)) (Fin.ext (by show 0 + n.val = 0 * 256 + n.val; omega)) (Fin.ext (by show 128 + e.val = 2 * 64 + (0 + e.val); omega))
  · refine value_piece (k := 16) x1 _ 1 1 1 1 64 rfl rfl inb_S1x1x4x2x80x256_S1x1x1x1x16x256_0_0_1_1_64_0 (by omega) (fun e n => ?_)
    dsimp only; rw [pay14_apply, pay3_apply]; unfold Ve; rw [dif_neg (by dsimp only; omega)]
  · refine value_piece (k := 64) x1 _ 1 1 1 1 0 rfl rfl inb_S1x1x4x2x80x256_S1x1x1x1x64x256_0_0_1_1_0_0 (by omega) (fun e n => ?_)
    dsimp only; rw [pay13_apply, r_1_eq, pay2_apply]; unfold Ve; rw [dif_pos (by dsimp only; omega)]
    exact congrArg₂ (fun p d => x1 (ix4 (0 : Fin 1) (0 : Fin 1) p d)) (Fin.ext (by show 256 + n.val = 1 * 256 + n.val; omega)) (Fin.ext (by show 64 + e.val = 1 * 64 + (0 + e.val); omega))
  · refine value_piece (k := 16) x1 _ 1 0 1 0 64 rfl rfl inb_S1x1x4x2x80x256_S1x1x1x1x16x256_0_0_1_0_64_0 (by omega) (fun e n => ?_)
    dsimp only; rw [pay12_apply, pay3_apply]; unfold Ve; rw [dif_neg (by dsimp only; omega)]
  · refine value_piece (k := 64) x1 _ 1 0 1 0 0 rfl rfl inb_S1x1x4x2x80x256_S1x1x1x1x64x256_0_0_1_0_0_0 (by omega) (fun e n => ?_)
    dsimp only; rw [pay11_apply, r_1_eq, pay2_apply]; unfold Ve; rw [dif_pos (by dsimp only; omega)]
    exact congrArg₂ (fun p d => x1 (ix4 (0 : Fin 1) (0 : Fin 1) p d)) (Fin.ext (by show 0 + n.val = 0 * 256 + n.val; omega)) (Fin.ext (by show 64 + e.val = 1 * 64 + (0 + e.val); omega))
  · refine value_piece (k := 16) x1 _ 0 1 0 1 64 rfl rfl inb_S1x1x4x2x80x256_S1x1x1x1x16x256_0_0_0_1_64_0 (by omega) (fun e n => ?_)
    dsimp only; rw [pay9_apply, pay3_apply]; unfold Ve; rw [dif_neg (by dsimp only; omega)]
  · refine value_piece (k := 64) x1 _ 0 1 0 1 0 rfl rfl inb_S1x1x4x2x80x256_S1x1x1x1x64x256_0_0_0_1_0_0 (by omega) (fun e n => ?_)
    dsimp only; rw [pay8_apply, r_2_eq, pay7_apply]; unfold Ve; rw [dif_pos (by dsimp only; omega)]
    exact congrArg₂ (fun p d => x1 (ix4 (0 : Fin 1) (0 : Fin 1) p d)) (Fin.ext (by show 256 + n.val = 1 * 256 + n.val; omega)) (Fin.ext (by show 0 + e.val = 0 * 64 + (0 + e.val); omega))
  · refine value_piece (k := 16) x1 _ 0 0 0 0 64 rfl rfl inb_S1x1x4x2x80x256_S1x1x1x1x16x256_0_0_0_0_64_0 (by omega) (fun e n => ?_)
    dsimp only; rw [pay6_apply]; unfold Ve; rw [dif_neg (by dsimp only; omega)]
  · refine value_piece (k := 64) x1 _ 0 0 0 0 0 rfl rfl inb_S1x1x4x2x80x256_S1x1x1x1x64x256_0_0_0_0_0_0 (by omega) (fun e n => ?_)
    dsimp only; rw [pay5_apply, load_whole]; unfold Ve; rw [dif_pos (by dsimp only; omega)]
    exact congrArg₂ (fun p d => x1 (ix4 (0 : Fin 1) (0 : Fin 1) p d)) (Fin.ext (by show 0 + n.val = 0 * 256 + n.val; omega)) (Fin.ext (by show 0 + e.val = 0 * 64 + (0 + e.val); omega))

theorem out2_ix (h : Fin 4) (p : Fin 512) (e : Fin 64) : out0_A_2 c i arg2 harg2 arg3 harg3 arg4 harg4 arg5 harg5 x0 x1 (ix5 (0 : Fin 1) (0 : Fin 1) h p e) = Ke x0 h p e := out2_apply c i arg2 harg2 arg3 harg3 arg4 harg4 arg5 harg5 x0 x1 _
theorem out3_ix (h : Fin 4) (j : Fin 2) (e : Fin 80) (n : Fin 256) : out0_A_3 c i arg2 harg2 arg3 harg3 arg4 harg4 arg5 harg5 x0 x1 (ix6 (0 : Fin 1) (0 : Fin 1) h j e n) = Ve x1 h j e n := out3_apply c i arg2 harg2 arg3 harg3 arg4 harg4 arg5 harg5 x0 x1 _

end Cert.CacheLayoutIdeal.Cache

end
-- ==== Proof.CacheRun.lean ====
/-
  The cache's kernel's arrays at an element in terms of the arguments, its blocks and its results.
-/
module

public import proofs.«01_k».proof.Proof.CacheBody
public import Idealize.ShloMosaic.Lib.StableHlo.ReadAt

@[expose] public section

noncomputable section

namespace Cert.CacheLayoutIdeal.Cache

open Cert.CacheLayoutIdeal Cert.CacheLayoutIdeal.Gen Idealize.ShloMosaic Idealize.ShloMosaic.TcCoe Idealize.SL.Sem

variable (m : (ℓ : Loc nD τ sig) → Buf (Elt Ideal) ℓ) (c : Dev nD)

/-- The arguments. -/
abbrev argK : Vec Ideal S4x4x512x4x64 .f32 := m ((c : Thread nD τ).loc main_arg0)
abbrev argV : Vec Ideal S4x4x512x4x64 .f32 := m ((c : Thread nD τ).loc main_arg1)

theorem arr0 (b l : Fin 4) (p : Fin 512) (h : Fin 4) (e : Fin 64) :
    (V m c main_v0 : Vec Ideal S4x4x512x256 .f32) (ix4 b l p (⟨h.val * 64 + e.val, by omega⟩ : Fin 256)) = argK m c (ix5 b l p h e) := by
  unfold V
  after_reads_at

theorem arr1 (b l : Fin 4) (p : Fin 512) (h : Fin 4) (e : Fin 64) :
    (V m c main_v1 : Vec Ideal S4x4x512x256 .f32) (ix4 b l p (⟨h.val * 64 + e.val, by omega⟩ : Fin 256)) = argV m c (ix5 b l p h e) := by
  unfold V
  after_reads_at

theorem lt16 (t : Fin cfg0.N) : t.val < 16 := lt_of_lt_of_eq t.isLt N_0

theorem index0 : ∀ t : Fin cfg0.N, win0_0.index t = ![t.val / 4, t.val % 4, 0, 0] :=
  (by decide +kernel : ∀ t : Fin grid0.N, win0_0.index t = ![t.val / 4, t.val % 4, 0, 0])
theorem index1 : ∀ t : Fin cfg0.N, win0_1.index t = ![t.val / 4, t.val % 4, 0, 0] :=
  (by decide +kernel : ∀ t : Fin grid0.N, win0_1.index t = ![t.val / 4, t.val % 4, 0, 0])
theorem index2 : ∀ t : Fin cfg0.N, win0_2.index t = ![t.val / 4, t.val % 4, 0, 0, 0] :=
  (by decide +kernel : ∀ t : Fin grid0.N, win0_2.index t = ![t.val / 4, t.val % 4, 0, 0, 0])
theorem index3 : ∀ t : Fin cfg0.N, win0_3.index t = ![t.val / 4, t.val % 4, 0, 0, 0, 0] :=
  (by decide +kernel : ∀ t : Fin grid0.N, win0_3.index t = ![t.val / 4, t.val % 4, 0, 0, 0, 0])
theorem blk0 (t : Fin cfg0.N) (k : Fin 512) (l : Fin 256) :
    (iblk m c 0 t : Vec Ideal S1x1x512x256 .f32) (ix4 (0 : Fin 1) (0 : Fin 1) k l) = (V m c main_v0 : Vec Ideal S4x4x512x256 .f32) (ix4 (⟨t.val / 4, by have := lt16 t; omega⟩ : Fin 4) (⟨t.val % 4, by have := lt16 t; omega⟩ : Fin 4) k l) := by
  refine congrArg (V m c main_v0) (funext fun a => Fin.ext ((win0_0.rect_emb_val t _ a).trans ?_))
  rw [index0]
  match a with
  | ⟨0, _⟩ => show t.val / 4 * 1 + 0 = t.val / 4; omega
  | ⟨1, _⟩ => show t.val % 4 * 1 + 0 = t.val % 4; omega
  | ⟨2, _⟩ => show 0 * 512 + k.val = k.val; omega
  | ⟨3, _⟩ => show 0 * 256 + l.val = l.val; omega
theorem blk1 (t : Fin cfg0.N) (k : Fin 512) (l : Fin 256) :
    (iblk m c 1 t : Vec Ideal S1x1x512x256 .f32) (ix4 (0 : Fin 1) (0 : Fin 1) k l) = (V m c main_v1 : Vec Ideal S4x4x512x256 .f32) (ix4 (⟨t.val / 4, by have := lt16 t; omega⟩ : Fin 4) (⟨t.val % 4, by have := lt16 t; omega⟩ : Fin 4) k l) := by
  refine congrArg (V m c main_v1) (funext fun a => Fin.ext ((win0_1.rect_emb_val t _ a).trans ?_))
  rw [index1]
  match a with
  | ⟨0, _⟩ => show t.val / 4 * 1 + 0 = t.val / 4; omega
  | ⟨1, _⟩ => show t.val % 4 * 1 + 0 = t.val % 4; omega
  | ⟨2, _⟩ => show 0 * 512 + k.val = k.val; omega
  | ⟨3, _⟩ => show 0 * 256 + l.val = l.val; omega
theorem emb2 (t : Fin cfg0.N) (k : Fin 4) (l : Fin 512) (o : Fin 64) :
    ((cfg0.win 2).blk t).view.emb (ix5 (0 : Fin 1) (0 : Fin 1) k l o : S1x1x4x512x64.Idx) = (ix5 (⟨t.val / 4, by have := lt16 t; omega⟩ : Fin 4) (⟨t.val % 4, by have := lt16 t; omega⟩ : Fin 4) k l o : S4x4x4x512x64.Idx) := by
  refine funext fun a => Fin.ext ((win0_2.rect_emb_val t _ a).trans ?_)
  rw [index2]
  match a with
  | ⟨0, _⟩ => show t.val / 4 * 1 + 0 = t.val / 4; omega
  | ⟨1, _⟩ => show t.val % 4 * 1 + 0 = t.val % 4; omega
  | ⟨2, _⟩ => show 0 * 4 + k.val = k.val; omega
  | ⟨3, _⟩ => show 0 * 512 + l.val = l.val; omega
  | ⟨4, _⟩ => show 0 * 64 + o.val = o.val; omega
theorem emb3 (t : Fin cfg0.N) (k : Fin 4) (l : Fin 2) (o : Fin 80) (q : Fin 256) :
    ((cfg0.win 3).blk t).view.emb (ix6 (0 : Fin 1) (0 : Fin 1) k l o q : S1x1x4x2x80x256.Idx) = (ix6 (⟨t.val / 4, by have := lt16 t; omega⟩ : Fin 4) (⟨t.val % 4, by have := lt16 t; omega⟩ : Fin 4) k l o q : S4x4x4x2x80x256.Idx) := by
  refine funext fun a => Fin.ext ((win0_3.rect_emb_val t _ a).trans ?_)
  rw [index3]
  match a with
  | ⟨0, _⟩ => show t.val / 4 * 1 + 0 = t.val / 4; omega
  | ⟨1, _⟩ => show t.val % 4 * 1 + 0 = t.val % 4; omega
  | ⟨2, _⟩ => show 0 * 4 + k.val = k.val; omega
  | ⟨3, _⟩ => show 0 * 2 + l.val = l.val; omega
  | ⟨4, _⟩ => show 0 * 80 + o.val = o.val; omega
  | ⟨5, _⟩ => show 0 * 256 + q.val = q.val; omega

/-- The results: the keys, head by head, -/
def result2 : Vec Ideal S4x4x4x512x64 .bf16 := fun y => argK m c (ix5 (y 0) (y 1) (y 3) (y 2) (y 4))
/-- and the values, transposed in blocks of 256 over rows of ones. -/
def valueAt (b l h : Fin 4) (j : Fin 2) (e : Fin 80) (n : Fin 256) : EReal :=
  if he : e.val < 64 then argV m c (ix5 b l (⟨j.val * 256 + n.val, by omega⟩ : Fin 512) h (⟨e.val, he⟩ : Fin 64)) else 1
def result3 : Vec Ideal S4x4x4x2x80x256 .bf16 := fun y => valueAt m c (y 0) (y 1) (y 2) (y 3) (y 4) (y 5)

variable {m c}

theorem block2 (t : Fin cfg0.N) (h : Fin 4) (p : Fin 512) (e : Fin 64) :
    (outsAt0 m c t).1 (ix5 (0 : Fin 1) (0 : Fin 1) h p e) = result2 m c (ix5 (⟨t.val / 4, by have := lt16 t; omega⟩ : Fin 4) (⟨t.val % 4, by omega⟩ : Fin 4) h p e) := by
  unfold outsAt0
  dsimp only
  refine (out2_ix ..).trans ?_
  unfold Ke
  exact (blk0 m c t _ _).trans (arr0 m c _ _ _ _ _)

theorem block3 (t : Fin cfg0.N) (h : Fin 4) (j : Fin 2) (e : Fin 80) (n : Fin 256) :
    (outsAt0 m c t).2 (ix6 (0 : Fin 1) (0 : Fin 1) h j e n) = result3 m c (ix6 (⟨t.val / 4, by have := lt16 t; omega⟩ : Fin 4) (⟨t.val % 4, by omega⟩ : Fin 4) h j e n) := by
  unfold outsAt0
  dsimp only
  refine (out3_ix ..).trans ?_
  show Ve (iblk m c 1 t) h j e n = valueAt m c _ _ h j e n
  unfold Ve valueAt
  by_cases he : e.val < 64
  · rw [dif_pos he, dif_pos he]
    exact (blk1 m c t _ _).trans (arr1 m c _ _ _ h ⟨e.val, he⟩)
  · rw [dif_neg he, dif_neg he]

theorem flushed2 (t : Fin cfg0.N) :
    (dats m 0 c).flushed 2 t = (win0_2.blk t).view.read (Elt Ideal) (result2 m c) := by
  show (cfg0.win 2).cut (grid0.coords t) ((dats m 0 c).after 2 t) = _
  rw [after0_2]
  refine funext fun x => ?_
  have hx : (x : S1x1x4x512x64.Idx) = ix5 (0 : Fin 1) (0 : Fin 1) (⟨(x 2).val, (x 2).isLt⟩ : Fin 4) (⟨(x 3).val, (x 3).isLt⟩ : Fin 512) (⟨(x 4).val, (x 4).isLt⟩ : Fin 64) := by
    refine funext fun a => Fin.ext ?_
    match a with
    | ⟨0, _⟩ => have := (x 0).isLt; show (x 0).val = 0; exact Nat.lt_one_iff.1 this
    | ⟨1, _⟩ => have := (x 1).isLt; show (x 1).val = 0; exact Nat.lt_one_iff.1 this
    | ⟨2, _⟩ => rfl
    | ⟨3, _⟩ => rfl
    | ⟨4, _⟩ => rfl
  refine (congrArg (outsAt0 m c t).1 hx).trans ((block2 t _ _ _).trans ?_)
  exact congrArg (result2 m c) ((emb2 t _ _ _).symm.trans (congrArg ((cfg0.win 2).blk t).view.emb hx.symm))

theorem cover2 (y : S4x4x4x512x64.Idx) : ∃ t : Fin cfg0.N, (cfg0.win 2).flush t = true ∧ y ∈ ((cfg0.win 2).blk t).view.set := by
  have h0 : (y 0).val < 4 := (y 0).isLt
  have h1 : (y 1).val < 4 := (y 1).isLt
  have h2 : (y 2).val < 4 := (y 2).isLt
  have h3 : (y 3).val < 512 := (y 3).isLt
  have h4 : (y 4).val < 64 := (y 4).isLt
  have ht : ((y 0).val * 4 + (y 1).val) < cfg0.N := lt_of_lt_of_eq (by omega) N_0.symm
  have e := emb2 ⟨((y 0).val * 4 + (y 1).val), ht⟩ (⟨(y 2).val, h2⟩ : Fin 4) (⟨(y 3).val, h3⟩ : Fin 512) (⟨(y 4).val, h4⟩ : Fin 64)
  refine ⟨⟨((y 0).val * 4 + (y 1).val), ht⟩, flush0_2 _, ?_⟩
  have hy : ((cfg0.win 2).blk ⟨((y 0).val * 4 + (y 1).val), ht⟩).view.emb (ix5 (0 : Fin 1) (0 : Fin 1) (⟨(y 2).val, h2⟩ : Fin 4) (⟨(y 3).val, h3⟩ : Fin 512) (⟨(y 4).val, h4⟩ : Fin 64) : S1x1x4x512x64.Idx) = y := by
    refine e.trans (funext fun a => Fin.ext ?_)
    match a with
    | ⟨0, _⟩ => show ((y 0).val * 4 + (y 1).val) / 4 = (y 0).val; omega
    | ⟨1, _⟩ => show ((y 0).val * 4 + (y 1).val) % 4 = (y 1).val; omega
    | ⟨2, _⟩ => rfl
    | ⟨3, _⟩ => rfl
    | ⟨4, _⟩ => rfl
  have hm := View.emb_mem_set ((cfg0.win 2).blk ⟨((y 0).val * 4 + (y 1).val), ht⟩).view (ix5 (0 : Fin 1) (0 : Fin 1) (⟨(y 2).val, h2⟩ : Fin 4) (⟨(y 3).val, h3⟩ : Fin 512) (⟨(y 4).val, h4⟩ : Fin 64) : S1x1x4x512x64.Idx)
  rw [hy] at hm
  exact hm

theorem final2 : (dats m 0 c).arrAt 2 cfg0.N = result2 m c :=
  (dats m 0 c).arrAt_eq_of_cover 2 (result2 m c) (fun t _ => flushed2 t) cover2

theorem flushed3 (t : Fin cfg0.N) :
    (dats m 0 c).flushed 3 t = (win0_3.blk t).view.read (Elt Ideal) (result3 m c) := by
  show (cfg0.win 3).cut (grid0.coords t) ((dats m 0 c).after 3 t) = _
  rw [after0_3]
  refine funext fun x => ?_
  have hx : (x : S1x1x4x2x80x256.Idx) = ix6 (0 : Fin 1) (0 : Fin 1) (⟨(x 2).val, (x 2).isLt⟩ : Fin 4) (⟨(x 3).val, (x 3).isLt⟩ : Fin 2) (⟨(x 4).val, (x 4).isLt⟩ : Fin 80) (⟨(x 5).val, (x 5).isLt⟩ : Fin 256) := by
    refine funext fun a => Fin.ext ?_
    match a with
    | ⟨0, _⟩ => have := (x 0).isLt; show (x 0).val = 0; exact Nat.lt_one_iff.1 this
    | ⟨1, _⟩ => have := (x 1).isLt; show (x 1).val = 0; exact Nat.lt_one_iff.1 this
    | ⟨2, _⟩ => rfl
    | ⟨3, _⟩ => rfl
    | ⟨4, _⟩ => rfl
    | ⟨5, _⟩ => rfl
  refine (congrArg (outsAt0 m c t).2 hx).trans ((block3 t _ _ _ _).trans ?_)
  exact congrArg (result3 m c) ((emb3 t _ _ _ _).symm.trans (congrArg ((cfg0.win 3).blk t).view.emb hx.symm))

theorem cover3 (y : S4x4x4x2x80x256.Idx) : ∃ t : Fin cfg0.N, (cfg0.win 3).flush t = true ∧ y ∈ ((cfg0.win 3).blk t).view.set := by
  have h0 : (y 0).val < 4 := (y 0).isLt
  have h1 : (y 1).val < 4 := (y 1).isLt
  have h2 : (y 2).val < 4 := (y 2).isLt
  have h3 : (y 3).val < 2 := (y 3).isLt
  have h4 : (y 4).val < 80 := (y 4).isLt
  have h5 : (y 5).val < 256 := (y 5).isLt
  have ht : ((y 0).val * 4 + (y 1).val) < cfg0.N := lt_of_lt_of_eq (by omega) N_0.symm
  have e := emb3 ⟨((y 0).val * 4 + (y 1).val), ht⟩ (⟨(y 2).val, h2⟩ : Fin 4) (⟨(y 3).val, h3⟩ : Fin 2) (⟨(y 4).val, h4⟩ : Fin 80) (⟨(y 5).val, h5⟩ : Fin 256)
  refine ⟨⟨((y 0).val * 4 + (y 1).val), ht⟩, flush0_3 _, ?_⟩
  have hy : ((cfg0.win 3).blk ⟨((y 0).val * 4 + (y 1).val), ht⟩).view.emb (ix6 (0 : Fin 1) (0 : Fin 1) (⟨(y 2).val, h2⟩ : Fin 4) (⟨(y 3).val, h3⟩ : Fin 2) (⟨(y 4).val, h4⟩ : Fin 80) (⟨(y 5).val, h5⟩ : Fin 256) : S1x1x4x2x80x256.Idx) = y := by
    refine e.trans (funext fun a => Fin.ext ?_)
    match a with
    | ⟨0, _⟩ => show ((y 0).val * 4 + (y 1).val) / 4 = (y 0).val; omega
    | ⟨1, _⟩ => show ((y 0).val * 4 + (y 1).val) % 4 = (y 1).val; omega
    | ⟨2, _⟩ => rfl
    | ⟨3, _⟩ => rfl
    | ⟨4, _⟩ => rfl
    | ⟨5, _⟩ => rfl
  have hm := View.emb_mem_set ((cfg0.win 3).blk ⟨((y 0).val * 4 + (y 1).val), ht⟩).view (ix6 (0 : Fin 1) (0 : Fin 1) (⟨(y 2).val, h2⟩ : Fin 4) (⟨(y 3).val, h3⟩ : Fin 2) (⟨(y 4).val, h4⟩ : Fin 80) (⟨(y 5).val, h5⟩ : Fin 256) : S1x1x4x2x80x256.Idx)
  rw [hy] at hm
  exact hm

theorem final3 : (dats m 0 c).arrAt 3 cfg0.N = result3 m c :=
  (dats m 0 c).arrAt_eq_of_cover 3 (result3 m c) (fun t _ => flushed3 t) cover3

/-- The run: the result arrays at their values, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2_0) = result2 m c
      ∧ r.2.mem ((c : Thread nD τ).loc main_v2_1) = result3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans final2, ((h.1 c).1 3).trans final3, h.2 c⟩)
    (θ_run_and (run_main m ρ) (unchanged m ρ))

end Cert.CacheLayoutIdeal.Cache

end
-- ==== Proof.CacheRef.lean ====
/-
  The cache's reference's results at an element.
-/
module

public import proofs.«01_k».proof.Proof.Gen.CacheLayoutReferenceIdeal.Read
public import Idealize.ShloMosaic.Lib.Pointwise

@[expose] public section

noncomputable section

namespace Cert.CacheLayoutReferenceIdeal.Cache

open Cert.CacheLayoutReferenceIdeal Cert.CacheLayoutReferenceIdeal.Gen Cert.CacheLayoutReferenceIdeal.Read Idealize.ShloMosaic

variable (x : Vec Ideal S4x4x512x4x64 .f32)

theorem one_bits : Ideal.ofBits .f32 1065353216#32 = (1 : EReal) := by
  simp [Ideal.ofBits, Ideal.ieee, -EReal.coe_mul]; norm_num

theorem key_apply (b l h : Fin 4) (p : Fin 512) (e : Fin 64) :
    val_main_v5 (F := Ideal) x (ix5 b l h p e) = x (ix5 b l p h e) := by
  pointwise [val_main_v5, val_main_v4]

theorem v1_apply (b l h : Fin 4) (j : Fin 2) (e : Fin 64) (n : Fin 256) :
    val_main_v1 (F := Ideal) x (ix6 b l h j e n) = x (ix5 b l (⟨j.val * 256 + n.val, by omega⟩ : Fin 512) h e) := by
  pointwise [val_main_v1, val_main_v0]

theorem value_apply (b l h : Fin 4) (j : Fin 2) (e : Fin 80) (n : Fin 256) :
    val_main_v6 (F := Ideal) x (ix6 b l h j e n)
      = if he : e.val < 64 then x (ix5 b l (⟨j.val * 256 + n.val, by omega⟩ : Fin 512) h (⟨e.val, he⟩ : Fin 64)) else 1 := by
  have hv : ∀ he : e.val < 64, x (ix5 b l (⟨j.val * 256 + n.val, by omega⟩ : Fin 512) h (⟨e.val, he⟩ : Fin 64))
      = val_main_v1 (F := Ideal) x (ix6 b l h j (⟨e.val, he⟩ : Fin 64) n) := fun he => (v1_apply x b l h j ⟨e.val, he⟩ n).symm
  generalize hN : val_main_v1 (F := Ideal) x = N at hv
  pointwise [val_main_v6, val_main_v3, val_main_v2, val_main_cst, hN]
  split_ifs with he
  · exact (hv he).symm
  · first | rfl | (rw [one_bits]; rfl)

end Cert.CacheLayoutReferenceIdeal.Cache

end
-- ==== Proof.CacheClaim.lean ====
/-
  The cache's claims.
-/
module

public import proofs.«01_k».proof.Defs
public import proofs.«01_k».proof.Proof.CacheRun
public import proofs.«01_k».proof.Proof.CacheRef
public import proofs.«01_k».proof.Proof.Gen.CacheLayoutReferenceIdeal.Run
public import Idealize.ShloMosaic.Lib.Claim

@[expose] public section

noncomputable section

namespace Cert.CacheClaim

open Idealize.ShloMosaic Idealize.ShloMosaic.TcCoe Idealize.SL.Sem
open Cert.CacheLayoutIdeal.Cache (argK argV result2 result3)
open Cert.CacheLayoutReferenceIdeal.Read Cert.CacheLayoutReferenceIdeal.Cache

section Values
variable (m : (ℓ : Loc Cert.CacheLayoutIdeal.nD Cert.CacheLayoutIdeal.τ Cert.CacheLayoutIdeal.sig) → Buf (Elt Ideal) ℓ) (c : Dev Cert.CacheLayoutIdeal.nD)

theorem key_eq : val_main_v5 (F := Ideal) (argK m c) = result2 m c :=
  funext fun y => (congrArg _ (show y = ix5 (y 0) (y 1) (y 2) (y 3) (y 4) from funext fun a => match a with
    | ⟨0, _⟩ => rfl | ⟨1, _⟩ => rfl | ⟨2, _⟩ => rfl | ⟨3, _⟩ => rfl | ⟨4, _⟩ => rfl)).trans (key_apply _ (y 0) (y 1) (y 2) (y 3) (y 4))

theorem value_eq : val_main_v6 (F := Ideal) (argV m c) = result3 m c :=
  funext fun y => (congrArg _ (show y = ix6 (y 0) (y 1) (y 2) (y 3) (y 4) (y 5) from funext fun a => match a with
    | ⟨0, _⟩ => rfl | ⟨1, _⟩ => rfl | ⟨2, _⟩ => rfl | ⟨3, _⟩ => rfl | ⟨4, _⟩ => rfl | ⟨5, _⟩ => rfl)).trans (value_apply _ (y 0) (y 1) (y 2) (y 3) (y 4) (y 5))
end Values

theorem frame_reference : Cert.quiescent_CacheLayoutReferenceIdeal := fun m ρ _ =>
  (θ_run _ _ _).mono (fun r h => ⟨fun c => (h c).2.2, sem_eq_zero_of_no_sems (by decide) r.2⟩) (Cert.CacheLayoutReferenceIdeal.Value.run (F := Ideal) m ρ)

theorem algebraic : Cert.algebraic_CacheLayoutIdeal_CacheLayoutReferenceIdeal := by
  intro m g m' g' _ hagree
  refine ⟨fun c => result2 m c, fun c => result3 m c, Cert.CacheLayoutIdeal.Cache.run m g, ?_⟩
  refine (θ_run _ _ _).mono (fun r h c => ?_) (Cert.CacheLayoutReferenceIdeal.Value.run (F := Ideal) m' g')
  obtain ⟨h0, h1, h5⟩ := h c
  obtain ⟨ha0, ha1⟩ := hagree c
  refine ⟨h0.trans ?_, h1.trans ?_, h5⟩
  · rw [val_main_v5_eq]
    simp only [StableHlo.launchContents_devRef, ha0]
    exact key_eq m c
  · rw [val_main_v6_eq]
    simp only [StableHlo.launchContents_devRef, ha1]
    exact value_eq m c

end Cert.CacheClaim

end
-- ==== Proof.lean ====
/-
  The claims of the statement, proved.
-/
module

public import proofs.«01_k».proof.Defs
public import proofs.«01_k».proof.Proof.AttnClaim
public import proofs.«01_k».proof.Proof.MoeClaim
public import proofs.«01_k».proof.Proof.ProjClaim
public import proofs.«01_k».proof.Proof.MergeClaim
public import proofs.«01_k».proof.Proof.ModClaim
public import proofs.«01_k».proof.Proof.CacheClaim
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsReferenceIdeal
public import proofs.«01_k».proof.Proof.Gen.ExpertsReferenceIdeal.Read
public import proofs.«01_k».proof.Proof.Gen.ExpertsReferenceIdeal.Run
public import proofs.«01_k».proof.Proof.Gen.Pre_finite_router
public import proofs.«01_k».proof.Proof.Gen.ReferenceIdeal.Run
public import proofs.«01_k».proof.Proof.Gen.ReferenceIdeal.Read
public import proofs.«01_k».proof.Proof.Gen.Pre_finite
public import proofs.«01_k».proof.Proof.Gen.Projections
public import proofs.«01_k».proof.Proof.Gen.Projections.Frame
public import proofs.«01_k».proof.Proof.Gen.ProjectionsIdeal
public import proofs.«01_k».proof.Proof.Gen.ProjectionsIdeal.Frame
public import proofs.«01_k».proof.Proof.Gen.ProjectionsReferenceIdeal
public import proofs.«01_k».proof.Proof.Gen.ProjectionsReferenceIdeal.Run
public import proofs.«01_k».proof.Proof.Gen.ProjectionsReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.Gen.CacheLayout
public import proofs.«01_k».proof.Proof.Gen.CacheLayout.Frame
public import proofs.«01_k».proof.Proof.Gen.CacheLayoutIdeal
public import proofs.«01_k».proof.Proof.Gen.CacheLayoutIdeal.Frame
public import proofs.«01_k».proof.Proof.Gen.CacheLayoutReferenceIdeal
public import proofs.«01_k».proof.Proof.Gen.CacheLayoutReferenceIdeal.Run
public import proofs.«01_k».proof.Proof.Gen.CacheLayoutReferenceIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Projections.Gen.facts, Cert.ProjectionsIdeal.Gen.facts, Cert.ProjectionsReferenceIdeal.Gen.facts,
    Cert.Merge.Gen.facts, Cert.MergeIdeal.Gen.facts, Cert.MergeReferenceIdeal.Gen.facts,
    Cert.Modulation.Gen.facts, Cert.ModulationIdeal.Gen.facts, Cert.ModulationReferenceIdeal.Gen.facts,
    Cert.CacheLayout.Gen.facts, Cert.CacheLayoutIdeal.Gen.facts, Cert.CacheLayoutReferenceIdeal.Gen.facts,
    Cert.Pre_finite.Gen.facts, Cert.Pre_finite_router.Gen.facts,
    fun m ρ _ => Cert.Kernel.Gen.frame m ρ,
    fun m ρ _ => Cert.KernelIdeal.Gen.frame m ρ,
    fun m ρ _ => Cert.KernelIdeal.Gen.frame m ρ,
    Cert.AttnClaim.frame_reference,
    fun m ρ _ => Cert.AttnClaim.frame_reference m ρ trivial,
    fun m ρ _ => Cert.Experts.Gen.frame m ρ,
    fun m ρ _ => Cert.ExpertsIdeal.Gen.frame m ρ,
    fun m ρ _ => Cert.ExpertsIdeal.Gen.frame m ρ,
    Cert.MoeClaim.frame_reference,
    fun m ρ _ => Cert.MoeClaim.frame_reference m ρ trivial,
    fun m ρ _ => Cert.Projections.Gen.frame m ρ,
    fun m ρ _ => Cert.ProjectionsIdeal.Gen.frame m ρ,
    Cert.ProjClaim.frame_reference,
    fun m ρ _ => Cert.Merge.Gen.frame m ρ,
    fun m ρ _ => Cert.MergeIdeal.Gen.frame m ρ,
    Cert.MergeClaim.frame_reference,
    fun m ρ _ => Cert.Modulation.Gen.frame m ρ,
    fun m ρ _ => Cert.ModulationIdeal.Gen.frame m ρ,
    Cert.ModClaim.frame_reference,
    fun m ρ _ => Cert.CacheLayout.Gen.frame m ρ,
    fun m ρ _ => Cert.CacheLayoutIdeal.Gen.frame m ρ,
    Cert.CacheClaim.frame_reference,
    trivial,
    Cert.AttnClaim.algebraic,
    trivial,
    Cert.MoeClaim.algebraic,
    trivial,
    Cert.ProjClaim.algebraic,
    trivial,
    Cert.MergeClaim.algebraic,
    trivial,
    Cert.ModClaim.algebraic,
    trivial,
    Cert.CacheClaim.algebraic⟩

end Cert.Proof

end
